-- ==== Defs.lean ====
def Pre_SbKernel (m : (ℓ : Loc Cert.SbKernel.nD Cert.SbKernel.τ Cert.SbKernel.sig) → Buf (Elt Bits) ℓ) : Prop :=
  True

def Pre_SbKernelIdeal (m : (ℓ : Loc Cert.SbKernelIdeal.nD Cert.SbKernelIdeal.τ Cert.SbKernelIdeal.sig) → Buf (Elt Ideal) ℓ) : Prop :=
  True

def Pre_SbKernelIdeal_finite_inputs [hPre_finite_inputs : Cert.Pre_finite_inputs.Facts] (m : (ℓ : Loc Cert.SbKernelIdeal.nD Cert.SbKernelIdeal.τ Cert.SbKernelIdeal.sig) → Buf (Elt Ideal) ℓ) : Prop :=
  ∀ c : Dev Cert.SbKernelIdeal.nD,
    (Cert.Pre_finite_inputs.fn (F := Ideal) (m ((c.tc : Thread Cert.SbKernelIdeal.nD Cert.SbKernelIdeal.τ).loc Cert.SbKernelIdeal.main_arg0)) (m ((c.tc : Thread Cert.SbKernelIdeal.nD Cert.SbKernelIdeal.τ).loc Cert.SbKernelIdeal.main_arg1)) (m ((c.tc : Thread Cert.SbKernelIdeal.nD Cert.SbKernelIdeal.τ).loc Cert.SbKernelIdeal.main_arg2)) (m ((c.tc : Thread Cert.SbKernelIdeal.nD Cert.SbKernelIdeal.τ).loc Cert.SbKernelIdeal.main_arg3)) (m ((c.tc : Thread Cert.SbKernelIdeal.nD Cert.SbKernelIdeal.τ).loc Cert.SbKernelIdeal.main_arg4))) = (fun _ => 1#1)

def Pre_SbReferenceIdeal (m : (ℓ : Loc Cert.SbReferenceIdeal.nD Cert.SbReferenceIdeal.τ Cert.SbReferenceIdeal.sig) → Buf (Elt Ideal) ℓ) : Prop :=
  True

def Pre_SbReferenceIdeal_finite_inputs [hPre_finite_inputs : Cert.Pre_finite_inputs.Facts] (m : (ℓ : Loc Cert.SbReferenceIdeal.nD Cert.SbReferenceIdeal.τ Cert.SbReferenceIdeal.sig) → Buf (Elt Ideal) ℓ) : Prop :=
  ∀ c : Dev Cert.SbReferenceIdeal.nD,
    (Cert.Pre_finite_inputs.fn (F := Ideal) (m ((c.tc : Thread Cert.SbReferenceIdeal.nD Cert.SbReferenceIdeal.τ).loc Cert.SbReferenceIdeal.main_arg0)) (m ((c.tc : Thread Cert.SbReferenceIdeal.nD Cert.SbReferenceIdeal.τ).loc Cert.SbReferenceIdeal.main_arg1)) (m ((c.tc : Thread Cert.SbReferenceIdeal.nD Cert.SbReferenceIdeal.τ).loc Cert.SbReferenceIdeal.main_arg2)) (m ((c.tc : Thread Cert.SbReferenceIdeal.nD Cert.SbReferenceIdeal.τ).loc Cert.SbReferenceIdeal.main_arg3)) (m ((c.tc : Thread Cert.SbReferenceIdeal.nD Cert.SbReferenceIdeal.τ).loc Cert.SbReferenceIdeal.main_arg4))) = (fun _ => 1#1)

def Pre_PleKernel (m : (ℓ : Loc Cert.PleKernel.nD Cert.PleKernel.τ Cert.PleKernel.sig) → Buf (Elt Bits) ℓ) : Prop :=
  True

def Pre_PleKernelIdeal (m : (ℓ : Loc Cert.PleKernelIdeal.nD Cert.PleKernelIdeal.τ Cert.PleKernelIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_DSsdIn (m : (ℓ : Loc Cert.DSsdIn.nD Cert.DSsdIn.τ Cert.DSsdIn.sig) → Buf (Elt Bits) ℓ) : Prop :=
  True

def Pre_DSsdInIdeal (m : (ℓ : Loc Cert.DSsdInIdeal.nD Cert.DSsdInIdeal.τ Cert.DSsdInIdeal.sig) → Buf (Elt Ideal) ℓ) : Prop :=
  True

def Pre_DSsdInRefIdeal (m : (ℓ : Loc Cert.DSsdInRefIdeal.nD Cert.DSsdInRefIdeal.τ Cert.DSsdInRefIdeal.sig) → Buf (Elt Ideal) ℓ) : Prop :=
  True

def Pre_SsdInBwd (m : (ℓ : Loc Cert.SsdInBwd.nD Cert.SsdInBwd.τ Cert.SsdInBwd.sig) → Buf (Elt Bits) ℓ) : Prop :=
  True

def Pre_SsdInBwdIdeal (m : (ℓ : Loc Cert.SsdInBwdIdeal.nD Cert.SsdInBwdIdeal.τ Cert.SsdInBwdIdeal.sig) → Buf (Elt Ideal) ℓ) : Prop :=
  True

def Pre_SsdInBwdRefIdeal (m : (ℓ : Loc Cert.SsdInBwdRefIdeal.nD Cert.SsdInBwdRefIdeal.τ Cert.SsdInBwdRefIdeal.sig) → Buf (Elt Ideal) ℓ) : Prop :=
  True

def Pre_DSbIn (m : (ℓ : Loc Cert.DSbIn.nD Cert.DSbIn.τ Cert.DSbIn.sig) → Buf (Elt Bits) ℓ) : Prop :=
  True

def Pre_DSbInIdeal (m : (ℓ : Loc Cert.DSbInIdeal.nD Cert.DSbInIdeal.τ Cert.DSbInIdeal.sig) → Buf (Elt Ideal) ℓ) : Prop :=
  True

def Pre_DSbInRefIdeal (m : (ℓ : Loc Cert.DSbInRefIdeal.nD Cert.DSbInRefIdeal.τ Cert.DSbInRefIdeal.sig) → Buf (Elt Ideal) ℓ) : Prop :=
  True

def Pre_SbInBwd (m : (ℓ : Loc Cert.SbInBwd.nD Cert.SbInBwd.τ Cert.SbInBwd.sig) → Buf (Elt Bits) ℓ) : Prop :=
  True

def Pre_SbInBwdIdeal (m : (ℓ : Loc Cert.SbInBwdIdeal.nD Cert.SbInBwdIdeal.τ Cert.SbInBwdIdeal.sig) → Buf (Elt Ideal) ℓ) : Prop :=
  True

def Pre_SbInBwdRefIdeal (m : (ℓ : Loc Cert.SbInBwdRefIdeal.nD Cert.SbInBwdRefIdeal.τ Cert.SbInBwdRefIdeal.sig) → Buf (Elt Ideal) ℓ) : Prop :=
  True

def Pre_SsdIn (m : (ℓ : Loc Cert.SsdIn.nD Cert.SsdIn.τ Cert.SsdIn.sig) → Buf (Elt Bits) ℓ) : Prop :=
  True

def Pre_SsdInIdeal (m : (ℓ : Loc Cert.SsdInIdeal.nD Cert.SsdInIdeal.τ Cert.SsdInIdeal.sig) → Buf (Elt Ideal) ℓ) : Prop :=
  True

def Pre_SsdInRefIdeal (m : (ℓ : Loc Cert.SsdInRefIdeal.nD Cert.SsdInRefIdeal.τ Cert.SsdInRefIdeal.sig) → Buf (Elt Ideal) ℓ) : Prop :=
  True

def Pre_SbIn (m : (ℓ : Loc Cert.SbIn.nD Cert.SbIn.τ Cert.SbIn.sig) → Buf (Elt Bits) ℓ) : Prop :=
  True

def Pre_SbInIdeal (m : (ℓ : Loc Cert.SbInIdeal.nD Cert.SbInIdeal.τ Cert.SbInIdeal.sig) → Buf (Elt Ideal) ℓ) : Prop :=
  True

def Pre_SbInRefIdeal (m : (ℓ : Loc Cert.SbInRefIdeal.nD Cert.SbInRefIdeal.τ Cert.SbInRefIdeal.sig) → Buf (Elt Ideal) ℓ) : Prop :=
  True

def Pre_DSsdOut (m : (ℓ : Loc Cert.DSsdOut.nD Cert.DSsdOut.τ Cert.DSsdOut.sig) → Buf (Elt Bits) ℓ) : Prop :=
  True

def Pre_DSsdOutIdeal (m : (ℓ : Loc Cert.DSsdOutIdeal.nD Cert.DSsdOutIdeal.τ Cert.DSsdOutIdeal.sig) → Buf (Elt Ideal) ℓ) : Prop :=
  True

def Pre_DSsdOutRefIdeal (m : (ℓ : Loc Cert.DSsdOutRefIdeal.nD Cert.DSsdOutRefIdeal.τ Cert.DSsdOutRefIdeal.sig) → Buf (Elt Ideal) ℓ) : Prop :=
  True

def Pre_SsdOutBwd (m : (ℓ : Loc Cert.SsdOutBwd.nD Cert.SsdOutBwd.τ Cert.SsdOutBwd.sig) → Buf (Elt Bits) ℓ) : Prop :=
  True

def Pre_SsdOutBwdIdeal (m : (ℓ : Loc Cert.SsdOutBwdIdeal.nD Cert.SsdOutBwdIdeal.τ Cert.SsdOutBwdIdeal.sig) → Buf (Elt Ideal) ℓ) : Prop :=
  True

def Pre_SsdOutBwdRefIdeal (m : (ℓ : Loc Cert.SsdOutBwdRefIdeal.nD Cert.SsdOutBwdRefIdeal.τ Cert.SsdOutBwdRefIdeal.sig) → Buf (Elt Ideal) ℓ) : Prop :=
  True

def Pre_DPleGate (m : (ℓ : Loc Cert.DPleGate.nD Cert.DPleGate.τ Cert.DPleGate.sig) → Buf (Elt Bits) ℓ) : Prop :=
  True

def Pre_DPleGateIdeal (m : (ℓ : Loc Cert.DPleGateIdeal.nD Cert.DPleGateIdeal.τ Cert.DPleGateIdeal.sig) → Buf (Elt Ideal) ℓ) : Prop :=
  True

def Pre_DPleGateRefIdeal (m : (ℓ : Loc Cert.DPleGateRefIdeal.nD Cert.DPleGateRefIdeal.τ Cert.DPleGateRefIdeal.sig) → Buf (Elt Ideal) ℓ) : Prop :=
  True

def Pre_PleGateBwd (m : (ℓ : Loc Cert.PleGateBwd.nD Cert.PleGateBwd.τ Cert.PleGateBwd.sig) → Buf (Elt Bits) ℓ) : Prop :=
  True

def Pre_PleGateBwdIdeal (m : (ℓ : Loc Cert.PleGateBwdIdeal.nD Cert.PleGateBwdIdeal.τ Cert.PleGateBwdIdeal.sig) → Buf (Elt Ideal) ℓ) : Prop :=
  True

def Pre_PleGateBwdRefIdeal (m : (ℓ : Loc Cert.PleGateBwdRefIdeal.nD Cert.PleGateBwdRefIdeal.τ Cert.PleGateBwdRefIdeal.sig) → Buf (Elt Ideal) ℓ) : Prop :=
  True

def Pre_DSbOut (m : (ℓ : Loc Cert.DSbOut.nD Cert.DSbOut.τ Cert.DSbOut.sig) → Buf (Elt Bits) ℓ) : Prop :=
  True

def Pre_DSbOutIdeal (m : (ℓ : Loc Cert.DSbOutIdeal.nD Cert.DSbOutIdeal.τ Cert.DSbOutIdeal.sig) → Buf (Elt Ideal) ℓ) : Prop :=
  True

def Pre_DSbOutRefIdeal (m : (ℓ : Loc Cert.DSbOutRefIdeal.nD Cert.DSbOutRefIdeal.τ Cert.DSbOutRefIdeal.sig) → Buf (Elt Ideal) ℓ) : Prop :=
  True

def Pre_SbOutBwd (m : (ℓ : Loc Cert.SbOutBwd.nD Cert.SbOutBwd.τ Cert.SbOutBwd.sig) → Buf (Elt Bits) ℓ) : Prop :=
  True

def Pre_SbOutBwdIdeal (m : (ℓ : Loc Cert.SbOutBwdIdeal.nD Cert.SbOutBwdIdeal.τ Cert.SbOutBwdIdeal.sig) → Buf (Elt Ideal) ℓ) : Prop :=
  True

def Pre_SbOutBwdRefIdeal (m : (ℓ : Loc Cert.SbOutBwdRefIdeal.nD Cert.SbOutBwdRefIdeal.τ Cert.SbOutBwdRefIdeal.sig) → Buf (Elt Ideal) ℓ) : Prop :=
  True

def Pre_DPleProj (m : (ℓ : Loc Cert.DPleProj.nD Cert.DPleProj.τ Cert.DPleProj.sig) → Buf (Elt Bits) ℓ) : Prop :=
  True

def Pre_DPleProjIdeal (m : (ℓ : Loc Cert.DPleProjIdeal.nD Cert.DPleProjIdeal.τ Cert.DPleProjIdeal.sig) → Buf (Elt Ideal) ℓ) : Prop :=
  True

def Pre_DPleProjRefIdeal (m : (ℓ : Loc Cert.DPleProjRefIdeal.nD Cert.DPleProjRefIdeal.τ Cert.DPleProjRefIdeal.sig) → Buf (Elt Ideal) ℓ) : Prop :=
  True

def Pre_SsdOut (m : (ℓ : Loc Cert.SsdOut.nD Cert.SsdOut.τ Cert.SsdOut.sig) → Buf (Elt Bits) ℓ) : Prop :=
  True

def Pre_SsdOutIdeal (m : (ℓ : Loc Cert.SsdOutIdeal.nD Cert.SsdOutIdeal.τ Cert.SsdOutIdeal.sig) → Buf (Elt Ideal) ℓ) : Prop :=
  True

def Pre_SsdOutRefIdeal (m : (ℓ : Loc Cert.SsdOutRefIdeal.nD Cert.SsdOutRefIdeal.τ Cert.SsdOutRefIdeal.sig) → Buf (Elt Ideal) ℓ) : Prop :=
  True

def Pre_SbOut (m : (ℓ : Loc Cert.SbOut.nD Cert.SbOut.τ Cert.SbOut.sig) → Buf (Elt Bits) ℓ) : Prop :=
  True

def Pre_SbOutIdeal (m : (ℓ : Loc Cert.SbOutIdeal.nD Cert.SbOutIdeal.τ Cert.SbOutIdeal.sig) → Buf (Elt Ideal) ℓ) : Prop :=
  True

def Pre_SbOutRefIdeal (m : (ℓ : Loc Cert.SbOutRefIdeal.nD Cert.SbOutRefIdeal.τ Cert.SbOutRefIdeal.sig) → Buf (Elt Ideal) ℓ) : Prop :=
  True

def Pre_PleGate (m : (ℓ : Loc Cert.PleGate.nD Cert.PleGate.τ Cert.PleGate.sig) → Buf (Elt Bits) ℓ) : Prop :=
  True

def Pre_PleGateIdeal (m : (ℓ : Loc Cert.PleGateIdeal.nD Cert.PleGateIdeal.τ Cert.PleGateIdeal.sig) → Buf (Elt Ideal) ℓ) : Prop :=
  True

def Pre_PleGateRefIdeal (m : (ℓ : Loc Cert.PleGateRefIdeal.nD Cert.PleGateRefIdeal.τ Cert.PleGateRefIdeal.sig) → Buf (Elt Ideal) ℓ) : Prop :=
  True

def Pre_PleProj (m : (ℓ : Loc Cert.PleProj.nD Cert.PleProj.τ Cert.PleProj.sig) → Buf (Elt Bits) ℓ) : Prop :=
  True

def Pre_PleProjIdeal (m : (ℓ : Loc Cert.PleProjIdeal.nD Cert.PleProjIdeal.τ Cert.PleProjIdeal.sig) → Buf (Elt Ideal) ℓ) : Prop :=
  True

def Pre_PleProjRefIdeal (m : (ℓ : Loc Cert.PleProjRefIdeal.nD Cert.PleProjRefIdeal.τ Cert.PleProjRefIdeal.sig) → Buf (Elt Ideal) ℓ) : Prop :=
  True

def Pre_AdamSsdIn (m : (ℓ : Loc Cert.AdamSsdIn.nD Cert.AdamSsdIn.τ Cert.AdamSsdIn.sig) → Buf (Elt Bits) ℓ) : Prop :=
  True

def Pre_AdamSsdInIdeal (m : (ℓ : Loc Cert.AdamSsdInIdeal.nD Cert.AdamSsdInIdeal.τ Cert.AdamSsdInIdeal.sig) → Buf (Elt Ideal) ℓ) : Prop :=
  True

def Pre_AdamSsdInRefIdeal (m : (ℓ : Loc Cert.AdamSsdInRefIdeal.nD Cert.AdamSsdInRefIdeal.τ Cert.AdamSsdInRefIdeal.sig) → Buf (Elt Ideal) ℓ) : Prop :=
  True

def Pre_AdamSsdOut (m : (ℓ : Loc Cert.AdamSsdOut.nD Cert.AdamSsdOut.τ Cert.AdamSsdOut.sig) → Buf (Elt Bits) ℓ) : Prop :=
  True

def Pre_AdamSsdOutIdeal (m : (ℓ : Loc Cert.AdamSsdOutIdeal.nD Cert.AdamSsdOutIdeal.τ Cert.AdamSsdOutIdeal.sig) → Buf (Elt Ideal) ℓ) : Prop :=
  True

def Pre_AdamSsdOutRefIdeal (m : (ℓ : Loc Cert.AdamSsdOutRefIdeal.nD Cert.AdamSsdOutRefIdeal.τ Cert.AdamSsdOutRefIdeal.sig) → Buf (Elt Ideal) ℓ) : Prop :=
  True

def Pre_AdamSbIn (m : (ℓ : Loc Cert.AdamSbIn.nD Cert.AdamSbIn.τ Cert.AdamSbIn.sig) → Buf (Elt Bits) ℓ) : Prop :=
  True

def Pre_AdamSbInIdeal (m : (ℓ : Loc Cert.AdamSbInIdeal.nD Cert.AdamSbInIdeal.τ Cert.AdamSbInIdeal.sig) → Buf (Elt Ideal) ℓ) : Prop :=
  True

def Pre_AdamSbInRefIdeal (m : (ℓ : Loc Cert.AdamSbInRefIdeal.nD Cert.AdamSbInRefIdeal.τ Cert.AdamSbInRefIdeal.sig) → Buf (Elt Ideal) ℓ) : Prop :=
  True

def Pre_AdamSbOut (m : (ℓ : Loc Cert.AdamSbOut.nD Cert.AdamSbOut.τ Cert.AdamSbOut.sig) → Buf (Elt Bits) ℓ) : Prop :=
  True

def Pre_AdamSbOutIdeal (m : (ℓ : Loc Cert.AdamSbOutIdeal.nD Cert.AdamSbOutIdeal.τ Cert.AdamSbOutIdeal.sig) → Buf (Elt Ideal) ℓ) : Prop :=
  True

def Pre_AdamSbOutRefIdeal (m : (ℓ : Loc Cert.AdamSbOutRefIdeal.nD Cert.AdamSbOutRefIdeal.τ Cert.AdamSbOutRefIdeal.sig) → Buf (Elt Ideal) ℓ) : Prop :=
  True

def Pre_AdamPleGate (m : (ℓ : Loc Cert.AdamPleGate.nD Cert.AdamPleGate.τ Cert.AdamPleGate.sig) → Buf (Elt Bits) ℓ) : Prop :=
  True

def Pre_AdamPleGateIdeal (m : (ℓ : Loc Cert.AdamPleGateIdeal.nD Cert.AdamPleGateIdeal.τ Cert.AdamPleGateIdeal.sig) → Buf (Elt Ideal) ℓ) : Prop :=
  True

def Pre_AdamPleGateRefIdeal (m : (ℓ : Loc Cert.AdamPleGateRefIdeal.nD Cert.AdamPleGateRefIdeal.τ Cert.AdamPleGateRefIdeal.sig) → Buf (Elt Ideal) ℓ) : Prop :=
  True

def Pre_AdamPleProj (m : (ℓ : Loc Cert.AdamPleProj.nD Cert.AdamPleProj.τ Cert.AdamPleProj.sig) → Buf (Elt Bits) ℓ) : Prop :=
  True

def Pre_AdamPleProjIdeal (m : (ℓ : Loc Cert.AdamPleProjIdeal.nD Cert.AdamPleProjIdeal.τ Cert.AdamPleProjIdeal.sig) → Buf (Elt Ideal) ℓ) : Prop :=
  True

def Pre_AdamPleProjRefIdeal (m : (ℓ : Loc Cert.AdamPleProjRefIdeal.nD Cert.AdamPleProjRefIdeal.τ Cert.AdamPleProjRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_PleFwd (m : (ℓ : Loc Cert.PleFwd.nD Cert.PleFwd.τ Cert.PleFwd.sig) → Buf (Elt Bits) ℓ) : Prop :=
  True

def Pre_PleFwdIdeal (m : (ℓ : Loc Cert.PleFwdIdeal.nD Cert.PleFwdIdeal.τ Cert.PleFwdIdeal.sig) → Buf (Elt Ideal) ℓ) : Prop :=
  True

def Pre_PleFwdRefIdeal (m : (ℓ : Loc Cert.PleFwdRefIdeal.nD Cert.PleFwdRefIdeal.τ Cert.PleFwdRefIdeal.sig) → Buf (Elt Ideal) ℓ) : Prop :=
  True

def Pre_QkFwd (m : (ℓ : Loc Cert.QkFwd.nD Cert.QkFwd.τ Cert.QkFwd.sig) → Buf (Elt Bits) ℓ) : Prop :=
  True

def Pre_QkFwdIdeal (m : (ℓ : Loc Cert.QkFwdIdeal.nD Cert.QkFwdIdeal.τ Cert.QkFwdIdeal.sig) → Buf (Elt Ideal) ℓ) : Prop :=
  True

def Pre_QkFwdRefIdeal (m : (ℓ : Loc Cert.QkFwdRefIdeal.nD Cert.QkFwdRefIdeal.τ Cert.QkFwdRefIdeal.sig) → Buf (Elt Ideal) ℓ) : Prop :=
  True

def quiescent_SbKernel [hSbKernel : Cert.SbKernel.Facts] : Prop :=
  ∀ (m : (ℓ : Loc Cert.SbKernel.nD Cert.SbKernel.τ Cert.SbKernel.sig) → Buf (Elt Bits) ℓ) (g : Dev Cert.SbKernel.nD → PrngReg), Pre_SbKernel m →
    θ_run (Cert.SbKernel.defs (F := Bits)) (onTc (τ := Cert.SbKernel.τ) (Cert.SbKernel.main (F := Bits))) ⟨m, fun _ => 0, g⟩ (fun r => (∀ c : Dev Cert.SbKernel.nD,
      r.2.mem ((c.tc : Thread Cert.SbKernel.nD Cert.SbKernel.τ).loc Cert.SbKernel.main_arg0) = m ((c.tc : Thread Cert.SbKernel.nD Cert.SbKernel.τ).loc Cert.SbKernel.main_arg0)
      ∧ r.2.mem ((c.tc : Thread Cert.SbKernel.nD Cert.SbKernel.τ).loc Cert.SbKernel.main_arg1) = m ((c.tc : Thread Cert.SbKernel.nD Cert.SbKernel.τ).loc Cert.SbKernel.main_arg1)
      ∧ r.2.mem ((c.tc : Thread Cert.SbKernel.nD Cert.SbKernel.τ).loc Cert.SbKernel.main_arg2) = m ((c.tc : Thread Cert.SbKernel.nD Cert.SbKernel.τ).loc Cert.SbKernel.main_arg2)
      ∧ r.2.mem ((c.tc : Thread Cert.SbKernel.nD Cert.SbKernel.τ).loc Cert.SbKernel.main_arg3) = m ((c.tc : Thread Cert.SbKernel.nD Cert.SbKernel.τ).loc Cert.SbKernel.main_arg3)
      ∧ r.2.mem ((c.tc : Thread Cert.SbKernel.nD Cert.SbKernel.τ).loc Cert.SbKernel.main_arg4) = m ((c.tc : Thread Cert.SbKernel.nD Cert.SbKernel.τ).loc Cert.SbKernel.main_arg4))
      ∧ r.2.sem = fun _ => 0)

def quiescent_SbKernelIdeal [hSbKernelIdeal : Cert.SbKernelIdeal.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1)
      ∧ r.2.mem ((c.tc : Thread Cert.SbKernelIdeal.nD Cert.SbKernelIdeal.τ).loc Cert.SbKernelIdeal.main_arg2) = m ((c.tc : Thread Cert.SbKernelIdeal.nD Cert.SbKernelIdeal.τ).loc Cert.SbKernelIdeal.main_arg2)
      ∧ r.2.mem ((c.tc : Thread Cert.SbKernelIdeal.nD Cert.SbKernelIdeal.τ).loc Cert.SbKernelIdeal.main_arg3) = m ((c.tc : Thread Cert.SbKernelIdeal.nD Cert.SbKernelIdeal.τ).loc Cert.SbKernelIdeal.main_arg3)
      ∧ r.2.mem ((c.tc : Thread Cert.SbKernelIdeal.nD Cert.SbKernelIdeal.τ).loc Cert.SbKernelIdeal.main_arg4) = m ((c.tc : Thread Cert.SbKernelIdeal.nD Cert.SbKernelIdeal.τ).loc Cert.SbKernelIdeal.main_arg4))
      ∧ r.2.sem = fun _ => 0)

def quiescent_SbKernelIdeal_pre_finite_inputs [hSbKernelIdeal : Cert.SbKernelIdeal.Facts] [hPre_finite_inputs : Cert.Pre_finite_inputs.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal_finite_inputs m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1)
      ∧ r.2.mem ((c.tc : Thread Cert.SbKernelIdeal.nD Cert.SbKernelIdeal.τ).loc Cert.SbKernelIdeal.main_arg2) = m ((c.tc : Thread Cert.SbKernelIdeal.nD Cert.SbKernelIdeal.τ).loc Cert.SbKernelIdeal.main_arg2)
      ∧ r.2.mem ((c.tc : Thread Cert.SbKernelIdeal.nD Cert.SbKernelIdeal.τ).loc Cert.SbKernelIdeal.main_arg3) = m ((c.tc : Thread Cert.SbKernelIdeal.nD Cert.SbKernelIdeal.τ).loc Cert.SbKernelIdeal.main_arg3)
      ∧ r.2.mem ((c.tc : Thread Cert.SbKernelIdeal.nD Cert.SbKernelIdeal.τ).loc Cert.SbKernelIdeal.main_arg4) = m ((c.tc : Thread Cert.SbKernelIdeal.nD Cert.SbKernelIdeal.τ).loc Cert.SbKernelIdeal.main_arg4))
      ∧ r.2.sem = fun _ => 0)

def quiescent_SbReferenceIdeal [hSbReferenceIdeal : Cert.SbReferenceIdeal.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1)
      ∧ r.2.mem ((c.tc : Thread Cert.SbReferenceIdeal.nD Cert.SbReferenceIdeal.τ).loc Cert.SbReferenceIdeal.main_arg2) = m ((c.tc : Thread Cert.SbReferenceIdeal.nD Cert.SbReferenceIdeal.τ).loc Cert.SbReferenceIdeal.main_arg2)
      ∧ r.2.mem ((c.tc : Thread Cert.SbReferenceIdeal.nD Cert.SbReferenceIdeal.τ).loc Cert.SbReferenceIdeal.main_arg3) = m ((c.tc : Thread Cert.SbReferenceIdeal.nD Cert.SbReferenceIdeal.τ).loc Cert.SbReferenceIdeal.main_arg3)
      ∧ r.2.mem ((c.tc : Thread Cert.SbReferenceIdeal.nD Cert.SbReferenceIdeal.τ).loc Cert.SbReferenceIdeal.main_arg4) = m ((c.tc : Thread Cert.SbReferenceIdeal.nD Cert.SbReferenceIdeal.τ).loc Cert.SbReferenceIdeal.main_arg4))
      ∧ r.2.sem = fun _ => 0)

def quiescent_SbReferenceIdeal_pre_finite_inputs [hSbReferenceIdeal : Cert.SbReferenceIdeal.Facts] [hPre_finite_inputs : Cert.Pre_finite_inputs.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal_finite_inputs m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1)
      ∧ r.2.mem ((c.tc : Thread Cert.SbReferenceIdeal.nD Cert.SbReferenceIdeal.τ).loc Cert.SbReferenceIdeal.main_arg2) = m ((c.tc : Thread Cert.SbReferenceIdeal.nD Cert.SbReferenceIdeal.τ).loc Cert.SbReferenceIdeal.main_arg2)
      ∧ r.2.mem ((c.tc : Thread Cert.SbReferenceIdeal.nD Cert.SbReferenceIdeal.τ).loc Cert.SbReferenceIdeal.main_arg3) = m ((c.tc : Thread Cert.SbReferenceIdeal.nD Cert.SbReferenceIdeal.τ).loc Cert.SbReferenceIdeal.main_arg3)
      ∧ r.2.mem ((c.tc : Thread Cert.SbReferenceIdeal.nD Cert.SbReferenceIdeal.τ).loc Cert.SbReferenceIdeal.main_arg4) = m ((c.tc : Thread Cert.SbReferenceIdeal.nD Cert.SbReferenceIdeal.τ).loc Cert.SbReferenceIdeal.main_arg4))
      ∧ r.2.sem = fun _ => 0)

def quiescent_PleKernel [hPleKernel : Cert.PleKernel.Facts] : Prop :=
  ∀ (m : (ℓ : Loc Cert.PleKernel.nD Cert.PleKernel.τ Cert.PleKernel.sig) → Buf (Elt Bits) ℓ) (g : Dev Cert.PleKernel.nD → PrngReg), Pre_PleKernel m →
    θ_run (Cert.PleKernel.defs (F := Bits)) (onTc (τ := Cert.PleKernel.τ) (Cert.PleKernel.main (F := Bits))) ⟨m, fun _ => 0, g⟩ (fun r => (∀ c : Dev Cert.PleKernel.nD,
      r.2.mem ((c.tc : Thread Cert.PleKernel.nD Cert.PleKernel.τ).loc Cert.PleKernel.main_arg0) = m ((c.tc : Thread Cert.PleKernel.nD Cert.PleKernel.τ).loc Cert.PleKernel.main_arg0)
      ∧ r.2.mem ((c.tc : Thread Cert.PleKernel.nD Cert.PleKernel.τ).loc Cert.PleKernel.main_arg1) = m ((c.tc : Thread Cert.PleKernel.nD Cert.PleKernel.τ).loc Cert.PleKernel.main_arg1)
      ∧ r.2.mem ((c.tc : Thread Cert.PleKernel.nD Cert.PleKernel.τ).loc Cert.PleKernel.main_arg2) = m ((c.tc : Thread Cert.PleKernel.nD Cert.PleKernel.τ).loc Cert.PleKernel.main_arg2))
      ∧ r.2.sem = fun _ => 0)

def quiescent_PleKernelIdeal [hPleKernelIdeal : Cert.PleKernelIdeal.Facts] : Prop :=
  ∀ (m : (ℓ : Loc Cert.PleKernelIdeal.nD Cert.PleKernelIdeal.τ Cert.PleKernelIdeal.sig) → Buf (Elt Ideal) ℓ) (g : Dev Cert.PleKernelIdeal.nD → PrngReg), Pre_PleKernelIdeal m →
    θ_run (Cert.PleKernelIdeal.defs (F := Ideal)) (onTc (τ := Cert.PleKernelIdeal.τ) (Cert.PleKernelIdeal.main (F := Ideal))) ⟨m, fun _ => 0, g⟩ (fun r => (∀ c : Dev Cert.PleKernelIdeal.nD,
      r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
      ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1)
      ∧ r.2.mem ((c.tc : Thread Cert.PleKernelIdeal.nD Cert.PleKernelIdeal.τ).loc Cert.PleKernelIdeal.main_arg2) = m ((c.tc : Thread Cert.PleKernelIdeal.nD Cert.PleKernelIdeal.τ).loc Cert.PleKernelIdeal.main_arg2))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2))
      ∧ r.2.sem = fun _ => 0)

def quiescent_DSsdIn [hDSsdIn : Cert.DSsdIn.Facts] : Prop :=
  ∀ (m : (ℓ : Loc Cert.DSsdIn.nD Cert.DSsdIn.τ Cert.DSsdIn.sig) → Buf (Elt Bits) ℓ) (g : Dev Cert.DSsdIn.nD → PrngReg), Pre_DSsdIn m →
    θ_run (Cert.DSsdIn.defs (F := Bits)) (onTc (τ := Cert.DSsdIn.τ) (Cert.DSsdIn.main (F := Bits))) ⟨m, fun _ => 0, g⟩ (fun r => (∀ c : Dev Cert.DSsdIn.nD,
      r.2.mem ((c.tc : Thread Cert.DSsdIn.nD Cert.DSsdIn.τ).loc Cert.DSsdIn.main_arg0) = m ((c.tc : Thread Cert.DSsdIn.nD Cert.DSsdIn.τ).loc Cert.DSsdIn.main_arg0)
      ∧ r.2.mem ((c.tc : Thread Cert.DSsdIn.nD Cert.DSsdIn.τ).loc Cert.DSsdIn.main_arg1) = m ((c.tc : Thread Cert.DSsdIn.nD Cert.DSsdIn.τ).loc Cert.DSsdIn.main_arg1))
      ∧ r.2.sem = fun _ => 0)

def quiescent_DSsdInIdeal [hDSsdInIdeal : Cert.DSsdInIdeal.Facts] : Prop :=
  ∀ (m : (ℓ : Loc Cert.DSsdInIdeal.nD Cert.DSsdInIdeal.τ Cert.DSsdInIdeal.sig) → Buf (Elt Ideal) ℓ) (g : Dev Cert.DSsdInIdeal.nD → PrngReg), Pre_DSsdInIdeal m →
    θ_run (Cert.DSsdInIdeal.defs (F := Ideal)) (onTc (τ := Cert.DSsdInIdeal.τ) (Cert.DSsdInIdeal.main (F := Ideal))) ⟨m, fun _ => 0, g⟩ (fun r => (∀ c : Dev Cert.DSsdInIdeal.nD,
      r.2.mem ((c.tc : Thread Cert.DSsdInIdeal.nD Cert.DSsdInIdeal.τ).loc Cert.DSsdInIdeal.main_arg0) = m ((c.tc : Thread Cert.DSsdInIdeal.nD Cert.DSsdInIdeal.τ).loc Cert.DSsdInIdeal.main_arg0)
      ∧ r.2.mem ((c.tc : Thread Cert.DSsdInIdeal.nD Cert.DSsdInIdeal.τ).loc Cert.DSsdInIdeal.main_arg1) = m ((c.tc : Thread Cert.DSsdInIdeal.nD Cert.DSsdInIdeal.τ).loc Cert.DSsdInIdeal.main_arg1))
      ∧ r.2.sem = fun _ => 0)

def quiescent_DSsdInRefIdeal [hDSsdInRefIdeal : Cert.DSsdInRefIdeal.Facts] : Prop :=
  ∀ (m : (ℓ : Loc Cert.DSsdInRefIdeal.nD Cert.DSsdInRefIdeal.τ Cert.DSsdInRefIdeal.sig) → Buf (Elt Ideal) ℓ) (g : Dev Cert.DSsdInRefIdeal.nD → PrngReg), Pre_DSsdInRefIdeal m →
    θ_run (Cert.DSsdInRefIdeal.defs (F := Ideal)) (onTc (τ := Cert.DSsdInRefIdeal.τ) (Cert.DSsdInRefIdeal.main (F := Ideal))) ⟨m, fun _ => 0, g⟩ (fun r => (∀ c : Dev Cert.DSsdInRefIdeal.nD,
      r.2.mem ((c.tc : Thread Cert.DSsdInRefIdeal.nD Cert.DSsdInRefIdeal.τ).loc Cert.DSsdInRefIdeal.main_arg0) = m ((c.tc : Thread Cert.DSsdInRefIdeal.nD Cert.DSsdInRefIdeal.τ).loc Cert.DSsdInRefIdeal.main_arg0)
      ∧ r.2.mem ((c.tc : Thread Cert.DSsdInRefIdeal.nD Cert.DSsdInRefIdeal.τ).loc Cert.DSsdInRefIdeal.main_arg1) = m ((c.tc : Thread Cert.DSsdInRefIdeal.nD Cert.DSsdInRefIdeal.τ).loc Cert.DSsdInRefIdeal.main_arg1))
      ∧ r.2.sem = fun _ => 0)

def quiescent_SsdInBwd [hSsdInBwd : Cert.SsdInBwd.Facts] : Prop :=
  ∀ (m : (ℓ : Loc Cert.SsdInBwd.nD Cert.SsdInBwd.τ Cert.SsdInBwd.sig) → Buf (Elt Bits) ℓ) (g : Dev Cert.SsdInBwd.nD → PrngReg), Pre_SsdInBwd m →
    θ_run (Cert.SsdInBwd.defs (F := Bits)) (onTc (τ := Cert.SsdInBwd.τ) (Cert.SsdInBwd.main (F := Bits))) ⟨m, fun _ => 0, g⟩ (fun r => (∀ c : Dev Cert.SsdInBwd.nD,
      r.2.mem ((c.tc : Thread Cert.SsdInBwd.nD Cert.SsdInBwd.τ).loc Cert.SsdInBwd.main_arg0) = m ((c.tc : Thread Cert.SsdInBwd.nD Cert.SsdInBwd.τ).loc Cert.SsdInBwd.main_arg0)
      ∧ r.2.mem ((c.tc : Thread Cert.SsdInBwd.nD Cert.SsdInBwd.τ).loc Cert.SsdInBwd.main_arg1) = m ((c.tc : Thread Cert.SsdInBwd.nD Cert.SsdInBwd.τ).loc Cert.SsdInBwd.main_arg1))
      ∧ r.2.sem = fun _ => 0)

def quiescent_SsdInBwdIdeal [hSsdInBwdIdeal : Cert.SsdInBwdIdeal.Facts] : Prop :=
  ∀ (m : (ℓ : Loc Cert.SsdInBwdIdeal.nD Cert.SsdInBwdIdeal.τ Cert.SsdInBwdIdeal.sig) → Buf (Elt Ideal) ℓ) (g : Dev Cert.SsdInBwdIdeal.nD → PrngReg), Pre_SsdInBwdIdeal m →
    θ_run (Cert.SsdInBwdIdeal.defs (F := Ideal)) (onTc (τ := Cert.SsdInBwdIdeal.τ) (Cert.SsdInBwdIdeal.main (F := Ideal))) ⟨m, fun _ => 0, g⟩ (fun r => (∀ c : Dev Cert.SsdInBwdIdeal.nD,
      r.2.mem ((c.tc : Thread Cert.SsdInBwdIdeal.nD Cert.SsdInBwdIdeal.τ).loc Cert.SsdInBwdIdeal.main_arg0) = m ((c.tc : Thread Cert.SsdInBwdIdeal.nD Cert.SsdInBwdIdeal.τ).loc Cert.SsdInBwdIdeal.main_arg0)
      ∧ r.2.mem ((c.tc : Thread Cert.SsdInBwdIdeal.nD Cert.SsdInBwdIdeal.τ).loc Cert.SsdInBwdIdeal.main_arg1) = m ((c.tc : Thread Cert.SsdInBwdIdeal.nD Cert.SsdInBwdIdeal.τ).loc Cert.SsdInBwdIdeal.main_arg1))
      ∧ r.2.sem = fun _ => 0)

def quiescent_SsdInBwdRefIdeal [hSsdInBwdRefIdeal : Cert.SsdInBwdRefIdeal.Facts] : Prop :=
  ∀ (m : (ℓ : Loc Cert.SsdInBwdRefIdeal.nD Cert.SsdInBwdRefIdeal.τ Cert.SsdInBwdRefIdeal.sig) → Buf (Elt Ideal) ℓ) (g : Dev Cert.SsdInBwdRefIdeal.nD → PrngReg), Pre_SsdInBwdRefIdeal m →
    θ_run (Cert.SsdInBwdRefIdeal.defs (F := Ideal)) (onTc (τ := Cert.SsdInBwdRefIdeal.τ) (Cert.SsdInBwdRefIdeal.main (F := Ideal))) ⟨m, fun _ => 0, g⟩ (fun r => (∀ c : Dev Cert.SsdInBwdRefIdeal.nD,
      r.2.mem ((c.tc : Thread Cert.SsdInBwdRefIdeal.nD Cert.SsdInBwdRefIdeal.τ).loc Cert.SsdInBwdRefIdeal.main_arg0) = m ((c.tc : Thread Cert.SsdInBwdRefIdeal.nD Cert.SsdInBwdRefIdeal.τ).loc Cert.SsdInBwdRefIdeal.main_arg0)
      ∧ r.2.mem ((c.tc : Thread Cert.SsdInBwdRefIdeal.nD Cert.SsdInBwdRefIdeal.τ).loc Cert.SsdInBwdRefIdeal.main_arg1) = m ((c.tc : Thread Cert.SsdInBwdRefIdeal.nD Cert.SsdInBwdRefIdeal.τ).loc Cert.SsdInBwdRefIdeal.main_arg1))
      ∧ r.2.sem = fun _ => 0)

def quiescent_DSbIn [hDSbIn : Cert.DSbIn.Facts] : Prop :=
  ∀ (m : (ℓ : Loc Cert.DSbIn.nD Cert.DSbIn.τ Cert.DSbIn.sig) → Buf (Elt Bits) ℓ) (g : Dev Cert.DSbIn.nD → PrngReg), Pre_DSbIn m →
    θ_run (Cert.DSbIn.defs (F := Bits)) (onTc (τ := Cert.DSbIn.τ) (Cert.DSbIn.main (F := Bits))) ⟨m, fun _ => 0, g⟩ (fun r => (∀ c : Dev Cert.DSbIn.nD,
      r.2.mem ((c.tc : Thread Cert.DSbIn.nD Cert.DSbIn.τ).loc Cert.DSbIn.main_arg0) = m ((c.tc : Thread Cert.DSbIn.nD Cert.DSbIn.τ).loc Cert.DSbIn.main_arg0)
      ∧ r.2.mem ((c.tc : Thread Cert.DSbIn.nD Cert.DSbIn.τ).loc Cert.DSbIn.main_arg1) = m ((c.tc : Thread Cert.DSbIn.nD Cert.DSbIn.τ).loc Cert.DSbIn.main_arg1))
      ∧ r.2.sem = fun _ => 0)

def quiescent_DSbInIdeal [hDSbInIdeal : Cert.DSbInIdeal.Facts] : Prop :=
  ∀ (m : (ℓ : Loc Cert.DSbInIdeal.nD Cert.DSbInIdeal.τ Cert.DSbInIdeal.sig) → Buf (Elt Ideal) ℓ) (g : Dev Cert.DSbInIdeal.nD → PrngReg), Pre_DSbInIdeal m →
    θ_run (Cert.DSbInIdeal.defs (F := Ideal)) (onTc (τ := Cert.DSbInIdeal.τ) (Cert.DSbInIdeal.main (F := Ideal))) ⟨m, fun _ => 0, g⟩ (fun r => (∀ c : Dev Cert.DSbInIdeal.nD,
      r.2.mem ((c.tc : Thread Cert.DSbInIdeal.nD Cert.DSbInIdeal.τ).loc Cert.DSbInIdeal.main_arg0) = m ((c.tc : Thread Cert.DSbInIdeal.nD Cert.DSbInIdeal.τ).loc Cert.DSbInIdeal.main_arg0)
      ∧ r.2.mem ((c.tc : Thread Cert.DSbInIdeal.nD Cert.DSbInIdeal.τ).loc Cert.DSbInIdeal.main_arg1) = m ((c.tc : Thread Cert.DSbInIdeal.nD Cert.DSbInIdeal.τ).loc Cert.DSbInIdeal.main_arg1))
      ∧ r.2.sem = fun _ => 0)

def quiescent_DSbInRefIdeal [hDSbInRefIdeal : Cert.DSbInRefIdeal.Facts] : Prop :=
  ∀ (m : (ℓ : Loc Cert.DSbInRefIdeal.nD Cert.DSbInRefIdeal.τ Cert.DSbInRefIdeal.sig) → Buf (Elt Ideal) ℓ) (g : Dev Cert.DSbInRefIdeal.nD → PrngReg), Pre_DSbInRefIdeal m →
    θ_run (Cert.DSbInRefIdeal.defs (F := Ideal)) (onTc (τ := Cert.DSbInRefIdeal.τ) (Cert.DSbInRefIdeal.main (F := Ideal))) ⟨m, fun _ => 0, g⟩ (fun r => (∀ c : Dev Cert.DSbInRefIdeal.nD,
      r.2.mem ((c.tc : Thread Cert.DSbInRefIdeal.nD Cert.DSbInRefIdeal.τ).loc Cert.DSbInRefIdeal.main_arg0) = m ((c.tc : Thread Cert.DSbInRefIdeal.nD Cert.DSbInRefIdeal.τ).loc Cert.DSbInRefIdeal.main_arg0)
      ∧ r.2.mem ((c.tc : Thread Cert.DSbInRefIdeal.nD Cert.DSbInRefIdeal.τ).loc Cert.DSbInRefIdeal.main_arg1) = m ((c.tc : Thread Cert.DSbInRefIdeal.nD Cert.DSbInRefIdeal.τ).loc Cert.DSbInRefIdeal.main_arg1))
      ∧ r.2.sem = fun _ => 0)

def quiescent_SbInBwd [hSbInBwd : Cert.SbInBwd.Facts] : Prop :=
  ∀ (m : (ℓ : Loc Cert.SbInBwd.nD Cert.SbInBwd.τ Cert.SbInBwd.sig) → Buf (Elt Bits) ℓ) (g : Dev Cert.SbInBwd.nD → PrngReg), Pre_SbInBwd m →
    θ_run (Cert.SbInBwd.defs (F := Bits)) (onTc (τ := Cert.SbInBwd.τ) (Cert.SbInBwd.main (F := Bits))) ⟨m, fun _ => 0, g⟩ (fun r => (∀ c : Dev Cert.SbInBwd.nD,
      r.2.mem ((c.tc : Thread Cert.SbInBwd.nD Cert.SbInBwd.τ).loc Cert.SbInBwd.main_arg0) = m ((c.tc : Thread Cert.SbInBwd.nD Cert.SbInBwd.τ).loc Cert.SbInBwd.main_arg0)
      ∧ r.2.mem ((c.tc : Thread Cert.SbInBwd.nD Cert.SbInBwd.τ).loc Cert.SbInBwd.main_arg1) = m ((c.tc : Thread Cert.SbInBwd.nD Cert.SbInBwd.τ).loc Cert.SbInBwd.main_arg1))
      ∧ r.2.sem = fun _ => 0)

def quiescent_SbInBwdIdeal [hSbInBwdIdeal : Cert.SbInBwdIdeal.Facts] : Prop :=
  ∀ (m : (ℓ : Loc Cert.SbInBwdIdeal.nD Cert.SbInBwdIdeal.τ Cert.SbInBwdIdeal.sig) → Buf (Elt Ideal) ℓ) (g : Dev Cert.SbInBwdIdeal.nD → PrngReg), Pre_SbInBwdIdeal m →
    θ_run (Cert.SbInBwdIdeal.defs (F := Ideal)) (onTc (τ := Cert.SbInBwdIdeal.τ) (Cert.SbInBwdIdeal.main (F := Ideal))) ⟨m, fun _ => 0, g⟩ (fun r => (∀ c : Dev Cert.SbInBwdIdeal.nD,
      r.2.mem ((c.tc : Thread Cert.SbInBwdIdeal.nD Cert.SbInBwdIdeal.τ).loc Cert.SbInBwdIdeal.main_arg0) = m ((c.tc : Thread Cert.SbInBwdIdeal.nD Cert.SbInBwdIdeal.τ).loc Cert.SbInBwdIdeal.main_arg0)
      ∧ r.2.mem ((c.tc : Thread Cert.SbInBwdIdeal.nD Cert.SbInBwdIdeal.τ).loc Cert.SbInBwdIdeal.main_arg1) = m ((c.tc : Thread Cert.SbInBwdIdeal.nD Cert.SbInBwdIdeal.τ).loc Cert.SbInBwdIdeal.main_arg1))
      ∧ r.2.sem = fun _ => 0)

def quiescent_SbInBwdRefIdeal [hSbInBwdRefIdeal : Cert.SbInBwdRefIdeal.Facts] : Prop :=
  ∀ (m : (ℓ : Loc Cert.SbInBwdRefIdeal.nD Cert.SbInBwdRefIdeal.τ Cert.SbInBwdRefIdeal.sig) → Buf (Elt Ideal) ℓ) (g : Dev Cert.SbInBwdRefIdeal.nD → PrngReg), Pre_SbInBwdRefIdeal m →
    θ_run (Cert.SbInBwdRefIdeal.defs (F := Ideal)) (onTc (τ := Cert.SbInBwdRefIdeal.τ) (Cert.SbInBwdRefIdeal.main (F := Ideal))) ⟨m, fun _ => 0, g⟩ (fun r => (∀ c : Dev Cert.SbInBwdRefIdeal.nD,
      r.2.mem ((c.tc : Thread Cert.SbInBwdRefIdeal.nD Cert.SbInBwdRefIdeal.τ).loc Cert.SbInBwdRefIdeal.main_arg0) = m ((c.tc : Thread Cert.SbInBwdRefIdeal.nD Cert.SbInBwdRefIdeal.τ).loc Cert.SbInBwdRefIdeal.main_arg0)
      ∧ r.2.mem ((c.tc : Thread Cert.SbInBwdRefIdeal.nD Cert.SbInBwdRefIdeal.τ).loc Cert.SbInBwdRefIdeal.main_arg1) = m ((c.tc : Thread Cert.SbInBwdRefIdeal.nD Cert.SbInBwdRefIdeal.τ).loc Cert.SbInBwdRefIdeal.main_arg1))
      ∧ r.2.sem = fun _ => 0)

def quiescent_SsdIn [hSsdIn : Cert.SsdIn.Facts] : Prop :=
  ∀ (m : (ℓ : Loc Cert.SsdIn.nD Cert.SsdIn.τ Cert.SsdIn.sig) → Buf (Elt Bits) ℓ) (g : Dev Cert.SsdIn.nD → PrngReg), Pre_SsdIn m →
    θ_run (Cert.SsdIn.defs (F := Bits)) (onTc (τ := Cert.SsdIn.τ) (Cert.SsdIn.main (F := Bits))) ⟨m, fun _ => 0, g⟩ (fun r => (∀ c : Dev Cert.SsdIn.nD,
      r.2.mem ((c.tc : Thread Cert.SsdIn.nD Cert.SsdIn.τ).loc Cert.SsdIn.main_arg0) = m ((c.tc : Thread Cert.SsdIn.nD Cert.SsdIn.τ).loc Cert.SsdIn.main_arg0)
      ∧ r.2.mem ((c.tc : Thread Cert.SsdIn.nD Cert.SsdIn.τ).loc Cert.SsdIn.main_arg1) = m ((c.tc : Thread Cert.SsdIn.nD Cert.SsdIn.τ).loc Cert.SsdIn.main_arg1))
      ∧ r.2.sem = fun _ => 0)

def quiescent_SsdInIdeal [hSsdInIdeal : Cert.SsdInIdeal.Facts] : Prop :=
  ∀ (m : (ℓ : Loc Cert.SsdInIdeal.nD Cert.SsdInIdeal.τ Cert.SsdInIdeal.sig) → Buf (Elt Ideal) ℓ) (g : Dev Cert.SsdInIdeal.nD → PrngReg), Pre_SsdInIdeal m →
    θ_run (Cert.SsdInIdeal.defs (F := Ideal)) (onTc (τ := Cert.SsdInIdeal.τ) (Cert.SsdInIdeal.main (F := Ideal))) ⟨m, fun _ => 0, g⟩ (fun r => (∀ c : Dev Cert.SsdInIdeal.nD,
      r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
      ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1))
      ∧ r.2.sem = fun _ => 0)

def quiescent_SsdInRefIdeal [hSsdInRefIdeal : Cert.SsdInRefIdeal.Facts] : Prop :=
  ∀ (m : (ℓ : Loc Cert.SsdInRefIdeal.nD Cert.SsdInRefIdeal.τ Cert.SsdInRefIdeal.sig) → Buf (Elt Ideal) ℓ) (g : Dev Cert.SsdInRefIdeal.nD → PrngReg), Pre_SsdInRefIdeal m →
    θ_run (Cert.SsdInRefIdeal.defs (F := Ideal)) (onTc (τ := Cert.SsdInRefIdeal.τ) (Cert.SsdInRefIdeal.main (F := Ideal))) ⟨m, fun _ => 0, g⟩ (fun r => (∀ c : Dev Cert.SsdInRefIdeal.nD,
      r.2.mem ((c.tc : Thread Cert.SsdInRefIdeal.nD Cert.SsdInRefIdeal.τ).loc Cert.SsdInRefIdeal.main_arg0) = m ((c.tc : Thread Cert.SsdInRefIdeal.nD Cert.SsdInRefIdeal.τ).loc Cert.SsdInRefIdeal.main_arg0)
      ∧ r.2.mem ((c.tc : Thread Cert.SsdInRefIdeal.nD Cert.SsdInRefIdeal.τ).loc Cert.SsdInRefIdeal.main_arg1) = m ((c.tc : Thread Cert.SsdInRefIdeal.nD Cert.SsdInRefIdeal.τ).loc Cert.SsdInRefIdeal.main_arg1))
      ∧ r.2.sem = fun _ => 0)

def quiescent_SbIn [hSbIn : Cert.SbIn.Facts] : Prop :=
  ∀ (m : (ℓ : Loc Cert.SbIn.nD Cert.SbIn.τ Cert.SbIn.sig) → Buf (Elt Bits) ℓ) (g : Dev Cert.SbIn.nD → PrngReg), Pre_SbIn m →
    θ_run (Cert.SbIn.defs (F := Bits)) (onTc (τ := Cert.SbIn.τ) (Cert.SbIn.main (F := Bits))) ⟨m, fun _ => 0, g⟩ (fun r => (∀ c : Dev Cert.SbIn.nD,
      r.2.mem ((c.tc : Thread Cert.SbIn.nD Cert.SbIn.τ).loc Cert.SbIn.main_arg0) = m ((c.tc : Thread Cert.SbIn.nD Cert.SbIn.τ).loc Cert.SbIn.main_arg0)
      ∧ r.2.mem ((c.tc : Thread Cert.SbIn.nD Cert.SbIn.τ).loc Cert.SbIn.main_arg1) = m ((c.tc : Thread Cert.SbIn.nD Cert.SbIn.τ).loc Cert.SbIn.main_arg1))
      ∧ r.2.sem = fun _ => 0)

def quiescent_SbInIdeal [hSbInIdeal : Cert.SbInIdeal.Facts] : Prop :=
  ∀ (m : (ℓ : Loc Cert.SbInIdeal.nD Cert.SbInIdeal.τ Cert.SbInIdeal.sig) → Buf (Elt Ideal) ℓ) (g : Dev Cert.SbInIdeal.nD → PrngReg), Pre_SbInIdeal m →
    θ_run (Cert.SbInIdeal.defs (F := Ideal)) (onTc (τ := Cert.SbInIdeal.τ) (Cert.SbInIdeal.main (F := Ideal))) ⟨m, fun _ => 0, g⟩ (fun r => (∀ c : Dev Cert.SbInIdeal.nD,
      r.2.mem ((c.tc : Thread Cert.SbInIdeal.nD Cert.SbInIdeal.τ).loc Cert.SbInIdeal.main_arg0) = m ((c.tc : Thread Cert.SbInIdeal.nD Cert.SbInIdeal.τ).loc Cert.SbInIdeal.main_arg0)
      ∧ r.2.mem ((c.tc : Thread Cert.SbInIdeal.nD Cert.SbInIdeal.τ).loc Cert.SbInIdeal.main_arg1) = m ((c.tc : Thread Cert.SbInIdeal.nD Cert.SbInIdeal.τ).loc Cert.SbInIdeal.main_arg1))
      ∧ r.2.sem = fun _ => 0)

def quiescent_SbInRefIdeal [hSbInRefIdeal : Cert.SbInRefIdeal.Facts] : Prop :=
  ∀ (m : (ℓ : Loc Cert.SbInRefIdeal.nD Cert.SbInRefIdeal.τ Cert.SbInRefIdeal.sig) → Buf (Elt Ideal) ℓ) (g : Dev Cert.SbInRefIdeal.nD → PrngReg), Pre_SbInRefIdeal m →
    θ_run (Cert.SbInRefIdeal.defs (F := Ideal)) (onTc (τ := Cert.SbInRefIdeal.τ) (Cert.SbInRefIdeal.main (F := Ideal))) ⟨m, fun _ => 0, g⟩ (fun r => (∀ c : Dev Cert.SbInRefIdeal.nD,
      r.2.mem ((c.tc : Thread Cert.SbInRefIdeal.nD Cert.SbInRefIdeal.τ).loc Cert.SbInRefIdeal.main_arg0) = m ((c.tc : Thread Cert.SbInRefIdeal.nD Cert.SbInRefIdeal.τ).loc Cert.SbInRefIdeal.main_arg0)
      ∧ r.2.mem ((c.tc : Thread Cert.SbInRefIdeal.nD Cert.SbInRefIdeal.τ).loc Cert.SbInRefIdeal.main_arg1) = m ((c.tc : Thread Cert.SbInRefIdeal.nD Cert.SbInRefIdeal.τ).loc Cert.SbInRefIdeal.main_arg1))
      ∧ r.2.sem = fun _ => 0)

def quiescent_DSsdOut [hDSsdOut : Cert.DSsdOut.Facts] : Prop :=
  ∀ (m : (ℓ : Loc Cert.DSsdOut.nD Cert.DSsdOut.τ Cert.DSsdOut.sig) → Buf (Elt Bits) ℓ) (g : Dev Cert.DSsdOut.nD → PrngReg), Pre_DSsdOut m →
    θ_run (Cert.DSsdOut.defs (F := Bits)) (onTc (τ := Cert.DSsdOut.τ) (Cert.DSsdOut.main (F := Bits))) ⟨m, fun _ => 0, g⟩ (fun r => (∀ c : Dev Cert.DSsdOut.nD,
      r.2.mem ((c.tc : Thread Cert.DSsdOut.nD Cert.DSsdOut.τ).loc Cert.DSsdOut.main_arg0) = m ((c.tc : Thread Cert.DSsdOut.nD Cert.DSsdOut.τ).loc Cert.DSsdOut.main_arg0)
      ∧ r.2.mem ((c.tc : Thread Cert.DSsdOut.nD Cert.DSsdOut.τ).loc Cert.DSsdOut.main_arg1) = m ((c.tc : Thread Cert.DSsdOut.nD Cert.DSsdOut.τ).loc Cert.DSsdOut.main_arg1))
      ∧ r.2.sem = fun _ => 0)

def quiescent_DSsdOutIdeal [hDSsdOutIdeal : Cert.DSsdOutIdeal.Facts] : Prop :=
  ∀ (m : (ℓ : Loc Cert.DSsdOutIdeal.nD Cert.DSsdOutIdeal.τ Cert.DSsdOutIdeal.sig) → Buf (Elt Ideal) ℓ) (g : Dev Cert.DSsdOutIdeal.nD → PrngReg), Pre_DSsdOutIdeal m →
    θ_run (Cert.DSsdOutIdeal.defs (F := Ideal)) (onTc (τ := Cert.DSsdOutIdeal.τ) (Cert.DSsdOutIdeal.main (F := Ideal))) ⟨m, fun _ => 0, g⟩ (fun r => (∀ c : Dev Cert.DSsdOutIdeal.nD,
      r.2.mem ((c.tc : Thread Cert.DSsdOutIdeal.nD Cert.DSsdOutIdeal.τ).loc Cert.DSsdOutIdeal.main_arg0) = m ((c.tc : Thread Cert.DSsdOutIdeal.nD Cert.DSsdOutIdeal.τ).loc Cert.DSsdOutIdeal.main_arg0)
      ∧ r.2.mem ((c.tc : Thread Cert.DSsdOutIdeal.nD Cert.DSsdOutIdeal.τ).loc Cert.DSsdOutIdeal.main_arg1) = m ((c.tc : Thread Cert.DSsdOutIdeal.nD Cert.DSsdOutIdeal.τ).loc Cert.DSsdOutIdeal.main_arg1))
      ∧ r.2.sem = fun _ => 0)

def quiescent_DSsdOutRefIdeal [hDSsdOutRefIdeal : Cert.DSsdOutRefIdeal.Facts] : Prop :=
  ∀ (m : (ℓ : Loc Cert.DSsdOutRefIdeal.nD Cert.DSsdOutRefIdeal.τ Cert.DSsdOutRefIdeal.sig) → Buf (Elt Ideal) ℓ) (g : Dev Cert.DSsdOutRefIdeal.nD → PrngReg), Pre_DSsdOutRefIdeal m →
    θ_run (Cert.DSsdOutRefIdeal.defs (F := Ideal)) (onTc (τ := Cert.DSsdOutRefIdeal.τ) (Cert.DSsdOutRefIdeal.main (F := Ideal))) ⟨m, fun _ => 0, g⟩ (fun r => (∀ c : Dev Cert.DSsdOutRefIdeal.nD,
      r.2.mem ((c.tc : Thread Cert.DSsdOutRefIdeal.nD Cert.DSsdOutRefIdeal.τ).loc Cert.DSsdOutRefIdeal.main_arg0) = m ((c.tc : Thread Cert.DSsdOutRefIdeal.nD Cert.DSsdOutRefIdeal.τ).loc Cert.DSsdOutRefIdeal.main_arg0)
      ∧ r.2.mem ((c.tc : Thread Cert.DSsdOutRefIdeal.nD Cert.DSsdOutRefIdeal.τ).loc Cert.DSsdOutRefIdeal.main_arg1) = m ((c.tc : Thread Cert.DSsdOutRefIdeal.nD Cert.DSsdOutRefIdeal.τ).loc Cert.DSsdOutRefIdeal.main_arg1))
      ∧ r.2.sem = fun _ => 0)

def quiescent_SsdOutBwd [hSsdOutBwd : Cert.SsdOutBwd.Facts] : Prop :=
  ∀ (m : (ℓ : Loc Cert.SsdOutBwd.nD Cert.SsdOutBwd.τ Cert.SsdOutBwd.sig) → Buf (Elt Bits) ℓ) (g : Dev Cert.SsdOutBwd.nD → PrngReg), Pre_SsdOutBwd m →
    θ_run (Cert.SsdOutBwd.defs (F := Bits)) (onTc (τ := Cert.SsdOutBwd.τ) (Cert.SsdOutBwd.main (F := Bits))) ⟨m, fun _ => 0, g⟩ (fun r => (∀ c : Dev Cert.SsdOutBwd.nD,
      r.2.mem ((c.tc : Thread Cert.SsdOutBwd.nD Cert.SsdOutBwd.τ).loc Cert.SsdOutBwd.main_arg0) = m ((c.tc : Thread Cert.SsdOutBwd.nD Cert.SsdOutBwd.τ).loc Cert.SsdOutBwd.main_arg0)
      ∧ r.2.mem ((c.tc : Thread Cert.SsdOutBwd.nD Cert.SsdOutBwd.τ).loc Cert.SsdOutBwd.main_arg1) = m ((c.tc : Thread Cert.SsdOutBwd.nD Cert.SsdOutBwd.τ).loc Cert.SsdOutBwd.main_arg1))
      ∧ r.2.sem = fun _ => 0)

def quiescent_SsdOutBwdIdeal [hSsdOutBwdIdeal : Cert.SsdOutBwdIdeal.Facts] : Prop :=
  ∀ (m : (ℓ : Loc Cert.SsdOutBwdIdeal.nD Cert.SsdOutBwdIdeal.τ Cert.SsdOutBwdIdeal.sig) → Buf (Elt Ideal) ℓ) (g : Dev Cert.SsdOutBwdIdeal.nD → PrngReg), Pre_SsdOutBwdIdeal m →
    θ_run (Cert.SsdOutBwdIdeal.defs (F := Ideal)) (onTc (τ := Cert.SsdOutBwdIdeal.τ) (Cert.SsdOutBwdIdeal.main (F := Ideal))) ⟨m, fun _ => 0, g⟩ (fun r => (∀ c : Dev Cert.SsdOutBwdIdeal.nD,
      r.2.mem ((c.tc : Thread Cert.SsdOutBwdIdeal.nD Cert.SsdOutBwdIdeal.τ).loc Cert.SsdOutBwdIdeal.main_arg0) = m ((c.tc : Thread Cert.SsdOutBwdIdeal.nD Cert.SsdOutBwdIdeal.τ).loc Cert.SsdOutBwdIdeal.main_arg0)
      ∧ r.2.mem ((c.tc : Thread Cert.SsdOutBwdIdeal.nD Cert.SsdOutBwdIdeal.τ).loc Cert.SsdOutBwdIdeal.main_arg1) = m ((c.tc : Thread Cert.SsdOutBwdIdeal.nD Cert.SsdOutBwdIdeal.τ).loc Cert.SsdOutBwdIdeal.main_arg1))
      ∧ r.2.sem = fun _ => 0)

def quiescent_SsdOutBwdRefIdeal [hSsdOutBwdRefIdeal : Cert.SsdOutBwdRefIdeal.Facts] : Prop :=
  ∀ (m : (ℓ : Loc Cert.SsdOutBwdRefIdeal.nD Cert.SsdOutBwdRefIdeal.τ Cert.SsdOutBwdRefIdeal.sig) → Buf (Elt Ideal) ℓ) (g : Dev Cert.SsdOutBwdRefIdeal.nD → PrngReg), Pre_SsdOutBwdRefIdeal m →
    θ_run (Cert.SsdOutBwdRefIdeal.defs (F := Ideal)) (onTc (τ := Cert.SsdOutBwdRefIdeal.τ) (Cert.SsdOutBwdRefIdeal.main (F := Ideal))) ⟨m, fun _ => 0, g⟩ (fun r => (∀ c : Dev Cert.SsdOutBwdRefIdeal.nD,
      r.2.mem ((c.tc : Thread Cert.SsdOutBwdRefIdeal.nD Cert.SsdOutBwdRefIdeal.τ).loc Cert.SsdOutBwdRefIdeal.main_arg0) = m ((c.tc : Thread Cert.SsdOutBwdRefIdeal.nD Cert.SsdOutBwdRefIdeal.τ).loc Cert.SsdOutBwdRefIdeal.main_arg0)
      ∧ r.2.mem ((c.tc : Thread Cert.SsdOutBwdRefIdeal.nD Cert.SsdOutBwdRefIdeal.τ).loc Cert.SsdOutBwdRefIdeal.main_arg1) = m ((c.tc : Thread Cert.SsdOutBwdRefIdeal.nD Cert.SsdOutBwdRefIdeal.τ).loc Cert.SsdOutBwdRefIdeal.main_arg1))
      ∧ r.2.sem = fun _ => 0)

def quiescent_DPleGate [hDPleGate : Cert.DPleGate.Facts] : Prop :=
  ∀ (m : (ℓ : Loc Cert.DPleGate.nD Cert.DPleGate.τ Cert.DPleGate.sig) → Buf (Elt Bits) ℓ) (g : Dev Cert.DPleGate.nD → PrngReg), Pre_DPleGate m →
    θ_run (Cert.DPleGate.defs (F := Bits)) (onTc (τ := Cert.DPleGate.τ) (Cert.DPleGate.main (F := Bits))) ⟨m, fun _ => 0, g⟩ (fun r => (∀ c : Dev Cert.DPleGate.nD,
      r.2.mem ((c.tc : Thread Cert.DPleGate.nD Cert.DPleGate.τ).loc Cert.DPleGate.main_arg0) = m ((c.tc : Thread Cert.DPleGate.nD Cert.DPleGate.τ).loc Cert.DPleGate.main_arg0)
      ∧ r.2.mem ((c.tc : Thread Cert.DPleGate.nD Cert.DPleGate.τ).loc Cert.DPleGate.main_arg1) = m ((c.tc : Thread Cert.DPleGate.nD Cert.DPleGate.τ).loc Cert.DPleGate.main_arg1))
      ∧ r.2.sem = fun _ => 0)

def quiescent_DPleGateIdeal [hDPleGateIdeal : Cert.DPleGateIdeal.Facts] : Prop :=
  ∀ (m : (ℓ : Loc Cert.DPleGateIdeal.nD Cert.DPleGateIdeal.τ Cert.DPleGateIdeal.sig) → Buf (Elt Ideal) ℓ) (g : Dev Cert.DPleGateIdeal.nD → PrngReg), Pre_DPleGateIdeal m →
    θ_run (Cert.DPleGateIdeal.defs (F := Ideal)) (onTc (τ := Cert.DPleGateIdeal.τ) (Cert.DPleGateIdeal.main (F := Ideal))) ⟨m, fun _ => 0, g⟩ (fun r => (∀ c : Dev Cert.DPleGateIdeal.nD,
      r.2.mem ((c.tc : Thread Cert.DPleGateIdeal.nD Cert.DPleGateIdeal.τ).loc Cert.DPleGateIdeal.main_arg0) = m ((c.tc : Thread Cert.DPleGateIdeal.nD Cert.DPleGateIdeal.τ).loc Cert.DPleGateIdeal.main_arg0)
      ∧ r.2.mem ((c.tc : Thread Cert.DPleGateIdeal.nD Cert.DPleGateIdeal.τ).loc Cert.DPleGateIdeal.main_arg1) = m ((c.tc : Thread Cert.DPleGateIdeal.nD Cert.DPleGateIdeal.τ).loc Cert.DPleGateIdeal.main_arg1))
      ∧ r.2.sem = fun _ => 0)

def quiescent_DPleGateRefIdeal [hDPleGateRefIdeal : Cert.DPleGateRefIdeal.Facts] : Prop :=
  ∀ (m : (ℓ : Loc Cert.DPleGateRefIdeal.nD Cert.DPleGateRefIdeal.τ Cert.DPleGateRefIdeal.sig) → Buf (Elt Ideal) ℓ) (g : Dev Cert.DPleGateRefIdeal.nD → PrngReg), Pre_DPleGateRefIdeal m →
    θ_run (Cert.DPleGateRefIdeal.defs (F := Ideal)) (onTc (τ := Cert.DPleGateRefIdeal.τ) (Cert.DPleGateRefIdeal.main (F := Ideal))) ⟨m, fun _ => 0, g⟩ (fun r => (∀ c : Dev Cert.DPleGateRefIdeal.nD,
      r.2.mem ((c.tc : Thread Cert.DPleGateRefIdeal.nD Cert.DPleGateRefIdeal.τ).loc Cert.DPleGateRefIdeal.main_arg0) = m ((c.tc : Thread Cert.DPleGateRefIdeal.nD Cert.DPleGateRefIdeal.τ).loc Cert.DPleGateRefIdeal.main_arg0)
      ∧ r.2.mem ((c.tc : Thread Cert.DPleGateRefIdeal.nD Cert.DPleGateRefIdeal.τ).loc Cert.DPleGateRefIdeal.main_arg1) = m ((c.tc : Thread Cert.DPleGateRefIdeal.nD Cert.DPleGateRefIdeal.τ).loc Cert.DPleGateRefIdeal.main_arg1))
      ∧ r.2.sem = fun _ => 0)

def quiescent_PleGateBwd [hPleGateBwd : Cert.PleGateBwd.Facts] : Prop :=
  ∀ (m : (ℓ : Loc Cert.PleGateBwd.nD Cert.PleGateBwd.τ Cert.PleGateBwd.sig) → Buf (Elt Bits) ℓ) (g : Dev Cert.PleGateBwd.nD → PrngReg), Pre_PleGateBwd m →
    θ_run (Cert.PleGateBwd.defs (F := Bits)) (onTc (τ := Cert.PleGateBwd.τ) (Cert.PleGateBwd.main (F := Bits))) ⟨m, fun _ => 0, g⟩ (fun r => (∀ c : Dev Cert.PleGateBwd.nD,
      r.2.mem ((c.tc : Thread Cert.PleGateBwd.nD Cert.PleGateBwd.τ).loc Cert.PleGateBwd.main_arg0) = m ((c.tc : Thread Cert.PleGateBwd.nD Cert.PleGateBwd.τ).loc Cert.PleGateBwd.main_arg0)
      ∧ r.2.mem ((c.tc : Thread Cert.PleGateBwd.nD Cert.PleGateBwd.τ).loc Cert.PleGateBwd.main_arg1) = m ((c.tc : Thread Cert.PleGateBwd.nD Cert.PleGateBwd.τ).loc Cert.PleGateBwd.main_arg1))
      ∧ r.2.sem = fun _ => 0)

def quiescent_PleGateBwdIdeal [hPleGateBwdIdeal : Cert.PleGateBwdIdeal.Facts] : Prop :=
  ∀ (m : (ℓ : Loc Cert.PleGateBwdIdeal.nD Cert.PleGateBwdIdeal.τ Cert.PleGateBwdIdeal.sig) → Buf (Elt Ideal) ℓ) (g : Dev Cert.PleGateBwdIdeal.nD → PrngReg), Pre_PleGateBwdIdeal m →
    θ_run (Cert.PleGateBwdIdeal.defs (F := Ideal)) (onTc (τ := Cert.PleGateBwdIdeal.τ) (Cert.PleGateBwdIdeal.main (F := Ideal))) ⟨m, fun _ => 0, g⟩ (fun r => (∀ c : Dev Cert.PleGateBwdIdeal.nD,
      r.2.mem ((c.tc : Thread Cert.PleGateBwdIdeal.nD Cert.PleGateBwdIdeal.τ).loc Cert.PleGateBwdIdeal.main_arg0) = m ((c.tc : Thread Cert.PleGateBwdIdeal.nD Cert.PleGateBwdIdeal.τ).loc Cert.PleGateBwdIdeal.main_arg0)
      ∧ r.2.mem ((c.tc : Thread Cert.PleGateBwdIdeal.nD Cert.PleGateBwdIdeal.τ).loc Cert.PleGateBwdIdeal.main_arg1) = m ((c.tc : Thread Cert.PleGateBwdIdeal.nD Cert.PleGateBwdIdeal.τ).loc Cert.PleGateBwdIdeal.main_arg1))
      ∧ r.2.sem = fun _ => 0)

def quiescent_PleGateBwdRefIdeal [hPleGateBwdRefIdeal : Cert.PleGateBwdRefIdeal.Facts] : Prop :=
  ∀ (m : (ℓ : Loc Cert.PleGateBwdRefIdeal.nD Cert.PleGateBwdRefIdeal.τ Cert.PleGateBwdRefIdeal.sig) → Buf (Elt Ideal) ℓ) (g : Dev Cert.PleGateBwdRefIdeal.nD → PrngReg), Pre_PleGateBwdRefIdeal m →
    θ_run (Cert.PleGateBwdRefIdeal.defs (F := Ideal)) (onTc (τ := Cert.PleGateBwdRefIdeal.τ) (Cert.PleGateBwdRefIdeal.main (F := Ideal))) ⟨m, fun _ => 0, g⟩ (fun r => (∀ c : Dev Cert.PleGateBwdRefIdeal.nD,
      r.2.mem ((c.tc : Thread Cert.PleGateBwdRefIdeal.nD Cert.PleGateBwdRefIdeal.τ).loc Cert.PleGateBwdRefIdeal.main_arg0) = m ((c.tc : Thread Cert.PleGateBwdRefIdeal.nD Cert.PleGateBwdRefIdeal.τ).loc Cert.PleGateBwdRefIdeal.main_arg0)
      ∧ r.2.mem ((c.tc : Thread Cert.PleGateBwdRefIdeal.nD Cert.PleGateBwdRefIdeal.τ).loc Cert.PleGateBwdRefIdeal.main_arg1) = m ((c.tc : Thread Cert.PleGateBwdRefIdeal.nD Cert.PleGateBwdRefIdeal.τ).loc Cert.PleGateBwdRefIdeal.main_arg1))
      ∧ r.2.sem = fun _ => 0)

def quiescent_DSbOut [hDSbOut : Cert.DSbOut.Facts] : Prop :=
  ∀ (m : (ℓ : Loc Cert.DSbOut.nD Cert.DSbOut.τ Cert.DSbOut.sig) → Buf (Elt Bits) ℓ) (g : Dev Cert.DSbOut.nD → PrngReg), Pre_DSbOut m →
    θ_run (Cert.DSbOut.defs (F := Bits)) (onTc (τ := Cert.DSbOut.τ) (Cert.DSbOut.main (F := Bits))) ⟨m, fun _ => 0, g⟩ (fun r => (∀ c : Dev Cert.DSbOut.nD,
      r.2.mem ((c.tc : Thread Cert.DSbOut.nD Cert.DSbOut.τ).loc Cert.DSbOut.main_arg0) = m ((c.tc : Thread Cert.DSbOut.nD Cert.DSbOut.τ).loc Cert.DSbOut.main_arg0)
      ∧ r.2.mem ((c.tc : Thread Cert.DSbOut.nD Cert.DSbOut.τ).loc Cert.DSbOut.main_arg1) = m ((c.tc : Thread Cert.DSbOut.nD Cert.DSbOut.τ).loc Cert.DSbOut.main_arg1))
      ∧ r.2.sem = fun _ => 0)

def quiescent_DSbOutIdeal [hDSbOutIdeal : Cert.DSbOutIdeal.Facts] : Prop :=
  ∀ (m : (ℓ : Loc Cert.DSbOutIdeal.nD Cert.DSbOutIdeal.τ Cert.DSbOutIdeal.sig) → Buf (Elt Ideal) ℓ) (g : Dev Cert.DSbOutIdeal.nD → PrngReg), Pre_DSbOutIdeal m →
    θ_run (Cert.DSbOutIdeal.defs (F := Ideal)) (onTc (τ := Cert.DSbOutIdeal.τ) (Cert.DSbOutIdeal.main (F := Ideal))) ⟨m, fun _ => 0, g⟩ (fun r => (∀ c : Dev Cert.DSbOutIdeal.nD,
      r.2.mem ((c.tc : Thread Cert.DSbOutIdeal.nD Cert.DSbOutIdeal.τ).loc Cert.DSbOutIdeal.main_arg0) = m ((c.tc : Thread Cert.DSbOutIdeal.nD Cert.DSbOutIdeal.τ).loc Cert.DSbOutIdeal.main_arg0)
      ∧ r.2.mem ((c.tc : Thread Cert.DSbOutIdeal.nD Cert.DSbOutIdeal.τ).loc Cert.DSbOutIdeal.main_arg1) = m ((c.tc : Thread Cert.DSbOutIdeal.nD Cert.DSbOutIdeal.τ).loc Cert.DSbOutIdeal.main_arg1))
      ∧ r.2.sem = fun _ => 0)

def quiescent_DSbOutRefIdeal [hDSbOutRefIdeal : Cert.DSbOutRefIdeal.Facts] : Prop :=
  ∀ (m : (ℓ : Loc Cert.DSbOutRefIdeal.nD Cert.DSbOutRefIdeal.τ Cert.DSbOutRefIdeal.sig) → Buf (Elt Ideal) ℓ) (g : Dev Cert.DSbOutRefIdeal.nD → PrngReg), Pre_DSbOutRefIdeal m →
    θ_run (Cert.DSbOutRefIdeal.defs (F := Ideal)) (onTc (τ := Cert.DSbOutRefIdeal.τ) (Cert.DSbOutRefIdeal.main (F := Ideal))) ⟨m, fun _ => 0, g⟩ (fun r => (∀ c : Dev Cert.DSbOutRefIdeal.nD,
      r.2.mem ((c.tc : Thread Cert.DSbOutRefIdeal.nD Cert.DSbOutRefIdeal.τ).loc Cert.DSbOutRefIdeal.main_arg0) = m ((c.tc : Thread Cert.DSbOutRefIdeal.nD Cert.DSbOutRefIdeal.τ).loc Cert.DSbOutRefIdeal.main_arg0)
      ∧ r.2.mem ((c.tc : Thread Cert.DSbOutRefIdeal.nD Cert.DSbOutRefIdeal.τ).loc Cert.DSbOutRefIdeal.main_arg1) = m ((c.tc : Thread Cert.DSbOutRefIdeal.nD Cert.DSbOutRefIdeal.τ).loc Cert.DSbOutRefIdeal.main_arg1))
      ∧ r.2.sem = fun _ => 0)

def quiescent_SbOutBwd [hSbOutBwd : Cert.SbOutBwd.Facts] : Prop :=
  ∀ (m : (ℓ : Loc Cert.SbOutBwd.nD Cert.SbOutBwd.τ Cert.SbOutBwd.sig) → Buf (Elt Bits) ℓ) (g : Dev Cert.SbOutBwd.nD → PrngReg), Pre_SbOutBwd m →
    θ_run (Cert.SbOutBwd.defs (F := Bits)) (onTc (τ := Cert.SbOutBwd.τ) (Cert.SbOutBwd.main (F := Bits))) ⟨m, fun _ => 0, g⟩ (fun r => (∀ c : Dev Cert.SbOutBwd.nD,
      r.2.mem ((c.tc : Thread Cert.SbOutBwd.nD Cert.SbOutBwd.τ).loc Cert.SbOutBwd.main_arg0) = m ((c.tc : Thread Cert.SbOutBwd.nD Cert.SbOutBwd.τ).loc Cert.SbOutBwd.main_arg0)
      ∧ r.2.mem ((c.tc : Thread Cert.SbOutBwd.nD Cert.SbOutBwd.τ).loc Cert.SbOutBwd.main_arg1) = m ((c.tc : Thread Cert.SbOutBwd.nD Cert.SbOutBwd.τ).loc Cert.SbOutBwd.main_arg1))
      ∧ r.2.sem = fun _ => 0)

def quiescent_SbOutBwdIdeal [hSbOutBwdIdeal : Cert.SbOutBwdIdeal.Facts] : Prop :=
  ∀ (m : (ℓ : Loc Cert.SbOutBwdIdeal.nD Cert.SbOutBwdIdeal.τ Cert.SbOutBwdIdeal.sig) → Buf (Elt Ideal) ℓ) (g : Dev Cert.SbOutBwdIdeal.nD → PrngReg), Pre_SbOutBwdIdeal m →
    θ_run (Cert.SbOutBwdIdeal.defs (F := Ideal)) (onTc (τ := Cert.SbOutBwdIdeal.τ) (Cert.SbOutBwdIdeal.main (F := Ideal))) ⟨m, fun _ => 0, g⟩ (fun r => (∀ c : Dev Cert.SbOutBwdIdeal.nD,
      r.2.mem ((c.tc : Thread Cert.SbOutBwdIdeal.nD Cert.SbOutBwdIdeal.τ).loc Cert.SbOutBwdIdeal.main_arg0) = m ((c.tc : Thread Cert.SbOutBwdIdeal.nD Cert.SbOutBwdIdeal.τ).loc Cert.SbOutBwdIdeal.main_arg0)
      ∧ r.2.mem ((c.tc : Thread Cert.SbOutBwdIdeal.nD Cert.SbOutBwdIdeal.τ).loc Cert.SbOutBwdIdeal.main_arg1) = m ((c.tc : Thread Cert.SbOutBwdIdeal.nD Cert.SbOutBwdIdeal.τ).loc Cert.SbOutBwdIdeal.main_arg1))
      ∧ r.2.sem = fun _ => 0)

def quiescent_SbOutBwdRefIdeal [hSbOutBwdRefIdeal : Cert.SbOutBwdRefIdeal.Facts] : Prop :=
  ∀ (m : (ℓ : Loc Cert.SbOutBwdRefIdeal.nD Cert.SbOutBwdRefIdeal.τ Cert.SbOutBwdRefIdeal.sig) → Buf (Elt Ideal) ℓ) (g : Dev Cert.SbOutBwdRefIdeal.nD → PrngReg), Pre_SbOutBwdRefIdeal m →
    θ_run (Cert.SbOutBwdRefIdeal.defs (F := Ideal)) (onTc (τ := Cert.SbOutBwdRefIdeal.τ) (Cert.SbOutBwdRefIdeal.main (F := Ideal))) ⟨m, fun _ => 0, g⟩ (fun r => (∀ c : Dev Cert.SbOutBwdRefIdeal.nD,
      r.2.mem ((c.tc : Thread Cert.SbOutBwdRefIdeal.nD Cert.SbOutBwdRefIdeal.τ).loc Cert.SbOutBwdRefIdeal.main_arg0) = m ((c.tc : Thread Cert.SbOutBwdRefIdeal.nD Cert.SbOutBwdRefIdeal.τ).loc Cert.SbOutBwdRefIdeal.main_arg0)
      ∧ r.2.mem ((c.tc : Thread Cert.SbOutBwdRefIdeal.nD Cert.SbOutBwdRefIdeal.τ).loc Cert.SbOutBwdRefIdeal.main_arg1) = m ((c.tc : Thread Cert.SbOutBwdRefIdeal.nD Cert.SbOutBwdRefIdeal.τ).loc Cert.SbOutBwdRefIdeal.main_arg1))
      ∧ r.2.sem = fun _ => 0)

def quiescent_DPleProj [hDPleProj : Cert.DPleProj.Facts] : Prop :=
  ∀ (m : (ℓ : Loc Cert.DPleProj.nD Cert.DPleProj.τ Cert.DPleProj.sig) → Buf (Elt Bits) ℓ) (g : Dev Cert.DPleProj.nD → PrngReg), Pre_DPleProj m →
    θ_run (Cert.DPleProj.defs (F := Bits)) (onTc (τ := Cert.DPleProj.τ) (Cert.DPleProj.main (F := Bits))) ⟨m, fun _ => 0, g⟩ (fun r => (∀ c : Dev Cert.DPleProj.nD,
      r.2.mem ((c.tc : Thread Cert.DPleProj.nD Cert.DPleProj.τ).loc Cert.DPleProj.main_arg0) = m ((c.tc : Thread Cert.DPleProj.nD Cert.DPleProj.τ).loc Cert.DPleProj.main_arg0)
      ∧ r.2.mem ((c.tc : Thread Cert.DPleProj.nD Cert.DPleProj.τ).loc Cert.DPleProj.main_arg1) = m ((c.tc : Thread Cert.DPleProj.nD Cert.DPleProj.τ).loc Cert.DPleProj.main_arg1))
      ∧ r.2.sem = fun _ => 0)

def quiescent_DPleProjIdeal [hDPleProjIdeal : Cert.DPleProjIdeal.Facts] : Prop :=
  ∀ (m : (ℓ : Loc Cert.DPleProjIdeal.nD Cert.DPleProjIdeal.τ Cert.DPleProjIdeal.sig) → Buf (Elt Ideal) ℓ) (g : Dev Cert.DPleProjIdeal.nD → PrngReg), Pre_DPleProjIdeal m →
    θ_run (Cert.DPleProjIdeal.defs (F := Ideal)) (onTc (τ := Cert.DPleProjIdeal.τ) (Cert.DPleProjIdeal.main (F := Ideal))) ⟨m, fun _ => 0, g⟩ (fun r => (∀ c : Dev Cert.DPleProjIdeal.nD,
      r.2.mem ((c.tc : Thread Cert.DPleProjIdeal.nD Cert.DPleProjIdeal.τ).loc Cert.DPleProjIdeal.main_arg0) = m ((c.tc : Thread Cert.DPleProjIdeal.nD Cert.DPleProjIdeal.τ).loc Cert.DPleProjIdeal.main_arg0)
      ∧ r.2.mem ((c.tc : Thread Cert.DPleProjIdeal.nD Cert.DPleProjIdeal.τ).loc Cert.DPleProjIdeal.main_arg1) = m ((c.tc : Thread Cert.DPleProjIdeal.nD Cert.DPleProjIdeal.τ).loc Cert.DPleProjIdeal.main_arg1))
      ∧ r.2.sem = fun _ => 0)

def quiescent_DPleProjRefIdeal [hDPleProjRefIdeal : Cert.DPleProjRefIdeal.Facts] : Prop :=
  ∀ (m : (ℓ : Loc Cert.DPleProjRefIdeal.nD Cert.DPleProjRefIdeal.τ Cert.DPleProjRefIdeal.sig) → Buf (Elt Ideal) ℓ) (g : Dev Cert.DPleProjRefIdeal.nD → PrngReg), Pre_DPleProjRefIdeal m →
    θ_run (Cert.DPleProjRefIdeal.defs (F := Ideal)) (onTc (τ := Cert.DPleProjRefIdeal.τ) (Cert.DPleProjRefIdeal.main (F := Ideal))) ⟨m, fun _ => 0, g⟩ (fun r => (∀ c : Dev Cert.DPleProjRefIdeal.nD,
      r.2.mem ((c.tc : Thread Cert.DPleProjRefIdeal.nD Cert.DPleProjRefIdeal.τ).loc Cert.DPleProjRefIdeal.main_arg0) = m ((c.tc : Thread Cert.DPleProjRefIdeal.nD Cert.DPleProjRefIdeal.τ).loc Cert.DPleProjRefIdeal.main_arg0)
      ∧ r.2.mem ((c.tc : Thread Cert.DPleProjRefIdeal.nD Cert.DPleProjRefIdeal.τ).loc Cert.DPleProjRefIdeal.main_arg1) = m ((c.tc : Thread Cert.DPleProjRefIdeal.nD Cert.DPleProjRefIdeal.τ).loc Cert.DPleProjRefIdeal.main_arg1))
      ∧ r.2.sem = fun _ => 0)

def quiescent_SsdOut [hSsdOut : Cert.SsdOut.Facts] : Prop :=
  ∀ (m : (ℓ : Loc Cert.SsdOut.nD Cert.SsdOut.τ Cert.SsdOut.sig) → Buf (Elt Bits) ℓ) (g : Dev Cert.SsdOut.nD → PrngReg), Pre_SsdOut m →
    θ_run (Cert.SsdOut.defs (F := Bits)) (onTc (τ := Cert.SsdOut.τ) (Cert.SsdOut.main (F := Bits))) ⟨m, fun _ => 0, g⟩ (fun r => (∀ c : Dev Cert.SsdOut.nD,
      r.2.mem ((c.tc : Thread Cert.SsdOut.nD Cert.SsdOut.τ).loc Cert.SsdOut.main_arg0) = m ((c.tc : Thread Cert.SsdOut.nD Cert.SsdOut.τ).loc Cert.SsdOut.main_arg0)
      ∧ r.2.mem ((c.tc : Thread Cert.SsdOut.nD Cert.SsdOut.τ).loc Cert.SsdOut.main_arg1) = m ((c.tc : Thread Cert.SsdOut.nD Cert.SsdOut.τ).loc Cert.SsdOut.main_arg1)
      ∧ r.2.mem ((c.tc : Thread Cert.SsdOut.nD Cert.SsdOut.τ).loc Cert.SsdOut.main_arg2) = m ((c.tc : Thread Cert.SsdOut.nD Cert.SsdOut.τ).loc Cert.SsdOut.main_arg2))
      ∧ r.2.sem = fun _ => 0)

def quiescent_SsdOutIdeal [hSsdOutIdeal : Cert.SsdOutIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg), Pre_SsdOutIdeal m →
    θ_run (Cert.SsdOutIdeal.defs (F := Ideal)) (onTc (τ := Cert.SsdOutIdeal.τ) (Cert.SsdOutIdeal.main (F := Ideal))) ⟨m, fun _ => 0, g⟩ (fun r => (∀ c : Dev Cert.SsdOutIdeal.nD,
      r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
      ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
      ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2))
      ∧ r.2.sem = fun _ => 0)

def quiescent_SsdOutRefIdeal [hSsdOutRefIdeal : Cert.SsdOutRefIdeal.Facts] : Prop :=
  ∀ (m : (ℓ : Loc Cert.SsdOutRefIdeal.nD Cert.SsdOutRefIdeal.τ Cert.SsdOutRefIdeal.sig) → Buf (Elt Ideal) ℓ) (g : Dev Cert.SsdOutRefIdeal.nD → PrngReg), Pre_SsdOutRefIdeal m →
    θ_run (Cert.SsdOutRefIdeal.defs (F := Ideal)) (onTc (τ := Cert.SsdOutRefIdeal.τ) (Cert.SsdOutRefIdeal.main (F := Ideal))) ⟨m, fun _ => 0, g⟩ (fun r => (∀ c : Dev Cert.SsdOutRefIdeal.nD,
      r.2.mem ((c.tc : Thread Cert.SsdOutRefIdeal.nD Cert.SsdOutRefIdeal.τ).loc Cert.SsdOutRefIdeal.main_arg0) = m ((c.tc : Thread Cert.SsdOutRefIdeal.nD Cert.SsdOutRefIdeal.τ).loc Cert.SsdOutRefIdeal.main_arg0)
      ∧ r.2.mem ((c.tc : Thread Cert.SsdOutRefIdeal.nD Cert.SsdOutRefIdeal.τ).loc Cert.SsdOutRefIdeal.main_arg1) = m ((c.tc : Thread Cert.SsdOutRefIdeal.nD Cert.SsdOutRefIdeal.τ).loc Cert.SsdOutRefIdeal.main_arg1)
      ∧ r.2.mem ((c.tc : Thread Cert.SsdOutRefIdeal.nD Cert.SsdOutRefIdeal.τ).loc Cert.SsdOutRefIdeal.main_arg2) = m ((c.tc : Thread Cert.SsdOutRefIdeal.nD Cert.SsdOutRefIdeal.τ).loc Cert.SsdOutRefIdeal.main_arg2))
      ∧ r.2.sem = fun _ => 0)

def quiescent_SbOut [hSbOut : Cert.SbOut.Facts] : Prop :=
  ∀ (m : (ℓ : Loc Cert.SbOut.nD Cert.SbOut.τ Cert.SbOut.sig) → Buf (Elt Bits) ℓ) (g : Dev Cert.SbOut.nD → PrngReg), Pre_SbOut m →
    θ_run (Cert.SbOut.defs (F := Bits)) (onTc (τ := Cert.SbOut.τ) (Cert.SbOut.main (F := Bits))) ⟨m, fun _ => 0, g⟩ (fun r => (∀ c : Dev Cert.SbOut.nD,
      r.2.mem ((c.tc : Thread Cert.SbOut.nD Cert.SbOut.τ).loc Cert.SbOut.main_arg0) = m ((c.tc : Thread Cert.SbOut.nD Cert.SbOut.τ).loc Cert.SbOut.main_arg0)
      ∧ r.2.mem ((c.tc : Thread Cert.SbOut.nD Cert.SbOut.τ).loc Cert.SbOut.main_arg1) = m ((c.tc : Thread Cert.SbOut.nD Cert.SbOut.τ).loc Cert.SbOut.main_arg1)
      ∧ r.2.mem ((c.tc : Thread Cert.SbOut.nD Cert.SbOut.τ).loc Cert.SbOut.main_arg2) = m ((c.tc : Thread Cert.SbOut.nD Cert.SbOut.τ).loc Cert.SbOut.main_arg2))
      ∧ r.2.sem = fun _ => 0)

def quiescent_SbOutIdeal [hSbOutIdeal : Cert.SbOutIdeal.Facts] : Prop :=
  ∀ (m : (ℓ : Loc Cert.SbOutIdeal.nD Cert.SbOutIdeal.τ Cert.SbOutIdeal.sig) → Buf (Elt Ideal) ℓ) (g : Dev Cert.SbOutIdeal.nD → PrngReg), Pre_SbOutIdeal m →
    θ_run (Cert.SbOutIdeal.defs (F := Ideal)) (onTc (τ := Cert.SbOutIdeal.τ) (Cert.SbOutIdeal.main (F := Ideal))) ⟨m, fun _ => 0, g⟩ (fun r => (∀ c : Dev Cert.SbOutIdeal.nD,
      r.2.mem ((c.tc : Thread Cert.SbOutIdeal.nD Cert.SbOutIdeal.τ).loc Cert.SbOutIdeal.main_arg0) = m ((c.tc : Thread Cert.SbOutIdeal.nD Cert.SbOutIdeal.τ).loc Cert.SbOutIdeal.main_arg0)
      ∧ r.2.mem ((c.tc : Thread Cert.SbOutIdeal.nD Cert.SbOutIdeal.τ).loc Cert.SbOutIdeal.main_arg1) = m ((c.tc : Thread Cert.SbOutIdeal.nD Cert.SbOutIdeal.τ).loc Cert.SbOutIdeal.main_arg1)
      ∧ r.2.mem ((c.tc : Thread Cert.SbOutIdeal.nD Cert.SbOutIdeal.τ).loc Cert.SbOutIdeal.main_arg2) = m ((c.tc : Thread Cert.SbOutIdeal.nD Cert.SbOutIdeal.τ).loc Cert.SbOutIdeal.main_arg2))
      ∧ r.2.sem = fun _ => 0)

def quiescent_SbOutRefIdeal [hSbOutRefIdeal : Cert.SbOutRefIdeal.Facts] : Prop :=
  ∀ (m : (ℓ : Loc Cert.SbOutRefIdeal.nD Cert.SbOutRefIdeal.τ Cert.SbOutRefIdeal.sig) → Buf (Elt Ideal) ℓ) (g : Dev Cert.SbOutRefIdeal.nD → PrngReg), Pre_SbOutRefIdeal m →
    θ_run (Cert.SbOutRefIdeal.defs (F := Ideal)) (onTc (τ := Cert.SbOutRefIdeal.τ) (Cert.SbOutRefIdeal.main (F := Ideal))) ⟨m, fun _ => 0, g⟩ (fun r => (∀ c : Dev Cert.SbOutRefIdeal.nD,
      r.2.mem ((c.tc : Thread Cert.SbOutRefIdeal.nD Cert.SbOutRefIdeal.τ).loc Cert.SbOutRefIdeal.main_arg0) = m ((c.tc : Thread Cert.SbOutRefIdeal.nD Cert.SbOutRefIdeal.τ).loc Cert.SbOutRefIdeal.main_arg0)
      ∧ r.2.mem ((c.tc : Thread Cert.SbOutRefIdeal.nD Cert.SbOutRefIdeal.τ).loc Cert.SbOutRefIdeal.main_arg1) = m ((c.tc : Thread Cert.SbOutRefIdeal.nD Cert.SbOutRefIdeal.τ).loc Cert.SbOutRefIdeal.main_arg1)
      ∧ r.2.mem ((c.tc : Thread Cert.SbOutRefIdeal.nD Cert.SbOutRefIdeal.τ).loc Cert.SbOutRefIdeal.main_arg2) = m ((c.tc : Thread Cert.SbOutRefIdeal.nD Cert.SbOutRefIdeal.τ).loc Cert.SbOutRefIdeal.main_arg2))
      ∧ r.2.sem = fun _ => 0)

def quiescent_PleGate [hPleGate : Cert.PleGate.Facts] : Prop :=
  ∀ (m : (ℓ : Loc Cert.PleGate.nD Cert.PleGate.τ Cert.PleGate.sig) → Buf (Elt Bits) ℓ) (g : Dev Cert.PleGate.nD → PrngReg), Pre_PleGate m →
    θ_run (Cert.PleGate.defs (F := Bits)) (onTc (τ := Cert.PleGate.τ) (Cert.PleGate.main (F := Bits))) ⟨m, fun _ => 0, g⟩ (fun r => (∀ c : Dev Cert.PleGate.nD,
      r.2.mem ((c.tc : Thread Cert.PleGate.nD Cert.PleGate.τ).loc Cert.PleGate.main_arg0) = m ((c.tc : Thread Cert.PleGate.nD Cert.PleGate.τ).loc Cert.PleGate.main_arg0)
      ∧ r.2.mem ((c.tc : Thread Cert.PleGate.nD Cert.PleGate.τ).loc Cert.PleGate.main_arg1) = m ((c.tc : Thread Cert.PleGate.nD Cert.PleGate.τ).loc Cert.PleGate.main_arg1))
      ∧ r.2.sem = fun _ => 0)

def quiescent_PleGateIdeal [hPleGateIdeal : Cert.PleGateIdeal.Facts] : Prop :=
  ∀ (m : (ℓ : Loc Cert.PleGateIdeal.nD Cert.PleGateIdeal.τ Cert.PleGateIdeal.sig) → Buf (Elt Ideal) ℓ) (g : Dev Cert.PleGateIdeal.nD → PrngReg), Pre_PleGateIdeal m →
    θ_run (Cert.PleGateIdeal.defs (F := Ideal)) (onTc (τ := Cert.PleGateIdeal.τ) (Cert.PleGateIdeal.main (F := Ideal))) ⟨m, fun _ => 0, g⟩ (fun r => (∀ c : Dev Cert.PleGateIdeal.nD,
      r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
      ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ r.2.sem = fun _ => 0)

def quiescent_PleGateRefIdeal [hPleGateRefIdeal : Cert.PleGateRefIdeal.Facts] : Prop :=
  ∀ (m : (ℓ : Loc Cert.PleGateRefIdeal.nD Cert.PleGateRefIdeal.τ Cert.PleGateRefIdeal.sig) → Buf (Elt Ideal) ℓ) (g : Dev Cert.PleGateRefIdeal.nD → PrngReg), Pre_PleGateRefIdeal m →
    θ_run (Cert.PleGateRefIdeal.defs (F := Ideal)) (onTc (τ := Cert.PleGateRefIdeal.τ) (Cert.PleGateRefIdeal.main (F := Ideal))) ⟨m, fun _ => 0, g⟩ (fun r => (∀ c : Dev Cert.PleGateRefIdeal.nD,
      r.2.mem ((c.tc : Thread Cert.PleGateRefIdeal.nD Cert.PleGateRefIdeal.τ).loc Cert.PleGateRefIdeal.main_arg0) = m ((c.tc : Thread Cert.PleGateRefIdeal.nD Cert.PleGateRefIdeal.τ).loc Cert.PleGateRefIdeal.main_arg0)
      ∧ r.2.mem ((c.tc : Thread Cert.PleGateRefIdeal.nD Cert.PleGateRefIdeal.τ).loc Cert.PleGateRefIdeal.main_arg1) = m ((c.tc : Thread Cert.PleGateRefIdeal.nD Cert.PleGateRefIdeal.τ).loc Cert.PleGateRefIdeal.main_arg1))
      ∧ r.2.sem = fun _ => 0)

def quiescent_PleProj [hPleProj : Cert.PleProj.Facts] : Prop :=
  ∀ (m : (ℓ : Loc Cert.PleProj.nD Cert.PleProj.τ Cert.PleProj.sig) → Buf (Elt Bits) ℓ) (g : Dev Cert.PleProj.nD → PrngReg), Pre_PleProj m →
    θ_run (Cert.PleProj.defs (F := Bits)) (onTc (τ := Cert.PleProj.τ) (Cert.PleProj.main (F := Bits))) ⟨m, fun _ => 0, g⟩ (fun r => (∀ c : Dev Cert.PleProj.nD,
      r.2.mem ((c.tc : Thread Cert.PleProj.nD Cert.PleProj.τ).loc Cert.PleProj.main_arg0) = m ((c.tc : Thread Cert.PleProj.nD Cert.PleProj.τ).loc Cert.PleProj.main_arg0)
      ∧ r.2.mem ((c.tc : Thread Cert.PleProj.nD Cert.PleProj.τ).loc Cert.PleProj.main_arg1) = m ((c.tc : Thread Cert.PleProj.nD Cert.PleProj.τ).loc Cert.PleProj.main_arg1))
      ∧ r.2.sem = fun _ => 0)

def quiescent_PleProjIdeal [hPleProjIdeal : Cert.PleProjIdeal.Facts] : Prop :=
  ∀ (m : (ℓ : Loc Cert.PleProjIdeal.nD Cert.PleProjIdeal.τ Cert.PleProjIdeal.sig) → Buf (Elt Ideal) ℓ) (g : Dev Cert.PleProjIdeal.nD → PrngReg), Pre_PleProjIdeal m →
    θ_run (Cert.PleProjIdeal.defs (F := Ideal)) (onTc (τ := Cert.PleProjIdeal.τ) (Cert.PleProjIdeal.main (F := Ideal))) ⟨m, fun _ => 0, g⟩ (fun r => (∀ c : Dev Cert.PleProjIdeal.nD,
      r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
      ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ r.2.sem = fun _ => 0)

def quiescent_PleProjRefIdeal [hPleProjRefIdeal : Cert.PleProjRefIdeal.Facts] : Prop :=
  ∀ (m : (ℓ : Loc Cert.PleProjRefIdeal.nD Cert.PleProjRefIdeal.τ Cert.PleProjRefIdeal.sig) → Buf (Elt Ideal) ℓ) (g : Dev Cert.PleProjRefIdeal.nD → PrngReg), Pre_PleProjRefIdeal m →
    θ_run (Cert.PleProjRefIdeal.defs (F := Ideal)) (onTc (τ := Cert.PleProjRefIdeal.τ) (Cert.PleProjRefIdeal.main (F := Ideal))) ⟨m, fun _ => 0, g⟩ (fun r => (∀ c : Dev Cert.PleProjRefIdeal.nD,
      r.2.mem ((c.tc : Thread Cert.PleProjRefIdeal.nD Cert.PleProjRefIdeal.τ).loc Cert.PleProjRefIdeal.main_arg0) = m ((c.tc : Thread Cert.PleProjRefIdeal.nD Cert.PleProjRefIdeal.τ).loc Cert.PleProjRefIdeal.main_arg0)
      ∧ r.2.mem ((c.tc : Thread Cert.PleProjRefIdeal.nD Cert.PleProjRefIdeal.τ).loc Cert.PleProjRefIdeal.main_arg1) = m ((c.tc : Thread Cert.PleProjRefIdeal.nD Cert.PleProjRefIdeal.τ).loc Cert.PleProjRefIdeal.main_arg1))
      ∧ r.2.sem = fun _ => 0)

def quiescent_AdamSsdIn [hAdamSsdIn : Cert.AdamSsdIn.Facts] : Prop :=
  ∀ (m : (ℓ : Loc Cert.AdamSsdIn.nD Cert.AdamSsdIn.τ Cert.AdamSsdIn.sig) → Buf (Elt Bits) ℓ) (g : Dev Cert.AdamSsdIn.nD → PrngReg), Pre_AdamSsdIn m →
    θ_run (Cert.AdamSsdIn.defs (F := Bits)) (onTc (τ := Cert.AdamSsdIn.τ) (Cert.AdamSsdIn.main (F := Bits))) ⟨m, fun _ => 0, g⟩ (fun r => (∀ c : Dev Cert.AdamSsdIn.nD,
      r.2.mem ((c.tc : Thread Cert.AdamSsdIn.nD Cert.AdamSsdIn.τ).loc Cert.AdamSsdIn.main_arg0) = m ((c.tc : Thread Cert.AdamSsdIn.nD Cert.AdamSsdIn.τ).loc Cert.AdamSsdIn.main_arg0)
      ∧ r.2.mem ((c.tc : Thread Cert.AdamSsdIn.nD Cert.AdamSsdIn.τ).loc Cert.AdamSsdIn.main_arg1) = m ((c.tc : Thread Cert.AdamSsdIn.nD Cert.AdamSsdIn.τ).loc Cert.AdamSsdIn.main_arg1)
      ∧ r.2.mem ((c.tc : Thread Cert.AdamSsdIn.nD Cert.AdamSsdIn.τ).loc Cert.AdamSsdIn.main_arg2) = m ((c.tc : Thread Cert.AdamSsdIn.nD Cert.AdamSsdIn.τ).loc Cert.AdamSsdIn.main_arg2)
      ∧ r.2.mem ((c.tc : Thread Cert.AdamSsdIn.nD Cert.AdamSsdIn.τ).loc Cert.AdamSsdIn.main_arg3) = m ((c.tc : Thread Cert.AdamSsdIn.nD Cert.AdamSsdIn.τ).loc Cert.AdamSsdIn.main_arg3))
      ∧ r.2.sem = fun _ => 0)

def quiescent_AdamSsdInIdeal [hAdamSsdInIdeal : Cert.AdamSsdInIdeal.Facts] : Prop :=
  ∀ (m : (ℓ : Loc Cert.AdamSsdInIdeal.nD Cert.AdamSsdInIdeal.τ Cert.AdamSsdInIdeal.sig) → Buf (Elt Ideal) ℓ) (g : Dev Cert.AdamSsdInIdeal.nD → PrngReg), Pre_AdamSsdInIdeal m →
    θ_run (Cert.AdamSsdInIdeal.defs (F := Ideal)) (onTc (τ := Cert.AdamSsdInIdeal.τ) (Cert.AdamSsdInIdeal.main (F := Ideal))) ⟨m, fun _ => 0, g⟩ (fun r => (∀ c : Dev Cert.AdamSsdInIdeal.nD,
      r.2.mem ((c.tc : Thread Cert.AdamSsdInIdeal.nD Cert.AdamSsdInIdeal.τ).loc Cert.AdamSsdInIdeal.main_arg0) = m ((c.tc : Thread Cert.AdamSsdInIdeal.nD Cert.AdamSsdInIdeal.τ).loc Cert.AdamSsdInIdeal.main_arg0)
      ∧ r.2.mem ((c.tc : Thread Cert.AdamSsdInIdeal.nD Cert.AdamSsdInIdeal.τ).loc Cert.AdamSsdInIdeal.main_arg1) = m ((c.tc : Thread Cert.AdamSsdInIdeal.nD Cert.AdamSsdInIdeal.τ).loc Cert.AdamSsdInIdeal.main_arg1)
      ∧ r.2.mem ((c.tc : Thread Cert.AdamSsdInIdeal.nD Cert.AdamSsdInIdeal.τ).loc Cert.AdamSsdInIdeal.main_arg2) = m ((c.tc : Thread Cert.AdamSsdInIdeal.nD Cert.AdamSsdInIdeal.τ).loc Cert.AdamSsdInIdeal.main_arg2)
      ∧ r.2.mem ((c.tc : Thread Cert.AdamSsdInIdeal.nD Cert.AdamSsdInIdeal.τ).loc Cert.AdamSsdInIdeal.main_arg3) = m ((c.tc : Thread Cert.AdamSsdInIdeal.nD Cert.AdamSsdInIdeal.τ).loc Cert.AdamSsdInIdeal.main_arg3))
      ∧ r.2.sem = fun _ => 0)

def quiescent_AdamSsdInRefIdeal [hAdamSsdInRefIdeal : Cert.AdamSsdInRefIdeal.Facts] : Prop :=
  ∀ (m : (ℓ : Loc Cert.AdamSsdInRefIdeal.nD Cert.AdamSsdInRefIdeal.τ Cert.AdamSsdInRefIdeal.sig) → Buf (Elt Ideal) ℓ) (g : Dev Cert.AdamSsdInRefIdeal.nD → PrngReg), Pre_AdamSsdInRefIdeal m →
    θ_run (Cert.AdamSsdInRefIdeal.defs (F := Ideal)) (onTc (τ := Cert.AdamSsdInRefIdeal.τ) (Cert.AdamSsdInRefIdeal.main (F := Ideal))) ⟨m, fun _ => 0, g⟩ (fun r => (∀ c : Dev Cert.AdamSsdInRefIdeal.nD,
      r.2.mem ((c.tc : Thread Cert.AdamSsdInRefIdeal.nD Cert.AdamSsdInRefIdeal.τ).loc Cert.AdamSsdInRefIdeal.main_arg0) = m ((c.tc : Thread Cert.AdamSsdInRefIdeal.nD Cert.AdamSsdInRefIdeal.τ).loc Cert.AdamSsdInRefIdeal.main_arg0)
      ∧ r.2.mem ((c.tc : Thread Cert.AdamSsdInRefIdeal.nD Cert.AdamSsdInRefIdeal.τ).loc Cert.AdamSsdInRefIdeal.main_arg1) = m ((c.tc : Thread Cert.AdamSsdInRefIdeal.nD Cert.AdamSsdInRefIdeal.τ).loc Cert.AdamSsdInRefIdeal.main_arg1)
      ∧ r.2.mem ((c.tc : Thread Cert.AdamSsdInRefIdeal.nD Cert.AdamSsdInRefIdeal.τ).loc Cert.AdamSsdInRefIdeal.main_arg2) = m ((c.tc : Thread Cert.AdamSsdInRefIdeal.nD Cert.AdamSsdInRefIdeal.τ).loc Cert.AdamSsdInRefIdeal.main_arg2)
      ∧ r.2.mem ((c.tc : Thread Cert.AdamSsdInRefIdeal.nD Cert.AdamSsdInRefIdeal.τ).loc Cert.AdamSsdInRefIdeal.main_arg3) = m ((c.tc : Thread Cert.AdamSsdInRefIdeal.nD Cert.AdamSsdInRefIdeal.τ).loc Cert.AdamSsdInRefIdeal.main_arg3))
      ∧ r.2.sem = fun _ => 0)

def quiescent_AdamSsdOut [hAdamSsdOut : Cert.AdamSsdOut.Facts] : Prop :=
  ∀ (m : (ℓ : Loc Cert.AdamSsdOut.nD Cert.AdamSsdOut.τ Cert.AdamSsdOut.sig) → Buf (Elt Bits) ℓ) (g : Dev Cert.AdamSsdOut.nD → PrngReg), Pre_AdamSsdOut m →
    θ_run (Cert.AdamSsdOut.defs (F := Bits)) (onTc (τ := Cert.AdamSsdOut.τ) (Cert.AdamSsdOut.main (F := Bits))) ⟨m, fun _ => 0, g⟩ (fun r => (∀ c : Dev Cert.AdamSsdOut.nD,
      r.2.mem ((c.tc : Thread Cert.AdamSsdOut.nD Cert.AdamSsdOut.τ).loc Cert.AdamSsdOut.main_arg0) = m ((c.tc : Thread Cert.AdamSsdOut.nD Cert.AdamSsdOut.τ).loc Cert.AdamSsdOut.main_arg0)
      ∧ r.2.mem ((c.tc : Thread Cert.AdamSsdOut.nD Cert.AdamSsdOut.τ).loc Cert.AdamSsdOut.main_arg1) = m ((c.tc : Thread Cert.AdamSsdOut.nD Cert.AdamSsdOut.τ).loc Cert.AdamSsdOut.main_arg1)
      ∧ r.2.mem ((c.tc : Thread Cert.AdamSsdOut.nD Cert.AdamSsdOut.τ).loc Cert.AdamSsdOut.main_arg2) = m ((c.tc : Thread Cert.AdamSsdOut.nD Cert.AdamSsdOut.τ).loc Cert.AdamSsdOut.main_arg2)
      ∧ r.2.mem ((c.tc : Thread Cert.AdamSsdOut.nD Cert.AdamSsdOut.τ).loc Cert.AdamSsdOut.main_arg3) = m ((c.tc : Thread Cert.AdamSsdOut.nD Cert.AdamSsdOut.τ).loc Cert.AdamSsdOut.main_arg3))
      ∧ r.2.sem = fun _ => 0)

def quiescent_AdamSsdOutIdeal [hAdamSsdOutIdeal : Cert.AdamSsdOutIdeal.Facts] : Prop :=
  ∀ (m : (ℓ : Loc Cert.AdamSsdOutIdeal.nD Cert.AdamSsdOutIdeal.τ Cert.AdamSsdOutIdeal.sig) → Buf (Elt Ideal) ℓ) (g : Dev Cert.AdamSsdOutIdeal.nD → PrngReg), Pre_AdamSsdOutIdeal m →
    θ_run (Cert.AdamSsdOutIdeal.defs (F := Ideal)) (onTc (τ := Cert.AdamSsdOutIdeal.τ) (Cert.AdamSsdOutIdeal.main (F := Ideal))) ⟨m, fun _ => 0, g⟩ (fun r => (∀ c : Dev Cert.AdamSsdOutIdeal.nD,
      r.2.mem ((c.tc : Thread Cert.AdamSsdOutIdeal.nD Cert.AdamSsdOutIdeal.τ).loc Cert.AdamSsdOutIdeal.main_arg0) = m ((c.tc : Thread Cert.AdamSsdOutIdeal.nD Cert.AdamSsdOutIdeal.τ).loc Cert.AdamSsdOutIdeal.main_arg0)
      ∧ r.2.mem ((c.tc : Thread Cert.AdamSsdOutIdeal.nD Cert.AdamSsdOutIdeal.τ).loc Cert.AdamSsdOutIdeal.main_arg1) = m ((c.tc : Thread Cert.AdamSsdOutIdeal.nD Cert.AdamSsdOutIdeal.τ).loc Cert.AdamSsdOutIdeal.main_arg1)
      ∧ r.2.mem ((c.tc : Thread Cert.AdamSsdOutIdeal.nD Cert.AdamSsdOutIdeal.τ).loc Cert.AdamSsdOutIdeal.main_arg2) = m ((c.tc : Thread Cert.AdamSsdOutIdeal.nD Cert.AdamSsdOutIdeal.τ).loc Cert.AdamSsdOutIdeal.main_arg2)
      ∧ r.2.mem ((c.tc : Thread Cert.AdamSsdOutIdeal.nD Cert.AdamSsdOutIdeal.τ).loc Cert.AdamSsdOutIdeal.main_arg3) = m ((c.tc : Thread Cert.AdamSsdOutIdeal.nD Cert.AdamSsdOutIdeal.τ).loc Cert.AdamSsdOutIdeal.main_arg3))
      ∧ r.2.sem = fun _ => 0)

def quiescent_AdamSsdOutRefIdeal [hAdamSsdOutRefIdeal : Cert.AdamSsdOutRefIdeal.Facts] : Prop :=
  ∀ (m : (ℓ : Loc Cert.AdamSsdOutRefIdeal.nD Cert.AdamSsdOutRefIdeal.τ Cert.AdamSsdOutRefIdeal.sig) → Buf (Elt Ideal) ℓ) (g : Dev Cert.AdamSsdOutRefIdeal.nD → PrngReg), Pre_AdamSsdOutRefIdeal m →
    θ_run (Cert.AdamSsdOutRefIdeal.defs (F := Ideal)) (onTc (τ := Cert.AdamSsdOutRefIdeal.τ) (Cert.AdamSsdOutRefIdeal.main (F := Ideal))) ⟨m, fun _ => 0, g⟩ (fun r => (∀ c : Dev Cert.AdamSsdOutRefIdeal.nD,
      r.2.mem ((c.tc : Thread Cert.AdamSsdOutRefIdeal.nD Cert.AdamSsdOutRefIdeal.τ).loc Cert.AdamSsdOutRefIdeal.main_arg0) = m ((c.tc : Thread Cert.AdamSsdOutRefIdeal.nD Cert.AdamSsdOutRefIdeal.τ).loc Cert.AdamSsdOutRefIdeal.main_arg0)
      ∧ r.2.mem ((c.tc : Thread Cert.AdamSsdOutRefIdeal.nD Cert.AdamSsdOutRefIdeal.τ).loc Cert.AdamSsdOutRefIdeal.main_arg1) = m ((c.tc : Thread Cert.AdamSsdOutRefIdeal.nD Cert.AdamSsdOutRefIdeal.τ).loc Cert.AdamSsdOutRefIdeal.main_arg1)
      ∧ r.2.mem ((c.tc : Thread Cert.AdamSsdOutRefIdeal.nD Cert.AdamSsdOutRefIdeal.τ).loc Cert.AdamSsdOutRefIdeal.main_arg2) = m ((c.tc : Thread Cert.AdamSsdOutRefIdeal.nD Cert.AdamSsdOutRefIdeal.τ).loc Cert.AdamSsdOutRefIdeal.main_arg2)
      ∧ r.2.mem ((c.tc : Thread Cert.AdamSsdOutRefIdeal.nD Cert.AdamSsdOutRefIdeal.τ).loc Cert.AdamSsdOutRefIdeal.main_arg3) = m ((c.tc : Thread Cert.AdamSsdOutRefIdeal.nD Cert.AdamSsdOutRefIdeal.τ).loc Cert.AdamSsdOutRefIdeal.main_arg3))
      ∧ r.2.sem = fun _ => 0)

def quiescent_AdamSbIn [hAdamSbIn : Cert.AdamSbIn.Facts] : Prop :=
  ∀ (m : (ℓ : Loc Cert.AdamSbIn.nD Cert.AdamSbIn.τ Cert.AdamSbIn.sig) → Buf (Elt Bits) ℓ) (g : Dev Cert.AdamSbIn.nD → PrngReg), Pre_AdamSbIn m →
    θ_run (Cert.AdamSbIn.defs (F := Bits)) (onTc (τ := Cert.AdamSbIn.τ) (Cert.AdamSbIn.main (F := Bits))) ⟨m, fun _ => 0, g⟩ (fun r => (∀ c : Dev Cert.AdamSbIn.nD,
      r.2.mem ((c.tc : Thread Cert.AdamSbIn.nD Cert.AdamSbIn.τ).loc Cert.AdamSbIn.main_arg0) = m ((c.tc : Thread Cert.AdamSbIn.nD Cert.AdamSbIn.τ).loc Cert.AdamSbIn.main_arg0)
      ∧ r.2.mem ((c.tc : Thread Cert.AdamSbIn.nD Cert.AdamSbIn.τ).loc Cert.AdamSbIn.main_arg1) = m ((c.tc : Thread Cert.AdamSbIn.nD Cert.AdamSbIn.τ).loc Cert.AdamSbIn.main_arg1)
      ∧ r.2.mem ((c.tc : Thread Cert.AdamSbIn.nD Cert.AdamSbIn.τ).loc Cert.AdamSbIn.main_arg2) = m ((c.tc : Thread Cert.AdamSbIn.nD Cert.AdamSbIn.τ).loc Cert.AdamSbIn.main_arg2)
      ∧ r.2.mem ((c.tc : Thread Cert.AdamSbIn.nD Cert.AdamSbIn.τ).loc Cert.AdamSbIn.main_arg3) = m ((c.tc : Thread Cert.AdamSbIn.nD Cert.AdamSbIn.τ).loc Cert.AdamSbIn.main_arg3))
      ∧ r.2.sem = fun _ => 0)

def quiescent_AdamSbInIdeal [hAdamSbInIdeal : Cert.AdamSbInIdeal.Facts] : Prop :=
  ∀ (m : (ℓ : Loc Cert.AdamSbInIdeal.nD Cert.AdamSbInIdeal.τ Cert.AdamSbInIdeal.sig) → Buf (Elt Ideal) ℓ) (g : Dev Cert.AdamSbInIdeal.nD → PrngReg), Pre_AdamSbInIdeal m →
    θ_run (Cert.AdamSbInIdeal.defs (F := Ideal)) (onTc (τ := Cert.AdamSbInIdeal.τ) (Cert.AdamSbInIdeal.main (F := Ideal))) ⟨m, fun _ => 0, g⟩ (fun r => (∀ c : Dev Cert.AdamSbInIdeal.nD,
      r.2.mem ((c.tc : Thread Cert.AdamSbInIdeal.nD Cert.AdamSbInIdeal.τ).loc Cert.AdamSbInIdeal.main_arg0) = m ((c.tc : Thread Cert.AdamSbInIdeal.nD Cert.AdamSbInIdeal.τ).loc Cert.AdamSbInIdeal.main_arg0)
      ∧ r.2.mem ((c.tc : Thread Cert.AdamSbInIdeal.nD Cert.AdamSbInIdeal.τ).loc Cert.AdamSbInIdeal.main_arg1) = m ((c.tc : Thread Cert.AdamSbInIdeal.nD Cert.AdamSbInIdeal.τ).loc Cert.AdamSbInIdeal.main_arg1)
      ∧ r.2.mem ((c.tc : Thread Cert.AdamSbInIdeal.nD Cert.AdamSbInIdeal.τ).loc Cert.AdamSbInIdeal.main_arg2) = m ((c.tc : Thread Cert.AdamSbInIdeal.nD Cert.AdamSbInIdeal.τ).loc Cert.AdamSbInIdeal.main_arg2)
      ∧ r.2.mem ((c.tc : Thread Cert.AdamSbInIdeal.nD Cert.AdamSbInIdeal.τ).loc Cert.AdamSbInIdeal.main_arg3) = m ((c.tc : Thread Cert.AdamSbInIdeal.nD Cert.AdamSbInIdeal.τ).loc Cert.AdamSbInIdeal.main_arg3))
      ∧ r.2.sem = fun _ => 0)

def quiescent_AdamSbInRefIdeal [hAdamSbInRefIdeal : Cert.AdamSbInRefIdeal.Facts] : Prop :=
  ∀ (m : (ℓ : Loc Cert.AdamSbInRefIdeal.nD Cert.AdamSbInRefIdeal.τ Cert.AdamSbInRefIdeal.sig) → Buf (Elt Ideal) ℓ) (g : Dev Cert.AdamSbInRefIdeal.nD → PrngReg), Pre_AdamSbInRefIdeal m →
    θ_run (Cert.AdamSbInRefIdeal.defs (F := Ideal)) (onTc (τ := Cert.AdamSbInRefIdeal.τ) (Cert.AdamSbInRefIdeal.main (F := Ideal))) ⟨m, fun _ => 0, g⟩ (fun r => (∀ c : Dev Cert.AdamSbInRefIdeal.nD,
      r.2.mem ((c.tc : Thread Cert.AdamSbInRefIdeal.nD Cert.AdamSbInRefIdeal.τ).loc Cert.AdamSbInRefIdeal.main_arg0) = m ((c.tc : Thread Cert.AdamSbInRefIdeal.nD Cert.AdamSbInRefIdeal.τ).loc Cert.AdamSbInRefIdeal.main_arg0)
      ∧ r.2.mem ((c.tc : Thread Cert.AdamSbInRefIdeal.nD Cert.AdamSbInRefIdeal.τ).loc Cert.AdamSbInRefIdeal.main_arg1) = m ((c.tc : Thread Cert.AdamSbInRefIdeal.nD Cert.AdamSbInRefIdeal.τ).loc Cert.AdamSbInRefIdeal.main_arg1)
      ∧ r.2.mem ((c.tc : Thread Cert.AdamSbInRefIdeal.nD Cert.AdamSbInRefIdeal.τ).loc Cert.AdamSbInRefIdeal.main_arg2) = m ((c.tc : Thread Cert.AdamSbInRefIdeal.nD Cert.AdamSbInRefIdeal.τ).loc Cert.AdamSbInRefIdeal.main_arg2)
      ∧ r.2.mem ((c.tc : Thread Cert.AdamSbInRefIdeal.nD Cert.AdamSbInRefIdeal.τ).loc Cert.AdamSbInRefIdeal.main_arg3) = m ((c.tc : Thread Cert.AdamSbInRefIdeal.nD Cert.AdamSbInRefIdeal.τ).loc Cert.AdamSbInRefIdeal.main_arg3))
      ∧ r.2.sem = fun _ => 0)

def quiescent_AdamSbOut [hAdamSbOut : Cert.AdamSbOut.Facts] : Prop :=
  ∀ (m : (ℓ : Loc Cert.AdamSbOut.nD Cert.AdamSbOut.τ Cert.AdamSbOut.sig) → Buf (Elt Bits) ℓ) (g : Dev Cert.AdamSbOut.nD → PrngReg), Pre_AdamSbOut m →
    θ_run (Cert.AdamSbOut.defs (F := Bits)) (onTc (τ := Cert.AdamSbOut.τ) (Cert.AdamSbOut.main (F := Bits))) ⟨m, fun _ => 0, g⟩ (fun r => (∀ c : Dev Cert.AdamSbOut.nD,
      r.2.mem ((c.tc : Thread Cert.AdamSbOut.nD Cert.AdamSbOut.τ).loc Cert.AdamSbOut.main_arg0) = m ((c.tc : Thread Cert.AdamSbOut.nD Cert.AdamSbOut.τ).loc Cert.AdamSbOut.main_arg0)
      ∧ r.2.mem ((c.tc : Thread Cert.AdamSbOut.nD Cert.AdamSbOut.τ).loc Cert.AdamSbOut.main_arg1) = m ((c.tc : Thread Cert.AdamSbOut.nD Cert.AdamSbOut.τ).loc Cert.AdamSbOut.main_arg1)
      ∧ r.2.mem ((c.tc : Thread Cert.AdamSbOut.nD Cert.AdamSbOut.τ).loc Cert.AdamSbOut.main_arg2) = m ((c.tc : Thread Cert.AdamSbOut.nD Cert.AdamSbOut.τ).loc Cert.AdamSbOut.main_arg2)
      ∧ r.2.mem ((c.tc : Thread Cert.AdamSbOut.nD Cert.AdamSbOut.τ).loc Cert.AdamSbOut.main_arg3) = m ((c.tc : Thread Cert.AdamSbOut.nD Cert.AdamSbOut.τ).loc Cert.AdamSbOut.main_arg3))
      ∧ r.2.sem = fun _ => 0)

def quiescent_AdamSbOutIdeal [hAdamSbOutIdeal : Cert.AdamSbOutIdeal.Facts] : Prop :=
  ∀ (m : (ℓ : Loc Cert.AdamSbOutIdeal.nD Cert.AdamSbOutIdeal.τ Cert.AdamSbOutIdeal.sig) → Buf (Elt Ideal) ℓ) (g : Dev Cert.AdamSbOutIdeal.nD → PrngReg), Pre_AdamSbOutIdeal m →
    θ_run (Cert.AdamSbOutIdeal.defs (F := Ideal)) (onTc (τ := Cert.AdamSbOutIdeal.τ) (Cert.AdamSbOutIdeal.main (F := Ideal))) ⟨m, fun _ => 0, g⟩ (fun r => (∀ c : Dev Cert.AdamSbOutIdeal.nD,
      r.2.mem ((c.tc : Thread Cert.AdamSbOutIdeal.nD Cert.AdamSbOutIdeal.τ).loc Cert.AdamSbOutIdeal.main_arg0) = m ((c.tc : Thread Cert.AdamSbOutIdeal.nD Cert.AdamSbOutIdeal.τ).loc Cert.AdamSbOutIdeal.main_arg0)
      ∧ r.2.mem ((c.tc : Thread Cert.AdamSbOutIdeal.nD Cert.AdamSbOutIdeal.τ).loc Cert.AdamSbOutIdeal.main_arg1) = m ((c.tc : Thread Cert.AdamSbOutIdeal.nD Cert.AdamSbOutIdeal.τ).loc Cert.AdamSbOutIdeal.main_arg1)
      ∧ r.2.mem ((c.tc : Thread Cert.AdamSbOutIdeal.nD Cert.AdamSbOutIdeal.τ).loc Cert.AdamSbOutIdeal.main_arg2) = m ((c.tc : Thread Cert.AdamSbOutIdeal.nD Cert.AdamSbOutIdeal.τ).loc Cert.AdamSbOutIdeal.main_arg2)
      ∧ r.2.mem ((c.tc : Thread Cert.AdamSbOutIdeal.nD Cert.AdamSbOutIdeal.τ).loc Cert.AdamSbOutIdeal.main_arg3) = m ((c.tc : Thread Cert.AdamSbOutIdeal.nD Cert.AdamSbOutIdeal.τ).loc Cert.AdamSbOutIdeal.main_arg3))
      ∧ r.2.sem = fun _ => 0)

def quiescent_AdamSbOutRefIdeal [hAdamSbOutRefIdeal : Cert.AdamSbOutRefIdeal.Facts] : Prop :=
  ∀ (m : (ℓ : Loc Cert.AdamSbOutRefIdeal.nD Cert.AdamSbOutRefIdeal.τ Cert.AdamSbOutRefIdeal.sig) → Buf (Elt Ideal) ℓ) (g : Dev Cert.AdamSbOutRefIdeal.nD → PrngReg), Pre_AdamSbOutRefIdeal m →
    θ_run (Cert.AdamSbOutRefIdeal.defs (F := Ideal)) (onTc (τ := Cert.AdamSbOutRefIdeal.τ) (Cert.AdamSbOutRefIdeal.main (F := Ideal))) ⟨m, fun _ => 0, g⟩ (fun r => (∀ c : Dev Cert.AdamSbOutRefIdeal.nD,
      r.2.mem ((c.tc : Thread Cert.AdamSbOutRefIdeal.nD Cert.AdamSbOutRefIdeal.τ).loc Cert.AdamSbOutRefIdeal.main_arg0) = m ((c.tc : Thread Cert.AdamSbOutRefIdeal.nD Cert.AdamSbOutRefIdeal.τ).loc Cert.AdamSbOutRefIdeal.main_arg0)
      ∧ r.2.mem ((c.tc : Thread Cert.AdamSbOutRefIdeal.nD Cert.AdamSbOutRefIdeal.τ).loc Cert.AdamSbOutRefIdeal.main_arg1) = m ((c.tc : Thread Cert.AdamSbOutRefIdeal.nD Cert.AdamSbOutRefIdeal.τ).loc Cert.AdamSbOutRefIdeal.main_arg1)
      ∧ r.2.mem ((c.tc : Thread Cert.AdamSbOutRefIdeal.nD Cert.AdamSbOutRefIdeal.τ).loc Cert.AdamSbOutRefIdeal.main_arg2) = m ((c.tc : Thread Cert.AdamSbOutRefIdeal.nD Cert.AdamSbOutRefIdeal.τ).loc Cert.AdamSbOutRefIdeal.main_arg2)
      ∧ r.2.mem ((c.tc : Thread Cert.AdamSbOutRefIdeal.nD Cert.AdamSbOutRefIdeal.τ).loc Cert.AdamSbOutRefIdeal.main_arg3) = m ((c.tc : Thread Cert.AdamSbOutRefIdeal.nD Cert.AdamSbOutRefIdeal.τ).loc Cert.AdamSbOutRefIdeal.main_arg3))
      ∧ r.2.sem = fun _ => 0)

def quiescent_AdamPleGate [hAdamPleGate : Cert.AdamPleGate.Facts] : Prop :=
  ∀ (m : (ℓ : Loc Cert.AdamPleGate.nD Cert.AdamPleGate.τ Cert.AdamPleGate.sig) → Buf (Elt Bits) ℓ) (g : Dev Cert.AdamPleGate.nD → PrngReg), Pre_AdamPleGate m →
    θ_run (Cert.AdamPleGate.defs (F := Bits)) (onTc (τ := Cert.AdamPleGate.τ) (Cert.AdamPleGate.main (F := Bits))) ⟨m, fun _ => 0, g⟩ (fun r => (∀ c : Dev Cert.AdamPleGate.nD,
      r.2.mem ((c.tc : Thread Cert.AdamPleGate.nD Cert.AdamPleGate.τ).loc Cert.AdamPleGate.main_arg0) = m ((c.tc : Thread Cert.AdamPleGate.nD Cert.AdamPleGate.τ).loc Cert.AdamPleGate.main_arg0)
      ∧ r.2.mem ((c.tc : Thread Cert.AdamPleGate.nD Cert.AdamPleGate.τ).loc Cert.AdamPleGate.main_arg1) = m ((c.tc : Thread Cert.AdamPleGate.nD Cert.AdamPleGate.τ).loc Cert.AdamPleGate.main_arg1)
      ∧ r.2.mem ((c.tc : Thread Cert.AdamPleGate.nD Cert.AdamPleGate.τ).loc Cert.AdamPleGate.main_arg2) = m ((c.tc : Thread Cert.AdamPleGate.nD Cert.AdamPleGate.τ).loc Cert.AdamPleGate.main_arg2)
      ∧ r.2.mem ((c.tc : Thread Cert.AdamPleGate.nD Cert.AdamPleGate.τ).loc Cert.AdamPleGate.main_arg3) = m ((c.tc : Thread Cert.AdamPleGate.nD Cert.AdamPleGate.τ).loc Cert.AdamPleGate.main_arg3))
      ∧ r.2.sem = fun _ => 0)

def quiescent_AdamPleGateIdeal [hAdamPleGateIdeal : Cert.AdamPleGateIdeal.Facts] : Prop :=
  ∀ (m : (ℓ : Loc Cert.AdamPleGateIdeal.nD Cert.AdamPleGateIdeal.τ Cert.AdamPleGateIdeal.sig) → Buf (Elt Ideal) ℓ) (g : Dev Cert.AdamPleGateIdeal.nD → PrngReg), Pre_AdamPleGateIdeal m →
    θ_run (Cert.AdamPleGateIdeal.defs (F := Ideal)) (onTc (τ := Cert.AdamPleGateIdeal.τ) (Cert.AdamPleGateIdeal.main (F := Ideal))) ⟨m, fun _ => 0, g⟩ (fun r => (∀ c : Dev Cert.AdamPleGateIdeal.nD,
      r.2.mem ((c.tc : Thread Cert.AdamPleGateIdeal.nD Cert.AdamPleGateIdeal.τ).loc Cert.AdamPleGateIdeal.main_arg0) = m ((c.tc : Thread Cert.AdamPleGateIdeal.nD Cert.AdamPleGateIdeal.τ).loc Cert.AdamPleGateIdeal.main_arg0)
      ∧ r.2.mem ((c.tc : Thread Cert.AdamPleGateIdeal.nD Cert.AdamPleGateIdeal.τ).loc Cert.AdamPleGateIdeal.main_arg1) = m ((c.tc : Thread Cert.AdamPleGateIdeal.nD Cert.AdamPleGateIdeal.τ).loc Cert.AdamPleGateIdeal.main_arg1)
      ∧ r.2.mem ((c.tc : Thread Cert.AdamPleGateIdeal.nD Cert.AdamPleGateIdeal.τ).loc Cert.AdamPleGateIdeal.main_arg2) = m ((c.tc : Thread Cert.AdamPleGateIdeal.nD Cert.AdamPleGateIdeal.τ).loc Cert.AdamPleGateIdeal.main_arg2)
      ∧ r.2.mem ((c.tc : Thread Cert.AdamPleGateIdeal.nD Cert.AdamPleGateIdeal.τ).loc Cert.AdamPleGateIdeal.main_arg3) = m ((c.tc : Thread Cert.AdamPleGateIdeal.nD Cert.AdamPleGateIdeal.τ).loc Cert.AdamPleGateIdeal.main_arg3))
      ∧ r.2.sem = fun _ => 0)

def quiescent_AdamPleGateRefIdeal [hAdamPleGateRefIdeal : Cert.AdamPleGateRefIdeal.Facts] : Prop :=
  ∀ (m : (ℓ : Loc Cert.AdamPleGateRefIdeal.nD Cert.AdamPleGateRefIdeal.τ Cert.AdamPleGateRefIdeal.sig) → Buf (Elt Ideal) ℓ) (g : Dev Cert.AdamPleGateRefIdeal.nD → PrngReg), Pre_AdamPleGateRefIdeal m →
    θ_run (Cert.AdamPleGateRefIdeal.defs (F := Ideal)) (onTc (τ := Cert.AdamPleGateRefIdeal.τ) (Cert.AdamPleGateRefIdeal.main (F := Ideal))) ⟨m, fun _ => 0, g⟩ (fun r => (∀ c : Dev Cert.AdamPleGateRefIdeal.nD,
      r.2.mem ((c.tc : Thread Cert.AdamPleGateRefIdeal.nD Cert.AdamPleGateRefIdeal.τ).loc Cert.AdamPleGateRefIdeal.main_arg0) = m ((c.tc : Thread Cert.AdamPleGateRefIdeal.nD Cert.AdamPleGateRefIdeal.τ).loc Cert.AdamPleGateRefIdeal.main_arg0)
      ∧ r.2.mem ((c.tc : Thread Cert.AdamPleGateRefIdeal.nD Cert.AdamPleGateRefIdeal.τ).loc Cert.AdamPleGateRefIdeal.main_arg1) = m ((c.tc : Thread Cert.AdamPleGateRefIdeal.nD Cert.AdamPleGateRefIdeal.τ).loc Cert.AdamPleGateRefIdeal.main_arg1)
      ∧ r.2.mem ((c.tc : Thread Cert.AdamPleGateRefIdeal.nD Cert.AdamPleGateRefIdeal.τ).loc Cert.AdamPleGateRefIdeal.main_arg2) = m ((c.tc : Thread Cert.AdamPleGateRefIdeal.nD Cert.AdamPleGateRefIdeal.τ).loc Cert.AdamPleGateRefIdeal.main_arg2)
      ∧ r.2.mem ((c.tc : Thread Cert.AdamPleGateRefIdeal.nD Cert.AdamPleGateRefIdeal.τ).loc Cert.AdamPleGateRefIdeal.main_arg3) = m ((c.tc : Thread Cert.AdamPleGateRefIdeal.nD Cert.AdamPleGateRefIdeal.τ).loc Cert.AdamPleGateRefIdeal.main_arg3))
      ∧ r.2.sem = fun _ => 0)

def quiescent_AdamPleProj [hAdamPleProj : Cert.AdamPleProj.Facts] : Prop :=
  ∀ (m : (ℓ : Loc Cert.AdamPleProj.nD Cert.AdamPleProj.τ Cert.AdamPleProj.sig) → Buf (Elt Bits) ℓ) (g : Dev Cert.AdamPleProj.nD → PrngReg), Pre_AdamPleProj m →
    θ_run (Cert.AdamPleProj.defs (F := Bits)) (onTc (τ := Cert.AdamPleProj.τ) (Cert.AdamPleProj.main (F := Bits))) ⟨m, fun _ => 0, g⟩ (fun r => (∀ c : Dev Cert.AdamPleProj.nD,
      r.2.mem ((c.tc : Thread Cert.AdamPleProj.nD Cert.AdamPleProj.τ).loc Cert.AdamPleProj.main_arg0) = m ((c.tc : Thread Cert.AdamPleProj.nD Cert.AdamPleProj.τ).loc Cert.AdamPleProj.main_arg0)
      ∧ r.2.mem ((c.tc : Thread Cert.AdamPleProj.nD Cert.AdamPleProj.τ).loc Cert.AdamPleProj.main_arg1) = m ((c.tc : Thread Cert.AdamPleProj.nD Cert.AdamPleProj.τ).loc Cert.AdamPleProj.main_arg1)
      ∧ r.2.mem ((c.tc : Thread Cert.AdamPleProj.nD Cert.AdamPleProj.τ).loc Cert.AdamPleProj.main_arg2) = m ((c.tc : Thread Cert.AdamPleProj.nD Cert.AdamPleProj.τ).loc Cert.AdamPleProj.main_arg2)
      ∧ r.2.mem ((c.tc : Thread Cert.AdamPleProj.nD Cert.AdamPleProj.τ).loc Cert.AdamPleProj.main_arg3) = m ((c.tc : Thread Cert.AdamPleProj.nD Cert.AdamPleProj.τ).loc Cert.AdamPleProj.main_arg3))
      ∧ r.2.sem = fun _ => 0)

def quiescent_AdamPleProjIdeal [hAdamPleProjIdeal : Cert.AdamPleProjIdeal.Facts] : Prop :=
  ∀ (m : (ℓ : Loc Cert.AdamPleProjIdeal.nD Cert.AdamPleProjIdeal.τ Cert.AdamPleProjIdeal.sig) → Buf (Elt Ideal) ℓ) (g : Dev Cert.AdamPleProjIdeal.nD → PrngReg), Pre_AdamPleProjIdeal m →
    θ_run (Cert.AdamPleProjIdeal.defs (F := Ideal)) (onTc (τ := Cert.AdamPleProjIdeal.τ) (Cert.AdamPleProjIdeal.main (F := Ideal))) ⟨m, fun _ => 0, g⟩ (fun r => (∀ c : Dev Cert.AdamPleProjIdeal.nD,
      r.2.mem ((c.tc : Thread Cert.AdamPleProjIdeal.nD Cert.AdamPleProjIdeal.τ).loc Cert.AdamPleProjIdeal.main_arg0) = m ((c.tc : Thread Cert.AdamPleProjIdeal.nD Cert.AdamPleProjIdeal.τ).loc Cert.AdamPleProjIdeal.main_arg0)
      ∧ r.2.mem ((c.tc : Thread Cert.AdamPleProjIdeal.nD Cert.AdamPleProjIdeal.τ).loc Cert.AdamPleProjIdeal.main_arg1) = m ((c.tc : Thread Cert.AdamPleProjIdeal.nD Cert.AdamPleProjIdeal.τ).loc Cert.AdamPleProjIdeal.main_arg1)
      ∧ r.2.mem ((c.tc : Thread Cert.AdamPleProjIdeal.nD Cert.AdamPleProjIdeal.τ).loc Cert.AdamPleProjIdeal.main_arg2) = m ((c.tc : Thread Cert.AdamPleProjIdeal.nD Cert.AdamPleProjIdeal.τ).loc Cert.AdamPleProjIdeal.main_arg2)
      ∧ r.2.mem ((c.tc : Thread Cert.AdamPleProjIdeal.nD Cert.AdamPleProjIdeal.τ).loc Cert.AdamPleProjIdeal.main_arg3) = m ((c.tc : Thread Cert.AdamPleProjIdeal.nD Cert.AdamPleProjIdeal.τ).loc Cert.AdamPleProjIdeal.main_arg3))
      ∧ r.2.sem = fun _ => 0)

def quiescent_AdamPleProjRefIdeal [hAdamPleProjRefIdeal : Cert.AdamPleProjRefIdeal.Facts] : Prop :=
  ∀ (m : (ℓ : Loc Cert.AdamPleProjRefIdeal.nD Cert.AdamPleProjRefIdeal.τ Cert.AdamPleProjRefIdeal.sig) → Buf (Elt Ideal) ℓ) (g : Dev Cert.AdamPleProjRefIdeal.nD → PrngReg), Pre_AdamPleProjRefIdeal m →
    θ_run (Cert.AdamPleProjRefIdeal.defs (F := Ideal)) (onTc (τ := Cert.AdamPleProjRefIdeal.τ) (Cert.AdamPleProjRefIdeal.main (F := Ideal))) ⟨m, fun _ => 0, g⟩ (fun r => (∀ c : Dev Cert.AdamPleProjRefIdeal.nD,
      r.2.mem ((c.tc : Thread Cert.AdamPleProjRefIdeal.nD Cert.AdamPleProjRefIdeal.τ).loc Cert.AdamPleProjRefIdeal.main_arg0) = m ((c.tc : Thread Cert.AdamPleProjRefIdeal.nD Cert.AdamPleProjRefIdeal.τ).loc Cert.AdamPleProjRefIdeal.main_arg0)
      ∧ r.2.mem ((c.tc : Thread Cert.AdamPleProjRefIdeal.nD Cert.AdamPleProjRefIdeal.τ).loc Cert.AdamPleProjRefIdeal.main_arg1) = m ((c.tc : Thread Cert.AdamPleProjRefIdeal.nD Cert.AdamPleProjRefIdeal.τ).loc Cert.AdamPleProjRefIdeal.main_arg1)
      ∧ r.2.mem ((c.tc : Thread Cert.AdamPleProjRefIdeal.nD Cert.AdamPleProjRefIdeal.τ).loc Cert.AdamPleProjRefIdeal.main_arg2) = m ((c.tc : Thread Cert.AdamPleProjRefIdeal.nD Cert.AdamPleProjRefIdeal.τ).loc Cert.AdamPleProjRefIdeal.main_arg2)
      ∧ r.2.mem ((c.tc : Thread Cert.AdamPleProjRefIdeal.nD Cert.AdamPleProjRefIdeal.τ).loc Cert.AdamPleProjRefIdeal.main_arg3) = m ((c.tc : Thread Cert.AdamPleProjRefIdeal.nD Cert.AdamPleProjRefIdeal.τ).loc Cert.AdamPleProjRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_PleFwd [hPleFwd : Cert.PleFwd.Facts] : Prop :=
  ∀ (m : (ℓ : Loc Cert.PleFwd.nD Cert.PleFwd.τ Cert.PleFwd.sig) → Buf (Elt Bits) ℓ) (g : Dev Cert.PleFwd.nD → PrngReg), Pre_PleFwd m →
    θ_run (Cert.PleFwd.defs (F := Bits)) (onTc (τ := Cert.PleFwd.τ) (Cert.PleFwd.main (F := Bits))) ⟨m, fun _ => 0, g⟩ (fun r => (∀ c : Dev Cert.PleFwd.nD,
      r.2.mem ((c.tc : Thread Cert.PleFwd.nD Cert.PleFwd.τ).loc Cert.PleFwd.main_arg0) = m ((c.tc : Thread Cert.PleFwd.nD Cert.PleFwd.τ).loc Cert.PleFwd.main_arg0)
      ∧ r.2.mem ((c.tc : Thread Cert.PleFwd.nD Cert.PleFwd.τ).loc Cert.PleFwd.main_arg1) = m ((c.tc : Thread Cert.PleFwd.nD Cert.PleFwd.τ).loc Cert.PleFwd.main_arg1)
      ∧ r.2.mem ((c.tc : Thread Cert.PleFwd.nD Cert.PleFwd.τ).loc Cert.PleFwd.main_arg2) = m ((c.tc : Thread Cert.PleFwd.nD Cert.PleFwd.τ).loc Cert.PleFwd.main_arg2))
      ∧ r.2.sem = fun _ => 0)

def quiescent_PleFwdIdeal [hPleFwdIdeal : Cert.PleFwdIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg), Pre_PleFwdIdeal m →
    θ_run (Cert.PleFwdIdeal.defs (F := Ideal)) (onTc (τ := Cert.PleFwdIdeal.τ) (Cert.PleFwdIdeal.main (F := Ideal))) ⟨m, fun _ => 0, g⟩ (fun r => (∀ c : Dev Cert.PleFwdIdeal.nD,
      r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
      ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
      ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2))
      ∧ r.2.sem = fun _ => 0)

def quiescent_PleFwdRefIdeal [hPleFwdRefIdeal : Cert.PleFwdRefIdeal.Facts] : Prop :=
  ∀ (m : (ℓ : Loc Cert.PleFwdRefIdeal.nD Cert.PleFwdRefIdeal.τ Cert.PleFwdRefIdeal.sig) → Buf (Elt Ideal) ℓ) (g : Dev Cert.PleFwdRefIdeal.nD → PrngReg), Pre_PleFwdRefIdeal m →
    θ_run (Cert.PleFwdRefIdeal.defs (F := Ideal)) (onTc (τ := Cert.PleFwdRefIdeal.τ) (Cert.PleFwdRefIdeal.main (F := Ideal))) ⟨m, fun _ => 0, g⟩ (fun r => (∀ c : Dev Cert.PleFwdRefIdeal.nD,
      r.2.mem ((c.tc : Thread Cert.PleFwdRefIdeal.nD Cert.PleFwdRefIdeal.τ).loc Cert.PleFwdRefIdeal.main_arg0) = m ((c.tc : Thread Cert.PleFwdRefIdeal.nD Cert.PleFwdRefIdeal.τ).loc Cert.PleFwdRefIdeal.main_arg0)
      ∧ r.2.mem ((c.tc : Thread Cert.PleFwdRefIdeal.nD Cert.PleFwdRefIdeal.τ).loc Cert.PleFwdRefIdeal.main_arg1) = m ((c.tc : Thread Cert.PleFwdRefIdeal.nD Cert.PleFwdRefIdeal.τ).loc Cert.PleFwdRefIdeal.main_arg1)
      ∧ r.2.mem ((c.tc : Thread Cert.PleFwdRefIdeal.nD Cert.PleFwdRefIdeal.τ).loc Cert.PleFwdRefIdeal.main_arg2) = m ((c.tc : Thread Cert.PleFwdRefIdeal.nD Cert.PleFwdRefIdeal.τ).loc Cert.PleFwdRefIdeal.main_arg2))
      ∧ r.2.sem = fun _ => 0)

def quiescent_QkFwd [hQkFwd : Cert.QkFwd.Facts] : Prop :=
  ∀ (m : (ℓ : Loc Cert.QkFwd.nD Cert.QkFwd.τ Cert.QkFwd.sig) → Buf (Elt Bits) ℓ) (g : Dev Cert.QkFwd.nD → PrngReg), Pre_QkFwd m →
    θ_run (Cert.QkFwd.defs (F := Bits)) (onTc (τ := Cert.QkFwd.τ) (Cert.QkFwd.main (F := Bits))) ⟨m, fun _ => 0, g⟩ (fun r => (∀ c : Dev Cert.QkFwd.nD,
      r.2.mem ((c.tc : Thread Cert.QkFwd.nD Cert.QkFwd.τ).loc Cert.QkFwd.main_arg0) = m ((c.tc : Thread Cert.QkFwd.nD Cert.QkFwd.τ).loc Cert.QkFwd.main_arg0)
      ∧ r.2.mem ((c.tc : Thread Cert.QkFwd.nD Cert.QkFwd.τ).loc Cert.QkFwd.main_arg1) = m ((c.tc : Thread Cert.QkFwd.nD Cert.QkFwd.τ).loc Cert.QkFwd.main_arg1)
      ∧ r.2.mem ((c.tc : Thread Cert.QkFwd.nD Cert.QkFwd.τ).loc Cert.QkFwd.main_arg2) = m ((c.tc : Thread Cert.QkFwd.nD Cert.QkFwd.τ).loc Cert.QkFwd.main_arg2))
      ∧ r.2.sem = fun _ => 0)

def quiescent_QkFwdIdeal [hQkFwdIdeal : Cert.QkFwdIdeal.Facts] : Prop :=
  ∀ (m : (ℓ : Loc Cert.QkFwdIdeal.nD Cert.QkFwdIdeal.τ Cert.QkFwdIdeal.sig) → Buf (Elt Ideal) ℓ) (g : Dev Cert.QkFwdIdeal.nD → PrngReg), Pre_QkFwdIdeal m →
    θ_run (Cert.QkFwdIdeal.defs (F := Ideal)) (onTc (τ := Cert.QkFwdIdeal.τ) (Cert.QkFwdIdeal.main (F := Ideal))) ⟨m, fun _ => 0, g⟩ (fun r => (∀ c : Dev Cert.QkFwdIdeal.nD,
      r.2.mem ((c.tc : Thread Cert.QkFwdIdeal.nD Cert.QkFwdIdeal.τ).loc Cert.QkFwdIdeal.main_arg0) = m ((c.tc : Thread Cert.QkFwdIdeal.nD Cert.QkFwdIdeal.τ).loc Cert.QkFwdIdeal.main_arg0)
      ∧ r.2.mem ((c.tc : Thread Cert.QkFwdIdeal.nD Cert.QkFwdIdeal.τ).loc Cert.QkFwdIdeal.main_arg1) = m ((c.tc : Thread Cert.QkFwdIdeal.nD Cert.QkFwdIdeal.τ).loc Cert.QkFwdIdeal.main_arg1)
      ∧ r.2.mem ((c.tc : Thread Cert.QkFwdIdeal.nD Cert.QkFwdIdeal.τ).loc Cert.QkFwdIdeal.main_arg2) = m ((c.tc : Thread Cert.QkFwdIdeal.nD Cert.QkFwdIdeal.τ).loc Cert.QkFwdIdeal.main_arg2))
      ∧ r.2.sem = fun _ => 0)

def quiescent_QkFwdRefIdeal [hQkFwdRefIdeal : Cert.QkFwdRefIdeal.Facts] : Prop :=
  ∀ (m : (ℓ : Loc Cert.QkFwdRefIdeal.nD Cert.QkFwdRefIdeal.τ Cert.QkFwdRefIdeal.sig) → Buf (Elt Ideal) ℓ) (g : Dev Cert.QkFwdRefIdeal.nD → PrngReg), Pre_QkFwdRefIdeal m →
    θ_run (Cert.QkFwdRefIdeal.defs (F := Ideal)) (onTc (τ := Cert.QkFwdRefIdeal.τ) (Cert.QkFwdRefIdeal.main (F := Ideal))) ⟨m, fun _ => 0, g⟩ (fun r => (∀ c : Dev Cert.QkFwdRefIdeal.nD,
      r.2.mem ((c.tc : Thread Cert.QkFwdRefIdeal.nD Cert.QkFwdRefIdeal.τ).loc Cert.QkFwdRefIdeal.main_arg0) = m ((c.tc : Thread Cert.QkFwdRefIdeal.nD Cert.QkFwdRefIdeal.τ).loc Cert.QkFwdRefIdeal.main_arg0)
      ∧ r.2.mem ((c.tc : Thread Cert.QkFwdRefIdeal.nD Cert.QkFwdRefIdeal.τ).loc Cert.QkFwdRefIdeal.main_arg1) = m ((c.tc : Thread Cert.QkFwdRefIdeal.nD Cert.QkFwdRefIdeal.τ).loc Cert.QkFwdRefIdeal.main_arg1)
      ∧ r.2.mem ((c.tc : Thread Cert.QkFwdRefIdeal.nD Cert.QkFwdRefIdeal.τ).loc Cert.QkFwdRefIdeal.main_arg2) = m ((c.tc : Thread Cert.QkFwdRefIdeal.nD Cert.QkFwdRefIdeal.τ).loc Cert.QkFwdRefIdeal.main_arg2))
      ∧ r.2.sem = fun _ => 0)

def preserves_SbKernel_SbKernelIdeal : Prop :=
  True

def algebraic_SbKernelIdeal_SbReferenceIdeal_pre_finite_inputs [hSbKernelIdeal : Cert.SbKernelIdeal.Facts] [hSbReferenceIdeal : Cert.SbReferenceIdeal.Facts] [hPre_finite_inputs : Cert.Pre_finite_inputs.Facts] : Prop :=
  ∀ (m : (ℓ : Loc Cert.SbKernelIdeal.nD Cert.SbKernelIdeal.τ Cert.SbKernelIdeal.sig) → Buf (Elt Ideal) ℓ) (g : Dev Cert.SbKernelIdeal.nD → PrngReg)
    (m' : (ℓ : Loc Cert.SbReferenceIdeal.nD Cert.SbReferenceIdeal.τ Cert.SbReferenceIdeal.sig) → Buf (Elt Ideal) ℓ) (g' : Dev Cert.SbReferenceIdeal.nD → PrngReg), Pre_SbKernelIdeal_finite_inputs m →
    (∀ c : Dev Cert.SbKernelIdeal.nD,
      m' ((c.tc : Thread Cert.SbReferenceIdeal.nD Cert.SbReferenceIdeal.τ).loc Cert.SbReferenceIdeal.main_arg0) = m ((c.tc : Thread Cert.SbKernelIdeal.nD Cert.SbKernelIdeal.τ).loc Cert.SbKernelIdeal.main_arg0)
      ∧ m' ((c.tc : Thread Cert.SbReferenceIdeal.nD Cert.SbReferenceIdeal.τ).loc Cert.SbReferenceIdeal.main_arg1) = m ((c.tc : Thread Cert.SbKernelIdeal.nD Cert.SbKernelIdeal.τ).loc Cert.SbKernelIdeal.main_arg1)
      ∧ m' ((c.tc : Thread Cert.SbReferenceIdeal.nD Cert.SbReferenceIdeal.τ).loc Cert.SbReferenceIdeal.main_arg2) = m ((c.tc : Thread Cert.SbKernelIdeal.nD Cert.SbKernelIdeal.τ).loc Cert.SbKernelIdeal.main_arg2)
      ∧ m' ((c.tc : Thread Cert.SbReferenceIdeal.nD Cert.SbReferenceIdeal.τ).loc Cert.SbReferenceIdeal.main_arg3) = m ((c.tc : Thread Cert.SbKernelIdeal.nD Cert.SbKernelIdeal.τ).loc Cert.SbKernelIdeal.main_arg3)
      ∧ m' ((c.tc : Thread Cert.SbReferenceIdeal.nD Cert.SbReferenceIdeal.τ).loc Cert.SbReferenceIdeal.main_arg4) = m ((c.tc : Thread Cert.SbKernelIdeal.nD Cert.SbKernelIdeal.τ).loc Cert.SbKernelIdeal.main_arg4)) →
    ∃ (v0 : (c : Dev Cert.SbKernelIdeal.nD) → Buf (Elt Ideal) ((c.tc : Thread Cert.SbKernelIdeal.nD Cert.SbKernelIdeal.τ).loc Cert.SbKernelIdeal.main_v47_0)) (v1 : (c : Dev Cert.SbKernelIdeal.nD) → Buf (Elt Ideal) ((c.tc : Thread Cert.SbKernelIdeal.nD Cert.SbKernelIdeal.τ).loc Cert.SbKernelIdeal.main_v47_1)) (v2 : (c : Dev Cert.SbKernelIdeal.nD) → Buf (Elt Ideal) ((c.tc : Thread Cert.SbKernelIdeal.nD Cert.SbKernelIdeal.τ).loc Cert.SbKernelIdeal.main_v47_2)) (v3 : (c : Dev Cert.SbKernelIdeal.nD) → Buf (Elt Ideal) ((c.tc : Thread Cert.SbKernelIdeal.nD Cert.SbKernelIdeal.τ).loc Cert.SbKernelIdeal.main_v47_3)) (v4 : (c : Dev Cert.SbKernelIdeal.nD) → Buf (Elt Ideal) ((c.tc : Thread Cert.SbKernelIdeal.nD Cert.SbKernelIdeal.τ).loc Cert.SbKernelIdeal.main_v47_4)),
      θ_run (Cert.SbKernelIdeal.defs (F := Ideal)) (onTc (τ := Cert.SbKernelIdeal.τ) (Cert.SbKernelIdeal.main (F := Ideal))) ⟨m, fun _ => 0, g⟩ (fun r => ∀ c : Dev Cert.SbKernelIdeal.nD,
          r.2.mem ((c.tc : Thread Cert.SbKernelIdeal.nD Cert.SbKernelIdeal.τ).loc Cert.SbKernelIdeal.main_v47_0) = v0 c
          ∧ r.2.mem ((c.tc : Thread Cert.SbKernelIdeal.nD Cert.SbKernelIdeal.τ).loc Cert.SbKernelIdeal.main_v47_1) = v1 c
          ∧ r.2.mem ((c.tc : Thread Cert.SbKernelIdeal.nD Cert.SbKernelIdeal.τ).loc Cert.SbKernelIdeal.main_v47_2) = v2 c
          ∧ r.2.mem ((c.tc : Thread Cert.SbKernelIdeal.nD Cert.SbKernelIdeal.τ).loc Cert.SbKernelIdeal.main_v47_3) = v3 c
          ∧ r.2.mem ((c.tc : Thread Cert.SbKernelIdeal.nD Cert.SbKernelIdeal.τ).loc Cert.SbKernelIdeal.main_v47_4) = v4 c
          ∧ r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
          ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1)
          ∧ r.2.mem ((c.tc : Thread Cert.SbKernelIdeal.nD Cert.SbKernelIdeal.τ).loc Cert.SbKernelIdeal.main_arg2) = m ((c.tc : Thread Cert.SbKernelIdeal.nD Cert.SbKernelIdeal.τ).loc Cert.SbKernelIdeal.main_arg2)
          ∧ r.2.mem ((c.tc : Thread Cert.SbKernelIdeal.nD Cert.SbKernelIdeal.τ).loc Cert.SbKernelIdeal.main_arg3) = m ((c.tc : Thread Cert.SbKernelIdeal.nD Cert.SbKernelIdeal.τ).loc Cert.SbKernelIdeal.main_arg3)
          ∧ r.2.mem ((c.tc : Thread Cert.SbKernelIdeal.nD Cert.SbKernelIdeal.τ).loc Cert.SbKernelIdeal.main_arg4) = m ((c.tc : Thread Cert.SbKernelIdeal.nD Cert.SbKernelIdeal.τ).loc Cert.SbKernelIdeal.main_arg4))
      ∧ θ_run (Cert.SbReferenceIdeal.defs (F := Ideal)) (onTc (τ := Cert.SbReferenceIdeal.τ) (Cert.SbReferenceIdeal.main (F := Ideal))) ⟨m', fun _ => 0, g'⟩ (fun r => ∀ c : Dev Cert.SbReferenceIdeal.nD,
          r.2.mem ((c.tc : Thread Cert.SbReferenceIdeal.nD Cert.SbReferenceIdeal.τ).loc Cert.SbReferenceIdeal.main_v61) = v0 c
          ∧ r.2.mem ((c.tc : Thread Cert.SbReferenceIdeal.nD Cert.SbReferenceIdeal.τ).loc Cert.SbReferenceIdeal.main_v59) = v1 c
          ∧ r.2.mem ((c.tc : Thread Cert.SbReferenceIdeal.nD Cert.SbReferenceIdeal.τ).loc Cert.SbReferenceIdeal.main_v57) = v2 c
          ∧ r.2.mem ((c.tc : Thread Cert.SbReferenceIdeal.nD Cert.SbReferenceIdeal.τ).loc Cert.SbReferenceIdeal.main_v62) = v3 c
          ∧ r.2.mem ((c.tc : Thread Cert.SbReferenceIdeal.nD Cert.SbReferenceIdeal.τ).loc Cert.SbReferenceIdeal.main_v63) = v4 c
          ∧ r.2.mem ((c.tc : Thread Cert.SbReferenceIdeal.nD Cert.SbReferenceIdeal.τ).loc Cert.SbReferenceIdeal.main_arg0) = m' ((c.tc : Thread Cert.SbReferenceIdeal.nD Cert.SbReferenceIdeal.τ).loc Cert.SbReferenceIdeal.main_arg0)
          ∧ r.2.mem ((c.tc : Thread Cert.SbReferenceIdeal.nD Cert.SbReferenceIdeal.τ).loc Cert.SbReferenceIdeal.main_arg1) = m' ((c.tc : Thread Cert.SbReferenceIdeal.nD Cert.SbReferenceIdeal.τ).loc Cert.SbReferenceIdeal.main_arg1)
          ∧ r.2.mem ((c.tc : Thread Cert.SbReferenceIdeal.nD Cert.SbReferenceIdeal.τ).loc Cert.SbReferenceIdeal.main_arg2) = m' ((c.tc : Thread Cert.SbReferenceIdeal.nD Cert.SbReferenceIdeal.τ).loc Cert.SbReferenceIdeal.main_arg2)
          ∧ r.2.mem ((c.tc : Thread Cert.SbReferenceIdeal.nD Cert.SbReferenceIdeal.τ).loc Cert.SbReferenceIdeal.main_arg3) = m' ((c.tc : Thread Cert.SbReferenceIdeal.nD Cert.SbReferenceIdeal.τ).loc Cert.SbReferenceIdeal.main_arg3)
          ∧ r.2.mem ((c.tc : Thread Cert.SbReferenceIdeal.nD Cert.SbReferenceIdeal.τ).loc Cert.SbReferenceIdeal.main_arg4) = m' ((c.tc : Thread Cert.SbReferenceIdeal.nD Cert.SbReferenceIdeal.τ).loc Cert.SbReferenceIdeal.main_arg4))

def preserves_PleKernel_PleKernelIdeal : Prop :=
  True

def algebraic_PleKernelIdeal_PleReferenceIdeal [hPleKernelIdeal : Cert.PleKernelIdeal.Facts] [hPleReferenceIdeal : Cert.PleReferenceIdeal.Facts] : Prop :=
  ∀ (m : (ℓ : Loc Cert.PleKernelIdeal.nD Cert.PleKernelIdeal.τ Cert.PleKernelIdeal.sig) → Buf (Elt Ideal) ℓ) (g : Dev Cert.PleKernelIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleKernelIdeal m →
    (∀ c : Dev Cert.PleKernelIdeal.nD,
      m' ((c.tc : Thread Cert.PleReferenceIdeal.nD Cert.PleReferenceIdeal.τ).loc Cert.PleReferenceIdeal.main_arg0) = m ((c.tc : Thread Cert.PleKernelIdeal.nD Cert.PleKernelIdeal.τ).loc Cert.PleKernelIdeal.main_arg0)
      ∧ m' ((c.tc : Thread Cert.PleReferenceIdeal.nD Cert.PleReferenceIdeal.τ).loc Cert.PleReferenceIdeal.main_arg1) = m ((c.tc : Thread Cert.PleKernelIdeal.nD Cert.PleKernelIdeal.τ).loc Cert.PleKernelIdeal.main_arg1)
      ∧ m' ((c.tc : Thread Cert.PleReferenceIdeal.nD Cert.PleReferenceIdeal.τ).loc Cert.PleReferenceIdeal.main_arg2) = m ((c.tc : Thread Cert.PleKernelIdeal.nD Cert.PleKernelIdeal.τ).loc Cert.PleKernelIdeal.main_arg2)) →
    ∃ (v0 : (c : Dev Cert.PleKernelIdeal.nD) → Buf (Elt Ideal) ((c.tc : Thread Cert.PleKernelIdeal.nD Cert.PleKernelIdeal.τ).loc Cert.PleKernelIdeal.main_v0_0)) (v1 : (c : Dev Cert.PleKernelIdeal.nD) → Buf (Elt Ideal) ((c.tc : Thread Cert.PleKernelIdeal.nD Cert.PleKernelIdeal.τ).loc Cert.PleKernelIdeal.main_v0_1)),
      θ_run (Cert.PleKernelIdeal.defs (F := Ideal)) (onTc (τ := Cert.PleKernelIdeal.τ) (Cert.PleKernelIdeal.main (F := Ideal))) ⟨m, fun _ => 0, g⟩ (fun r => ∀ c : Dev Cert.PleKernelIdeal.nD,
          r.2.mem ((c.tc : Thread Cert.PleKernelIdeal.nD Cert.PleKernelIdeal.τ).loc Cert.PleKernelIdeal.main_v0_0) = v0 c
          ∧ r.2.mem ((c.tc : Thread Cert.PleKernelIdeal.nD Cert.PleKernelIdeal.τ).loc Cert.PleKernelIdeal.main_v0_1) = v1 c
          ∧ r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
          ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1)
          ∧ r.2.mem ((c.tc : Thread Cert.PleKernelIdeal.nD Cert.PleKernelIdeal.τ).loc Cert.PleKernelIdeal.main_arg2) = m ((c.tc : Thread Cert.PleKernelIdeal.nD Cert.PleKernelIdeal.τ).loc Cert.PleKernelIdeal.main_arg2))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v13) = v0 c
          ∧ r.2.mem ((c.tc : Thread Cert.PleReferenceIdeal.nD Cert.PleReferenceIdeal.τ).loc Cert.PleReferenceIdeal.main_v14) = v1 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2))

def preserves_DSsdIn_DSsdInIdeal : Prop :=
  True

def algebraic_DSsdInIdeal_DSsdInRefIdeal [hDSsdInIdeal : Cert.DSsdInIdeal.Facts] [hDSsdInRefIdeal : Cert.DSsdInRefIdeal.Facts] : Prop :=
  ∀ (m : (ℓ : Loc Cert.DSsdInIdeal.nD Cert.DSsdInIdeal.τ Cert.DSsdInIdeal.sig) → Buf (Elt Ideal) ℓ) (g : Dev Cert.DSsdInIdeal.nD → PrngReg)
    (m' : (ℓ : Loc Cert.DSsdInRefIdeal.nD Cert.DSsdInRefIdeal.τ Cert.DSsdInRefIdeal.sig) → Buf (Elt Ideal) ℓ) (g' : Dev Cert.DSsdInRefIdeal.nD → PrngReg), Pre_DSsdInIdeal m →
    (∀ c : Dev Cert.DSsdInIdeal.nD,
      m' ((c.tc : Thread Cert.DSsdInRefIdeal.nD Cert.DSsdInRefIdeal.τ).loc Cert.DSsdInRefIdeal.main_arg0) = m ((c.tc : Thread Cert.DSsdInIdeal.nD Cert.DSsdInIdeal.τ).loc Cert.DSsdInIdeal.main_arg0)
      ∧ m' ((c.tc : Thread Cert.DSsdInRefIdeal.nD Cert.DSsdInRefIdeal.τ).loc Cert.DSsdInRefIdeal.main_arg1) = m ((c.tc : Thread Cert.DSsdInIdeal.nD Cert.DSsdInIdeal.τ).loc Cert.DSsdInIdeal.main_arg1)) →
    ∃ (v0 : (c : Dev Cert.DSsdInIdeal.nD) → Buf (Elt Ideal) ((c.tc : Thread Cert.DSsdInIdeal.nD Cert.DSsdInIdeal.τ).loc Cert.DSsdInIdeal.main_v0)),
      θ_run (Cert.DSsdInIdeal.defs (F := Ideal)) (onTc (τ := Cert.DSsdInIdeal.τ) (Cert.DSsdInIdeal.main (F := Ideal))) ⟨m, fun _ => 0, g⟩ (fun r => ∀ c : Dev Cert.DSsdInIdeal.nD,
          r.2.mem ((c.tc : Thread Cert.DSsdInIdeal.nD Cert.DSsdInIdeal.τ).loc Cert.DSsdInIdeal.main_v0) = v0 c
          ∧ r.2.mem ((c.tc : Thread Cert.DSsdInIdeal.nD Cert.DSsdInIdeal.τ).loc Cert.DSsdInIdeal.main_arg0) = m ((c.tc : Thread Cert.DSsdInIdeal.nD Cert.DSsdInIdeal.τ).loc Cert.DSsdInIdeal.main_arg0)
          ∧ r.2.mem ((c.tc : Thread Cert.DSsdInIdeal.nD Cert.DSsdInIdeal.τ).loc Cert.DSsdInIdeal.main_arg1) = m ((c.tc : Thread Cert.DSsdInIdeal.nD Cert.DSsdInIdeal.τ).loc Cert.DSsdInIdeal.main_arg1))
      ∧ θ_run (Cert.DSsdInRefIdeal.defs (F := Ideal)) (onTc (τ := Cert.DSsdInRefIdeal.τ) (Cert.DSsdInRefIdeal.main (F := Ideal))) ⟨m', fun _ => 0, g'⟩ (fun r => ∀ c : Dev Cert.DSsdInRefIdeal.nD,
          r.2.mem ((c.tc : Thread Cert.DSsdInRefIdeal.nD Cert.DSsdInRefIdeal.τ).loc Cert.DSsdInRefIdeal.main_v7) = v0 c
          ∧ r.2.mem ((c.tc : Thread Cert.DSsdInRefIdeal.nD Cert.DSsdInRefIdeal.τ).loc Cert.DSsdInRefIdeal.main_arg0) = m' ((c.tc : Thread Cert.DSsdInRefIdeal.nD Cert.DSsdInRefIdeal.τ).loc Cert.DSsdInRefIdeal.main_arg0)
          ∧ r.2.mem ((c.tc : Thread Cert.DSsdInRefIdeal.nD Cert.DSsdInRefIdeal.τ).loc Cert.DSsdInRefIdeal.main_arg1) = m' ((c.tc : Thread Cert.DSsdInRefIdeal.nD Cert.DSsdInRefIdeal.τ).loc Cert.DSsdInRefIdeal.main_arg1))

def preserves_SsdInBwd_SsdInBwdIdeal : Prop :=
  True

def algebraic_SsdInBwdIdeal_SsdInBwdRefIdeal [hSsdInBwdIdeal : Cert.SsdInBwdIdeal.Facts] [hSsdInBwdRefIdeal : Cert.SsdInBwdRefIdeal.Facts] : Prop :=
  ∀ (m : (ℓ : Loc Cert.SsdInBwdIdeal.nD Cert.SsdInBwdIdeal.τ Cert.SsdInBwdIdeal.sig) → Buf (Elt Ideal) ℓ) (g : Dev Cert.SsdInBwdIdeal.nD → PrngReg)
    (m' : (ℓ : Loc Cert.SsdInBwdRefIdeal.nD Cert.SsdInBwdRefIdeal.τ Cert.SsdInBwdRefIdeal.sig) → Buf (Elt Ideal) ℓ) (g' : Dev Cert.SsdInBwdRefIdeal.nD → PrngReg), Pre_SsdInBwdIdeal m →
    (∀ c : Dev Cert.SsdInBwdIdeal.nD,
      m' ((c.tc : Thread Cert.SsdInBwdRefIdeal.nD Cert.SsdInBwdRefIdeal.τ).loc Cert.SsdInBwdRefIdeal.main_arg0) = m ((c.tc : Thread Cert.SsdInBwdIdeal.nD Cert.SsdInBwdIdeal.τ).loc Cert.SsdInBwdIdeal.main_arg0)
      ∧ m' ((c.tc : Thread Cert.SsdInBwdRefIdeal.nD Cert.SsdInBwdRefIdeal.τ).loc Cert.SsdInBwdRefIdeal.main_arg1) = m ((c.tc : Thread Cert.SsdInBwdIdeal.nD Cert.SsdInBwdIdeal.τ).loc Cert.SsdInBwdIdeal.main_arg1)) →
    ∃ (v0 : (c : Dev Cert.SsdInBwdIdeal.nD) → Buf (Elt Ideal) ((c.tc : Thread Cert.SsdInBwdIdeal.nD Cert.SsdInBwdIdeal.τ).loc Cert.SsdInBwdIdeal.main_v2)),
      θ_run (Cert.SsdInBwdIdeal.defs (F := Ideal)) (onTc (τ := Cert.SsdInBwdIdeal.τ) (Cert.SsdInBwdIdeal.main (F := Ideal))) ⟨m, fun _ => 0, g⟩ (fun r => ∀ c : Dev Cert.SsdInBwdIdeal.nD,
          r.2.mem ((c.tc : Thread Cert.SsdInBwdIdeal.nD Cert.SsdInBwdIdeal.τ).loc Cert.SsdInBwdIdeal.main_v2) = v0 c
          ∧ r.2.mem ((c.tc : Thread Cert.SsdInBwdIdeal.nD Cert.SsdInBwdIdeal.τ).loc Cert.SsdInBwdIdeal.main_arg0) = m ((c.tc : Thread Cert.SsdInBwdIdeal.nD Cert.SsdInBwdIdeal.τ).loc Cert.SsdInBwdIdeal.main_arg0)
          ∧ r.2.mem ((c.tc : Thread Cert.SsdInBwdIdeal.nD Cert.SsdInBwdIdeal.τ).loc Cert.SsdInBwdIdeal.main_arg1) = m ((c.tc : Thread Cert.SsdInBwdIdeal.nD Cert.SsdInBwdIdeal.τ).loc Cert.SsdInBwdIdeal.main_arg1))
      ∧ θ_run (Cert.SsdInBwdRefIdeal.defs (F := Ideal)) (onTc (τ := Cert.SsdInBwdRefIdeal.τ) (Cert.SsdInBwdRefIdeal.main (F := Ideal))) ⟨m', fun _ => 0, g'⟩ (fun r => ∀ c : Dev Cert.SsdInBwdRefIdeal.nD,
          r.2.mem ((c.tc : Thread Cert.SsdInBwdRefIdeal.nD Cert.SsdInBwdRefIdeal.τ).loc Cert.SsdInBwdRefIdeal.main_v6) = v0 c
          ∧ r.2.mem ((c.tc : Thread Cert.SsdInBwdRefIdeal.nD Cert.SsdInBwdRefIdeal.τ).loc Cert.SsdInBwdRefIdeal.main_arg0) = m' ((c.tc : Thread Cert.SsdInBwdRefIdeal.nD Cert.SsdInBwdRefIdeal.τ).loc Cert.SsdInBwdRefIdeal.main_arg0)
          ∧ r.2.mem ((c.tc : Thread Cert.SsdInBwdRefIdeal.nD Cert.SsdInBwdRefIdeal.τ).loc Cert.SsdInBwdRefIdeal.main_arg1) = m' ((c.tc : Thread Cert.SsdInBwdRefIdeal.nD Cert.SsdInBwdRefIdeal.τ).loc Cert.SsdInBwdRefIdeal.main_arg1))

def preserves_DSbIn_DSbInIdeal : Prop :=
  True

def algebraic_DSbInIdeal_DSbInRefIdeal [hDSbInIdeal : Cert.DSbInIdeal.Facts] [hDSbInRefIdeal : Cert.DSbInRefIdeal.Facts] : Prop :=
  ∀ (m : (ℓ : Loc Cert.DSbInIdeal.nD Cert.DSbInIdeal.τ Cert.DSbInIdeal.sig) → Buf (Elt Ideal) ℓ) (g : Dev Cert.DSbInIdeal.nD → PrngReg)
    (m' : (ℓ : Loc Cert.DSbInRefIdeal.nD Cert.DSbInRefIdeal.τ Cert.DSbInRefIdeal.sig) → Buf (Elt Ideal) ℓ) (g' : Dev Cert.DSbInRefIdeal.nD → PrngReg), Pre_DSbInIdeal m →
    (∀ c : Dev Cert.DSbInIdeal.nD,
      m' ((c.tc : Thread Cert.DSbInRefIdeal.nD Cert.DSbInRefIdeal.τ).loc Cert.DSbInRefIdeal.main_arg0) = m ((c.tc : Thread Cert.DSbInIdeal.nD Cert.DSbInIdeal.τ).loc Cert.DSbInIdeal.main_arg0)
      ∧ m' ((c.tc : Thread Cert.DSbInRefIdeal.nD Cert.DSbInRefIdeal.τ).loc Cert.DSbInRefIdeal.main_arg1) = m ((c.tc : Thread Cert.DSbInIdeal.nD Cert.DSbInIdeal.τ).loc Cert.DSbInIdeal.main_arg1)) →
    ∃ (v0 : (c : Dev Cert.DSbInIdeal.nD) → Buf (Elt Ideal) ((c.tc : Thread Cert.DSbInIdeal.nD Cert.DSbInIdeal.τ).loc Cert.DSbInIdeal.main_v0)),
      θ_run (Cert.DSbInIdeal.defs (F := Ideal)) (onTc (τ := Cert.DSbInIdeal.τ) (Cert.DSbInIdeal.main (F := Ideal))) ⟨m, fun _ => 0, g⟩ (fun r => ∀ c : Dev Cert.DSbInIdeal.nD,
          r.2.mem ((c.tc : Thread Cert.DSbInIdeal.nD Cert.DSbInIdeal.τ).loc Cert.DSbInIdeal.main_v0) = v0 c
          ∧ r.2.mem ((c.tc : Thread Cert.DSbInIdeal.nD Cert.DSbInIdeal.τ).loc Cert.DSbInIdeal.main_arg0) = m ((c.tc : Thread Cert.DSbInIdeal.nD Cert.DSbInIdeal.τ).loc Cert.DSbInIdeal.main_arg0)
          ∧ r.2.mem ((c.tc : Thread Cert.DSbInIdeal.nD Cert.DSbInIdeal.τ).loc Cert.DSbInIdeal.main_arg1) = m ((c.tc : Thread Cert.DSbInIdeal.nD Cert.DSbInIdeal.τ).loc Cert.DSbInIdeal.main_arg1))
      ∧ θ_run (Cert.DSbInRefIdeal.defs (F := Ideal)) (onTc (τ := Cert.DSbInRefIdeal.τ) (Cert.DSbInRefIdeal.main (F := Ideal))) ⟨m', fun _ => 0, g'⟩ (fun r => ∀ c : Dev Cert.DSbInRefIdeal.nD,
          r.2.mem ((c.tc : Thread Cert.DSbInRefIdeal.nD Cert.DSbInRefIdeal.τ).loc Cert.DSbInRefIdeal.main_v9) = v0 c
          ∧ r.2.mem ((c.tc : Thread Cert.DSbInRefIdeal.nD Cert.DSbInRefIdeal.τ).loc Cert.DSbInRefIdeal.main_arg0) = m' ((c.tc : Thread Cert.DSbInRefIdeal.nD Cert.DSbInRefIdeal.τ).loc Cert.DSbInRefIdeal.main_arg0)
          ∧ r.2.mem ((c.tc : Thread Cert.DSbInRefIdeal.nD Cert.DSbInRefIdeal.τ).loc Cert.DSbInRefIdeal.main_arg1) = m' ((c.tc : Thread Cert.DSbInRefIdeal.nD Cert.DSbInRefIdeal.τ).loc Cert.DSbInRefIdeal.main_arg1))

def preserves_SbInBwd_SbInBwdIdeal : Prop :=
  True

def algebraic_SbInBwdIdeal_SbInBwdRefIdeal [hSbInBwdIdeal : Cert.SbInBwdIdeal.Facts] [hSbInBwdRefIdeal : Cert.SbInBwdRefIdeal.Facts] : Prop :=
  ∀ (m : (ℓ : Loc Cert.SbInBwdIdeal.nD Cert.SbInBwdIdeal.τ Cert.SbInBwdIdeal.sig) → Buf (Elt Ideal) ℓ) (g : Dev Cert.SbInBwdIdeal.nD → PrngReg)
    (m' : (ℓ : Loc Cert.SbInBwdRefIdeal.nD Cert.SbInBwdRefIdeal.τ Cert.SbInBwdRefIdeal.sig) → Buf (Elt Ideal) ℓ) (g' : Dev Cert.SbInBwdRefIdeal.nD → PrngReg), Pre_SbInBwdIdeal m →
    (∀ c : Dev Cert.SbInBwdIdeal.nD,
      m' ((c.tc : Thread Cert.SbInBwdRefIdeal.nD Cert.SbInBwdRefIdeal.τ).loc Cert.SbInBwdRefIdeal.main_arg0) = m ((c.tc : Thread Cert.SbInBwdIdeal.nD Cert.SbInBwdIdeal.τ).loc Cert.SbInBwdIdeal.main_arg0)
      ∧ m' ((c.tc : Thread Cert.SbInBwdRefIdeal.nD Cert.SbInBwdRefIdeal.τ).loc Cert.SbInBwdRefIdeal.main_arg1) = m ((c.tc : Thread Cert.SbInBwdIdeal.nD Cert.SbInBwdIdeal.τ).loc Cert.SbInBwdIdeal.main_arg1)) →
    ∃ (v0 : (c : Dev Cert.SbInBwdIdeal.nD) → Buf (Elt Ideal) ((c.tc : Thread Cert.SbInBwdIdeal.nD Cert.SbInBwdIdeal.τ).loc Cert.SbInBwdIdeal.main_v3)),
      θ_run (Cert.SbInBwdIdeal.defs (F := Ideal)) (onTc (τ := Cert.SbInBwdIdeal.τ) (Cert.SbInBwdIdeal.main (F := Ideal))) ⟨m, fun _ => 0, g⟩ (fun r => ∀ c : Dev Cert.SbInBwdIdeal.nD,
          r.2.mem ((c.tc : Thread Cert.SbInBwdIdeal.nD Cert.SbInBwdIdeal.τ).loc Cert.SbInBwdIdeal.main_v3) = v0 c
          ∧ r.2.mem ((c.tc : Thread Cert.SbInBwdIdeal.nD Cert.SbInBwdIdeal.τ).loc Cert.SbInBwdIdeal.main_arg0) = m ((c.tc : Thread Cert.SbInBwdIdeal.nD Cert.SbInBwdIdeal.τ).loc Cert.SbInBwdIdeal.main_arg0)
          ∧ r.2.mem ((c.tc : Thread Cert.SbInBwdIdeal.nD Cert.SbInBwdIdeal.τ).loc Cert.SbInBwdIdeal.main_arg1) = m ((c.tc : Thread Cert.SbInBwdIdeal.nD Cert.SbInBwdIdeal.τ).loc Cert.SbInBwdIdeal.main_arg1))
      ∧ θ_run (Cert.SbInBwdRefIdeal.defs (F := Ideal)) (onTc (τ := Cert.SbInBwdRefIdeal.τ) (Cert.SbInBwdRefIdeal.main (F := Ideal))) ⟨m', fun _ => 0, g'⟩ (fun r => ∀ c : Dev Cert.SbInBwdRefIdeal.nD,
          r.2.mem ((c.tc : Thread Cert.SbInBwdRefIdeal.nD Cert.SbInBwdRefIdeal.τ).loc Cert.SbInBwdRefIdeal.main_v5) = v0 c
          ∧ r.2.mem ((c.tc : Thread Cert.SbInBwdRefIdeal.nD Cert.SbInBwdRefIdeal.τ).loc Cert.SbInBwdRefIdeal.main_arg0) = m' ((c.tc : Thread Cert.SbInBwdRefIdeal.nD Cert.SbInBwdRefIdeal.τ).loc Cert.SbInBwdRefIdeal.main_arg0)
          ∧ r.2.mem ((c.tc : Thread Cert.SbInBwdRefIdeal.nD Cert.SbInBwdRefIdeal.τ).loc Cert.SbInBwdRefIdeal.main_arg1) = m' ((c.tc : Thread Cert.SbInBwdRefIdeal.nD Cert.SbInBwdRefIdeal.τ).loc Cert.SbInBwdRefIdeal.main_arg1))

def preserves_SsdIn_SsdInIdeal : Prop :=
  True

def algebraic_SsdInIdeal_SsdInRefIdeal [hSsdInIdeal : Cert.SsdInIdeal.Facts] [hSsdInRefIdeal : Cert.SsdInRefIdeal.Facts] : Prop :=
  ∀ (m : (ℓ : Loc Cert.SsdInIdeal.nD Cert.SsdInIdeal.τ Cert.SsdInIdeal.sig) → Buf (Elt Ideal) ℓ) (g : Dev Cert.SsdInIdeal.nD → PrngReg)
    (m' : (ℓ : Loc Cert.SsdInRefIdeal.nD Cert.SsdInRefIdeal.τ Cert.SsdInRefIdeal.sig) → Buf (Elt Ideal) ℓ) (g' : Dev Cert.SsdInRefIdeal.nD → PrngReg), Pre_SsdInIdeal m →
    (∀ c : Dev Cert.SsdInIdeal.nD,
      m' ((c.tc : Thread Cert.SsdInRefIdeal.nD Cert.SsdInRefIdeal.τ).loc Cert.SsdInRefIdeal.main_arg0) = m ((c.tc : Thread Cert.SsdInIdeal.nD Cert.SsdInIdeal.τ).loc Cert.SsdInIdeal.main_arg0)
      ∧ m' ((c.tc : Thread Cert.SsdInRefIdeal.nD Cert.SsdInRefIdeal.τ).loc Cert.SsdInRefIdeal.main_arg1) = m ((c.tc : Thread Cert.SsdInIdeal.nD Cert.SsdInIdeal.τ).loc Cert.SsdInIdeal.main_arg1)) →
    ∃ (v0 : (c : Dev Cert.SsdInIdeal.nD) → Buf (Elt Ideal) ((c.tc : Thread Cert.SsdInIdeal.nD Cert.SsdInIdeal.τ).loc Cert.SsdInIdeal.main_v2)),
      θ_run (Cert.SsdInIdeal.defs (F := Ideal)) (onTc (τ := Cert.SsdInIdeal.τ) (Cert.SsdInIdeal.main (F := Ideal))) ⟨m, fun _ => 0, g⟩ (fun r => ∀ c : Dev Cert.SsdInIdeal.nD,
          r.2.mem ((c.tc : Thread Cert.SsdInIdeal.nD Cert.SsdInIdeal.τ).loc Cert.SsdInIdeal.main_v2) = v0 c
          ∧ r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
          ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1))
      ∧ θ_run (Cert.SsdInRefIdeal.defs (F := Ideal)) (onTc (τ := Cert.SsdInRefIdeal.τ) (Cert.SsdInRefIdeal.main (F := Ideal))) ⟨m', fun _ => 0, g'⟩ (fun r => ∀ c : Dev Cert.SsdInRefIdeal.nD,
          r.2.mem ((c.tc : Thread Cert.SsdInRefIdeal.nD Cert.SsdInRefIdeal.τ).loc Cert.SsdInRefIdeal.main_v4) = v0 c
          ∧ r.2.mem ((c.tc : Thread Cert.SsdInRefIdeal.nD Cert.SsdInRefIdeal.τ).loc Cert.SsdInRefIdeal.main_arg0) = m' ((c.tc : Thread Cert.SsdInRefIdeal.nD Cert.SsdInRefIdeal.τ).loc Cert.SsdInRefIdeal.main_arg0)
          ∧ r.2.mem ((c.tc : Thread Cert.SsdInRefIdeal.nD Cert.SsdInRefIdeal.τ).loc Cert.SsdInRefIdeal.main_arg1) = m' ((c.tc : Thread Cert.SsdInRefIdeal.nD Cert.SsdInRefIdeal.τ).loc Cert.SsdInRefIdeal.main_arg1))

def preserves_SbIn_SbInIdeal : Prop :=
  True

def algebraic_SbInIdeal_SbInRefIdeal [hSbInIdeal : Cert.SbInIdeal.Facts] [hSbInRefIdeal : Cert.SbInRefIdeal.Facts] : Prop :=
  ∀ (m : (ℓ : Loc Cert.SbInIdeal.nD Cert.SbInIdeal.τ Cert.SbInIdeal.sig) → Buf (Elt Ideal) ℓ) (g : Dev Cert.SbInIdeal.nD → PrngReg)
    (m' : (ℓ : Loc Cert.SbInRefIdeal.nD Cert.SbInRefIdeal.τ Cert.SbInRefIdeal.sig) → Buf (Elt Ideal) ℓ) (g' : Dev Cert.SbInRefIdeal.nD → PrngReg), Pre_SbInIdeal m →
    (∀ c : Dev Cert.SbInIdeal.nD,
      m' ((c.tc : Thread Cert.SbInRefIdeal.nD Cert.SbInRefIdeal.τ).loc Cert.SbInRefIdeal.main_arg0) = m ((c.tc : Thread Cert.SbInIdeal.nD Cert.SbInIdeal.τ).loc Cert.SbInIdeal.main_arg0)
      ∧ m' ((c.tc : Thread Cert.SbInRefIdeal.nD Cert.SbInRefIdeal.τ).loc Cert.SbInRefIdeal.main_arg1) = m ((c.tc : Thread Cert.SbInIdeal.nD Cert.SbInIdeal.τ).loc Cert.SbInIdeal.main_arg1)) →
    ∃ (v0 : (c : Dev Cert.SbInIdeal.nD) → Buf (Elt Ideal) ((c.tc : Thread Cert.SbInIdeal.nD Cert.SbInIdeal.τ).loc Cert.SbInIdeal.main_v3)),
      θ_run (Cert.SbInIdeal.defs (F := Ideal)) (onTc (τ := Cert.SbInIdeal.τ) (Cert.SbInIdeal.main (F := Ideal))) ⟨m, fun _ => 0, g⟩ (fun r => ∀ c : Dev Cert.SbInIdeal.nD,
          r.2.mem ((c.tc : Thread Cert.SbInIdeal.nD Cert.SbInIdeal.τ).loc Cert.SbInIdeal.main_v3) = v0 c
          ∧ r.2.mem ((c.tc : Thread Cert.SbInIdeal.nD Cert.SbInIdeal.τ).loc Cert.SbInIdeal.main_arg0) = m ((c.tc : Thread Cert.SbInIdeal.nD Cert.SbInIdeal.τ).loc Cert.SbInIdeal.main_arg0)
          ∧ r.2.mem ((c.tc : Thread Cert.SbInIdeal.nD Cert.SbInIdeal.τ).loc Cert.SbInIdeal.main_arg1) = m ((c.tc : Thread Cert.SbInIdeal.nD Cert.SbInIdeal.τ).loc Cert.SbInIdeal.main_arg1))
      ∧ θ_run (Cert.SbInRefIdeal.defs (F := Ideal)) (onTc (τ := Cert.SbInRefIdeal.τ) (Cert.SbInRefIdeal.main (F := Ideal))) ⟨m', fun _ => 0, g'⟩ (fun r => ∀ c : Dev Cert.SbInRefIdeal.nD,
          r.2.mem ((c.tc : Thread Cert.SbInRefIdeal.nD Cert.SbInRefIdeal.τ).loc Cert.SbInRefIdeal.main_v3) = v0 c
          ∧ r.2.mem ((c.tc : Thread Cert.SbInRefIdeal.nD Cert.SbInRefIdeal.τ).loc Cert.SbInRefIdeal.main_arg0) = m' ((c.tc : Thread Cert.SbInRefIdeal.nD Cert.SbInRefIdeal.τ).loc Cert.SbInRefIdeal.main_arg0)
          ∧ r.2.mem ((c.tc : Thread Cert.SbInRefIdeal.nD Cert.SbInRefIdeal.τ).loc Cert.SbInRefIdeal.main_arg1) = m' ((c.tc : Thread Cert.SbInRefIdeal.nD Cert.SbInRefIdeal.τ).loc Cert.SbInRefIdeal.main_arg1))

def preserves_DSsdOut_DSsdOutIdeal : Prop :=
  True

def algebraic_DSsdOutIdeal_DSsdOutRefIdeal [hDSsdOutIdeal : Cert.DSsdOutIdeal.Facts] [hDSsdOutRefIdeal : Cert.DSsdOutRefIdeal.Facts] : Prop :=
  ∀ (m : (ℓ : Loc Cert.DSsdOutIdeal.nD Cert.DSsdOutIdeal.τ Cert.DSsdOutIdeal.sig) → Buf (Elt Ideal) ℓ) (g : Dev Cert.DSsdOutIdeal.nD → PrngReg)
    (m' : (ℓ : Loc Cert.DSsdOutRefIdeal.nD Cert.DSsdOutRefIdeal.τ Cert.DSsdOutRefIdeal.sig) → Buf (Elt Ideal) ℓ) (g' : Dev Cert.DSsdOutRefIdeal.nD → PrngReg), Pre_DSsdOutIdeal m →
    (∀ c : Dev Cert.DSsdOutIdeal.nD,
      m' ((c.tc : Thread Cert.DSsdOutRefIdeal.nD Cert.DSsdOutRefIdeal.τ).loc Cert.DSsdOutRefIdeal.main_arg0) = m ((c.tc : Thread Cert.DSsdOutIdeal.nD Cert.DSsdOutIdeal.τ).loc Cert.DSsdOutIdeal.main_arg0)
      ∧ m' ((c.tc : Thread Cert.DSsdOutRefIdeal.nD Cert.DSsdOutRefIdeal.τ).loc Cert.DSsdOutRefIdeal.main_arg1) = m ((c.tc : Thread Cert.DSsdOutIdeal.nD Cert.DSsdOutIdeal.τ).loc Cert.DSsdOutIdeal.main_arg1)) →
    ∃ (v0 : (c : Dev Cert.DSsdOutIdeal.nD) → Buf (Elt Ideal) ((c.tc : Thread Cert.DSsdOutIdeal.nD Cert.DSsdOutIdeal.τ).loc Cert.DSsdOutIdeal.main_v0)),
      θ_run (Cert.DSsdOutIdeal.defs (F := Ideal)) (onTc (τ := Cert.DSsdOutIdeal.τ) (Cert.DSsdOutIdeal.main (F := Ideal))) ⟨m, fun _ => 0, g⟩ (fun r => ∀ c : Dev Cert.DSsdOutIdeal.nD,
          r.2.mem ((c.tc : Thread Cert.DSsdOutIdeal.nD Cert.DSsdOutIdeal.τ).loc Cert.DSsdOutIdeal.main_v0) = v0 c
          ∧ r.2.mem ((c.tc : Thread Cert.DSsdOutIdeal.nD Cert.DSsdOutIdeal.τ).loc Cert.DSsdOutIdeal.main_arg0) = m ((c.tc : Thread Cert.DSsdOutIdeal.nD Cert.DSsdOutIdeal.τ).loc Cert.DSsdOutIdeal.main_arg0)
          ∧ r.2.mem ((c.tc : Thread Cert.DSsdOutIdeal.nD Cert.DSsdOutIdeal.τ).loc Cert.DSsdOutIdeal.main_arg1) = m ((c.tc : Thread Cert.DSsdOutIdeal.nD Cert.DSsdOutIdeal.τ).loc Cert.DSsdOutIdeal.main_arg1))
      ∧ θ_run (Cert.DSsdOutRefIdeal.defs (F := Ideal)) (onTc (τ := Cert.DSsdOutRefIdeal.τ) (Cert.DSsdOutRefIdeal.main (F := Ideal))) ⟨m', fun _ => 0, g'⟩ (fun r => ∀ c : Dev Cert.DSsdOutRefIdeal.nD,
          r.2.mem ((c.tc : Thread Cert.DSsdOutRefIdeal.nD Cert.DSsdOutRefIdeal.τ).loc Cert.DSsdOutRefIdeal.main_v6) = v0 c
          ∧ r.2.mem ((c.tc : Thread Cert.DSsdOutRefIdeal.nD Cert.DSsdOutRefIdeal.τ).loc Cert.DSsdOutRefIdeal.main_arg0) = m' ((c.tc : Thread Cert.DSsdOutRefIdeal.nD Cert.DSsdOutRefIdeal.τ).loc Cert.DSsdOutRefIdeal.main_arg0)
          ∧ r.2.mem ((c.tc : Thread Cert.DSsdOutRefIdeal.nD Cert.DSsdOutRefIdeal.τ).loc Cert.DSsdOutRefIdeal.main_arg1) = m' ((c.tc : Thread Cert.DSsdOutRefIdeal.nD Cert.DSsdOutRefIdeal.τ).loc Cert.DSsdOutRefIdeal.main_arg1))

def preserves_SsdOutBwd_SsdOutBwdIdeal : Prop :=
  True

def algebraic_SsdOutBwdIdeal_SsdOutBwdRefIdeal [hSsdOutBwdIdeal : Cert.SsdOutBwdIdeal.Facts] [hSsdOutBwdRefIdeal : Cert.SsdOutBwdRefIdeal.Facts] : Prop :=
  ∀ (m : (ℓ : Loc Cert.SsdOutBwdIdeal.nD Cert.SsdOutBwdIdeal.τ Cert.SsdOutBwdIdeal.sig) → Buf (Elt Ideal) ℓ) (g : Dev Cert.SsdOutBwdIdeal.nD → PrngReg)
    (m' : (ℓ : Loc Cert.SsdOutBwdRefIdeal.nD Cert.SsdOutBwdRefIdeal.τ Cert.SsdOutBwdRefIdeal.sig) → Buf (Elt Ideal) ℓ) (g' : Dev Cert.SsdOutBwdRefIdeal.nD → PrngReg), Pre_SsdOutBwdIdeal m →
    (∀ c : Dev Cert.SsdOutBwdIdeal.nD,
      m' ((c.tc : Thread Cert.SsdOutBwdRefIdeal.nD Cert.SsdOutBwdRefIdeal.τ).loc Cert.SsdOutBwdRefIdeal.main_arg0) = m ((c.tc : Thread Cert.SsdOutBwdIdeal.nD Cert.SsdOutBwdIdeal.τ).loc Cert.SsdOutBwdIdeal.main_arg0)
      ∧ m' ((c.tc : Thread Cert.SsdOutBwdRefIdeal.nD Cert.SsdOutBwdRefIdeal.τ).loc Cert.SsdOutBwdRefIdeal.main_arg1) = m ((c.tc : Thread Cert.SsdOutBwdIdeal.nD Cert.SsdOutBwdIdeal.τ).loc Cert.SsdOutBwdIdeal.main_arg1)) →
    ∃ (v0 : (c : Dev Cert.SsdOutBwdIdeal.nD) → Buf (Elt Ideal) ((c.tc : Thread Cert.SsdOutBwdIdeal.nD Cert.SsdOutBwdIdeal.τ).loc Cert.SsdOutBwdIdeal.main_v3)),
      θ_run (Cert.SsdOutBwdIdeal.defs (F := Ideal)) (onTc (τ := Cert.SsdOutBwdIdeal.τ) (Cert.SsdOutBwdIdeal.main (F := Ideal))) ⟨m, fun _ => 0, g⟩ (fun r => ∀ c : Dev Cert.SsdOutBwdIdeal.nD,
          r.2.mem ((c.tc : Thread Cert.SsdOutBwdIdeal.nD Cert.SsdOutBwdIdeal.τ).loc Cert.SsdOutBwdIdeal.main_v3) = v0 c
          ∧ r.2.mem ((c.tc : Thread Cert.SsdOutBwdIdeal.nD Cert.SsdOutBwdIdeal.τ).loc Cert.SsdOutBwdIdeal.main_arg0) = m ((c.tc : Thread Cert.SsdOutBwdIdeal.nD Cert.SsdOutBwdIdeal.τ).loc Cert.SsdOutBwdIdeal.main_arg0)
          ∧ r.2.mem ((c.tc : Thread Cert.SsdOutBwdIdeal.nD Cert.SsdOutBwdIdeal.τ).loc Cert.SsdOutBwdIdeal.main_arg1) = m ((c.tc : Thread Cert.SsdOutBwdIdeal.nD Cert.SsdOutBwdIdeal.τ).loc Cert.SsdOutBwdIdeal.main_arg1))
      ∧ θ_run (Cert.SsdOutBwdRefIdeal.defs (F := Ideal)) (onTc (τ := Cert.SsdOutBwdRefIdeal.τ) (Cert.SsdOutBwdRefIdeal.main (F := Ideal))) ⟨m', fun _ => 0, g'⟩ (fun r => ∀ c : Dev Cert.SsdOutBwdRefIdeal.nD,
          r.2.mem ((c.tc : Thread Cert.SsdOutBwdRefIdeal.nD Cert.SsdOutBwdRefIdeal.τ).loc Cert.SsdOutBwdRefIdeal.main_v4) = v0 c
          ∧ r.2.mem ((c.tc : Thread Cert.SsdOutBwdRefIdeal.nD Cert.SsdOutBwdRefIdeal.τ).loc Cert.SsdOutBwdRefIdeal.main_arg0) = m' ((c.tc : Thread Cert.SsdOutBwdRefIdeal.nD Cert.SsdOutBwdRefIdeal.τ).loc Cert.SsdOutBwdRefIdeal.main_arg0)
          ∧ r.2.mem ((c.tc : Thread Cert.SsdOutBwdRefIdeal.nD Cert.SsdOutBwdRefIdeal.τ).loc Cert.SsdOutBwdRefIdeal.main_arg1) = m' ((c.tc : Thread Cert.SsdOutBwdRefIdeal.nD Cert.SsdOutBwdRefIdeal.τ).loc Cert.SsdOutBwdRefIdeal.main_arg1))

def preserves_DPleGate_DPleGateIdeal : Prop :=
  True

def algebraic_DPleGateIdeal_DPleGateRefIdeal [hDPleGateIdeal : Cert.DPleGateIdeal.Facts] [hDPleGateRefIdeal : Cert.DPleGateRefIdeal.Facts] : Prop :=
  ∀ (m : (ℓ : Loc Cert.DPleGateIdeal.nD Cert.DPleGateIdeal.τ Cert.DPleGateIdeal.sig) → Buf (Elt Ideal) ℓ) (g : Dev Cert.DPleGateIdeal.nD → PrngReg)
    (m' : (ℓ : Loc Cert.DPleGateRefIdeal.nD Cert.DPleGateRefIdeal.τ Cert.DPleGateRefIdeal.sig) → Buf (Elt Ideal) ℓ) (g' : Dev Cert.DPleGateRefIdeal.nD → PrngReg), Pre_DPleGateIdeal m →
    (∀ c : Dev Cert.DPleGateIdeal.nD,
      m' ((c.tc : Thread Cert.DPleGateRefIdeal.nD Cert.DPleGateRefIdeal.τ).loc Cert.DPleGateRefIdeal.main_arg0) = m ((c.tc : Thread Cert.DPleGateIdeal.nD Cert.DPleGateIdeal.τ).loc Cert.DPleGateIdeal.main_arg0)
      ∧ m' ((c.tc : Thread Cert.DPleGateRefIdeal.nD Cert.DPleGateRefIdeal.τ).loc Cert.DPleGateRefIdeal.main_arg1) = m ((c.tc : Thread Cert.DPleGateIdeal.nD Cert.DPleGateIdeal.τ).loc Cert.DPleGateIdeal.main_arg1)) →
    ∃ (v0 : (c : Dev Cert.DPleGateIdeal.nD) → Buf (Elt Ideal) ((c.tc : Thread Cert.DPleGateIdeal.nD Cert.DPleGateIdeal.τ).loc Cert.DPleGateIdeal.main_v0)),
      θ_run (Cert.DPleGateIdeal.defs (F := Ideal)) (onTc (τ := Cert.DPleGateIdeal.τ) (Cert.DPleGateIdeal.main (F := Ideal))) ⟨m, fun _ => 0, g⟩ (fun r => ∀ c : Dev Cert.DPleGateIdeal.nD,
          r.2.mem ((c.tc : Thread Cert.DPleGateIdeal.nD Cert.DPleGateIdeal.τ).loc Cert.DPleGateIdeal.main_v0) = v0 c
          ∧ r.2.mem ((c.tc : Thread Cert.DPleGateIdeal.nD Cert.DPleGateIdeal.τ).loc Cert.DPleGateIdeal.main_arg0) = m ((c.tc : Thread Cert.DPleGateIdeal.nD Cert.DPleGateIdeal.τ).loc Cert.DPleGateIdeal.main_arg0)
          ∧ r.2.mem ((c.tc : Thread Cert.DPleGateIdeal.nD Cert.DPleGateIdeal.τ).loc Cert.DPleGateIdeal.main_arg1) = m ((c.tc : Thread Cert.DPleGateIdeal.nD Cert.DPleGateIdeal.τ).loc Cert.DPleGateIdeal.main_arg1))
      ∧ θ_run (Cert.DPleGateRefIdeal.defs (F := Ideal)) (onTc (τ := Cert.DPleGateRefIdeal.τ) (Cert.DPleGateRefIdeal.main (F := Ideal))) ⟨m', fun _ => 0, g'⟩ (fun r => ∀ c : Dev Cert.DPleGateRefIdeal.nD,
          r.2.mem ((c.tc : Thread Cert.DPleGateRefIdeal.nD Cert.DPleGateRefIdeal.τ).loc Cert.DPleGateRefIdeal.main_v7) = v0 c
          ∧ r.2.mem ((c.tc : Thread Cert.DPleGateRefIdeal.nD Cert.DPleGateRefIdeal.τ).loc Cert.DPleGateRefIdeal.main_arg0) = m' ((c.tc : Thread Cert.DPleGateRefIdeal.nD Cert.DPleGateRefIdeal.τ).loc Cert.DPleGateRefIdeal.main_arg0)
          ∧ r.2.mem ((c.tc : Thread Cert.DPleGateRefIdeal.nD Cert.DPleGateRefIdeal.τ).loc Cert.DPleGateRefIdeal.main_arg1) = m' ((c.tc : Thread Cert.DPleGateRefIdeal.nD Cert.DPleGateRefIdeal.τ).loc Cert.DPleGateRefIdeal.main_arg1))

def preserves_PleGateBwd_PleGateBwdIdeal : Prop :=
  True

def algebraic_PleGateBwdIdeal_PleGateBwdRefIdeal [hPleGateBwdIdeal : Cert.PleGateBwdIdeal.Facts] [hPleGateBwdRefIdeal : Cert.PleGateBwdRefIdeal.Facts] : Prop :=
  ∀ (m : (ℓ : Loc Cert.PleGateBwdIdeal.nD Cert.PleGateBwdIdeal.τ Cert.PleGateBwdIdeal.sig) → Buf (Elt Ideal) ℓ) (g : Dev Cert.PleGateBwdIdeal.nD → PrngReg)
    (m' : (ℓ : Loc Cert.PleGateBwdRefIdeal.nD Cert.PleGateBwdRefIdeal.τ Cert.PleGateBwdRefIdeal.sig) → Buf (Elt Ideal) ℓ) (g' : Dev Cert.PleGateBwdRefIdeal.nD → PrngReg), Pre_PleGateBwdIdeal m →
    (∀ c : Dev Cert.PleGateBwdIdeal.nD,
      m' ((c.tc : Thread Cert.PleGateBwdRefIdeal.nD Cert.PleGateBwdRefIdeal.τ).loc Cert.PleGateBwdRefIdeal.main_arg0) = m ((c.tc : Thread Cert.PleGateBwdIdeal.nD Cert.PleGateBwdIdeal.τ).loc Cert.PleGateBwdIdeal.main_arg0)
      ∧ m' ((c.tc : Thread Cert.PleGateBwdRefIdeal.nD Cert.PleGateBwdRefIdeal.τ).loc Cert.PleGateBwdRefIdeal.main_arg1) = m ((c.tc : Thread Cert.PleGateBwdIdeal.nD Cert.PleGateBwdIdeal.τ).loc Cert.PleGateBwdIdeal.main_arg1)) →
    ∃ (v0 : (c : Dev Cert.PleGateBwdIdeal.nD) → Buf (Elt Ideal) ((c.tc : Thread Cert.PleGateBwdIdeal.nD Cert.PleGateBwdIdeal.τ).loc Cert.PleGateBwdIdeal.main_v3)),
      θ_run (Cert.PleGateBwdIdeal.defs (F := Ideal)) (onTc (τ := Cert.PleGateBwdIdeal.τ) (Cert.PleGateBwdIdeal.main (F := Ideal))) ⟨m, fun _ => 0, g⟩ (fun r => ∀ c : Dev Cert.PleGateBwdIdeal.nD,
          r.2.mem ((c.tc : Thread Cert.PleGateBwdIdeal.nD Cert.PleGateBwdIdeal.τ).loc Cert.PleGateBwdIdeal.main_v3) = v0 c
          ∧ r.2.mem ((c.tc : Thread Cert.PleGateBwdIdeal.nD Cert.PleGateBwdIdeal.τ).loc Cert.PleGateBwdIdeal.main_arg0) = m ((c.tc : Thread Cert.PleGateBwdIdeal.nD Cert.PleGateBwdIdeal.τ).loc Cert.PleGateBwdIdeal.main_arg0)
          ∧ r.2.mem ((c.tc : Thread Cert.PleGateBwdIdeal.nD Cert.PleGateBwdIdeal.τ).loc Cert.PleGateBwdIdeal.main_arg1) = m ((c.tc : Thread Cert.PleGateBwdIdeal.nD Cert.PleGateBwdIdeal.τ).loc Cert.PleGateBwdIdeal.main_arg1))
      ∧ θ_run (Cert.PleGateBwdRefIdeal.defs (F := Ideal)) (onTc (τ := Cert.PleGateBwdRefIdeal.τ) (Cert.PleGateBwdRefIdeal.main (F := Ideal))) ⟨m', fun _ => 0, g'⟩ (fun r => ∀ c : Dev Cert.PleGateBwdRefIdeal.nD,
          r.2.mem ((c.tc : Thread Cert.PleGateBwdRefIdeal.nD Cert.PleGateBwdRefIdeal.τ).loc Cert.PleGateBwdRefIdeal.main_v5) = v0 c
          ∧ r.2.mem ((c.tc : Thread Cert.PleGateBwdRefIdeal.nD Cert.PleGateBwdRefIdeal.τ).loc Cert.PleGateBwdRefIdeal.main_arg0) = m' ((c.tc : Thread Cert.PleGateBwdRefIdeal.nD Cert.PleGateBwdRefIdeal.τ).loc Cert.PleGateBwdRefIdeal.main_arg0)
          ∧ r.2.mem ((c.tc : Thread Cert.PleGateBwdRefIdeal.nD Cert.PleGateBwdRefIdeal.τ).loc Cert.PleGateBwdRefIdeal.main_arg1) = m' ((c.tc : Thread Cert.PleGateBwdRefIdeal.nD Cert.PleGateBwdRefIdeal.τ).loc Cert.PleGateBwdRefIdeal.main_arg1))

def preserves_DSbOut_DSbOutIdeal : Prop :=
  True

def algebraic_DSbOutIdeal_DSbOutRefIdeal [hDSbOutIdeal : Cert.DSbOutIdeal.Facts] [hDSbOutRefIdeal : Cert.DSbOutRefIdeal.Facts] : Prop :=
  ∀ (m : (ℓ : Loc Cert.DSbOutIdeal.nD Cert.DSbOutIdeal.τ Cert.DSbOutIdeal.sig) → Buf (Elt Ideal) ℓ) (g : Dev Cert.DSbOutIdeal.nD → PrngReg)
    (m' : (ℓ : Loc Cert.DSbOutRefIdeal.nD Cert.DSbOutRefIdeal.τ Cert.DSbOutRefIdeal.sig) → Buf (Elt Ideal) ℓ) (g' : Dev Cert.DSbOutRefIdeal.nD → PrngReg), Pre_DSbOutIdeal m →
    (∀ c : Dev Cert.DSbOutIdeal.nD,
      m' ((c.tc : Thread Cert.DSbOutRefIdeal.nD Cert.DSbOutRefIdeal.τ).loc Cert.DSbOutRefIdeal.main_arg0) = m ((c.tc : Thread Cert.DSbOutIdeal.nD Cert.DSbOutIdeal.τ).loc Cert.DSbOutIdeal.main_arg0)
      ∧ m' ((c.tc : Thread Cert.DSbOutRefIdeal.nD Cert.DSbOutRefIdeal.τ).loc Cert.DSbOutRefIdeal.main_arg1) = m ((c.tc : Thread Cert.DSbOutIdeal.nD Cert.DSbOutIdeal.τ).loc Cert.DSbOutIdeal.main_arg1)) →
    ∃ (v0 : (c : Dev Cert.DSbOutIdeal.nD) → Buf (Elt Ideal) ((c.tc : Thread Cert.DSbOutIdeal.nD Cert.DSbOutIdeal.τ).loc Cert.DSbOutIdeal.main_v0)),
      θ_run (Cert.DSbOutIdeal.defs (F := Ideal)) (onTc (τ := Cert.DSbOutIdeal.τ) (Cert.DSbOutIdeal.main (F := Ideal))) ⟨m, fun _ => 0, g⟩ (fun r => ∀ c : Dev Cert.DSbOutIdeal.nD,
          r.2.mem ((c.tc : Thread Cert.DSbOutIdeal.nD Cert.DSbOutIdeal.τ).loc Cert.DSbOutIdeal.main_v0) = v0 c
          ∧ r.2.mem ((c.tc : Thread Cert.DSbOutIdeal.nD Cert.DSbOutIdeal.τ).loc Cert.DSbOutIdeal.main_arg0) = m ((c.tc : Thread Cert.DSbOutIdeal.nD Cert.DSbOutIdeal.τ).loc Cert.DSbOutIdeal.main_arg0)
          ∧ r.2.mem ((c.tc : Thread Cert.DSbOutIdeal.nD Cert.DSbOutIdeal.τ).loc Cert.DSbOutIdeal.main_arg1) = m ((c.tc : Thread Cert.DSbOutIdeal.nD Cert.DSbOutIdeal.τ).loc Cert.DSbOutIdeal.main_arg1))
      ∧ θ_run (Cert.DSbOutRefIdeal.defs (F := Ideal)) (onTc (τ := Cert.DSbOutRefIdeal.τ) (Cert.DSbOutRefIdeal.main (F := Ideal))) ⟨m', fun _ => 0, g'⟩ (fun r => ∀ c : Dev Cert.DSbOutRefIdeal.nD,
          r.2.mem ((c.tc : Thread Cert.DSbOutRefIdeal.nD Cert.DSbOutRefIdeal.τ).loc Cert.DSbOutRefIdeal.main_v6) = v0 c
          ∧ r.2.mem ((c.tc : Thread Cert.DSbOutRefIdeal.nD Cert.DSbOutRefIdeal.τ).loc Cert.DSbOutRefIdeal.main_arg0) = m' ((c.tc : Thread Cert.DSbOutRefIdeal.nD Cert.DSbOutRefIdeal.τ).loc Cert.DSbOutRefIdeal.main_arg0)
          ∧ r.2.mem ((c.tc : Thread Cert.DSbOutRefIdeal.nD Cert.DSbOutRefIdeal.τ).loc Cert.DSbOutRefIdeal.main_arg1) = m' ((c.tc : Thread Cert.DSbOutRefIdeal.nD Cert.DSbOutRefIdeal.τ).loc Cert.DSbOutRefIdeal.main_arg1))

def preserves_SbOutBwd_SbOutBwdIdeal : Prop :=
  True

def algebraic_SbOutBwdIdeal_SbOutBwdRefIdeal [hSbOutBwdIdeal : Cert.SbOutBwdIdeal.Facts] [hSbOutBwdRefIdeal : Cert.SbOutBwdRefIdeal.Facts] : Prop :=
  ∀ (m : (ℓ : Loc Cert.SbOutBwdIdeal.nD Cert.SbOutBwdIdeal.τ Cert.SbOutBwdIdeal.sig) → Buf (Elt Ideal) ℓ) (g : Dev Cert.SbOutBwdIdeal.nD → PrngReg)
    (m' : (ℓ : Loc Cert.SbOutBwdRefIdeal.nD Cert.SbOutBwdRefIdeal.τ Cert.SbOutBwdRefIdeal.sig) → Buf (Elt Ideal) ℓ) (g' : Dev Cert.SbOutBwdRefIdeal.nD → PrngReg), Pre_SbOutBwdIdeal m →
    (∀ c : Dev Cert.SbOutBwdIdeal.nD,
      m' ((c.tc : Thread Cert.SbOutBwdRefIdeal.nD Cert.SbOutBwdRefIdeal.τ).loc Cert.SbOutBwdRefIdeal.main_arg0) = m ((c.tc : Thread Cert.SbOutBwdIdeal.nD Cert.SbOutBwdIdeal.τ).loc Cert.SbOutBwdIdeal.main_arg0)
      ∧ m' ((c.tc : Thread Cert.SbOutBwdRefIdeal.nD Cert.SbOutBwdRefIdeal.τ).loc Cert.SbOutBwdRefIdeal.main_arg1) = m ((c.tc : Thread Cert.SbOutBwdIdeal.nD Cert.SbOutBwdIdeal.τ).loc Cert.SbOutBwdIdeal.main_arg1)) →
    ∃ (v0 : (c : Dev Cert.SbOutBwdIdeal.nD) → Buf (Elt Ideal) ((c.tc : Thread Cert.SbOutBwdIdeal.nD Cert.SbOutBwdIdeal.τ).loc Cert.SbOutBwdIdeal.main_v3)),
      θ_run (Cert.SbOutBwdIdeal.defs (F := Ideal)) (onTc (τ := Cert.SbOutBwdIdeal.τ) (Cert.SbOutBwdIdeal.main (F := Ideal))) ⟨m, fun _ => 0, g⟩ (fun r => ∀ c : Dev Cert.SbOutBwdIdeal.nD,
          r.2.mem ((c.tc : Thread Cert.SbOutBwdIdeal.nD Cert.SbOutBwdIdeal.τ).loc Cert.SbOutBwdIdeal.main_v3) = v0 c
          ∧ r.2.mem ((c.tc : Thread Cert.SbOutBwdIdeal.nD Cert.SbOutBwdIdeal.τ).loc Cert.SbOutBwdIdeal.main_arg0) = m ((c.tc : Thread Cert.SbOutBwdIdeal.nD Cert.SbOutBwdIdeal.τ).loc Cert.SbOutBwdIdeal.main_arg0)
          ∧ r.2.mem ((c.tc : Thread Cert.SbOutBwdIdeal.nD Cert.SbOutBwdIdeal.τ).loc Cert.SbOutBwdIdeal.main_arg1) = m ((c.tc : Thread Cert.SbOutBwdIdeal.nD Cert.SbOutBwdIdeal.τ).loc Cert.SbOutBwdIdeal.main_arg1))
      ∧ θ_run (Cert.SbOutBwdRefIdeal.defs (F := Ideal)) (onTc (τ := Cert.SbOutBwdRefIdeal.τ) (Cert.SbOutBwdRefIdeal.main (F := Ideal))) ⟨m', fun _ => 0, g'⟩ (fun r => ∀ c : Dev Cert.SbOutBwdRefIdeal.nD,
          r.2.mem ((c.tc : Thread Cert.SbOutBwdRefIdeal.nD Cert.SbOutBwdRefIdeal.τ).loc Cert.SbOutBwdRefIdeal.main_v4) = v0 c
          ∧ r.2.mem ((c.tc : Thread Cert.SbOutBwdRefIdeal.nD Cert.SbOutBwdRefIdeal.τ).loc Cert.SbOutBwdRefIdeal.main_arg0) = m' ((c.tc : Thread Cert.SbOutBwdRefIdeal.nD Cert.SbOutBwdRefIdeal.τ).loc Cert.SbOutBwdRefIdeal.main_arg0)
          ∧ r.2.mem ((c.tc : Thread Cert.SbOutBwdRefIdeal.nD Cert.SbOutBwdRefIdeal.τ).loc Cert.SbOutBwdRefIdeal.main_arg1) = m' ((c.tc : Thread Cert.SbOutBwdRefIdeal.nD Cert.SbOutBwdRefIdeal.τ).loc Cert.SbOutBwdRefIdeal.main_arg1))

def preserves_DPleProj_DPleProjIdeal : Prop :=
  True

def algebraic_DPleProjIdeal_DPleProjRefIdeal [hDPleProjIdeal : Cert.DPleProjIdeal.Facts] [hDPleProjRefIdeal : Cert.DPleProjRefIdeal.Facts] : Prop :=
  ∀ (m : (ℓ : Loc Cert.DPleProjIdeal.nD Cert.DPleProjIdeal.τ Cert.DPleProjIdeal.sig) → Buf (Elt Ideal) ℓ) (g : Dev Cert.DPleProjIdeal.nD → PrngReg)
    (m' : (ℓ : Loc Cert.DPleProjRefIdeal.nD Cert.DPleProjRefIdeal.τ Cert.DPleProjRefIdeal.sig) → Buf (Elt Ideal) ℓ) (g' : Dev Cert.DPleProjRefIdeal.nD → PrngReg), Pre_DPleProjIdeal m →
    (∀ c : Dev Cert.DPleProjIdeal.nD,
      m' ((c.tc : Thread Cert.DPleProjRefIdeal.nD Cert.DPleProjRefIdeal.τ).loc Cert.DPleProjRefIdeal.main_arg0) = m ((c.tc : Thread Cert.DPleProjIdeal.nD Cert.DPleProjIdeal.τ).loc Cert.DPleProjIdeal.main_arg0)
      ∧ m' ((c.tc : Thread Cert.DPleProjRefIdeal.nD Cert.DPleProjRefIdeal.τ).loc Cert.DPleProjRefIdeal.main_arg1) = m ((c.tc : Thread Cert.DPleProjIdeal.nD Cert.DPleProjIdeal.τ).loc Cert.DPleProjIdeal.main_arg1)) →
    ∃ (v0 : (c : Dev Cert.DPleProjIdeal.nD) → Buf (Elt Ideal) ((c.tc : Thread Cert.DPleProjIdeal.nD Cert.DPleProjIdeal.τ).loc Cert.DPleProjIdeal.main_v0)),
      θ_run (Cert.DPleProjIdeal.defs (F := Ideal)) (onTc (τ := Cert.DPleProjIdeal.τ) (Cert.DPleProjIdeal.main (F := Ideal))) ⟨m, fun _ => 0, g⟩ (fun r => ∀ c : Dev Cert.DPleProjIdeal.nD,
          r.2.mem ((c.tc : Thread Cert.DPleProjIdeal.nD Cert.DPleProjIdeal.τ).loc Cert.DPleProjIdeal.main_v0) = v0 c
          ∧ r.2.mem ((c.tc : Thread Cert.DPleProjIdeal.nD Cert.DPleProjIdeal.τ).loc Cert.DPleProjIdeal.main_arg0) = m ((c.tc : Thread Cert.DPleProjIdeal.nD Cert.DPleProjIdeal.τ).loc Cert.DPleProjIdeal.main_arg0)
          ∧ r.2.mem ((c.tc : Thread Cert.DPleProjIdeal.nD Cert.DPleProjIdeal.τ).loc Cert.DPleProjIdeal.main_arg1) = m ((c.tc : Thread Cert.DPleProjIdeal.nD Cert.DPleProjIdeal.τ).loc Cert.DPleProjIdeal.main_arg1))
      ∧ θ_run (Cert.DPleProjRefIdeal.defs (F := Ideal)) (onTc (τ := Cert.DPleProjRefIdeal.τ) (Cert.DPleProjRefIdeal.main (F := Ideal))) ⟨m', fun _ => 0, g'⟩ (fun r => ∀ c : Dev Cert.DPleProjRefIdeal.nD,
          r.2.mem ((c.tc : Thread Cert.DPleProjRefIdeal.nD Cert.DPleProjRefIdeal.τ).loc Cert.DPleProjRefIdeal.main_v8) = v0 c
          ∧ r.2.mem ((c.tc : Thread Cert.DPleProjRefIdeal.nD Cert.DPleProjRefIdeal.τ).loc Cert.DPleProjRefIdeal.main_arg0) = m' ((c.tc : Thread Cert.DPleProjRefIdeal.nD Cert.DPleProjRefIdeal.τ).loc Cert.DPleProjRefIdeal.main_arg0)
          ∧ r.2.mem ((c.tc : Thread Cert.DPleProjRefIdeal.nD Cert.DPleProjRefIdeal.τ).loc Cert.DPleProjRefIdeal.main_arg1) = m' ((c.tc : Thread Cert.DPleProjRefIdeal.nD Cert.DPleProjRefIdeal.τ).loc Cert.DPleProjRefIdeal.main_arg1))

def preserves_SsdOut_SsdOutIdeal : Prop :=
  True

def algebraic_SsdOutIdeal_SsdOutRefIdeal [hSsdOutIdeal : Cert.SsdOutIdeal.Facts] [hSsdOutRefIdeal : Cert.SsdOutRefIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg)
    (m' : (ℓ : Loc Cert.SsdOutRefIdeal.nD Cert.SsdOutRefIdeal.τ Cert.SsdOutRefIdeal.sig) → Buf (Elt Ideal) ℓ) (g' : Dev Cert.SsdOutRefIdeal.nD → PrngReg), Pre_SsdOutIdeal m →
    (∀ c : Dev Cert.SsdOutIdeal.nD,
      m' ((c.tc : Thread Cert.SsdOutRefIdeal.nD Cert.SsdOutRefIdeal.τ).loc Cert.SsdOutRefIdeal.main_arg0) = m ((c.tc : Thread Cert.SsdOutIdeal.nD Cert.SsdOutIdeal.τ).loc Cert.SsdOutIdeal.main_arg0)
      ∧ m' ((c.tc : Thread Cert.SsdOutRefIdeal.nD Cert.SsdOutRefIdeal.τ).loc Cert.SsdOutRefIdeal.main_arg1) = m ((c.tc : Thread Cert.SsdOutIdeal.nD Cert.SsdOutIdeal.τ).loc Cert.SsdOutIdeal.main_arg1)
      ∧ m' ((c.tc : Thread Cert.SsdOutRefIdeal.nD Cert.SsdOutRefIdeal.τ).loc Cert.SsdOutRefIdeal.main_arg2) = m ((c.tc : Thread Cert.SsdOutIdeal.nD Cert.SsdOutIdeal.τ).loc Cert.SsdOutIdeal.main_arg2)) →
    ∃ (v0 : (c : Dev Cert.SsdOutIdeal.nD) → Buf (Elt Ideal) ((c.tc : Thread Cert.SsdOutIdeal.nD Cert.SsdOutIdeal.τ).loc Cert.SsdOutIdeal.main_v3)),
      θ_run (Cert.SsdOutIdeal.defs (F := Ideal)) (onTc (τ := Cert.SsdOutIdeal.τ) (Cert.SsdOutIdeal.main (F := Ideal))) ⟨m, fun _ => 0, g⟩ (fun r => ∀ c : Dev Cert.SsdOutIdeal.nD,
          r.2.mem ((c.tc : Thread Cert.SsdOutIdeal.nD Cert.SsdOutIdeal.τ).loc Cert.SsdOutIdeal.main_v3) = v0 c
          ∧ r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
          ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
          ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2))
      ∧ θ_run (Cert.SsdOutRefIdeal.defs (F := Ideal)) (onTc (τ := Cert.SsdOutRefIdeal.τ) (Cert.SsdOutRefIdeal.main (F := Ideal))) ⟨m', fun _ => 0, g'⟩ (fun r => ∀ c : Dev Cert.SsdOutRefIdeal.nD,
          r.2.mem ((c.tc : Thread Cert.SsdOutRefIdeal.nD Cert.SsdOutRefIdeal.τ).loc Cert.SsdOutRefIdeal.main_v4) = v0 c
          ∧ r.2.mem ((c.tc : Thread Cert.SsdOutRefIdeal.nD Cert.SsdOutRefIdeal.τ).loc Cert.SsdOutRefIdeal.main_arg0) = m' ((c.tc : Thread Cert.SsdOutRefIdeal.nD Cert.SsdOutRefIdeal.τ).loc Cert.SsdOutRefIdeal.main_arg0)
          ∧ r.2.mem ((c.tc : Thread Cert.SsdOutRefIdeal.nD Cert.SsdOutRefIdeal.τ).loc Cert.SsdOutRefIdeal.main_arg1) = m' ((c.tc : Thread Cert.SsdOutRefIdeal.nD Cert.SsdOutRefIdeal.τ).loc Cert.SsdOutRefIdeal.main_arg1)
          ∧ r.2.mem ((c.tc : Thread Cert.SsdOutRefIdeal.nD Cert.SsdOutRefIdeal.τ).loc Cert.SsdOutRefIdeal.main_arg2) = m' ((c.tc : Thread Cert.SsdOutRefIdeal.nD Cert.SsdOutRefIdeal.τ).loc Cert.SsdOutRefIdeal.main_arg2))

def preserves_SbOut_SbOutIdeal : Prop :=
  True

def algebraic_SbOutIdeal_SbOutRefIdeal [hSbOutIdeal : Cert.SbOutIdeal.Facts] [hSbOutRefIdeal : Cert.SbOutRefIdeal.Facts] : Prop :=
  ∀ (m : (ℓ : Loc Cert.SbOutIdeal.nD Cert.SbOutIdeal.τ Cert.SbOutIdeal.sig) → Buf (Elt Ideal) ℓ) (g : Dev Cert.SbOutIdeal.nD → PrngReg)
    (m' : (ℓ : Loc Cert.SbOutRefIdeal.nD Cert.SbOutRefIdeal.τ Cert.SbOutRefIdeal.sig) → Buf (Elt Ideal) ℓ) (g' : Dev Cert.SbOutRefIdeal.nD → PrngReg), Pre_SbOutIdeal m →
    (∀ c : Dev Cert.SbOutIdeal.nD,
      m' ((c.tc : Thread Cert.SbOutRefIdeal.nD Cert.SbOutRefIdeal.τ).loc Cert.SbOutRefIdeal.main_arg0) = m ((c.tc : Thread Cert.SbOutIdeal.nD Cert.SbOutIdeal.τ).loc Cert.SbOutIdeal.main_arg0)
      ∧ m' ((c.tc : Thread Cert.SbOutRefIdeal.nD Cert.SbOutRefIdeal.τ).loc Cert.SbOutRefIdeal.main_arg1) = m ((c.tc : Thread Cert.SbOutIdeal.nD Cert.SbOutIdeal.τ).loc Cert.SbOutIdeal.main_arg1)
      ∧ m' ((c.tc : Thread Cert.SbOutRefIdeal.nD Cert.SbOutRefIdeal.τ).loc Cert.SbOutRefIdeal.main_arg2) = m ((c.tc : Thread Cert.SbOutIdeal.nD Cert.SbOutIdeal.τ).loc Cert.SbOutIdeal.main_arg2)) →
    ∃ (v0 : (c : Dev Cert.SbOutIdeal.nD) → Buf (Elt Ideal) ((c.tc : Thread Cert.SbOutIdeal.nD Cert.SbOutIdeal.τ).loc Cert.SbOutIdeal.main_v3)),
      θ_run (Cert.SbOutIdeal.defs (F := Ideal)) (onTc (τ := Cert.SbOutIdeal.τ) (Cert.SbOutIdeal.main (F := Ideal))) ⟨m, fun _ => 0, g⟩ (fun r => ∀ c : Dev Cert.SbOutIdeal.nD,
          r.2.mem ((c.tc : Thread Cert.SbOutIdeal.nD Cert.SbOutIdeal.τ).loc Cert.SbOutIdeal.main_v3) = v0 c
          ∧ r.2.mem ((c.tc : Thread Cert.SbOutIdeal.nD Cert.SbOutIdeal.τ).loc Cert.SbOutIdeal.main_arg0) = m ((c.tc : Thread Cert.SbOutIdeal.nD Cert.SbOutIdeal.τ).loc Cert.SbOutIdeal.main_arg0)
          ∧ r.2.mem ((c.tc : Thread Cert.SbOutIdeal.nD Cert.SbOutIdeal.τ).loc Cert.SbOutIdeal.main_arg1) = m ((c.tc : Thread Cert.SbOutIdeal.nD Cert.SbOutIdeal.τ).loc Cert.SbOutIdeal.main_arg1)
          ∧ r.2.mem ((c.tc : Thread Cert.SbOutIdeal.nD Cert.SbOutIdeal.τ).loc Cert.SbOutIdeal.main_arg2) = m ((c.tc : Thread Cert.SbOutIdeal.nD Cert.SbOutIdeal.τ).loc Cert.SbOutIdeal.main_arg2))
      ∧ θ_run (Cert.SbOutRefIdeal.defs (F := Ideal)) (onTc (τ := Cert.SbOutRefIdeal.τ) (Cert.SbOutRefIdeal.main (F := Ideal))) ⟨m', fun _ => 0, g'⟩ (fun r => ∀ c : Dev Cert.SbOutRefIdeal.nD,
          r.2.mem ((c.tc : Thread Cert.SbOutRefIdeal.nD Cert.SbOutRefIdeal.τ).loc Cert.SbOutRefIdeal.main_v4) = v0 c
          ∧ r.2.mem ((c.tc : Thread Cert.SbOutRefIdeal.nD Cert.SbOutRefIdeal.τ).loc Cert.SbOutRefIdeal.main_arg0) = m' ((c.tc : Thread Cert.SbOutRefIdeal.nD Cert.SbOutRefIdeal.τ).loc Cert.SbOutRefIdeal.main_arg0)
          ∧ r.2.mem ((c.tc : Thread Cert.SbOutRefIdeal.nD Cert.SbOutRefIdeal.τ).loc Cert.SbOutRefIdeal.main_arg1) = m' ((c.tc : Thread Cert.SbOutRefIdeal.nD Cert.SbOutRefIdeal.τ).loc Cert.SbOutRefIdeal.main_arg1)
          ∧ r.2.mem ((c.tc : Thread Cert.SbOutRefIdeal.nD Cert.SbOutRefIdeal.τ).loc Cert.SbOutRefIdeal.main_arg2) = m' ((c.tc : Thread Cert.SbOutRefIdeal.nD Cert.SbOutRefIdeal.τ).loc Cert.SbOutRefIdeal.main_arg2))

def preserves_PleGate_PleGateIdeal : Prop :=
  True

def algebraic_PleGateIdeal_PleGateRefIdeal [hPleGateIdeal : Cert.PleGateIdeal.Facts] [hPleGateRefIdeal : Cert.PleGateRefIdeal.Facts] : Prop :=
  ∀ (m : (ℓ : Loc Cert.PleGateIdeal.nD Cert.PleGateIdeal.τ Cert.PleGateIdeal.sig) → Buf (Elt Ideal) ℓ) (g : Dev Cert.PleGateIdeal.nD → PrngReg)
    (m' : (ℓ : Loc Cert.PleGateRefIdeal.nD Cert.PleGateRefIdeal.τ Cert.PleGateRefIdeal.sig) → Buf (Elt Ideal) ℓ) (g' : Dev Cert.PleGateRefIdeal.nD → PrngReg), Pre_PleGateIdeal m →
    (∀ c : Dev Cert.PleGateIdeal.nD,
      m' ((c.tc : Thread Cert.PleGateRefIdeal.nD Cert.PleGateRefIdeal.τ).loc Cert.PleGateRefIdeal.main_arg0) = m ((c.tc : Thread Cert.PleGateIdeal.nD Cert.PleGateIdeal.τ).loc Cert.PleGateIdeal.main_arg0)
      ∧ m' ((c.tc : Thread Cert.PleGateRefIdeal.nD Cert.PleGateRefIdeal.τ).loc Cert.PleGateRefIdeal.main_arg1) = m ((c.tc : Thread Cert.PleGateIdeal.nD Cert.PleGateIdeal.τ).loc Cert.PleGateIdeal.main_arg1)) →
    ∃ (v0 : (c : Dev Cert.PleGateIdeal.nD) → Buf (Elt Ideal) ((c.tc : Thread Cert.PleGateIdeal.nD Cert.PleGateIdeal.τ).loc Cert.PleGateIdeal.main_v3)),
      θ_run (Cert.PleGateIdeal.defs (F := Ideal)) (onTc (τ := Cert.PleGateIdeal.τ) (Cert.PleGateIdeal.main (F := Ideal))) ⟨m, fun _ => 0, g⟩ (fun r => ∀ c : Dev Cert.PleGateIdeal.nD,
          r.2.mem ((c.tc : Thread Cert.PleGateIdeal.nD Cert.PleGateIdeal.τ).loc Cert.PleGateIdeal.main_v3) = v0 c
          ∧ r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
          ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ θ_run (Cert.PleGateRefIdeal.defs (F := Ideal)) (onTc (τ := Cert.PleGateRefIdeal.τ) (Cert.PleGateRefIdeal.main (F := Ideal))) ⟨m', fun _ => 0, g'⟩ (fun r => ∀ c : Dev Cert.PleGateRefIdeal.nD,
          r.2.mem ((c.tc : Thread Cert.PleGateRefIdeal.nD Cert.PleGateRefIdeal.τ).loc Cert.PleGateRefIdeal.main_v3) = v0 c
          ∧ r.2.mem ((c.tc : Thread Cert.PleGateRefIdeal.nD Cert.PleGateRefIdeal.τ).loc Cert.PleGateRefIdeal.main_arg0) = m' ((c.tc : Thread Cert.PleGateRefIdeal.nD Cert.PleGateRefIdeal.τ).loc Cert.PleGateRefIdeal.main_arg0)
          ∧ r.2.mem ((c.tc : Thread Cert.PleGateRefIdeal.nD Cert.PleGateRefIdeal.τ).loc Cert.PleGateRefIdeal.main_arg1) = m' ((c.tc : Thread Cert.PleGateRefIdeal.nD Cert.PleGateRefIdeal.τ).loc Cert.PleGateRefIdeal.main_arg1))

def preserves_PleProj_PleProjIdeal : Prop :=
  True

def algebraic_PleProjIdeal_PleProjRefIdeal [hPleProjIdeal : Cert.PleProjIdeal.Facts] [hPleProjRefIdeal : Cert.PleProjRefIdeal.Facts] : Prop :=
  ∀ (m : (ℓ : Loc Cert.PleProjIdeal.nD Cert.PleProjIdeal.τ Cert.PleProjIdeal.sig) → Buf (Elt Ideal) ℓ) (g : Dev Cert.PleProjIdeal.nD → PrngReg)
    (m' : (ℓ : Loc Cert.PleProjRefIdeal.nD Cert.PleProjRefIdeal.τ Cert.PleProjRefIdeal.sig) → Buf (Elt Ideal) ℓ) (g' : Dev Cert.PleProjRefIdeal.nD → PrngReg), Pre_PleProjIdeal m →
    (∀ c : Dev Cert.PleProjIdeal.nD,
      m' ((c.tc : Thread Cert.PleProjRefIdeal.nD Cert.PleProjRefIdeal.τ).loc Cert.PleProjRefIdeal.main_arg0) = m ((c.tc : Thread Cert.PleProjIdeal.nD Cert.PleProjIdeal.τ).loc Cert.PleProjIdeal.main_arg0)
      ∧ m' ((c.tc : Thread Cert.PleProjRefIdeal.nD Cert.PleProjRefIdeal.τ).loc Cert.PleProjRefIdeal.main_arg1) = m ((c.tc : Thread Cert.PleProjIdeal.nD Cert.PleProjIdeal.τ).loc Cert.PleProjIdeal.main_arg1)) →
    ∃ (v0 : (c : Dev Cert.PleProjIdeal.nD) → Buf (Elt Ideal) ((c.tc : Thread Cert.PleProjIdeal.nD Cert.PleProjIdeal.τ).loc Cert.PleProjIdeal.main_v3)),
      θ_run (Cert.PleProjIdeal.defs (F := Ideal)) (onTc (τ := Cert.PleProjIdeal.τ) (Cert.PleProjIdeal.main (F := Ideal))) ⟨m, fun _ => 0, g⟩ (fun r => ∀ c : Dev Cert.PleProjIdeal.nD,
          r.2.mem ((c.tc : Thread Cert.PleProjIdeal.nD Cert.PleProjIdeal.τ).loc Cert.PleProjIdeal.main_v3) = v0 c
          ∧ r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
          ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ θ_run (Cert.PleProjRefIdeal.defs (F := Ideal)) (onTc (τ := Cert.PleProjRefIdeal.τ) (Cert.PleProjRefIdeal.main (F := Ideal))) ⟨m', fun _ => 0, g'⟩ (fun r => ∀ c : Dev Cert.PleProjRefIdeal.nD,
          r.2.mem ((c.tc : Thread Cert.PleProjRefIdeal.nD Cert.PleProjRefIdeal.τ).loc Cert.PleProjRefIdeal.main_v2) = v0 c
          ∧ r.2.mem ((c.tc : Thread Cert.PleProjRefIdeal.nD Cert.PleProjRefIdeal.τ).loc Cert.PleProjRefIdeal.main_arg0) = m' ((c.tc : Thread Cert.PleProjRefIdeal.nD Cert.PleProjRefIdeal.τ).loc Cert.PleProjRefIdeal.main_arg0)
          ∧ r.2.mem ((c.tc : Thread Cert.PleProjRefIdeal.nD Cert.PleProjRefIdeal.τ).loc Cert.PleProjRefIdeal.main_arg1) = m' ((c.tc : Thread Cert.PleProjRefIdeal.nD Cert.PleProjRefIdeal.τ).loc Cert.PleProjRefIdeal.main_arg1))

def preserves_AdamSsdIn_AdamSsdInIdeal : Prop :=
  True

def algebraic_AdamSsdInIdeal_AdamSsdInRefIdeal [hAdamSsdInIdeal : Cert.AdamSsdInIdeal.Facts] [hAdamSsdInRefIdeal : Cert.AdamSsdInRefIdeal.Facts] : Prop :=
  ∀ (m : (ℓ : Loc Cert.AdamSsdInIdeal.nD Cert.AdamSsdInIdeal.τ Cert.AdamSsdInIdeal.sig) → Buf (Elt Ideal) ℓ) (g : Dev Cert.AdamSsdInIdeal.nD → PrngReg)
    (m' : (ℓ : Loc Cert.AdamSsdInRefIdeal.nD Cert.AdamSsdInRefIdeal.τ Cert.AdamSsdInRefIdeal.sig) → Buf (Elt Ideal) ℓ) (g' : Dev Cert.AdamSsdInRefIdeal.nD → PrngReg), Pre_AdamSsdInIdeal m →
    (∀ c : Dev Cert.AdamSsdInIdeal.nD,
      m' ((c.tc : Thread Cert.AdamSsdInRefIdeal.nD Cert.AdamSsdInRefIdeal.τ).loc Cert.AdamSsdInRefIdeal.main_arg0) = m ((c.tc : Thread Cert.AdamSsdInIdeal.nD Cert.AdamSsdInIdeal.τ).loc Cert.AdamSsdInIdeal.main_arg0)
      ∧ m' ((c.tc : Thread Cert.AdamSsdInRefIdeal.nD Cert.AdamSsdInRefIdeal.τ).loc Cert.AdamSsdInRefIdeal.main_arg1) = m ((c.tc : Thread Cert.AdamSsdInIdeal.nD Cert.AdamSsdInIdeal.τ).loc Cert.AdamSsdInIdeal.main_arg1)
      ∧ m' ((c.tc : Thread Cert.AdamSsdInRefIdeal.nD Cert.AdamSsdInRefIdeal.τ).loc Cert.AdamSsdInRefIdeal.main_arg2) = m ((c.tc : Thread Cert.AdamSsdInIdeal.nD Cert.AdamSsdInIdeal.τ).loc Cert.AdamSsdInIdeal.main_arg2)
      ∧ m' ((c.tc : Thread Cert.AdamSsdInRefIdeal.nD Cert.AdamSsdInRefIdeal.τ).loc Cert.AdamSsdInRefIdeal.main_arg3) = m ((c.tc : Thread Cert.AdamSsdInIdeal.nD Cert.AdamSsdInIdeal.τ).loc Cert.AdamSsdInIdeal.main_arg3)) →
    ∃ (v0 : (c : Dev Cert.AdamSsdInIdeal.nD) → Buf (Elt Ideal) ((c.tc : Thread Cert.AdamSsdInIdeal.nD Cert.AdamSsdInIdeal.τ).loc Cert.AdamSsdInIdeal.main_v0_0)) (v1 : (c : Dev Cert.AdamSsdInIdeal.nD) → Buf (Elt Ideal) ((c.tc : Thread Cert.AdamSsdInIdeal.nD Cert.AdamSsdInIdeal.τ).loc Cert.AdamSsdInIdeal.main_v0_1)) (v2 : (c : Dev Cert.AdamSsdInIdeal.nD) → Buf (Elt Ideal) ((c.tc : Thread Cert.AdamSsdInIdeal.nD Cert.AdamSsdInIdeal.τ).loc Cert.AdamSsdInIdeal.main_v0_2)),
      θ_run (Cert.AdamSsdInIdeal.defs (F := Ideal)) (onTc (τ := Cert.AdamSsdInIdeal.τ) (Cert.AdamSsdInIdeal.main (F := Ideal))) ⟨m, fun _ => 0, g⟩ (fun r => ∀ c : Dev Cert.AdamSsdInIdeal.nD,
          r.2.mem ((c.tc : Thread Cert.AdamSsdInIdeal.nD Cert.AdamSsdInIdeal.τ).loc Cert.AdamSsdInIdeal.main_v0_0) = v0 c
          ∧ r.2.mem ((c.tc : Thread Cert.AdamSsdInIdeal.nD Cert.AdamSsdInIdeal.τ).loc Cert.AdamSsdInIdeal.main_v0_1) = v1 c
          ∧ r.2.mem ((c.tc : Thread Cert.AdamSsdInIdeal.nD Cert.AdamSsdInIdeal.τ).loc Cert.AdamSsdInIdeal.main_v0_2) = v2 c
          ∧ r.2.mem ((c.tc : Thread Cert.AdamSsdInIdeal.nD Cert.AdamSsdInIdeal.τ).loc Cert.AdamSsdInIdeal.main_arg0) = m ((c.tc : Thread Cert.AdamSsdInIdeal.nD Cert.AdamSsdInIdeal.τ).loc Cert.AdamSsdInIdeal.main_arg0)
          ∧ r.2.mem ((c.tc : Thread Cert.AdamSsdInIdeal.nD Cert.AdamSsdInIdeal.τ).loc Cert.AdamSsdInIdeal.main_arg1) = m ((c.tc : Thread Cert.AdamSsdInIdeal.nD Cert.AdamSsdInIdeal.τ).loc Cert.AdamSsdInIdeal.main_arg1)
          ∧ r.2.mem ((c.tc : Thread Cert.AdamSsdInIdeal.nD Cert.AdamSsdInIdeal.τ).loc Cert.AdamSsdInIdeal.main_arg2) = m ((c.tc : Thread Cert.AdamSsdInIdeal.nD Cert.AdamSsdInIdeal.τ).loc Cert.AdamSsdInIdeal.main_arg2)
          ∧ r.2.mem ((c.tc : Thread Cert.AdamSsdInIdeal.nD Cert.AdamSsdInIdeal.τ).loc Cert.AdamSsdInIdeal.main_arg3) = m ((c.tc : Thread Cert.AdamSsdInIdeal.nD Cert.AdamSsdInIdeal.τ).loc Cert.AdamSsdInIdeal.main_arg3))
      ∧ θ_run (Cert.AdamSsdInRefIdeal.defs (F := Ideal)) (onTc (τ := Cert.AdamSsdInRefIdeal.τ) (Cert.AdamSsdInRefIdeal.main (F := Ideal))) ⟨m', fun _ => 0, g'⟩ (fun r => ∀ c : Dev Cert.AdamSsdInRefIdeal.nD,
          r.2.mem ((c.tc : Thread Cert.AdamSsdInRefIdeal.nD Cert.AdamSsdInRefIdeal.τ).loc Cert.AdamSsdInRefIdeal.main_v23) = v0 c
          ∧ r.2.mem ((c.tc : Thread Cert.AdamSsdInRefIdeal.nD Cert.AdamSsdInRefIdeal.τ).loc Cert.AdamSsdInRefIdeal.main_v4) = v1 c
          ∧ r.2.mem ((c.tc : Thread Cert.AdamSsdInRefIdeal.nD Cert.AdamSsdInRefIdeal.τ).loc Cert.AdamSsdInRefIdeal.main_v10) = v2 c
          ∧ r.2.mem ((c.tc : Thread Cert.AdamSsdInRefIdeal.nD Cert.AdamSsdInRefIdeal.τ).loc Cert.AdamSsdInRefIdeal.main_arg0) = m' ((c.tc : Thread Cert.AdamSsdInRefIdeal.nD Cert.AdamSsdInRefIdeal.τ).loc Cert.AdamSsdInRefIdeal.main_arg0)
          ∧ r.2.mem ((c.tc : Thread Cert.AdamSsdInRefIdeal.nD Cert.AdamSsdInRefIdeal.τ).loc Cert.AdamSsdInRefIdeal.main_arg1) = m' ((c.tc : Thread Cert.AdamSsdInRefIdeal.nD Cert.AdamSsdInRefIdeal.τ).loc Cert.AdamSsdInRefIdeal.main_arg1)
          ∧ r.2.mem ((c.tc : Thread Cert.AdamSsdInRefIdeal.nD Cert.AdamSsdInRefIdeal.τ).loc Cert.AdamSsdInRefIdeal.main_arg2) = m' ((c.tc : Thread Cert.AdamSsdInRefIdeal.nD Cert.AdamSsdInRefIdeal.τ).loc Cert.AdamSsdInRefIdeal.main_arg2)
          ∧ r.2.mem ((c.tc : Thread Cert.AdamSsdInRefIdeal.nD Cert.AdamSsdInRefIdeal.τ).loc Cert.AdamSsdInRefIdeal.main_arg3) = m' ((c.tc : Thread Cert.AdamSsdInRefIdeal.nD Cert.AdamSsdInRefIdeal.τ).loc Cert.AdamSsdInRefIdeal.main_arg3))

def preserves_AdamSsdOut_AdamSsdOutIdeal : Prop :=
  True

def algebraic_AdamSsdOutIdeal_AdamSsdOutRefIdeal [hAdamSsdOutIdeal : Cert.AdamSsdOutIdeal.Facts] [hAdamSsdOutRefIdeal : Cert.AdamSsdOutRefIdeal.Facts] : Prop :=
  ∀ (m : (ℓ : Loc Cert.AdamSsdOutIdeal.nD Cert.AdamSsdOutIdeal.τ Cert.AdamSsdOutIdeal.sig) → Buf (Elt Ideal) ℓ) (g : Dev Cert.AdamSsdOutIdeal.nD → PrngReg)
    (m' : (ℓ : Loc Cert.AdamSsdOutRefIdeal.nD Cert.AdamSsdOutRefIdeal.τ Cert.AdamSsdOutRefIdeal.sig) → Buf (Elt Ideal) ℓ) (g' : Dev Cert.AdamSsdOutRefIdeal.nD → PrngReg), Pre_AdamSsdOutIdeal m →
    (∀ c : Dev Cert.AdamSsdOutIdeal.nD,
      m' ((c.tc : Thread Cert.AdamSsdOutRefIdeal.nD Cert.AdamSsdOutRefIdeal.τ).loc Cert.AdamSsdOutRefIdeal.main_arg0) = m ((c.tc : Thread Cert.AdamSsdOutIdeal.nD Cert.AdamSsdOutIdeal.τ).loc Cert.AdamSsdOutIdeal.main_arg0)
      ∧ m' ((c.tc : Thread Cert.AdamSsdOutRefIdeal.nD Cert.AdamSsdOutRefIdeal.τ).loc Cert.AdamSsdOutRefIdeal.main_arg1) = m ((c.tc : Thread Cert.AdamSsdOutIdeal.nD Cert.AdamSsdOutIdeal.τ).loc Cert.AdamSsdOutIdeal.main_arg1)
      ∧ m' ((c.tc : Thread Cert.AdamSsdOutRefIdeal.nD Cert.AdamSsdOutRefIdeal.τ).loc Cert.AdamSsdOutRefIdeal.main_arg2) = m ((c.tc : Thread Cert.AdamSsdOutIdeal.nD Cert.AdamSsdOutIdeal.τ).loc Cert.AdamSsdOutIdeal.main_arg2)
      ∧ m' ((c.tc : Thread Cert.AdamSsdOutRefIdeal.nD Cert.AdamSsdOutRefIdeal.τ).loc Cert.AdamSsdOutRefIdeal.main_arg3) = m ((c.tc : Thread Cert.AdamSsdOutIdeal.nD Cert.AdamSsdOutIdeal.τ).loc Cert.AdamSsdOutIdeal.main_arg3)) →
    ∃ (v0 : (c : Dev Cert.AdamSsdOutIdeal.nD) → Buf (Elt Ideal) ((c.tc : Thread Cert.AdamSsdOutIdeal.nD Cert.AdamSsdOutIdeal.τ).loc Cert.AdamSsdOutIdeal.main_v0_0)) (v1 : (c : Dev Cert.AdamSsdOutIdeal.nD) → Buf (Elt Ideal) ((c.tc : Thread Cert.AdamSsdOutIdeal.nD Cert.AdamSsdOutIdeal.τ).loc Cert.AdamSsdOutIdeal.main_v0_1)) (v2 : (c : Dev Cert.AdamSsdOutIdeal.nD) → Buf (Elt Ideal) ((c.tc : Thread Cert.AdamSsdOutIdeal.nD Cert.AdamSsdOutIdeal.τ).loc Cert.AdamSsdOutIdeal.main_v0_2)),
      θ_run (Cert.AdamSsdOutIdeal.defs (F := Ideal)) (onTc (τ := Cert.AdamSsdOutIdeal.τ) (Cert.AdamSsdOutIdeal.main (F := Ideal))) ⟨m, fun _ => 0, g⟩ (fun r => ∀ c : Dev Cert.AdamSsdOutIdeal.nD,
          r.2.mem ((c.tc : Thread Cert.AdamSsdOutIdeal.nD Cert.AdamSsdOutIdeal.τ).loc Cert.AdamSsdOutIdeal.main_v0_0) = v0 c
          ∧ r.2.mem ((c.tc : Thread Cert.AdamSsdOutIdeal.nD Cert.AdamSsdOutIdeal.τ).loc Cert.AdamSsdOutIdeal.main_v0_1) = v1 c
          ∧ r.2.mem ((c.tc : Thread Cert.AdamSsdOutIdeal.nD Cert.AdamSsdOutIdeal.τ).loc Cert.AdamSsdOutIdeal.main_v0_2) = v2 c
          ∧ r.2.mem ((c.tc : Thread Cert.AdamSsdOutIdeal.nD Cert.AdamSsdOutIdeal.τ).loc Cert.AdamSsdOutIdeal.main_arg0) = m ((c.tc : Thread Cert.AdamSsdOutIdeal.nD Cert.AdamSsdOutIdeal.τ).loc Cert.AdamSsdOutIdeal.main_arg0)
          ∧ r.2.mem ((c.tc : Thread Cert.AdamSsdOutIdeal.nD Cert.AdamSsdOutIdeal.τ).loc Cert.AdamSsdOutIdeal.main_arg1) = m ((c.tc : Thread Cert.AdamSsdOutIdeal.nD Cert.AdamSsdOutIdeal.τ).loc Cert.AdamSsdOutIdeal.main_arg1)
          ∧ r.2.mem ((c.tc : Thread Cert.AdamSsdOutIdeal.nD Cert.AdamSsdOutIdeal.τ).loc Cert.AdamSsdOutIdeal.main_arg2) = m ((c.tc : Thread Cert.AdamSsdOutIdeal.nD Cert.AdamSsdOutIdeal.τ).loc Cert.AdamSsdOutIdeal.main_arg2)
          ∧ r.2.mem ((c.tc : Thread Cert.AdamSsdOutIdeal.nD Cert.AdamSsdOutIdeal.τ).loc Cert.AdamSsdOutIdeal.main_arg3) = m ((c.tc : Thread Cert.AdamSsdOutIdeal.nD Cert.AdamSsdOutIdeal.τ).loc Cert.AdamSsdOutIdeal.main_arg3))
      ∧ θ_run (Cert.AdamSsdOutRefIdeal.defs (F := Ideal)) (onTc (τ := Cert.AdamSsdOutRefIdeal.τ) (Cert.AdamSsdOutRefIdeal.main (F := Ideal))) ⟨m', fun _ => 0, g'⟩ (fun r => ∀ c : Dev Cert.AdamSsdOutRefIdeal.nD,
          r.2.mem ((c.tc : Thread Cert.AdamSsdOutRefIdeal.nD Cert.AdamSsdOutRefIdeal.τ).loc Cert.AdamSsdOutRefIdeal.main_v23) = v0 c
          ∧ r.2.mem ((c.tc : Thread Cert.AdamSsdOutRefIdeal.nD Cert.AdamSsdOutRefIdeal.τ).loc Cert.AdamSsdOutRefIdeal.main_v4) = v1 c
          ∧ r.2.mem ((c.tc : Thread Cert.AdamSsdOutRefIdeal.nD Cert.AdamSsdOutRefIdeal.τ).loc Cert.AdamSsdOutRefIdeal.main_v10) = v2 c
          ∧ r.2.mem ((c.tc : Thread Cert.AdamSsdOutRefIdeal.nD Cert.AdamSsdOutRefIdeal.τ).loc Cert.AdamSsdOutRefIdeal.main_arg0) = m' ((c.tc : Thread Cert.AdamSsdOutRefIdeal.nD Cert.AdamSsdOutRefIdeal.τ).loc Cert.AdamSsdOutRefIdeal.main_arg0)
          ∧ r.2.mem ((c.tc : Thread Cert.AdamSsdOutRefIdeal.nD Cert.AdamSsdOutRefIdeal.τ).loc Cert.AdamSsdOutRefIdeal.main_arg1) = m' ((c.tc : Thread Cert.AdamSsdOutRefIdeal.nD Cert.AdamSsdOutRefIdeal.τ).loc Cert.AdamSsdOutRefIdeal.main_arg1)
          ∧ r.2.mem ((c.tc : Thread Cert.AdamSsdOutRefIdeal.nD Cert.AdamSsdOutRefIdeal.τ).loc Cert.AdamSsdOutRefIdeal.main_arg2) = m' ((c.tc : Thread Cert.AdamSsdOutRefIdeal.nD Cert.AdamSsdOutRefIdeal.τ).loc Cert.AdamSsdOutRefIdeal.main_arg2)
          ∧ r.2.mem ((c.tc : Thread Cert.AdamSsdOutRefIdeal.nD Cert.AdamSsdOutRefIdeal.τ).loc Cert.AdamSsdOutRefIdeal.main_arg3) = m' ((c.tc : Thread Cert.AdamSsdOutRefIdeal.nD Cert.AdamSsdOutRefIdeal.τ).loc Cert.AdamSsdOutRefIdeal.main_arg3))

def preserves_AdamSbIn_AdamSbInIdeal : Prop :=
  True

def algebraic_AdamSbInIdeal_AdamSbInRefIdeal [hAdamSbInIdeal : Cert.AdamSbInIdeal.Facts] [hAdamSbInRefIdeal : Cert.AdamSbInRefIdeal.Facts] : Prop :=
  ∀ (m : (ℓ : Loc Cert.AdamSbInIdeal.nD Cert.AdamSbInIdeal.τ Cert.AdamSbInIdeal.sig) → Buf (Elt Ideal) ℓ) (g : Dev Cert.AdamSbInIdeal.nD → PrngReg)
    (m' : (ℓ : Loc Cert.AdamSbInRefIdeal.nD Cert.AdamSbInRefIdeal.τ Cert.AdamSbInRefIdeal.sig) → Buf (Elt Ideal) ℓ) (g' : Dev Cert.AdamSbInRefIdeal.nD → PrngReg), Pre_AdamSbInIdeal m →
    (∀ c : Dev Cert.AdamSbInIdeal.nD,
      m' ((c.tc : Thread Cert.AdamSbInRefIdeal.nD Cert.AdamSbInRefIdeal.τ).loc Cert.AdamSbInRefIdeal.main_arg0) = m ((c.tc : Thread Cert.AdamSbInIdeal.nD Cert.AdamSbInIdeal.τ).loc Cert.AdamSbInIdeal.main_arg0)
      ∧ m' ((c.tc : Thread Cert.AdamSbInRefIdeal.nD Cert.AdamSbInRefIdeal.τ).loc Cert.AdamSbInRefIdeal.main_arg1) = m ((c.tc : Thread Cert.AdamSbInIdeal.nD Cert.AdamSbInIdeal.τ).loc Cert.AdamSbInIdeal.main_arg1)
      ∧ m' ((c.tc : Thread Cert.AdamSbInRefIdeal.nD Cert.AdamSbInRefIdeal.τ).loc Cert.AdamSbInRefIdeal.main_arg2) = m ((c.tc : Thread Cert.AdamSbInIdeal.nD Cert.AdamSbInIdeal.τ).loc Cert.AdamSbInIdeal.main_arg2)
      ∧ m' ((c.tc : Thread Cert.AdamSbInRefIdeal.nD Cert.AdamSbInRefIdeal.τ).loc Cert.AdamSbInRefIdeal.main_arg3) = m ((c.tc : Thread Cert.AdamSbInIdeal.nD Cert.AdamSbInIdeal.τ).loc Cert.AdamSbInIdeal.main_arg3)) →
    ∃ (v0 : (c : Dev Cert.AdamSbInIdeal.nD) → Buf (Elt Ideal) ((c.tc : Thread Cert.AdamSbInIdeal.nD Cert.AdamSbInIdeal.τ).loc Cert.AdamSbInIdeal.main_v0_0)) (v1 : (c : Dev Cert.AdamSbInIdeal.nD) → Buf (Elt Ideal) ((c.tc : Thread Cert.AdamSbInIdeal.nD Cert.AdamSbInIdeal.τ).loc Cert.AdamSbInIdeal.main_v0_1)) (v2 : (c : Dev Cert.AdamSbInIdeal.nD) → Buf (Elt Ideal) ((c.tc : Thread Cert.AdamSbInIdeal.nD Cert.AdamSbInIdeal.τ).loc Cert.AdamSbInIdeal.main_v0_2)),
      θ_run (Cert.AdamSbInIdeal.defs (F := Ideal)) (onTc (τ := Cert.AdamSbInIdeal.τ) (Cert.AdamSbInIdeal.main (F := Ideal))) ⟨m, fun _ => 0, g⟩ (fun r => ∀ c : Dev Cert.AdamSbInIdeal.nD,
          r.2.mem ((c.tc : Thread Cert.AdamSbInIdeal.nD Cert.AdamSbInIdeal.τ).loc Cert.AdamSbInIdeal.main_v0_0) = v0 c
          ∧ r.2.mem ((c.tc : Thread Cert.AdamSbInIdeal.nD Cert.AdamSbInIdeal.τ).loc Cert.AdamSbInIdeal.main_v0_1) = v1 c
          ∧ r.2.mem ((c.tc : Thread Cert.AdamSbInIdeal.nD Cert.AdamSbInIdeal.τ).loc Cert.AdamSbInIdeal.main_v0_2) = v2 c
          ∧ r.2.mem ((c.tc : Thread Cert.AdamSbInIdeal.nD Cert.AdamSbInIdeal.τ).loc Cert.AdamSbInIdeal.main_arg0) = m ((c.tc : Thread Cert.AdamSbInIdeal.nD Cert.AdamSbInIdeal.τ).loc Cert.AdamSbInIdeal.main_arg0)
          ∧ r.2.mem ((c.tc : Thread Cert.AdamSbInIdeal.nD Cert.AdamSbInIdeal.τ).loc Cert.AdamSbInIdeal.main_arg1) = m ((c.tc : Thread Cert.AdamSbInIdeal.nD Cert.AdamSbInIdeal.τ).loc Cert.AdamSbInIdeal.main_arg1)
          ∧ r.2.mem ((c.tc : Thread Cert.AdamSbInIdeal.nD Cert.AdamSbInIdeal.τ).loc Cert.AdamSbInIdeal.main_arg2) = m ((c.tc : Thread Cert.AdamSbInIdeal.nD Cert.AdamSbInIdeal.τ).loc Cert.AdamSbInIdeal.main_arg2)
          ∧ r.2.mem ((c.tc : Thread Cert.AdamSbInIdeal.nD Cert.AdamSbInIdeal.τ).loc Cert.AdamSbInIdeal.main_arg3) = m ((c.tc : Thread Cert.AdamSbInIdeal.nD Cert.AdamSbInIdeal.τ).loc Cert.AdamSbInIdeal.main_arg3))
      ∧ θ_run (Cert.AdamSbInRefIdeal.defs (F := Ideal)) (onTc (τ := Cert.AdamSbInRefIdeal.τ) (Cert.AdamSbInRefIdeal.main (F := Ideal))) ⟨m', fun _ => 0, g'⟩ (fun r => ∀ c : Dev Cert.AdamSbInRefIdeal.nD,
          r.2.mem ((c.tc : Thread Cert.AdamSbInRefIdeal.nD Cert.AdamSbInRefIdeal.τ).loc Cert.AdamSbInRefIdeal.main_v23) = v0 c
          ∧ r.2.mem ((c.tc : Thread Cert.AdamSbInRefIdeal.nD Cert.AdamSbInRefIdeal.τ).loc Cert.AdamSbInRefIdeal.main_v4) = v1 c
          ∧ r.2.mem ((c.tc : Thread Cert.AdamSbInRefIdeal.nD Cert.AdamSbInRefIdeal.τ).loc Cert.AdamSbInRefIdeal.main_v10) = v2 c
          ∧ r.2.mem ((c.tc : Thread Cert.AdamSbInRefIdeal.nD Cert.AdamSbInRefIdeal.τ).loc Cert.AdamSbInRefIdeal.main_arg0) = m' ((c.tc : Thread Cert.AdamSbInRefIdeal.nD Cert.AdamSbInRefIdeal.τ).loc Cert.AdamSbInRefIdeal.main_arg0)
          ∧ r.2.mem ((c.tc : Thread Cert.AdamSbInRefIdeal.nD Cert.AdamSbInRefIdeal.τ).loc Cert.AdamSbInRefIdeal.main_arg1) = m' ((c.tc : Thread Cert.AdamSbInRefIdeal.nD Cert.AdamSbInRefIdeal.τ).loc Cert.AdamSbInRefIdeal.main_arg1)
          ∧ r.2.mem ((c.tc : Thread Cert.AdamSbInRefIdeal.nD Cert.AdamSbInRefIdeal.τ).loc Cert.AdamSbInRefIdeal.main_arg2) = m' ((c.tc : Thread Cert.AdamSbInRefIdeal.nD Cert.AdamSbInRefIdeal.τ).loc Cert.AdamSbInRefIdeal.main_arg2)
          ∧ r.2.mem ((c.tc : Thread Cert.AdamSbInRefIdeal.nD Cert.AdamSbInRefIdeal.τ).loc Cert.AdamSbInRefIdeal.main_arg3) = m' ((c.tc : Thread Cert.AdamSbInRefIdeal.nD Cert.AdamSbInRefIdeal.τ).loc Cert.AdamSbInRefIdeal.main_arg3))

def preserves_AdamSbOut_AdamSbOutIdeal : Prop :=
  True

def algebraic_AdamSbOutIdeal_AdamSbOutRefIdeal [hAdamSbOutIdeal : Cert.AdamSbOutIdeal.Facts] [hAdamSbOutRefIdeal : Cert.AdamSbOutRefIdeal.Facts] : Prop :=
  ∀ (m : (ℓ : Loc Cert.AdamSbOutIdeal.nD Cert.AdamSbOutIdeal.τ Cert.AdamSbOutIdeal.sig) → Buf (Elt Ideal) ℓ) (g : Dev Cert.AdamSbOutIdeal.nD → PrngReg)
    (m' : (ℓ : Loc Cert.AdamSbOutRefIdeal.nD Cert.AdamSbOutRefIdeal.τ Cert.AdamSbOutRefIdeal.sig) → Buf (Elt Ideal) ℓ) (g' : Dev Cert.AdamSbOutRefIdeal.nD → PrngReg), Pre_AdamSbOutIdeal m →
    (∀ c : Dev Cert.AdamSbOutIdeal.nD,
      m' ((c.tc : Thread Cert.AdamSbOutRefIdeal.nD Cert.AdamSbOutRefIdeal.τ).loc Cert.AdamSbOutRefIdeal.main_arg0) = m ((c.tc : Thread Cert.AdamSbOutIdeal.nD Cert.AdamSbOutIdeal.τ).loc Cert.AdamSbOutIdeal.main_arg0)
      ∧ m' ((c.tc : Thread Cert.AdamSbOutRefIdeal.nD Cert.AdamSbOutRefIdeal.τ).loc Cert.AdamSbOutRefIdeal.main_arg1) = m ((c.tc : Thread Cert.AdamSbOutIdeal.nD Cert.AdamSbOutIdeal.τ).loc Cert.AdamSbOutIdeal.main_arg1)
      ∧ m' ((c.tc : Thread Cert.AdamSbOutRefIdeal.nD Cert.AdamSbOutRefIdeal.τ).loc Cert.AdamSbOutRefIdeal.main_arg2) = m ((c.tc : Thread Cert.AdamSbOutIdeal.nD Cert.AdamSbOutIdeal.τ).loc Cert.AdamSbOutIdeal.main_arg2)
      ∧ m' ((c.tc : Thread Cert.AdamSbOutRefIdeal.nD Cert.AdamSbOutRefIdeal.τ).loc Cert.AdamSbOutRefIdeal.main_arg3) = m ((c.tc : Thread Cert.AdamSbOutIdeal.nD Cert.AdamSbOutIdeal.τ).loc Cert.AdamSbOutIdeal.main_arg3)) →
    ∃ (v0 : (c : Dev Cert.AdamSbOutIdeal.nD) → Buf (Elt Ideal) ((c.tc : Thread Cert.AdamSbOutIdeal.nD Cert.AdamSbOutIdeal.τ).loc Cert.AdamSbOutIdeal.main_v0_0)) (v1 : (c : Dev Cert.AdamSbOutIdeal.nD) → Buf (Elt Ideal) ((c.tc : Thread Cert.AdamSbOutIdeal.nD Cert.AdamSbOutIdeal.τ).loc Cert.AdamSbOutIdeal.main_v0_1)) (v2 : (c : Dev Cert.AdamSbOutIdeal.nD) → Buf (Elt Ideal) ((c.tc : Thread Cert.AdamSbOutIdeal.nD Cert.AdamSbOutIdeal.τ).loc Cert.AdamSbOutIdeal.main_v0_2)),
      θ_run (Cert.AdamSbOutIdeal.defs (F := Ideal)) (onTc (τ := Cert.AdamSbOutIdeal.τ) (Cert.AdamSbOutIdeal.main (F := Ideal))) ⟨m, fun _ => 0, g⟩ (fun r => ∀ c : Dev Cert.AdamSbOutIdeal.nD,
          r.2.mem ((c.tc : Thread Cert.AdamSbOutIdeal.nD Cert.AdamSbOutIdeal.τ).loc Cert.AdamSbOutIdeal.main_v0_0) = v0 c
          ∧ r.2.mem ((c.tc : Thread Cert.AdamSbOutIdeal.nD Cert.AdamSbOutIdeal.τ).loc Cert.AdamSbOutIdeal.main_v0_1) = v1 c
          ∧ r.2.mem ((c.tc : Thread Cert.AdamSbOutIdeal.nD Cert.AdamSbOutIdeal.τ).loc Cert.AdamSbOutIdeal.main_v0_2) = v2 c
          ∧ r.2.mem ((c.tc : Thread Cert.AdamSbOutIdeal.nD Cert.AdamSbOutIdeal.τ).loc Cert.AdamSbOutIdeal.main_arg0) = m ((c.tc : Thread Cert.AdamSbOutIdeal.nD Cert.AdamSbOutIdeal.τ).loc Cert.AdamSbOutIdeal.main_arg0)
          ∧ r.2.mem ((c.tc : Thread Cert.AdamSbOutIdeal.nD Cert.AdamSbOutIdeal.τ).loc Cert.AdamSbOutIdeal.main_arg1) = m ((c.tc : Thread Cert.AdamSbOutIdeal.nD Cert.AdamSbOutIdeal.τ).loc Cert.AdamSbOutIdeal.main_arg1)
          ∧ r.2.mem ((c.tc : Thread Cert.AdamSbOutIdeal.nD Cert.AdamSbOutIdeal.τ).loc Cert.AdamSbOutIdeal.main_arg2) = m ((c.tc : Thread Cert.AdamSbOutIdeal.nD Cert.AdamSbOutIdeal.τ).loc Cert.AdamSbOutIdeal.main_arg2)
          ∧ r.2.mem ((c.tc : Thread Cert.AdamSbOutIdeal.nD Cert.AdamSbOutIdeal.τ).loc Cert.AdamSbOutIdeal.main_arg3) = m ((c.tc : Thread Cert.AdamSbOutIdeal.nD Cert.AdamSbOutIdeal.τ).loc Cert.AdamSbOutIdeal.main_arg3))
      ∧ θ_run (Cert.AdamSbOutRefIdeal.defs (F := Ideal)) (onTc (τ := Cert.AdamSbOutRefIdeal.τ) (Cert.AdamSbOutRefIdeal.main (F := Ideal))) ⟨m', fun _ => 0, g'⟩ (fun r => ∀ c : Dev Cert.AdamSbOutRefIdeal.nD,
          r.2.mem ((c.tc : Thread Cert.AdamSbOutRefIdeal.nD Cert.AdamSbOutRefIdeal.τ).loc Cert.AdamSbOutRefIdeal.main_v23) = v0 c
          ∧ r.2.mem ((c.tc : Thread Cert.AdamSbOutRefIdeal.nD Cert.AdamSbOutRefIdeal.τ).loc Cert.AdamSbOutRefIdeal.main_v4) = v1 c
          ∧ r.2.mem ((c.tc : Thread Cert.AdamSbOutRefIdeal.nD Cert.AdamSbOutRefIdeal.τ).loc Cert.AdamSbOutRefIdeal.main_v10) = v2 c
          ∧ r.2.mem ((c.tc : Thread Cert.AdamSbOutRefIdeal.nD Cert.AdamSbOutRefIdeal.τ).loc Cert.AdamSbOutRefIdeal.main_arg0) = m' ((c.tc : Thread Cert.AdamSbOutRefIdeal.nD Cert.AdamSbOutRefIdeal.τ).loc Cert.AdamSbOutRefIdeal.main_arg0)
          ∧ r.2.mem ((c.tc : Thread Cert.AdamSbOutRefIdeal.nD Cert.AdamSbOutRefIdeal.τ).loc Cert.AdamSbOutRefIdeal.main_arg1) = m' ((c.tc : Thread Cert.AdamSbOutRefIdeal.nD Cert.AdamSbOutRefIdeal.τ).loc Cert.AdamSbOutRefIdeal.main_arg1)
          ∧ r.2.mem ((c.tc : Thread Cert.AdamSbOutRefIdeal.nD Cert.AdamSbOutRefIdeal.τ).loc Cert.AdamSbOutRefIdeal.main_arg2) = m' ((c.tc : Thread Cert.AdamSbOutRefIdeal.nD Cert.AdamSbOutRefIdeal.τ).loc Cert.AdamSbOutRefIdeal.main_arg2)
          ∧ r.2.mem ((c.tc : Thread Cert.AdamSbOutRefIdeal.nD Cert.AdamSbOutRefIdeal.τ).loc Cert.AdamSbOutRefIdeal.main_arg3) = m' ((c.tc : Thread Cert.AdamSbOutRefIdeal.nD Cert.AdamSbOutRefIdeal.τ).loc Cert.AdamSbOutRefIdeal.main_arg3))

def preserves_AdamPleGate_AdamPleGateIdeal : Prop :=
  True

def algebraic_AdamPleGateIdeal_AdamPleGateRefIdeal [hAdamPleGateIdeal : Cert.AdamPleGateIdeal.Facts] [hAdamPleGateRefIdeal : Cert.AdamPleGateRefIdeal.Facts] : Prop :=
  ∀ (m : (ℓ : Loc Cert.AdamPleGateIdeal.nD Cert.AdamPleGateIdeal.τ Cert.AdamPleGateIdeal.sig) → Buf (Elt Ideal) ℓ) (g : Dev Cert.AdamPleGateIdeal.nD → PrngReg)
    (m' : (ℓ : Loc Cert.AdamPleGateRefIdeal.nD Cert.AdamPleGateRefIdeal.τ Cert.AdamPleGateRefIdeal.sig) → Buf (Elt Ideal) ℓ) (g' : Dev Cert.AdamPleGateRefIdeal.nD → PrngReg), Pre_AdamPleGateIdeal m →
    (∀ c : Dev Cert.AdamPleGateIdeal.nD,
      m' ((c.tc : Thread Cert.AdamPleGateRefIdeal.nD Cert.AdamPleGateRefIdeal.τ).loc Cert.AdamPleGateRefIdeal.main_arg0) = m ((c.tc : Thread Cert.AdamPleGateIdeal.nD Cert.AdamPleGateIdeal.τ).loc Cert.AdamPleGateIdeal.main_arg0)
      ∧ m' ((c.tc : Thread Cert.AdamPleGateRefIdeal.nD Cert.AdamPleGateRefIdeal.τ).loc Cert.AdamPleGateRefIdeal.main_arg1) = m ((c.tc : Thread Cert.AdamPleGateIdeal.nD Cert.AdamPleGateIdeal.τ).loc Cert.AdamPleGateIdeal.main_arg1)
      ∧ m' ((c.tc : Thread Cert.AdamPleGateRefIdeal.nD Cert.AdamPleGateRefIdeal.τ).loc Cert.AdamPleGateRefIdeal.main_arg2) = m ((c.tc : Thread Cert.AdamPleGateIdeal.nD Cert.AdamPleGateIdeal.τ).loc Cert.AdamPleGateIdeal.main_arg2)
      ∧ m' ((c.tc : Thread Cert.AdamPleGateRefIdeal.nD Cert.AdamPleGateRefIdeal.τ).loc Cert.AdamPleGateRefIdeal.main_arg3) = m ((c.tc : Thread Cert.AdamPleGateIdeal.nD Cert.AdamPleGateIdeal.τ).loc Cert.AdamPleGateIdeal.main_arg3)) →
    ∃ (v0 : (c : Dev Cert.AdamPleGateIdeal.nD) → Buf (Elt Ideal) ((c.tc : Thread Cert.AdamPleGateIdeal.nD Cert.AdamPleGateIdeal.τ).loc Cert.AdamPleGateIdeal.main_v0_0)) (v1 : (c : Dev Cert.AdamPleGateIdeal.nD) → Buf (Elt Ideal) ((c.tc : Thread Cert.AdamPleGateIdeal.nD Cert.AdamPleGateIdeal.τ).loc Cert.AdamPleGateIdeal.main_v0_1)) (v2 : (c : Dev Cert.AdamPleGateIdeal.nD) → Buf (Elt Ideal) ((c.tc : Thread Cert.AdamPleGateIdeal.nD Cert.AdamPleGateIdeal.τ).loc Cert.AdamPleGateIdeal.main_v0_2)),
      θ_run (Cert.AdamPleGateIdeal.defs (F := Ideal)) (onTc (τ := Cert.AdamPleGateIdeal.τ) (Cert.AdamPleGateIdeal.main (F := Ideal))) ⟨m, fun _ => 0, g⟩ (fun r => ∀ c : Dev Cert.AdamPleGateIdeal.nD,
          r.2.mem ((c.tc : Thread Cert.AdamPleGateIdeal.nD Cert.AdamPleGateIdeal.τ).loc Cert.AdamPleGateIdeal.main_v0_0) = v0 c
          ∧ r.2.mem ((c.tc : Thread Cert.AdamPleGateIdeal.nD Cert.AdamPleGateIdeal.τ).loc Cert.AdamPleGateIdeal.main_v0_1) = v1 c
          ∧ r.2.mem ((c.tc : Thread Cert.AdamPleGateIdeal.nD Cert.AdamPleGateIdeal.τ).loc Cert.AdamPleGateIdeal.main_v0_2) = v2 c
          ∧ r.2.mem ((c.tc : Thread Cert.AdamPleGateIdeal.nD Cert.AdamPleGateIdeal.τ).loc Cert.AdamPleGateIdeal.main_arg0) = m ((c.tc : Thread Cert.AdamPleGateIdeal.nD Cert.AdamPleGateIdeal.τ).loc Cert.AdamPleGateIdeal.main_arg0)
          ∧ r.2.mem ((c.tc : Thread Cert.AdamPleGateIdeal.nD Cert.AdamPleGateIdeal.τ).loc Cert.AdamPleGateIdeal.main_arg1) = m ((c.tc : Thread Cert.AdamPleGateIdeal.nD Cert.AdamPleGateIdeal.τ).loc Cert.AdamPleGateIdeal.main_arg1)
          ∧ r.2.mem ((c.tc : Thread Cert.AdamPleGateIdeal.nD Cert.AdamPleGateIdeal.τ).loc Cert.AdamPleGateIdeal.main_arg2) = m ((c.tc : Thread Cert.AdamPleGateIdeal.nD Cert.AdamPleGateIdeal.τ).loc Cert.AdamPleGateIdeal.main_arg2)
          ∧ r.2.mem ((c.tc : Thread Cert.AdamPleGateIdeal.nD Cert.AdamPleGateIdeal.τ).loc Cert.AdamPleGateIdeal.main_arg3) = m ((c.tc : Thread Cert.AdamPleGateIdeal.nD Cert.AdamPleGateIdeal.τ).loc Cert.AdamPleGateIdeal.main_arg3))
      ∧ θ_run (Cert.AdamPleGateRefIdeal.defs (F := Ideal)) (onTc (τ := Cert.AdamPleGateRefIdeal.τ) (Cert.AdamPleGateRefIdeal.main (F := Ideal))) ⟨m', fun _ => 0, g'⟩ (fun r => ∀ c : Dev Cert.AdamPleGateRefIdeal.nD,
          r.2.mem ((c.tc : Thread Cert.AdamPleGateRefIdeal.nD Cert.AdamPleGateRefIdeal.τ).loc Cert.AdamPleGateRefIdeal.main_v23) = v0 c
          ∧ r.2.mem ((c.tc : Thread Cert.AdamPleGateRefIdeal.nD Cert.AdamPleGateRefIdeal.τ).loc Cert.AdamPleGateRefIdeal.main_v4) = v1 c
          ∧ r.2.mem ((c.tc : Thread Cert.AdamPleGateRefIdeal.nD Cert.AdamPleGateRefIdeal.τ).loc Cert.AdamPleGateRefIdeal.main_v10) = v2 c
          ∧ r.2.mem ((c.tc : Thread Cert.AdamPleGateRefIdeal.nD Cert.AdamPleGateRefIdeal.τ).loc Cert.AdamPleGateRefIdeal.main_arg0) = m' ((c.tc : Thread Cert.AdamPleGateRefIdeal.nD Cert.AdamPleGateRefIdeal.τ).loc Cert.AdamPleGateRefIdeal.main_arg0)
          ∧ r.2.mem ((c.tc : Thread Cert.AdamPleGateRefIdeal.nD Cert.AdamPleGateRefIdeal.τ).loc Cert.AdamPleGateRefIdeal.main_arg1) = m' ((c.tc : Thread Cert.AdamPleGateRefIdeal.nD Cert.AdamPleGateRefIdeal.τ).loc Cert.AdamPleGateRefIdeal.main_arg1)
          ∧ r.2.mem ((c.tc : Thread Cert.AdamPleGateRefIdeal.nD Cert.AdamPleGateRefIdeal.τ).loc Cert.AdamPleGateRefIdeal.main_arg2) = m' ((c.tc : Thread Cert.AdamPleGateRefIdeal.nD Cert.AdamPleGateRefIdeal.τ).loc Cert.AdamPleGateRefIdeal.main_arg2)
          ∧ r.2.mem ((c.tc : Thread Cert.AdamPleGateRefIdeal.nD Cert.AdamPleGateRefIdeal.τ).loc Cert.AdamPleGateRefIdeal.main_arg3) = m' ((c.tc : Thread Cert.AdamPleGateRefIdeal.nD Cert.AdamPleGateRefIdeal.τ).loc Cert.AdamPleGateRefIdeal.main_arg3))

def preserves_AdamPleProj_AdamPleProjIdeal : Prop :=
  True

def algebraic_AdamPleProjIdeal_AdamPleProjRefIdeal [hAdamPleProjIdeal : Cert.AdamPleProjIdeal.Facts] [hAdamPleProjRefIdeal : Cert.AdamPleProjRefIdeal.Facts] : Prop :=
  ∀ (m : (ℓ : Loc Cert.AdamPleProjIdeal.nD Cert.AdamPleProjIdeal.τ Cert.AdamPleProjIdeal.sig) → Buf (Elt Ideal) ℓ) (g : Dev Cert.AdamPleProjIdeal.nD → PrngReg)
    (m' : (ℓ : Loc Cert.AdamPleProjRefIdeal.nD Cert.AdamPleProjRefIdeal.τ Cert.AdamPleProjRefIdeal.sig) → Buf (Elt Ideal) ℓ) (g' : Dev Cert.AdamPleProjRefIdeal.nD → PrngReg), Pre_AdamPleProjIdeal m →
    (∀ c : Dev Cert.AdamPleProjIdeal.nD,
      m' ((c.tc : Thread Cert.AdamPleProjRefIdeal.nD Cert.AdamPleProjRefIdeal.τ).loc Cert.AdamPleProjRefIdeal.main_arg0) = m ((c.tc : Thread Cert.AdamPleProjIdeal.nD Cert.AdamPleProjIdeal.τ).loc Cert.AdamPleProjIdeal.main_arg0)
      ∧ m' ((c.tc : Thread Cert.AdamPleProjRefIdeal.nD Cert.AdamPleProjRefIdeal.τ).loc Cert.AdamPleProjRefIdeal.main_arg1) = m ((c.tc : Thread Cert.AdamPleProjIdeal.nD Cert.AdamPleProjIdeal.τ).loc Cert.AdamPleProjIdeal.main_arg1)
      ∧ m' ((c.tc : Thread Cert.AdamPleProjRefIdeal.nD Cert.AdamPleProjRefIdeal.τ).loc Cert.AdamPleProjRefIdeal.main_arg2) = m ((c.tc : Thread Cert.AdamPleProjIdeal.nD Cert.AdamPleProjIdeal.τ).loc Cert.AdamPleProjIdeal.main_arg2)
      ∧ m' ((c.tc : Thread Cert.AdamPleProjRefIdeal.nD Cert.AdamPleProjRefIdeal.τ).loc Cert.AdamPleProjRefIdeal.main_arg3) = m ((c.tc : Thread Cert.AdamPleProjIdeal.nD Cert.AdamPleProjIdeal.τ).loc Cert.AdamPleProjIdeal.main_arg3)) →
    ∃ (v0 : (c : Dev Cert.AdamPleProjIdeal.nD) → Buf (Elt Ideal) ((c.tc : Thread Cert.AdamPleProjIdeal.nD Cert.AdamPleProjIdeal.τ).loc Cert.AdamPleProjIdeal.main_v0_0)) (v1 : (c : Dev Cert.AdamPleProjIdeal.nD) → Buf (Elt Ideal) ((c.tc : Thread Cert.AdamPleProjIdeal.nD Cert.AdamPleProjIdeal.τ).loc Cert.AdamPleProjIdeal.main_v0_1)) (v2 : (c : Dev Cert.AdamPleProjIdeal.nD) → Buf (Elt Ideal) ((c.tc : Thread Cert.AdamPleProjIdeal.nD Cert.AdamPleProjIdeal.τ).loc Cert.AdamPleProjIdeal.main_v0_2)),
      θ_run (Cert.AdamPleProjIdeal.defs (F := Ideal)) (onTc (τ := Cert.AdamPleProjIdeal.τ) (Cert.AdamPleProjIdeal.main (F := Ideal))) ⟨m, fun _ => 0, g⟩ (fun r => ∀ c : Dev Cert.AdamPleProjIdeal.nD,
          r.2.mem ((c.tc : Thread Cert.AdamPleProjIdeal.nD Cert.AdamPleProjIdeal.τ).loc Cert.AdamPleProjIdeal.main_v0_0) = v0 c
          ∧ r.2.mem ((c.tc : Thread Cert.AdamPleProjIdeal.nD Cert.AdamPleProjIdeal.τ).loc Cert.AdamPleProjIdeal.main_v0_1) = v1 c
          ∧ r.2.mem ((c.tc : Thread Cert.AdamPleProjIdeal.nD Cert.AdamPleProjIdeal.τ).loc Cert.AdamPleProjIdeal.main_v0_2) = v2 c
          ∧ r.2.mem ((c.tc : Thread Cert.AdamPleProjIdeal.nD Cert.AdamPleProjIdeal.τ).loc Cert.AdamPleProjIdeal.main_arg0) = m ((c.tc : Thread Cert.AdamPleProjIdeal.nD Cert.AdamPleProjIdeal.τ).loc Cert.AdamPleProjIdeal.main_arg0)
          ∧ r.2.mem ((c.tc : Thread Cert.AdamPleProjIdeal.nD Cert.AdamPleProjIdeal.τ).loc Cert.AdamPleProjIdeal.main_arg1) = m ((c.tc : Thread Cert.AdamPleProjIdeal.nD Cert.AdamPleProjIdeal.τ).loc Cert.AdamPleProjIdeal.main_arg1)
          ∧ r.2.mem ((c.tc : Thread Cert.AdamPleProjIdeal.nD Cert.AdamPleProjIdeal.τ).loc Cert.AdamPleProjIdeal.main_arg2) = m ((c.tc : Thread Cert.AdamPleProjIdeal.nD Cert.AdamPleProjIdeal.τ).loc Cert.AdamPleProjIdeal.main_arg2)
          ∧ r.2.mem ((c.tc : Thread Cert.AdamPleProjIdeal.nD Cert.AdamPleProjIdeal.τ).loc Cert.AdamPleProjIdeal.main_arg3) = m ((c.tc : Thread Cert.AdamPleProjIdeal.nD Cert.AdamPleProjIdeal.τ).loc Cert.AdamPleProjIdeal.main_arg3))
      ∧ θ_run (Cert.AdamPleProjRefIdeal.defs (F := Ideal)) (onTc (τ := Cert.AdamPleProjRefIdeal.τ) (Cert.AdamPleProjRefIdeal.main (F := Ideal))) ⟨m', fun _ => 0, g'⟩ (fun r => ∀ c : Dev Cert.AdamPleProjRefIdeal.nD,
          r.2.mem ((c.tc : Thread Cert.AdamPleProjRefIdeal.nD Cert.AdamPleProjRefIdeal.τ).loc Cert.AdamPleProjRefIdeal.main_v23) = v0 c
          ∧ r.2.mem ((c.tc : Thread Cert.AdamPleProjRefIdeal.nD Cert.AdamPleProjRefIdeal.τ).loc Cert.AdamPleProjRefIdeal.main_v4) = v1 c
          ∧ r.2.mem ((c.tc : Thread Cert.AdamPleProjRefIdeal.nD Cert.AdamPleProjRefIdeal.τ).loc Cert.AdamPleProjRefIdeal.main_v10) = v2 c
          ∧ r.2.mem ((c.tc : Thread Cert.AdamPleProjRefIdeal.nD Cert.AdamPleProjRefIdeal.τ).loc Cert.AdamPleProjRefIdeal.main_arg0) = m' ((c.tc : Thread Cert.AdamPleProjRefIdeal.nD Cert.AdamPleProjRefIdeal.τ).loc Cert.AdamPleProjRefIdeal.main_arg0)
          ∧ r.2.mem ((c.tc : Thread Cert.AdamPleProjRefIdeal.nD Cert.AdamPleProjRefIdeal.τ).loc Cert.AdamPleProjRefIdeal.main_arg1) = m' ((c.tc : Thread Cert.AdamPleProjRefIdeal.nD Cert.AdamPleProjRefIdeal.τ).loc Cert.AdamPleProjRefIdeal.main_arg1)
          ∧ r.2.mem ((c.tc : Thread Cert.AdamPleProjRefIdeal.nD Cert.AdamPleProjRefIdeal.τ).loc Cert.AdamPleProjRefIdeal.main_arg2) = m' ((c.tc : Thread Cert.AdamPleProjRefIdeal.nD Cert.AdamPleProjRefIdeal.τ).loc Cert.AdamPleProjRefIdeal.main_arg2)
          ∧ r.2.mem ((c.tc : Thread Cert.AdamPleProjRefIdeal.nD Cert.AdamPleProjRefIdeal.τ).loc Cert.AdamPleProjRefIdeal.main_arg3) = m' ((c.tc : Thread Cert.AdamPleProjRefIdeal.nD Cert.AdamPleProjRefIdeal.τ).loc Cert.AdamPleProjRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v1_0)) (v1 : (c : Dev Cert.RmsBwdIdeal.nD) → Buf (Elt Ideal) ((c.tc : Thread Cert.RmsBwdIdeal.nD Cert.RmsBwdIdeal.τ).loc Cert.RmsBwdIdeal.main_v1_1)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v1_0) = v0 c
          ∧ r.2.mem ((c.tc : Thread Cert.RmsBwdIdeal.nD Cert.RmsBwdIdeal.τ).loc Cert.RmsBwdIdeal.main_v1_1) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v38) = v0 c
          ∧ r.2.mem ((c.tc : Thread Cert.RmsBwdRefIdeal.nD Cert.RmsBwdRefIdeal.τ).loc Cert.RmsBwdRefIdeal.main_v39) = v1 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v15) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_PleFwd_PleFwdIdeal : Prop :=
  True

def algebraic_PleFwdIdeal_PleFwdRefIdeal [hPleFwdIdeal : Cert.PleFwdIdeal.Facts] [hPleFwdRefIdeal : Cert.PleFwdRefIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg)
    (m' : (ℓ : Loc Cert.PleFwdRefIdeal.nD Cert.PleFwdRefIdeal.τ Cert.PleFwdRefIdeal.sig) → Buf (Elt Ideal) ℓ) (g' : Dev Cert.PleFwdRefIdeal.nD → PrngReg), Pre_PleFwdIdeal m →
    (∀ c : Dev Cert.PleFwdIdeal.nD,
      m' ((c.tc : Thread Cert.PleFwdRefIdeal.nD Cert.PleFwdRefIdeal.τ).loc Cert.PleFwdRefIdeal.main_arg0) = m ((c.tc : Thread Cert.PleFwdIdeal.nD Cert.PleFwdIdeal.τ).loc Cert.PleFwdIdeal.main_arg0)
      ∧ m' ((c.tc : Thread Cert.PleFwdRefIdeal.nD Cert.PleFwdRefIdeal.τ).loc Cert.PleFwdRefIdeal.main_arg1) = m ((c.tc : Thread Cert.PleFwdIdeal.nD Cert.PleFwdIdeal.τ).loc Cert.PleFwdIdeal.main_arg1)
      ∧ m' ((c.tc : Thread Cert.PleFwdRefIdeal.nD Cert.PleFwdRefIdeal.τ).loc Cert.PleFwdRefIdeal.main_arg2) = m ((c.tc : Thread Cert.PleFwdIdeal.nD Cert.PleFwdIdeal.τ).loc Cert.PleFwdIdeal.main_arg2)) →
    ∃ (v0 : (c : Dev Cert.PleFwdIdeal.nD) → Buf (Elt Ideal) ((c.tc : Thread Cert.PleFwdIdeal.nD Cert.PleFwdIdeal.τ).loc Cert.PleFwdIdeal.main_v0)),
      θ_run (Cert.PleFwdIdeal.defs (F := Ideal)) (onTc (τ := Cert.PleFwdIdeal.τ) (Cert.PleFwdIdeal.main (F := Ideal))) ⟨m, fun _ => 0, g⟩ (fun r => ∀ c : Dev Cert.PleFwdIdeal.nD,
          r.2.mem ((c.tc : Thread Cert.PleFwdIdeal.nD Cert.PleFwdIdeal.τ).loc Cert.PleFwdIdeal.main_v0) = v0 c
          ∧ r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
          ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
          ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2))
      ∧ θ_run (Cert.PleFwdRefIdeal.defs (F := Ideal)) (onTc (τ := Cert.PleFwdRefIdeal.τ) (Cert.PleFwdRefIdeal.main (F := Ideal))) ⟨m', fun _ => 0, g'⟩ (fun r => ∀ c : Dev Cert.PleFwdRefIdeal.nD,
          r.2.mem ((c.tc : Thread Cert.PleFwdRefIdeal.nD Cert.PleFwdRefIdeal.τ).loc Cert.PleFwdRefIdeal.main_v7) = v0 c
          ∧ r.2.mem ((c.tc : Thread Cert.PleFwdRefIdeal.nD Cert.PleFwdRefIdeal.τ).loc Cert.PleFwdRefIdeal.main_arg0) = m' ((c.tc : Thread Cert.PleFwdRefIdeal.nD Cert.PleFwdRefIdeal.τ).loc Cert.PleFwdRefIdeal.main_arg0)
          ∧ r.2.mem ((c.tc : Thread Cert.PleFwdRefIdeal.nD Cert.PleFwdRefIdeal.τ).loc Cert.PleFwdRefIdeal.main_arg1) = m' ((c.tc : Thread Cert.PleFwdRefIdeal.nD Cert.PleFwdRefIdeal.τ).loc Cert.PleFwdRefIdeal.main_arg1)
          ∧ r.2.mem ((c.tc : Thread Cert.PleFwdRefIdeal.nD Cert.PleFwdRefIdeal.τ).loc Cert.PleFwdRefIdeal.main_arg2) = m' ((c.tc : Thread Cert.PleFwdRefIdeal.nD Cert.PleFwdRefIdeal.τ).loc Cert.PleFwdRefIdeal.main_arg2))

def preserves_QkFwd_QkFwdIdeal : Prop :=
  True

def algebraic_QkFwdIdeal_QkFwdRefIdeal [hQkFwdIdeal : Cert.QkFwdIdeal.Facts] [hQkFwdRefIdeal : Cert.QkFwdRefIdeal.Facts] : Prop :=
  ∀ (m : (ℓ : Loc Cert.QkFwdIdeal.nD Cert.QkFwdIdeal.τ Cert.QkFwdIdeal.sig) → Buf (Elt Ideal) ℓ) (g : Dev Cert.QkFwdIdeal.nD → PrngReg)
    (m' : (ℓ : Loc Cert.QkFwdRefIdeal.nD Cert.QkFwdRefIdeal.τ Cert.QkFwdRefIdeal.sig) → Buf (Elt Ideal) ℓ) (g' : Dev Cert.QkFwdRefIdeal.nD → PrngReg), Pre_QkFwdIdeal m →
    (∀ c : Dev Cert.QkFwdIdeal.nD,
      m' ((c.tc : Thread Cert.QkFwdRefIdeal.nD Cert.QkFwdRefIdeal.τ).loc Cert.QkFwdRefIdeal.main_arg0) = m ((c.tc : Thread Cert.QkFwdIdeal.nD Cert.QkFwdIdeal.τ).loc Cert.QkFwdIdeal.main_arg0)
      ∧ m' ((c.tc : Thread Cert.QkFwdRefIdeal.nD Cert.QkFwdRefIdeal.τ).loc Cert.QkFwdRefIdeal.main_arg1) = m ((c.tc : Thread Cert.QkFwdIdeal.nD Cert.QkFwdIdeal.τ).loc Cert.QkFwdIdeal.main_arg1)
      ∧ m' ((c.tc : Thread Cert.QkFwdRefIdeal.nD Cert.QkFwdRefIdeal.τ).loc Cert.QkFwdRefIdeal.main_arg2) = m ((c.tc : Thread Cert.QkFwdIdeal.nD Cert.QkFwdIdeal.τ).loc Cert.QkFwdIdeal.main_arg2)) →
    ∃ (v0 : (c : Dev Cert.QkFwdIdeal.nD) → Buf (Elt Ideal) ((c.tc : Thread Cert.QkFwdIdeal.nD Cert.QkFwdIdeal.τ).loc Cert.QkFwdIdeal.main_v2_0)) (v1 : (c : Dev Cert.QkFwdIdeal.nD) → Buf (Elt Ideal) ((c.tc : Thread Cert.QkFwdIdeal.nD Cert.QkFwdIdeal.τ).loc Cert.QkFwdIdeal.main_v2_1)) (v2 : (c : Dev Cert.QkFwdIdeal.nD) → Buf (Elt Ideal) ((c.tc : Thread Cert.QkFwdIdeal.nD Cert.QkFwdIdeal.τ).loc Cert.QkFwdIdeal.main_v2_2)),
      θ_run (Cert.QkFwdIdeal.defs (F := Ideal)) (onTc (τ := Cert.QkFwdIdeal.τ) (Cert.QkFwdIdeal.main (F := Ideal))) ⟨m, fun _ => 0, g⟩ (fun r => ∀ c : Dev Cert.QkFwdIdeal.nD,
          r.2.mem ((c.tc : Thread Cert.QkFwdIdeal.nD Cert.QkFwdIdeal.τ).loc Cert.QkFwdIdeal.main_v2_0) = v0 c
          ∧ r.2.mem ((c.tc : Thread Cert.QkFwdIdeal.nD Cert.QkFwdIdeal.τ).loc Cert.QkFwdIdeal.main_v2_1) = v1 c
          ∧ r.2.mem ((c.tc : Thread Cert.QkFwdIdeal.nD Cert.QkFwdIdeal.τ).loc Cert.QkFwdIdeal.main_v2_2) = v2 c
          ∧ r.2.mem ((c.tc : Thread Cert.QkFwdIdeal.nD Cert.QkFwdIdeal.τ).loc Cert.QkFwdIdeal.main_arg0) = m ((c.tc : Thread Cert.QkFwdIdeal.nD Cert.QkFwdIdeal.τ).loc Cert.QkFwdIdeal.main_arg0)
          ∧ r.2.mem ((c.tc : Thread Cert.QkFwdIdeal.nD Cert.QkFwdIdeal.τ).loc Cert.QkFwdIdeal.main_arg1) = m ((c.tc : Thread Cert.QkFwdIdeal.nD Cert.QkFwdIdeal.τ).loc Cert.QkFwdIdeal.main_arg1)
          ∧ r.2.mem ((c.tc : Thread Cert.QkFwdIdeal.nD Cert.QkFwdIdeal.τ).loc Cert.QkFwdIdeal.main_arg2) = m ((c.tc : Thread Cert.QkFwdIdeal.nD Cert.QkFwdIdeal.τ).loc Cert.QkFwdIdeal.main_arg2))
      ∧ θ_run (Cert.QkFwdRefIdeal.defs (F := Ideal)) (onTc (τ := Cert.QkFwdRefIdeal.τ) (Cert.QkFwdRefIdeal.main (F := Ideal))) ⟨m', fun _ => 0, g'⟩ (fun r => ∀ c : Dev Cert.QkFwdRefIdeal.nD,
          r.2.mem ((c.tc : Thread Cert.QkFwdRefIdeal.nD Cert.QkFwdRefIdeal.τ).loc Cert.QkFwdRefIdeal.main_v37) = v0 c
          ∧ r.2.mem ((c.tc : Thread Cert.QkFwdRefIdeal.nD Cert.QkFwdRefIdeal.τ).loc Cert.QkFwdRefIdeal.main_v38) = v1 c
          ∧ r.2.mem ((c.tc : Thread Cert.QkFwdRefIdeal.nD Cert.QkFwdRefIdeal.τ).loc Cert.QkFwdRefIdeal.main_v39) = v2 c
          ∧ r.2.mem ((c.tc : Thread Cert.QkFwdRefIdeal.nD Cert.QkFwdRefIdeal.τ).loc Cert.QkFwdRefIdeal.main_arg0) = m' ((c.tc : Thread Cert.QkFwdRefIdeal.nD Cert.QkFwdRefIdeal.τ).loc Cert.QkFwdRefIdeal.main_arg0)
          ∧ r.2.mem ((c.tc : Thread Cert.QkFwdRefIdeal.nD Cert.QkFwdRefIdeal.τ).loc Cert.QkFwdRefIdeal.main_arg1) = m' ((c.tc : Thread Cert.QkFwdRefIdeal.nD Cert.QkFwdRefIdeal.τ).loc Cert.QkFwdRefIdeal.main_arg1)
          ∧ r.2.mem ((c.tc : Thread Cert.QkFwdRefIdeal.nD Cert.QkFwdRefIdeal.τ).loc Cert.QkFwdRefIdeal.main_arg2) = m' ((c.tc : Thread Cert.QkFwdRefIdeal.nD Cert.QkFwdRefIdeal.τ).loc Cert.QkFwdRefIdeal.main_arg2))

def Claim : Prop :=
  ∃ (hSbKernel : Cert.SbKernel.Facts) (hSbKernelIdeal : Cert.SbKernelIdeal.Facts) (hSbReferenceIdeal : Cert.SbReferenceIdeal.Facts) (hPleKernel : Cert.PleKernel.Facts) (hPleKernelIdeal : Cert.PleKernelIdeal.Facts) (hPleReferenceIdeal : Cert.PleReferenceIdeal.Facts) (hDSsdIn : Cert.DSsdIn.Facts) (hDSsdInIdeal : Cert.DSsdInIdeal.Facts) (hDSsdInRefIdeal : Cert.DSsdInRefIdeal.Facts) (hSsdInBwd : Cert.SsdInBwd.Facts) (hSsdInBwdIdeal : Cert.SsdInBwdIdeal.Facts) (hSsdInBwdRefIdeal : Cert.SsdInBwdRefIdeal.Facts) (hDSbIn : Cert.DSbIn.Facts) (hDSbInIdeal : Cert.DSbInIdeal.Facts) (hDSbInRefIdeal : Cert.DSbInRefIdeal.Facts) (hSbInBwd : Cert.SbInBwd.Facts) (hSbInBwdIdeal : Cert.SbInBwdIdeal.Facts) (hSbInBwdRefIdeal : Cert.SbInBwdRefIdeal.Facts) (hSsdIn : Cert.SsdIn.Facts) (hSsdInIdeal : Cert.SsdInIdeal.Facts) (hSsdInRefIdeal : Cert.SsdInRefIdeal.Facts) (hSbIn : Cert.SbIn.Facts) (hSbInIdeal : Cert.SbInIdeal.Facts) (hSbInRefIdeal : Cert.SbInRefIdeal.Facts) (hDSsdOut : Cert.DSsdOut.Facts) (hDSsdOutIdeal : Cert.DSsdOutIdeal.Facts) (hDSsdOutRefIdeal : Cert.DSsdOutRefIdeal.Facts) (hSsdOutBwd : Cert.SsdOutBwd.Facts) (hSsdOutBwdIdeal : Cert.SsdOutBwdIdeal.Facts) (hSsdOutBwdRefIdeal : Cert.SsdOutBwdRefIdeal.Facts) (hDPleGate : Cert.DPleGate.Facts) (hDPleGateIdeal : Cert.DPleGateIdeal.Facts) (hDPleGateRefIdeal : Cert.DPleGateRefIdeal.Facts) (hPleGateBwd : Cert.PleGateBwd.Facts) (hPleGateBwdIdeal : Cert.PleGateBwdIdeal.Facts) (hPleGateBwdRefIdeal : Cert.PleGateBwdRefIdeal.Facts) (hDSbOut : Cert.DSbOut.Facts) (hDSbOutIdeal : Cert.DSbOutIdeal.Facts) (hDSbOutRefIdeal : Cert.DSbOutRefIdeal.Facts) (hSbOutBwd : Cert.SbOutBwd.Facts) (hSbOutBwdIdeal : Cert.SbOutBwdIdeal.Facts) (hSbOutBwdRefIdeal : Cert.SbOutBwdRefIdeal.Facts) (hDPleProj : Cert.DPleProj.Facts) (hDPleProjIdeal : Cert.DPleProjIdeal.Facts) (hDPleProjRefIdeal : Cert.DPleProjRefIdeal.Facts) (hSsdOut : Cert.SsdOut.Facts) (hSsdOutIdeal : Cert.SsdOutIdeal.Facts) (hSsdOutRefIdeal : Cert.SsdOutRefIdeal.Facts) (hSbOut : Cert.SbOut.Facts) (hSbOutIdeal : Cert.SbOutIdeal.Facts) (hSbOutRefIdeal : Cert.SbOutRefIdeal.Facts) (hPleGate : Cert.PleGate.Facts) (hPleGateIdeal : Cert.PleGateIdeal.Facts) (hPleGateRefIdeal : Cert.PleGateRefIdeal.Facts) (hPleProj : Cert.PleProj.Facts) (hPleProjIdeal : Cert.PleProjIdeal.Facts) (hPleProjRefIdeal : Cert.PleProjRefIdeal.Facts) (hAdamSsdIn : Cert.AdamSsdIn.Facts) (hAdamSsdInIdeal : Cert.AdamSsdInIdeal.Facts) (hAdamSsdInRefIdeal : Cert.AdamSsdInRefIdeal.Facts) (hAdamSsdOut : Cert.AdamSsdOut.Facts) (hAdamSsdOutIdeal : Cert.AdamSsdOutIdeal.Facts) (hAdamSsdOutRefIdeal : Cert.AdamSsdOutRefIdeal.Facts) (hAdamSbIn : Cert.AdamSbIn.Facts) (hAdamSbInIdeal : Cert.AdamSbInIdeal.Facts) (hAdamSbInRefIdeal : Cert.AdamSbInRefIdeal.Facts) (hAdamSbOut : Cert.AdamSbOut.Facts) (hAdamSbOutIdeal : Cert.AdamSbOutIdeal.Facts) (hAdamSbOutRefIdeal : Cert.AdamSbOutRefIdeal.Facts) (hAdamPleGate : Cert.AdamPleGate.Facts) (hAdamPleGateIdeal : Cert.AdamPleGateIdeal.Facts) (hAdamPleGateRefIdeal : Cert.AdamPleGateRefIdeal.Facts) (hAdamPleProj : Cert.AdamPleProj.Facts) (hAdamPleProjIdeal : Cert.AdamPleProjIdeal.Facts) (hAdamPleProjRefIdeal : Cert.AdamPleProjRefIdeal.Facts) (hAdamSmall : Cert.AdamSmall.Facts) (hAdamSmallIdeal : Cert.AdamSmallIdeal.Facts) (hAdamSmallRefIdeal : Cert.AdamSmallRefIdeal.Facts) (hRmsBwd : Cert.RmsBwd.Facts) (hRmsBwdIdeal : Cert.RmsBwdIdeal.Facts) (hRmsBwdRefIdeal : Cert.RmsBwdRefIdeal.Facts) (hRmsFwd : Cert.RmsFwd.Facts) (hRmsFwdIdeal : Cert.RmsFwdIdeal.Facts) (hRmsFwdRefIdeal : Cert.RmsFwdRefIdeal.Facts) (hPleFwd : Cert.PleFwd.Facts) (hPleFwdIdeal : Cert.PleFwdIdeal.Facts) (hPleFwdRefIdeal : Cert.PleFwdRefIdeal.Facts) (hQkFwd : Cert.QkFwd.Facts) (hQkFwdIdeal : Cert.QkFwdIdeal.Facts) (hQkFwdRefIdeal : Cert.QkFwdRefIdeal.Facts) (hPre_finite_inputs : Cert.Pre_finite_inputs.Facts),
    quiescent_SbKernel (hSbKernel := hSbKernel)
    ∧ quiescent_SbKernelIdeal (hSbKernelIdeal := hSbKernelIdeal)
    ∧ quiescent_SbKernelIdeal_pre_finite_inputs (hSbKernelIdeal := hSbKernelIdeal) (hPre_finite_inputs := hPre_finite_inputs)
    ∧ quiescent_SbReferenceIdeal (hSbReferenceIdeal := hSbReferenceIdeal)
    ∧ quiescent_SbReferenceIdeal_pre_finite_inputs (hSbReferenceIdeal := hSbReferenceIdeal) (hPre_finite_inputs := hPre_finite_inputs)
    ∧ quiescent_PleKernel (hPleKernel := hPleKernel)
    ∧ quiescent_PleKernelIdeal (hPleKernelIdeal := hPleKernelIdeal)
    ∧ quiescent_PleReferenceIdeal (hPleReferenceIdeal := hPleReferenceIdeal)
    ∧ quiescent_DSsdIn (hDSsdIn := hDSsdIn)
    ∧ quiescent_DSsdInIdeal (hDSsdInIdeal := hDSsdInIdeal)
    ∧ quiescent_DSsdInRefIdeal (hDSsdInRefIdeal := hDSsdInRefIdeal)
    ∧ quiescent_SsdInBwd (hSsdInBwd := hSsdInBwd)
    ∧ quiescent_SsdInBwdIdeal (hSsdInBwdIdeal := hSsdInBwdIdeal)
    ∧ quiescent_SsdInBwdRefIdeal (hSsdInBwdRefIdeal := hSsdInBwdRefIdeal)
    ∧ quiescent_DSbIn (hDSbIn := hDSbIn)
    ∧ quiescent_DSbInIdeal (hDSbInIdeal := hDSbInIdeal)
    ∧ quiescent_DSbInRefIdeal (hDSbInRefIdeal := hDSbInRefIdeal)
    ∧ quiescent_SbInBwd (hSbInBwd := hSbInBwd)
    ∧ quiescent_SbInBwdIdeal (hSbInBwdIdeal := hSbInBwdIdeal)
    ∧ quiescent_SbInBwdRefIdeal (hSbInBwdRefIdeal := hSbInBwdRefIdeal)
    ∧ quiescent_SsdIn (hSsdIn := hSsdIn)
    ∧ quiescent_SsdInIdeal (hSsdInIdeal := hSsdInIdeal)
    ∧ quiescent_SsdInRefIdeal (hSsdInRefIdeal := hSsdInRefIdeal)
    ∧ quiescent_SbIn (hSbIn := hSbIn)
    ∧ quiescent_SbInIdeal (hSbInIdeal := hSbInIdeal)
    ∧ quiescent_SbInRefIdeal (hSbInRefIdeal := hSbInRefIdeal)
    ∧ quiescent_DSsdOut (hDSsdOut := hDSsdOut)
    ∧ quiescent_DSsdOutIdeal (hDSsdOutIdeal := hDSsdOutIdeal)
    ∧ quiescent_DSsdOutRefIdeal (hDSsdOutRefIdeal := hDSsdOutRefIdeal)
    ∧ quiescent_SsdOutBwd (hSsdOutBwd := hSsdOutBwd)
    ∧ quiescent_SsdOutBwdIdeal (hSsdOutBwdIdeal := hSsdOutBwdIdeal)
    ∧ quiescent_SsdOutBwdRefIdeal (hSsdOutBwdRefIdeal := hSsdOutBwdRefIdeal)
    ∧ quiescent_DPleGate (hDPleGate := hDPleGate)
    ∧ quiescent_DPleGateIdeal (hDPleGateIdeal := hDPleGateIdeal)
    ∧ quiescent_DPleGateRefIdeal (hDPleGateRefIdeal := hDPleGateRefIdeal)
    ∧ quiescent_PleGateBwd (hPleGateBwd := hPleGateBwd)
    ∧ quiescent_PleGateBwdIdeal (hPleGateBwdIdeal := hPleGateBwdIdeal)
    ∧ quiescent_PleGateBwdRefIdeal (hPleGateBwdRefIdeal := hPleGateBwdRefIdeal)
    ∧ quiescent_DSbOut (hDSbOut := hDSbOut)
    ∧ quiescent_DSbOutIdeal (hDSbOutIdeal := hDSbOutIdeal)
    ∧ quiescent_DSbOutRefIdeal (hDSbOutRefIdeal := hDSbOutRefIdeal)
    ∧ quiescent_SbOutBwd (hSbOutBwd := hSbOutBwd)
    ∧ quiescent_SbOutBwdIdeal (hSbOutBwdIdeal := hSbOutBwdIdeal)
    ∧ quiescent_SbOutBwdRefIdeal (hSbOutBwdRefIdeal := hSbOutBwdRefIdeal)
    ∧ quiescent_DPleProj (hDPleProj := hDPleProj)
    ∧ quiescent_DPleProjIdeal (hDPleProjIdeal := hDPleProjIdeal)
    ∧ quiescent_DPleProjRefIdeal (hDPleProjRefIdeal := hDPleProjRefIdeal)
    ∧ quiescent_SsdOut (hSsdOut := hSsdOut)
    ∧ quiescent_SsdOutIdeal (hSsdOutIdeal := hSsdOutIdeal)
    ∧ quiescent_SsdOutRefIdeal (hSsdOutRefIdeal := hSsdOutRefIdeal)
    ∧ quiescent_SbOut (hSbOut := hSbOut)
    ∧ quiescent_SbOutIdeal (hSbOutIdeal := hSbOutIdeal)
    ∧ quiescent_SbOutRefIdeal (hSbOutRefIdeal := hSbOutRefIdeal)
    ∧ quiescent_PleGate (hPleGate := hPleGate)
    ∧ quiescent_PleGateIdeal (hPleGateIdeal := hPleGateIdeal)
    ∧ quiescent_PleGateRefIdeal (hPleGateRefIdeal := hPleGateRefIdeal)
    ∧ quiescent_PleProj (hPleProj := hPleProj)
    ∧ quiescent_PleProjIdeal (hPleProjIdeal := hPleProjIdeal)
    ∧ quiescent_PleProjRefIdeal (hPleProjRefIdeal := hPleProjRefIdeal)
    ∧ quiescent_AdamSsdIn (hAdamSsdIn := hAdamSsdIn)
    ∧ quiescent_AdamSsdInIdeal (hAdamSsdInIdeal := hAdamSsdInIdeal)
    ∧ quiescent_AdamSsdInRefIdeal (hAdamSsdInRefIdeal := hAdamSsdInRefIdeal)
    ∧ quiescent_AdamSsdOut (hAdamSsdOut := hAdamSsdOut)
    ∧ quiescent_AdamSsdOutIdeal (hAdamSsdOutIdeal := hAdamSsdOutIdeal)
    ∧ quiescent_AdamSsdOutRefIdeal (hAdamSsdOutRefIdeal := hAdamSsdOutRefIdeal)
    ∧ quiescent_AdamSbIn (hAdamSbIn := hAdamSbIn)
    ∧ quiescent_AdamSbInIdeal (hAdamSbInIdeal := hAdamSbInIdeal)
    ∧ quiescent_AdamSbInRefIdeal (hAdamSbInRefIdeal := hAdamSbInRefIdeal)
    ∧ quiescent_AdamSbOut (hAdamSbOut := hAdamSbOut)
    ∧ quiescent_AdamSbOutIdeal (hAdamSbOutIdeal := hAdamSbOutIdeal)
    ∧ quiescent_AdamSbOutRefIdeal (hAdamSbOutRefIdeal := hAdamSbOutRefIdeal)
    ∧ quiescent_AdamPleGate (hAdamPleGate := hAdamPleGate)
    ∧ quiescent_AdamPleGateIdeal (hAdamPleGateIdeal := hAdamPleGateIdeal)
    ∧ quiescent_AdamPleGateRefIdeal (hAdamPleGateRefIdeal := hAdamPleGateRefIdeal)
    ∧ quiescent_AdamPleProj (hAdamPleProj := hAdamPleProj)
    ∧ quiescent_AdamPleProjIdeal (hAdamPleProjIdeal := hAdamPleProjIdeal)
    ∧ quiescent_AdamPleProjRefIdeal (hAdamPleProjRefIdeal := hAdamPleProjRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_PleFwd (hPleFwd := hPleFwd)
    ∧ quiescent_PleFwdIdeal (hPleFwdIdeal := hPleFwdIdeal)
    ∧ quiescent_PleFwdRefIdeal (hPleFwdRefIdeal := hPleFwdRefIdeal)
    ∧ quiescent_QkFwd (hQkFwd := hQkFwd)
    ∧ quiescent_QkFwdIdeal (hQkFwdIdeal := hQkFwdIdeal)
    ∧ quiescent_QkFwdRefIdeal (hQkFwdRefIdeal := hQkFwdRefIdeal)
    ∧ preserves_SbKernel_SbKernelIdeal
    ∧ algebraic_SbKernelIdeal_SbReferenceIdeal_pre_finite_inputs (hSbKernelIdeal := hSbKernelIdeal) (hSbReferenceIdeal := hSbReferenceIdeal) (hPre_finite_inputs := hPre_finite_inputs)
    ∧ preserves_PleKernel_PleKernelIdeal
    ∧ algebraic_PleKernelIdeal_PleReferenceIdeal (hPleKernelIdeal := hPleKernelIdeal) (hPleReferenceIdeal := hPleReferenceIdeal)
    ∧ preserves_DSsdIn_DSsdInIdeal
    ∧ algebraic_DSsdInIdeal_DSsdInRefIdeal (hDSsdInIdeal := hDSsdInIdeal) (hDSsdInRefIdeal := hDSsdInRefIdeal)
    ∧ preserves_SsdInBwd_SsdInBwdIdeal
    ∧ algebraic_SsdInBwdIdeal_SsdInBwdRefIdeal (hSsdInBwdIdeal := hSsdInBwdIdeal) (hSsdInBwdRefIdeal := hSsdInBwdRefIdeal)
    ∧ preserves_DSbIn_DSbInIdeal
    ∧ algebraic_DSbInIdeal_DSbInRefIdeal (hDSbInIdeal := hDSbInIdeal) (hDSbInRefIdeal := hDSbInRefIdeal)
    ∧ preserves_SbInBwd_SbInBwdIdeal
    ∧ algebraic_SbInBwdIdeal_SbInBwdRefIdeal (hSbInBwdIdeal := hSbInBwdIdeal) (hSbInBwdRefIdeal := hSbInBwdRefIdeal)
    ∧ preserves_SsdIn_SsdInIdeal
    ∧ algebraic_SsdInIdeal_SsdInRefIdeal (hSsdInIdeal := hSsdInIdeal) (hSsdInRefIdeal := hSsdInRefIdeal)
    ∧ preserves_SbIn_SbInIdeal
    ∧ algebraic_SbInIdeal_SbInRefIdeal (hSbInIdeal := hSbInIdeal) (hSbInRefIdeal := hSbInRefIdeal)
    ∧ preserves_DSsdOut_DSsdOutIdeal
    ∧ algebraic_DSsdOutIdeal_DSsdOutRefIdeal (hDSsdOutIdeal := hDSsdOutIdeal) (hDSsdOutRefIdeal := hDSsdOutRefIdeal)
    ∧ preserves_SsdOutBwd_SsdOutBwdIdeal
    ∧ algebraic_SsdOutBwdIdeal_SsdOutBwdRefIdeal (hSsdOutBwdIdeal := hSsdOutBwdIdeal) (hSsdOutBwdRefIdeal := hSsdOutBwdRefIdeal)
    ∧ preserves_DPleGate_DPleGateIdeal
    ∧ algebraic_DPleGateIdeal_DPleGateRefIdeal (hDPleGateIdeal := hDPleGateIdeal) (hDPleGateRefIdeal := hDPleGateRefIdeal)
    ∧ preserves_PleGateBwd_PleGateBwdIdeal
    ∧ algebraic_PleGateBwdIdeal_PleGateBwdRefIdeal (hPleGateBwdIdeal := hPleGateBwdIdeal) (hPleGateBwdRefIdeal := hPleGateBwdRefIdeal)
    ∧ preserves_DSbOut_DSbOutIdeal
    ∧ algebraic_DSbOutIdeal_DSbOutRefIdeal (hDSbOutIdeal := hDSbOutIdeal) (hDSbOutRefIdeal := hDSbOutRefIdeal)
    ∧ preserves_SbOutBwd_SbOutBwdIdeal
    ∧ algebraic_SbOutBwdIdeal_SbOutBwdRefIdeal (hSbOutBwdIdeal := hSbOutBwdIdeal) (hSbOutBwdRefIdeal := hSbOutBwdRefIdeal)
    ∧ preserves_DPleProj_DPleProjIdeal
    ∧ algebraic_DPleProjIdeal_DPleProjRefIdeal (hDPleProjIdeal := hDPleProjIdeal) (hDPleProjRefIdeal := hDPleProjRefIdeal)
    ∧ preserves_SsdOut_SsdOutIdeal
    ∧ algebraic_SsdOutIdeal_SsdOutRefIdeal (hSsdOutIdeal := hSsdOutIdeal) (hSsdOutRefIdeal := hSsdOutRefIdeal)
    ∧ preserves_SbOut_SbOutIdeal
    ∧ algebraic_SbOutIdeal_SbOutRefIdeal (hSbOutIdeal := hSbOutIdeal) (hSbOutRefIdeal := hSbOutRefIdeal)
    ∧ preserves_PleGate_PleGateIdeal
    ∧ algebraic_PleGateIdeal_PleGateRefIdeal (hPleGateIdeal := hPleGateIdeal) (hPleGateRefIdeal := hPleGateRefIdeal)
    ∧ preserves_PleProj_PleProjIdeal
    ∧ algebraic_PleProjIdeal_PleProjRefIdeal (hPleProjIdeal := hPleProjIdeal) (hPleProjRefIdeal := hPleProjRefIdeal)
    ∧ preserves_AdamSsdIn_AdamSsdInIdeal
    ∧ algebraic_AdamSsdInIdeal_AdamSsdInRefIdeal (hAdamSsdInIdeal := hAdamSsdInIdeal) (hAdamSsdInRefIdeal := hAdamSsdInRefIdeal)
    ∧ preserves_AdamSsdOut_AdamSsdOutIdeal
    ∧ algebraic_AdamSsdOutIdeal_AdamSsdOutRefIdeal (hAdamSsdOutIdeal := hAdamSsdOutIdeal) (hAdamSsdOutRefIdeal := hAdamSsdOutRefIdeal)
    ∧ preserves_AdamSbIn_AdamSbInIdeal
    ∧ algebraic_AdamSbInIdeal_AdamSbInRefIdeal (hAdamSbInIdeal := hAdamSbInIdeal) (hAdamSbInRefIdeal := hAdamSbInRefIdeal)
    ∧ preserves_AdamSbOut_AdamSbOutIdeal
    ∧ algebraic_AdamSbOutIdeal_AdamSbOutRefIdeal (hAdamSbOutIdeal := hAdamSbOutIdeal) (hAdamSbOutRefIdeal := hAdamSbOutRefIdeal)
    ∧ preserves_AdamPleGate_AdamPleGateIdeal
    ∧ algebraic_AdamPleGateIdeal_AdamPleGateRefIdeal (hAdamPleGateIdeal := hAdamPleGateIdeal) (hAdamPleGateRefIdeal := hAdamPleGateRefIdeal)
    ∧ preserves_AdamPleProj_AdamPleProjIdeal
    ∧ algebraic_AdamPleProjIdeal_AdamPleProjRefIdeal (hAdamPleProjIdeal := hAdamPleProjIdeal) (hAdamPleProjRefIdeal := hAdamPleProjRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_PleFwd_PleFwdIdeal
    ∧ algebraic_PleFwdIdeal_PleFwdRefIdeal (hPleFwdIdeal := hPleFwdIdeal) (hPleFwdRefIdeal := hPleFwdRefIdeal)
    ∧ preserves_QkFwd_QkFwdIdeal
    ∧ algebraic_QkFwdIdeal_QkFwdRefIdeal (hQkFwdIdeal := hQkFwdIdeal) (hQkFwdRefIdeal := hQkFwdRefIdeal)
-- ==== Pre_finite_inputs.lean ====
abbrev S2048x2048 : Shape := ⟨2, ![2048, 2048]⟩
abbrev S2048x8192 : Shape := ⟨2, ![2048, 8192]⟩
abbrev S_ : Shape := ⟨0, ![]⟩

class Facts : Prop where
  slices_S2048x8192_S2048x2048_0_6144 : S2048x8192.Slices ![0, 6144] S2048x2048
  bitsLt_bf16_f32 : FTy.bits .bf16 < FTy.bits .f32
  bcast_S_S2048x2048 : S_.BroadcastsInDim S2048x2048 (![] : Fin 0 → Fin S2048x2048.rank)

variable [Facts]

def fn_part1 {F : FTy → Type} [FloatOps F] (main_v4 : IVec S2048x2048 1) (main_v8 : IVec S2048x2048 1) (main_v12 : IVec S2048x2048 1) (main_v15 : IVec S2048x2048 1) (main_v18 : IVec S2048x2048 1) : IVec S2048x2048 1 :=
  let main_v19 : IVec S2048x2048 1 := andi main_v4 main_v8
  let main_v20 : IVec S2048x2048 1 := andi main_v19 main_v12
  let main_v21 : IVec S2048x2048 1 := andi main_v20 main_v15
  let main_v22 : IVec S2048x2048 1 := andi main_v21 main_v18
  main_v22

def fn {F : FTy → Type} [FloatOps F] (main_arg0 : FVec F S2048x2048 .bf16) (main_arg1 : FVec F S2048x2048 .bf16) (main_arg2 : FVec F S2048x2048 .bf16) (main_arg3 : FVec F S2048x8192 .f32) (main_arg4 : FVec F S2048x2048 .f32) : IVec S2048x2048 1 :=
  let main_v0 : FVec F S2048x2048 .f32 := (extractStridedSlice S2048x2048 ![0, 6144] · slices_S2048x8192_S2048x2048_0_6144) main_arg3
  let main_v1 : FVec F S2048x2048 .f32 := (extf .f32 · bitsLt_bf16_f32) main_arg0
  let main_v2 : FVec F S2048x2048 .f32 := Host.absf main_v1
  let main_cst : FVec F S_ .f32 := constant S_ .f32 0x7F800000#32
  let main_v3 : FVec F S2048x2048 .f32 := broadcastInDim S2048x2048 ![] bcast_S_S2048x2048 main_cst
  let main_v4 : IVec S2048x2048 1 := cmpf .olt main_v2 main_v3
  let main_v5 : FVec F S2048x2048 .f32 := (extf .f32 · bitsLt_bf16_f32) main_arg1
  let main_v6 : FVec F S2048x2048 .f32 := Host.absf main_v5
  let main_cst_0 : FVec F S_ .f32 := constant S_ .f32 0x7F800000#32
  let main_v7 : FVec F S2048x2048 .f32 := broadcastInDim S2048x2048 ![] bcast_S_S2048x2048 main_cst_0
  let main_v8 : IVec S2048x2048 1 := cmpf .olt main_v6 main_v7
  let main_v9 : FVec F S2048x2048 .f32 := (extf .f32 · bitsLt_bf16_f32) main_arg2
  let main_v10 : FVec F S2048x2048 .f32 := Host.absf main_v9
  let main_cst_1 : FVec F S_ .f32 := constant S_ .f32 0x7F800000#32
  let main_v11 : FVec F S2048x2048 .f32 := broadcastInDim S2048x2048 ![] bcast_S_S2048x2048 main_cst_1
  let main_v12 : IVec S2048x2048 1 := cmpf .olt main_v10 main_v11
  let main_v13 : FVec F S2048x2048 .f32 := Host.absf main_v0
  let main_cst_2 : FVec F S_ .f32 := constant S_ .f32 0x7F800000#32
  let main_v14 : FVec F S2048x2048 .f32 := broadcastInDim S2048x2048 ![] bcast_S_S2048x2048 main_cst_2
  let main_v15 : IVec S2048x2048 1 := cmpf .olt main_v13 main_v14
  let main_v16 : FVec F S2048x2048 .f32 := Host.absf main_arg4
  let main_cst_3 : FVec F S_ .f32 := constant S_ .f32 0x7F800000#32
  let main_v17 : FVec F S2048x2048 .f32 := broadcastInDim S2048x2048 ![] bcast_S_S2048x2048 main_cst_3
  let main_v18 : IVec S2048x2048 1 := cmpf .olt main_v16 main_v17
  fn_part1 (F := F) main_v4 main_v8 main_v12 main_v15 main_v18
-- ==== SbKernel.lean ====
abbrev S2048x2048 : Shape := ⟨2, ![2048, 2048]⟩
abbrev S2048x8192 : Shape := ⟨2, ![2048, 8192]⟩
abbrev S2048x16x128 : Shape := ⟨3, ![2048, 16, 128]⟩
abbrev S16x2048x128 : Shape := ⟨3, ![16, 2048, 128]⟩
abbrev S16x2048x2048 : Shape := ⟨3, ![16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S16x2048 : Shape := ⟨2, ![16, 2048]⟩
abbrev S16x2048x1 : Shape := ⟨3, ![16, 2048, 1]⟩
abbrev S128x512 : Shape := ⟨2, ![128, 512]⟩
abbrev S2048x512 : Shape := ⟨2, ![2048, 512]⟩
abbrev S4x128x128 : Shape := ⟨3, ![4, 128, 128]⟩
abbrev S128x128 : Shape := ⟨2, ![128, 128]⟩
abbrev S1x128x128 : Shape := ⟨3, ![1, 128, 128]⟩
abbrev S128x1 : Shape := ⟨2, ![128, 1]⟩
abbrev S1024x128 : Shape := ⟨2, ![1024, 128]⟩
abbrev S128x1024 : Shape := ⟨2, ![128, 1024]⟩
abbrev S128 : Shape := ⟨1, ![128]⟩

abbrev nBuf : Space → Nat
  | .hbm => 119
  | .vmem => 24
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x8192, .f32⟩
  | .hbm, ⟨4, _⟩ => ⟨S2048x2048, .f32⟩
  | .hbm, ⟨5, _⟩ => ⟨S2048x2048, .f32⟩
  | .hbm, ⟨6, _⟩ => ⟨S2048x16x128, .f32⟩
  | .hbm, ⟨7, _⟩ => ⟨S16x2048x128, .f32⟩
  | .hbm, ⟨8, _⟩ => ⟨S2048x2048, .f32⟩
  | .hbm, ⟨9, _⟩ => ⟨S2048x16x128, .f32⟩
  | .hbm, ⟨10, _⟩ => ⟨S16x2048x128, .f32⟩
  | .hbm, ⟨11, _⟩ => ⟨S2048x2048, .f32⟩
  | .hbm, ⟨12, _⟩ => ⟨S2048x16x128, .f32⟩
  | .hbm, ⟨13, _⟩ => ⟨S16x2048x128, .f32⟩
  | .hbm, ⟨14, _⟩ => ⟨S16x2048x2048, .f32⟩
  | .hbm, ⟨15, _⟩ => ⟨S_, .f32⟩
  | .hbm, ⟨16, _⟩ => ⟨S16x2048x2048, .f32⟩
  | .hbm, ⟨17, _⟩ => ⟨S16x2048x2048, .f32⟩
  | .hbm, ⟨18, _⟩ => ⟨S2048, .i32⟩
  | .hbm, ⟨19, _⟩ => ⟨S2048x1, .i32⟩
  | .hbm, ⟨20, _⟩ => ⟨S2048, .i32⟩
  | .hbm, ⟨21, _⟩ => ⟨S1x2048, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S16x2048x2048, .f32⟩
  | .hbm, ⟨26, _⟩ => ⟨S_, .f32⟩
  | .hbm, ⟨27, _⟩ => ⟨S16x2048x2048, .f32⟩
  | .hbm, ⟨28, _⟩ => ⟨S16x2048x2048, .f32⟩
  | .hbm, ⟨29, _⟩ => ⟨S16x2048x2048, .f32⟩
  | .hbm, ⟨30, _⟩ => ⟨S16x2048x2048, .f32⟩
  | .hbm, ⟨31, _⟩ => ⟨S16x2048x2048, .i1⟩
  | .hbm, ⟨32, _⟩ => ⟨S16x2048x2048, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S16x2048x2048, .f32⟩
  | .hbm, ⟨37, _⟩ => ⟨S16x2048x2048, .f32⟩
  | .hbm, ⟨38, _⟩ => ⟨S16x2048x2048, .f32⟩
  | .hbm, ⟨39, _⟩ => ⟨S16x2048x2048, .f32⟩
  | .hbm, ⟨40, _⟩ => ⟨S16x2048x2048, .f32⟩
  | .hbm, ⟨41, _⟩ => ⟨S16x2048x2048, .f32⟩
  | .hbm, ⟨42, _⟩ => ⟨S16x2048x2048, .f32⟩
  | .hbm, ⟨43, _⟩ => ⟨S_, .f32⟩
  | .hbm, ⟨44, _⟩ => ⟨S16x2048x2048, .f32⟩
  | .hbm, ⟨45, _⟩ => ⟨S16x2048x2048, .f32⟩
  | .hbm, ⟨46, _⟩ => ⟨S16x2048x2048, .f32⟩
  | .hbm, ⟨47, _⟩ => ⟨S16x2048x2048, .f32⟩
  | .hbm, ⟨48, _⟩ => ⟨S16x2048x2048, .i1⟩
  | .hbm, ⟨49, _⟩ => ⟨S16x2048x2048, .f32⟩
  | .hbm, ⟨50, _⟩ => ⟨S16x2048x2048, .f32⟩
  | .hbm, ⟨51, _⟩ => ⟨S16x2048x2048, .f32⟩
  | .hbm, ⟨52, _⟩ => ⟨S16x2048x2048, .f32⟩
  | .hbm, ⟨53, _⟩ => ⟨S16x2048x2048, .f32⟩
  | .hbm, ⟨54, _⟩ => ⟨S16x2048x2048, .f32⟩
  | .hbm, ⟨55, _⟩ => ⟨S16x2048x2048, .f32⟩
  | .hbm, ⟨56, _⟩ => ⟨S16x2048x2048, .f32⟩
  | .hbm, ⟨57, _⟩ => ⟨S16x2048x2048, .f32⟩
  | .hbm, ⟨58, _⟩ => ⟨S_, .f32⟩
  | .hbm, ⟨59, _⟩ => ⟨S_, .f32⟩
  | .hbm, ⟨60, _⟩ => ⟨S16x2048x2048, .i1⟩
  | .hbm, ⟨61, _⟩ => ⟨S16x2048x2048, .f32⟩
  | .hbm, ⟨62, _⟩ => ⟨S16x2048x2048, .f32⟩
  | .hbm, ⟨63, _⟩ => ⟨S_, .f32⟩
  | .hbm, ⟨64, _⟩ => ⟨S_, .f32⟩
  | .hbm, ⟨65, _⟩ => ⟨S16x2048x2048, .f32⟩
  | .hbm, ⟨66, _⟩ => ⟨S16x2048x2048, .f32⟩
  | .hbm, ⟨67, _⟩ => ⟨S16x2048x2048, .f32⟩
  | .hbm, ⟨68, _⟩ => ⟨S16x2048x2048, .f32⟩
  | .hbm, ⟨69, _⟩ => ⟨S_, .f32⟩
  | .hbm, ⟨70, _⟩ => ⟨S_, .f32⟩
  | .hbm, ⟨71, _⟩ => ⟨S16x2048x2048, .i1⟩
  | .hbm, ⟨72, _⟩ => ⟨S16x2048x2048, .f32⟩
  | .hbm, ⟨73, _⟩ => ⟨S16x2048x2048, .f32⟩
  | .hbm, ⟨74, _⟩ => ⟨S16x2048x128, .f32⟩
  | .hbm, ⟨75, _⟩ => ⟨S2048x16x128, .f32⟩
  | .hbm, ⟨76, _⟩ => ⟨S2048x2048, .f32⟩
  | .hbm, ⟨77, _⟩ => ⟨S2048, .i32⟩
  | .hbm, ⟨78, _⟩ => ⟨S2048x1, .i32⟩
  | .hbm, ⟨79, _⟩ => ⟨S2048, .i32⟩
  | .hbm, ⟨80, _⟩ => ⟨S1x2048, .i32⟩
  | .hbm, ⟨81, _⟩ => ⟨S2048x2048, .i32⟩
  | .hbm, ⟨82, _⟩ => ⟨S2048x2048, .i32⟩
  | .hbm, ⟨83, _⟩ => ⟨S2048x2048, .i1⟩
  | .hbm, ⟨84, _⟩ => ⟨S16x2048x2048, .f32⟩
  | .hbm, ⟨85, _⟩ => ⟨S_, .f32⟩
  | .hbm, ⟨86, _⟩ => ⟨S16x2048x2048, .f32⟩
  | .hbm, ⟨87, _⟩ => ⟨S16x2048x2048, .f32⟩
  | .hbm, ⟨88, _⟩ => ⟨S16x2048x2048, .f32⟩
  | .hbm, ⟨89, _⟩ => ⟨S16x2048x2048, .f32⟩
  | .hbm, ⟨90, _⟩ => ⟨S_, .f32⟩
  | .hbm, ⟨91, _⟩ => ⟨S16x2048x2048, .f32⟩
  | .hbm, ⟨92, _⟩ => ⟨S16x2048x2048, .f32⟩
  | .hbm, ⟨93, _⟩ => ⟨S16x2048x2048, .f32⟩
  | .hbm, ⟨94, _⟩ => ⟨S16x2048x2048, .f32⟩
  | .hbm, ⟨95, _⟩ => ⟨S16x2048x2048, .i1⟩
  | .hbm, ⟨96, _⟩ => ⟨S16x2048x2048, .f32⟩
  | .hbm, ⟨97, _⟩ => ⟨S16x2048x2048, .f32⟩
  | .hbm, ⟨98, _⟩ => ⟨S16x2048x2048, .f32⟩
  | .hbm, ⟨99, _⟩ => ⟨S16x2048x2048, .f32⟩
  | .hbm, ⟨100, _⟩ => ⟨S16x2048x2048, .f32⟩
  | .hbm, ⟨101, _⟩ => ⟨S16x2048x2048, .f32⟩
  | .hbm, ⟨102, _⟩ => ⟨S16x2048x2048, .f32⟩
  | .hbm, ⟨103, _⟩ => ⟨S16x2048x2048, .f32⟩
  | .hbm, ⟨104, _⟩ => ⟨S16x2048x2048, .f32⟩
  | .hbm, ⟨105, _⟩ => ⟨S_, .f32⟩
  | .hbm, ⟨106, _⟩ => ⟨S_, .f32⟩
  | .hbm, ⟨107, _⟩ => ⟨S16x2048x2048, .i1⟩
  | .hbm, ⟨108, _⟩ => ⟨S16x2048x2048, .f32⟩
  | .hbm, ⟨109, _⟩ => ⟨S16x2048x2048, .f32⟩
  | .hbm, ⟨110, _⟩ => ⟨S_, .f32⟩
  | .hbm, ⟨111, _⟩ => ⟨S16x2048, .f32⟩
  | .hbm, ⟨112, _⟩ => ⟨S16x2048x1, .f32⟩
  | .hbm, ⟨113, _⟩ => ⟨S16x2048x128, .f32⟩
  | .hbm, ⟨114, _⟩ => ⟨S2048x2048, .f32⟩
  | .hbm, ⟨115, _⟩ => ⟨S2048x2048, .f32⟩
  | .hbm, ⟨116, _⟩ => ⟨S2048x2048, .f32⟩
  | .hbm, ⟨117, _⟩ => ⟨S2048x2048, .bf16⟩
  | .hbm, ⟨118, _⟩ => ⟨S2048x2048, .bf16⟩
  | .local _ .vmem, ⟨0, _⟩ => ⟨S128x512, .bf16⟩
  | .local _ .vmem, ⟨1, _⟩ => ⟨S128x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S4x128x128, .f32⟩
  | .local _ .vmem, ⟨11, _⟩ => ⟨S4x128x128, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S2048x512, .f32⟩
  | .local _ .vmem, ⟨17, _⟩ => ⟨S2048x512, .f32⟩
  | .local _ .vmem, ⟨18, _⟩ => ⟨S2048x512, .f32⟩
  | .local _ .vmem, ⟨19, _⟩ => ⟨S2048x512, .f32⟩
  | .local _ .vmem, ⟨20, _⟩ => ⟨S2048x512, .bf16⟩
  | .local _ .vmem, ⟨21, _⟩ => ⟨S2048x512, .bf16⟩
  | .local _ .vmem, ⟨22, _⟩ => ⟨S128x512, .bf16⟩
  | .local _ .vmem, ⟨23, _⟩ => ⟨S128x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v19 : Ref sig .tc := ⟨.hbm, 40, rfl⟩
abbrev main_v20 : Ref sig .tc := ⟨.hbm, 41, rfl⟩
abbrev main_call1_v0 : Ref sig .tc := ⟨.hbm, 42, rfl⟩
abbrev main_call1_call0_cst : Ref sig .tc := ⟨.hbm, 43, rfl⟩
abbrev main_call1_call0_v0 : Ref sig .tc := ⟨.hbm, 44, rfl⟩
abbrev main_call1_call0_v1 : Ref sig .tc := ⟨.hbm, 45, rfl⟩
abbrev main_call1_call0_v2 : Ref sig .tc := ⟨.hbm, 46, rfl⟩
abbrev main_call1_call0_v3 : Ref sig .tc := ⟨.hbm, 47, rfl⟩
abbrev main_call1_call0_v4 : Ref sig .tc := ⟨.hbm, 48, rfl⟩
abbrev main_call1_call0_v5 : Ref sig .tc := ⟨.hbm, 49, rfl⟩
abbrev main_call1_call0_v6 : Ref sig .tc := ⟨.hbm, 50, rfl⟩
abbrev main_call1_call0_v7 : Ref sig .tc := ⟨.hbm, 51, rfl⟩
abbrev main_call1_call0_v8 : Ref sig .tc := ⟨.hbm, 52, rfl⟩
abbrev main_call1_call0_v9 : Ref sig .tc := ⟨.hbm, 53, rfl⟩
abbrev main_call1_call0_v10 : Ref sig .tc := ⟨.hbm, 54, rfl⟩
abbrev main_call1_call0_v11 : Ref sig .tc := ⟨.hbm, 55, rfl⟩
abbrev main_call1_v1 : Ref sig .tc := ⟨.hbm, 56, rfl⟩
abbrev main_v21 : Ref sig .tc := ⟨.hbm, 57, rfl⟩
abbrev main_cst_0 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v22 : Ref sig .tc := ⟨.hbm, 62, rfl⟩
abbrev main_call3_cst : Ref sig .tc := ⟨.hbm, 63, rfl⟩
abbrev main_call3_v0 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_cst_1 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_cst_2 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_call5_v0 : Ref sig .tc := ⟨.hbm, 89, rfl⟩
abbrev main_call5_call0_cst : Ref sig .tc := ⟨.hbm, 90, rfl⟩
abbrev main_call5_call0_v0 : Ref sig .tc := ⟨.hbm, 91, rfl⟩
abbrev main_call5_call0_v1 : Ref sig .tc := ⟨.hbm, 92, rfl⟩
abbrev main_call5_call0_v2 : Ref sig .tc := ⟨.hbm, 93, rfl⟩
abbrev main_call5_call0_v3 : Ref sig .tc := ⟨.hbm, 94, rfl⟩
abbrev main_call5_call0_v4 : Ref sig .tc := ⟨.hbm, 95, rfl⟩
abbrev main_call5_call0_v5 : Ref sig .tc := ⟨.hbm, 96, rfl⟩
abbrev main_call5_call0_v6 : Ref sig .tc := ⟨.hbm, 97, rfl⟩
abbrev main_call5_call0_v7 : Ref sig .tc := ⟨.hbm, 98, rfl⟩
abbrev main_call5_call0_v8 : Ref sig .tc := ⟨.hbm, 99, rfl⟩
abbrev main_call5_call0_v9 : Ref sig .tc := ⟨.hbm, 100, rfl⟩
abbrev main_call5_call0_v10 : Ref sig .tc := ⟨.hbm, 101, rfl⟩
abbrev main_call5_call0_v11 : Ref sig .tc := ⟨.hbm, 102, rfl⟩
abbrev main_call5_v1 : Ref sig .tc := ⟨.hbm, 103, rfl⟩
abbrev main_v42 : Ref sig .tc := ⟨.hbm, 104, rfl⟩
abbrev main_cst_3 : Ref sig .tc := ⟨.hbm, 105, rfl⟩
abbrev main_call6_v0 : Ref sig .tc := ⟨.hbm, 106, rfl⟩
abbrev main_call6_v1 : Ref sig .tc := ⟨.hbm, 107, rfl⟩
abbrev main_call6_v2 : Ref sig .tc := ⟨.hbm, 108, rfl⟩
abbrev main_v43 : Ref sig .tc := ⟨.hbm, 109, rfl⟩
abbrev main_cst_4 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47_0 : Ref sig .tc := ⟨.hbm, 114, rfl⟩
abbrev main_v47_1 : Ref sig .tc := ⟨.hbm, 115, rfl⟩
abbrev main_v47_2 : Ref sig .tc := ⟨.hbm, 116, rfl⟩
abbrev main_v47_3 : Ref sig .tc := ⟨.hbm, 117, rfl⟩
abbrev main_v47_4 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_79 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let v0 : BitVec 32 := Scalar.divsi arg1 c8_i32
  let c1_i32 : BitVec 32 := 1#32
  let v15 : BitVec 32 := Scalar.subi v0 c1_i32
  let v16 : BitVec 32 := Scalar.select v14 v15 v0
  let v151 : BitVec 32 := Scalar.subi v16 c0_i32_79
  let c1_i32_80 : BitVec 32 := 1#32
  let v153 : BitVec 32 := Scalar.divsi v151 c1_i32_80
  let v154 : BitVec 32 := Scalar.muli v153 c1_i32_80
  let v155 : BitVec 32 := Scalar.addi c0_i32_79 v154
  let c1_i32_81 : BitVec 32 := 1#32
  ⟨c0_i32_79, v155, c1_i32_81⟩
def k0_mult1 (i : grid0.Coords) (k0_t1 : Fin (k0_t1_loop i).trips) : BitVec 32 :=
  let c0_i32_79 : BitVec 32 := 0#32
  let c1_i32_81 : BitVec 32 := 1#32
  let arg14 : BitVec 32 := Scf.iv c0_i32_79 c1_i32_81 k0_t1
  let c1024_i32_329 : BitVec 32 := 1024#32
  let v1096 : BitVec 32 := Scalar.muli arg14 c1024_i32_329
  v1096
def k0_off1 (i : grid0.Coords) (k0_t1 : Fin (k0_t1_loop i).trips) : Fin 2 → Nat :=
  let c0_i32_79 : BitVec 32 := 0#32
  let c1_i32_81 : BitVec 32 := 1#32
  let arg14 : BitVec 32 := Scf.iv c0_i32_79 c1_i32_81 k0_t1
  let c1024_i32_329 : BitVec 32 := 1024#32
  let v1096 : BitVec 32 := Scalar.muli arg14 c1024_i32_329
  let v1097 : BitVec 32 := v1096
  let v1098 : Index := Scalar.indexCast v1097
  let c0_330 : Index := 0#32
  ![v1098.toNat, 0]
def k0_off2 (i : grid0.Coords) (k0_t1 : Fin (k0_t1_loop i).trips) : Fin 2 → Nat :=
  let c0_i32_79 : BitVec 32 := 0#32
  let c1_i32_81 : BitVec 32 := 1#32
  let arg14 : BitVec 32 := Scf.iv c0_i32_79 c1_i32_81 k0_t1
  let c1024_i32_329 : BitVec 32 := 1024#32
  let v1096 : BitVec 32 := Scalar.muli arg14 c1024_i32_329
  let v1097 : BitVec 32 := v1096
  let v1325 : Index := Scalar.indexCast v1097
  let c128_387 : Index := 128#32
  ![v1325.toNat, 128]
def k0_off3 (i : grid0.Coords) (k0_t1 : Fin (k0_t1_loop i).trips) : Fin 2 → Nat :=
  let c0_i32_79 : BitVec 32 := 0#32
  let c1_i32_81 : BitVec 32 := 1#32
  let arg14 : BitVec 32 := Scf.iv c0_i32_79 c1_i32_81 k0_t1
  let c1024_i32_329 : BitVec 32 := 1024#32
  let v1096 : BitVec 32 := Scalar.muli arg14 c1024_i32_329
  let v1097 : BitVec 32 := v1096
  let v1552 : Index := Scalar.indexCast v1097
  let c256_444 : Index := 256#32
  ![v1552.toNat, 256]
def k0_off4 (i : grid0.Coords) (k0_t1 : Fin (k0_t1_loop i).trips) : Fin 2 → Nat :=
  let c0_i32_79 : BitVec 32 := 0#32
  let c1_i32_81 : BitVec 32 := 1#32
  let arg14 : BitVec 32 := Scf.iv c0_i32_79 c1_i32_81 k0_t1
  let c1024_i32_329 : BitVec 32 := 1024#32
  let v1096 : BitVec 32 := Scalar.muli arg14 c1024_i32_329
  let v1097 : BitVec 32 := v1096
  let v1779 : Index := Scalar.indexCast v1097
  let c384_501 : Index := 384#32
  ![v1779.toNat, 384]
@[reducible] def k0_t2_loop (i : grid0.Coords) : Scf.Loop 32 :=
  let c0_i32_79 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let v0 : BitVec 32 := Scalar.divsi arg1 c8_i32
  let c1_i32 : BitVec 32 := 1#32
  let v15 : BitVec 32 := Scalar.subi v0 c1_i32
  let v16 : BitVec 32 := Scalar.select v14 v15 v0
  let v151 : BitVec 32 := Scalar.subi v16 c0_i32_79
  let c1_i32_80 : BitVec 32 := 1#32
  let v153 : BitVec 32 := Scalar.divsi v151 c1_i32_80
  let v154 : BitVec 32 := Scalar.muli v153 c1_i32_80
  let v155 : BitVec 32 := Scalar.addi c0_i32_79 v154
  let v152 : BitVec 32 := Scalar.addi c0_i32_79 v151
  let c1_i32_82 : BitVec 32 := 1#32
  ⟨v155, v152, c1_i32_82⟩
def k0_mult2 (i : grid0.Coords) (k0_t2 : Fin (k0_t2_loop i).trips) : BitVec 32 :=
  let c0_i32_79 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let v0 : BitVec 32 := Scalar.divsi arg1 c8_i32
  let c1_i32 : BitVec 32 := 1#32
  let v15 : BitVec 32 := Scalar.subi v0 c1_i32
  let v16 : BitVec 32 := Scalar.select v14 v15 v0
  let v151 : BitVec 32 := Scalar.subi v16 c0_i32_79
  let c1_i32_80 : BitVec 32 := 1#32
  let v153 : BitVec 32 := Scalar.divsi v151 c1_i32_80
  let v154 : BitVec 32 := Scalar.muli v153 c1_i32_80
  let v155 : BitVec 32 := Scalar.addi c0_i32_79 v154
  let c1_i32_82 : BitVec 32 := 1#32
  let arg14 : BitVec 32 := Scf.iv v155 c1_i32_82 k0_t2
  let c1024_i32_329 : BitVec 32 := 1024#32
  let v1096 : BitVec 32 := Scalar.muli arg14 c1024_i32_329
  v1096
def k0_off5 (i : grid0.Coords) (k0_t2 : Fin (k0_t2_loop i).trips) : Fin 2 → Nat :=
  let c0_i32_79 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let v0 : BitVec 32 := Scalar.divsi arg1 c8_i32
  let c1_i32 : BitVec 32 := 1#32
  let v15 : BitVec 32 := Scalar.subi v0 c1_i32
  let v16 : BitVec 32 := Scalar.select v14 v15 v0
  let v151 : BitVec 32 := Scalar.subi v16 c0_i32_79
  let c1_i32_80 : BitVec 32 := 1#32
  let v153 : BitVec 32 := Scalar.divsi v151 c1_i32_80
  let v154 : BitVec 32 := Scalar.muli v153 c1_i32_80
  let v155 : BitVec 32 := Scalar.addi c0_i32_79 v154
  let c1_i32_82 : BitVec 32 := 1#32
  let arg14 : BitVec 32 := Scf.iv v155 c1_i32_82 k0_t2
  let c1024_i32_329 : BitVec 32 := 1024#32
  let v1096 : BitVec 32 := Scalar.muli arg14 c1024_i32_329
  let v1097 : BitVec 32 := v1096
  let v1098 : Index := Scalar.indexCast v1097
  let c0_330 : Index := 0#32
  ![v1098.toNat, 0]
def k0_off6 (i : grid0.Coords) (k0_t2 : Fin (k0_t2_loop i).trips) : Fin 2 → Nat :=
  let c0_i32_79 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let v0 : BitVec 32 := Scalar.divsi arg1 c8_i32
  let c1_i32 : BitVec 32 := 1#32
  let v15 : BitVec 32 := Scalar.subi v0 c1_i32
  let v16 : BitVec 32 := Scalar.select v14 v15 v0
  let v151 : BitVec 32 := Scalar.subi v16 c0_i32_79
  let c1_i32_80 : BitVec 32 := 1#32
  let v153 : BitVec 32 := Scalar.divsi v151 c1_i32_80
  let v154 : BitVec 32 := Scalar.muli v153 c1_i32_80
  let v155 : BitVec 32 := Scalar.addi c0_i32_79 v154
  let c1_i32_82 : BitVec 32 := 1#32
  let arg14 : BitVec 32 := Scf.iv v155 c1_i32_82 k0_t2
  let c1024_i32_329 : BitVec 32 := 1024#32
  let v1096 : BitVec 32 := Scalar.muli arg14 c1024_i32_329
  let v1097 : BitVec 32 := v1096
  let v1325 : Index := Scalar.indexCast v1097
  let c128_387 : Index := 128#32
  ![v1325.toNat, 128]
def k0_off7 (i : grid0.Coords) (k0_t2 : Fin (k0_t2_loop i).trips) : Fin 2 → Nat :=
  let c0_i32_79 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let v0 : BitVec 32 := Scalar.divsi arg1 c8_i32
  let c1_i32 : BitVec 32 := 1#32
  let v15 : BitVec 32 := Scalar.subi v0 c1_i32
  let v16 : BitVec 32 := Scalar.select v14 v15 v0
  let v151 : BitVec 32 := Scalar.subi v16 c0_i32_79
  let c1_i32_80 : BitVec 32 := 1#32
  let v153 : BitVec 32 := Scalar.divsi v151 c1_i32_80
  let v154 : BitVec 32 := Scalar.muli v153 c1_i32_80
  let v155 : BitVec 32 := Scalar.addi c0_i32_79 v154
  let c1_i32_82 : BitVec 32 := 1#32
  let arg14 : BitVec 32 := Scf.iv v155 c1_i32_82 k0_t2
  let c1024_i32_329 : BitVec 32 := 1024#32
  let v1096 : BitVec 32 := Scalar.muli arg14 c1024_i32_329
  let v1097 : BitVec 32 := v1096
  let v1552 : Index := Scalar.indexCast v1097
  let c256_444 : Index := 256#32
  ![v1552.toNat, 256]
def k0_off8 (i : grid0.Coords) (k0_t2 : Fin (k0_t2_loop i).trips) : Fin 2 → Nat :=
  let c0_i32_79 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let v0 : BitVec 32 := Scalar.divsi arg1 c8_i32
  let c1_i32 : BitVec 32 := 1#32
  let v15 : BitVec 32 := Scalar.subi v0 c1_i32
  let v16 : BitVec 32 := Scalar.select v14 v15 v0
  let v151 : BitVec 32 := Scalar.subi v16 c0_i32_79
  let c1_i32_80 : BitVec 32 := 1#32
  let v153 : BitVec 32 := Scalar.divsi v151 c1_i32_80
  let v154 : BitVec 32 := Scalar.muli v153 c1_i32_80
  let v155 : BitVec 32 := Scalar.addi c0_i32_79 v154
  let c1_i32_82 : BitVec 32 := 1#32
  let arg14 : BitVec 32 := Scf.iv v155 c1_i32_82 k0_t2
  let c1024_i32_329 : BitVec 32 := 1024#32
  let v1096 : BitVec 32 := Scalar.muli arg14 c1024_i32_329
  let v1097 : BitVec 32 := v1096
  let v1779 : Index := Scalar.indexCast v1097
  let c384_501 : Index := 384#32
  ![v1779.toNat, 384]
def k0_mult3 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let v0 : BitVec 32 := Scalar.divsi arg1 c8_i32
  let c1_i32 : BitVec 32 := 1#32
  let v15 : BitVec 32 := Scalar.subi v0 c1_i32
  let v16 : BitVec 32 := Scalar.select v14 v15 v0
  let c1024_i32 : BitVec 32 := 1024#32
  let v158 : BitVec 32 := Scalar.muli v16 c1024_i32
  v158
def k0_off9 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let v0 : BitVec 32 := Scalar.divsi arg1 c8_i32
  let c1_i32 : BitVec 32 := 1#32
  let v15 : BitVec 32 := Scalar.subi v0 c1_i32
  let v16 : BitVec 32 := Scalar.select v14 v15 v0
  let c1024_i32 : BitVec 32 := 1024#32
  let v158 : BitVec 32 := Scalar.muli v16 c1024_i32
  let v159 : BitVec 32 := v158
  let v169 : Index := Scalar.indexCast v159
  let c0_84 : Index := 0#32
  ![v169.toNat, 0]
def k0_off10 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let v0 : BitVec 32 := Scalar.divsi arg1 c8_i32
  let c1_i32 : BitVec 32 := 1#32
  let v15 : BitVec 32 := Scalar.subi v0 c1_i32
  let v16 : BitVec 32 := Scalar.select v14 v15 v0
  let c1024_i32 : BitVec 32 := 1024#32
  let v158 : BitVec 32 := Scalar.muli v16 c1024_i32
  let v159 : BitVec 32 := v158
  let v399 : Index := Scalar.indexCast v159
  let c128_143 : Index := 128#32
  ![v399.toNat, 128]
def k0_off11 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let v0 : BitVec 32 := Scalar.divsi arg1 c8_i32
  let c1_i32 : BitVec 32 := 1#32
  let v15 : BitVec 32 := Scalar.subi v0 c1_i32
  let v16 : BitVec 32 := Scalar.select v14 v15 v0
  let c1024_i32 : BitVec 32 := 1024#32
  let v158 : BitVec 32 := Scalar.muli v16 c1024_i32
  let v159 : BitVec 32 := v158
  let v629 : Index := Scalar.indexCast v159
  let c256_202 : Index := 256#32
  ![v629.toNat, 256]
def k0_off12 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let v0 : BitVec 32 := Scalar.divsi arg1 c8_i32
  let c1_i32 : BitVec 32 := 1#32
  let v15 : BitVec 32 := Scalar.subi v0 c1_i32
  let v16 : BitVec 32 := Scalar.select v14 v15 v0
  let c1024_i32 : BitVec 32 := 1024#32
  let v158 : BitVec 32 := Scalar.muli v16 c1024_i32
  let v159 : BitVec 32 := v158
  let v859 : Index := Scalar.indexCast v159
  let c384_261 : Index := 384#32
  ![v859.toNat, 384]
def k0_cond2 (i : grid0.Coords) : BitVec 1 :=
  let arg1 : BitVec 32 := BitVec.ofNat 32 (i 1).val
  let c15_i32 : BitVec 32 := 15#32
  let v1093 : BitVec 1 := Scalar.cmpi .eq arg1 c15_i32
  let v1094 : BitVec 32 := Scalar.extui v1093
  let c0_i32_328 : BitVec 32 := 0#32
  let v1095 : BitVec 1 := Scalar.cmpi .ne v1094 c0_i32_328
  v1095

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== SbReferenceIdeal.lean ====
abbrev S2048x2048 : Shape := ⟨2, ![2048, 2048]⟩
abbrev S2048x8192 : Shape := ⟨2, ![2048, 8192]⟩
abbrev S2048x16x128 : Shape := ⟨3, ![2048, 16, 128]⟩
abbrev S16x2048x128 : Shape := ⟨3, ![16, 2048, 128]⟩
abbrev S16x2048x2048 : Shape := ⟨3, ![16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S16x128x2048 : Shape := ⟨3, ![16, 128, 2048]⟩

abbrev nBuf : Space → Nat
  | .hbm => 204
  | .vmem => 0
  | .smem => 0
  | _ => 0

abbrev hbmTy0_0 (i : Nat) : BufTy := match i % 128 with
  | 0 => ⟨S2048x2048, .bf16⟩
  | 1 => ⟨S2048x2048, .bf16⟩
  | 2 => ⟨S2048x2048, .bf16⟩
  | 3 => ⟨S2048x8192, .f32⟩
  | 4 => ⟨S2048x2048, .f32⟩
  | 5 => ⟨S2048x2048, .f32⟩
  | 6 => ⟨S2048x2048, .f32⟩
  | 7 => ⟨S2048x2048, .f32⟩
  | 8 => ⟨S2048x2048, .f32⟩
  | 9 => ⟨S2048x16x128, .f32⟩
  | 10 => ⟨S16x2048x128, .f32⟩
  | 11 => ⟨S2048x16x128, .f32⟩
  | 12 => ⟨S16x2048x128, .f32⟩
  | 13 => ⟨S2048x16x128, .f32⟩
  | 14 => ⟨S16x2048x128, .f32⟩
  | 15 => ⟨S16x2048x2048, .f32⟩
  | 16 => ⟨S_, .f32⟩
  | 17 => ⟨S16x2048x2048, .f32⟩
  | 18 => ⟨S16x2048x2048, .f32⟩
  | 19 => ⟨S2048, .i32⟩
  | 20 => ⟨S2048x1, .i32⟩
  | 21 => ⟨S2048, .i32⟩
  | 22 => ⟨S1x2048, .i32⟩
  | 23 => ⟨S2048x2048, .i32⟩
  | 24 => ⟨S2048x2048, .i32⟩
  | 25 => ⟨S2048x2048, .i1⟩
  | 26 => ⟨S16x2048x2048, .f32⟩
  | 27 => ⟨S_, .f32⟩
  | 28 => ⟨S16x2048x2048, .f32⟩
  | 29 => ⟨S16x2048x2048, .f32⟩
  | 30 => ⟨S16x2048x2048, .f32⟩
  | 31 => ⟨S16x2048x2048, .f32⟩
  | 32 => ⟨S16x2048x2048, .i1⟩
  | 33 => ⟨S16x2048x2048, .f32⟩
  | 34 => ⟨S16x2048x2048, .f32⟩
  | 35 => ⟨S16x2048x2048, .f32⟩
  | 36 => ⟨S16x2048x2048, .f32⟩
  | 37 => ⟨S16x2048x2048, .f32⟩
  | 38 => ⟨S16x2048x2048, .f32⟩
  | 39 => ⟨S16x2048x2048, .f32⟩
  | 40 => ⟨S16x2048x2048, .f32⟩
  | 41 => ⟨S_, .f32⟩
  | 42 => ⟨S16x2048x2048, .f32⟩
  | 43 => ⟨S16x2048x2048, .i1⟩
  | 44 => ⟨S_, .f32⟩
  | 45 => ⟨S16x2048x2048, .f32⟩
  | 46 => ⟨S16x2048x2048, .f32⟩
  | 47 => ⟨S_, .f32⟩
  | 48 => ⟨S16x2048x2048, .f32⟩
  | 49 => ⟨S16x2048x2048, .i1⟩
  | 50 => ⟨S_, .f32⟩
  | 51 => ⟨S16x2048x2048, .f32⟩
  | 52 => ⟨S16x2048x2048, .f32⟩
  | 53 => ⟨S16x2048x2048, .f32⟩
  | 54 => ⟨S16x2048x2048, .f32⟩
  | 55 => ⟨S_, .f32⟩
  | 56 => ⟨S_, .f32⟩
  | 57 => ⟨S_, .i1⟩
  | 58 => ⟨S_, .f32⟩
  | 59 => ⟨S_, .f32⟩
  | 60 => ⟨S_, .f32⟩
  | 61 => ⟨S_, .f32⟩
  | 62 => ⟨S16x2048x2048, .f32⟩
  | 63 => ⟨S16x2048x2048, .i1⟩
  | 64 => ⟨S_, .f32⟩
  | 65 => ⟨S16x2048x2048, .f32⟩
  | 66 => ⟨S16x2048x2048, .f32⟩
  | 67 => ⟨S16x2048x2048, .f32⟩
  | 68 => ⟨S16x2048x2048, .f32⟩
  | 69 => ⟨S16x2048x2048, .f32⟩
  | 70 => ⟨S_, .f32⟩
  | 71 => ⟨S16x2048x2048, .f32⟩
  | 72 => ⟨S16x2048x2048, .f32⟩
  | 73 => ⟨S16x2048x2048, .f32⟩
  | 74 => ⟨S16x2048x2048, .f32⟩
  | 75 => ⟨S16x2048x2048, .f32⟩
  | 76 => ⟨S_, .f32⟩
  | 77 => ⟨S16x2048x2048, .f32⟩
  | 78 => ⟨S16x2048x2048, .f32⟩
  | 79 => ⟨S16x2048x2048, .f32⟩
  | 80 => ⟨S16x2048x2048, .f32⟩
  | 81 => ⟨S16x2048x2048, .i1⟩
  | 82 => ⟨S16x2048x2048, .f32⟩
  | 83 => ⟨S16x2048x2048, .f32⟩
  | 84 => ⟨S16x2048x2048, .f32⟩
  | 85 => ⟨S16x2048x2048, .f32⟩
  | 86 => ⟨S16x2048x2048, .f32⟩
  | 87 => ⟨S16x2048x2048, .f32⟩
  | 88 => ⟨S16x2048x2048, .f32⟩
  | 89 => ⟨S16x2048x2048, .f32⟩
  | 90 => ⟨S_, .f32⟩
  | 91 => ⟨S16x2048x2048, .f32⟩
  | 92 => ⟨S16x2048x2048, .i1⟩
  | 93 => ⟨S_, .f32⟩
  | 94 => ⟨S16x2048x2048, .f32⟩
  | 95 => ⟨S16x2048x2048, .f32⟩
  | 96 => ⟨S_, .f32⟩
  | 97 => ⟨S16x2048x2048, .f32⟩
  | 98 => ⟨S16x2048x2048, .i1⟩
  | 99 => ⟨S_, .f32⟩
  | 100 => ⟨S16x2048x2048, .f32⟩
  | 101 => ⟨S16x2048x2048, .f32⟩
  | 102 => ⟨S16x2048x2048, .f32⟩
  | 103 => ⟨S16x2048x2048, .f32⟩
  | 104 => ⟨S_, .f32⟩
  | 105 => ⟨S_, .f32⟩
  | 106 => ⟨S_, .i1⟩
  | 107 => ⟨S_, .f32⟩
  | 108 => ⟨S_, .f32⟩
  | 109 => ⟨S_, .f32⟩
  | 110 => ⟨S_, .f32⟩
  | 111 => ⟨S16x2048x2048, .f32⟩
  | 112 => ⟨S16x2048x2048, .i1⟩
  | 113 => ⟨S_, .f32⟩
  | 114 => ⟨S16x2048x2048, .f32⟩
  | 115 => ⟨S16x2048x2048, .f32⟩
  | 116 => ⟨S16x2048x2048, .f32⟩
  | 117 => ⟨S16x2048x2048, .f32⟩
  | 118 => ⟨S16x2048x2048, .f32⟩
  | 119 => ⟨S_, .f32⟩
  | 120 => ⟨S16x2048x2048, .f32⟩
  | 121 => ⟨S16x2048x2048, .f32⟩
  | 122 => ⟨S16x2048x2048, .f32⟩
  | 123 => ⟨S_, .f32⟩
  | 124 => ⟨S_, .f32⟩
  | 125 => ⟨S16x2048x2048, .i1⟩
  | 126 => ⟨S16x2048x2048, .f32⟩
  | 127 => ⟨S16x2048x2048, .f32⟩
  | _ => ⟨S2048x2048, .bf16⟩

abbrev hbmTy0_1 (i : Nat) : BufTy := match i % 128 with
  | 0 => ⟨S_, .f32⟩
  | 1 => ⟨S16x2048x2048, .f32⟩
  | 2 => ⟨S_, .f32⟩
  | 3 => ⟨S_, .f32⟩
  | 4 => ⟨S16x2048x2048, .f32⟩
  | 5 => ⟨S16x2048x2048, .f32⟩
  | 6 => ⟨S16x2048x2048, .f32⟩
  | 7 => ⟨S16x2048x2048, .f32⟩
  | 8 => ⟨S_, .f32⟩
  | 9 => ⟨S_, .f32⟩
  | 10 => ⟨S16x2048x2048, .i1⟩
  | 11 => ⟨S16x2048x2048, .f32⟩
  | 12 => ⟨S16x2048x2048, .f32⟩
  | 13 => ⟨S_, .f32⟩
  | 14 => ⟨S16x2048x2048, .f32⟩
  | 15 => ⟨S16x2048x128, .f32⟩
  | 16 => ⟨S2048x16x128, .f32⟩
  | 17 => ⟨S2048x2048, .f32⟩
  | 18 => ⟨S2048x2048, .f32⟩
  | 19 => ⟨S2048x2048, .f32⟩
  | 20 => ⟨S_, .f32⟩
  | 21 => ⟨S2048x2048, .f32⟩
  | 22 => ⟨S2048x2048, .f32⟩
  | 23 => ⟨S_, .f32⟩
  | 24 => ⟨S2048x2048, .f32⟩
  | 25 => ⟨S2048x2048, .f32⟩
  | 26 => ⟨S_, .f32⟩
  | 27 => ⟨S2048x2048, .f32⟩
  | 28 => ⟨S2048x2048, .f32⟩
  | 29 => ⟨S2048x2048, .f32⟩
  | 30 => ⟨S2048x2048, .f32⟩
  | 31 => ⟨S2048x2048, .f32⟩
  | 32 => ⟨S2048x2048, .f32⟩
  | 33 => ⟨S2048x2048, .f32⟩
  | 34 => ⟨S2048x2048, .f32⟩
  | 35 => ⟨S2048x2048, .f32⟩
  | 36 => ⟨S2048x2048, .f32⟩
  | 37 => ⟨S2048x2048, .f32⟩
  | 38 => ⟨S2048x16x128, .f32⟩
  | 39 => ⟨S16x2048x128, .f32⟩
  | 40 => ⟨S16x128x2048, .f32⟩
  | 41 => ⟨S16x2048x128, .f32⟩
  | 42 => ⟨S16x2048x2048, .f32⟩
  | 43 => ⟨S_, .f32⟩
  | 44 => ⟨S16x2048x2048, .f32⟩
  | 45 => ⟨S16x2048x2048, .f32⟩
  | 46 => ⟨S16x2048x2048, .f32⟩
  | 47 => ⟨S16x2048x2048, .f32⟩
  | 48 => ⟨S_, .f32⟩
  | 49 => ⟨S_, .f32⟩
  | 50 => ⟨S16x2048x2048, .f32⟩
  | 51 => ⟨S16x2048x2048, .f32⟩
  | 52 => ⟨S_, .f32⟩
  | 53 => ⟨S16x2048x2048, .f32⟩
  | 54 => ⟨S16x2048x2048, .f32⟩
  | 55 => ⟨S16x2048x2048, .f32⟩
  | 56 => ⟨S16x2048x2048, .f32⟩
  | 57 => ⟨S16x2048x2048, .f32⟩
  | 58 => ⟨S16x2048x2048, .f32⟩
  | 59 => ⟨S16x2048x2048, .f32⟩
  | 60 => ⟨S16x2048x2048, .f32⟩
  | 61 => ⟨S16x2048x2048, .f32⟩
  | 62 => ⟨S16x2048x2048, .f32⟩
  | 63 => ⟨S_, .f32⟩
  | 64 => ⟨S16x2048x2048, .f32⟩
  | 65 => ⟨S16x2048x2048, .f32⟩
  | 66 => ⟨S16x2048x128, .f32⟩
  | 67 => ⟨S16x2048x128, .f32⟩
  | 68 => ⟨S2048x16x128, .f32⟩
  | 69 => ⟨S2048x2048, .f32⟩
  | 70 => ⟨S2048x16x128, .f32⟩
  | 71 => ⟨S2048x2048, .f32⟩
  | 72 => ⟨S2048x16x128, .f32⟩
  | 73 => ⟨S2048x2048, .f32⟩
  | 74 => ⟨S2048x2048, .bf16⟩
  | 75 => ⟨S2048x2048, .bf16⟩
  | _ => ⟨S2048x2048, .bf16⟩

abbrev hbmTy (i : Nat) : BufTy := match i / 128 with
  | 0 => hbmTy0_0 i
  | 1 => hbmTy0_1 i
  | _ => ⟨S2048x2048, .bf16⟩

abbrev bufTy : (tb : Table) → Fin (tcTables nBuf tb) → BufTy
  | .hbm, ⟨i, _⟩ => hbmTy i
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1_0 : Ref sig .tc := ⟨.hbm, 40, rfl⟩
abbrev main_call0_call0_cst_0 : Ref sig .tc := ⟨.hbm, 41, rfl⟩
abbrev main_call0_call0_v13 : Ref sig .tc := ⟨.hbm, 42, rfl⟩
abbrev main_call0_call0_v14 : Ref sig .tc := ⟨.hbm, 43, rfl⟩
abbrev main_call0_call0_cst_1 : Ref sig .tc := ⟨.hbm, 44, rfl⟩
abbrev main_call0_call0_v15 : Ref sig .tc := ⟨.hbm, 45, rfl⟩
abbrev main_call0_call0_v16 : Ref sig .tc := ⟨.hbm, 46, rfl⟩
abbrev main_call0_call0_cst_2 : Ref sig .tc := ⟨.hbm, 47, rfl⟩
abbrev main_call0_call0_v17 : Ref sig .tc := ⟨.hbm, 48, rfl⟩
abbrev main_call0_call0_v18 : Ref sig .tc := ⟨.hbm, 49, rfl⟩
abbrev main_call0_call0_cst_3 : Ref sig .tc := ⟨.hbm, 50, rfl⟩
abbrev main_call0_call0_v19 : Ref sig .tc := ⟨.hbm, 51, rfl⟩
abbrev main_call0_call0_v20 : Ref sig .tc := ⟨.hbm, 52, rfl⟩
abbrev main_call0_call0_v21 : Ref sig .tc := ⟨.hbm, 53, rfl⟩
abbrev main_v20_1 : Ref sig .tc := ⟨.hbm, 54, rfl⟩
abbrev main_call0_call0_cst_4 : Ref sig .tc := ⟨.hbm, 55, rfl⟩
abbrev main_call0_call0_cst_5 : Ref sig .tc := ⟨.hbm, 56, rfl⟩
abbrev main_call0_call0_v23 : Ref sig .tc := ⟨.hbm, 57, rfl⟩
abbrev main_call0_call0_cst_6 : Ref sig .tc := ⟨.hbm, 58, rfl⟩
abbrev main_call0_call0_cst_7 : Ref sig .tc := ⟨.hbm, 59, rfl⟩
abbrev main_call0_call0_v24 : Ref sig .tc := ⟨.hbm, 60, rfl⟩
abbrev main_call0_call0_cst_8 : Ref sig .tc := ⟨.hbm, 61, rfl⟩
abbrev main_call0_call0_v25 : Ref sig .tc := ⟨.hbm, 62, rfl⟩
abbrev main_call0_call0_v26 : Ref sig .tc := ⟨.hbm, 63, rfl⟩
abbrev main_call0_call0_cst_9 : Ref sig .tc := ⟨.hbm, 64, rfl⟩
abbrev main_call0_call0_v27 : Ref sig .tc := ⟨.hbm, 65, rfl⟩
abbrev main_call0_call0_v28 : Ref sig .tc := ⟨.hbm, 66, rfl⟩
abbrev main_call0_call0_v29 : Ref sig .tc := ⟨.hbm, 67, rfl⟩
abbrev main_call0_call0_v30 : Ref sig .tc := ⟨.hbm, 68, rfl⟩
abbrev main_call0_call0_v31 : Ref sig .tc := ⟨.hbm, 69, rfl⟩
abbrev main_call0_call0_cst_10 : Ref sig .tc := ⟨.hbm, 70, rfl⟩
abbrev main_call0_call0_v32 : Ref sig .tc := ⟨.hbm, 71, rfl⟩
abbrev main_v20_2 : Ref sig .tc := ⟨.hbm, 72, rfl⟩
abbrev main_v20_0 : Ref sig .tc := ⟨.hbm, 73, rfl⟩
abbrev main_v21 : Ref sig .tc := ⟨.hbm, 74, rfl⟩
abbrev main_call1_v0 : Ref sig .tc := ⟨.hbm, 75, rfl⟩
abbrev main_call1_call0_cst : Ref sig .tc := ⟨.hbm, 76, rfl⟩
abbrev main_call1_call0_v0 : Ref sig .tc := ⟨.hbm, 77, rfl⟩
abbrev main_call1_call0_v1 : Ref sig .tc := ⟨.hbm, 78, rfl⟩
abbrev main_call1_call0_v2 : Ref sig .tc := ⟨.hbm, 79, rfl⟩
abbrev main_call1_call0_v3 : Ref sig .tc := ⟨.hbm, 80, rfl⟩
abbrev main_call1_call0_v4 : Ref sig .tc := ⟨.hbm, 81, rfl⟩
abbrev main_call1_call0_v5 : Ref sig .tc := ⟨.hbm, 82, rfl⟩
abbrev main_call1_call0_v6 : Ref sig .tc := ⟨.hbm, 83, rfl⟩
abbrev main_call1_call0_v7 : Ref sig .tc := ⟨.hbm, 84, rfl⟩
abbrev main_call1_call0_v8 : Ref sig .tc := ⟨.hbm, 85, rfl⟩
abbrev main_call1_call0_v9 : Ref sig .tc := ⟨.hbm, 86, rfl⟩
abbrev main_call1_call0_v10 : Ref sig .tc := ⟨.hbm, 87, rfl⟩
abbrev main_call1_call0_v11 : Ref sig .tc := ⟨.hbm, 88, rfl⟩
abbrev main_call1_v1_0 : Ref sig .tc := ⟨.hbm, 89, rfl⟩
abbrev main_call1_call0_cst_0 : Ref sig .tc := ⟨.hbm, 90, rfl⟩
abbrev main_call1_call0_v13 : Ref sig .tc := ⟨.hbm, 91, rfl⟩
abbrev main_call1_call0_v14 : Ref sig .tc := ⟨.hbm, 92, rfl⟩
abbrev main_call1_call0_cst_1 : Ref sig .tc := ⟨.hbm, 93, rfl⟩
abbrev main_call1_call0_v15 : Ref sig .tc := ⟨.hbm, 94, rfl⟩
abbrev main_call1_call0_v16 : Ref sig .tc := ⟨.hbm, 95, rfl⟩
abbrev main_call1_call0_cst_2 : Ref sig .tc := ⟨.hbm, 96, rfl⟩
abbrev main_call1_call0_v17 : Ref sig .tc := ⟨.hbm, 97, rfl⟩
abbrev main_call1_call0_v18 : Ref sig .tc := ⟨.hbm, 98, rfl⟩
abbrev main_call1_call0_cst_3 : Ref sig .tc := ⟨.hbm, 99, rfl⟩
abbrev main_call1_call0_v19 : Ref sig .tc := ⟨.hbm, 100, rfl⟩
abbrev main_call1_call0_v20 : Ref sig .tc := ⟨.hbm, 101, rfl⟩
abbrev main_call1_call0_v21 : Ref sig .tc := ⟨.hbm, 102, rfl⟩
abbrev main_v22_1 : Ref sig .tc := ⟨.hbm, 103, rfl⟩
abbrev main_call1_call0_cst_4 : Ref sig .tc := ⟨.hbm, 104, rfl⟩
abbrev main_call1_call0_cst_5 : Ref sig .tc := ⟨.hbm, 105, rfl⟩
abbrev main_call1_call0_v23 : Ref sig .tc := ⟨.hbm, 106, rfl⟩
abbrev main_call1_call0_cst_6 : Ref sig .tc := ⟨.hbm, 107, rfl⟩
abbrev main_call1_call0_cst_7 : Ref sig .tc := ⟨.hbm, 108, rfl⟩
abbrev main_call1_call0_v24 : Ref sig .tc := ⟨.hbm, 109, rfl⟩
abbrev main_call1_call0_cst_8 : Ref sig .tc := ⟨.hbm, 110, rfl⟩
abbrev main_call1_call0_v25 : Ref sig .tc := ⟨.hbm, 111, rfl⟩
abbrev main_call1_call0_v26 : Ref sig .tc := ⟨.hbm, 112, rfl⟩
abbrev main_call1_call0_cst_9 : Ref sig .tc := ⟨.hbm, 113, rfl⟩
abbrev main_call1_call0_v27 : Ref sig .tc := ⟨.hbm, 114, rfl⟩
abbrev main_call1_call0_v28 : Ref sig .tc := ⟨.hbm, 115, rfl⟩
abbrev main_call1_call0_v29 : Ref sig .tc := ⟨.hbm, 116, rfl⟩
abbrev main_call1_call0_v30 : Ref sig .tc := ⟨.hbm, 117, rfl⟩
abbrev main_call1_call0_v31 : Ref sig .tc := ⟨.hbm, 118, rfl⟩
abbrev main_call1_call0_cst_10 : Ref sig .tc := ⟨.hbm, 119, rfl⟩
abbrev main_call1_call0_v32 : Ref sig .tc := ⟨.hbm, 120, rfl⟩
abbrev main_v22_2 : Ref sig .tc := ⟨.hbm, 121, rfl⟩
abbrev main_v22_0 : Ref sig .tc := ⟨.hbm, 122, rfl⟩
abbrev main_cst_0 : Ref sig .tc := ⟨.hbm, 123, rfl⟩
abbrev main_call2_v0 : Ref sig .tc := ⟨.hbm, 124, rfl⟩
abbrev main_v23_1 : Ref sig .tc := ⟨.hbm, 125, rfl⟩
abbrev main_call2_v2 : Ref sig .tc := ⟨.hbm, 126, rfl⟩
abbrev main_v23_0 : Ref sig .tc := ⟨.hbm, 127, rfl⟩
abbrev main_call2_cst : Ref sig .tc := ⟨.hbm, 128, rfl⟩
abbrev main_v23_2 : Ref sig .tc := ⟨.hbm, 129, rfl⟩
abbrev main_call3_cst : Ref sig .tc := ⟨.hbm, 130, rfl⟩
abbrev main_call3_v0 : Ref sig .tc := ⟨.hbm, 131, rfl⟩
abbrev main_v24 : Ref sig .tc := ⟨.hbm, 132, rfl⟩
abbrev main_v25 : Ref sig .tc := ⟨.hbm, 133, rfl⟩
abbrev main_v26 : Ref sig .tc := ⟨.hbm, 134, rfl⟩
abbrev main_v27 : Ref sig .tc := ⟨.hbm, 135, rfl⟩
abbrev main_cst_1 : Ref sig .tc := ⟨.hbm, 136, rfl⟩
abbrev main_call4_v0 : Ref sig .tc := ⟨.hbm, 137, rfl⟩
abbrev main_v28_1 : Ref sig .tc := ⟨.hbm, 138, rfl⟩
abbrev main_call4_v2 : Ref sig .tc := ⟨.hbm, 139, rfl⟩
abbrev main_v28_0 : Ref sig .tc := ⟨.hbm, 140, rfl⟩
abbrev main_call4_cst : Ref sig .tc := ⟨.hbm, 141, rfl⟩
abbrev main_v28_2 : Ref sig .tc := ⟨.hbm, 142, rfl⟩
abbrev main_v29 : Ref sig .tc := ⟨.hbm, 143, rfl⟩
abbrev main_v30 : Ref sig .tc := ⟨.hbm, 144, rfl⟩
abbrev main_v31 : Ref sig .tc := ⟨.hbm, 145, rfl⟩
abbrev main_call5_v0 : Ref sig .tc := ⟨.hbm, 146, rfl⟩
abbrev main_call5_v1 : Ref sig .tc := ⟨.hbm, 147, rfl⟩
abbrev main_call5_cst : Ref sig .tc := ⟨.hbm, 148, rfl⟩
abbrev main_call5_v2 : Ref sig .tc := ⟨.hbm, 149, rfl⟩
abbrev main_call5_v3 : Ref sig .tc := ⟨.hbm, 150, rfl⟩
abbrev main_call5_cst_0 : Ref sig .tc := ⟨.hbm, 151, rfl⟩
abbrev main_call5_v4 : Ref sig .tc := ⟨.hbm, 152, rfl⟩
abbrev main_v32_2 : Ref sig .tc := ⟨.hbm, 153, rfl⟩
abbrev main_call5_cst_1 : Ref sig .tc := ⟨.hbm, 154, rfl⟩
abbrev main_call5_v6 : Ref sig .tc := ⟨.hbm, 155, rfl⟩
abbrev main_call5_v7 : Ref sig .tc := ⟨.hbm, 156, rfl⟩
abbrev main_v32_1 : Ref sig .tc := ⟨.hbm, 157, rfl⟩
abbrev main_v32_0 : Ref sig .tc := ⟨.hbm, 158, rfl⟩
abbrev main_v33 : Ref sig .tc := ⟨.hbm, 159, rfl⟩
abbrev main_v34 : Ref sig .tc := ⟨.hbm, 160, rfl⟩
abbrev main_v35 : Ref sig .tc := ⟨.hbm, 161, rfl⟩
abbrev main_call6_v0 : Ref sig .tc := ⟨.hbm, 162, rfl⟩
abbrev main_call6_v1 : Ref sig .tc := ⟨.hbm, 163, rfl⟩
abbrev main_call6_v2 : Ref sig .tc := ⟨.hbm, 164, rfl⟩
abbrev main_v36 : Ref sig .tc := ⟨.hbm, 165, rfl⟩
abbrev main_v37 : Ref sig .tc := ⟨.hbm, 166, rfl⟩
abbrev main_v38 : Ref sig .tc := ⟨.hbm, 167, rfl⟩
abbrev main_v39 : Ref sig .tc := ⟨.hbm, 168, rfl⟩
abbrev main_v40 : Ref sig .tc := ⟨.hbm, 169, rfl⟩
abbrev main_v41 : Ref sig .tc := ⟨.hbm, 170, rfl⟩
abbrev main_call7_cst : Ref sig .tc := ⟨.hbm, 171, rfl⟩
abbrev main_call7_v0 : Ref sig .tc := ⟨.hbm, 172, rfl⟩
abbrev main_v42 : Ref sig .tc := ⟨.hbm, 173, rfl⟩
abbrev main_v43 : Ref sig .tc := ⟨.hbm, 174, rfl⟩
abbrev main_v44 : Ref sig .tc := ⟨.hbm, 175, rfl⟩
abbrev main_call8_cst : Ref sig .tc := ⟨.hbm, 176, rfl⟩
abbrev main_call8_v0 : Ref sig .tc := ⟨.hbm, 177, rfl⟩
abbrev main_v45 : Ref sig .tc := ⟨.hbm, 178, rfl⟩
abbrev main_v46 : Ref sig .tc := ⟨.hbm, 179, rfl⟩
abbrev main_call9_cst : Ref sig .tc := ⟨.hbm, 180, rfl⟩
abbrev main_call9_v0 : Ref sig .tc := ⟨.hbm, 181, rfl⟩
abbrev main_v47 : Ref sig .tc := ⟨.hbm, 182, rfl⟩
abbrev main_call10_v0 : Ref sig .tc := ⟨.hbm, 183, rfl⟩
abbrev main_call10_v1 : Ref sig .tc := ⟨.hbm, 184, rfl⟩
abbrev main_v48 : Ref sig .tc := ⟨.hbm, 185, rfl⟩
abbrev main_v49 : Ref sig .tc := ⟨.hbm, 186, rfl⟩
abbrev main_call11_v0 : Ref sig .tc := ⟨.hbm, 187, rfl⟩
abbrev main_call11_v1 : Ref sig .tc := ⟨.hbm, 188, rfl⟩
abbrev main_v50 : Ref sig .tc := ⟨.hbm, 189, rfl⟩
abbrev main_v51 : Ref sig .tc := ⟨.hbm, 190, rfl⟩
abbrev main_cst_2 : Ref sig .tc := ⟨.hbm, 191, rfl⟩
abbrev main_v52 : Ref sig .tc := ⟨.hbm, 192, rfl⟩
abbrev main_v53 : Ref sig .tc := ⟨.hbm, 193, rfl⟩
abbrev main_v54 : Ref sig .tc := ⟨.hbm, 194, rfl⟩
abbrev main_v55 : Ref sig .tc := ⟨.hbm, 195, rfl⟩
abbrev main_v56 : Ref sig .tc := ⟨.hbm, 196, rfl⟩
abbrev main_v57 : Ref sig .tc := ⟨.hbm, 197, rfl⟩
abbrev main_v58 : Ref sig .tc := ⟨.hbm, 198, rfl⟩
abbrev main_v59 : Ref sig .tc := ⟨.hbm, 199, rfl⟩
abbrev main_v60 : Ref sig .tc := ⟨.hbm, 200, rfl⟩
abbrev main_v61 : Ref sig .tc := ⟨.hbm, 201, rfl⟩
abbrev main_v62 : Ref sig .tc := ⟨.hbm, 202, rfl⟩
abbrev main_v63 : Ref sig .tc := ⟨.hbm, 203, rfl⟩

abbrev nD : Nat := 1
abbrev τ : Topo := Topo.v7x

variable {F : FTy → Type} [FloatOps F]
-- ==== PleKernel.lean ====
abbrev S2048x2048 : Shape := ⟨2, ![2048, 2048]⟩
abbrev S512x2048 : Shape := ⟨2, ![512, 2048]⟩

abbrev nBuf : Space → Nat
  | .hbm => 5
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PleReferenceIdeal.lean ====
abbrev S2048x2048 : Shape := ⟨2, ![2048, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | .hbm, ⟨20, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== DSsdIn.lean ====
abbrev S2048x2048 : Shape := ⟨2, ![2048, 2048]⟩
abbrev S2048x10240 : Shape := ⟨2, ![2048, 10240]⟩
abbrev S10240x2048 : Shape := ⟨2, ![10240, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x10240, .bf16⟩
  | .hbm, ⟨2, _⟩ => ⟨S10240x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![10, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DSsdInRefIdeal.lean ====
abbrev S2048x2048 : Shape := ⟨2, ![2048, 2048]⟩
abbrev S2048x10240 : Shape := ⟨2, ![2048, 10240]⟩
abbrev S_ : Shape := ⟨0, ![]⟩
abbrev S10240x2048 : Shape := ⟨2, ![10240, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x10240, .bf16⟩
  | .hbm, ⟨2, _⟩ => ⟨S_, .f32⟩
  | .hbm, ⟨3, _⟩ => ⟨S2048x10240, .f32⟩
  | .hbm, ⟨4, _⟩ => ⟨S2048x2048, .f32⟩
  | .hbm, ⟨5, _⟩ => ⟨S2048x10240, .f32⟩
  | .hbm, ⟨6, _⟩ => ⟨S2048x10240, .f32⟩
  | .hbm, ⟨7, _⟩ => ⟨S10240x2048, .f32⟩
  | .hbm, ⟨8, _⟩ => ⟨S2048x10240, .f32⟩
  | .hbm, ⟨9, _⟩ => ⟨S10240x2048, .f32⟩
  | .hbm, ⟨10, _⟩ => ⟨S10240x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== SsdInBwd.lean ====
abbrev S2048x10240 : Shape := ⟨2, ![2048, 10240]⟩
abbrev S2x2048x10304 : Shape := ⟨3, ![2, 2048, 10304]⟩
abbrev S2x10304x2048 : Shape := ⟨3, ![2, 10304, 2048]⟩
abbrev S2048x2048 : Shape := ⟨2, ![2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x10240, .bf16⟩
  | .hbm, ⟨1, _⟩ => ⟨S2x2048x10304, .f32⟩
  | .hbm, ⟨2, _⟩ => ⟨S2x10304x2048, .f32⟩
  | .hbm, ⟨3, _⟩ => ⟨S2x10304x2048, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 5], ![false, false, false]⟩

def k0_cond2 (i : grid0.Coords) : BitVec 1 :=
  let arg2 : BitVec 32 := BitVec.ofNat 32 (i 2).val
  let c4_i32 : BitVec 32 := 4#32
  let v12 : BitVec 1 := Scalar.cmpi .eq arg2 c4_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdInBwdRefIdeal.lean ====
abbrev S2048x10240 : Shape := ⟨2, ![2048, 10240]⟩
abbrev S2x2048x10304 : Shape := ⟨3, ![2, 2048, 10304]⟩
abbrev S1x2048x10304 : Shape := ⟨3, ![1, 2048, 10304]⟩
abbrev S2048x10304 : Shape := ⟨2, ![2048, 10304]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x10240, .bf16⟩
  | .hbm, ⟨1, _⟩ => ⟨S2x2048x10304, .f32⟩
  | .hbm, ⟨2, _⟩ => ⟨S1x2048x10304, .f32⟩
  | .hbm, ⟨3, _⟩ => ⟨S2048x10304, .f32⟩
  | .hbm, ⟨4, _⟩ => ⟨S2048x10240, .f32⟩
  | .hbm, ⟨5, _⟩ => ⟨S_, .f32⟩
  | .hbm, ⟨6, _⟩ => ⟨S2048x2048, .f32⟩
  | .hbm, ⟨7, _⟩ => ⟨S2048x10240, .f32⟩
  | .hbm, ⟨8, _⟩ => ⟨S2048x10240, .f32⟩
  | .hbm, ⟨9, _⟩ => ⟨S2048x2048, .f32⟩
  | _, _ => ⟨S2048x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DSbIn.lean ====
abbrev S2048x2048 : Shape := ⟨2, ![2048, 2048]⟩
abbrev S2048x8192 : Shape := ⟨2, ![2048, 8192]⟩
abbrev S4x1x2048x2048 : Shape := ⟨4, ![4, 1, 2048, 2048]⟩
abbrev S2048x1024 : Shape := ⟨2, ![2048, 1024]⟩
abbrev S1x1x1024x1024 : Shape := ⟨4, ![1, 1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S4x1x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x1024x1024, .bf16⟩
  | .local _ .vmem, ⟨5, _⟩ => ⟨S1x1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DSbInRefIdeal.lean ====
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩
abbrev S2048x4x2048 : Shape := ⟨3, ![2048, 4, 2048]⟩
abbrev S4x2048x2048 : Shape := ⟨3, ![4, 2048, 2048]⟩
abbrev S4x1x2048x2048 : Shape := ⟨4, ![4, 1, 2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S_, .f32⟩
  | .hbm, ⟨3, _⟩ => ⟨S2048x8192, .f32⟩
  | .hbm, ⟨4, _⟩ => ⟨S2048x2048, .f32⟩
  | .hbm, ⟨5, _⟩ => ⟨S2048x8192, .f32⟩
  | .hbm, ⟨6, _⟩ => ⟨S2048x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | .hbm, ⟨10, _⟩ => ⟨S2048x4x2048, .bf16⟩
  | .hbm, ⟨11, _⟩ => ⟨S4x2048x2048, .bf16⟩
  | .hbm, ⟨12, _⟩ => ⟨S4x1x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== SbInBwd.lean ====
abbrev S2048x8192 : Shape := ⟨2, ![2048, 8192]⟩
abbrev S2x2048x8192 : Shape := ⟨3, ![2, 2048, 8192]⟩
abbrev S2x2048x4x2048 : Shape := ⟨4, ![2, 2048, 4, 2048]⟩
abbrev S4x2x2048x2048 : Shape := ⟨4, ![4, 2, 2048, 2048]⟩
abbrev S2048x2048 : Shape := ⟨2, ![2048, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S2x2048x8192, .f32⟩
  | .hbm, ⟨2, _⟩ => ⟨S2x2048x4x2048, .f32⟩
  | .hbm, ⟨3, _⟩ => ⟨S4x2x2048x2048, .f32⟩
  | .hbm, ⟨4, _⟩ => ⟨S4x2x2048x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SbInBwdRefIdeal.lean ====
abbrev S2048x8192 : Shape := ⟨2, ![2048, 8192]⟩
abbrev S2x2048x8192 : Shape := ⟨3, ![2, 2048, 8192]⟩
abbrev S1x2048x8192 : Shape := ⟨3, ![1, 2048, 8192]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2x2048x8192, .f32⟩
  | .hbm, ⟨2, _⟩ => ⟨S1x2048x8192, .f32⟩
  | .hbm, ⟨3, _⟩ => ⟨S2048x8192, .f32⟩
  | .hbm, ⟨4, _⟩ => ⟨S_, .f32⟩
  | .hbm, ⟨5, _⟩ => ⟨S2048x2048, .f32⟩
  | .hbm, ⟨6, _⟩ => ⟨S2048x8192, .f32⟩
  | .hbm, ⟨7, _⟩ => ⟨S2048x8192, .f32⟩
  | .hbm, ⟨8, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SsdIn.lean ====
abbrev S2048x2048 : Shape := ⟨2, ![2048, 2048]⟩
abbrev S2x2048x10304 : Shape := ⟨3, ![2, 2048, 10304]⟩
abbrev S2x10304x2048 : Shape := ⟨3, ![2, 10304, 2048]⟩
abbrev S2048x10240 : Shape := ⟨2, ![2048, 10240]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2x2048x10304, .f32⟩
  | .hbm, ⟨2, _⟩ => ⟨S2x10304x2048, .f32⟩
  | .hbm, ⟨3, _⟩ => ⟨S2x10304x2048, .bf16⟩
  | .hbm, ⟨4, _⟩ => ⟨S2048x10240, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdInRefIdeal.lean ====
abbrev S2048x2048 : Shape := ⟨2, ![2048, 2048]⟩
abbrev S2x2048x10304 : Shape := ⟨3, ![2, 2048, 10304]⟩
abbrev S1x2048x10304 : Shape := ⟨3, ![1, 2048, 10304]⟩
abbrev S2048x10304 : Shape := ⟨2, ![2048, 10304]⟩
abbrev S2048x10240 : Shape := ⟨2, ![2048, 10240]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x10304, .f32⟩
  | .hbm, ⟨2, _⟩ => ⟨S1x2048x10304, .f32⟩
  | .hbm, ⟨3, _⟩ => ⟨S2048x10304, .f32⟩
  | .hbm, ⟨4, _⟩ => ⟨S2048x10240, .f32⟩
  | .hbm, ⟨5, _⟩ => ⟨S2048x2048, .f32⟩
  | .hbm, ⟨6, _⟩ => ⟨S2048x10240, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SbIn.lean ====
abbrev S2048x2048 : Shape := ⟨2, ![2048, 2048]⟩
abbrev S2x2048x8192 : Shape := ⟨3, ![2, 2048, 8192]⟩
abbrev S2x2048x4x2048 : Shape := ⟨4, ![2, 2048, 4, 2048]⟩
abbrev S4x2x2048x2048 : Shape := ⟨4, ![4, 2, 2048, 2048]⟩
abbrev S2048x8192 : Shape := ⟨2, ![2048, 8192]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2x2048x8192, .f32⟩
  | .hbm, ⟨2, _⟩ => ⟨S2x2048x4x2048, .f32⟩
  | .hbm, ⟨3, _⟩ => ⟨S4x2x2048x2048, .f32⟩
  | .hbm, ⟨4, _⟩ => ⟨S4x2x2048x2048, .bf16⟩
  | .hbm, ⟨5, _⟩ => ⟨S2048x8192, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  ![v16.toNat, c1_i32_10.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SbInRefIdeal.lean ====
abbrev S2048x2048 : Shape := ⟨2, ![2048, 2048]⟩
abbrev S2x2048x8192 : Shape := ⟨3, ![2, 2048, 8192]⟩
abbrev S1x2048x8192 : Shape := ⟨3, ![1, 2048, 8192]⟩
abbrev S2048x8192 : Shape := ⟨2, ![2048, 8192]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x8192, .f32⟩
  | .hbm, ⟨2, _⟩ => ⟨S1x2048x8192, .f32⟩
  | .hbm, ⟨3, _⟩ => ⟨S2048x8192, .f32⟩
  | .hbm, ⟨4, _⟩ => ⟨S2048x2048, .f32⟩
  | .hbm, ⟨5, _⟩ => ⟨S2048x8192, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DSsdOut.lean ====
abbrev S2048x4096 : Shape := ⟨2, ![2048, 4096]⟩
abbrev S2048x2048 : Shape := ⟨2, ![2048, 2048]⟩
abbrev S4x1x1024x2048 : Shape := ⟨4, ![4, 1, 1024, 2048]⟩
abbrev S2048x1024 : Shape := ⟨2, ![2048, 1024]⟩
abbrev S1x1x1024x1024 : Shape := ⟨4, ![1, 1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .f32⟩
  | .hbm, ⟨2, _⟩ => ⟨S4x1x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1x1x1024x1024, .bf16⟩
  | .local _ .vmem, ⟨5, _⟩ => ⟨S1x1x1024x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DSsdOutRefIdeal.lean ====
abbrev S2048x4096 : Shape := ⟨2, ![2048, 4096]⟩
abbrev S2048x2048 : Shape := ⟨2, ![2048, 2048]⟩
abbrev S_ : Shape := ⟨0, ![]⟩
abbrev S4096x2048 : Shape := ⟨2, ![4096, 2048]⟩
abbrev S4x1x1024x2048 : Shape := ⟨4, ![4, 1, 1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S2048x4096, .f32⟩
  | .hbm, ⟨5, _⟩ => ⟨S2048x2048, .f32⟩
  | .hbm, ⟨6, _⟩ => ⟨S2048x4096, .f32⟩
  | .hbm, ⟨7, _⟩ => ⟨S4096x2048, .f32⟩
  | .hbm, ⟨8, _⟩ => ⟨S4096x2048, .bf16⟩
  | .hbm, ⟨9, _⟩ => ⟨S4x1x1024x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SsdOutBwd.lean ====
abbrev S2048x2048 : Shape := ⟨2, ![2048, 2048]⟩
abbrev S2x4096x2048 : Shape := ⟨3, ![2, 4096, 2048]⟩
abbrev S2x4x1024x2048 : Shape := ⟨4, ![2, 4, 1024, 2048]⟩
abbrev S4x2x1024x2048 : Shape := ⟨4, ![4, 2, 1024, 2048]⟩
abbrev S2048x4096 : Shape := ⟨2, ![2048, 4096]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2x4096x2048, .f32⟩
  | .hbm, ⟨2, _⟩ => ⟨S2x4x1024x2048, .f32⟩
  | .hbm, ⟨3, _⟩ => ⟨S4x2x1024x2048, .f32⟩
  | .hbm, ⟨4, _⟩ => ⟨S4x2x1024x2048, .bf16⟩
  | .hbm, ⟨5, _⟩ => ⟨S2048x4096, .f32⟩
  | .local _ .vmem, ⟨0, _⟩ => ⟨S1024x2048, .f32⟩
  | .local _ .vmem, ⟨1, _⟩ => ⟨S1024x2048, .f32⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdOutBwdRefIdeal.lean ====
abbrev S2048x2048 : Shape := ⟨2, ![2048, 2048]⟩
abbrev S2x4096x2048 : Shape := ⟨3, ![2, 4096, 2048]⟩
abbrev S1x4096x2048 : Shape := ⟨3, ![1, 4096, 2048]⟩
abbrev S4096x2048 : Shape := ⟨2, ![4096, 2048]⟩
abbrev S_ : Shape := ⟨0, ![]⟩
abbrev S2048x4096 : Shape := ⟨2, ![2048, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2x4096x2048, .f32⟩
  | .hbm, ⟨2, _⟩ => ⟨S1x4096x2048, .f32⟩
  | .hbm, ⟨3, _⟩ => ⟨S4096x2048, .f32⟩
  | .hbm, ⟨4, _⟩ => ⟨S_, .f32⟩
  | .hbm, ⟨5, _⟩ => ⟨S2048x4096, .f32⟩
  | .hbm, ⟨6, _⟩ => ⟨S2048x2048, .f32⟩
  | .hbm, ⟨7, _⟩ => ⟨S2048x4096, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DPleGate.lean ====
abbrev S2048x2048 : Shape := ⟨2, ![2048, 2048]⟩
abbrev S4x1x512x2048 : Shape := ⟨4, ![4, 1, 512, 2048]⟩
abbrev S2048x512 : Shape := ⟨2, ![2048, 512]⟩
abbrev S2048x1024 : Shape := ⟨2, ![2048, 1024]⟩
abbrev S1x1x512x1024 : Shape := ⟨4, ![1, 1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S4x1x512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x512x1024, .bf16⟩
  | .local _ .vmem, ⟨5, _⟩ => ⟨S1x1x512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DPleGateRefIdeal.lean ====
abbrev S2048x2048 : Shape := ⟨2, ![2048, 2048]⟩
abbrev S_ : Shape := ⟨0, ![]⟩
abbrev S4x1x512x2048 : Shape := ⟨4, ![4, 1, 512, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S4x1x512x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== PleGateBwd.lean ====
abbrev S2048x2048 : Shape := ⟨2, ![2048, 2048]⟩
abbrev S4x2048x2048 : Shape := ⟨3, ![4, 2048, 2048]⟩
abbrev S4x4x512x2048 : Shape := ⟨4, ![4, 4, 512, 2048]⟩
abbrev S1024x2048 : Shape := ⟨2, ![1024, 2048]⟩
abbrev S1x1x512x2048 : Shape := ⟨4, ![1, 1, 512, 2048]⟩
abbrev S1024x512 : Shape := ⟨2, ![1024, 512]⟩
abbrev S512x2048 : Shape := ⟨2, ![512, 2048]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x2048, .f32⟩
  | .hbm, ⟨2, _⟩ => ⟨S4x4x512x2048, .f32⟩
  | .hbm, ⟨3, _⟩ => ⟨S4x4x512x2048, .f32⟩
  | .hbm, ⟨4, _⟩ => ⟨S4x4x512x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_11 : BitVec 32 := 0#32
  ![v16.toNat, c3_i32.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleGateBwdRefIdeal.lean ====
abbrev S2048x2048 : Shape := ⟨2, ![2048, 2048]⟩
abbrev S4x2048x2048 : Shape := ⟨3, ![4, 2048, 2048]⟩
abbrev S1x2048x2048 : Shape := ⟨3, ![1, 2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x2048, .f32⟩
  | .hbm, ⟨2, _⟩ => ⟨S1x2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DSbOut.lean ====
abbrev S2048x2048 : Shape := ⟨2, ![2048, 2048]⟩
abbrev S4x1x512x2048 : Shape := ⟨4, ![4, 1, 512, 2048]⟩
abbrev S2048x512 : Shape := ⟨2, ![2048, 512]⟩
abbrev S2048x1024 : Shape := ⟨2, ![2048, 1024]⟩
abbrev S1x1x512x1024 : Shape := ⟨4, ![1, 1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S4x1x512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S1x1x512x1024, .bf16⟩
  | .local _ .vmem, ⟨5, _⟩ => ⟨S1x1x512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DSbOutRefIdeal.lean ====
abbrev S2048x2048 : Shape := ⟨2, ![2048, 2048]⟩
abbrev S_ : Shape := ⟨0, ![]⟩
abbrev S4x1x512x2048 : Shape := ⟨4, ![4, 1, 512, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | .hbm, ⟨9, _⟩ => ⟨S4x1x512x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SbOutBwd.lean ====
abbrev S2048x2048 : Shape := ⟨2, ![2048, 2048]⟩
abbrev S2x2048x2048 : Shape := ⟨3, ![2, 2048, 2048]⟩
abbrev S2x4x512x2048 : Shape := ⟨4, ![2, 4, 512, 2048]⟩
abbrev S4x2x512x2048 : Shape := ⟨4, ![4, 2, 512, 2048]⟩
abbrev S1024x2048 : Shape := ⟨2, ![1024, 2048]⟩
abbrev S1x1x512x2048 : Shape := ⟨4, ![1, 1, 512, 2048]⟩
abbrev S1024x512 : Shape := ⟨2, ![1024, 512]⟩
abbrev S512x2048 : Shape := ⟨2, ![512, 2048]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2x2048x2048, .f32⟩
  | .hbm, ⟨2, _⟩ => ⟨S2x4x512x2048, .f32⟩
  | .hbm, ⟨3, _⟩ => ⟨S4x2x512x2048, .f32⟩
  | .hbm, ⟨4, _⟩ => ⟨S4x2x512x2048, .bf16⟩
  | .hbm, ⟨5, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x512x2048, .bf16⟩
  | .local _ .vmem, ⟨3, _⟩ => ⟨S1x1x512x2048, .bf16⟩
  | .local _ .vmem, ⟨4, _⟩ => ⟨S1024x512, .f32⟩
  | .local _ .vmem, ⟨5, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SbOutBwdRefIdeal.lean ====
abbrev S2048x2048 : Shape := ⟨2, ![2048, 2048]⟩
abbrev S2x2048x2048 : Shape := ⟨3, ![2, 2048, 2048]⟩
abbrev S1x2048x2048 : Shape := ⟨3, ![1, 2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2x2048x2048, .f32⟩
  | .hbm, ⟨2, _⟩ => ⟨S1x2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DPleProj.lean ====
abbrev S2048x256 : Shape := ⟨2, ![2048, 256]⟩
abbrev S2048x2048 : Shape := ⟨2, ![2048, 2048]⟩
abbrev S4x1x256x512 : Shape := ⟨4, ![4, 1, 256, 512]⟩
abbrev S2048x512 : Shape := ⟨2, ![2048, 512]⟩
abbrev S1x1x256x512 : Shape := ⟨4, ![1, 1, 256, 512]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S2048x2048, .bf16⟩
  | .hbm, ⟨2, _⟩ => ⟨S4x1x256x512, .bf16⟩
  | .local _ .vmem, ⟨0, _⟩ => ⟨S2048x256, .f32⟩
  | .local _ .vmem, ⟨1, _⟩ => ⟨S2048x512, .bf16⟩
  | .local _ .vmem, ⟨2, _⟩ => ⟨S2048x512, .bf16⟩
  | .local _ .vmem, ⟨3, _⟩ => ⟨S1x1x256x512, .bf16⟩
  | .local _ .vmem, ⟨4, _⟩ => ⟨S1x1x256x512, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg0.toNat, v26.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DPleProjRefIdeal.lean ====
abbrev S2048x256 : Shape := ⟨2, ![2048, 256]⟩
abbrev S2048x2048 : Shape := ⟨2, ![2048, 2048]⟩
abbrev S_ : Shape := ⟨0, ![]⟩
abbrev S256x2048 : Shape := ⟨2, ![256, 2048]⟩
abbrev S256x4x512 : Shape := ⟨3, ![256, 4, 512]⟩
abbrev S4x256x512 : Shape := ⟨3, ![4, 256, 512]⟩
abbrev S4x1x256x512 : Shape := ⟨4, ![4, 1, 256, 512]⟩

abbrev nBuf : Space → Nat
  | .hbm => 12
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x2048, .bf16⟩
  | .hbm, ⟨2, _⟩ => ⟨S_, .f32⟩
  | .hbm, ⟨3, _⟩ => ⟨S256x2048, .f32⟩
  | .hbm, ⟨4, _⟩ => ⟨S2048x2048, .f32⟩
  | .hbm, ⟨5, _⟩ => ⟨S2048x2048, .f32⟩
  | .hbm, ⟨6, _⟩ => ⟨S2048x256, .f32⟩
  | .hbm, ⟨7, _⟩ => ⟨S256x2048, .f32⟩
  | .hbm, ⟨8, _⟩ => ⟨S256x2048, .bf16⟩
  | .hbm, ⟨9, _⟩ => ⟨S256x4x512, .bf16⟩
  | .hbm, ⟨10, _⟩ => ⟨S4x256x512, .bf16⟩
  | .hbm, ⟨11, _⟩ => ⟨S4x1x256x512, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== SsdOut.lean ====
abbrev S2048x4096 : Shape := ⟨2, ![2048, 4096]⟩
abbrev S2x4096x2048 : Shape := ⟨3, ![2, 4096, 2048]⟩
abbrev S2048x2048 : Shape := ⟨2, ![2048, 2048]⟩
abbrev S2x4x1024x2048 : Shape := ⟨4, ![2, 4, 1024, 2048]⟩
abbrev S4x2x1024x2048 : Shape := ⟨4, ![4, 2, 1024, 2048]⟩
abbrev S1024x1024 : Shape := ⟨2, ![1024, 1024]⟩
abbrev S1x1x1024x1024 : Shape := ⟨4, ![1, 1, 1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S2048x4096, .bf16⟩
  | .hbm, ⟨1, _⟩ => ⟨S2x4096x2048, .f32⟩
  | .hbm, ⟨2, _⟩ => ⟨S2048x2048, .f32⟩
  | .hbm, ⟨3, _⟩ => ⟨S2x4x1024x2048, .f32⟩
  | .hbm, ⟨4, _⟩ => ⟨S4x2x1024x2048, .f32⟩
  | .hbm, ⟨5, _⟩ => ⟨S4x2x1024x2048, .bf16⟩
  | .hbm, ⟨6, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SsdOutRefIdeal.lean ====
abbrev S2048x4096 : Shape := ⟨2, ![2048, 4096]⟩
abbrev S2x4096x2048 : Shape := ⟨3, ![2, 4096, 2048]⟩
abbrev S2048x2048 : Shape := ⟨2, ![2048, 2048]⟩
abbrev S1x4096x2048 : Shape := ⟨3, ![1, 4096, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2x4096x2048, .f32⟩
  | .hbm, ⟨2, _⟩ => ⟨S2048x2048, .f32⟩
  | .hbm, ⟨3, _⟩ => ⟨S1x4096x2048, .f32⟩
  | .hbm, ⟨4, _⟩ => ⟨S4096x2048, .f32⟩
  | .hbm, ⟨5, _⟩ => ⟨S2048x4096, .f32⟩
  | .hbm, ⟨6, _⟩ => ⟨S2048x2048, .f32⟩
  | .hbm, ⟨7, _⟩ => ⟨S2048x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SbOut.lean ====
abbrev S2048x2048 : Shape := ⟨2, ![2048, 2048]⟩
abbrev S2x2048x2048 : Shape := ⟨3, ![2, 2048, 2048]⟩
abbrev S2x4x512x2048 : Shape := ⟨4, ![2, 4, 512, 2048]⟩
abbrev S4x2x512x2048 : Shape := ⟨4, ![4, 2, 512, 2048]⟩
abbrev S1024x512 : Shape := ⟨2, ![1024, 512]⟩
abbrev S1x1x512x1024 : Shape := ⟨4, ![1, 1, 512, 1024]⟩
abbrev S1024x1024 : Shape := ⟨2, ![1024, 1024]⟩
abbrev S512x1024 : Shape := ⟨2, ![512, 1024]⟩

abbrev nBuf : Space → Nat
  | .hbm => 7
  | .vmem => 9
  | .smem => 0
  | _ => 0

abbrev bufTy : (tb : Table) → Fin (tcTables nBuf tb) → BufTy
  | .hbm, ⟨0, _⟩ => ⟨S2048x2048, .bf16⟩
  | .hbm, ⟨1, _⟩ => ⟨S2x2048x2048, .f32⟩
  | .hbm, ⟨2, _⟩ => ⟨S2048x2048, .f32⟩
  | .hbm, ⟨3, _⟩ => ⟨S2x4x512x2048, .f32⟩
  | .hbm, ⟨4, _⟩ => ⟨S4x2x512x2048, .f32⟩
  | .hbm, ⟨5, _⟩ => ⟨S4x2x512x2048, .bf16⟩
  | .hbm, ⟨6, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SbOutRefIdeal.lean ====
abbrev S2048x2048 : Shape := ⟨2, ![2048, 2048]⟩
abbrev S2x2048x2048 : Shape := ⟨3, ![2, 2048, 2048]⟩
abbrev S1x2048x2048 : Shape := ⟨3, ![1, 2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x2048, .f32⟩
  | .hbm, ⟨2, _⟩ => ⟨S2048x2048, .f32⟩
  | .hbm, ⟨3, _⟩ => ⟨S1x2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== PleGate.lean ====
abbrev S2048x2048 : Shape := ⟨2, ![2048, 2048]⟩
abbrev S4x2048x2048 : Shape := ⟨3, ![4, 2048, 2048]⟩
abbrev S4x4x512x2048 : Shape := ⟨4, ![4, 4, 512, 2048]⟩
abbrev S1024x512 : Shape := ⟨2, ![1024, 512]⟩
abbrev S1x1x512x1024 : Shape := ⟨4, ![1, 1, 512, 1024]⟩
abbrev S1024x1024 : Shape := ⟨2, ![1024, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4x2048x2048, .f32⟩
  | .hbm, ⟨2, _⟩ => ⟨S4x4x512x2048, .f32⟩
  | .hbm, ⟨3, _⟩ => ⟨S4x4x512x2048, .f32⟩
  | .hbm, ⟨4, _⟩ => ⟨S4x4x512x2048, .bf16⟩
  | .hbm, ⟨5, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_11 : BitVec 32 := 0#32
  ![v16.toNat, c3_i32.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleGateRefIdeal.lean ====
abbrev S2048x2048 : Shape := ⟨2, ![2048, 2048]⟩
abbrev S4x2048x2048 : Shape := ⟨3, ![4, 2048, 2048]⟩
abbrev S1x2048x2048 : Shape := ⟨3, ![1, 2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x2048, .f32⟩
  | .hbm, ⟨2, _⟩ => ⟨S1x2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PleProj.lean ====
abbrev S2048x256 : Shape := ⟨2, ![2048, 256]⟩
abbrev S4x256x2048 : Shape := ⟨3, ![4, 256, 2048]⟩
abbrev S4x256x4x512 : Shape := ⟨4, ![4, 256, 4, 512]⟩
abbrev S4x4x256x512 : Shape := ⟨4, ![4, 4, 256, 512]⟩
abbrev S2048x2048 : Shape := ⟨2, ![2048, 2048]⟩
abbrev S1024x256 : Shape := ⟨2, ![1024, 256]⟩
abbrev S1x1x256x512 : Shape := ⟨4, ![1, 1, 256, 512]⟩
abbrev S1024x512 : Shape := ⟨2, ![1024, 512]⟩
abbrev S256x512 : Shape := ⟨2, ![256, 512]⟩

abbrev nBuf : Space → Nat
  | .hbm => 6
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S4x256x2048, .f32⟩
  | .hbm, ⟨2, _⟩ => ⟨S4x256x4x512, .f32⟩
  | .hbm, ⟨3, _⟩ => ⟨S4x4x256x512, .f32⟩
  | .hbm, ⟨4, _⟩ => ⟨S4x4x256x512, .bf16⟩
  | .hbm, ⟨5, _⟩ => ⟨S2048x2048, .f32⟩
  | .local _ .vmem, ⟨0, _⟩ => ⟨S1024x256, .f32⟩
  | .local _ .vmem, ⟨1, _⟩ => ⟨S1024x256, .f32⟩
  | .local _ .vmem, ⟨2, _⟩ => ⟨S1x1x256x512, .bf16⟩
  | .local _ .vmem, ⟨3, _⟩ => ⟨S1x1x256x512, .bf16⟩
  | .local _ .vmem, ⟨4, _⟩ => ⟨S1024x512, .f32⟩
  | .local _ .vmem, ⟨5, _⟩ => ⟨S1024x512, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_11 : BitVec 32 := 0#32
  ![v16.toNat, c3_i32.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleProjRefIdeal.lean ====
abbrev S2048x256 : Shape := ⟨2, ![2048, 256]⟩
abbrev S4x256x2048 : Shape := ⟨3, ![4, 256, 2048]⟩
abbrev S1x256x2048 : Shape := ⟨3, ![1, 256, 2048]⟩
abbrev S256x2048 : Shape := ⟨2, ![256, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S4x256x2048, .f32⟩
  | .hbm, ⟨2, _⟩ => ⟨S1x256x2048, .f32⟩
  | .hbm, ⟨3, _⟩ => ⟨S256x2048, .f32⟩
  | .hbm, ⟨4, _⟩ => ⟨S2048x2048, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AdamSsdIn.lean ====
abbrev S2x2576x2048 : Shape := ⟨3, ![2, 2576, 2048]⟩
abbrev S1x112x2048 : Shape := ⟨3, ![1, 112, 2048]⟩
abbrev S112x2048 : Shape := ⟨2, ![112, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2x2576x2048, .f32⟩
  | .hbm, ⟨1, _⟩ => ⟨S2x2576x2048, .f32⟩
  | .hbm, ⟨2, _⟩ => ⟨S2x2576x2048, .f32⟩
  | .hbm, ⟨3, _⟩ => ⟨S2x2576x2048, .f32⟩
  | .hbm, ⟨4, _⟩ => ⟨S2x2576x2048, .f32⟩
  | .hbm, ⟨5, _⟩ => ⟨S2x2576x2048, .f32⟩
  | .hbm, ⟨6, _⟩ => ⟨S2x2576x2048, .f32⟩
  | .local _ .vmem, ⟨0, _⟩ => ⟨S1x112x2048, .f32⟩
  | .local _ .vmem, ⟨1, _⟩ => ⟨S1x112x2048, .f32⟩
  | .local _ .vmem, ⟨2, _⟩ => ⟨S1x112x2048, .f32⟩
  | .local _ .vmem, ⟨3, _⟩ => ⟨S1x112x2048, .f32⟩
  | .local _ .vmem, ⟨4, _⟩ => ⟨S1x112x2048, .f32⟩
  | .local _ .vmem, ⟨5, _⟩ => ⟨S1x112x2048, .f32⟩
  | .local _ .vmem, ⟨6, _⟩ => ⟨S1x112x2048, .f32⟩
  | .local _ .vmem, ⟨7, _⟩ => ⟨S1x112x2048, .f32⟩
  | .local _ .vmem, ⟨8, _⟩ => ⟨S1x112x2048, .f32⟩
  | .local _ .vmem, ⟨9, _⟩ => ⟨S1x112x2048, .f32⟩
  | .local _ .vmem, ⟨10, _⟩ => ⟨S1x112x2048, .f32⟩
  | .local _ .vmem, ⟨11, _⟩ => ⟨S1x112x2048, .f32⟩
  | .local _ .vmem, ⟨12, _⟩ => ⟨S1x112x2048, .f32⟩
  | .local _ .vmem, ⟨13, _⟩ => ⟨S1x112x2048, .f32⟩
  | _, _ => ⟨S2x2576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 23], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x112x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x112x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x112x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x112x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x112x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x112x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x112x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamSsdInIdeal.lean ====
abbrev S2x2576x2048 : Shape := ⟨3, ![2, 2576, 2048]⟩
abbrev S1x112x2048 : Shape := ⟨3, ![1, 112, 2048]⟩
abbrev S112x2048 : Shape := ⟨2, ![112, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2x2576x2048, .f32⟩
  | .hbm, ⟨1, _⟩ => ⟨S2x2576x2048, .f32⟩
  | .hbm, ⟨2, _⟩ => ⟨S2x2576x2048, .f32⟩
  | .hbm, ⟨3, _⟩ => ⟨S2x2576x2048, .f32⟩
  | .hbm, ⟨4, _⟩ => ⟨S2x2576x2048, .f32⟩
  | .hbm, ⟨5, _⟩ => ⟨S2x2576x2048, .f32⟩
  | .hbm, ⟨6, _⟩ => ⟨S2x2576x2048, .f32⟩
  | .local _ .vmem, ⟨0, _⟩ => ⟨S1x112x2048, .f32⟩
  | .local _ .vmem, ⟨1, _⟩ => ⟨S1x112x2048, .f32⟩
  | .local _ .vmem, ⟨2, _⟩ => ⟨S1x112x2048, .f32⟩
  | .local _ .vmem, ⟨3, _⟩ => ⟨S1x112x2048, .f32⟩
  | .local _ .vmem, ⟨4, _⟩ => ⟨S1x112x2048, .f32⟩
  | .local _ .vmem, ⟨5, _⟩ => ⟨S1x112x2048, .f32⟩
  | .local _ .vmem, ⟨6, _⟩ => ⟨S1x112x2048, .f32⟩
  | .local _ .vmem, ⟨7, _⟩ => ⟨S1x112x2048, .f32⟩
  | .local _ .vmem, ⟨8, _⟩ => ⟨S1x112x2048, .f32⟩
  | .local _ .vmem, ⟨9, _⟩ => ⟨S1x112x2048, .f32⟩
  | .local _ .vmem, ⟨10, _⟩ => ⟨S1x112x2048, .f32⟩
  | .local _ .vmem, ⟨11, _⟩ => ⟨S1x112x2048, .f32⟩
  | .local _ .vmem, ⟨12, _⟩ => ⟨S1x112x2048, .f32⟩
  | .local _ .vmem, ⟨13, _⟩ => ⟨S1x112x2048, .f32⟩
  | _, _ => ⟨S2x2576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 23], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x112x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x112x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x112x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x112x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x112x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x112x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x112x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamSsdInRefIdeal.lean ====
abbrev S2x2576x2048 : Shape := ⟨3, ![2, 2576, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2576x2048, .f32⟩
  | .hbm, ⟨1, _⟩ => ⟨S2x2576x2048, .f32⟩
  | .hbm, ⟨2, _⟩ => ⟨S2x2576x2048, .f32⟩
  | .hbm, ⟨3, _⟩ => ⟨S2x2576x2048, .f32⟩
  | .hbm, ⟨4, _⟩ => ⟨S_, .f32⟩
  | .hbm, ⟨5, _⟩ => ⟨S2x2576x2048, .f32⟩
  | .hbm, ⟨6, _⟩ => ⟨S2x2576x2048, .f32⟩
  | .hbm, ⟨7, _⟩ => ⟨S_, .f32⟩
  | .hbm, ⟨8, _⟩ => ⟨S2x2576x2048, .f32⟩
  | .hbm, ⟨9, _⟩ => ⟨S2x2576x2048, .f32⟩
  | .hbm, ⟨10, _⟩ => ⟨S2x2576x2048, .f32⟩
  | .hbm, ⟨11, _⟩ => ⟨S_, .f32⟩
  | .hbm, ⟨12, _⟩ => ⟨S2x2576x2048, .f32⟩
  | .hbm, ⟨13, _⟩ => ⟨S2x2576x2048, .f32⟩
  | .hbm, ⟨14, _⟩ => ⟨S2x2576x2048, .f32⟩
  | .hbm, ⟨15, _⟩ => ⟨S_, .f32⟩
  | .hbm, ⟨16, _⟩ => ⟨S2x2576x2048, .f32⟩
  | .hbm, ⟨17, _⟩ => ⟨S2x2576x2048, .f32⟩
  | .hbm, ⟨18, _⟩ => ⟨S2x2576x2048, .f32⟩
  | .hbm, ⟨19, _⟩ => ⟨S_, .f32⟩
  | .hbm, ⟨20, _⟩ => ⟨S2x2576x2048, .f32⟩
  | .hbm, ⟨21, _⟩ => ⟨S2x2576x2048, .f32⟩
  | .hbm, ⟨22, _⟩ => ⟨S_, .f32⟩
  | .hbm, ⟨23, _⟩ => ⟨S2x2576x2048, .f32⟩
  | .hbm, ⟨24, _⟩ => ⟨S2x2576x2048, .f32⟩
  | .hbm, ⟨25, _⟩ => ⟨S2x2576x2048, .f32⟩
  | .hbm, ⟨26, _⟩ => ⟨S_, .f32⟩
  | .hbm, ⟨27, _⟩ => ⟨S2x2576x2048, .f32⟩
  | .hbm, ⟨28, _⟩ => ⟨S2x2576x2048, .f32⟩
  | .hbm, ⟨29, _⟩ => ⟨S2x2576x2048, .f32⟩
  | .hbm, ⟨30, _⟩ => ⟨S_, .f32⟩
  | .hbm, ⟨31, _⟩ => ⟨S2x2576x2048, .f32⟩
  | .hbm, ⟨32, _⟩ => ⟨S2x2576x2048, .f32⟩
  | .hbm, ⟨33, _⟩ => ⟨S2x2576x2048, .f32⟩
  | .hbm, ⟨34, _⟩ => ⟨S_, .f32⟩
  | .hbm, ⟨35, _⟩ => ⟨S2x2576x2048, .f32⟩
  | .hbm, ⟨36, _⟩ => ⟨S2x2576x2048, .f32⟩
  | _, _ => ⟨S2x2576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSsdOut.lean ====
abbrev S2x1024x2048 : Shape := ⟨3, ![2, 1024, 2048]⟩
abbrev S1x256x2048 : Shape := ⟨3, ![1, 256, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x2048, .f32⟩
  | .hbm, ⟨1, _⟩ => ⟨S2x1024x2048, .f32⟩
  | .hbm, ⟨2, _⟩ => ⟨S2x1024x2048, .f32⟩
  | .hbm, ⟨3, _⟩ => ⟨S2x1024x2048, .f32⟩
  | .hbm, ⟨4, _⟩ => ⟨S2x1024x2048, .f32⟩
  | .hbm, ⟨5, _⟩ => ⟨S2x1024x2048, .f32⟩
  | .hbm, ⟨6, _⟩ => ⟨S2x1024x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | _, _ => ⟨S2x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamSsdOutIdeal.lean ====
abbrev S2x1024x2048 : Shape := ⟨3, ![2, 1024, 2048]⟩
abbrev S1x256x2048 : Shape := ⟨3, ![1, 256, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x2048, .f32⟩
  | .hbm, ⟨1, _⟩ => ⟨S2x1024x2048, .f32⟩
  | .hbm, ⟨2, _⟩ => ⟨S2x1024x2048, .f32⟩
  | .hbm, ⟨3, _⟩ => ⟨S2x1024x2048, .f32⟩
  | .hbm, ⟨4, _⟩ => ⟨S2x1024x2048, .f32⟩
  | .hbm, ⟨5, _⟩ => ⟨S2x1024x2048, .f32⟩
  | .hbm, ⟨6, _⟩ => ⟨S2x1024x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | _, _ => ⟨S2x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamSsdOutRefIdeal.lean ====
abbrev S2x1024x2048 : Shape := ⟨3, ![2, 1024, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x2048, .f32⟩
  | .hbm, ⟨1, _⟩ => ⟨S2x1024x2048, .f32⟩
  | .hbm, ⟨2, _⟩ => ⟨S2x1024x2048, .f32⟩
  | .hbm, ⟨3, _⟩ => ⟨S2x1024x2048, .f32⟩
  | .hbm, ⟨4, _⟩ => ⟨S_, .f32⟩
  | .hbm, ⟨5, _⟩ => ⟨S2x1024x2048, .f32⟩
  | .hbm, ⟨6, _⟩ => ⟨S2x1024x2048, .f32⟩
  | .hbm, ⟨7, _⟩ => ⟨S_, .f32⟩
  | .hbm, ⟨8, _⟩ => ⟨S2x1024x2048, .f32⟩
  | .hbm, ⟨9, _⟩ => ⟨S2x1024x2048, .f32⟩
  | .hbm, ⟨10, _⟩ => ⟨S2x1024x2048, .f32⟩
  | .hbm, ⟨11, _⟩ => ⟨S_, .f32⟩
  | .hbm, ⟨12, _⟩ => ⟨S2x1024x2048, .f32⟩
  | .hbm, ⟨13, _⟩ => ⟨S2x1024x2048, .f32⟩
  | .hbm, ⟨14, _⟩ => ⟨S2x1024x2048, .f32⟩
  | .hbm, ⟨15, _⟩ => ⟨S_, .f32⟩
  | .hbm, ⟨16, _⟩ => ⟨S2x1024x2048, .f32⟩
  | .hbm, ⟨17, _⟩ => ⟨S2x1024x2048, .f32⟩
  | .hbm, ⟨18, _⟩ => ⟨S2x1024x2048, .f32⟩
  | .hbm, ⟨19, _⟩ => ⟨S_, .f32⟩
  | .hbm, ⟨20, _⟩ => ⟨S2x1024x2048, .f32⟩
  | .hbm, ⟨21, _⟩ => ⟨S2x1024x2048, .f32⟩
  | .hbm, ⟨22, _⟩ => ⟨S_, .f32⟩
  | .hbm, ⟨23, _⟩ => ⟨S2x1024x2048, .f32⟩
  | .hbm, ⟨24, _⟩ => ⟨S2x1024x2048, .f32⟩
  | .hbm, ⟨25, _⟩ => ⟨S2x1024x2048, .f32⟩
  | .hbm, ⟨26, _⟩ => ⟨S_, .f32⟩
  | .hbm, ⟨27, _⟩ => ⟨S2x1024x2048, .f32⟩
  | .hbm, ⟨28, _⟩ => ⟨S2x1024x2048, .f32⟩
  | .hbm, ⟨29, _⟩ => ⟨S2x1024x2048, .f32⟩
  | .hbm, ⟨30, _⟩ => ⟨S_, .f32⟩
  | .hbm, ⟨31, _⟩ => ⟨S2x1024x2048, .f32⟩
  | .hbm, ⟨32, _⟩ => ⟨S2x1024x2048, .f32⟩
  | .hbm, ⟨33, _⟩ => ⟨S2x1024x2048, .f32⟩
  | .hbm, ⟨34, _⟩ => ⟨S_, .f32⟩
  | .hbm, ⟨35, _⟩ => ⟨S2x1024x2048, .f32⟩
  | .hbm, ⟨36, _⟩ => ⟨S2x1024x2048, .f32⟩
  | _, _ => ⟨S2x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSbIn.lean ====
abbrev S2x2048x2048 : Shape := ⟨3, ![2, 2048, 2048]⟩
abbrev S1x256x2048 : Shape := ⟨3, ![1, 256, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x2048, .f32⟩
  | .hbm, ⟨3, _⟩ => ⟨S2x2048x2048, .f32⟩
  | .hbm, ⟨4, _⟩ => ⟨S2x2048x2048, .f32⟩
  | .hbm, ⟨5, _⟩ => ⟨S2x2048x2048, .f32⟩
  | .hbm, ⟨6, _⟩ => ⟨S2x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamSbInIdeal.lean ====
abbrev S2x2048x2048 : Shape := ⟨3, ![2, 2048, 2048]⟩
abbrev S1x256x2048 : Shape := ⟨3, ![1, 256, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x2048, .f32⟩
  | .hbm, ⟨3, _⟩ => ⟨S2x2048x2048, .f32⟩
  | .hbm, ⟨4, _⟩ => ⟨S2x2048x2048, .f32⟩
  | .hbm, ⟨5, _⟩ => ⟨S2x2048x2048, .f32⟩
  | .hbm, ⟨6, _⟩ => ⟨S2x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamSbInRefIdeal.lean ====
abbrev S2x2048x2048 : Shape := ⟨3, ![2, 2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x2048, .f32⟩
  | .hbm, ⟨3, _⟩ => ⟨S2x2048x2048, .f32⟩
  | .hbm, ⟨4, _⟩ => ⟨S_, .f32⟩
  | .hbm, ⟨5, _⟩ => ⟨S2x2048x2048, .f32⟩
  | .hbm, ⟨6, _⟩ => ⟨S2x2048x2048, .f32⟩
  | .hbm, ⟨7, _⟩ => ⟨S_, .f32⟩
  | .hbm, ⟨8, _⟩ => ⟨S2x2048x2048, .f32⟩
  | .hbm, ⟨9, _⟩ => ⟨S2x2048x2048, .f32⟩
  | .hbm, ⟨10, _⟩ => ⟨S2x2048x2048, .f32⟩
  | .hbm, ⟨11, _⟩ => ⟨S_, .f32⟩
  | .hbm, ⟨12, _⟩ => ⟨S2x2048x2048, .f32⟩
  | .hbm, ⟨13, _⟩ => ⟨S2x2048x2048, .f32⟩
  | .hbm, ⟨14, _⟩ => ⟨S2x2048x2048, .f32⟩
  | .hbm, ⟨15, _⟩ => ⟨S_, .f32⟩
  | .hbm, ⟨16, _⟩ => ⟨S2x2048x2048, .f32⟩
  | .hbm, ⟨17, _⟩ => ⟨S2x2048x2048, .f32⟩
  | .hbm, ⟨18, _⟩ => ⟨S2x2048x2048, .f32⟩
  | .hbm, ⟨19, _⟩ => ⟨S_, .f32⟩
  | .hbm, ⟨20, _⟩ => ⟨S2x2048x2048, .f32⟩
  | .hbm, ⟨21, _⟩ => ⟨S2x2048x2048, .f32⟩
  | .hbm, ⟨22, _⟩ => ⟨S_, .f32⟩
  | .hbm, ⟨23, _⟩ => ⟨S2x2048x2048, .f32⟩
  | .hbm, ⟨24, _⟩ => ⟨S2x2048x2048, .f32⟩
  | .hbm, ⟨25, _⟩ => ⟨S2x2048x2048, .f32⟩
  | .hbm, ⟨26, _⟩ => ⟨S_, .f32⟩
  | .hbm, ⟨27, _⟩ => ⟨S2x2048x2048, .f32⟩
  | .hbm, ⟨28, _⟩ => ⟨S2x2048x2048, .f32⟩
  | .hbm, ⟨29, _⟩ => ⟨S2x2048x2048, .f32⟩
  | .hbm, ⟨30, _⟩ => ⟨S_, .f32⟩
  | .hbm, ⟨31, _⟩ => ⟨S2x2048x2048, .f32⟩
  | .hbm, ⟨32, _⟩ => ⟨S2x2048x2048, .f32⟩
  | .hbm, ⟨33, _⟩ => ⟨S2x2048x2048, .f32⟩
  | .hbm, ⟨34, _⟩ => ⟨S_, .f32⟩
  | .hbm, ⟨35, _⟩ => ⟨S2x2048x2048, .f32⟩
  | .hbm, ⟨36, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSbOut.lean ====
abbrev S2x512x2048 : Shape := ⟨3, ![2, 512, 2048]⟩
abbrev S1x256x2048 : Shape := ⟨3, ![1, 256, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamSbOutIdeal.lean ====
abbrev S2x512x2048 : Shape := ⟨3, ![2, 512, 2048]⟩
abbrev S1x256x2048 : Shape := ⟨3, ![1, 256, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamSbOutRefIdeal.lean ====
abbrev S2x512x2048 : Shape := ⟨3, ![2, 512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S_, .f32⟩
  | .hbm, ⟨5, _⟩ => ⟨S2x512x2048, .f32⟩
  | .hbm, ⟨6, _⟩ => ⟨S2x512x2048, .f32⟩
  | .hbm, ⟨7, _⟩ => ⟨S_, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S_, .f32⟩
  | .hbm, ⟨12, _⟩ => ⟨S2x512x2048, .f32⟩
  | .hbm, ⟨13, _⟩ => ⟨S2x512x2048, .f32⟩
  | .hbm, ⟨14, _⟩ => ⟨S2x512x2048, .f32⟩
  | .hbm, ⟨15, _⟩ => ⟨S_, .f32⟩
  | .hbm, ⟨16, _⟩ => ⟨S2x512x2048, .f32⟩
  | .hbm, ⟨17, _⟩ => ⟨S2x512x2048, .f32⟩
  | .hbm, ⟨18, _⟩ => ⟨S2x512x2048, .f32⟩
  | .hbm, ⟨19, _⟩ => ⟨S_, .f32⟩
  | .hbm, ⟨20, _⟩ => ⟨S2x512x2048, .f32⟩
  | .hbm, ⟨21, _⟩ => ⟨S2x512x2048, .f32⟩
  | .hbm, ⟨22, _⟩ => ⟨S_, .f32⟩
  | .hbm, ⟨23, _⟩ => ⟨S2x512x2048, .f32⟩
  | .hbm, ⟨24, _⟩ => ⟨S2x512x2048, .f32⟩
  | .hbm, ⟨25, _⟩ => ⟨S2x512x2048, .f32⟩
  | .hbm, ⟨26, _⟩ => ⟨S_, .f32⟩
  | .hbm, ⟨27, _⟩ => ⟨S2x512x2048, .f32⟩
  | .hbm, ⟨28, _⟩ => ⟨S2x512x2048, .f32⟩
  | .hbm, ⟨29, _⟩ => ⟨S2x512x2048, .f32⟩
  | .hbm, ⟨30, _⟩ => ⟨S_, .f32⟩
  | .hbm, ⟨31, _⟩ => ⟨S2x512x2048, .f32⟩
  | .hbm, ⟨32, _⟩ => ⟨S2x512x2048, .f32⟩
  | .hbm, ⟨33, _⟩ => ⟨S2x512x2048, .f32⟩
  | .hbm, ⟨34, _⟩ => ⟨S_, .f32⟩
  | .hbm, ⟨35, _⟩ => ⟨S2x512x2048, .f32⟩
  | .hbm, ⟨36, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPleGate.lean ====
abbrev S4x512x2048 : Shape := ⟨3, ![4, 512, 2048]⟩
abbrev S1x256x2048 : Shape := ⟨3, ![1, 256, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S4x512x2048, .f32⟩
  | .hbm, ⟨5, _⟩ => ⟨S4x512x2048, .f32⟩
  | .hbm, ⟨6, _⟩ => ⟨S4x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamPleGateIdeal.lean ====
abbrev S4x512x2048 : Shape := ⟨3, ![4, 512, 2048]⟩
abbrev S1x256x2048 : Shape := ⟨3, ![1, 256, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S4x512x2048, .f32⟩
  | .hbm, ⟨5, _⟩ => ⟨S4x512x2048, .f32⟩
  | .hbm, ⟨6, _⟩ => ⟨S4x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamPleGateRefIdeal.lean ====
abbrev S4x512x2048 : Shape := ⟨3, ![4, 512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S_, .f32⟩
  | .hbm, ⟨5, _⟩ => ⟨S4x512x2048, .f32⟩
  | .hbm, ⟨6, _⟩ => ⟨S4x512x2048, .f32⟩
  | .hbm, ⟨7, _⟩ => ⟨S_, .f32⟩
  | .hbm, ⟨8, _⟩ => ⟨S4x512x2048, .f32⟩
  | .hbm, ⟨9, _⟩ => ⟨S4x512x2048, .f32⟩
  | .hbm, ⟨10, _⟩ => ⟨S4x512x2048, .f32⟩
  | .hbm, ⟨11, _⟩ => ⟨S_, .f32⟩
  | .hbm, ⟨12, _⟩ => ⟨S4x512x2048, .f32⟩
  | .hbm, ⟨13, _⟩ => ⟨S4x512x2048, .f32⟩
  | .hbm, ⟨14, _⟩ => ⟨S4x512x2048, .f32⟩
  | .hbm, ⟨15, _⟩ => ⟨S_, .f32⟩
  | .hbm, ⟨16, _⟩ => ⟨S4x512x2048, .f32⟩
  | .hbm, ⟨17, _⟩ => ⟨S4x512x2048, .f32⟩
  | .hbm, ⟨18, _⟩ => ⟨S4x512x2048, .f32⟩
  | .hbm, ⟨19, _⟩ => ⟨S_, .f32⟩
  | .hbm, ⟨20, _⟩ => ⟨S4x512x2048, .f32⟩
  | .hbm, ⟨21, _⟩ => ⟨S4x512x2048, .f32⟩
  | .hbm, ⟨22, _⟩ => ⟨S_, .f32⟩
  | .hbm, ⟨23, _⟩ => ⟨S4x512x2048, .f32⟩
  | .hbm, ⟨24, _⟩ => ⟨S4x512x2048, .f32⟩
  | .hbm, ⟨25, _⟩ => ⟨S4x512x2048, .f32⟩
  | .hbm, ⟨26, _⟩ => ⟨S_, .f32⟩
  | .hbm, ⟨27, _⟩ => ⟨S4x512x2048, .f32⟩
  | .hbm, ⟨28, _⟩ => ⟨S4x512x2048, .f32⟩
  | .hbm, ⟨29, _⟩ => ⟨S4x512x2048, .f32⟩
  | .hbm, ⟨30, _⟩ => ⟨S_, .f32⟩
  | .hbm, ⟨31, _⟩ => ⟨S4x512x2048, .f32⟩
  | .hbm, ⟨32, _⟩ => ⟨S4x512x2048, .f32⟩
  | .hbm, ⟨33, _⟩ => ⟨S4x512x2048, .f32⟩
  | .hbm, ⟨34, _⟩ => ⟨S_, .f32⟩
  | .hbm, ⟨35, _⟩ => ⟨S4x512x2048, .f32⟩
  | .hbm, ⟨36, _⟩ => ⟨S4x512x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPleProj.lean ====
abbrev S4x256x512 : Shape := ⟨3, ![4, 256, 512]⟩
abbrev S1x256x512 : Shape := ⟨3, ![1, 256, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S4x256x512, .f32⟩
  | .hbm, ⟨1, _⟩ => ⟨S4x256x512, .f32⟩
  | .hbm, ⟨2, _⟩ => ⟨S4x256x512, .f32⟩
  | .hbm, ⟨3, _⟩ => ⟨S4x256x512, .f32⟩
  | .hbm, ⟨4, _⟩ => ⟨S4x256x512, .f32⟩
  | .hbm, ⟨5, _⟩ => ⟨S4x256x512, .f32⟩
  | .hbm, ⟨6, _⟩ => ⟨S4x256x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamPleProjIdeal.lean ====
abbrev S4x256x512 : Shape := ⟨3, ![4, 256, 512]⟩
abbrev S1x256x512 : Shape := ⟨3, ![1, 256, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S4x256x512, .f32⟩
  | .hbm, ⟨1, _⟩ => ⟨S4x256x512, .f32⟩
  | .hbm, ⟨2, _⟩ => ⟨S4x256x512, .f32⟩
  | .hbm, ⟨3, _⟩ => ⟨S4x256x512, .f32⟩
  | .hbm, ⟨4, _⟩ => ⟨S4x256x512, .f32⟩
  | .hbm, ⟨5, _⟩ => ⟨S4x256x512, .f32⟩
  | .hbm, ⟨6, _⟩ => ⟨S4x256x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamPleProjRefIdeal.lean ====
abbrev S4x256x512 : Shape := ⟨3, ![4, 256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x256x512, .f32⟩
  | .hbm, ⟨2, _⟩ => ⟨S4x256x512, .f32⟩
  | .hbm, ⟨3, _⟩ => ⟨S4x256x512, .f32⟩
  | .hbm, ⟨4, _⟩ => ⟨S_, .f32⟩
  | .hbm, ⟨5, _⟩ => ⟨S4x256x512, .f32⟩
  | .hbm, ⟨6, _⟩ => ⟨S4x256x512, .f32⟩
  | .hbm, ⟨7, _⟩ => ⟨S_, .f32⟩
  | .hbm, ⟨8, _⟩ => ⟨S4x256x512, .f32⟩
  | .hbm, ⟨9, _⟩ => ⟨S4x256x512, .f32⟩
  | .hbm, ⟨10, _⟩ => ⟨S4x256x512, .f32⟩
  | .hbm, ⟨11, _⟩ => ⟨S_, .f32⟩
  | .hbm, ⟨12, _⟩ => ⟨S4x256x512, .f32⟩
  | .hbm, ⟨13, _⟩ => ⟨S4x256x512, .f32⟩
  | .hbm, ⟨14, _⟩ => ⟨S4x256x512, .f32⟩
  | .hbm, ⟨15, _⟩ => ⟨S_, .f32⟩
  | .hbm, ⟨16, _⟩ => ⟨S4x256x512, .f32⟩
  | .hbm, ⟨17, _⟩ => ⟨S4x256x512, .f32⟩
  | .hbm, ⟨18, _⟩ => ⟨S4x256x512, .f32⟩
  | .hbm, ⟨19, _⟩ => ⟨S_, .f32⟩
  | .hbm, ⟨20, _⟩ => ⟨S4x256x512, .f32⟩
  | .hbm, ⟨21, _⟩ => ⟨S4x256x512, .f32⟩
  | .hbm, ⟨22, _⟩ => ⟨S_, .f32⟩
  | .hbm, ⟨23, _⟩ => ⟨S4x256x512, .f32⟩
  | .hbm, ⟨24, _⟩ => ⟨S4x256x512, .f32⟩
  | .hbm, ⟨25, _⟩ => ⟨S4x256x512, .f32⟩
  | .hbm, ⟨26, _⟩ => ⟨S_, .f32⟩
  | .hbm, ⟨27, _⟩ => ⟨S4x256x512, .f32⟩
  | .hbm, ⟨28, _⟩ => ⟨S4x256x512, .f32⟩
  | .hbm, ⟨29, _⟩ => ⟨S4x256x512, .f32⟩
  | .hbm, ⟨30, _⟩ => ⟨S_, .f32⟩
  | .hbm, ⟨31, _⟩ => ⟨S4x256x512, .f32⟩
  | .hbm, ⟨32, _⟩ => ⟨S4x256x512, .f32⟩
  | .hbm, ⟨33, _⟩ => ⟨S4x256x512, .f32⟩
  | .hbm, ⟨34, _⟩ => ⟨S_, .f32⟩
  | .hbm, ⟨35, _⟩ => ⟨S4x256x512, .f32⟩
  | .hbm, ⟨36, _⟩ => ⟨S4x256x512, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S1x391x128 : Shape := ⟨3, ![1, 391, 128]⟩
abbrev S391x128 : Shape := ⟨2, ![391, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x391x128, .f32⟩
  | .hbm, ⟨1, _⟩ => ⟨S1x391x128, .f32⟩
  | .hbm, ⟨2, _⟩ => ⟨S1x391x128, .f32⟩
  | .hbm, ⟨3, _⟩ => ⟨S1x391x128, .f32⟩
  | .hbm, ⟨4, _⟩ => ⟨S1x391x128, .f32⟩
  | .hbm, ⟨5, _⟩ => ⟨S1x391x128, .f32⟩
  | .hbm, ⟨6, _⟩ => ⟨S1x391x128, .f32⟩
  | .local _ .vmem, ⟨0, _⟩ => ⟨S1x391x128, .f32⟩
  | .local _ .vmem, ⟨1, _⟩ => ⟨S1x391x128, .f32⟩
  | .local _ .vmem, ⟨2, _⟩ => ⟨S1x391x128, .f32⟩
  | .local _ .vmem, ⟨3, _⟩ => ⟨S1x391x128, .f32⟩
  | .local _ .vmem, ⟨4, _⟩ => ⟨S1x391x128, .f32⟩
  | .local _ .vmem, ⟨5, _⟩ => ⟨S1x391x128, .f32⟩
  | .local _ .vmem, ⟨6, _⟩ => ⟨S1x391x128, .f32⟩
  | _, _ => ⟨S1x391x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x391x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x391x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x391x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x391x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x391x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x391x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x391x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamSmallRefIdeal.lean ====
abbrev S1x391x128 : Shape := ⟨3, ![1, 391, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x391x128, .f32⟩
  | .hbm, ⟨1, _⟩ => ⟨S1x391x128, .f32⟩
  | .hbm, ⟨2, _⟩ => ⟨S1x391x128, .f32⟩
  | .hbm, ⟨3, _⟩ => ⟨S1x391x128, .f32⟩
  | .hbm, ⟨4, _⟩ => ⟨S_, .f32⟩
  | .hbm, ⟨5, _⟩ => ⟨S1x391x128, .f32⟩
  | .hbm, ⟨6, _⟩ => ⟨S1x391x128, .f32⟩
  | .hbm, ⟨7, _⟩ => ⟨S_, .f32⟩
  | .hbm, ⟨8, _⟩ => ⟨S1x391x128, .f32⟩
  | .hbm, ⟨9, _⟩ => ⟨S1x391x128, .f32⟩
  | .hbm, ⟨10, _⟩ => ⟨S1x391x128, .f32⟩
  | .hbm, ⟨11, _⟩ => ⟨S_, .f32⟩
  | .hbm, ⟨12, _⟩ => ⟨S1x391x128, .f32⟩
  | .hbm, ⟨13, _⟩ => ⟨S1x391x128, .f32⟩
  | .hbm, ⟨14, _⟩ => ⟨S1x391x128, .f32⟩
  | .hbm, ⟨15, _⟩ => ⟨S_, .f32⟩
  | .hbm, ⟨16, _⟩ => ⟨S1x391x128, .f32⟩
  | .hbm, ⟨17, _⟩ => ⟨S1x391x128, .f32⟩
  | .hbm, ⟨18, _⟩ => ⟨S1x391x128, .f32⟩
  | .hbm, ⟨19, _⟩ => ⟨S_, .f32⟩
  | .hbm, ⟨20, _⟩ => ⟨S1x391x128, .f32⟩
  | .hbm, ⟨21, _⟩ => ⟨S1x391x128, .f32⟩
  | .hbm, ⟨22, _⟩ => ⟨S_, .f32⟩
  | .hbm, ⟨23, _⟩ => ⟨S1x391x128, .f32⟩
  | .hbm, ⟨24, _⟩ => ⟨S1x391x128, .f32⟩
  | .hbm, ⟨25, _⟩ => ⟨S1x391x128, .f32⟩
  | .hbm, ⟨26, _⟩ => ⟨S_, .f32⟩
  | .hbm, ⟨27, _⟩ => ⟨S1x391x128, .f32⟩
  | .hbm, ⟨28, _⟩ => ⟨S1x391x128, .f32⟩
  | .hbm, ⟨29, _⟩ => ⟨S1x391x128, .f32⟩
  | .hbm, ⟨30, _⟩ => ⟨S_, .f32⟩
  | .hbm, ⟨31, _⟩ => ⟨S1x391x128, .f32⟩
  | .hbm, ⟨32, _⟩ => ⟨S1x391x128, .f32⟩
  | .hbm, ⟨33, _⟩ => ⟨S1x391x128, .f32⟩
  | .hbm, ⟨34, _⟩ => ⟨S_, .f32⟩
  | .hbm, ⟨35, _⟩ => ⟨S1x391x128, .f32⟩
  | .hbm, ⟨36, _⟩ => ⟨S1x391x128, .f32⟩
  | _, _ => ⟨S1x391x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== RmsBwd.lean ====
abbrev S2048x2048 : Shape := ⟨2, ![2048, 2048]⟩
abbrev S4x2048 : Shape := ⟨2, ![4, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S4x2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsBwdRefIdeal.lean ====
abbrev S2048x2048 : Shape := ⟨2, ![2048, 2048]⟩
abbrev S4x2048 : Shape := ⟨2, ![4, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S1x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S2048x2048, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== RmsFwd.lean ====
abbrev S2048x2048 : Shape := ⟨2, ![2048, 2048]⟩
abbrev S4x2048 : Shape := ⟨2, ![4, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S4x2048, .f32⟩
  | .hbm, ⟨2, _⟩ => ⟨S1x2048, .f32⟩
  | .hbm, ⟨3, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S2048x2048 : Shape := ⟨2, ![2048, 2048]⟩
abbrev S4x2048 : Shape := ⟨2, ![4, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x2048, .f32⟩
  | .hbm, ⟨2, _⟩ => ⟨S1x2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S1x2048, .f32⟩
  | .hbm, ⟨18, _⟩ => ⟨S2048x2048, .f32⟩
  | .hbm, ⟨19, _⟩ => ⟨S2048x2048, .f32⟩
  | .hbm, ⟨20, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== PleFwd.lean ====
abbrev S2048x2048 : Shape := ⟨2, ![2048, 2048]⟩
abbrev S512x2048 : Shape := ⟨2, ![512, 2048]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PleFwdRefIdeal.lean ====
abbrev S2048x2048 : Shape := ⟨2, ![2048, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== QkFwd.lean ====
abbrev S2048x8192 : Shape := ⟨2, ![2048, 8192]⟩
abbrev S2x128 : Shape := ⟨2, ![2, 128]⟩
abbrev S1x128 : Shape := ⟨2, ![1, 128]⟩
abbrev S2048x2048 : Shape := ⟨2, ![2048, 2048]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 8
  | .vmem => 14
  | .smem => 0
  | _ => 0

abbrev bufTy : (tb : Table) → Fin (tcTables nBuf tb) → BufTy
  | .hbm, ⟨0, _⟩ => ⟨S2048x8192, .f32⟩
  | .hbm, ⟨1, _⟩ => ⟨S2x128, .f32⟩
  | .hbm, ⟨2, _⟩ => ⟨S2x128, .f32⟩
  | .hbm, ⟨3, _⟩ => ⟨S1x128, .f32⟩
  | .hbm, ⟨4, _⟩ => ⟨S1x128, .f32⟩
  | .hbm, ⟨5, _⟩ => ⟨S2048x2048, .bf16⟩
  | .hbm, ⟨6, _⟩ => ⟨S2048x2048, .bf16⟩
  | .hbm, ⟨7, _⟩ => ⟨S2048x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x128, .f32⟩
  | .local _ .vmem, ⟨7, _⟩ => ⟨S1x128, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== QkFwdRefIdeal.lean ====
abbrev S2048x8192 : Shape := ⟨2, ![2048, 8192]⟩
abbrev S2x128 : Shape := ⟨2, ![2, 128]⟩
abbrev S2048x2048 : Shape := ⟨2, ![2048, 2048]⟩
abbrev S1x128 : Shape := ⟨2, ![1, 128]⟩
abbrev S128 : Shape := ⟨1, ![128]⟩
abbrev S2048x16x128 : Shape := ⟨3, ![2048, 16, 128]⟩
abbrev S_ : Shape := ⟨0, ![]⟩
abbrev S2048x16 : Shape := ⟨2, ![2048, 16]⟩
abbrev S2048x16x1 : Shape := ⟨3, ![2048, 16, 1]⟩
abbrev S1x1x128 : Shape := ⟨3, ![1, 1, 128]⟩

abbrev nBuf : Space → Nat
  | .hbm => 49
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2x128, .f32⟩
  | .hbm, ⟨2, _⟩ => ⟨S2x128, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S1x128, .f32⟩
  | .hbm, ⟨7, _⟩ => ⟨S128, .f32⟩
  | .hbm, ⟨8, _⟩ => ⟨S1x128, .f32⟩
  | .hbm, ⟨9, _⟩ => ⟨S128, .f32⟩
  | .hbm, ⟨10, _⟩ => ⟨S2048x16x128, .f32⟩
  | .hbm, ⟨11, _⟩ => ⟨S2048x16x128, .f32⟩
  | .hbm, ⟨12, _⟩ => ⟨S_, .f32⟩
  | .hbm, ⟨13, _⟩ => ⟨S2048x16, .f32⟩
  | .hbm, ⟨14, _⟩ => ⟨S2048x16x1, .f32⟩
  | .hbm, ⟨15, _⟩ => ⟨S_, .f32⟩
  | .hbm, ⟨16, _⟩ => ⟨S2048x16x1, .f32⟩
  | .hbm, ⟨17, _⟩ => ⟨S2048x16x1, .f32⟩
  | .hbm, ⟨18, _⟩ => ⟨S_, .f32⟩
  | .hbm, ⟨19, _⟩ => ⟨S2048x16x1, .f32⟩
  | .hbm, ⟨20, _⟩ => ⟨S2048x16x1, .f32⟩
  | .hbm, ⟨21, _⟩ => ⟨S2048x16x1, .f32⟩
  | .hbm, ⟨22, _⟩ => ⟨S2048x16x128, .f32⟩
  | .hbm, ⟨23, _⟩ => ⟨S2048x16x128, .f32⟩
  | .hbm, ⟨24, _⟩ => ⟨S1x1x128, .f32⟩
  | .hbm, ⟨25, _⟩ => ⟨S2048x16x128, .f32⟩
  | .hbm, ⟨26, _⟩ => ⟨S2048x16x128, .f32⟩
  | .hbm, ⟨27, _⟩ => ⟨S2048x2048, .f32⟩
  | .hbm, ⟨28, _⟩ => ⟨S2048x16x128, .f32⟩
  | .hbm, ⟨29, _⟩ => ⟨S2048x16x128, .f32⟩
  | .hbm, ⟨30, _⟩ => ⟨S_, .f32⟩
  | .hbm, ⟨31, _⟩ => ⟨S2048x16, .f32⟩
  | .hbm, ⟨32, _⟩ => ⟨S2048x16x1, .f32⟩
  | .hbm, ⟨33, _⟩ => ⟨S_, .f32⟩
  | .hbm, ⟨34, _⟩ => ⟨S2048x16x1, .f32⟩
  | .hbm, ⟨35, _⟩ => ⟨S2048x16x1, .f32⟩
  | .hbm, ⟨36, _⟩ => ⟨S_, .f32⟩
  | .hbm, ⟨37, _⟩ => ⟨S2048x16x1, .f32⟩
  | .hbm, ⟨38, _⟩ => ⟨S2048x16x1, .f32⟩
  | .hbm, ⟨39, _⟩ => ⟨S2048x16x1, .f32⟩
  | .hbm, ⟨40, _⟩ => ⟨S2048x16x128, .f32⟩
  | .hbm, ⟨41, _⟩ => ⟨S2048x16x128, .f32⟩
  | .hbm, ⟨42, _⟩ => ⟨S1x1x128, .f32⟩
  | .hbm, ⟨43, _⟩ => ⟨S2048x16x128, .f32⟩
  | .hbm, ⟨44, _⟩ => ⟨S2048x16x128, .f32⟩
  | .hbm, ⟨45, _⟩ => ⟨S2048x2048, .f32⟩
  | .hbm, ⟨46, _⟩ => ⟨S2048x2048, .bf16⟩
  | .hbm, ⟨47, _⟩ => ⟨S2048x2048, .bf16⟩
  | .hbm, ⟨48, _⟩ => ⟨S2048x2048, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== Proof.SbWide.lean ====
module

public import proofs.«01_k».proof.Proof.Gen.SbKernelIdeal.Skeleton
public import proofs.«01_k».proof.Proof.Gen.SbKernelIdeal.Points
public import Idealize.ShloMosaic.Lib.Tactic

/-! The gradient kernel's vocabulary: what one head computes over one wide tile of 1024 keys, named once and used for
    every head, for the looped tiles and for the masked one. -/

@[expose] public section

noncomputable section

namespace Cert.SbClaims

open Idealize.ShloMosaic Idealize.SL.Sem
open Cert.SbKernelIdeal Cert.SbKernelIdeal.Gen

variable {F : FTy → Type} [FloatOps F]

/-- The float `0`, `1` and the score scale over a shape. -/
abbrev zeros (s : Shape) : FVec F s .f32 := broadcast s (Scalar.ofBits .f32 0x00000000#32 : F .f32)
abbrev ones (s : Shape) : FVec F s .f32 := broadcast s (Scalar.ofBits .f32 0x3F800000#32 : F .f32)
abbrev scales (s : Shape) : FVec F s .f32 := broadcast s (Scalar.ofBits .f32 0x3DB504F3#32 : F .f32)

/-- The scaled scores of 128 queries against 1024 keys. -/
def score (q : Vec F S128x128 .bf16) (k : Vec F S1024x128 .bf16) : FVec F S128x1024 .f32 :=
  mulf (matmul dot_S128x128_S1024x128_S128x1024_1_1_0_0_n_n none q k (constant S128x1024 .f32 0x00000000#32)) (scales _)

/-- The logarithm of the logistic function. -/
def logSig (z : FVec F S128x1024 .f32) : FVec F S128x1024 .f32 :=
  subf (minimumf z (zeros _)) (log (addf (ones _) (exp (subf (zeros _) (absf z)))))

/-- Columns `128 n …` of a wide tile. -/
def cut (x : FVec F S128x1024 .f32) : Fin 8 → FVec F S128x128 .f32
  | 0 => extractStridedSlice S128x128 ![0, 0] x slices_S128x1024_o0_0_S128x128
  | 1 => extractStridedSlice S128x128 ![0, 128] x slices_S128x1024_o0_128_S128x128
  | 2 => extractStridedSlice S128x128 ![0, 256] x slices_S128x1024_o0_256_S128x128
  | 3 => extractStridedSlice S128x128 ![0, 384] x slices_S128x1024_o0_384_S128x128
  | 4 => extractStridedSlice S128x128 ![0, 512] x slices_S128x1024_o0_512_S128x128
  | 5 => extractStridedSlice S128x128 ![0, 640] x slices_S128x1024_o0_640_S128x128
  | 6 => extractStridedSlice S128x128 ![0, 768] x slices_S128x1024_o0_768_S128x128
  | 7 => extractStridedSlice S128x128 ![0, 896] x slices_S128x1024_o0_896_S128x128

/-- Row sums of a tile, as a column. -/
def rowTotal (x : FVec F S128x128 .f32) : FVec F S128x1 .f32 :=
  shapeCast S128x1 (multiReduction .add [1] S128 x 0x00000000#32 reduces_S128x128_S128 (.inl rfl) rfl) shapeCasts_S128_S128x1

/-- A column `c` carried over the first `n` tiles of `x`: `c` plus their row sums. -/
def carried (x : FVec F S128x1024 .f32) (c : FVec F S128x1 .f32) (n : ℕ) : FVec F S128x1 .f32 :=
  Nat.rec c (fun n r => addf r (rowTotal (cut x (Fin.ofNat 8 n)))) n

/-- Eight tiles side by side. -/
def glue (f : Fin 8 → FVec F S128x128 .f32) : FVec F S128x1024 .f32 :=
  concatenate S128x1024 1 [⟨S128x128, f 0⟩, ⟨S128x128, f 1⟩, ⟨S128x128, f 2⟩, ⟨S128x128, f 3⟩, ⟨S128x128, f 4⟩,
    ⟨S128x128, f 5⟩, ⟨S128x128, f 6⟩, ⟨S128x128, f 7⟩]
    concatenates_S128x128_S128x128_S128x128_S128x128_S128x128_S128x128_S128x128_S128x128_S128x1024_d1

/-- A tile times a constant 128 by 128 matrix. -/
def byTri (x : FVec F S128x128 .bf16) (w : FVec F S128x128 .bf16) : FVec F S128x128 .f32 :=
  matmul dot_S128x128_S128x128_S128x128_1_0_0_1_n_n none x w (constant S128x128 .f32 0x00000000#32)

/-- The upper part of the `f32` tile `x` in `bf16`. -/
def hi (x : FVec F S128x128 .f32) : FVec F S128x128 .bf16 := truncf .bf16 x bitsLt_bf16_f32

/-- What is left of the total `tot` past column `s`, tile by tile: the total less the tiles up to this one, plus the
    columns of this tile after `s`, summed in two `bf16` parts. -/
def restTile (after : FVec F S128x128 .bf16) (tot cp : FVec F S128x1 .f32) (lm : FVec F S128x1024 .f32) (n : Fin 8) :
    FVec F S128x128 .f32 :=
  addf (broadcastTo S128x128 (subf tot (carried lm cp (n.val + 1))) broadcasts_S128x1_S128x128)
    (addf (byTri (hi (cut lm n)) after)
      (byTri (hi (subf (cut lm n) (extf .f32 (hi (cut lm n)) bitsLt_bf16_f32))) after))

/-- The sum of `e` over the columns before `s`, tile by tile. -/
def exclTile (before : FVec F S128x128 .bf16) (ce : FVec F S128x1 .f32) (e : FVec F S128x1024 .f32) (n : Fin 8) :
    FVec F S128x128 .f32 :=
  addf (broadcastTo S128x128 (carried e ce n.val) broadcasts_S128x1_S128x128) (byTri (hi (cut e n)) before)

/-- What one head takes to a wide tile: its queries, the gradient of its output, the total of its logarithms. -/
structure Head (F : FTy → Type) [FloatOps F] where
  d : FVec F S128x128 .bf16
  q : Vec F S128x128 .bf16
  tot : FVec F S128x1 .f32

/-- What one head carries: the gradient of its queries, the running logarithms, the running products. -/
abbrev Carry (F : FTy → Type) [FloatOps F] := FVec F S128x128 .f32 × FVec F S128x1 .f32 × FVec F S128x1 .f32

section
variable (mk : FVec F S128x1024 .f32 → FVec F S128x1024 .f32) (after before : FVec F S128x128 .bf16) (H : Head F)
  (k v : Vec F S1024x128 .bf16) (cp ce : FVec F S128x1 .f32)

/-- The logarithms of one minus the weights. -/
def logRest : FVec F S128x1024 .f32 := mk (subf (logSig (score H.q k)) (score H.q k))

/-- The attention weights of the tile. -/
def att : FVec F S128x1024 .f32 :=
  mk (exp (addf (logSig (score H.q k)) (glue (restTile after H.tot cp (logRest mk H k)))))

/-- The weights times their gradients. -/
def ea : FVec F S128x1024 .f32 :=
  mulf (att mk after H k cp)
    (matmul dot_S128x128_S1024x128_S128x1024_1_1_0_0_n_n none H.d v (constant S128x1024 .f32 0x00000000#32))

/-- The gradient of the unscaled scores. -/
def dScore : FVec F S128x1024 .f32 :=
  mulf (subf (mulf (ea mk after H k v cp) (subf (ones _) (exp (logSig (score H.q k)))))
      (mulf (mk (glue (exclTile before ce (ea mk after H k v cp)))) (exp (logSig (score H.q k))))) (scales _)

/-- What the tile adds to the gradients of its values, of its keys and of the queries. -/
def dvTile (x : Vec F S1024x128 .f32) : FVec F S1024x128 .f32 :=
  addf (shapeCast S1024x128 x shapeCasts_S1024x128_S1024x128)
    (matmul dot_S128x1024_S128x128_S1024x128_0_0_1_1_n_n none (truncf .bf16 (att mk after H k cp) bitsLt_bf16_f32) H.d
      (constant S1024x128 .f32 0x00000000#32))
def dkTile (x : Vec F S1024x128 .f32) : FVec F S1024x128 .f32 :=
  addf (shapeCast S1024x128 x shapeCasts_S1024x128_S1024x128)
    (matmul dot_S128x1024_S128x128_S1024x128_0_0_1_1_n_n none
      (truncf .bf16 (dScore mk after before H k v cp ce) bitsLt_bf16_f32) H.q (constant S1024x128 .f32 0x00000000#32))
def dqTile (x : FVec F S128x128 .f32) : FVec F S128x128 .f32 :=
  addf x (matmul dot_S128x1024_S1024x128_S128x128_1_0_0_1_n_n none
    (truncf .bf16 (dScore mk after before H k v cp ce) bitsLt_bf16_f32) k (constant S128x128 .f32 0x00000000#32))
end

/-- A block of 1024 rows of one head in a staged array of 2048 rows of four heads. -/
abbrev blk (off : Fin 2 → ℕ) (h : ∀ a, off a + S1024x128.size a ≤ S2048x512.size a) : Rect S2048x512 :=
  Rect.unit (s := S2048x512) off S1024x128.size h

section
variable (mk : FVec F S128x1024 .f32 → FVec F S128x1024 .f32) (after before : FVec F S128x128 .bf16)
  (off : Fin 2 → ℕ) (hoff : ∀ a, off a + S1024x128.size a ≤ S2048x512.size a)
  (arg3 arg4 : Memref sig .tc .vmem S2048x512 .bf16) (arg10 arg11 : Memref sig .tc .vmem S2048x512 .f32)

/-- One head over one wide tile: the keys and values are loaded, the gradients of the values and of the keys are added
    into the arrays, what is carried is handed on. -/
def headStep (H : Head F) (a : Carry F) : Prog (TpuEff nD τ sig (Elt F) Λ₀ .tc) (Carry F) := do
  let k : Vec F S1024x128 .bf16 ← Prog.lift (.load arg3 (blk off hoff).toLoadRect (View.loadsAt_vmem h_S1024x128))
  let v : Vec F S1024x128 .bf16 ← Prog.lift (.load arg4 (blk off hoff).toLoadRect (View.loadsAt_vmem h_S1024x128))
  let x : Vec F S1024x128 .f32 ← Prog.lift (.load arg11 (blk off hoff).toLoadRect (View.loadsAt_vmem h_S1024x128))
  let _ : Vec F S1024x128 .f32 ← Prog.lift (.load arg11 (blk off hoff).toLoadRect (View.loadsAt_vmem h_S1024x128))
  Prog.lift (.store arg11 (blk off hoff) (dvTile mk after H k a.2.1 x) Finset.univ
    (View.stores_vmem_bits_univ h_S1024x128 rfl) (.inl rfl))
  let y : Vec F S1024x128 .f32 ← Prog.lift (.load arg10 (blk off hoff).toLoadRect (View.loadsAt_vmem h_S1024x128))
  let _ : Vec F S1024x128 .f32 ← Prog.lift (.load arg10 (blk off hoff).toLoadRect (View.loadsAt_vmem h_S1024x128))
  Prog.lift (.store arg10 (blk off hoff) (dkTile mk after before H k v a.2.1 a.2.2 y) Finset.univ
    (View.stores_vmem_bits_univ h_S1024x128 rfl) (.inl rfl))
  pure (dqTile mk after before H k v a.2.1 a.2.2 a.1, carried (logRest mk H k) a.2.1 8,
    carried (ea mk after H k v a.2.1) a.2.2 8)
end

/-- Strictly below and strictly above the diagonal. -/
def triAfter : FVec F S128x128 .bf16 :=
  truncf .bf16 (select (cmpi .sgt (iota .tc S128x128 32 [0] iota_S128x128_d0_w32) (iota .tc S128x128 32 [1] iota_S128x128_d1_w32))
    (ones (F := F) S128x128) (zeros S128x128)) bitsLt_bf16_f32
def triBefore : FVec F S128x128 .bf16 :=
  truncf .bf16 (select (cmpi .slt (iota .tc S128x128 32 [0] iota_S128x128_d0_w32) (iota .tc S128x128 32 [1] iota_S128x128_d1_w32))
    (ones (F := F) S128x128) (zeros S128x128)) bitsLt_bf16_f32

end Cert.SbClaims

end
-- ==== Proof.SbBody.lean ====
module

public import proofs.«01_k».proof.Proof.SbWide

/-! The gradient kernel's body in the vocabulary of one head over one wide tile, and that it is the printed one. -/

@[expose] public section

noncomputable section

namespace Cert.SbClaims

open Idealize.ShloMosaic Idealize.SL.Sem Idealize.ShloMosaic.Tactic
open Cert.SbKernelIdeal Cert.SbKernelIdeal.Gen

variable {F : FTy → Type} [FloatOps F]

/-- What four heads carry. -/
abbrev Carries (F : FTy → Type) [FloatOps F] :=
  FVec F S128x128 .f32 × FVec F S128x1 .f32 × FVec F S128x1 .f32 × FVec F S128x128 .f32 × FVec F S128x1 .f32
    × FVec F S128x1 .f32 × FVec F S128x128 .f32 × FVec F S128x1 .f32 × FVec F S128x1 .f32 × FVec F S128x128 .f32
    × FVec F S128x1 .f32 × FVec F S128x1 .f32

def joinC (a b c d : Carry F) : Carries F :=
  (a.1, a.2.1, a.2.2, b.1, b.2.1, b.2.2, c.1, c.2.1, c.2.2, d.1, d.2.1, d.2.2)

/-- Four heads over one wide tile. -/
def fourHeads (mk : FVec F S128x1024 .f32 → FVec F S128x1024 .f32) (after before : FVec F S128x128 .bf16)
    (arg3 arg4 : Memref sig .tc .vmem S2048x512 .bf16) (arg10 arg11 : Memref sig .tc .vmem S2048x512 .f32)
    (off0 off1 off2 off3 : Fin 2 → ℕ) (h0 : ∀ a, off0 a + S1024x128.size a ≤ S2048x512.size a)
    (h1 : ∀ a, off1 a + S1024x128.size a ≤ S2048x512.size a) (h2 : ∀ a, off2 a + S1024x128.size a ≤ S2048x512.size a)
    (h3 : ∀ a, off3 a + S1024x128.size a ≤ S2048x512.size a) (H0 H1 H2 H3 : Head F) (a : Carries F) :
    Prog (TpuEff nD τ sig (Elt F) Λ₀ .tc) (Carries F) :=
  match a with
  | (a0, a1, a2, a3, a4, a5, a6, a7, a8, a9, a10, a11) => do
    let r0 ← headStep mk after before off0 h0 arg3 arg4 arg10 arg11 H0 (a0, a1, a2)
    let r1 ← headStep mk after before off1 h1 arg3 arg4 arg10 arg11 H1 (a3, a4, a5)
    let r2 ← headStep mk after before off2 h2 arg3 arg4 arg10 arg11 H2 (a6, a7, a8)
    let r3 ← headStep mk after before off3 h3 arg3 arg4 arg10 arg11 H3 (a9, a10, a11)
    pure (joinC r0 r1 r2 r3)

/-- The lanes of one head in a staged array of 128 rows of four heads. -/
abbrev lane (n : ℕ) (h : ∀ a, (![0, n] : Fin 2 → ℕ) a + S128x128.size a ≤ S128x512.size a) : Rect S128x512 :=
  Rect.unit (s := S128x512) ![0, n] S128x128.size h

/-- A whole staged array of 2048 rows. -/
abbrev full : Rect S2048x512 := Rect.unit (s := S2048x512) ![0, 0] S2048x512.size inb_S2048x512_S2048x512_0_0

/-- The logistic function of a gate. -/
def sigm (g : FVec F S128x128 .f32) : FVec F S128x128 .f32 :=
  divf (ones _) (addf (ones _) (exp (subf (zeros _) g)))

/-- The gradient of the gate. -/
def dgTile (g dog o : Vec F S128x128 .f32) : FVec F S128x128 .bf16 :=
  truncf .bf16 (mulf (mulf dog (shapeCast S128x128 o shapeCasts_S128x128_S128x128))
    (mulf (sigm g) (addf (ones _) (mulf g (subf (ones _) (sigm g)))))) bitsLt_bf16_f32

/-- The gradient of the attention's output. -/
def doTile (g dog : Vec F S128x128 .f32) : FVec F S128x128 .bf16 :=
  truncf .bf16 (mulf dog (mulf g (sigm g))) bitsLt_bf16_f32

/-- The total of the logarithms, kept in every column of a tile, as one column. -/
def totCol (x : Vec F S1x128x128 .f32) : FVec F S128x1 .f32 :=
  extractStridedSlice S128x1 ![0, 0] (shapeCast S128x128 x shapeCasts_S1x128x128_S128x128) slices_S128x128_o0_0_S128x1

section
variable (arg2 : Memref sig .tc .vmem S128x512 .bf16) (arg5 arg6 arg8 : Memref sig .tc .vmem S128x512 .f32)
  (arg7 : Memref sig .tc .vmem S4x128x128 .f32) (arg9 : Memref sig .tc .vmem S128x512 .f32)
  (arg13 : Memref sig .tc .vmem S128x512 .bf16) (harg13 : arg13.IsWhole)

/-- What one head prepares: the gradient of the gate is stored, the head's queries, gradient and total are loaded. -/
def prep (n m : ℕ) (h : ∀ a, (![0, n] : Fin 2 → ℕ) a + S128x128.size a ≤ S128x512.size a)
    (hp : (lane n h).PackedRows (EltTy.packing .bf16))
    (hm : ∀ a, (![m, 0, 0] : Fin 3 → ℕ) a + S1x128x128.size a ≤ S4x128x128.size a) :
    Prog (TpuEff nD τ sig (Elt F) Λ₀ .tc) (Head F) := do
  let g : Vec F S128x128 .f32 ← Prog.lift (.load arg5 (lane n h).toLoadRect (View.loadsAt_vmem h_S128x128))
  let dog : Vec F S128x128 .f32 ← Prog.lift (.load arg8 (lane n h).toLoadRect (View.loadsAt_vmem h_S128x128))
  let o : Vec F S128x128 .f32 ← Prog.lift (.load arg6 (lane n h).toLoadRect (View.loadsAt_vmem h_S128x128))
  let _ : Vec F S128x128 .bf16 ← Prog.lift (.load arg13 (lane n h).toLoadRect (View.loadsAt_vmem h_S128x128))
  Prog.lift (.store arg13 (lane n h) (dgTile g dog o) Finset.univ
    (View.stores_vmem h_S128x128 (harg13.storeExact_slice rfl _ hp) (fun _ => rfl)) (.inl rfl))
  let q : Vec F S128x128 .bf16 ← Prog.lift (.load arg2 (lane n h).toLoadRect (View.loadsAt_vmem h_S128x128))
  let t : Vec F S1x128x128 .f32 ← Prog.lift (.load arg7 (Rect.unit (s := S4x128x128) ![m, 0, 0] S1x128x128.size hm).toLoadRect
    (View.loadsAt_vmem h_S1x128x128))
  pure ⟨doTile g dog, q, totCol t⟩

/-- The gradient of one head's queries is stored. -/
def putDq (n : ℕ) (h : ∀ a, (![0, n] : Fin 2 → ℕ) a + S128x128.size a ≤ S128x512.size a) (x : FVec F S128x128 .f32) :
    Prog (TpuEff nD τ sig (Elt F) Λ₀ .tc) PUnit := do
  let _ : Vec F S128x128 .f32 ← Prog.lift (.load arg9 (lane n h).toLoadRect (View.loadsAt_vmem h_S128x128))
  Prog.lift (.store arg9 (lane n h) x Finset.univ (View.stores_vmem_bits_univ h_S128x128 rfl) (.inl rfl))
end

/-- The query block's number divided by eight, as the kernel computes it. -/
def wideNo (i : grid0.Coords) : BitVec 32 :=
  let a : BitVec 32 := BitVec.ofNat 32 (i 1).val
  Scalar.select (Scalar.andi
      (Scalar.cmpi .ne (Scalar.subi (Scalar.extui (Scalar.cmpi .sgt a 0#32)) (Scalar.extui (Scalar.cmpi .slt a 0#32)))
        (Scalar.subi (Scalar.extui (Scalar.cmpi .sgt 8#32 0#32)) (Scalar.extui (Scalar.cmpi .slt 8#32 0#32)) : BitVec 32))
      (Scalar.cmpi .ne (Scalar.remsi a 8#32) 0#32))
    (Scalar.subi (Scalar.divsi a 8#32) 1#32) (Scalar.divsi a 8#32)

/-- Which keys of the last wide tile come before each query. -/
def mask (i : grid0.Coords) : IVec S128x1024 1 :=
  cmpi .slt (addi (iota .tc S128x1024 32 [1] iota_S128x1024_d1_w32) (broadcast S128x1024 (Scalar.muli (wideNo i) 1024#32)))
    (addi (iota .tc S128x1024 32 [0] iota_S128x1024_d0_w32)
      (broadcast S128x1024 (Scalar.muli (BitVec.ofNat 32 (i 1).val) 128#32)))

/-- A tile kept where the key comes before the query. -/
def masked (i : grid0.Coords) (x : FVec F S128x1024 .f32) : FVec F S128x1024 .f32 := select (mask i) x (zeros _)

/-- Whether the query block is the first of its group. -/
def isFirst (i : grid0.Coords) : BitVec 1 :=
  Scalar.cmpi .ne (Scalar.extui (Scalar.cmpi .eq (BitVec.ofNat 32 (i 1).val) 0#32) : BitVec 32) 0#32

/-- The first query block of a group clears the gradients of the keys and of the values. -/
def clear (i : grid0.Coords) (arg10 arg11 : Memref sig .tc .vmem S2048x512 .f32) :
    Prog (TpuEff nD τ sig (Elt F) Λ₀ .tc) PUnit := do
  let _ : Vec F S2048x512 .f32 ← Prog.lift (.load arg10 full.toLoadRect (View.loadsAt_vmem h_S2048x512))
  Prog.lift (.store arg10 full (zeros (F := F) S2048x512) Finset.univ (View.stores_vmem_bits_univ h_S2048x512 rfl) (.inl rfl))
  let _ : Vec F S2048x512 .f32 ← Prog.lift (.load arg11 full.toLoadRect (View.loadsAt_vmem h_S2048x512))
  Prog.lift (.store arg11 full (zeros (F := F) S2048x512) Finset.univ (View.stores_vmem_bits_univ h_S2048x512 rfl) (.inl rfl))

/-- The last query block of a group hands the gradient of the values out in `bf16` too. -/
def handOut (arg11 : Memref sig .tc .vmem S2048x512 .f32) (arg12 : Memref sig .tc .vmem S2048x512 .bf16)
    (harg12 : arg12.IsWhole) : Prog (TpuEff nD τ sig (Elt F) Λ₀ .tc) PUnit := do
  let x : Vec F S2048x512 .f32 ← Prog.lift (.load arg11 full.toLoadRect (View.loadsAt_vmem h_S2048x512))
  let _ : Vec F S2048x512 .bf16 ← Prog.lift (.load arg12 full.toLoadRect (View.loadsAt_vmem h_S2048x512))
  Prog.lift (.store arg12 full (truncf .bf16 (shapeCast S2048x512 x shapeCasts_S2048x512_S2048x512) bitsLt_bf16_f32) Finset.univ
    (View.stores_vmem h_S2048x512 (harg12.storeExact_slice rfl _ packedbf16_S2048x512_S2048x512_0_0) (fun _ => rfl)) (.inl rfl))

section
variable (i : grid0.Coords) (arg2 : Memref sig .tc .vmem S128x512 .bf16) (harg2 : arg2.IsWhole)
  (arg3 : Memref sig .tc .vmem S2048x512 .bf16) (harg3 : arg3.IsWhole) (arg4 : Memref sig .tc .vmem S2048x512 .bf16)
  (harg4 : arg4.IsWhole) (arg5 : Memref sig .tc .vmem S128x512 .f32) (harg5 : arg5.IsWhole)
  (arg6 : Memref sig .tc .vmem S128x512 .f32) (harg6 : arg6.IsWhole) (arg7 : Memref sig .tc .vmem S4x128x128 .f32)
  (harg7 : arg7.IsWhole) (arg8 : Memref sig .tc .vmem S128x512 .f32) (harg8 : arg8.IsWhole)
  (arg9 : Memref sig .tc .vmem S128x512 .f32) (harg9 : arg9.IsWhole) (arg10 : Memref sig .tc .vmem S2048x512 .f32)
  (harg10 : arg10.IsWhole) (arg11 : Memref sig .tc .vmem S2048x512 .f32) (harg11 : arg11.IsWhole)
  (arg12 : Memref sig .tc .vmem S2048x512 .bf16) (harg12 : arg12.IsWhole)
  (arg13 : Memref sig .tc .vmem S128x512 .bf16) (harg13 : arg13.IsWhole)

set_option maxRecDepth 65536 in
theorem t1_body_eq (a1 v16 : BitVec 32) (after before : FVec F S128x128 .bf16) (H0 H1 H2 H3 : Head F) (z : FVec F S128x1 .f32)
    (k : Fin (k0_t1_loop i).trips) (a : Carries F) :
    k0_t1_body i arg2 harg2 arg3 harg3 arg4 harg4 arg5 harg5 arg6 harg6 arg7 harg7 arg8 harg8 arg9 harg9 arg10 harg10
        arg11 harg11 arg12 harg12 arg13 harg13 a1 v16 after before H0.d H0.q H0.tot H1.d H1.q H1.tot H2.d H2.q H2.tot
        H3.d H3.q H3.tot z k a
      = fourHeads (fun x => x) after before arg3 arg4 arg10 arg11 (k0_off1 i k) (k0_off2 i k) (k0_off3 i k) (k0_off4 i k)
          (k0_off1_inb i k) (k0_off2_inb i k) (k0_off3_inb i k) (k0_off4_inb i k) H0 H1 H2 H3 a := by
  sl_kernel_rfl

set_option maxRecDepth 65536 in
theorem t2_body_eq (a1 v16 v155 : BitVec 32) (after before : FVec F S128x128 .bf16) (H0 H1 H2 H3 : Head F) (z : FVec F S128x1 .f32)
    (k : Fin (k0_t2_loop i).trips) (a : Carries F) :
    k0_t2_body i arg2 harg2 arg3 harg3 arg4 harg4 arg5 harg5 arg6 harg6 arg7 harg7 arg8 harg8 arg9 harg9 arg10 harg10
        arg11 harg11 arg12 harg12 arg13 harg13 a1 v16 after before H0.d H0.q H0.tot H1.d H1.q H1.tot H2.d H2.q H2.tot
        H3.d H3.q H3.tot z v155 k a
      = fourHeads (fun x => x) after before arg3 arg4 arg10 arg11 (k0_off5 i k) (k0_off6 i k) (k0_off7 i k) (k0_off8 i k)
          (k0_off5_inb i k) (k0_off6_inb i k) (k0_off7_inb i k) (k0_off8_inb i k) H0 H1 H2 H3 a := by
  sl_kernel_rfl

/-- The wide tiles before the last one, in the two loops the printed body splits them into. -/
def loop1 (after before : FVec F S128x128 .bf16) (H0 H1 H2 H3 : Head F) (z : FVec F S128x1 .f32) :
    Prog (TpuEff nD τ sig (Elt F) Λ₀ .tc) (Carries F) :=
  Scf.Loop.for (k0_t1_loop i) (k0_t1_ok i) (zeros _, z, z, zeros _, z, z, zeros _, z, z, zeros _, z, z)
    fun k a => fourHeads (fun x => x) after before arg3 arg4 arg10 arg11 (k0_off1 i k) (k0_off2 i k) (k0_off3 i k)
      (k0_off4 i k) (k0_off1_inb i k) (k0_off2_inb i k) (k0_off3_inb i k) (k0_off4_inb i k) H0 H1 H2 H3 a
def loop2 (after before : FVec F S128x128 .bf16) (H0 H1 H2 H3 : Head F) (a : Carries F) :
    Prog (TpuEff nD τ sig (Elt F) Λ₀ .tc) (Carries F) :=
  Scf.Loop.for (k0_t2_loop i) (k0_t2_ok i) a
    fun k a => fourHeads (fun x => x) after before arg3 arg4 arg10 arg11 (k0_off5 i k) (k0_off6 i k) (k0_off7 i k)
      (k0_off8 i k) (k0_off5_inb i k) (k0_off6_inb i k) (k0_off7_inb i k) (k0_off8_inb i k) H0 H1 H2 H3 a

/-- The body but for its first and last conditional; `fin` is what follows. -/
def middle (fin : Prog (TpuEff nD τ sig (Elt F) Λ₀ .tc) PUnit) : Prog (TpuEff nD τ sig (Elt F) Λ₀ .tc) PUnit := do
  let H0 : Head F ← prep arg2 arg5 arg6 arg8 arg7 arg13 harg13 0 0 inb_S128x512_S128x128_0_0
    packedbf16_S128x512_S128x128_0_0 inb_S4x128x128_S1x128x128_0_0_0
  let H1 : Head F ← prep arg2 arg5 arg6 arg8 arg7 arg13 harg13 128 1 inb_S128x512_S128x128_0_128
    packedbf16_S128x512_S128x128_0_128 inb_S4x128x128_S1x128x128_1_0_0
  let H2 : Head F ← prep arg2 arg5 arg6 arg8 arg7 arg13 harg13 256 2 inb_S128x512_S128x128_0_256
    packedbf16_S128x512_S128x128_0_256 inb_S4x128x128_S1x128x128_2_0_0
  let H3 : Head F ← prep arg2 arg5 arg6 arg8 arg7 arg13 harg13 384 3 inb_S128x512_S128x128_0_384
    packedbf16_S128x512_S128x128_0_384 inb_S4x128x128_S1x128x128_3_0_0
  let a : Carries F ← loop1 i arg3 arg4 arg10 arg11 triAfter triBefore H0 H1 H2 H3 (zeros _)
  let a : Carries F ← loop2 i arg3 arg4 arg10 arg11 triAfter triBefore H0 H1 H2 H3 a
  let b : Carries F ← fourHeads (masked i) triAfter triBefore arg3 arg4 arg10 arg11 (k0_off9 i) (k0_off10 i) (k0_off11 i)
    (k0_off12 i) (k0_off9_inb i) (k0_off10_inb i) (k0_off11_inb i) (k0_off12_inb i) H0 H1 H2 H3 a
  putDq arg9 0 inb_S128x512_S128x128_0_0 b.1
  putDq arg9 128 inb_S128x512_S128x128_0_128 b.2.2.2.1
  putDq arg9 256 inb_S128x512_S128x128_0_256 b.2.2.2.2.2.2.1
  putDq arg9 384 inb_S128x512_S128x128_0_384 b.2.2.2.2.2.2.2.2.2.1
  fin

/-- The whole body. -/
def sbBody : Prog (TpuEff nD τ sig (Elt F) Λ₀ .tc) PUnit :=
  let rest := middle i arg2 arg3 arg4 arg5 arg6 arg7 arg8 arg9 arg10 arg11 arg13 harg13
    (if _ : k0_cond2 i = 1#1 then handOut arg11 arg12 harg12 else pure ⟨⟩)
  if _ : isFirst i = 1#1 then clear i arg10 arg11 >>= fun _ => rest else rest

/-- The printed body's stretch after its loops. -/
def closing (a1 v16 : BitVec 32) (q : Vec F S128x128 .bf16) (b : Carries F) :
    Prog (TpuEff nD τ sig (Elt F) Λ₀ .tc) (Σ' (_ : FVec F S128x128 .f32) (_ : FVec F S128x1 .f32) (_ : FVec F S128x1 .f32)
      (_ : FVec F S128x128 .f32) (_ : FVec F S128x1 .f32) (_ : FVec F S128x1 .f32) (_ : FVec F S128x128 .f32)
      (_ : FVec F S128x1 .f32) (_ : FVec F S128x1 .f32) (_ : FVec F S128x128 .f32) (_ : FVec F S128x1 .f32)
      (_ : FVec F S128x1 .f32) (_ : BitVec 32) (_ : IVec S128x1024 1) (_ : Vec F S1024x128 .bf16) (_ : Vec F S1024x128 .bf16)
      (_ : FVec F S128x1024 .f32) (_ : FVec F S128x1024 .f32), FVec F S128x1024 .f32) := do
  let k : Vec F S1024x128 .bf16 ← Prog.lift (.load arg3 (blk (k0_off9 i) (k0_off9_inb i)).toLoadRect (View.loadsAt_vmem h_S1024x128))
  let v : Vec F S1024x128 .bf16 ← Prog.lift (.load arg4 (blk (k0_off9 i) (k0_off9_inb i)).toLoadRect (View.loadsAt_vmem h_S1024x128))
  pure ⟨b.1, b.2.1, b.2.2.1, b.2.2.2.1, b.2.2.2.2.1, b.2.2.2.2.2.1, b.2.2.2.2.2.2.1, b.2.2.2.2.2.2.2.1, b.2.2.2.2.2.2.2.2.1,
    b.2.2.2.2.2.2.2.2.2.1, b.2.2.2.2.2.2.2.2.2.2.1, b.2.2.2.2.2.2.2.2.2.2.2, Scalar.muli v16 1024#32,
    cmpi .slt (addi (iota .tc S128x1024 32 [1] iota_S128x1024_d1_w32) (broadcast S128x1024 (Scalar.muli v16 1024#32)))
      (addi (iota .tc S128x1024 32 [0] iota_S128x1024_d0_w32) (broadcast S128x1024 (Scalar.muli a1 128#32))),
    k, v, logSig (score q k), subf (logSig (score q k)) (score q k), zeros _⟩

set_option maxRecDepth 65536 in
theorem part43_eq (a1 v16 : BitVec 32) (after before d0 q0 t0 d1 q1 t1 d2 q2 t2 d3 q3 t3 z) :
    k0_part43 (F := F) i arg2 harg2 arg3 harg3 arg4 harg4 arg5 harg5 arg6 harg6 arg7 harg7 arg8 harg8 arg9 harg9
        arg10 harg10 arg11 harg11 arg12 harg12 arg13 harg13 a1 v16 after before d0 q0 t0 d1 q1 t1 d2 q2 t2 d3 q3 t3 z
      = loop1 i arg3 arg4 arg10 arg11 after before ⟨d0, q0, t0⟩ ⟨d1, q1, t1⟩ ⟨d2, q2, t2⟩ ⟨d3, q3, t3⟩ z >>= fun a =>
          loop2 i arg3 arg4 arg10 arg11 after before ⟨d0, q0, t0⟩ ⟨d1, q1, t1⟩ ⟨d2, q2, t2⟩ ⟨d3, q3, t3⟩ a >>= fun b =>
            closing i arg3 arg4 a1 v16 q0 b := by
  sl_kernel_rfl

theorem part43_bind (a1 v16 : BitVec 32) (after before d0 q0 t0 d1 q1 t1 d2 q2 t2 d3 q3 t3 z) {α : Type}
    (K : _ → Prog (TpuEff nD τ sig (Elt F) Λ₀ .tc) α) :
    (k0_part43 (F := F) i arg2 harg2 arg3 harg3 arg4 harg4 arg5 harg5 arg6 harg6 arg7 harg7 arg8 harg8 arg9 harg9
        arg10 harg10 arg11 harg11 arg12 harg12 arg13 harg13 a1 v16 after before d0 q0 t0 d1 q1 t1 d2 q2 t2 d3 q3 t3 z >>= K)
      = loop1 i arg3 arg4 arg10 arg11 after before ⟨d0, q0, t0⟩ ⟨d1, q1, t1⟩ ⟨d2, q2, t2⟩ ⟨d3, q3, t3⟩ z >>= fun a =>
          loop2 i arg3 arg4 arg10 arg11 after before ⟨d0, q0, t0⟩ ⟨d1, q1, t1⟩ ⟨d2, q2, t2⟩ ⟨d3, q3, t3⟩ a >>= fun b =>
            closing i arg3 arg4 a1 v16 q0 b >>= K := by
  rw [part43_eq]; simp only [bind_assoc]

/-- The printed body's first stretch, after its conditional. -/
def opening : Prog (TpuEff nD τ sig (Elt F) Λ₀ .tc) (Σ' (_ : BitVec 32) (_ : BitVec 32) (_ : FVec F S128x128 .bf16)
    (_ : FVec F S128x128 .bf16) (_ : Vec F S128x128 .f32), FVec F S128x128 .f32) := do
  let g : Vec F S128x128 .f32 ← Prog.lift (.load arg5 (lane 0 inb_S128x512_S128x128_0_0).toLoadRect (View.loadsAt_vmem h_S128x128))
  pure ⟨BitVec.ofNat 32 (i 1).val, wideNo i, triAfter, triBefore, g, addf (ones _) (exp (subf (zeros _) g))⟩

set_option maxRecDepth 65536 in
theorem part39_eq :
    k0_part39 (F := F) i arg2 harg2 arg3 harg3 arg4 harg4 arg5 harg5 arg6 harg6 arg7 harg7 arg8 harg8 arg9 harg9
        arg10 harg10 arg11 harg11 arg12 harg12 arg13 harg13
      = if _ : isFirst i = 1#1 then clear i arg10 arg11 >>= fun _ => opening i arg5 else opening i arg5 := by
  sl_kernel_rfl

set_option maxRecDepth 65536 in
theorem body_eq :
    cc0_sb_bwd_3 (F := F) i arg2 harg2 arg3 harg3 arg4 harg4 arg5 harg5 arg6 harg6 arg7 harg7 arg8 harg8 arg9 harg9
        arg10 harg10 arg11 harg11 arg12 harg12 arg13 harg13
      = sbBody i arg2 arg3 arg4 arg5 arg6 arg7 arg8 arg9 arg10 arg11 arg12 harg12 arg13 harg13 := by
  unfold cc0_sb_bwd_3
  simp only [part43_bind]
  have e (h : isFirst i = 1#1) := (part39_eq (F := F) i arg2 harg2 arg3 harg3 arg4 harg4 arg5 harg5 arg6 harg6 arg7 harg7 arg8
    harg8 arg9 harg9 arg10 harg10 arg11 harg11 arg12 harg12 arg13 harg13).trans (dif_pos h)
  have e' (h : ¬ isFirst i = 1#1) := (part39_eq (F := F) i arg2 harg2 arg3 harg3 arg4 harg4 arg5 harg5 arg6 harg6 arg7 harg7
    arg8 harg8 arg9 harg9 arg10 harg10 arg11 harg11 arg12 harg12 arg13 harg13).trans (dif_neg h)
  by_cases h : isFirst i = 1#1
  · refine Eq.trans ?_ (dif_pos h).symm
    refine (congrArg (fun p => p >>= _) (e h)).trans ?_
    sl_kernel_rfl
  · refine Eq.trans ?_ (dif_neg h).symm
    refine (congrArg (fun p => p >>= _) (e' h)).trans ?_
    sl_kernel_rfl
end

end Cert.SbClaims

end
-- ==== Proof.SbWp.lean ====
module

public import proofs.«01_k».proof.Proof.SbBody
public import proofs.«01_k».proof.Proof.Gen.SbKernelIdeal.Frame

/-! What the gradient kernel's body does to the arrays it is given: each stretch of the body as a function of the
    contents, and the rule that says the stretch computes it. -/

@[expose] public section

set_option maxRecDepth 16384

noncomputable section

namespace Cert.SbClaims

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.SbKernelIdeal Cert.SbKernelIdeal.Gen

variable {F : FTy → Type} [FloatOps F]

local notation "𝕄" => MT nD τ sig Unit (Elt F) ℕ (UR sig nD τ) ℕ

/-! ## A load and a store of a part of an owned array -/

section
variable (c : Dev nD) (E : Set ℕ) {sp : CoreSpace} {s : Shape} {e : EltTy} (a : Memref sig .tc sp s e)

theorem load_part {α : Type} {Q : α → sProp 𝕄} (q : PosShare TreeShare) (r : Rect s) {hl : a.view.LoadsAt r.toLoadRect}
    (X : s.Idx → Elt F e) (k : (r.shape.Idx → Elt F e) → Prog (TpuEff nD τ sig (Elt F) Λ₀ .tc) α) :
    owns (c : Thread nD τ) a q X
      ⊢ iprop((owns (c : Thread nD τ) a q X
          -∗ wp frame (wpE (defs₀ (F := F)) Variants.none c none) E (k (fun j => X (r.emb j))) Q)
        -∗ wp frame (wpE (defs₀ (F := F)) Variants.none c none) E (Prog.lift (.load a r.toLoadRect hl) >>= k) Q) := by
  unfold owns
  iintro ⟨%f, %hf, H⟩ Hk
  subst hf
  iapply (wp_load_rect (defs := defs₀ (F := F)) (m := a) (r := r) (hl := hl) (k := k) Variants.none (c : Thread nD τ) none E
    (S := a.view.set) (View.set_slice_subset _ _)) $$ H
  iintro H
  iapply Hk
  iexists f; isplitr
  · ipureintro; rfl
  · iexact H

theorem store_part {α : Type} {Q : α → sProp 𝕄} (r : Rect s) (w : r.shape.Idx → Elt F e)
    {hx : (a.access r).Stores Finset.univ} {hm : (Finset.univ : Finset r.shape.Idx) = Finset.univ ∨ ∀ a, r.stride a = 1}
    (X : s.Idx → Elt F e) (k : PUnit → Prog (TpuEff nD τ sig (Elt F) Λ₀ .tc) α) :
    owns (c : Thread nD τ) a fullShare X
      ⊢ iprop((owns (c : Thread nD τ) a fullShare (r.overlay X w)
          -∗ wp frame (wpE (defs₀ (F := F)) Variants.none c none) E (k ⟨⟩) Q)
        -∗ wp frame (wpE (defs₀ (F := F)) Variants.none c none) E (Prog.lift (.store a r w Finset.univ hx hm) >>= k) Q) := by
  unfold owns
  iintro ⟨%f, %hf, H⟩ Hk
  subst hf
  iapply (wp_store (defs := defs₀ (F := F)) (m := a) (r := r) (w := w) (hx := hx) (hm := hm) (k := k) Variants.none
    (c : Thread nD τ) none E (S := a.view.set) ((View.setOn_univ _).trans_subset (View.set_slice_subset _ _))) $$ H
  iintro H
  iapply Hk
  iexists _; isplitr; swap
  · iexact H
  · ipureintro
    funext j
    by_cases hj : j ∈ r.set
    · obtain ⟨x, rfl⟩ := r.exists_idx_of_mem hj
      change _ = r.overlay _ w (r.emb x)
      rw [Rect.overlay_emb]
      exact View.read_slice_write_emb (v := a.view) r f w (Finset.mem_univ x)
    · rw [Rect.overlay_of_not_mem _ _ _ hj]
      exact View.read_slice_write_of_not_mem (v := a.view) r f w _ (by rw [Rect.map_emb_univ]; exact hj)
end

/-! ## One head over one wide tile -/

theorem tile_inb (n : Fin 2) (h : Fin 4) (a : Fin 2) :
    (![1024 * n.val, 128 * h.val] : Fin 2 → ℕ) a + S1024x128.size a ≤ S2048x512.size a := by
  revert n h a; decide

/-- Rows `1024 n …` of head `h`. -/
abbrev tile (n : Fin 2) (h : Fin 4) : Rect S2048x512 := blk ![1024 * n.val, 128 * h.val] (tile_inb n h)

/-- The part of a staged array under `tile n h`. -/
def rowsOf {α : Type} (n : Fin 2) (h : Fin 4) (X : S2048x512.Idx → α) : S1024x128.Idx → α := fun j => X ((tile n h).emb j)

/-- The gradients of the keys and of the values. -/
abbrev Grads (F : FTy → Type) [FloatOps F] := Vec F S2048x512 .f32 × Vec F S2048x512 .f32

section
variable (mk : FVec F S128x1024 .f32 → FVec F S128x1024 .f32) (X3 X4 : Vec F S2048x512 .bf16) (n : Fin 2)

/-- What head `h` carries on from wide tile `n`, -/
def stepC (h : Fin 4) (H : Head F) (a : Carry F) : Carry F :=
  (dqTile mk triAfter triBefore H (rowsOf n h X3) (rowsOf n h X4) a.2.1 a.2.2 a.1, carried (logRest mk H (rowsOf n h X3)) a.2.1 8,
    carried (ea mk triAfter H (rowsOf n h X3) (rowsOf n h X4) a.2.1) a.2.2 8)

/-- and what it makes of the gradients. -/
def stepG (h : Fin 4) (H : Head F) (a : Carry F) (G : Grads F) : Grads F :=
  ((tile n h).overlay G.1 (dkTile mk triAfter triBefore H (rowsOf n h X3) (rowsOf n h X4) a.2.1 a.2.2 (rowsOf n h G.1)),
    (tile n h).overlay G.2 (dvTile mk triAfter H (rowsOf n h X3) a.2.1 (rowsOf n h G.2)))

variable (c : Dev nD) (E : Set ℕ)

/-- Keys, values and their gradients owned. -/
def held (arg3 arg4 : Memref sig .tc .vmem S2048x512 .bf16) (arg10 arg11 : Memref sig .tc .vmem S2048x512 .f32)
    (X3 X4 : Vec F S2048x512 .bf16) (G : Grads F) : sProp 𝕄 :=
  iprop(owns (c : Thread nD τ) arg3 fullShare X3 ∗ owns (c : Thread nD τ) arg4 fullShare X4
    ∗ owns (c : Thread nD τ) arg10 fullShare G.1 ∗ owns (c : Thread nD τ) arg11 fullShare G.2)

variable (arg3 arg4 : Memref sig .tc .vmem S2048x512 .bf16) (arg10 arg11 : Memref sig .tc .vmem S2048x512 .f32)

theorem headStep_spec {α : Type} {Q : α → sProp 𝕄} (h : Fin 4) (off : Fin 2 → ℕ)
    (hoff : ∀ a, off a + S1024x128.size a ≤ S2048x512.size a) (e : off = ![1024 * n.val, 128 * h.val]) (H : Head F)
    (a : Carry F) (G : Grads F) (k : Carry F → Prog (TpuEff nD τ sig (Elt F) Λ₀ .tc) α) :
    held c arg3 arg4 arg10 arg11 X3 X4 G
      ⊢ iprop((held c arg3 arg4 arg10 arg11 X3 X4 (stepG mk X3 X4 n h H a G)
          -∗ wp frame (wpE (defs₀ (F := F)) Variants.none c none) E (k (stepC mk X3 X4 n h H a)) Q)
        -∗ wp frame (wpE (defs₀ (F := F)) Variants.none c none) E
          (headStep mk triAfter triBefore off hoff arg3 arg4 arg10 arg11 H a >>= k) Q) := by
  subst e
  unfold held headStep
  simp only [bind_assoc, pure_bind, stepG, stepC]
  unfold rowsOf tile
  iintro ⟨H3, H4, H10, H11⟩ Hk
  iapply (load_part c E arg3 _ _ X3) $$ H3; iintro H3
  iapply (load_part c E arg4 _ _ X4) $$ H4; iintro H4
  iapply (load_part c E arg11 _ _ _) $$ H11; iintro H11
  iapply (load_part c E arg11 _ _ _) $$ H11; iintro H11
  iapply (store_part c E arg11 _ _ _) $$ H11; iintro H11
  iapply (load_part c E arg10 _ _ _) $$ H10; iintro H10
  iapply (load_part c E arg10 _ _ _) $$ H10; iintro H10
  iapply (store_part c E arg10 _ _ _) $$ H10; iintro H10
  iapply Hk
  isplitl [H3]; · iexact H3
  isplitl [H4]; · iexact H4
  isplitl [H10]; · iexact H10
  iexact H11

/-! ## Four heads -/

/-- Four heads' carried values as the printed body carries them. -/
def pack (a : Fin 4 → Carry F) : Carries F := joinC (a 0) (a 1) (a 2) (a 3)

def fourC (H : Fin 4 → Head F) (a : Fin 4 → Carry F) : Fin 4 → Carry F := fun h => stepC mk X3 X4 n h (H h) (a h)

def fourG (H : Fin 4 → Head F) (a : Fin 4 → Carry F) (G : Grads F) : Grads F :=
  stepG mk X3 X4 n 3 (H 3) (a 3) (stepG mk X3 X4 n 2 (H 2) (a 2) (stepG mk X3 X4 n 1 (H 1) (a 1) (stepG mk X3 X4 n 0 (H 0) (a 0) G)))

theorem fourHeads_spec {α : Type} {Q : α → sProp 𝕄} {off0 off1 off2 off3 : Fin 2 → ℕ}
    (h0 : ∀ a, off0 a + S1024x128.size a ≤ S2048x512.size a) (h1 : ∀ a, off1 a + S1024x128.size a ≤ S2048x512.size a)
    (h2 : ∀ a, off2 a + S1024x128.size a ≤ S2048x512.size a) (h3 : ∀ a, off3 a + S1024x128.size a ≤ S2048x512.size a)
    (e : ∀ h : Fin 4, (![off0, off1, off2, off3] : Fin 4 → _) h = ![1024 * n.val, 128 * h.val])
    (H : Fin 4 → Head F) (a : Fin 4 → Carry F) (G : Grads F) (k : Carries F → Prog (TpuEff nD τ sig (Elt F) Λ₀ .tc) α) :
    held c arg3 arg4 arg10 arg11 X3 X4 G
      ⊢ iprop((held c arg3 arg4 arg10 arg11 X3 X4 (fourG mk X3 X4 n H a G)
          -∗ wp frame (wpE (defs₀ (F := F)) Variants.none c none) E (k (pack (fourC mk X3 X4 n H a))) Q)
        -∗ wp frame (wpE (defs₀ (F := F)) Variants.none c none) E
          (fourHeads mk triAfter triBefore arg3 arg4 arg10 arg11 off0 off1 off2 off3 h0 h1 h2 h3 (H 0) (H 1) (H 2) (H 3) (pack a)
            >>= k) Q) := by
  unfold fourHeads
  simp only [pack, joinC, bind_assoc, pure_bind]
  iintro HR Hk
  iapply (headStep_spec mk X3 X4 n c E arg3 arg4 arg10 arg11 0 _ h0 (e 0) _ _ _) $$ HR; iintro HR
  iapply (headStep_spec mk X3 X4 n c E arg3 arg4 arg10 arg11 1 _ h1 (e 1) _ _ _) $$ HR; iintro HR
  iapply (headStep_spec mk X3 X4 n c E arg3 arg4 arg10 arg11 2 _ h2 (e 2) _ _ _) $$ HR; iintro HR
  iapply (headStep_spec mk X3 X4 n c E arg3 arg4 arg10 arg11 3 _ h3 (e 3) _ _ _) $$ HR; iintro HR
  iapply Hk
  iexact HR
end

end Cert.SbClaims

end
-- ==== Proof.SbPoint.lean ====
module

public import proofs.«01_k».proof.Proof.SbWp
public import Idealize.ShloMosaic.Lib.Pointwise

/-! The gradient kernel's body at one grid point: the arrays it leaves as functions of the arrays it finds. -/

@[expose] public section

set_option maxRecDepth 16384

noncomputable section

namespace Cert.SbClaims

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.SbKernelIdeal Cert.SbKernelIdeal.Gen

variable {F : FTy → Type} [FloatOps F]

local notation "𝕄" => MT nD τ sig Unit (Elt F) ℕ (UR sig nD τ) ℕ

/-! ## The grid's coordinates in the printed offsets -/

/-- The number of the wide tile that holds the diagonal. -/
def wide (i : grid0.Coords) : Fin 2 := ⟨(i 1).val / 8, by have := (i 1).isLt; change (i 1).val < 16 at this; omega⟩

theorem trips1 : ∀ i : grid0.Coords, (k0_t1_loop i).trips = (wide i).val := by decide +kernel
theorem trips2 : ∀ i : grid0.Coords, (k0_t2_loop i).trips = 0 := by decide +kernel

theorem offs_loop : ∀ (i : grid0.Coords) (n : Fin (k0_t1_loop i).trips) (h : Fin 4),
    (![k0_off1 i n, k0_off2 i n, k0_off3 i n, k0_off4 i n] : Fin 4 → Fin 2 → ℕ) h = ![1024 * n.val, 128 * h.val] := by
  decide +kernel

theorem offs_last : ∀ (i : grid0.Coords) (h : Fin 4),
    (![k0_off9 i, k0_off10 i, k0_off11 i, k0_off12 i] : Fin 4 → Fin 2 → ℕ) h = ![1024 * (wide i).val, 128 * h.val] := by
  decide +kernel

theorem wideNo_eq : ∀ i : grid0.Coords, wideNo i = BitVec.ofNat 32 (wide i).val := by decide +kernel
theorem isFirst_iff : ∀ i : grid0.Coords, isFirst i = 1#1 ↔ (i 1).val = 0 := by decide +kernel
theorem isLast_iff : ∀ i : grid0.Coords, k0_cond2 i = 1#1 ↔ (i 1).val = 15 := by decide +kernel

/-! ## The wide tiles before the diagonal -/

section
variable (X3 X4 : Vec F S2048x512 .bf16) (H : Fin 4 → Head F)

/-- What the heads carry after `n` wide tiles, -/
def runC (n : ℕ) : Fin 4 → Carry F :=
  Nat.rec (fun _ => (zeros _, zeros _, zeros _)) (fun n a => fourC (fun x => x) X3 X4 (Fin.ofNat 2 n) H a) n

/-- and what they have made of the gradients. -/
def runG (G : Grads F) (n : ℕ) : Grads F :=
  Nat.rec G (fun n G => fourG (fun x => x) X3 X4 (Fin.ofNat 2 n) H (runC X3 X4 H n) G) n

variable (i : grid0.Coords) (c : Dev nD) (E : Set ℕ)
  (arg3 arg4 : Memref sig .tc .vmem S2048x512 .bf16) (arg10 arg11 : Memref sig .tc .vmem S2048x512 .f32)

theorem loop1_spec {α : Type} {Q : α → sProp 𝕄} (G : Grads F) (k : Carries F → Prog (TpuEff nD τ sig (Elt F) Λ₀ .tc) α) :
    held c arg3 arg4 arg10 arg11 X3 X4 G
      ⊢ iprop((held c arg3 arg4 arg10 arg11 X3 X4 (runG X3 X4 H G (wide i).val)
          -∗ wp frame (wpE (defs₀ (F := F)) Variants.none c none) E (k (pack (runC X3 X4 H (wide i).val))) Q)
        -∗ wp frame (wpE (defs₀ (F := F)) Variants.none c none) E
          (loop1 i arg3 arg4 arg10 arg11 triAfter triBefore (H 0) (H 1) (H 2) (H 3) (zeros _) >>= k) Q) := by
  unfold loop1
  iintro HR Hk
  iapply (Scf.wp_for_bind frame (wpE (defs₀ (F := F)) Variants.none c none) E _ _ _ (k0_t1_ok i)
    (zeros S128x128, zeros S128x1, zeros S128x1, zeros S128x128, zeros S128x1, zeros S128x1, zeros S128x128, zeros S128x1,
      zeros S128x1, zeros S128x128, zeros S128x1, zeros S128x1) _
    (fun n a => iprop(⌜a = pack (runC X3 X4 H n)⌝ ∗ held c arg3 arg4 arg10 arg11 X3 X4 (runG X3 X4 H G n))) ?_) $$ [HR]
  case _ =>
    intro n a
    iintro ⟨%ha, HR⟩
    subst ha
    have hlt : n.val < (wide i).val := lt_of_lt_of_eq n.isLt (trips1 i)
    have hn : (Fin.ofNat 2 n.val).val = n.val := Nat.mod_eq_of_lt (hlt.trans (wide i).isLt)
    have hs := fourHeads_spec (Q := fun a => iprop(⌜a = pack (runC X3 X4 H (n.val + 1))⌝
        ∗ held c arg3 arg4 arg10 arg11 X3 X4 (runG X3 X4 H G (n.val + 1)))) (fun x => x) X3 X4 (Fin.ofNat 2 n.val) c E
      arg3 arg4 arg10 arg11 (k0_off1_inb i n) (k0_off2_inb i n) (k0_off3_inb i n) (k0_off4_inb i n)
      (by rw [hn]; exact offs_loop i n) H (runC X3 X4 H n.val) (runG X3 X4 H G n.val) pure
    rw [bind_pure] at hs
    iapply hs $$ HR
    iintro HR
    rw [wp_pure]
    imodintro
    isplitr
    · ipureintro; rfl
    · iexact HR
  · isplitr
    · ipureintro; rfl
    · iexact HR
  · iintro %a ⟨%ha, HR⟩
    subst ha
    have e : Scf.trips (k0_t1_loop i).lb (k0_t1_loop i).ub (k0_t1_loop i).st = (wide i).val := trips1 i
    rw [e]
    iapply Hk
    iexact HR

theorem loop2_eq {α : Type} (after before : FVec F S128x128 .bf16) (H0 H1 H2 H3 : Head F) (a : Carries F)
    (k : Carries F → Prog (TpuEff nD τ sig (Elt F) Λ₀ .tc) α) :
    (loop2 i arg3 arg4 arg10 arg11 after before H0 H1 H2 H3 a >>= k) = k a := by
  unfold loop2
  have e : Scf.trips (k0_t2_loop i).lb (k0_t2_loop i).ub (k0_t2_loop i).st = 0 := trips2 i
  have hl : List.finRange (Scf.trips (k0_t2_loop i).lb (k0_t2_loop i).ub (k0_t2_loop i).st) = [] := by
    rw [← List.length_eq_zero_iff, List.length_finRange]; exact e
  refine (congrArg (· >>= k) (Scf.for_eq _ _ _ _ _ _)).trans ?_
  rw [hl, Scf.forFrom_nil]
  exact pure_bind _ _
end

/-! ## The lanes of one head -/

theorem lane_inb (h : Fin 4) (a : Fin 2) : (![0, 128 * h.val] : Fin 2 → ℕ) a + S128x128.size a ≤ S128x512.size a := by
  revert h a; decide

theorem plane_inb (h : Fin 4) (a : Fin 3) : (![h.val, 0, 0] : Fin 3 → ℕ) a + S1x128x128.size a ≤ S4x128x128.size a := by
  revert h a; decide

def lanesOf {α : Type} (h : Fin 4) (X : S128x512.Idx → α) : S128x128.Idx → α := fun j => X ((lane (128 * h.val) (lane_inb h)).emb j)

def planeOf {α : Type} (h : Fin 4) (X : S4x128x128.Idx → α) : S1x128x128.Idx → α :=
  fun j => X ((Rect.unit (s := S4x128x128) ![h.val, 0, 0] S1x128x128.size (plane_inb h)).emb j)

/-- Four heads' tiles side by side. -/
def beside {α : Type} (f : Fin 4 → S128x128.Idx → α) : S128x512.Idx → α := fun j =>
  f ⟨(j 1).val / 128, by have := (j 1).isLt; change (j 1).val < 512 at this; omega⟩
    (ix2 (n0 := 128) (n1 := 128) (j 0) ⟨(j 1).val % 128, Nat.mod_lt _ (by norm_num)⟩)

theorem lane_overlay {α : Type} (h : Fin 4) (X : S128x512.Idx → α) (w : S128x128.Idx → α) (j : S128x512.Idx) :
    (lane (128 * h.val) (lane_inb h)).overlay X w j
      = if (j 1).val / 128 = h.val then w (ix2 (n0 := 128) (n1 := 128) (j 0) ⟨(j 1).val % 128, Nat.mod_lt _ (by norm_num)⟩) else X j := by
  split
  · next e =>
    have : (lane (128 * h.val) (lane_inb h)).emb (ix2 (n0 := 128) (n1 := 128) (j 0) ⟨(j 1).val % 128, Nat.mod_lt _ (by norm_num)⟩) = j := by
      refine Rect.emb_eq_of_coords _ _ _ fun a => ?_
      match a with
      | 0 => change (j 0).val = 0 + 1 * (j 0).val; omega
      | 1 => change (j 1).val = 128 * h.val + 1 * ((j 1).val % 128); omega
    conv_lhs => rw [← this]
    exact Rect.overlay_emb _ _ _ _
  · next e =>
    refine Rect.overlay_of_not_mem _ _ _ (Rect.not_mem_set_of_axis _ j 1 (128 * h.val) 128 rfl rfl rfl ?_)
    omega

theorem overlay_beside {α : Type} (X : S128x512.Idx → α) (f : Fin 4 → S128x128.Idx → α) :
    (lane 384 (lane_inb 3)).overlay ((lane 256 (lane_inb 2)).overlay ((lane 128 (lane_inb 1)).overlay
      ((lane 0 (lane_inb 0)).overlay X (f 0)) (f 1)) (f 2)) (f 3) = beside f := by
  funext j
  have hj : (j 1).val < 512 := (j 1).isLt
  have h3 := lane_overlay (α := α) 3
  have h2 := lane_overlay (α := α) 2
  have h1 := lane_overlay (α := α) 1
  have h0 := lane_overlay (α := α) 0
  refine (h3 _ _ j).trans ?_
  unfold beside
  by_cases e3 : (j 1).val / 128 = 3
  · simp only [Fin.isValue, Fin.val_ofNat, e3]; rfl
  rw [if_neg (by exact e3)]
  refine (h2 _ _ j).trans ?_
  by_cases e2 : (j 1).val / 128 = 2
  · simp only [Fin.isValue, Fin.val_ofNat, e2]; rfl
  rw [if_neg (by exact e2)]
  refine (h1 _ _ j).trans ?_
  by_cases e1 : (j 1).val / 128 = 1
  · simp only [Fin.isValue, Fin.val_ofNat, e1]; rfl
  rw [if_neg (by exact e1)]
  refine (h0 _ _ j).trans ?_
  have e0 : (j 1).val / 128 = 0 := by omega
  simp only [Fin.isValue, Fin.val_ofNat, e0]; rfl

theorem overlay_full {α : Type} (X w : S2048x512.Idx → α) : full.overlay X w = w := by
  funext j
  have : full.emb (fun a => j a) = j := by
    refine Rect.emb_eq_of_coords _ _ _ fun a => ?_
    match a with
    | 0 => change (j 0).val = 0 + 1 * (j 0).val; omega
    | 1 => change (j 1).val = 0 + 1 * (j 1).val; omega
  conv_lhs => rw [← this]
  exact Rect.overlay_emb _ _ _ _

theorem read_full {α : Type} (X : S2048x512.Idx → α) : (fun j => X (full.emb j)) = X := by
  funext j
  refine congrArg X (Rect.emb_eq_of_coords _ _ _ fun a => ?_)
  match a with
  | 0 => change (j 0).val = 0 + 1 * (j 0).val; omega
  | 1 => change (j 1).val = 0 + 1 * (j 1).val; omega

/-! ## The body's other stretches -/

section
variable (c : Dev nD) (E : Set ℕ) (arg2 : Memref sig .tc .vmem S128x512 .bf16) (arg5 arg6 arg8 : Memref sig .tc .vmem S128x512 .f32)
  (arg7 : Memref sig .tc .vmem S4x128x128 .f32) (arg9 : Memref sig .tc .vmem S128x512 .f32)
  (arg10 arg11 : Memref sig .tc .vmem S2048x512 .f32) (arg12 : Memref sig .tc .vmem S2048x512 .bf16) (harg12 : arg12.IsWhole)
  (arg13 : Memref sig .tc .vmem S128x512 .bf16) (harg13 : arg13.IsWhole)
  (X2 : Vec F S128x512 .bf16) (X5 X6 X8 : Vec F S128x512 .f32) (X7 : Vec F S4x128x128 .f32)

/-- What head `h` takes to the wide tiles. -/
def headAt (h : Fin 4) : Head F :=
  ⟨doTile (lanesOf h X5) (lanesOf h X8), lanesOf h X2, totCol (planeOf h X7)⟩

/-- The gradient of head `h`'s gate. -/
def dgAt (h : Fin 4) : FVec F S128x128 .bf16 := dgTile (lanesOf h X5) (lanesOf h X8) (lanesOf h X6)

/-- What a head's preparation reads, owned. -/
def given : sProp 𝕄 :=
  iprop(owns (c : Thread nD τ) arg2 fullShare X2 ∗ owns (c : Thread nD τ) arg5 fullShare X5
    ∗ owns (c : Thread nD τ) arg6 fullShare X6 ∗ owns (c : Thread nD τ) arg8 fullShare X8 ∗ owns (c : Thread nD τ) arg7 fullShare X7)

theorem prep_spec {α : Type} {Q : α → sProp 𝕄} (h : Fin 4) (n m : ℕ) (hn : n = 128 * h.val) (hm : m = h.val)
    (hl : ∀ a, (![0, n] : Fin 2 → ℕ) a + S128x128.size a ≤ S128x512.size a)
    (hp : (lane n hl).PackedRows (EltTy.packing .bf16))
    (hq : ∀ a, (![m, 0, 0] : Fin 3 → ℕ) a + S1x128x128.size a ≤ S4x128x128.size a) (X13 : Vec F S128x512 .bf16)
    (k : Head F → Prog (TpuEff nD τ sig (Elt F) Λ₀ .tc) α) :
    iprop(given c arg2 arg5 arg6 arg8 arg7 X2 X5 X6 X8 X7 ∗ owns (c : Thread nD τ) arg13 fullShare X13)
      ⊢ iprop((iprop(given c arg2 arg5 arg6 arg8 arg7 X2 X5 X6 X8 X7
            ∗ owns (c : Thread nD τ) arg13 fullShare ((lane n hl).overlay X13 (dgAt X5 X6 X8 h : FVec F S128x128 .bf16)))
          -∗ wp frame (wpE (defs₀ (F := F)) Variants.none c none) E (k (headAt X2 X5 X8 X7 h)) Q)
        -∗ wp frame (wpE (defs₀ (F := F)) Variants.none c none) E
          (prep arg2 arg5 arg6 arg8 arg7 arg13 harg13 n m hl hp hq >>= k) Q) := by
  subst hn hm
  unfold given prep
  simp only [bind_assoc, pure_bind]
  unfold headAt dgAt lanesOf planeOf
  iintro ⟨⟨H2, H5, H6, H8, H7⟩, H13⟩ Hk
  iapply (load_part c E arg5 _ _ X5) $$ H5; iintro H5
  iapply (load_part c E arg8 _ _ X8) $$ H8; iintro H8
  iapply (load_part c E arg6 _ _ X6) $$ H6; iintro H6
  iapply (load_part c E arg13 _ _ _) $$ H13; iintro H13
  iapply (store_part c E arg13 _ _ _) $$ H13; iintro H13
  iapply (load_part c E arg2 _ _ X2) $$ H2; iintro H2
  iapply (load_part c E arg7 _ _ X7) $$ H7; iintro H7
  iapply Hk
  isplitr [H13]
  · isplitl [H2]; · iexact H2
    isplitl [H5]; · iexact H5
    isplitl [H6]; · iexact H6
    isplitl [H8]; · iexact H8
    iexact H7
  · iexact H13

theorem putDq_spec {α : Type} {Q : α → sProp 𝕄} (n : ℕ)
    (hl : ∀ a, (![0, n] : Fin 2 → ℕ) a + S128x128.size a ≤ S128x512.size a) (x : FVec F S128x128 .f32) (X9 : Vec F S128x512 .f32)
    (k : PUnit → Prog (TpuEff nD τ sig (Elt F) Λ₀ .tc) α) :
    owns (c : Thread nD τ) arg9 fullShare X9
      ⊢ iprop((owns (c : Thread nD τ) arg9 fullShare ((lane n hl).overlay X9 x)
          -∗ wp frame (wpE (defs₀ (F := F)) Variants.none c none) E (k ⟨⟩) Q)
        -∗ wp frame (wpE (defs₀ (F := F)) Variants.none c none) E (putDq arg9 n hl x >>= k) Q) := by
  unfold putDq
  simp only [bind_assoc]
  iintro H Hk
  iapply (load_part c E arg9 _ _ _) $$ H; iintro H
  iapply (store_part c E arg9 _ _ _) $$ H; iintro H
  iapply Hk
  iexact H

theorem clear_spec {α : Type} {Q : α → sProp 𝕄} (i : grid0.Coords) (X Y : Vec F S2048x512 .f32)
    (k : PUnit → Prog (TpuEff nD τ sig (Elt F) Λ₀ .tc) α) :
    iprop(owns (c : Thread nD τ) arg10 fullShare X ∗ owns (c : Thread nD τ) arg11 fullShare Y)
      ⊢ iprop((iprop(owns (c : Thread nD τ) arg10 fullShare (zeros (F := F) S2048x512)
            ∗ owns (c : Thread nD τ) arg11 fullShare (zeros (F := F) S2048x512))
          -∗ wp frame (wpE (defs₀ (F := F)) Variants.none c none) E (k ⟨⟩) Q)
        -∗ wp frame (wpE (defs₀ (F := F)) Variants.none c none) E (clear i arg10 arg11 >>= k) Q) := by
  unfold clear
  simp only [bind_assoc]
  have e (Z : Vec F S2048x512 .f32) := overlay_full Z (zeros (F := F) S2048x512)
  iintro ⟨H, H'⟩ Hk
  iapply (load_part c E arg10 _ _ _) $$ H; iintro H
  iapply (store_part c E arg10 _ _ _) $$ H; iintro H
  iapply (load_part c E arg11 _ _ _) $$ H'; iintro H'
  iapply (store_part c E arg11 _ _ _) $$ H'; iintro H'
  iapply Hk
  rw [e X, e Y]
  isplitl [H]; · iexact H
  iexact H'

/-- The gradient of the values in `bf16`. -/
def dvOut (Y : Vec F S2048x512 .f32) : FVec F S2048x512 .bf16 :=
  truncf .bf16 (shapeCast S2048x512 Y shapeCasts_S2048x512_S2048x512) bitsLt_bf16_f32

theorem handOut_spec {Q : PUnit → sProp 𝕄} (Y : Vec F S2048x512 .f32) (X : Vec F S2048x512 .bf16) :
    iprop(owns (c : Thread nD τ) arg11 fullShare Y ∗ owns (c : Thread nD τ) arg12 fullShare X)
      ⊢ iprop((iprop(owns (c : Thread nD τ) arg11 fullShare Y ∗ owns (c : Thread nD τ) arg12 fullShare (dvOut Y)) -∗ Q ⟨⟩)
        -∗ wp frame (wpE (defs₀ (F := F)) Variants.none c none) E (handOut arg11 arg12 harg12) Q) := by
  have h : handOut arg11 arg12 harg12 = handOut (F := F) arg11 arg12 harg12 >>= pure := (bind_pure _).symm
  rw [h]
  unfold handOut
  simp only [bind_assoc]
  have e (Z : Vec F S2048x512 .f32) := overlay_full X (dvOut Z)
  iintro ⟨H, H'⟩ Hk
  iapply (load_part c E arg11 _ _ _) $$ H; iintro H
  iapply (load_part c E arg12 _ _ _) $$ H'; iintro H'
  iapply (store_part c E arg12 _ _ _) $$ H'; iintro H'
  rw [wp_pure]
  imodintro
  iapply Hk
  rw [read_full Y]
  have e' := e Y
  unfold dvOut at e' ⊢
  rw [e']
  isplitl [H]; · iexact H
  iexact H'
end

/-! ## The body at a grid point -/

section
variable (i : grid0.Coords) (X2 : Vec F S128x512 .bf16) (X3 X4 : Vec F S2048x512 .bf16) (X5 X6 X8 : Vec F S128x512 .f32)
  (X7 : Vec F S4x128x128 .f32) (G : Grads F)

/-- What the heads carry to the wide tile of the diagonal, -/
def beforeC : Fin 4 → Carry F := runC X3 X4 (headAt X2 X5 X8 X7) (wide i).val

/-- the gradient of the queries, -/
def dqOut : Vec F S128x512 .f32 :=
  beside fun h => (fourC (masked i) X3 X4 (wide i) (headAt X2 X5 X8 X7) (beforeC i X2 X3 X4 X5 X8 X7) h).1

/-- the gradient of the gate, -/
def dgOut : Vec F S128x512 .bf16 := beside (dgAt X5 X6 X8)

/-- the gradients of keys and values that a grid point starts from, -/
def startG : Grads F := if (i 1).val = 0 then (zeros S2048x512, zeros S2048x512) else G

/-- and those it leaves. -/
def leftG : Grads F :=
  fourG (masked i) X3 X4 (wide i) (headAt X2 X5 X8 X7) (beforeC i X2 X3 X4 X5 X8 X7)
    (runG X3 X4 (headAt X2 X5 X8 X7) (startG i G) (wide i).val)

variable (c : Dev nD) (E : Set ℕ) (arg2 : Memref sig .tc .vmem S128x512 .bf16)
  (arg3 arg4 : Memref sig .tc .vmem S2048x512 .bf16) (arg5 arg6 arg8 : Memref sig .tc .vmem S128x512 .f32)
  (arg7 : Memref sig .tc .vmem S4x128x128 .f32) (arg9 : Memref sig .tc .vmem S128x512 .f32)
  (arg10 arg11 : Memref sig .tc .vmem S2048x512 .f32)
  (arg13 : Memref sig .tc .vmem S128x512 .bf16) (harg13 : arg13.IsWhole)

theorem middle_spec {Q : PUnit → sProp 𝕄} (X9 : Vec F S128x512 .f32) (X13 : Vec F S128x512 .bf16)
    (fin : Prog (TpuEff nD τ sig (Elt F) Λ₀ .tc) PUnit) :
    iprop(given c arg2 arg5 arg6 arg8 arg7 X2 X5 X6 X8 X7 ∗ held c arg3 arg4 arg10 arg11 X3 X4 (startG i G)
        ∗ owns (c : Thread nD τ) arg9 fullShare X9 ∗ owns (c : Thread nD τ) arg13 fullShare X13)
      ⊢ iprop((iprop(given c arg2 arg5 arg6 arg8 arg7 X2 X5 X6 X8 X7
            ∗ held c arg3 arg4 arg10 arg11 X3 X4 (leftG i X2 X3 X4 X5 X8 X7 G)
            ∗ owns (c : Thread nD τ) arg9 fullShare (dqOut i X2 X3 X4 X5 X8 X7)
            ∗ owns (c : Thread nD τ) arg13 fullShare (dgOut X5 X6 X8))
          -∗ wp frame (wpE (defs₀ (F := F)) Variants.none c none) E fin Q)
        -∗ wp frame (wpE (defs₀ (F := F)) Variants.none c none) E
          (middle i arg2 arg3 arg4 arg5 arg6 arg7 arg8 arg9 arg10 arg11 arg13 harg13 fin) Q) := by
  unfold middle
  simp only [loop2_eq]
  iintro ⟨HR, HG, H9, H13⟩ Hk
  iapply (prep_spec c E arg2 arg5 arg6 arg8 arg7 arg13 harg13 X2 X5 X6 X8 X7 0 0 0 rfl rfl _ _ _ X13 _) $$ [HR H13]
  · isplitl [HR] <;> iassumption
  iintro ⟨HR, H13⟩
  iapply (prep_spec c E arg2 arg5 arg6 arg8 arg7 arg13 harg13 X2 X5 X6 X8 X7 1 128 1 rfl rfl _ _ _ _ _) $$ [HR H13]
  · isplitl [HR] <;> iassumption
  iintro ⟨HR, H13⟩
  iapply (prep_spec c E arg2 arg5 arg6 arg8 arg7 arg13 harg13 X2 X5 X6 X8 X7 2 256 2 rfl rfl _ _ _ _ _) $$ [HR H13]
  · isplitl [HR] <;> iassumption
  iintro ⟨HR, H13⟩
  iapply (prep_spec c E arg2 arg5 arg6 arg8 arg7 arg13 harg13 X2 X5 X6 X8 X7 3 384 3 rfl rfl _ _ _ _ _) $$ [HR H13]
  · isplitl [HR] <;> iassumption
  iintro ⟨HR, H13⟩
  iapply (loop1_spec X3 X4 (headAt X2 X5 X8 X7) i c E arg3 arg4 arg10 arg11 _ _) $$ HG
  iintro HG
  iapply (fourHeads_spec (masked i) X3 X4 (wide i) c E arg3 arg4 arg10 arg11 (k0_off9_inb i) (k0_off10_inb i) (k0_off11_inb i)
    (k0_off12_inb i) (offs_last i) (headAt X2 X5 X8 X7) _ _ _) $$ HG
  iintro HG
  iapply (putDq_spec c E arg9 0 inb_S128x512_S128x128_0_0 _ _ _) $$ H9; iintro H9
  iapply (putDq_spec c E arg9 128 inb_S128x512_S128x128_0_128 _ _ _) $$ H9; iintro H9
  iapply (putDq_spec c E arg9 256 inb_S128x512_S128x128_0_256 _ _ _) $$ H9; iintro H9
  iapply (putDq_spec c E arg9 384 inb_S128x512_S128x128_0_384 _ _ _) $$ H9; iintro H9
  iapply Hk
  have e9 := overlay_beside X9 (fun h => (fourC (masked i) X3 X4 (wide i) (headAt X2 X5 X8 X7) (beforeC i X2 X3 X4 X5 X8 X7) h).1)
  have e13 := overlay_beside X13 (fun h => (dgAt X5 X6 X8 h : S128x128.Idx → Elt F .bf16))
  unfold dqOut dgOut
  isplitl [HR]; · iexact HR
  isplitl [HG]; · iexact HG
  isplitl [H9]
  · rw [← e9]; iexact H9
  · rw [← e13]; iexact H13
end

end Cert.SbClaims

end
-- ==== Proof.SbFrame.lean ====
module

public import proofs.«01_k».proof.Proof.SbPoint
public import Idealize.ShloMosaic.Lib.Claim

/-! The run of the gradient kernel: what every staged array holds after every grid point, and that the program ends. -/

@[expose] public section

set_option maxRecDepth 16384

noncomputable section

namespace Cert.SbClaims

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SbKernelIdeal Cert.SbKernelIdeal.Gen

variable {F : FTy → Type} [FloatOps F]

local notation "𝕄" => MT nD τ sig Unit (Elt F) ℕ (UR sig nD τ) ℕ

section
variable (i : grid0.Coords) (X2 : Vec F S128x512 .bf16) (X3 X4 : Vec F S2048x512 .bf16) (X5 X6 X8 : Vec F S128x512 .f32)
  (X7 : Vec F S4x128x128 .f32) (G : Grads F)
  (c : Dev nD) (E : Set ℕ) (arg2 : Memref sig .tc .vmem S128x512 .bf16)
  (arg3 arg4 : Memref sig .tc .vmem S2048x512 .bf16) (arg5 arg6 arg8 : Memref sig .tc .vmem S128x512 .f32)
  (arg7 : Memref sig .tc .vmem S4x128x128 .f32) (arg9 : Memref sig .tc .vmem S128x512 .f32)
  (arg10 arg11 : Memref sig .tc .vmem S2048x512 .f32) (arg12 : Memref sig .tc .vmem S2048x512 .bf16) (harg12 : arg12.IsWhole)
  (arg13 : Memref sig .tc .vmem S128x512 .bf16) (harg13 : arg13.IsWhole)

/-- The body but for its first conditional. -/
theorem rest_spec {Q : PUnit → sProp 𝕄} (X9 : Vec F S128x512 .f32) (X13 : Vec F S128x512 .bf16) (X12 : Vec F S2048x512 .bf16) :
    iprop(given c arg2 arg5 arg6 arg8 arg7 X2 X5 X6 X8 X7 ∗ held c arg3 arg4 arg10 arg11 X3 X4 (startG i G)
        ∗ owns (c : Thread nD τ) arg9 fullShare X9 ∗ owns (c : Thread nD τ) arg13 fullShare X13
        ∗ owns (c : Thread nD τ) arg12 fullShare X12)
      ⊢ iprop((iprop(given c arg2 arg5 arg6 arg8 arg7 X2 X5 X6 X8 X7
            ∗ held c arg3 arg4 arg10 arg11 X3 X4 (leftG i X2 X3 X4 X5 X8 X7 G)
            ∗ owns (c : Thread nD τ) arg9 fullShare (dqOut i X2 X3 X4 X5 X8 X7)
            ∗ owns (c : Thread nD τ) arg13 fullShare (dgOut X5 X6 X8)
            ∗ owns (c : Thread nD τ) arg12 fullShare
                (if (i 1).val = 15 then dvOut (leftG i X2 X3 X4 X5 X8 X7 G).2 else X12)) -∗ Q ⟨⟩)
        -∗ wp frame (wpE (defs₀ (F := F)) Variants.none c none) E
          (middle i arg2 arg3 arg4 arg5 arg6 arg7 arg8 arg9 arg10 arg11 arg13 harg13
            (if _ : k0_cond2 i = 1#1 then handOut arg11 arg12 harg12 else pure ⟨⟩)) Q) := by
  iintro ⟨HR, HG, H9, H13, H12⟩ Hk
  iapply (middle_spec i X2 X3 X4 X5 X6 X8 X7 G c E arg2 arg3 arg4 arg5 arg6 arg8 arg7 arg9 arg10 arg11 arg13 harg13 X9 X13 _)
    $$ [HR HG H9 H13]
  · isplitl [HR]; · iexact HR
    isplitl [HG]; · iexact HG
    isplitl [H9] <;> iassumption
  iintro ⟨HR, HG, H9, H13⟩
  by_cases h : (i 1).val = 15
  · rw [dif_pos ((isLast_iff i).mpr h), if_pos h]
    unfold held
    icases HG with ⟨H3, H4, H10, H11⟩
    iapply (handOut_spec c E arg11 arg12 harg12 _ X12) $$ [H11 H12]
    · isplitl [H11] <;> iassumption
    iintro ⟨H11, H12⟩
    iapply Hk
    isplitl [HR]; · iexact HR
    isplitl [H3 H4 H10 H11]
    · isplitl [H3]; · iexact H3
      isplitl [H4]; · iexact H4
      isplitl [H10] <;> iassumption
    isplitl [H9]; · iexact H9
    isplitl [H13] <;> iassumption
  · rw [dif_neg (fun e => h ((isLast_iff i).mp e)), if_neg h, wp_pure]
    imodintro
    iapply Hk
    isplitl [HR]; · iexact HR
    isplitl [HG]; · iexact HG
    isplitl [H9]; · iexact H9
    isplitl [H13] <;> iassumption

/-- The whole body. -/
theorem body_spec {Q : PUnit → sProp 𝕄} (X9 : Vec F S128x512 .f32) (X13 : Vec F S128x512 .bf16) (X12 : Vec F S2048x512 .bf16) :
    iprop(given c arg2 arg5 arg6 arg8 arg7 X2 X5 X6 X8 X7 ∗ held c arg3 arg4 arg10 arg11 X3 X4 G
        ∗ owns (c : Thread nD τ) arg9 fullShare X9 ∗ owns (c : Thread nD τ) arg13 fullShare X13
        ∗ owns (c : Thread nD τ) arg12 fullShare X12)
      ⊢ iprop((iprop(given c arg2 arg5 arg6 arg8 arg7 X2 X5 X6 X8 X7
            ∗ held c arg3 arg4 arg10 arg11 X3 X4 (leftG i X2 X3 X4 X5 X8 X7 G)
            ∗ owns (c : Thread nD τ) arg9 fullShare (dqOut i X2 X3 X4 X5 X8 X7)
            ∗ owns (c : Thread nD τ) arg13 fullShare (dgOut X5 X6 X8)
            ∗ owns (c : Thread nD τ) arg12 fullShare
                (if (i 1).val = 15 then dvOut (leftG i X2 X3 X4 X5 X8 X7 G).2 else X12)) -∗ Q ⟨⟩)
        -∗ wp frame (wpE (defs₀ (F := F)) Variants.none c none) E
          (sbBody i arg2 arg3 arg4 arg5 arg6 arg7 arg8 arg9 arg10 arg11 arg12 harg12 arg13 harg13) Q) := by
  have hr := rest_spec (Q := Q) i X2 X3 X4 X5 X6 X8 X7 G c E arg2 arg3 arg4 arg5 arg6 arg8 arg7 arg9 arg10 arg11 arg12 harg12 arg13
    harg13 X9 X13 X12
  unfold sbBody
  by_cases h : (i 1).val = 0
  · rw [dif_pos ((isFirst_iff i).mpr h)]
    have e : startG i G = (zeros S2048x512, zeros S2048x512) := if_pos h
    rw [e] at hr
    iintro ⟨HR, HG, HX⟩ Hk
    unfold held
    icases HG with ⟨H3, H4, H10, H11⟩
    iapply (clear_spec c E arg10 arg11 i G.1 G.2 _) $$ [H10 H11]
    · isplitl [H10] <;> iassumption
    iintro ⟨H10, H11⟩
    unfold held at hr
    iapply hr $$ [HR H3 H4 H10 H11 HX]
    · isplitl [HR]; · iexact HR
      isplitr [HX]
      · isplitl [H3]; · iexact H3
        isplitl [H4]; · iexact H4
        isplitl [H10] <;> iassumption
      · iexact HX
    iexact Hk
  · rw [dif_neg (fun e => h ((isFirst_iff i).mp e))]
    have e : startG i G = G := if_neg h
    rw [e] at hr
    exact hr
end

/-! ## The run over the grid -/

variable (m : (ℓ : Loc nD τ sig) → Buf (Elt F) ℓ) (ρ : Dev nD → PrngReg)

/-- The blocks the body reads at a grid point. -/
def b2 (c : Dev nD) (t : Fin cfg0.N) : Vec F S128x512 .bf16 := iblk m c 0 t
def b3 (c : Dev nD) (t : Fin cfg0.N) : Vec F S2048x512 .bf16 := iblk m c 1 t
def b4 (c : Dev nD) (t : Fin cfg0.N) : Vec F S2048x512 .bf16 := iblk m c 2 t
def b5 (c : Dev nD) (t : Fin cfg0.N) : Vec F S128x512 .f32 := iblk m c 3 t
def b6 (c : Dev nD) (t : Fin cfg0.N) : Vec F S128x512 .f32 := iblk m c 4 t
def b7 (c : Dev nD) (t : Fin cfg0.N) : Vec F S4x128x128 .f32 := iblk m c 5 t
def b8 (c : Dev nD) (t : Fin cfg0.N) : Vec F S128x512 .f32 := iblk m c 6 t

/-- What a grid point makes of the gradients of keys and values it starts from. -/
def stepAt (c : Dev nD) (t : Fin cfg0.N) (G : Grads F) : Grads F :=
  leftG (grid0.coords t) (b2 m c t) (b3 m c t) (b4 m c t) (b5 m c t) (b8 m c t) (b7 m c t) G

/-- The gradients of keys and values after `n` grid points. -/
def gAt (c : Dev nD) (n : ℕ) : Grads F :=
  Nat.rec (zeros S2048x512, zeros S2048x512) (fun n G => if h : n < cfg0.N then stepAt m c ⟨n, h⟩ G else G) n

theorem gAt_succ (c : Dev nD) (t : Fin cfg0.N) : gAt m c (t.val + 1) = stepAt m c t (gAt m c t.val) := dif_pos t.isLt

/-- The gradient of the queries at a grid point. -/
def dqAt (c : Dev nD) (t : Fin cfg0.N) : Vec F S128x512 .f32 :=
  dqOut (grid0.coords t) (b2 m c t) (b3 m c t) (b4 m c t) (b5 m c t) (b8 m c t) (b7 m c t)

theorem coords_qi (t : Fin cfg0.N) : (grid0.coords t 1).val = t.val % 16 :=
  (Pipeline.Grid.coords_val (S := 1) (B := 16) t 1 (by decide) rfl).trans (by rw [Nat.div_one])

/-- The proof data: the inputs keep their blocks, the outputs hold what the body makes of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqAt m c t
    | ⟨8, _⟩ => (gAt m c (t.val + 1)).1
    | ⟨9, _⟩ => (gAt m c (t.val + 1)).2
    | ⟨10, _⟩ => dvOut (gAt m c (t.val + 1)).2
    | ⟨11, _⟩ => dgOut (b5 m c t) (b6 m c t) (b8 m c t)
  Φ _ := Pipeline.ΦA spec0 c
  q _ := fullShare
  owed _ := 0

theorem A_eq (c : Dev nD) (w : Fin cfg0.W) : (dats m 0 c).A w = V m c (Pipeline.arrRef spec0 w) := by
  dsimp only [dats]

section
variable (c : Dev nD) (t : Fin cfg0.N)
theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = iblk m c 6 t := by dsimp only [dats]
theorem after_7 : (dats m 0 c).after 7 t = dqAt m c t := by dsimp only [dats]
theorem after_8 : (dats m 0 c).after 8 t = (gAt m c (t.val + 1)).1 := by dsimp only [dats]
theorem after_9 : (dats m 0 c).after 9 t = (gAt m c (t.val + 1)).2 := by dsimp only [dats]
theorem after_10 : (dats m 0 c).after 10 t = dvOut (gAt m c (t.val + 1)).2 := by dsimp only [dats]
theorem after_11 : (dats m 0 c).after 11 t = dgOut (b5 m c t) (b6 m c t) (b8 m c t) := by dsimp only [dats]

theorem before_0 (d) : (dats m 0 c).before 0 t d = iblk m c 0 t := before0_0_of m (dats m 0 c) (A_eq m c 0) (after_0 m c) t d
theorem before_1 (d) : (dats m 0 c).before 1 t d = iblk m c 1 t := before0_1_of m (dats m 0 c) (A_eq m c 1) (after_1 m c) t d
theorem before_2 (d) : (dats m 0 c).before 2 t d = iblk m c 2 t := before0_2_of m (dats m 0 c) (A_eq m c 2) (after_2 m c) t d
theorem before_3 (d) : (dats m 0 c).before 3 t d = iblk m c 3 t := before0_3_of m (dats m 0 c) (A_eq m c 3) (after_3 m c) t d
theorem before_4 (d) : (dats m 0 c).before 4 t d = iblk m c 4 t := before0_4_of m (dats m 0 c) (A_eq m c 4) (after_4 m c) t d
theorem before_5 (d) : (dats m 0 c).before 5 t d = iblk m c 5 t := before0_5_of m (dats m 0 c) (A_eq m c 5) (after_5 m c) t d
theorem before_6 (d) : (dats m 0 c).before 6 t d = iblk m c 6 t := before0_6_of m (dats m 0 c) (A_eq m c 6) (after_6 m c) t d

/-- Away from the first query block of a group the gradients are as the point before left them. -/
theorem before_8 (h : t.val % 16 ≠ 0) (d) : (dats m 0 c).before 8 t d = (gAt m c t.val).1 := by
  have hfl : (cfg0.win 8).flush ⟨t.val - 1, Nat.lt_of_le_of_lt (Nat.sub_le _ _) t.isLt⟩ = false := by
    rw [Bool.eq_false_iff]; intro e; have := (flush0_8 _).mp e; dsimp only at this; omega
  have h0 : t.val ≠ 0 := by omega
  rw [(dats m 0 c).before_out_kept 8 rfl t h0 hfl (fun _ => rfl) (fun _ _ => rfl), after_8]
  dsimp only
  rw [Nat.sub_add_cancel (by omega)]
theorem before_9 (h : t.val % 16 ≠ 0) (d) : (dats m 0 c).before 9 t d = (gAt m c t.val).2 := by
  have hfl : (cfg0.win 9).flush ⟨t.val - 1, Nat.lt_of_le_of_lt (Nat.sub_le _ _) t.isLt⟩ = false := by
    rw [Bool.eq_false_iff]; intro e; have := (flush0_9 _).mp e; dsimp only at this; omega
  have h0 : t.val ≠ 0 := by omega
  rw [(dats m 0 c).before_out_kept 9 rfl t h0 hfl (fun _ => rfl) (fun _ _ => rfl), after_9]
  dsimp only
  rw [Nat.sub_add_cancel (by omega)]

/-- The gradients a grid point leaves, from whatever its buffers hold. -/
theorem step_before (d8 d9) :
    stepAt m c t ((dats m 0 c).before 8 t d8, (dats m 0 c).before 9 t d9) = gAt m c (t.val + 1) := by
  rw [gAt_succ]
  by_cases h : t.val % 16 = 0
  · unfold stepAt leftG startG
    rw [if_pos ((coords_qi t).trans h), if_pos ((coords_qi t).trans h)]
  · rw [before_8 m c t h, before_9 m c t h]

def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

def bodyPost : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (match idle0 10 (grid0.coords t) with
        | true =>
          match (cfg0.win 10).flush t with
          | false => iprop(∃ d, owns (c : Thread nD τ) (st0_10 t) fullShare ((dats m 0 c).before 10 t d))
          | true => owns (c : Thread nD τ) (st0_10 t) fullShare ((dats m 0 c).after 10 t)
        | false => owns (c : Thread nD τ) (st0_10 t) fullShare ((dats m 0 c).after 10 t))
    ∗ owns (c : Thread nD τ) (st0_11 t) fullShare ((dats m 0 c).after 11 t))

theorem sound_body :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, body_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hs := step_before m c t d8 d9
  unfold stepAt at hs
  iapply (body_spec (grid0.coords t) (b2 m c t) (b3 m c t) (b4 m c t) (b5 m c t) (b6 m c t) (b8 m c t) (b7 m c t)
    ((dats m 0 c).before 8 t d8, (dats m 0 c).before 9 t d9) c Set.univ
    _ _ _ _ _ _ _ _ _ _ _ _ _ _ ((dats m 0 c).before 7 t d7) ((dats m 0 c).before 11 t d11) ((dats m 0 c).before 10 t d10))
    $$ [H0 H1 H2 H3 H4 H5 H6 H7 H8 H9 H10 H11]
  · unfold given held
    isplitl [H0 H3 H4 H5 H6]
    · isplitl [H0]; · iexact H0
      isplitl [H3]; · iexact H3
      isplitl [H4]; · iexact H4
      isplitl [H6]; · iexact H6
      iexact H5
    isplitl [H1 H2 H8 H9]
    · isplitl [H1]; · iexact H1
      isplitl [H2]; · iexact H2
      isplitl [H8]; · iexact H8
      iexact H9
    isplitl [H7]; · iexact H7
    isplitl [H11]; · iexact H11
    iexact H10
  rw [hs]
  unfold given held
  iintro ⟨⟨H0, H3, H4, H6, H5⟩, ⟨H1, H2, H8, H9⟩, H7, H11, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitr [H11]
  · by_cases h : (grid0.coords t 1).val = 15
    · have hi : idle0 10 (grid0.coords t) = false := by
        have := (isLast_iff (grid0.coords t)).mpr h
        change (!(k0_cond2 (grid0.coords t) == 1#1)) = false
        rw [this]; rfl
      rw [hi, if_pos h]
      iexact H10
    · have hi : idle0 10 (grid0.coords t) = true := by
        have := mt (isLast_iff (grid0.coords t)).mp h
        change (!(k0_cond2 (grid0.coords t) == 1#1)) = true
        rw [beq_false_of_ne this]; rfl
      have hf : (cfg0.win 10).flush t = false := by
        rw [Bool.eq_false_iff]; intro e; exact h ((coords_qi t).trans ((flush0_10 t).mp e))
      rw [hi, hf, if_neg h]
      iexists d10
      iexact H10
  · iexact H11

theorem defs₀_row : defs₀ (F := F) .tc cfg0.body (cfg0.bodyArgs t (cfg0.slots t)) = bodyAt0 t := by
  unfold defs₀; rw [Defs.onTc_tc]
end

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends, at the arrays the proof data name and with every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they were and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.SbClaims

end
-- ==== Proof.SbClaims.lean ====
module

public import proofs.«01_k».proof.Defs
public import proofs.«01_k».proof.Proof.Gen.SbKernel.Frame
public import proofs.«01_k».proof.Proof.Gen.SbReferenceIdeal.Run
public import proofs.«01_k».proof.Proof.SbFrame
public import Idealize.ShloMosaic.Lib.Tactic
public import Idealize.ShloMosaic.Adequacy
public import Idealize.ShloMosaic.Init
public import Idealize.ShloMosaic.PureOps.Ideal.Laws

@[expose] public section

set_option maxRecDepth 16384

noncomputable section

/-! The claims about the gradient of the stick-breaking attention. -/

namespace Cert.SbClaims

open Idealize.ShloMosaic Idealize.SL.Sem

/-- The claim about the printed kernel, said of the ideal program's text read at the bits. -/
def sameText : Prop :=
  ∀ (m : (ℓ : Loc Cert.SbKernelIdeal.nD Cert.SbKernelIdeal.τ Cert.SbKernelIdeal.sig) → Buf (Elt Bits) ℓ) (ρ : Dev Cert.SbKernelIdeal.nD → PrngReg), True →
    θ_run (Cert.SbKernelIdeal.defs (F := Bits)) (onTc (τ := Cert.SbKernelIdeal.τ) (Cert.SbKernelIdeal.main (F := Bits))) ⟨m, fun _ => 0, ρ⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1)
      ∧ r.2.mem ((c.tc : Thread Cert.SbKernelIdeal.nD Cert.SbKernelIdeal.τ).loc Cert.SbKernelIdeal.main_arg2) = m ((c.tc : Thread Cert.SbKernelIdeal.nD Cert.SbKernelIdeal.τ).loc Cert.SbKernelIdeal.main_arg2)
      ∧ r.2.mem ((c.tc : Thread Cert.SbKernelIdeal.nD Cert.SbKernelIdeal.τ).loc Cert.SbKernelIdeal.main_arg3) = m ((c.tc : Thread Cert.SbKernelIdeal.nD Cert.SbKernelIdeal.τ).loc Cert.SbKernelIdeal.main_arg3)
      ∧ r.2.mem ((c.tc : Thread Cert.SbKernelIdeal.nD Cert.SbKernelIdeal.τ).loc Cert.SbKernelIdeal.main_arg4) = m ((c.tc : Thread Cert.SbKernelIdeal.nD Cert.SbKernelIdeal.τ).loc Cert.SbKernelIdeal.main_arg4))
      ∧ r.2.sem = fun _ => 0)

/-- The two programs are printed alike. -/
theorem same_text : Cert.quiescent_SbKernel = sameText := by sl_kernel_rfl

/-- The kernel runs, keeps its arguments and leaves every counter at zero. -/
theorem frame_kernel : Cert.quiescent_SbKernel := same_text.mpr fun m ρ _ => frame_run (F := Bits) m ρ

/-- The same of the ideal kernel. -/
theorem frame_ideal : Cert.quiescent_SbKernelIdeal := fun m ρ _ => frame_run (F := Ideal) m ρ

/-- The same of the reference, which declares no semaphore. -/
theorem frame_reference : Cert.quiescent_SbReferenceIdeal := fun m ρ _ =>
  (θ_run Cert.SbReferenceIdeal.defs _ _).mono (fun r h => ⟨fun c => (h c).2.2.2.2.2,
      Idealize.ShloMosaic.sem_eq_zero_of_no_sems (by decide) r.2⟩)
    (Cert.SbReferenceIdeal.Value.run (F := Ideal) m ρ)

end Cert.SbClaims

end
-- ==== Proof.SbReal.lean ====
module

public import proofs.«01_k».proof.Proof.SbPoint
public import Idealize.ShloMosaic.Lib.IdealHost
public import Idealize.ShloMosaic.Lib.Pointwise

/-! Stick-breaking attention of one head over the real numbers: the weights, and the gradients through them, with rows and
    columns named by natural numbers so that a sum over a stretch of columns is a sum over a range. -/

@[expose] public section

noncomputable section

namespace Cert.SbClaims

open Idealize.ShloMosaic

/-! ## The logarithm of the logistic function -/

def lsg (x : ℝ) : ℝ := min x 0 - Real.log (1 + Real.exp (-|x|))

theorem lsg_sub (x : ℝ) : lsg x - x = lsg (-x) := by
  unfold lsg
  rw [abs_neg]
  rcases le_total x 0 with h | h
  · rw [min_eq_left h, min_eq_right (by linarith)]; ring
  · rw [min_eq_right h, min_eq_left (by linarith)]; ring

theorem exp_lsg_neg (x : ℝ) : Real.exp (lsg (-x)) = 1 - Real.exp (lsg x) := by
  unfold lsg
  rw [abs_neg]
  have hp : (0 : ℝ) < 1 + Real.exp (-|x|) := by positivity
  rw [Real.exp_sub, Real.exp_sub, Real.exp_log hp]
  rcases le_total x 0 with h | h
  · rw [min_eq_left h, min_eq_right (by linarith : (0 : ℝ) ≤ -x), abs_of_nonpos h, neg_neg, Real.exp_zero]
    rw [abs_of_nonpos h, neg_neg] at hp
    field_simp; ring
  · rw [min_eq_right h, min_eq_left (by linarith : -x ≤ (0 : ℝ)), abs_of_nonneg h, Real.exp_zero]
    rw [abs_of_nonneg h] at hp
    field_simp; ring

/-! ## One head -/

/-- Queries, keys, values and the gradient of the output of one head. -/
structure Rows where
  q : ℕ → ℕ → ℝ
  k : ℕ → ℕ → ℝ
  v : ℕ → ℕ → ℝ
  d : ℕ → ℕ → ℝ

/-- The score scale. -/
def scaleR : ℝ := (Ideal.ofBits .f32 0x3DB504F3#32 : EReal).toReal

namespace Rows
variable (R : Rows)

def z (i j : ℕ) : ℝ := (∑ d ∈ Finset.range 128, R.q i d * R.k j d) * scaleR
/-- The logarithm of one minus the gate of column `j`. -/
def lm (i j : ℕ) : ℝ := if j < i then lsg (R.z i j) - R.z i j else 0
def total (i : ℕ) : ℝ := ∑ s ∈ Finset.range 2048, R.lm i s
def att (i j : ℕ) : ℝ :=
  if j < i then Real.exp (lsg (R.z i j) + (R.total i - ∑ s ∈ Finset.range (j + 1), R.lm i s)) else 0
def e (i j : ℕ) : ℝ := R.att i j * ∑ d ∈ Finset.range 128, R.d i d * R.v j d
def dz (i j : ℕ) : ℝ :=
  (R.e i j * (1 - Real.exp (lsg (R.z i j)))
    - (if j < i then ∑ s ∈ Finset.range j, R.e i s else 0) * Real.exp (lsg (R.z i j))) * scaleR

theorem att_zero {i j : ℕ} (h : ¬ j < i) : R.att i j = 0 := if_neg h
theorem e_zero {i j : ℕ} (h : ¬ j < i) : R.e i j = 0 := by unfold e; rw [R.att_zero h, zero_mul]
theorem dz_zero {i j : ℕ} (h : ¬ j < i) : R.dz i j = 0 := by unfold dz; rw [R.e_zero h, if_neg h]; ring
end Rows

/-! ## Real numbers among the extended ones -/

theorem coe_sum {ι : Type} (s : Finset ι) (f : ι → ℝ) : (∑ i ∈ s, (f i : EReal)) = ((∑ i ∈ s, f i : ℝ) : EReal) :=
  (map_sum (⟨⟨Real.toEReal, EReal.coe_zero⟩, EReal.coe_add⟩ : ℝ →+ EReal) f s).symm

/-- A sum over `Fin n` of real numbers as a sum over a range. -/
theorem coe_sum_fin (n : ℕ) (f : ℕ → ℝ) : (∑ i : Fin n, (f i.val : EReal)) = ((∑ i ∈ Finset.range n, f i : ℝ) : EReal) := by
  rw [coe_sum, Finset.sum_range]

theorem sum_fin_eq (n : ℕ) (g : Fin n → EReal) (f : ℕ → ℝ) (h : ∀ i, g i = (f i.val : EReal)) :
    (∑ i, g i) = ((∑ i ∈ Finset.range n, f i : ℝ) : EReal) := by
  rw [← coe_sum_fin]; exact Finset.sum_congr rfl fun i _ => h i

theorem coe_min (x y : ℝ) : min (x : EReal) (y : EReal) = ((min x y : ℝ) : EReal) :=
  (Monotone.map_min (f := Real.toEReal) EReal.coe_strictMono.monotone).symm
theorem coe_max (x y : ℝ) : max (x : EReal) (y : EReal) = ((max x y : ℝ) : EReal) :=
  (Monotone.map_max (f := Real.toEReal) EReal.coe_strictMono.monotone).symm
theorem coe_abs (x : ℝ) : max (x : EReal) (-(x : EReal)) = ((|x| : ℝ) : EReal) := by
  rw [← EReal.coe_neg, coe_max]; rfl

theorem coe_log {x : ℝ} (h : 0 < x) : Ideal.log (x : EReal) = ((Real.log x : ℝ) : EReal) := by
  rw [Ideal.log_coe, if_neg (not_le.mpr h)]

theorem scale_eq : (Ideal.ofBits .f32 0x3DB504F3#32 : EReal) = (scaleR : EReal) := by
  unfold scaleR
  rw [EReal.coe_toReal]
  · simp [Ideal.ofBits, Ideal.ieee, -EReal.coe_mul]
  · simp [Ideal.ofBits, Ideal.ieee, -EReal.coe_mul]

theorem one_eq : (Ideal.ofBits .f32 0x3F800000#32 : EReal) = ((1 : ℝ) : EReal) := by
  rw [Ideal.ofBits_one_f32]; rfl
theorem zero_eq : (Ideal.ofBits .f32 0x00000000#32 : EReal) = ((0 : ℝ) : EReal) := by
  rw [Ideal.ofBits_zero_f32]; rfl

/-- The logarithm of the logistic function as the kernel writes it. -/
theorem lsg_coe (x : ℝ) :
    min (x : EReal) ((0 : ℝ) : EReal) - Ideal.log (((1 : ℝ) : EReal) + Ideal.exp (((0 : ℝ) : EReal) - max (x : EReal) (-(x : EReal))))
      = (lsg x : EReal) := by
  rw [coe_abs, coe_min, ← EReal.coe_sub, Ideal.exp_coe, ← EReal.coe_add, coe_log (by positivity), ← EReal.coe_sub]
  unfold lsg
  rw [zero_sub]

end Cert.SbClaims

end
-- ==== Proof.SbTile.lean ====
module

public import proofs.«01_k».proof.Proof.SbReal
public import Idealize.ShloMosaic.Lib.WordCmp

/-! One head over one wide tile, at real numbers: what the kernel's vocabulary computes is the head's weights and gradients. -/

@[expose] public section

set_option maxRecDepth 16384

noncomputable section

namespace Cert.SbClaims

open Idealize.ShloMosaic Idealize.ShloMosaic.Tactic
open Cert.SbKernelIdeal Cert.SbKernelIdeal.Gen

/-- An array of two axes holds the real numbers `f`. -/
def Holds {a b : ℕ} (X : (⟨2, ![a, b]⟩ : Shape).Idx → EReal) (f : ℕ → ℕ → ℝ) : Prop :=
  ∀ j, X j = ((f (j 0).val (j 1).val : ℝ) : EReal)

theorem Holds.at {a b : ℕ} {X : (⟨2, ![a, b]⟩ : Shape).Idx → EReal} {f : ℕ → ℕ → ℝ} (h : Holds X f) (i : Fin a) (j : Fin b) :
    X (ix2 (n0 := a) (n1 := b) i j) = ((f i.val j.val : ℝ) : EReal) := h _

/-! ## The vocabulary read at an index -/

theorem cut_apply (x : FVec Ideal S128x1024 .f32) (n : Fin 8) (j : S128x128.Idx) :
    cut x n j = x (ix2 (n0 := 128) (n1 := 1024) (j 0) ⟨128 * n.val + (j 1).val, by
      have := (j 1).isLt; change (j 1).val < 128 at this; omega⟩) := by
  have e (m : ℕ) (h : S128x1024.Slices ![0, m] S128x128) (b : Fin 1024) (hb : b.val = m + (j 1).val) :
      extractStridedSlice S128x128 ![0, m] x h j = x (ix2 (n0 := 128) (n1 := 1024) (j 0) b) := by
    refine extractStridedSlice_apply _ _ _ _ _ fun a => ?_
    match a with
    | 0 => change (j 0).val = 0 + (j 0).val; omega
    | 1 => exact hb
  match n with
  | 0 => exact e _ slices_S128x1024_o0_0_S128x128 _ rfl
  | 1 => exact e _ slices_S128x1024_o0_128_S128x128 _ rfl
  | 2 => exact e _ slices_S128x1024_o0_256_S128x128 _ rfl
  | 3 => exact e _ slices_S128x1024_o0_384_S128x128 _ rfl
  | 4 => exact e _ slices_S128x1024_o0_512_S128x128 _ rfl
  | 5 => exact e _ slices_S128x1024_o0_640_S128x128 _ rfl
  | 6 => exact e _ slices_S128x1024_o0_768_S128x128 _ rfl
  | 7 => exact e _ slices_S128x1024_o0_896_S128x128 _ rfl

theorem glue_apply (f : Fin 8 → FVec Ideal S128x128 .f32) (j : S128x1024.Idx) :
    glue f j = f ⟨(j 1).val / 128, by have := (j 1).isLt; change (j 1).val < 1024 at this; omega⟩
      (ix2 (n0 := 128) (n1 := 128) (j 0) ⟨(j 1).val % 128, Nat.mod_lt _ (by norm_num)⟩) := by
  refine concatenate_ofFn_apply (t := S128x1024) (s₁ := S128x128) 1 f _ rfl 128 rfl j _ rfl _ rfl fun b hb => ?_
  match b with
  | 0 => rfl
  | 1 => exact absurd rfl hb

theorem rowTotal_apply (x : FVec Ideal S128x128 .f32) (j : S128x1.Idx) :
    (rowTotal x j : EReal) = ∑ d : Fin 128, x (ix2 (n0 := 128) (n1 := 128) (j 0) d) := by
  pointwise [rowTotal]

theorem byTri_apply (x w : FVec Ideal S128x128 .bf16) (j : S128x128.Idx) :
    (byTri x w j : EReal) = ∑ d : Fin 128, x (ix2 (n0 := 128) (n1 := 128) (j 0) d) * w (ix2 (n0 := 128) (n1 := 128) d (j 1)) := by
  pointwise [byTri]

theorem select_lt {α : Type} (a b : ℕ) (ha : a < 2 ^ 31) (hb : b < 2 ^ 31) (x y : α) :
    Scalar.select (IntOp.cmpi .slt (BitVec.ofNat 32 a) (BitVec.ofNat 32 b)) x y = if a < b then x else y := by
  unfold Scalar.select
  exact if_congr (WordCmp.cmpi_slt_ofNat_eq_one_iff ha hb) rfl rfl

theorem triAfter_apply (j : S128x128.Idx) :
    (triAfter (F := Ideal) j : EReal) = ((if (j 1).val < (j 0).val then 1 else 0 : ℝ) : EReal) := by
  have h0 : (j 0).val < 128 := (j 0).isLt
  have h1 : (j 1).val < 128 := (j 1).isLt
  pointwise [triAfter]
  refine (select_lt (j 1).val (j 0).val (by omega) (by omega) (1 : EReal) 0).trans ?_
  split <;> rfl

theorem triBefore_apply (j : S128x128.Idx) :
    (triBefore (F := Ideal) j : EReal) = ((if (j 0).val < (j 1).val then 1 else 0 : ℝ) : EReal) := by
  have h0 : (j 0).val < 128 := (j 0).isLt
  have h1 : (j 1).val < 128 := (j 1).isLt
  pointwise [triBefore]
  refine (select_lt (j 0).val (j 1).val (by omega) (by omega) (1 : EReal) 0).trans ?_
  split <;> rfl

theorem score_apply (q : Vec Ideal S128x128 .bf16) (k : Vec Ideal S1024x128 .bf16) (j : S128x1024.Idx) :
    (score q k j : EReal)
      = (∑ d : Fin 128, (q (ix2 (n0 := 128) (n1 := 128) (j 0) d) : EReal) * k (ix2 (n0 := 1024) (n1 := 128) (j 1) d))
        * (scaleR : EReal) := by
  rw [← scale_eq]
  pointwise [score]

theorem logSig_apply (z : FVec Ideal S128x1024 .f32) (j : S128x1024.Idx) (x : ℝ) (h : (z j : EReal) = (x : EReal)) :
    (logSig z j : EReal) = (lsg x : EReal) := by
  rw [← lsg_coe, ← h, ← one_eq, ← zero_eq]
  rfl

/-! ## Sums over the columns of a tile -/

/-- Columns carried over the first `n` tiles of 128. -/
theorem carried_holds {x : FVec Ideal S128x1024 .f32} {c : FVec Ideal S128x1 .f32} {f : ℕ → ℕ → ℝ} {r0 c0 : ℕ}
    (hx : Holds x fun i j => f (r0 + i) (c0 + j)) (hc : Holds c fun i _ => ∑ s ∈ Finset.range c0, f (r0 + i) s) (n : ℕ) (hn : n ≤ 8) :
    Holds (carried x c n) fun i _ => ∑ s ∈ Finset.range (c0 + 128 * n), f (r0 + i) s := by
  induction n with
  | zero => exact hc
  | succ n ih =>
    intro j
    have e := ih (by omega) j
    have hm : (Fin.ofNat 8 n).val = n := Nat.mod_eq_of_lt (by omega)
    change (carried x c n j : EReal) + rowTotal (cut x (Fin.ofNat 8 n)) j = _
    rw [e, rowTotal_apply, sum_fin_eq 128 _ (fun d => f (r0 + (j 0).val) (c0 + 128 * n + d)), ← EReal.coe_add]
    · dsimp only
      rw [show c0 + 128 * (n + 1) = c0 + 128 * n + 128 by ring, Finset.sum_range_add _ (c0 + 128 * n) 128]
    intro d
    refine (cut_apply _ _ _).trans ((hx.at _ _).trans ?_)
    simp only [hm, Nat.add_assoc]
    rfl

/-- Columns of a tile summed against the strict lower and upper triangles. -/
theorem byTri_after {x : FVec Ideal S128x128 .bf16} {f : ℕ → ℕ → ℝ} (hx : Holds x f) (j : S128x128.Idx) :
    (byTri x triAfter j : EReal)
      = ((∑ s ∈ Finset.range 128, f (j 0).val s - ∑ s ∈ Finset.range ((j 1).val + 1), f (j 0).val s : ℝ) : EReal) := by
  have h1 : (j 1).val < 128 := (j 1).isLt
  rw [byTri_apply, sum_fin_eq 128 _ (fun d => f (j 0).val d * if (j 1).val < d then 1 else 0)]
  · congr 1
    simp only [mul_ite, mul_one, mul_zero]
    rw [← Finset.sum_filter, eq_sub_iff_add_eq, ← Finset.sum_filter_add_sum_filter_not (Finset.range 128) (fun s => (j 1).val < s)]
    congr 1
    refine Finset.sum_congr (Finset.ext fun s => ?_) fun _ _ => rfl
    simp only [Finset.mem_filter, Finset.mem_range]; omega
  · intro d
    rw [triAfter_apply, hx, ← EReal.coe_mul]
    rfl

theorem byTri_before {x : FVec Ideal S128x128 .bf16} {f : ℕ → ℕ → ℝ} (hx : Holds x f) (j : S128x128.Idx) :
    (byTri x triBefore j : EReal) = ((∑ s ∈ Finset.range (j 1).val, f (j 0).val s : ℝ) : EReal) := by
  have h1 : (j 1).val < 128 := (j 1).isLt
  rw [byTri_apply, sum_fin_eq 128 _ (fun d => f (j 0).val d * if d < (j 1).val then 1 else 0)]
  · congr 1
    simp only [mul_ite, mul_one, mul_zero]
    rw [← Finset.sum_filter]
    refine Finset.sum_congr (Finset.ext fun s => ?_) fun _ _ => rfl
    simp only [Finset.mem_filter, Finset.mem_range]; omega
  · intro d
    rw [triBefore_apply, hx, ← EReal.coe_mul]
    rfl

/-! ## One head over one wide tile -/

section
variable (R : Rows) (r0 c0 : ℕ) (mk : FVec Ideal S128x1024 .f32 → FVec Ideal S128x1024 .f32) (H : Head Ideal)
  (k v : Vec Ideal S1024x128 .bf16) (cp ce : FVec Ideal S128x1 .f32)

/-- Rows `r0 …` and columns `c0 …` of the head, before the columns from `c0` on. -/
structure Fits : Prop where
  q : Holds H.q fun i d => R.q (r0 + i) d
  d : Holds H.d fun i d => R.d (r0 + i) d
  tot : Holds H.tot fun i _ => R.total (r0 + i)
  k : Holds k fun j d => R.k (c0 + j) d
  v : Holds v fun j d => R.v (c0 + j) d
  cp : Holds cp fun i _ => ∑ s ∈ Finset.range c0, R.lm (r0 + i) s
  ce : Holds ce fun i _ => ∑ s ∈ Finset.range c0, R.e (r0 + i) s
  msk : ∀ x j, (mk x j : EReal) = if c0 + (j 1).val < r0 + (j 0).val then (x j : EReal) else ((0 : ℝ) : EReal)

variable {R r0 c0 mk H k v cp ce} (h : Fits R r0 c0 mk H k v cp ce)
include h

theorem score_holds : Holds (score H.q k) fun i j => R.z (r0 + i) (c0 + j) := by
  intro j
  rw [score_apply, sum_fin_eq 128 _ (fun d => R.q (r0 + (j 0).val) d * R.k (c0 + (j 1).val) d), ← EReal.coe_mul]
  · rfl
  · intro d; rw [h.q, h.k, ← EReal.coe_mul]; rfl

theorem logSig_holds : Holds (logSig (score H.q k)) fun i j => lsg (R.z (r0 + i) (c0 + j)) := fun j =>
  logSig_apply _ j _ (score_holds h j)

theorem logRest_holds : Holds (logRest mk H k) fun i j => R.lm (r0 + i) (c0 + j) := by
  intro j
  unfold logRest
  rw [h.msk]
  change (if _ then (logSig (score H.q k) j : EReal) - score H.q k j else _) = _
  rw [logSig_holds h, score_holds h, ← EReal.coe_sub]
  unfold Rows.lm
  dsimp only
  split <;> rfl

theorem rest_holds : Holds (glue (restTile triAfter H.tot cp (logRest mk H k))) fun i j =>
    R.total (r0 + i) - ∑ s ∈ Finset.range (c0 + j + 1), R.lm (r0 + i) s := by
  intro j
  have hj : (j 1).val < 1024 := (j 1).isLt
  rw [glue_apply]
  generalize hn : (⟨(j 1).val / 128, _⟩ : Fin 8) = n
  generalize hm : (⟨(j 1).val % 128, _⟩ : Fin 128) = m
  have ev : c0 + (j 1).val = c0 + 128 * n.val + m.val := by
    rw [← hn, ← hm]; change _ = _ + 128 * ((j 1).val / 128) + (j 1).val % 128; omega
  have hL := logRest_holds h
  have hcut : Holds (cut (logRest mk H k) n) fun i y => R.lm (r0 + i) (c0 + 128 * n.val + y) := by
    intro y
    refine (cut_apply _ n y).trans ((hL.at _ _).trans ?_)
    simp only [Nat.add_assoc]
  have hzero : Holds (hi (subf (cut (logRest mk H k) n) (extf .f32 (hi (cut (logRest mk H k) n)) bitsLt_bf16_f32)))
      fun _ _ => 0 := by
    intro y
    change (cut (logRest mk H k) n y : EReal) - cut (logRest mk H k) n y = _
    rw [hcut, ← EReal.coe_sub, sub_self]
  have hc := carried_holds hL h.cp (n.val + 1) (by have := n.isLt; omega)
  have e1 : broadcastTo S128x128 (subf H.tot (carried (logRest mk H k) cp (n.val + 1))) broadcasts_S128x1_S128x128
      (ix2 (n0 := 128) (n1 := 128) (j 0) m) = ((R.total (r0 + (j 0).val)
        - ∑ s ∈ Finset.range (c0 + 128 * (n.val + 1)), R.lm (r0 + (j 0).val) s : ℝ) : EReal) := by
    rw [broadcastTo_apply _ _ _ (ix2 (n0 := 128) (n1 := 1) (j 0) 0) (fun a => by match a with | 0 => rfl | 1 => rfl)]
    change (H.tot _ : EReal) - carried (logRest mk H k) cp (n.val + 1) _ = _
    rw [h.tot, hc, ← EReal.coe_sub]; rfl
  change _ + (byTri (hi (cut (logRest mk H k) n)) triAfter _ + byTri _ triAfter _) = _
  have e2 : byTri (hi (cut (logRest mk H k) n)) triAfter (ix2 (n0 := 128) (n1 := 128) (j 0) m)
      = ((∑ s ∈ Finset.range 128, R.lm (r0 + (j 0).val) (c0 + 128 * n.val + s)
        - ∑ s ∈ Finset.range (m.val + 1), R.lm (r0 + (j 0).val) (c0 + 128 * n.val + s) : ℝ) : EReal) := byTri_after hcut _
  rw [e1, e2, byTri_after hzero, ← EReal.coe_add, ← EReal.coe_add]
  congr 1
  simp only [ev]
  rw [show c0 + 128 * (n.val + 1) = c0 + 128 * n.val + 128 by ring, Finset.sum_range_add _ (c0 + 128 * n.val) 128,
    show c0 + 128 * n.val + m.val + 1 = c0 + 128 * n.val + (m.val + 1) by ring, Finset.sum_range_add _ (c0 + 128 * n.val) (m.val + 1)]
  simp only [Finset.sum_const_zero]
  ring

theorem att_holds : Holds (att mk triAfter H k cp) fun i j => R.att (r0 + i) (c0 + j) := by
  intro j
  unfold att
  rw [h.msk]
  change (if _ then Ideal.exp ((logSig (score H.q k) j : EReal) + glue (restTile triAfter H.tot cp (logRest mk H k)) j) else _) = _
  rw [logSig_holds h, rest_holds h, ← EReal.coe_add, Ideal.exp_coe]
  unfold Rows.att
  dsimp only
  split <;> rfl

theorem ea_holds : Holds (ea mk triAfter H k v cp) fun i j => R.e (r0 + i) (c0 + j) := by
  intro j
  have e : (matmul (φ₂ := .bf16) dot_S128x128_S1024x128_S128x1024_1_1_0_0_n_n none H.d v (constant S128x1024 .f32 0x00000000#32) j : EReal)
      = ((∑ d ∈ Finset.range 128, R.d (r0 + (j 0).val) d * R.v (c0 + (j 1).val) d : ℝ) : EReal) := by
    rw [← sum_fin_eq 128 (fun d => (H.d (ix2 (n0 := 128) (n1 := 128) (j 0) d) : EReal) * v (ix2 (n0 := 1024) (n1 := 128) (j 1) d))]
    · pointwise []
    · intro d; rw [h.d, h.v, ← EReal.coe_mul]; rfl
  change (att mk triAfter H k cp j : EReal) * _ = _
  rw [e, att_holds h, ← EReal.coe_mul]
  rfl

theorem excl_holds : Holds (glue (exclTile triBefore ce (ea mk triAfter H k v cp))) fun i j =>
    ∑ s ∈ Finset.range (c0 + j), R.e (r0 + i) s := by
  intro j
  have hj : (j 1).val < 1024 := (j 1).isLt
  rw [glue_apply]
  generalize hn : (⟨(j 1).val / 128, _⟩ : Fin 8) = n
  generalize hm : (⟨(j 1).val % 128, _⟩ : Fin 128) = m
  have ev : c0 + (j 1).val = c0 + 128 * n.val + m.val := by
    rw [← hn, ← hm]; change _ = _ + 128 * ((j 1).val / 128) + (j 1).val % 128; omega
  have hL := ea_holds h
  have hcut : Holds (cut (ea mk triAfter H k v cp) n) fun i y => R.e (r0 + i) (c0 + 128 * n.val + y) := by
    intro y
    refine (cut_apply _ n y).trans ((hL.at _ _).trans ?_)
    simp only [Nat.add_assoc]
  have hc := carried_holds hL h.ce n.val (by have := n.isLt; omega)
  have e1 : broadcastTo S128x128 (carried (ea mk triAfter H k v cp) ce n.val) broadcasts_S128x1_S128x128
      (ix2 (n0 := 128) (n1 := 128) (j 0) m) = ((∑ s ∈ Finset.range (c0 + 128 * n.val), R.e (r0 + (j 0).val) s : ℝ) : EReal) := by
    rw [broadcastTo_apply _ _ _ (ix2 (n0 := 128) (n1 := 1) (j 0) 0) (fun a => by match a with | 0 => rfl | 1 => rfl), hc]
    rfl
  change _ + byTri (hi (cut (ea mk triAfter H k v cp) n)) triBefore _ = _
  rw [e1, byTri_before (x := hi (cut (ea mk triAfter H k v cp) n)) hcut (ix2 (n0 := 128) (n1 := 128) (j 0) m), ← EReal.coe_add]
  congr 1
  simp only [ev]
  rw [Finset.sum_range_add _ (c0 + 128 * n.val) m.val]
  rfl

theorem dScore_holds : Holds (dScore mk triAfter triBefore H k v cp ce) fun i j => R.dz (r0 + i) (c0 + j) := by
  intro j
  change ((ea mk triAfter H k v cp j : EReal) * (Ideal.ofBits .f32 0x3F800000#32 - Ideal.exp (logSig (score H.q k) j))
    - (mk (glue (exclTile triBefore ce (ea mk triAfter H k v cp))) j : EReal) * Ideal.exp (logSig (score H.q k) j))
      * Ideal.ofBits .f32 0x3DB504F3#32 = _
  rw [h.msk, ea_holds h, logSig_holds h, excl_holds h, one_eq, scale_eq, Ideal.exp_coe]
  unfold Rows.dz
  dsimp only
  split <;> simp only [*, if_true, if_false, ← EReal.coe_sub, ← EReal.coe_mul]

/-- What a tile adds to the gradients of its values, -/
theorem dvTile_holds {x : Vec Ideal S1024x128 .f32} {f : ℕ → ℕ → ℝ} (hx : Holds x f) :
    Holds (dvTile mk triAfter H k cp x) fun j d =>
      f j d + ∑ i ∈ Finset.range 128, R.att (r0 + i) (c0 + j) * R.d (r0 + i) d := by
  intro j
  rw [EReal.coe_add, ← sum_fin_eq 128 (fun i => (att mk triAfter H k cp (ix2 (n0 := 128) (n1 := 1024) i (j 0)) : EReal)
      * H.d (ix2 (n0 := 128) (n1 := 128) i (j 1))), ← hx]
  · pointwise [dvTile]
  · intro i; rw [att_holds h, h.d, ← EReal.coe_mul]; rfl

/-- of its keys, -/
theorem dkTile_holds {x : Vec Ideal S1024x128 .f32} {f : ℕ → ℕ → ℝ} (hx : Holds x f) :
    Holds (dkTile mk triAfter triBefore H k v cp ce x) fun j d =>
      f j d + ∑ i ∈ Finset.range 128, R.dz (r0 + i) (c0 + j) * R.q (r0 + i) d := by
  intro j
  rw [EReal.coe_add, ← sum_fin_eq 128 (fun i => (dScore mk triAfter triBefore H k v cp ce
      (ix2 (n0 := 128) (n1 := 1024) i (j 0)) : EReal) * H.q (ix2 (n0 := 128) (n1 := 128) i (j 1))), ← hx]
  · pointwise [dkTile]
  · intro i; rw [dScore_holds h, h.q, ← EReal.coe_mul]; rfl

/-- and of the queries. -/
theorem dqTile_holds {x : FVec Ideal S128x128 .f32} {f : ℕ → ℕ → ℝ} (hx : Holds x f) :
    Holds (dqTile mk triAfter triBefore H k v cp ce x) fun i d =>
      f i d + ∑ j ∈ Finset.range 1024, R.dz (r0 + i) (c0 + j) * R.k (c0 + j) d := by
  intro i
  rw [EReal.coe_add, ← sum_fin_eq 1024 (fun j => (dScore mk triAfter triBefore H k v cp ce
      (ix2 (n0 := 128) (n1 := 1024) (i 0) j) : EReal) * k (ix2 (n0 := 1024) (n1 := 128) j (i 1))), ← hx]
  · pointwise [dqTile]
  · intro j; rw [dScore_holds h, h.k, ← EReal.coe_mul]; rfl

/-- What is carried on. -/
theorem cp_holds : Holds (carried (logRest mk H k) cp 8) fun i _ => ∑ s ∈ Finset.range (c0 + 1024), R.lm (r0 + i) s :=
  carried_holds (logRest_holds h) h.cp 8 le_rfl
theorem ce_holds : Holds (carried (ea mk triAfter H k v cp) ce 8) fun i _ => ∑ s ∈ Finset.range (c0 + 1024), R.e (r0 + i) s :=
  carried_holds (ea_holds h) h.ce 8 le_rfl
end

end Cert.SbClaims

end
-- ==== Proof.SbStep.lean ====
module

public import proofs.«01_k».proof.Proof.SbTile

/-! One grid point at real numbers: four heads over the wide tiles up to the diagonal. -/

@[expose] public section

set_option maxRecDepth 16384

noncomputable section

namespace Cert.SbClaims

open Idealize.ShloMosaic Idealize.ShloMosaic.Tactic
open Cert.SbKernelIdeal Cert.SbKernelIdeal.Gen

/-- The logistic function. -/
def sgm (x : ℝ) : ℝ := 1 / (1 + Real.exp (-x))

/-- The real arrays of the call: queries, keys, values, gate, gradient of the gated output; lanes `128 h …` are head `h`'s. -/
structure Arrays where
  q : ℕ → ℕ → ℝ
  k : ℕ → ℕ → ℝ
  v : ℕ → ℕ → ℝ
  g : ℕ → ℕ → ℝ
  dog : ℕ → ℕ → ℝ

namespace Arrays
variable (A : Arrays)

/-- The gradient of the attention's output. -/
def d (i l : ℕ) : ℝ := A.dog i l * (A.g i l * sgm (A.g i l))
def head (h : ℕ) : Rows :=
  ⟨fun i d => A.q i (128 * h + d), fun j d => A.k j (128 * h + d), fun j d => A.v j (128 * h + d), fun i d => A.d i (128 * h + d)⟩
/-- The attention's output. -/
def o (i l : ℕ) : ℝ := ∑ j ∈ Finset.range 2048, (A.head (l / 128)).att i j * A.v j l
/-- What query `i` adds to the gradients of key and value `j`. -/
def addK (i j l : ℕ) : ℝ := (A.head (l / 128)).dz i j * A.q i l
def addV (i j l : ℕ) : ℝ := (A.head (l / 128)).att i j * A.d i l
/-- The five gradients. -/
def dq (i l : ℕ) : ℝ := ∑ j ∈ Finset.range 2048, (A.head (l / 128)).dz i j * A.k j l
def dk (j l : ℕ) : ℝ := ∑ i ∈ Finset.range 2048, A.addK i j l
def dv (j l : ℕ) : ℝ := ∑ i ∈ Finset.range 2048, A.addV i j l
def dg (i l : ℕ) : ℝ :=
  A.dog i l * A.o i l * (sgm (A.g i l) * (1 + A.g i l * (1 - sgm (A.g i l))))
end Arrays

/-! ## A block of rows of one head -/

theorem rowsOf_holds {X : S2048x512.Idx → EReal} {f : ℕ → ℕ → ℝ} (hX : Holds X f) (n : Fin 2) (h : Fin 4) :
    Holds (rowsOf n h X) fun j d => f (1024 * n.val + j) (128 * h.val + d) := by
  intro j
  refine (hX _).trans ?_
  change ((f (1024 * n.val + 1 * (j 0).val) (128 * h.val + 1 * (j 1).val) : ℝ) : EReal) = _
  rw [one_mul, one_mul]

theorem tile_overlay (n : Fin 2) (h : Fin 4) {X : S2048x512.Idx → EReal} {w : S1024x128.Idx → EReal} {f u : ℕ → ℕ → ℝ}
    (hX : Holds X f) (hw : Holds w u) :
    Holds ((tile n h).overlay X w) fun s l =>
      if s / 1024 = n.val ∧ l / 128 = h.val then u (s % 1024) (l % 128) else f s l := by
  intro j
  have h0 : (j 0).val < 2048 := (j 0).isLt
  have h1 : (j 1).val < 512 := (j 1).isLt
  dsimp only
  split
  · next e =>
    obtain ⟨e0, e1⟩ := e
    have : (tile n h).emb (ix2 (n0 := 1024) (n1 := 128) ⟨(j 0).val % 1024, Nat.mod_lt _ (by norm_num)⟩
        ⟨(j 1).val % 128, Nat.mod_lt _ (by norm_num)⟩) = j := by
      refine Rect.emb_eq_of_coords _ _ _ fun a => ?_
      match a with
      | 0 => change (j 0).val = 1024 * n.val + 1 * ((j 0).val % 1024); omega
      | 1 => change (j 1).val = 128 * h.val + 1 * ((j 1).val % 128); omega
    conv_lhs => rw [← this]
    exact (Rect.overlay_emb _ _ _ _).trans (hw.at _ _)
  · next e =>
    refine (Rect.overlay_of_not_mem _ _ _ ?_).trans (hX j)
    by_cases e0 : (j 0).val / 1024 = n.val
    · have e1 : (j 1).val / 128 ≠ h.val := fun e1 => e ⟨e0, e1⟩
      refine Rect.not_mem_set_of_axis _ j 1 (128 * h.val) 128 rfl rfl rfl ?_
      omega
    · refine Rect.not_mem_set_of_axis _ j 0 (1024 * n.val) 1024 rfl rfl rfl ?_
      omega

/-- The overlaid block adds to what was there. -/
theorem tile_add (n : Fin 2) (h : Fin 4) {X : S2048x512.Idx → EReal} {w : S1024x128.Idx → EReal} {f : ℕ → ℕ → ℝ} (u : ℕ → ℕ → ℝ)
    (hX : Holds X f) (hw : Holds w fun y d => f (1024 * n.val + y) (128 * h.val + d) + u (1024 * n.val + y) (128 * h.val + d)) :
    Holds ((tile n h).overlay X w) fun s l => if s / 1024 = n.val ∧ l / 128 = h.val then f s l + u s l else f s l := by
  intro j
  refine (tile_overlay n h hX hw j).trans (congrArg _ ?_)
  dsimp only
  split
  · next e =>
    have e0 : 1024 * n.val + (j 0).val % 1024 = (j 0).val := by omega
    have e1 : 128 * h.val + (j 1).val % 128 = (j 1).val := by omega
    rw [e0, e1]
  · rfl

/-! ## Four heads -/

section
variable (A : Arrays) (g r0 : ℕ) (X3 X4 : S2048x512.Idx → EReal) (H : Fin 4 → Head Ideal)

/-- Keys and values of group `g`, and four heads' preparations at rows `r0 …`. -/
structure Ready : Prop where
  k : Holds X3 fun j l => A.k j (512 * g + l)
  v : Holds X4 fun j l => A.v j (512 * g + l)
  q : ∀ h : Fin 4, Holds (H h).q fun i d => (A.head (4 * g + h.val)).q (r0 + i) d
  d : ∀ h : Fin 4, Holds (H h).d fun i d => (A.head (4 * g + h.val)).d (r0 + i) d
  tot : ∀ h : Fin 4, Holds (H h).tot fun i _ => (A.head (4 * g + h.val)).total (r0 + i)

/-- What a head carries after the columns before `c0`. -/
structure Carried (R : Rows) (c0 : ℕ) (a : Carry Ideal) : Prop where
  dq : Holds a.1 fun i d => ∑ s ∈ Finset.range c0, R.dz (r0 + i) s * R.k s d
  cp : Holds a.2.1 fun i _ => ∑ s ∈ Finset.range c0, R.lm (r0 + i) s
  ce : Holds a.2.2 fun i _ => ∑ s ∈ Finset.range c0, R.e (r0 + i) s

variable {A g r0 X3 X4 H} (hr : Ready A g r0 X3 X4 H) (mk : FVec Ideal S128x1024 .f32 → FVec Ideal S128x1024 .f32) (n : Fin 2)
  (hmk : ∀ x j, (mk x j : EReal) = if 1024 * n.val + (j 1).val < r0 + (j 0).val then (x j : EReal) else ((0 : ℝ) : EReal))
  (a : Fin 4 → Carry Ideal) (ha : ∀ h : Fin 4, Carried r0 (A.head (4 * g + h.val)) (1024 * n.val) (a h))
include hr hmk ha

theorem fits (h : Fin 4) : Fits (A.head (4 * g + h.val)) r0 (1024 * n.val) mk (H h) (rowsOf n h X3) (rowsOf n h X4)
    (a h).2.1 (a h).2.2 where
  q := hr.q h
  d := hr.d h
  tot := hr.tot h
  k := by
    intro j
    refine (rowsOf_holds hr.k n h j).trans ?_
    change ((A.k _ (512 * g + (128 * h.val + (j 1).val)) : ℝ) : EReal) = ((A.k _ (128 * (4 * g + h.val) + (j 1).val) : ℝ) : EReal)
    congr 2; ring
  v := by
    intro j
    refine (rowsOf_holds hr.v n h j).trans ?_
    change ((A.v _ (512 * g + (128 * h.val + (j 1).val)) : ℝ) : EReal) = ((A.v _ (128 * (4 * g + h.val) + (j 1).val) : ℝ) : EReal)
    congr 2; ring
  cp := (ha h).cp
  ce := (ha h).ce
  msk := hmk

theorem fourC_carried (h : Fin 4) :
    Carried r0 (A.head (4 * g + h.val)) (1024 * (n.val + 1)) (fourC mk X3 X4 n H a h) := by
  have hf := fits hr mk n hmk a ha h
  have e : 1024 * (n.val + 1) = 1024 * n.val + 1024 := by ring
  rw [e]
  refine ⟨fun j => ?_, cp_holds hf, ce_holds hf⟩
  refine (dqTile_holds hf (ha h).dq j).trans ?_
  simp only [Finset.sum_range_add _ (1024 * n.val) 1024]

/-- One head's additions to the gradients of keys and values. -/
theorem stepG_holds (h : Fin 4) {G : Grads Ideal} {f1 f2 : ℕ → ℕ → ℝ} (h1 : Holds G.1 f1) (h2 : Holds G.2 f2) :
    Holds (stepG mk X3 X4 n h (H h) (a h) G).1 (fun s l => if s / 1024 = n.val ∧ l / 128 = h.val then
        f1 s l + ∑ i ∈ Finset.range 128, A.addK (r0 + i) s (512 * g + l) else f1 s l)
      ∧ Holds (stepG mk X3 X4 n h (H h) (a h) G).2 (fun s l => if s / 1024 = n.val ∧ l / 128 = h.val then
        f2 s l + ∑ i ∈ Finset.range 128, A.addV (r0 + i) s (512 * g + l) else f2 s l) := by
  have hf := fits hr mk n hmk a ha h
  have hh (d : ℕ) (hd : d < 128) : (128 * (4 * g + h.val) + d) / 128 = 4 * g + h.val := by omega
  have hl (d : ℕ) : 512 * g + (128 * h.val + d) = 128 * (4 * g + h.val) + d := by ring
  have hk := dkTile_holds hf (rowsOf_holds h1 n h)
  have hv := dvTile_holds hf (rowsOf_holds h2 n h)
  unfold stepG
  dsimp only
  generalize dkTile mk triAfter triBefore (H h) (rowsOf n h X3) (rowsOf n h X4) (a h).2.1 (a h).2.2 (rowsOf n h G.1) = wk at hk ⊢
  generalize dvTile mk triAfter (H h) (rowsOf n h X3) (a h).2.1 (rowsOf n h G.2) = wv at hv ⊢
  refine ⟨tile_add n h (fun s l => ∑ i ∈ Finset.range 128, A.addK (r0 + i) s (512 * g + l)) h1 fun j => ?_,
    tile_add n h (fun s l => ∑ i ∈ Finset.range 128, A.addV (r0 + i) s (512 * g + l)) h2 fun j => ?_⟩
  · refine (hk j).trans ?_
    simp only [Arrays.addK, hh _ (show (j 1).val < 128 from (j 1).isLt), hl]
    rfl
  · refine (hv j).trans ?_
    simp only [Arrays.addV, hh _ (show (j 1).val < 128 from (j 1).isLt), hl]
    rfl

theorem fourG_holds {G : Grads Ideal} {f1 f2 : ℕ → ℕ → ℝ} (h1 : Holds G.1 f1) (h2 : Holds G.2 f2) :
    Holds (fourG mk X3 X4 n H a G).1 (fun s l => if s / 1024 = n.val then
        f1 s l + ∑ i ∈ Finset.range 128, A.addK (r0 + i) s (512 * g + l) else f1 s l)
      ∧ Holds (fourG mk X3 X4 n H a G).2 (fun s l => if s / 1024 = n.val then
        f2 s l + ∑ i ∈ Finset.range 128, A.addV (r0 + i) s (512 * g + l) else f2 s l) := by
  have s0 := stepG_holds hr mk n hmk a ha 0 h1 h2
  have s1 := stepG_holds hr mk n hmk a ha 1 s0.1 s0.2
  have s2 := stepG_holds hr mk n hmk a ha 2 s1.1 s1.2
  have s3 := stepG_holds hr mk n hmk a ha 3 s2.1 s2.2
  have key (x y : ℝ) (s l : ℕ) (hl : l < 512) :
      (if s / 1024 = n.val ∧ l / 128 = (3 : Fin 4).val then
          (if s / 1024 = n.val ∧ l / 128 = (2 : Fin 4).val then
            (if s / 1024 = n.val ∧ l / 128 = (1 : Fin 4).val then
              (if s / 1024 = n.val ∧ l / 128 = (0 : Fin 4).val then x + y else x) + y
              else (if s / 1024 = n.val ∧ l / 128 = (0 : Fin 4).val then x + y else x)) + y
            else (if s / 1024 = n.val ∧ l / 128 = (1 : Fin 4).val then
              (if s / 1024 = n.val ∧ l / 128 = (0 : Fin 4).val then x + y else x) + y
              else (if s / 1024 = n.val ∧ l / 128 = (0 : Fin 4).val then x + y else x))) + y
          else (if s / 1024 = n.val ∧ l / 128 = (2 : Fin 4).val then
            (if s / 1024 = n.val ∧ l / 128 = (1 : Fin 4).val then
              (if s / 1024 = n.val ∧ l / 128 = (0 : Fin 4).val then x + y else x) + y
              else (if s / 1024 = n.val ∧ l / 128 = (0 : Fin 4).val then x + y else x)) + y
            else (if s / 1024 = n.val ∧ l / 128 = (1 : Fin 4).val then
              (if s / 1024 = n.val ∧ l / 128 = (0 : Fin 4).val then x + y else x) + y
              else (if s / 1024 = n.val ∧ l / 128 = (0 : Fin 4).val then x + y else x))))
        = if s / 1024 = n.val then x + y else x := by
    by_cases e : s / 1024 = n.val
    · have : l / 128 = 0 ∨ l / 128 = 1 ∨ l / 128 = 2 ∨ l / 128 = 3 := by omega
      rcases this with w | w | w | w <;> simp [e, w]
    · simp [e]
  refine ⟨fun j => (s3.1 j).trans ?_, fun j => (s3.2 j).trans ?_⟩
  · exact congrArg _ (key _ _ _ _ (j 1).isLt)
  · exact congrArg _ (key _ _ _ _ (j 1).isLt)
end

/-! ## The wide tiles up to the diagonal -/

section
variable {A : Arrays} {g : ℕ} {i : grid0.Coords} {X3 X4 : S2048x512.Idx → EReal} {H : Fin 4 → Head Ideal}
  (hr : Ready A g (128 * (i 1).val) X3 X4 H)
include hr

theorem ident_mask (n : Fin 2) (hn : n.val < (wide i).val) (x : FVec Ideal S128x1024 .f32) (j : S128x1024.Idx) :
    (x j : EReal) = if 1024 * n.val + (j 1).val < 128 * (i 1).val + (j 0).val then (x j : EReal) else ((0 : ℝ) : EReal) := by
  have hj : (j 1).val < 1024 := (j 1).isLt
  have : (wide i).val = (i 1).val / 8 := rfl
  rw [if_pos (by omega)]

theorem runC_carried (n : ℕ) (hn : n ≤ (wide i).val) (h : Fin 4) :
    Carried (128 * (i 1).val) (A.head (4 * g + h.val)) (1024 * n) (runC X3 X4 H n h) := by
  induction n generalizing h with
  | zero =>
    refine ⟨fun j => zero_eq.trans ?_, fun j => zero_eq.trans ?_, fun j => zero_eq.trans ?_⟩ <;> simp
  | succ n ih =>
    have hm : (Fin.ofNat 2 n).val = n := Nat.mod_eq_of_lt (by have := (wide i).isLt; omega)
    have := fourC_carried hr (fun x => x) (Fin.ofNat 2 n) (fun x j => ident_mask hr _ (by omega) x j) (runC X3 X4 H n)
      (by rw [hm]; exact ih (by omega)) h
    rw [hm] at this
    exact this

theorem runG_holds (n : ℕ) (hn : n ≤ (wide i).val) {G : Grads Ideal} {f1 f2 : ℕ → ℕ → ℝ} (h1 : Holds G.1 f1) (h2 : Holds G.2 f2) :
    Holds (runG X3 X4 H G n).1 (fun s l => if s / 1024 < n then
        f1 s l + ∑ y ∈ Finset.range 128, A.addK (128 * (i 1).val + y) s (512 * g + l) else f1 s l)
      ∧ Holds (runG X3 X4 H G n).2 (fun s l => if s / 1024 < n then
        f2 s l + ∑ y ∈ Finset.range 128, A.addV (128 * (i 1).val + y) s (512 * g + l) else f2 s l) := by
  induction n with
  | zero => exact ⟨fun j => (h1 j).trans (by simp), fun j => (h2 j).trans (by simp)⟩
  | succ n ih =>
    have hm : (Fin.ofNat 2 n).val = n := Nat.mod_eq_of_lt (by have := (wide i).isLt; omega)
    have hi := ih (by omega)
    have := fourG_holds hr (fun x => x) (Fin.ofNat 2 n) (fun x j => ident_mask hr _ (by omega) x j) (runC X3 X4 H n)
      (by rw [hm]; exact runC_carried hr n (by omega)) hi.1 hi.2
    rw [hm] at this
    refine ⟨fun j => (this.1 j).trans (congrArg _ ?_), fun j => (this.2 j).trans (congrArg _ ?_)⟩ <;>
    · by_cases e : (j 0).val / 1024 = n
      · simp [e]
      · by_cases e' : (j 0).val / 1024 < n
        · simp only [if_neg e, if_pos e', if_pos (Nat.lt_succ_of_lt e')]
        · simp only [if_neg e, if_neg e', if_neg (show ¬ (j 0).val / 1024 < n + 1 by omega)]
end

/-- The mask of the last wide tile. -/
theorem masked_apply (i : grid0.Coords) (x : FVec Ideal S128x1024 .f32) (j : S128x1024.Idx) :
    (masked i x j : EReal) = if 1024 * (wide i).val + (j 1).val < 128 * (i 1).val + (j 0).val then (x j : EReal)
      else ((0 : ℝ) : EReal) := by
  have h0 : (j 0).val < 128 := (j 0).isLt
  have h1 : (j 1).val < 1024 := (j 1).isLt
  have hi : (i 1).val < 16 := (i 1).isLt
  have hw : (wide i).val < 2 := (wide i).isLt
  have e : mask i j = IntOp.cmpi .slt (BitVec.ofNat 32 (1024 * (wide i).val + (j 1).val))
      (BitVec.ofNat 32 (128 * (i 1).val + (j 0).val)) := by
    unfold mask
    rw [wideNo_eq]
    change IntOp.cmpi .slt (IntOp.addi (BitVec.ofNat 32 _) (IntOp.muli (BitVec.ofNat 32 (wide i).val) (BitVec.ofNat 32 1024)))
      (IntOp.addi (BitVec.ofNat 32 _) (IntOp.muli (BitVec.ofNat 32 (i 1).val) (BitVec.ofNat 32 128))) = _
    unfold IntOp.addi IntOp.muli
    rw [← BitVec.ofNat_mul, ← BitVec.ofNat_mul, ← BitVec.ofNat_add, ← BitVec.ofNat_add]
    refine congrArg₂ _ (congrArg _ ?_) (congrArg _ ?_)
    · simp only [List.foldl_cons, List.foldl_nil]; omega
    · simp only [List.foldl_cons, List.foldl_nil]; omega
  unfold masked
  change Scalar.select (mask i j) (x j) (Ideal.ofBits .f32 0x00000000#32) = _
  rw [e, zero_eq]
  exact select_lt _ _ (by omega) (by omega) _ _

end Cert.SbClaims

end
-- ==== Proof.SbGrid.lean ====
module

public import proofs.«01_k».proof.Proof.SbStep
public import proofs.«01_k».proof.Proof.SbFrame

/-! The gradients over the grid at real numbers: what each grid point leaves in the output arrays' blocks. -/

@[expose] public section

set_option maxRecDepth 16384

noncomputable section

namespace Cert.SbClaims

open Idealize.ShloMosaic Idealize.ShloMosaic.Tactic
open Cert.SbKernelIdeal Cert.SbKernelIdeal.Gen

/-! ## Sums up to the diagonal -/

theorem sum_to_end {n : ℕ} (hn : n ≤ 2048) (f : ℕ → ℝ) (hf : ∀ s, n ≤ s → f s = 0) :
    ∑ s ∈ Finset.range n, f s = ∑ s ∈ Finset.range 2048, f s :=
  Finset.sum_subset (Finset.range_mono hn) fun s _ h => hf s (by simpa using h)

namespace Arrays
variable (A : Arrays)
theorem addK_zero {i j : ℕ} (l : ℕ) (h : ¬ j < i) : A.addK i j l = 0 := by unfold addK; rw [Rows.dz_zero _ h, zero_mul]
theorem addV_zero {i j : ℕ} (l : ℕ) (h : ¬ j < i) : A.addV i j l = 0 := by unfold addV; rw [Rows.att_zero _ h, zero_mul]
end Arrays

/-! ## One head's part of the blocks -/

theorem lanesOf_holds {X : S128x512.Idx → EReal} {f : ℕ → ℕ → ℝ} (hX : Holds X f) (h : Fin 4) :
    Holds (lanesOf h X) fun i d => f i (128 * h.val + d) := by
  intro j
  refine (hX _).trans ?_
  change ((f (0 + 1 * (j 0).val) (128 * h.val + 1 * (j 1).val) : ℝ) : EReal) = _
  rw [one_mul, one_mul, zero_add]

theorem beside_holds {f : Fin 4 → S128x128.Idx → EReal} {u : ℕ → ℕ → ℝ}
    (hf : ∀ h : Fin 4, Holds (f h) fun i d => u i (128 * h.val + d)) : Holds (beside f) u := by
  intro j
  unfold beside
  refine ((hf _).at _ _).trans (congrArg _ ?_)
  change u (j 0).val (128 * ((j 1).val / 128) + (j 1).val % 128) = _
  rw [Nat.div_add_mod]

theorem sigm_holds {x : Vec Ideal S128x128 .f32} {f : ℕ → ℕ → ℝ} (hx : Holds x f) :
    Holds (sigm (F := Ideal) x) fun i d => sgm (f i d) := by
  intro j
  have e : (sigm (F := Ideal) x j : EReal) = Ideal.div (Ideal.ofBits .f32 0x3F800000#32)
      (Ideal.ofBits .f32 0x3F800000#32 + Ideal.exp (Ideal.ofBits .f32 0x00000000#32 - (x j : EReal))) := by
    pointwise [sigm]
  rw [e, hx j, one_eq, zero_eq, ← EReal.coe_sub, Ideal.exp_coe, ← EReal.coe_add,
    Ideal.div_coe (show 1 + Real.exp (0 - f (j 0).val (j 1).val) ≠ 0 by positivity), ← EReal.coe_mul, one_mul, zero_sub]
  rfl

theorem doTile_holds {g dog : Vec Ideal S128x128 .f32} {f u : ℕ → ℕ → ℝ} (hg : Holds g f) (hd : Holds dog u) :
    Holds (doTile (F := Ideal) g dog) fun i d => u i d * (f i d * sgm (f i d)) := by
  intro j
  have e : (doTile (F := Ideal) g dog j : EReal) = (dog j : EReal) * ((g j : EReal) * (sigm (F := Ideal) g j : EReal)) := by pointwise [doTile]
  rw [e, hd j, hg j, sigm_holds hg j, ← EReal.coe_mul, ← EReal.coe_mul]

theorem dgTile_holds {g dog o : Vec Ideal S128x128 .f32} {f u w : ℕ → ℕ → ℝ} (hg : Holds g f) (hd : Holds dog u) (ho : Holds o w) :
    Holds (dgTile (F := Ideal) g dog o) fun i d => u i d * w i d * (sgm (f i d) * (1 + f i d * (1 - sgm (f i d)))) := by
  intro j
  have e : (dgTile (F := Ideal) g dog o j : EReal) = ((dog j : EReal) * (o j : EReal)) * ((sigm (F := Ideal) g j : EReal)
      * (Ideal.ofBits .f32 0x3F800000#32 + (g j : EReal) * (Ideal.ofBits .f32 0x3F800000#32 - (sigm (F := Ideal) g j : EReal)))) := by
    pointwise [dgTile]
  rw [e, hd j, hg j, ho j, sigm_holds hg j, one_eq, ← EReal.coe_sub, ← EReal.coe_mul, ← EReal.coe_mul, ← EReal.coe_add,
    ← EReal.coe_mul, ← EReal.coe_mul]

/-! ## One grid point -/

/-- The blocks at query block `qi` of head group `g`. -/
structure Blocks (A : Arrays) (g qi : ℕ) (X2 : Vec Ideal S128x512 .bf16) (X3 X4 : Vec Ideal S2048x512 .bf16)
    (X5 X6 X8 : Vec Ideal S128x512 .f32) (X7 : Vec Ideal S4x128x128 .f32) : Prop where
  q : Holds X2 fun i l => A.q (128 * qi + i) (512 * g + l)
  k : Holds X3 fun j l => A.k j (512 * g + l)
  v : Holds X4 fun j l => A.v j (512 * g + l)
  gate : Holds X5 fun i l => A.g (128 * qi + i) (512 * g + l)
  o : Holds X6 fun i l => A.o (128 * qi + i) (512 * g + l)
  dog : Holds X8 fun i l => A.dog (128 * qi + i) (512 * g + l)
  tot : ∀ j : S4x128x128.Idx, (X7 j : EReal) = (((A.head (4 * g + (j 0).val)).total (128 * qi + (j 1).val) : ℝ) : EReal)

section
variable {A : Arrays} {g : ℕ} {i : grid0.Coords} {X2 : Vec Ideal S128x512 .bf16} {X3 X4 : Vec Ideal S2048x512 .bf16}
  {X5 X6 X8 : Vec Ideal S128x512 .f32} {X7 : Vec Ideal S4x128x128 .f32}
  (hb : Blocks A g (i 1).val X2 X3 X4 X5 X6 X8 X7)
include hb

theorem lane_eq (h : Fin 4) (d : ℕ) : 512 * g + (128 * h.val + d) = 128 * (4 * g + h.val) + d := by ring

theorem ready : Ready A g (128 * (i 1).val) X3 X4 (headAt X2 X5 X8 X7) where
  k := hb.k
  v := hb.v
  q h := fun j => (lanesOf_holds hb.q h j).trans (by dsimp only; rw [lane_eq hb]; rfl)
  d h := fun j => (doTile_holds (lanesOf_holds hb.gate h) (lanesOf_holds hb.dog h) j).trans (by dsimp only; rw [lane_eq hb]; rfl)
  tot h := by
    intro j
    have e : ((headAt X2 X5 X8 X7 h).tot j : EReal) = planeOf h X7 (ix3 (n0 := 1) (n1 := 128) (n2 := 128) 0 (j 0) 0) := by
      unfold headAt; dsimp only; pointwise [totCol]
    refine e.trans ((hb.tot _).trans ?_)
    change (((A.head (4 * g + (h.val + 1 * 0))).total (128 * (i 1).val + (0 + 1 * (j 0).val)) : ℝ) : EReal) = _
    rw [mul_zero, add_zero, zero_add, one_mul]

theorem before_carried (h : Fin 4) : Carried (128 * (i 1).val) (A.head (4 * g + h.val)) (1024 * (wide i).val)
    (beforeC i X2 X3 X4 X5 X8 X7 h) := runC_carried (ready hb) _ le_rfl h

/-- The gradient of the queries at a grid point. -/
theorem dqOut_holds : Holds (dqOut i X2 X3 X4 X5 X8 X7) fun r l => A.dq (128 * (i 1).val + r) (512 * g + l) := by
  unfold dqOut
  refine beside_holds fun h j => ?_
  refine ((fourC_carried (ready hb) (masked i) (wide i) (masked_apply i) _ (before_carried hb) h).dq j).trans (congrArg _ ?_)
  have h0 : (j 0).val < 128 := (j 0).isLt
  have h1 : (j 1).val < 128 := (j 1).isLt
  have hi : (i 1).val < 16 := (i 1).isLt
  have hw : (wide i).val = (i 1).val / 8 := rfl
  refine (sum_to_end (by omega) _ fun s hs => ?_).trans ?_
  · rw [Rows.dz_zero _ (by omega), zero_mul]
  · unfold Arrays.dq
    dsimp only
    rw [lane_eq hb, show (128 * (4 * g + h.val) + (j 1).val) / 128 = 4 * g + h.val by omega]
    rfl

/-- The gradient of the gate at a grid point. -/
theorem dgOut_holds : Holds (dgOut X5 X6 X8) fun r l => A.dg (128 * (i 1).val + r) (512 * g + l) := by
  unfold dgOut
  exact beside_holds fun h => dgTile_holds (lanesOf_holds hb.gate h) (lanesOf_holds hb.dog h) (lanesOf_holds hb.o h)

/-- The gradients of keys and values after a grid point. -/
theorem leftG_holds {G : Grads Ideal} {f1 f2 : ℕ → ℕ → ℝ} (h1 : Holds (startG i G).1 f1) (h2 : Holds (startG i G).2 f2) :
    Holds (leftG i X2 X3 X4 X5 X8 X7 G).1 (fun s l =>
        f1 s l + ∑ y ∈ Finset.range 128, A.addK (128 * (i 1).val + y) s (512 * g + l))
      ∧ Holds (leftG i X2 X3 X4 X5 X8 X7 G).2 (fun s l =>
        f2 s l + ∑ y ∈ Finset.range 128, A.addV (128 * (i 1).val + y) s (512 * g + l)) := by
  have hi : (i 1).val < 16 := (i 1).isLt
  have hw : (wide i).val = (i 1).val / 8 := rfl
  have r := runG_holds (ready hb) _ le_rfl h1 h2
  have f := fourG_holds (ready hb) (masked i) (wide i) (masked_apply i) _ (before_carried hb) r.1 r.2
  have key (x : ℝ) (s : ℕ) (u : ℕ → ℝ) (hu : ∀ y < 128, 128 * (i 1).val + y ≤ s → u y = 0) :
      (if s / 1024 = (wide i).val then (if s / 1024 < (wide i).val then x + ∑ y ∈ Finset.range 128, u y else x)
          + ∑ y ∈ Finset.range 128, u y else (if s / 1024 < (wide i).val then x + ∑ y ∈ Finset.range 128, u y else x))
        = x + ∑ y ∈ Finset.range 128, u y := by
    by_cases e : s / 1024 = (wide i).val
    · rw [if_pos e, if_neg (by omega)]
    · rw [if_neg e]
      by_cases e' : s / 1024 < (wide i).val
      · rw [if_pos e']
      · rw [if_neg e', Finset.sum_eq_zero, add_zero]
        intro y hy
        have := Finset.mem_range.mp hy
        exact hu y this (by omega)
  unfold leftG
  refine ⟨fun j => (f.1 j).trans (congrArg _ ?_), fun j => (f.2 j).trans (congrArg _ ?_)⟩
  · exact key _ _ _ fun y _ h => A.addK_zero _ (by omega)
  · exact key _ _ _ fun y _ h => A.addV_zero _ (by omega)

end

/-! ## The grid -/

section
variable {A : Arrays} {m : (ℓ : Loc nD τ sig) → Buf (Elt Ideal) ℓ} {c : Dev nD}
  (hb : ∀ t : Fin cfg0.N, Blocks A (t.val / 16) (t.val % 16) (b2 m c t) (b3 m c t) (b4 m c t) (b5 m c t) (b6 m c t) (b8 m c t)
    (b7 m c t))
include hb

theorem blocks_at (t : Fin cfg0.N) : Blocks A (t.val / 16) (grid0.coords t 1).val (b2 m c t) (b3 m c t) (b4 m c t) (b5 m c t)
    (b6 m c t) (b8 m c t) (b7 m c t) := by rw [coords_qi]; exact hb t

/-- One grid point adds its 128 queries. -/
theorem gAt_step (t : Fin cfg0.N)
    (h : Holds (startG (grid0.coords t) (gAt m c t.val)).1 (fun s l =>
        ∑ y ∈ Finset.range (128 * (t.val % 16)), A.addK y s (512 * (t.val / 16) + l))
      ∧ Holds (startG (grid0.coords t) (gAt m c t.val)).2 (fun s l =>
        ∑ y ∈ Finset.range (128 * (t.val % 16)), A.addV y s (512 * (t.val / 16) + l))) :
    Holds (gAt m c (t.val + 1)).1 (fun s l =>
        ∑ y ∈ Finset.range (128 * (t.val % 16 + 1)), A.addK y s (512 * (t.val / 16) + l))
      ∧ Holds (gAt m c (t.val + 1)).2 (fun s l =>
        ∑ y ∈ Finset.range (128 * (t.val % 16 + 1)), A.addV y s (512 * (t.val / 16) + l)) := by
  have l := leftG_holds (blocks_at hb t) h.1 h.2
  rw [gAt_succ]
  unfold stepAt
  have key (u : ℕ → ℝ) : ∑ y ∈ Finset.range (128 * (t.val % 16)), u y + ∑ y ∈ Finset.range 128, u (128 * (grid0.coords t 1).val + y)
      = ∑ y ∈ Finset.range (128 * (t.val % 16 + 1)), u y := by
    rw [coords_qi, mul_add, mul_one, Finset.sum_range_add]
  exact ⟨fun j => (l.1 j).trans (congrArg _ (key _)), fun j => (l.2 j).trans (congrArg _ (key _))⟩

/-- After a group's query block the gradients hold the sums over the queries so far. -/
theorem gAt_holds (n : ℕ) (hn : n < cfg0.N) :
    Holds (gAt m c (n + 1)).1 (fun s l =>
        ∑ y ∈ Finset.range (128 * (n % 16 + 1)), A.addK y s (512 * (n / 16) + l))
      ∧ Holds (gAt m c (n + 1)).2 (fun s l =>
        ∑ y ∈ Finset.range (128 * (n % 16 + 1)), A.addV y s (512 * (n / 16) + l)) := by
  have first (n : ℕ) (hn : n < cfg0.N) (h : n % 16 = 0) := gAt_step hb ⟨n, hn⟩ (by
    unfold startG
    rw [if_pos ((coords_qi _).trans h)]
    dsimp only
    rw [h]
    exact ⟨fun j => zero_eq.trans (by simp), fun j => zero_eq.trans (by simp)⟩)
  induction n with
  | zero => exact first 0 hn rfl
  | succ n ih =>
    by_cases h : (n + 1) % 16 = 0
    · exact first (n + 1) hn h
    · have hi := ih (by omega)
      rw [show n % 16 + 1 = (n + 1) % 16 by omega, show n / 16 = (n + 1) / 16 by omega] at hi
      refine gAt_step hb ⟨n + 1, hn⟩ ?_
      unfold startG
      rw [if_neg (fun e => h ((coords_qi _).symm.trans e))]
      exact hi

/-- At a group's last query block they are whole. -/
theorem gAt_last (t : Fin cfg0.N) (h : t.val % 16 = 15) :
    Holds (gAt m c (t.val + 1)).1 (fun s l => A.dk s (512 * (t.val / 16) + l))
      ∧ Holds (gAt m c (t.val + 1)).2 (fun s l => A.dv s (512 * (t.val / 16) + l)) := by
  have := gAt_holds hb t.val t.isLt
  rw [h] at this
  exact this
end

theorem dvOut_holds {Y : Vec Ideal S2048x512 .f32} {f : ℕ → ℕ → ℝ} (h : Holds Y f) : Holds (dvOut Y) f := by
  intro j
  have e : (dvOut Y j : EReal) = Y j := by pointwise [dvOut]
  exact e.trans (h j)

end Cert.SbClaims

end
-- ==== Proof.SbRef.lean ====
module

public import proofs.«01_k».proof.Proof.SbStep
public import proofs.«01_k».proof.Proof.Gen.SbReferenceIdeal.Read

/-! The reference at real numbers: each array the host computes, read at an index, is the real number the
    mathematics names. -/

@[expose] public section

set_option maxRecDepth 16384

noncomputable section

namespace Cert.SbClaims

open Idealize.ShloMosaic Idealize.ShloMosaic.Tactic
open Cert.SbReferenceIdeal Cert.SbReferenceIdeal.Read

/-! ## Arrays of heads -/

/-- A three-dimensional array of extended reals holds a real function of its three coordinates. -/
def Holds3 {n a b : ℕ} (X : (⟨3, ![n, a, b]⟩ : Shape).Idx → EReal) (f : ℕ → ℕ → ℕ → ℝ) : Prop :=
  ∀ j, X j = ((f (j 0).val (j 1).val (j 2).val : ℝ) : EReal)

/-- The columns of a head, heads first, from an array with the heads side by side. -/
theorem heads_apply {X : S2048x2048.Idx → EReal} {f : ℕ → ℕ → ℝ} (hX : Holds X f) (j : S16x2048x128.Idx) :
    X (idx_main_v4 (idx_main_v5 j)) = ((f (j 1).val (128 * (j 0).val + (j 2).val) : ℝ) : EReal) := by
  have h0 : (j 0).val < 16 := (j 0).isLt
  have h1 : (j 1).val < 2048 := (j 1).isLt
  have h2 : (j 2).val < 128 := (j 2).isLt
  refine (hX _).trans (congrArg Real.toEReal ?_)
  change f ((((j 1).val * 16 + (j 0).val) * 128 + (j 2).val) / 2048) ((((j 1).val * 16 + (j 0).val) * 128 + (j 2).val) % 2048) = _
  congr 1 <;> omega

/-- Heads put side by side again. -/
theorem flat_apply {X : S16x2048x128.Idx → EReal} {f : ℕ → ℕ → ℕ → ℝ} (hX : Holds3 X f) (j : S2048x2048.Idx) :
    X (idx_main_v30 (idx_main_v31 j)) = ((f ((j 1).val / 128) (j 0).val ((j 1).val % 128) : ℝ) : EReal) := by
  have h0 : (j 0).val < 2048 := (j 0).isLt
  have h1 : (j 1).val < 2048 := (j 1).isLt
  refine (hX _).trans (congrArg Real.toEReal ?_)
  change f (((j 0).val * 2048 + (j 1).val) / 128 % 16) (((j 0).val * 2048 + (j 1).val) / 2048) (((j 0).val * 2048 + (j 1).val) % 128) = _
  congr 1 <;> omega

/-! ## Sums over a window along the last axis -/

theorem foldl_add_eq {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- The places of a window of one by one by 2048. -/
def places : (⟨3, ![1, 1, 2048]⟩ : Shape).Idx ≃ Fin 2048 where
  toFun w := w 2
  invFun k := fun a => match a with | 0 => (0 : Fin 1) | 1 => (0 : Fin 1) | 2 => k
  left_inv w := by
    funext a
    match a with
    | 0 => exact Subsingleton.elim (α := Fin 1) _ _
    | 1 => exact Subsingleton.elim (α := Fin 1) _ _
    | 2 => rfl
  right_inv _ := rfl

theorem window_sum {lo hi : Fin 3 → ℕ} (h : S16x2048x2048.ReduceWindows ![1, 1, 2048] ![1, 1, 1] lo hi S16x2048x2048)
    (x : S16x2048x2048.Idx → EReal) (v : EReal) (j : S16x2048x2048.Idx) (f : ℕ → EReal)
    (hf : ∀ (w : (⟨3, ![1, 1, 2048]⟩ : Shape).Idx)
      (hin : ∀ a : Fin 3, lo a ≤ (j a).val * (![1, 1, 1] : Fin 3 → ℕ) a + (w a).val
          ∧ (j a).val * (![1, 1, 1] : Fin 3 → ℕ) a + (w a).val - lo a < S16x2048x2048.size a),
      x (fun a => ⟨(j a).val * (![1, 1, 1] : Fin 3 → ℕ) a + (w a).val - lo a, (hin a).2⟩) = f (w 2).val)
    (ho : ∀ w : (⟨3, ![1, 1, 2048]⟩ : Shape).Idx,
      (¬ ∀ a : Fin 3, lo a ≤ (j a).val * (![1, 1, 1] : Fin 3 → ℕ) a + (w a).val
          ∧ (j a).val * (![1, 1, 1] : Fin 3 → ℕ) a + (w a).val - lo a < S16x2048x2048.size a) → v = f (w 2).val) :
    Ideal.hostReduceWindowAdd ![1, 1, 2048] ![1, 1, 1] lo hi h x v j = v + ∑ k : Fin 2048, f k.val := by
  unfold Ideal.hostReduceWindowAdd Host.reduceWindow
  dsimp only
  refine (foldl_add_eq _ _ _).trans (congrArg (v + ·) ?_)
  rw [← Fin.sum_univ_def, ← places.sum_comp, ← Equiv.sum_comp (Shape.rowMajor ⟨3, ![1, 1, 2048]⟩).symm]
  exact Finset.sum_congr rfl fun n _ => by
    split
    · next hin => exact hf ((Shape.rowMajor ⟨3, ![1, 1, 2048]⟩).symm n) hin
    · next hin => exact ho ((Shape.rowMajor ⟨3, ![1, 1, 2048]⟩).symm n) hin

/-- What is left of a row from a column on. -/
theorem window_after {lo hi : Fin 3 → ℕ} (l0 : lo 0 = 0) (l1 : lo 1 = 0) (l2 : lo 2 = 0)
    (h : S16x2048x2048.ReduceWindows ![1, 1, 2048] ![1, 1, 1] lo hi S16x2048x2048)
    (hu : 0 < S_.numel)
    {x : FVec Ideal S16x2048x2048 .f32} {v : FVec Ideal S_ .f32} (hv : ∀ i, v i = ((0 : ℝ) : EReal)) {f : ℕ → ℕ → ℕ → ℝ} (hx : Holds3 x f) :
    Holds3 (Host.reduceWindowAdd (F := Ideal) ![1, 1, 2048] ![1, 1, 1] lo hi x v h hu)
      fun n i j => ∑ s ∈ Finset.range 2048, f n i s - ∑ s ∈ Finset.range j, f n i s := by
  intro j
  have h0 : (j 0).val < 16 := (j 0).isLt
  have h1 : (j 1).val < 2048 := (j 1).isLt
  have h2 : (j 2).val < 2048 := (j 2).isLt
  change Ideal.hostReduceWindowAdd ![1, 1, 2048] ![1, 1, 1] lo hi h x (v (Shape.Idx.first hu)) j = _
  rw [hv]
  refine (window_sum h x _ j (fun k => ((if (j 2).val + k < 2048 then f (j 0).val (j 1).val ((j 2).val + k) else 0 : ℝ) : EReal))
    (fun w hin => ?_) fun w hin => ?_).trans ?_
  · have w0 : (w 0).val < 1 := (w 0).isLt
    have w1 : (w 1).val < 1 := (w 1).isLt
    have a2 := (hin 2).2
    change (j 2).val * 1 + (w 2).val - lo 2 < 2048 at a2
    rw [if_pos (by omega)]
    refine (hx _).trans (congrArg Real.toEReal ?_)
    change f ((j 0).val * 1 + (w 0).val - lo 0) ((j 1).val * 1 + (w 1).val - lo 1) ((j 2).val * 1 + (w 2).val - lo 2) = _
    congr 1 <;> omega
  · have w0 : (w 0).val < 1 := (w 0).isLt
    have w1 : (w 1).val < 1 := (w 1).isLt
    rw [if_neg]
    intro hk
    refine hin fun a => ?_
    match a with
    | 0 => change lo 0 ≤ (j 0).val * 1 + (w 0).val ∧ (j 0).val * 1 + (w 0).val - lo 0 < 16; omega
    | 1 => change lo 1 ≤ (j 1).val * 1 + (w 1).val ∧ (j 1).val * 1 + (w 1).val - lo 1 < 2048; omega
    | 2 => change lo 2 ≤ (j 2).val * 1 + (w 2).val ∧ (j 2).val * 1 + (w 2).val - lo 2 < 2048; omega
  · rw [coe_sum_fin 2048 fun k => if (j 2).val + k < 2048 then f (j 0).val (j 1).val ((j 2).val + k) else 0, ← EReal.coe_add, zero_add]
    refine congrArg Real.toEReal ?_
    rw [← Finset.sum_filter, eq_sub_iff_add_eq, add_comm]
    have e : (Finset.range 2048).filter (fun k => (j 2).val + k < 2048) = Finset.range (2048 - (j 2).val) := by
      ext k; simp only [Finset.mem_filter, Finset.mem_range]; omega
    rw [e, ← Finset.sum_range_add_sum_Ico _ h2.le, Finset.sum_Ico_eq_sum_range]

/-- The sum of a row up to a column and with it. -/
theorem window_before {lo hi : Fin 3 → ℕ} (l0 : lo 0 = 0) (l1 : lo 1 = 0) (l2 : lo 2 = 2047)
    (h : S16x2048x2048.ReduceWindows ![1, 1, 2048] ![1, 1, 1] lo hi S16x2048x2048)
    (hu : 0 < S_.numel)
    {x : FVec Ideal S16x2048x2048 .f32} {v : FVec Ideal S_ .f32} (hv : ∀ i, v i = ((0 : ℝ) : EReal)) {f : ℕ → ℕ → ℕ → ℝ} (hx : Holds3 x f) :
    Holds3 (Host.reduceWindowAdd (F := Ideal) ![1, 1, 2048] ![1, 1, 1] lo hi x v h hu)
      fun n i j => ∑ s ∈ Finset.range (j + 1), f n i s := by
  intro j
  have h0 : (j 0).val < 16 := (j 0).isLt
  have h1 : (j 1).val < 2048 := (j 1).isLt
  have h2 : (j 2).val < 2048 := (j 2).isLt
  change Ideal.hostReduceWindowAdd ![1, 1, 2048] ![1, 1, 1] lo hi h x (v (Shape.Idx.first hu)) j = _
  rw [hv]
  refine (window_sum h x _ j (fun k => ((if 2047 ≤ (j 2).val + k then f (j 0).val (j 1).val ((j 2).val + k - 2047) else 0 : ℝ) : EReal))
    (fun w hin => ?_) fun w hin => ?_).trans ?_
  · have w0 : (w 0).val < 1 := (w 0).isLt
    have w1 : (w 1).val < 1 := (w 1).isLt
    have a2 := (hin 2).1
    change lo 2 ≤ (j 2).val * 1 + (w 2).val at a2
    rw [if_pos (by omega)]
    refine (hx _).trans (congrArg Real.toEReal ?_)
    change f ((j 0).val * 1 + (w 0).val - lo 0) ((j 1).val * 1 + (w 1).val - lo 1) ((j 2).val * 1 + (w 2).val - lo 2) = _
    congr 1 <;> omega
  · have w0 : (w 0).val < 1 := (w 0).isLt
    have w1 : (w 1).val < 1 := (w 1).isLt
    have w2 : (w 2).val < 2048 := (w 2).isLt
    rw [if_neg]
    intro hk
    refine hin fun a => ?_
    match a with
    | 0 => change lo 0 ≤ (j 0).val * 1 + (w 0).val ∧ (j 0).val * 1 + (w 0).val - lo 0 < 16; omega
    | 1 => change lo 1 ≤ (j 1).val * 1 + (w 1).val ∧ (j 1).val * 1 + (w 1).val - lo 1 < 2048; omega
    | 2 => change lo 2 ≤ (j 2).val * 1 + (w 2).val ∧ (j 2).val * 1 + (w 2).val - lo 2 < 2048; omega
  · rw [coe_sum_fin 2048 fun k => if 2047 ≤ (j 2).val + k then f (j 0).val (j 1).val ((j 2).val + k - 2047) else 0, ← EReal.coe_add, zero_add]
    refine congrArg Real.toEReal ?_
    rw [← Finset.sum_filter]
    have e : (Finset.range 2048).filter (fun k => 2047 ≤ (j 2).val + k) = Finset.Ico (2047 - (j 2).val) 2048 := by
      ext k; simp only [Finset.mem_filter, Finset.mem_range, Finset.mem_Ico]; omega
    have e' : 2048 - (2047 - (j 2).val) = (j 2).val + 1 := by omega
    rw [e, Finset.sum_Ico_eq_sum_range, e']
    refine Finset.sum_congr rfl fun k hk => ?_
    rw [show (j 2).val + (2047 - (j 2).val + k) - 2047 = k by omega]

/-! ## The softplus the host writes, and its derivative -/

/-- Softplus of one element as the host writes it. -/
def softp (x : EReal) : EReal :=
  Scalar.select (Ideal.cmp .une (x - Ideal.ofBits .f32 0x00000000#32) (x - Ideal.ofBits .f32 0x00000000#32))
    (x + Ideal.ofBits .f32 0x00000000#32)
    (max x (Ideal.ofBits .f32 0x00000000#32)
      + Ideal.log1p (Ideal.exp (-(max (x - Ideal.ofBits .f32 0x00000000#32) (-(x - Ideal.ofBits .f32 0x00000000#32))))))

/-- Its derivative, from the argument and the value. -/
def softpD (x s : EReal) : EReal :=
  Ideal.exp (Scalar.select (Ideal.cmp .oeq x (Ideal.ofBits .f32 0x7F800000#32)) (Ideal.ofBits .f32 0x00000000#32) x
    - Scalar.select (Ideal.cmp .oeq s (Ideal.ofBits .f32 0x7F800000#32)) (Ideal.ofBits .f32 0x00000000#32) s)

theorem top_eq : (Ideal.ofBits .f32 0x7F800000#32 : EReal) = ⊤ := by
  simp [Ideal.ofBits, Ideal.ieee]

theorem softp_coe (x : ℝ) : softp (x : EReal) = ((-lsg (-x) : ℝ) : EReal) := by
  unfold softp
  rw [zero_eq, ← EReal.coe_sub, sub_zero, coe_abs, ← EReal.coe_neg, Ideal.exp_coe, coe_max]
  have e : Ideal.cmp .une (x : EReal) (x : EReal) = 0#1 := by simp [Ideal.cmp]
  rw [e]
  change ((max x 0 : ℝ) : EReal) + Ideal.log (1 + ((Real.exp (-|x|) : ℝ) : EReal)) = _
  have e1 : (1 : EReal) = ((1 : ℝ) : EReal) := rfl
  rw [e1, ← EReal.coe_add, coe_log (by positivity), ← EReal.coe_add]
  refine congrArg Real.toEReal ?_
  unfold lsg
  rw [abs_neg]
  rcases le_total x 0 with h | h
  · rw [max_eq_right h, min_eq_right (by linarith : (0:ℝ) ≤ -x)]; ring
  · rw [max_eq_left h, min_eq_left (by linarith : -x ≤ (0:ℝ))]; ring

theorem softpD_coe (x s : ℝ) : softpD (x : EReal) (s : EReal) = ((Real.exp (x - s) : ℝ) : EReal) := by
  unfold softpD
  rw [top_eq]
  have e (y : ℝ) : Ideal.cmp .oeq (y : EReal) ⊤ = 0#1 := by simp [Ideal.cmp]
  rw [e, e]
  change Ideal.exp ((x : EReal) - (s : EReal)) = _
  rw [← EReal.coe_sub, Ideal.exp_coe]

end Cert.SbClaims

end
-- ==== Proof.SbVals.lean ====
module

public import proofs.«01_k».proof.Proof.SbRef

/-! The reference's results at real numbers, one array after the other. -/

@[expose] public section

set_option maxRecDepth 16384

noncomputable section

namespace Cert.SbClaims

open Idealize.ShloMosaic Idealize.ShloMosaic.Tactic
open Cert.SbReferenceIdeal Cert.SbReferenceIdeal.Read

variable {A : Arrays} {x0 x1 x2 : (⟨S2048x2048, .bf16⟩ : BufTy).Contents (Elt Ideal)}
  {x3 : (⟨S2048x8192, .f32⟩ : BufTy).Contents (Elt Ideal)} {x4 : (⟨S2048x2048, .f32⟩ : BufTy).Contents (Elt Ideal)}

/-- The five arguments hold the real arrays; of the projection only the last 2048 columns, the gate, are asked for. -/
structure Reals (A : Arrays) (x0 x1 x2 : (⟨S2048x2048, .bf16⟩ : BufTy).Contents (Elt Ideal))
    (x3 : (⟨S2048x8192, .f32⟩ : BufTy).Contents (Elt Ideal)) (x4 : (⟨S2048x2048, .f32⟩ : BufTy).Contents (Elt Ideal)) : Prop where
  q : Holds (a := 2048) (b := 2048) x0 A.q
  k : Holds (a := 2048) (b := 2048) x1 A.k
  v : Holds (a := 2048) (b := 2048) x2 A.v
  gate : ∀ j : S2048x8192.Idx, 6144 ≤ (j 1).val → x3 j = ((A.g (j 0).val ((j 1).val - 6144) : ℝ) : EReal)
  dog : Holds (a := 2048) (b := 2048) x4 A.dog

variable (H : Reals A x0 x1 x2 x3 x4)
include H

/-! ## The forward lines -/

theorem heads_q : Holds3 (val_main_v5 (F := Ideal) x0) fun h i d => (A.head h).q i d := fun j =>
  (val_main_v5_apply x0 j).trans ((val_main_v4_apply x0 _).trans (heads_apply H.q j))

theorem heads_k : Holds3 (val_main_v7 (F := Ideal) x1) fun h i d => (A.head h).k i d := fun j =>
  (val_main_v7_apply x1 j).trans ((val_main_v6_apply x1 _).trans (heads_apply H.k j))

theorem heads_v : Holds3 (val_main_v9 (F := Ideal) x2) fun h i d => (A.head h).v i d := fun j =>
  (val_main_v9_apply x2 j).trans ((val_main_v8_apply x2 _).trans (heads_apply H.v j))

theorem scores : Holds3 (val_main_v12 (F := Ideal) x0 x1) fun h i j => (A.head h).z i j := by
  intro j
  rw [val_main_v12_apply, val_main_v10_apply]
  have e := sum_fin_eq 128 (fun d => val_main_v5 (F := Ideal) x0 (lidx_main_v10 j d) * val_main_v7 (F := Ideal) x1 (ridx_main_v10 j d))
    (fun d => (A.head (j 0).val).q (j 1).val d * (A.head (j 0).val).k (j 2).val d) fun d => by
      rw [heads_q H, heads_k H, ← EReal.coe_mul]
  rw [e]
  change _ * Ideal.ofBits .f32 0x3DB504F3#32 = _
  rw [scale_eq, ← EReal.coe_mul]
  rfl

omit H in
theorem mask_apply (j : S16x2048x2048.Idx) (x y : EReal) :
    Scalar.select (val_main_v23_1 (F := Ideal) j) x y = if (j 2).val < (j 1).val then x else y := by
  have h1 : (j 1).val < 2048 := (j 1).isLt
  have h2 : (j 2).val < 2048 := (j 2).isLt
  have e : val_main_v23_1 (F := Ideal) j = IntOp.cmpi .slt (BitVec.ofNat 32 (j 2).val) (BitVec.ofNat 32 (j 1).val) := by
    rw [val_main_v23_1_apply, val_main_v19_apply, val_main_v17_apply, val_main_v16_apply, val_main_v18_apply, val_main_v14_apply]
    rfl
  rw [e]
  exact select_lt _ _ (by omega) (by omega) x y

theorem soft_neg : Holds3 (val_main_call0_v1_0 (F := Ideal) x0 x1) fun h i j => -lsg ((A.head h).z i j) := by
  intro j
  have e : val_main_call0_v1_0 (F := Ideal) x0 x1 j = softp (-(val_main_v12 (F := Ideal) x0 x1 j : EReal)) := rfl
  rw [e, scores H j, ← EReal.coe_neg, softp_coe, neg_neg]

theorem soft_pos : Holds3 (val_main_call1_v1_0 (F := Ideal) x0 x1) fun h i j => -lsg (-(A.head h).z i j) := by
  intro j
  have e : val_main_call1_v1_0 (F := Ideal) x0 x1 j = softp (-(-(val_main_v12 (F := Ideal) x0 x1 j : EReal))) := rfl
  rw [e, scores H j, ← EReal.coe_neg, ← EReal.coe_neg, softp_coe, neg_neg]

theorem soft_neg_slope : Holds3 (val_main_v20_1 (F := Ideal) x0 x1) fun h i j => 1 - Real.exp (lsg ((A.head h).z i j)) := by
  intro j
  have e : val_main_v20_1 (F := Ideal) x0 x1 j
      = softpD (-(val_main_v12 (F := Ideal) x0 x1 j : EReal)) (val_main_call0_v1_0 (F := Ideal) x0 x1 j) := rfl
  rw [e, scores H j, soft_neg H j, ← EReal.coe_neg, softpD_coe]
  dsimp only
  rw [← exp_lsg_neg, ← lsg_sub]
  refine congrArg (fun t : ℝ => ((Real.exp t : ℝ) : EReal)) ?_
  ring

theorem soft_pos_slope : Holds3 (val_main_v22_1 (F := Ideal) x0 x1) fun h i j => Real.exp (lsg ((A.head h).z i j)) := by
  intro j
  have e : val_main_v22_1 (F := Ideal) x0 x1 j
      = softpD (-(-(val_main_v12 (F := Ideal) x0 x1 j : EReal))) (val_main_call1_v1_0 (F := Ideal) x0 x1 j) := rfl
  rw [e, scores H j, soft_pos H j, ← EReal.coe_neg, ← EReal.coe_neg, softpD_coe]
  dsimp only
  rw [← lsg_sub]
  refine congrArg (fun t : ℝ => ((Real.exp t : ℝ) : EReal)) ?_
  ring

theorem log_rest : Holds3 (val_main_v23_0 (F := Ideal) x0 x1) fun h i j => (A.head h).lm i j := by
  intro j
  rw [val_main_v23_0_apply]
  refine (mask_apply j _ _).trans ?_
  have e : val_main_v22_0 (F := Ideal) x0 x1 j = -(val_main_call1_v1_0 (F := Ideal) x0 x1 j : EReal) := rfl
  have e0 : val_main_call2_v2 (F := Ideal) j = (Ideal.ofBits .f32 0x00000000#32 : EReal) := rfl
  rw [e, e0, soft_pos H j, ← EReal.coe_neg, neg_neg, ← lsg_sub, zero_eq]
  unfold Rows.lm
  dsimp only
  split <;> rfl

theorem log_after : Holds3 (val_main_v24 (F := Ideal) x0 x1)
    fun h i j => (A.head h).total i - ∑ s ∈ Finset.range j, (A.head h).lm i s := by
  have hx := log_rest H
  unfold val_main_v24
  generalize val_main_v23_0 (F := Ideal) x0 x1 = y at hx ⊢
  exact window_after rfl rfl rfl _ _ (fun _ => zero_eq) hx

theorem weight : Holds3 (val_main_v27 (F := Ideal) x0 x1) fun h i j =>
    Real.exp (lsg ((A.head h).z i j) + ((A.head h).total i - ∑ s ∈ Finset.range (j + 1), (A.head h).lm i s)) := by
  intro j
  have e : val_main_v27 (F := Ideal) x0 x1 j = Ideal.exp (-(val_main_call0_v1_0 (F := Ideal) x0 x1 j : EReal)
      + ((val_main_v24 (F := Ideal) x0 x1 j : EReal) - (val_main_v23_0 (F := Ideal) x0 x1 j : EReal))) := rfl
  rw [e, soft_neg H j, log_after H j, log_rest H j, ← EReal.coe_neg, neg_neg, ← EReal.coe_sub, ← EReal.coe_add, Ideal.exp_coe]
  dsimp only
  rw [Finset.sum_range_succ]
  refine congrArg (fun t : ℝ => ((Real.exp t : ℝ) : EReal)) ?_
  ring

theorem atts : Holds3 (val_main_v28_0 (F := Ideal) x0 x1) fun h i j => (A.head h).att i j := by
  intro j
  rw [val_main_v28_0_apply]
  refine (mask_apply j _ _).trans ?_
  have e0 : val_main_call4_v2 (F := Ideal) j = (Ideal.ofBits .f32 0x00000000#32 : EReal) := rfl
  rw [e0, weight H j, zero_eq]
  unfold Rows.att
  dsimp only
  split <;> rfl

theorem outs : Holds (a := 2048) (b := 2048) (val_main_v31 (F := Ideal) x0 x1 x2) A.o := by
  intro j
  have h : Holds3 (val_main_v29 (F := Ideal) x0 x1 x2)
      fun h i d => ∑ s ∈ Finset.range 2048, (A.head h).att i s * (A.head h).v s d := by
    intro j
    rw [val_main_v29_apply]
    refine sum_fin_eq 2048 _ _ fun s => ?_
    rw [atts H, heads_v H, ← EReal.coe_mul]
  rw [val_main_v31_apply, val_main_v30_apply]
  refine (flat_apply h j).trans (congrArg Real.toEReal ?_)
  unfold Arrays.o Arrays.head
  dsimp only
  rw [Nat.div_add_mod]

/-! ## The gate -/

theorem gates : Holds (a := 2048) (b := 2048) (val_main_v0 (F := Ideal) x3) A.g := by
  intro j
  rw [val_main_v0_apply]
  refine (H.gate _ ?_).trans (congrArg Real.toEReal ?_)
  · change 6144 ≤ 6144 + (j 1).val; omega
  · change A.g (j 0).val (6144 + (j 1).val - 6144) = _
    rw [Nat.add_sub_cancel_left]

theorem sigms : Holds (a := 2048) (b := 2048) (val_main_v32_2 (F := Ideal) x3) fun i l => sgm (A.g i l) := by
  intro j
  have e : val_main_v32_2 (F := Ideal) x3 j = Ideal.div (Ideal.ofBits .f32 0x3F800000#32)
      (Ideal.ofBits .f32 0x3F800000#32 + Ideal.exp (-(val_main_v0 (F := Ideal) x3 j : EReal))) := rfl
  rw [e, gates H j, one_eq, ← EReal.coe_neg, Ideal.exp_coe, ← EReal.coe_add,
    Ideal.div_coe (show 1 + Real.exp (-A.g (j 0).val (j 1).val) ≠ 0 by positivity), ← EReal.coe_mul, one_mul]
  rfl

theorem gated : Holds (a := 2048) (b := 2048) (val_main_v35 (F := Ideal) x3 x4) A.d := by
  intro j
  have e : val_main_v35 (F := Ideal) x3 x4 j
      = (x4 j : EReal) * ((val_main_v0 (F := Ideal) x3 j : EReal) * (val_main_v32_2 (F := Ideal) x3 j : EReal)) := rfl
  rw [e, gates H j, sigms H j, H.dog j, ← EReal.coe_mul, ← EReal.coe_mul]
  rfl

theorem heads_d : Holds3 (val_main_v38 (F := Ideal) x3 x4) fun h i d => (A.head h).d i d := fun j =>
  (val_main_v38_apply x3 x4 j).trans ((val_main_v37_apply x3 x4 _).trans (heads_apply (gated H) j))

theorem dg_holds : Holds (a := 2048) (b := 2048) (val_main_v63 (F := Ideal) x0 x1 x2 x3 x4) A.dg := by
  intro j
  have e : val_main_v63 (F := Ideal) x0 x1 x2 x3 x4 j
      = ((val_main_v31 (F := Ideal) x0 x1 x2 j : EReal) * (x4 j : EReal)) * (val_main_v32_2 (F := Ideal) x3 j : EReal)
        + ((val_main_v0 (F := Ideal) x3 j : EReal) * ((val_main_v31 (F := Ideal) x0 x1 x2 j : EReal) * (x4 j : EReal)))
          * ((val_main_v32_2 (F := Ideal) x3 j : EReal)
            * ((Ideal.ofBits .f32 0x3F800000#32 : EReal) - (val_main_v32_2 (F := Ideal) x3 j : EReal))) := rfl
  rw [e, gates H j, sigms H j, H.dog j, outs H j, one_eq]
  simp only [← EReal.coe_mul, ← EReal.coe_sub, ← EReal.coe_add]
  refine congrArg Real.toEReal ?_
  unfold Arrays.dg
  ring

/-! ## The gradients -/

theorem grads_e : Holds3 (val_main_v43 (F := Ideal) x0 x1 x2 x3 x4) fun h i j => (A.head h).e i j := by
  intro j
  have h : (val_main_v41 (F := Ideal) x2 x3 x4 j : EReal)
      = ((∑ d ∈ Finset.range 128, (A.head (j 0).val).d (j 1).val d * (A.head (j 0).val).v (j 2).val d : ℝ) : EReal) := by
    rw [val_main_v41_apply]
    refine sum_fin_eq 128 _ _ fun s => ?_
    rw [heads_d H, heads_v H, ← EReal.coe_mul]
  have e : val_main_v43 (F := Ideal) x0 x1 x2 x3 x4 j
      = Scalar.select (val_main_v23_1 (F := Ideal) j) (val_main_v41 (F := Ideal) x2 x3 x4 j : EReal) (Ideal.ofBits .f32 0x00000000#32)
        * (val_main_v27 (F := Ideal) x0 x1 j : EReal) := rfl
  rw [e, mask_apply, h, weight H j, zero_eq]
  unfold Rows.e Rows.att
  dsimp only
  split
  · rw [← EReal.coe_mul, mul_comm]
  · rw [← EReal.coe_mul, zero_mul, zero_mul]

theorem grads_before : Holds3 (val_main_v45 (F := Ideal) x0 x1 x2 x3 x4)
    fun h i j => ∑ s ∈ Finset.range (j + 1), (A.head h).e i s := by
  have hx := grads_e H
  unfold val_main_v45
  generalize val_main_v43 (F := Ideal) x0 x1 x2 x3 x4 = y at hx ⊢
  exact window_before rfl rfl rfl _ _ (fun _ => zero_eq) hx

theorem grads_z : Holds3 (val_main_v53 (F := Ideal) x0 x1 x2 x3 x4) fun h i j => (A.head h).dz i j := by
  intro j
  have e : val_main_v53 (F := Ideal) x0 x1 x2 x3 x4 j
      = (-(-(-(Scalar.select (val_main_v23_1 (F := Ideal) j)
              (-(val_main_v43 (F := Ideal) x0 x1 x2 x3 x4 j : EReal) + (val_main_v45 (F := Ideal) x0 x1 x2 x3 x4 j : EReal))
              (Ideal.ofBits .f32 0x00000000#32 : EReal)) * (val_main_v22_1 (F := Ideal) x0 x1 j : EReal)))
          + -(-(val_main_v43 (F := Ideal) x0 x1 x2 x3 x4 j : EReal) * (val_main_v20_1 (F := Ideal) x0 x1 j : EReal)))
        * (Ideal.ofBits .f32 0x3DB504F3#32 : EReal) := rfl
  rw [e, mask_apply, grads_e H j, grads_before H j, soft_neg_slope H j, soft_pos_slope H j, zero_eq, scale_eq]
  unfold Rows.dz
  dsimp only
  rw [Finset.sum_range_succ]
  split
  · simp only [← EReal.coe_mul, ← EReal.coe_neg, ← EReal.coe_add]
    refine congrArg Real.toEReal ?_
    ring
  · simp only [← EReal.coe_mul, ← EReal.coe_neg, ← EReal.coe_add]
    refine congrArg Real.toEReal ?_
    ring

theorem dq_holds : Holds (a := 2048) (b := 2048) (val_main_v61 (F := Ideal) x0 x1 x2 x3 x4) A.dq := by
  intro j
  have h : Holds3 (val_main_v55 (F := Ideal) x0 x1 x2 x3 x4)
      fun h i d => ∑ s ∈ Finset.range 2048, (A.head h).dz i s * (A.head h).k s d := by
    intro j
    rw [val_main_v55_apply]
    refine sum_fin_eq 2048 _ _ fun s => ?_
    rw [grads_z H, heads_k H, ← EReal.coe_mul]
  rw [val_main_v61_apply, val_main_v60_apply]
  refine (flat_apply h j).trans (congrArg Real.toEReal ?_)
  unfold Arrays.dq Arrays.head
  dsimp only
  rw [Nat.div_add_mod]

theorem dk_holds : Holds (a := 2048) (b := 2048) (val_main_v59 (F := Ideal) x0 x1 x2 x3 x4) A.dk := by
  intro j
  have h : Holds3 (val_main_v54 (F := Ideal) x0 x1 x2 x3 x4)
      fun h s d => ∑ i ∈ Finset.range 2048, (A.head h).dz i s * (A.head h).q i d := by
    intro j
    rw [val_main_v54_apply]
    refine sum_fin_eq 2048 _ _ fun i => ?_
    rw [grads_z H, heads_q H, ← EReal.coe_mul]
  rw [val_main_v59_apply, val_main_v58_apply]
  refine (flat_apply h j).trans (congrArg Real.toEReal ?_)
  unfold Arrays.dk Arrays.addK Arrays.head
  dsimp only
  rw [Nat.div_add_mod]

theorem dv_holds : Holds (a := 2048) (b := 2048) (val_main_v57 (F := Ideal) x0 x1 x3 x4) A.dv := by
  intro j
  have h : Holds3 (val_main_v40 (F := Ideal) x0 x1 x3 x4)
      fun h s d => ∑ i ∈ Finset.range 2048, (A.head h).d i d * (A.head h).att i s := by
    intro j
    rw [val_main_v40_apply, val_main_v39_apply]
    refine sum_fin_eq 2048 _ _ fun i => ?_
    rw [heads_d H, atts H, ← EReal.coe_mul]
  rw [val_main_v57_apply, val_main_v56_apply]
  refine (flat_apply h j).trans (congrArg Real.toEReal ?_)
  unfold Arrays.dv Arrays.addV Arrays.head
  dsimp only
  rw [Nat.div_add_mod]
  exact Finset.sum_congr rfl fun i _ => mul_comm _ _

theorem dvb_holds : Holds (a := 2048) (b := 2048) (val_main_v62 (F := Ideal) x0 x1 x3 x4) A.dv := fun j => dv_holds H j

end Cert.SbClaims

end
-- ==== Proof.SbHost.lean ====
module

public import proofs.«01_k».proof.Proof.SbVals
public import proofs.«01_k».proof.Proof.SbFrame

/-! The arrays the host prepares for the kernel: the attention's output and the row totals. -/

@[expose] public section

set_option maxRecDepth 16384

noncomputable section

namespace Cert.SbClaims

open Idealize.ShloMosaic Idealize.ShloMosaic.TcCoe Idealize.ShloMosaic.Tactic Idealize.SL.Sem
open Cert.SbKernelIdeal Cert.SbKernelIdeal.Gen

variable (m : (ℓ : Loc nD τ sig) → Buf (Elt Ideal) ℓ) (c : Dev nD)

set_option maxHeartbeats 4000000 in
/-- The kernel's host and the reference compute the attention's output alike. -/
theorem V_out : V m c main_v30 = Cert.SbReferenceIdeal.Read.val_main_v31 (F := Ideal) (m ((c : Thread nD τ).loc main_arg0))
    (m ((c : Thread nD τ).loc main_arg1)) (m ((c : Thread nD τ).loc main_arg2)) := by
  entry_read
  rfl

/-- Row totals spread over the lanes. -/
def spread (y : FVec Ideal S16x2048x2048 .f32) : FVec Ideal S16x2048x128 .f32 :=
  broadcastInDim S16x2048x128 ![0, 1, 2] bcast_S16x2048x1_S16x2048x128_0_1_2
    (broadcastInDim S16x2048x1 ![0, 1] bcast_S16x2048_S16x2048x1_0_1
      (Host.reduceAdd y (constant S_ .f32 0x00000000#32) reducesTo_S16x2048x2048_S16x2048_d2 h_S_))

set_option maxHeartbeats 4000000 in
/-- The row totals are of the reference's logarithms. -/
theorem V_tot : V m c main_v46 = spread (Cert.SbReferenceIdeal.Read.val_main_v23_0 (F := Ideal) (m ((c : Thread nD τ).loc main_arg0))
    (m ((c : Thread nD τ).loc main_arg1))) := by
  entry_read
  rfl

theorem spread_apply (y : FVec Ideal S16x2048x2048 .f32) (j : S16x2048x128.Idx) :
    (spread y j : EReal) = Ideal.ofBits .f32 0x00000000#32 + ∑ k : Fin 2048, y (ix3 (n0 := 16) (n1 := 2048) (n2 := 2048) (j 0) (j 1) k) := by
  pointwise [spread]

theorem spread_holds {y : FVec Ideal S16x2048x2048 .f32} {f : ℕ → ℕ → ℕ → ℝ} (hy : Holds3 y f) :
    Holds3 (spread y) fun h i _ => ∑ s ∈ Finset.range 2048, f h i s := by
  intro j
  rw [spread_apply, sum_fin_eq 2048 _ (fun s => f (j 0).val (j 1).val s) fun s => hy _, zero_eq, ← EReal.coe_add, zero_add]

end Cert.SbClaims

end
-- ==== Proof.SbOut.lean ====
module

public import proofs.«01_k».proof.Proof.SbGrid
public import proofs.«01_k».proof.Proof.SbHost
public import Idealize.ShloMosaic.Lib.Pipeline.ValueKit

/-! The five result arrays of the run at real numbers. -/

@[expose] public section

set_option maxRecDepth 16384

noncomputable section

namespace Cert.SbClaims

open Idealize.ShloMosaic Idealize.ShloMosaic.TcCoe Idealize.ShloMosaic.Tactic Idealize.SL.Sem
open Cert.SbKernelIdeal Cert.SbKernelIdeal.Gen

variable {A : Arrays} {m : (ℓ : Loc nD τ sig) → Buf (Elt Ideal) ℓ} {c : Dev nD}

/-! ## Where the blocks lie -/

theorem at_0 : ∀ t : Fin cfg0.N, win0_0.index t = ![t.val % 16, t.val / 16] := (by decide +kernel : ∀ t : Fin grid0.N, _)
theorem at_1 : ∀ t : Fin cfg0.N, win0_1.index t = ![0, t.val / 16] := (by decide +kernel : ∀ t : Fin grid0.N, _)
theorem at_2 : ∀ t : Fin cfg0.N, win0_2.index t = ![0, t.val / 16] := (by decide +kernel : ∀ t : Fin grid0.N, _)
theorem at_3 : ∀ t : Fin cfg0.N, win0_3.index t = ![t.val % 16, 12 + t.val / 16] := (by decide +kernel : ∀ t : Fin grid0.N, _)
theorem at_4 : ∀ t : Fin cfg0.N, win0_4.index t = ![t.val % 16, t.val / 16] := (by decide +kernel : ∀ t : Fin grid0.N, _)
theorem at_5 : ∀ t : Fin cfg0.N, win0_5.index t = ![t.val / 16, t.val % 16, 0] := (by decide +kernel : ∀ t : Fin grid0.N, _)
theorem at_6 : ∀ t : Fin cfg0.N, win0_6.index t = ![t.val % 16, t.val / 16] := (by decide +kernel : ∀ t : Fin grid0.N, _)
theorem at_7 : ∀ t : Fin cfg0.N, win0_7.index t = ![t.val % 16, t.val / 16] := (by decide +kernel : ∀ t : Fin grid0.N, _)
theorem at_8 : ∀ t : Fin cfg0.N, win0_8.index t = ![0, t.val / 16] := (by decide +kernel : ∀ t : Fin grid0.N, _)
theorem at_9 : ∀ t : Fin cfg0.N, win0_9.index t = ![0, t.val / 16] := (by decide +kernel : ∀ t : Fin grid0.N, _)
theorem at_10 : ∀ t : Fin cfg0.N, win0_10.index t = ![0, t.val / 16] := (by decide +kernel : ∀ t : Fin grid0.N, _)
theorem at_11 : ∀ t : Fin cfg0.N, win0_11.index t = ![t.val % 16, t.val / 16] := (by decide +kernel : ∀ t : Fin grid0.N, _)

/-! ## The results, the blocks being right -/

section
variable (hb : ∀ t : Fin cfg0.N, Blocks A (t.val / 16) (t.val % 16) (b2 m c t) (b3 m c t) (b4 m c t) (b5 m c t) (b6 m c t) (b8 m c t)
    (b7 m c t))
include hb

theorem final_dq {R : S2048x2048.Idx → EReal} (hR : Holds R A.dq) : (dats m 0 c).arrAt 7 cfg0.N = R := by
  refine (dats m 0 c).arrAt_eq_of_covers 7 R (by decide +kernel) fun t hf y => ?_
  blk_simp
  rw [after_7]
  refine (dqOut_holds (blocks_at hb t) y).trans ((hR _).trans ?_).symm
  blk_simp [at_7]
  rw [coords_qi, mul_comm, mul_comm 512]

theorem final_dk {R : S2048x2048.Idx → EReal} (hR : Holds R A.dk) : (dats m 0 c).arrAt 8 cfg0.N = R := by
  refine (dats m 0 c).arrAt_eq_of_covers 8 R (by decide +kernel) fun t hf y => ?_
  blk_simp
  rw [after_8]
  refine ((gAt_last hb t ((flush0_8 t).mp hf)).1 y).trans ((hR _).trans ?_).symm
  blk_simp [at_8]
  rw [mul_comm 512]

theorem final_dv {R : S2048x2048.Idx → EReal} (hR : Holds R A.dv) : (dats m 0 c).arrAt 9 cfg0.N = R := by
  refine (dats m 0 c).arrAt_eq_of_covers 9 R (by decide +kernel) fun t hf y => ?_
  blk_simp
  rw [after_9]
  refine ((gAt_last hb t ((flush0_9 t).mp hf)).2 y).trans ((hR _).trans ?_).symm
  blk_simp [at_9]
  rw [mul_comm 512]

theorem final_dvb {R : S2048x2048.Idx → EReal} (hR : Holds R A.dv) : (dats m 0 c).arrAt 10 cfg0.N = R := by
  refine (dats m 0 c).arrAt_eq_of_covers 10 R (by decide +kernel) fun t hf y => ?_
  blk_simp
  rw [after_10]
  refine (dvOut_holds (gAt_last hb t ((flush0_10 t).mp hf)).2 y).trans ((hR _).trans ?_).symm
  blk_simp [at_10]
  rw [mul_comm 512]

theorem final_dg {R : S2048x2048.Idx → EReal} (hR : Holds R A.dg) : (dats m 0 c).arrAt 11 cfg0.N = R := by
  refine (dats m 0 c).arrAt_eq_of_covers 11 R (by decide +kernel) fun t hf y => ?_
  blk_simp
  rw [after_11]
  refine (dgOut_holds (blocks_at hb t) y).trans ((hR _).trans ?_).symm
  blk_simp [at_11]
  rw [coords_qi, mul_comm, mul_comm 512]

end

/-! ## The blocks of real arguments -/

variable (H : Reals A (m ((c : Thread nD τ).loc main_arg0)) (m ((c : Thread nD τ).loc main_arg1)) (m ((c : Thread nD τ).loc main_arg2))
  (m ((c : Thread nD τ).loc main_arg3)) (m ((c : Thread nD τ).loc main_arg4)))
include H

set_option maxHeartbeats 2000000 in
theorem blocks (t : Fin cfg0.N) : Blocks A (t.val / 16) (t.val % 16) (b2 m c t) (b3 m c t) (b4 m c t) (b5 m c t) (b6 m c t)
    (b8 m c t) (b7 m c t) where
  q j := by
    refine ((congrFun (V_main_arg0 m c) _).trans (H.q (((cfg0.win 0).blk t).view.emb j))).trans ?_
    blk_simp [at_0]
    rw [mul_comm, mul_comm 512]
  k j := by
    refine ((congrFun (V_main_arg1 m c) _).trans (H.k (((cfg0.win 1).blk t).view.emb j))).trans ?_
    blk_simp [at_1]
    rw [mul_comm 512]
  v j := by
    refine ((congrFun (V_main_arg2 m c) _).trans (H.v (((cfg0.win 2).blk t).view.emb j))).trans ?_
    blk_simp [at_2]
    rw [mul_comm 512]
  gate j := by
    refine ((congrFun (V_main_arg3 m c) _).trans (H.gate (((cfg0.win 3).blk t).view.emb j) ?_)).trans ?_
    · blk_simp [at_3]
      omega
    · blk_simp [at_3]
      have e0 : t.val % 16 * 128 + (j 0).val = 128 * (t.val % 16) + (j 0).val := by omega
      have e1 : (12 + t.val / 16) * 512 + (j 1).val - 6144 = 512 * (t.val / 16) + (j 1).val := by omega
      rw [e0, e1]
  o j := by
    have hV : Holds (a := 2048) (b := 2048) (V m c main_v30) A.o := by rw [V_out]; exact outs H
    refine (hV (((cfg0.win 4).blk t).view.emb j)).trans ?_
    blk_simp [at_4]
    rw [mul_comm, mul_comm 512]
  dog j := by
    refine ((congrFun (V_main_arg4 m c) _).trans (H.dog (((cfg0.win 6).blk t).view.emb j))).trans ?_
    blk_simp [at_6]
    rw [mul_comm, mul_comm 512]
  tot j := by
    have hV : Holds3 (n := 16) (a := 2048) (b := 128) (V m c main_v46) fun h i _ => (A.head h).total i := by
      rw [V_tot]; exact spread_holds (log_rest H)
    refine (hV (((cfg0.win 5).blk t).view.emb j)).trans ?_
    blk_simp [at_5]
    rw [mul_comm 4, mul_comm 128]

end Cert.SbClaims

end
-- ==== Proof.SbEnd.lean ====
module

public import proofs.«01_k».proof.Proof.SbClaims
public import proofs.«01_k».proof.Proof.SbOut

/-! The value claim of the attention's gradient, at finite arguments. -/

@[expose] public section

set_option maxRecDepth 16384

noncomputable section

namespace Cert.SbClaims

open Idealize.ShloMosaic Idealize.ShloMosaic.TcCoe Idealize.ShloMosaic.Tactic Idealize.SL.Sem

/-- The shape facts of the precondition. -/
instance preFacts : Cert.Pre_finite_inputs.Facts := ⟨by decide, by decide, by decide⟩

/-! ## What the precondition says -/

theorem both_of_and : ∀ a b : BitVec 1, a &&& b = 1#1 → a = 1#1 ∧ b = 1#1 := by decide

/-- A magnitude below infinity is that of a real number. -/
theorem real_of_lt {x : EReal} (h : Ideal.cmp .olt (max x (-x)) (Ideal.ofBits .f32 0x7F800000#32) = 1#1) : x = ((x.toReal : ℝ) : EReal) := by
  rw [top_eq] at h
  have hlt : max x (-x) < ⊤ := by
    by_contra hn
    simp [Ideal.cmp, hn] at h
  refine (EReal.coe_toReal ?_ ?_).symm <;> rintro rfl <;> simp at hlt

/-- The real numbers an array carries, at column `o` and after. -/
def realAt {b : ℕ} (hb : 0 < b) (o : ℕ) (x : (⟨2, ![2048, b]⟩ : Shape).Idx → EReal) (i l : ℕ) : ℝ :=
  (x (Fin.cons ⟨i % 2048, Nat.mod_lt _ (by norm_num)⟩ (Fin.cons ⟨(o + l) % b, Nat.mod_lt _ hb⟩ finZeroElim))).toReal

theorem realAt_eq {b : ℕ} (hb : 0 < b) (o : ℕ) (x : (⟨2, ![2048, b]⟩ : Shape).Idx → EReal) (j : (⟨2, ![2048, b]⟩ : Shape).Idx) (l : ℕ)
    (hl : o + l = (j 1).val) : realAt hb o x (j 0).val l = (x j).toReal := by
  unfold realAt
  congr 2
  have h0 : (j 0).val % 2048 = (j 0).val := Nat.mod_eq_of_lt (j 0).isLt
  have h1 : (o + l) % b = (j 1).val := by rw [hl]; exact Nat.mod_eq_of_lt (j 1).isLt
  funext d
  match d with
  | ⟨0, _⟩ => exact Fin.ext h0
  | ⟨1, _⟩ => exact Fin.ext h1

/-- The real numbers of the five arguments. -/
def arraysOf (x0 x1 x2 x4 : (⟨2, ![2048, 2048]⟩ : Shape).Idx → EReal) (x3 : (⟨2, ![2048, 8192]⟩ : Shape).Idx → EReal) : Arrays where
  q := realAt (by norm_num) 0 x0
  k := realAt (by norm_num) 0 x1
  v := realAt (by norm_num) 0 x2
  g := realAt (by norm_num) 6144 x3
  dog := realAt (by norm_num) 0 x4

/-- The gate's columns of the projection. -/
def gatePart (x3 : (⟨2, ![2048, 8192]⟩ : Shape).Idx → EReal) : (⟨2, ![2048, 2048]⟩ : Shape).Idx → EReal :=
  extractStridedSlice (⟨2, ![2048, 2048]⟩ : Shape) ![0, 6144] x3 Cert.Pre_finite_inputs.Facts.slices_S2048x8192_S2048x2048_0_6144

theorem gatePart_at (x3 : (⟨2, ![2048, 8192]⟩ : Shape).Idx → EReal) (l : (⟨2, ![2048, 8192]⟩ : Shape).Idx) (h : 6144 ≤ (l 1).val) :
    ∃ j, gatePart x3 j = x3 l := by
  have h1 : (l 1).val < 8192 := (l 1).isLt
  refine ⟨Fin.cons (l 0) (Fin.cons ⟨(l 1).val - 6144, (Nat.sub_lt_left_of_lt_add h h1 : (l 1).val - 6144 < 2048)⟩ finZeroElim), congrArg x3 (funext fun d => ?_)⟩
  match d with
  | ⟨0, _⟩ => exact Fin.ext (Nat.zero_add _)
  | ⟨1, _⟩ => exact Fin.ext (Nat.add_sub_of_le h)

/-- Finite arguments are arrays of real numbers; of `proj` only the gate's columns are asked. -/
theorem reals_of_pre {x0 x1 x2 x4 : (⟨2, ![2048, 2048]⟩ : Shape).Idx → EReal} {x3 : (⟨2, ![2048, 8192]⟩ : Shape).Idx → EReal}
    (h : Cert.Pre_finite_inputs.fn (F := Ideal) x0 x1 x2 x3 x4 = fun _ => 1#1) : Reals (arraysOf x0 x1 x2 x4 x3) x0 x1 x2 x3 x4 := by
  have at5 : ∀ j : (⟨2, ![2048, 2048]⟩ : Shape).Idx,
      (x0 j = (((x0 j).toReal : ℝ) : EReal)) ∧ (x1 j = (((x1 j).toReal : ℝ) : EReal)) ∧ (x2 j = (((x2 j).toReal : ℝ) : EReal))
      ∧ (gatePart x3 j = (((gatePart x3 j).toReal : ℝ) : EReal))
      ∧ (x4 j = (((x4 j).toReal : ℝ) : EReal)) := by
    intro j
    have hj := congrFun h j
    obtain ⟨hj, h4⟩ := both_of_and _ _ hj
    obtain ⟨hj, h3⟩ := both_of_and _ _ hj
    obtain ⟨hj, h2⟩ := both_of_and _ _ hj
    obtain ⟨h0, h1⟩ := both_of_and _ _ hj
    exact ⟨real_of_lt h0, real_of_lt h1, real_of_lt h2, real_of_lt h3, real_of_lt h4⟩
  refine ⟨fun j => ?_, fun j => ?_, fun j => ?_, fun l hl => ?_, fun j => ?_⟩
  · exact (at5 j).1.trans (congrArg Real.toEReal (realAt_eq (by norm_num) 0 x0 j _ (Nat.zero_add _)).symm)
  · exact (at5 j).2.1.trans (congrArg Real.toEReal (realAt_eq (by norm_num) 0 x1 j _ (Nat.zero_add _)).symm)
  · exact (at5 j).2.2.1.trans (congrArg Real.toEReal (realAt_eq (by norm_num) 0 x2 j _ (Nat.zero_add _)).symm)
  · obtain ⟨j, e⟩ := gatePart_at x3 l hl
    have := (at5 j).2.2.2.1
    rw [e] at this
    exact this.trans (congrArg Real.toEReal (realAt_eq (by norm_num) 6144 x3 l _ (Nat.add_sub_of_le hl)).symm)
  · exact (at5 j).2.2.2.2.trans (congrArg Real.toEReal (realAt_eq (by norm_num) 0 x4 j _ (Nat.zero_add _)).symm)

/-! ## The claims -/

section

open Cert.SbKernelIdeal Cert.SbKernelIdeal.Gen Cert.SbReferenceIdeal.Read

set_option maxHeartbeats 2000000 in
/-- At finite arguments the five arrays the run leaves are those of the reference's expressions. -/
theorem value_run (m : (ℓ : Loc nD τ sig) → Buf (Elt Ideal) ℓ) (ρ : Dev nD → PrngReg) (hpre : Cert.Pre_SbKernelIdeal_finite_inputs m) :
    θ_run defs (onTc (τ := τ) (main (F := Ideal))) ⟨m, fun _ => 0, ρ⟩ (fun r => ∀ c : Dev nD,
      r.2.mem ((c.tc : Thread nD τ).loc main_v47_0) = val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v47_1) = val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v47_2) = val_main_v57 (F := Ideal) (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_v47_3) = val_main_v62 (F := Ideal) (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_v47_4) = val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_main m ρ) (frame_run m ρ))
  have H := reals_of_pre (hpre c)
  exact ⟨(Pipeline.FramePost.out_eq h.1.1 c 7).trans (final_dq (blocks H) (dq_holds H)),
    (Pipeline.FramePost.out_eq h.1.1 c 8).trans (final_dk (blocks H) (dk_holds H)),
    (Pipeline.FramePost.out_eq h.1.1 c 9).trans (final_dv (blocks H) (dv_holds H)),
    (Pipeline.FramePost.out_eq h.1.1 c 10).trans (final_dvb (blocks H) (dvb_holds H)),
    (Pipeline.FramePost.out_eq h.1.1 c 11).trans (final_dg (blocks H) (dg_holds H)),
    h.2.1 c⟩

end

/-- The ideal kernel's frame, said under the precondition. -/
theorem frame_ideal_pre : Cert.quiescent_SbKernelIdeal_pre_finite_inputs := fun m ρ _ => frame_run (F := Ideal) m ρ

/-- The reference's frame, said under the precondition. -/
theorem frame_reference_pre : Cert.quiescent_SbReferenceIdeal_pre_finite_inputs := fun m ρ _ => frame_reference m ρ trivial

open Cert.SbReferenceIdeal.Read in
/-- At finite arguments the kernel and the derivative of the forward lines have the same five results. -/
theorem algebraic : Cert.algebraic_SbKernelIdeal_SbReferenceIdeal_pre_finite_inputs := by
  intro m ρ m' ρ' hpre hag
  refine ⟨_, _, _, _, _, value_run m ρ hpre, ?_⟩
  refine (θ_run Cert.SbReferenceIdeal.defs _ _).mono (fun _ h c => ?_) (Cert.SbReferenceIdeal.Value.run (F := Ideal) m' ρ')
  obtain ⟨a0, a1, a2, a3, a4⟩ := hag c
  obtain ⟨h0, h1, h2, h3, h4, hargs⟩ := h c
  rw [← a0, ← a1, ← a2, ← a3, ← a4]
  exact ⟨h0.trans (val_main_v61_eq _), h1.trans (val_main_v59_eq _), h2.trans (val_main_v57_eq _), h3.trans (val_main_v62_eq _),
    h4.trans (val_main_v63_eq _), hargs⟩

end Cert.SbClaims

end
-- ==== Proof.PleClaims.lean ====
module

public import proofs.«01_k».proof.Defs
public import proofs.«01_k».proof.Proof.Gen.PleKernel.Frame
public import proofs.«01_k».proof.Proof.Gen.PleKernelIdeal.Value
public import proofs.«01_k».proof.Proof.Gen.PleReferenceIdeal.Run
public import Idealize.ShloMosaic.Adequacy
public import Idealize.ShloMosaic.Init
public import Idealize.ShloMosaic.PureOps.Ideal.Laws

@[expose] public section

set_option maxRecDepth 16384

noncomputable section

/-! The gradient of the per-layer-embedding gate `pp * sigmoid(gl)`: the kernel's two results and the
    derivative of the forward line are the same products, in another order. -/

namespace Cert.PleClaims

open Idealize.ShloMosaic Idealize.SL.Sem

/-- The kernel runs, keeps its arguments and leaves every counter at zero. -/
theorem frame_kernel : Cert.quiescent_PleKernel := fun m ρ _ => Cert.PleKernel.Gen.frame m ρ

/-- The same of the ideal kernel. -/
theorem frame_ideal : Cert.quiescent_PleKernelIdeal := fun m ρ _ => Cert.PleKernelIdeal.Gen.frame m ρ

/-- The same of the reference, which declares no semaphore. -/
theorem frame_reference : Cert.quiescent_PleReferenceIdeal := fun m ρ _ =>
  (θ_run Cert.PleReferenceIdeal.defs _ _).mono (fun r h => ⟨fun c => (h c).2.2,
      Idealize.ShloMosaic.sem_eq_zero_of_no_sems (by decide) r.2⟩)
    (Cert.PleReferenceIdeal.Value.run (F := Ideal) m ρ)

/-- Four factors, regrouped. -/
theorem regroup (p d s t : EReal) : p * d * (s * t) = d * p * s * t := by
  rw [mul_comm p d, mul_assoc (d * p)]

/-- Both results agree over the extended reals: the products are reassociated and commuted, nothing else. -/
theorem algebraic : Cert.algebraic_PleKernelIdeal_PleReferenceIdeal := by
  intro m ρ m' ρ' _ hag
  refine ⟨_, _, Cert.PleKernelIdeal.Value.run (F := Ideal) m ρ, ?_⟩
  refine (θ_run Cert.PleReferenceIdeal.defs _ _).mono (fun _ h c => ⟨(h c).1.trans ?_, (h c).2.1.trans ?_, (h c).2.2⟩)
    (Cert.PleReferenceIdeal.Value.run (F := Ideal) m' ρ')
  · rw [(hag c).1, (hag c).2.2]
    funext i
    simp only [Host.divf, Host.exp, Host.negf, truncf, mulf, addf, Ideal.divf_def, Ideal.hostDivf_def, Ideal.hostUnary_exp_def, broadcastInDim, constant, Ideal.truncf_def, Ideal.mulf_def, Ideal.addf_def, Ideal.exp_def, Ideal.hostNegf_def, Ideal.negf_def, Ideal.subf_def, Scalar.ofBits, Ideal.ofBits_def]
    rw [Ideal.ofBits_zero_f32, zero_sub]
  · rw [(hag c).1, (hag c).2.1, (hag c).2.2]
    funext i
    simp only [Host.divf, Host.exp, Host.negf, truncf, mulf, addf, subf, Ideal.divf_def, Ideal.hostDivf_def, Ideal.hostUnary_exp_def, broadcastInDim, constant, Ideal.truncf_def, Ideal.mulf_def, Ideal.addf_def, Ideal.exp_def, Ideal.hostNegf_def, Ideal.negf_def, Ideal.subf_def, Scalar.ofBits, Ideal.ofBits_def]
    rw [Ideal.ofBits_zero_f32, zero_sub]
    exact regroup _ _ _ _

end Cert.PleClaims

end
-- ==== Proof.DSsdInClaims.lean ====
module

public import proofs.«01_k».proof.Defs
public import proofs.«01_k».proof.Proof.Gen.DSsdIn.Frame
public import proofs.«01_k».proof.Proof.Gen.DSsdInIdeal.Value
public import proofs.«01_k».proof.Proof.Gen.DSsdInRefIdeal.Run
public import Idealize.ShloMosaic.Lib.Pipeline.ValueKit
public import Idealize.ShloMosaic.Adequacy
public import Idealize.ShloMosaic.Init

@[expose] public section

set_option maxRecDepth 16384

noncomputable section

/-! The gradient of the weights into the state-space layer, transposed: each block is one product over the whole sequence. -/

namespace Cert.DSsdInClaims

open Idealize.ShloMosaic Idealize.ShloMosaic.TcCoe Idealize.SL.Sem
open Cert.DSsdInIdeal Cert.DSsdInIdeal.Gen

variable (m : (ℓ : Loc nD τ sig) → Buf (Elt Ideal) ℓ)

/-- The reference's result over its two arguments. -/
abbrev reference (u : FVec Ideal S2048x2048 .bf16) (d : FVec Ideal S2048x10240 .bf16) : FVec Ideal S10240x2048 .bf16 :=
  truncf .bf16 (transpose S10240x2048 [1, 0] (transpose Cert.DSsdInRefIdeal.S2048x10240 [1, 0] (Host.dotGeneral Cert.DSsdInRefIdeal.dot_S2048x10240_S2048x2048_S10240x2048_0_0_1_1_n_n none (extf .f32 d Cert.DSsdInRefIdeal.Gen.bitsLt_bf16_f32) (extf .f32 u Cert.DSsdInRefIdeal.Gen.bitsLt_bf16_f32)) Cert.DSsdInRefIdeal.Gen.transposes_S10240x2048_S2048x10240_1_0) Cert.DSsdInRefIdeal.Gen.transposes_S2048x10240_S10240x2048_1_0) Cert.DSsdInRefIdeal.Gen.bitsLt_bf16_f32

theorem at_k : ∀ t : Fin cfg0.N, win0_0.index t = ![0, t.val / 2] ∧ win0_1.index t = ![0, t.val % 2] ∧ win0_2.index t = ![t.val / 2, t.val % 2] :=
  (by decide +kernel : ∀ t : Fin grid0.N, _)

theorem final (c : Dev nD) : (dats m 0 c).arrAt 2 (cfgs 0).N
    = reference (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, reference]
  blk_point [iblk, V, at_k t]

/-- The kernel runs, keeps its arguments and leaves every counter at zero. -/
theorem frame_kernel : Cert.quiescent_DSsdIn := fun m ρ _ => Cert.DSsdIn.Gen.frame m ρ

theorem frame_ideal : Cert.quiescent_DSsdInIdeal := fun m ρ _ => Cert.DSsdInIdeal.Gen.frame m ρ

theorem frame_reference : Cert.quiescent_DSsdInRefIdeal := fun m ρ _ =>
  (θ_run Cert.DSsdInRefIdeal.defs _ _).mono (fun r h => ⟨fun c => (h c).2,
      Idealize.ShloMosaic.sem_eq_zero_of_no_sems (by decide) r.2⟩)
    (Cert.DSsdInRefIdeal.Value.run (F := Ideal) m ρ)

/-- Both results agree over the extended reals. -/
theorem algebraic : Cert.algebraic_DSsdInIdeal_DSsdInRefIdeal := by
  intro m ρ m' ρ' _ hag
  refine ⟨_, Cert.DSsdInIdeal.Value.run_blocks (F := Ideal) m ρ, ?_⟩
  refine (θ_run Cert.DSsdInRefIdeal.defs _ _).mono (fun _ h c => ⟨(h c).1.trans ?_, (h c).2⟩)
    (Cert.DSsdInRefIdeal.Value.run (F := Ideal) m' ρ')
  rw [(hag c).1, (hag c).2]
  exact (final m c).symm

end Cert.DSsdInClaims

end
-- ==== Proof.WeightGrads.lean ====
module

public import proofs.«01_k».proof.Defs
public import proofs.«01_k».proof.Proof.Gen.DSbIn.Frame
public import proofs.«01_k».proof.Proof.Gen.DSbInIdeal.Value
public import proofs.«01_k».proof.Proof.Gen.DSbInRefIdeal.Run
public import proofs.«01_k».proof.Proof.Gen.DSbInRefIdeal.Read
public import proofs.«01_k».proof.Proof.Gen.DSsdOut.Frame
public import proofs.«01_k».proof.Proof.Gen.DSsdOutIdeal.Value
public import proofs.«01_k».proof.Proof.Gen.DSsdOutRefIdeal.Run
public import proofs.«01_k».proof.Proof.Gen.DSsdOutRefIdeal.Read
public import proofs.«01_k».proof.Proof.Gen.DSbOut.Frame
public import proofs.«01_k».proof.Proof.Gen.DSbOutIdeal.Value
public import proofs.«01_k».proof.Proof.Gen.DSbOutRefIdeal.Run
public import proofs.«01_k».proof.Proof.Gen.DSbOutRefIdeal.Read
public import proofs.«01_k».proof.Proof.Gen.DPleGate.Frame
public import proofs.«01_k».proof.Proof.Gen.DPleGateIdeal.Value
public import proofs.«01_k».proof.Proof.Gen.DPleGateRefIdeal.Run
public import proofs.«01_k».proof.Proof.Gen.DPleGateRefIdeal.Read
public import proofs.«01_k».proof.Proof.Gen.DPleProj.Frame
public import proofs.«01_k».proof.Proof.Gen.DPleProjIdeal.Value
public import proofs.«01_k».proof.Proof.Gen.DPleProjRefIdeal.Run
public import proofs.«01_k».proof.Proof.Gen.DPleProjRefIdeal.Read
public import Idealize.ShloMosaic.Lib.Pipeline.ValueKit
public import Idealize.ShloMosaic.Adequacy
public import Idealize.ShloMosaic.Init

@[expose] public section

set_option maxRecDepth 16384

noncomputable section

/-! The gradients of the weights: each block of the result is one product over the whole sequence. -/

namespace Cert.DSbInClaims

open Idealize.ShloMosaic Idealize.ShloMosaic.TcCoe Idealize.SL.Sem
open Cert.DSbInIdeal Cert.DSbInIdeal.Gen

/-- The block that each window holds at a grid point. -/
theorem at_k : ∀ t : Fin cfg0.N, win0_0.index t = ![0, t.val / 8] ∧ win0_1.index t = ![0, t.val % 8] ∧ win0_2.index t = ![t.val % 8 / 2, 0, t.val / 8, t.val % 8 % 2] :=
  (by decide +kernel : ∀ t : Fin grid0.N, _)

/-- The gradient of the weights into the attention, cut by columns into four shards. -/
theorem final (m : (ℓ : Loc nD τ sig) → Buf (Elt Ideal) ℓ) (c : Dev nD) : (dats m 0 c).arrAt 2 (cfgs 0).N
    = Cert.DSbInRefIdeal.Read.val_main_v9 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, Cert.DSbInRefIdeal.Read.val_main_v9, Cert.DSbInRefIdeal.Read.val_main_v8, Cert.DSbInRefIdeal.Read.val_main_v7, Cert.DSbInRefIdeal.Read.val_main_v6, Cert.DSbInRefIdeal.Read.val_main_v5, Cert.DSbInRefIdeal.Read.val_main_v4, Cert.DSbInRefIdeal.Read.val_main_v3, Cert.DSbInRefIdeal.Read.val_main_v1]
  refine Fin.sum_fin_congr fun k => (EReal.mul_comm _ _).trans ?_
  blk_point [iblk, V, at_k t]

/-- The kernel runs, keeps its arguments and leaves every counter at zero. -/
theorem frame_kernel : Cert.quiescent_DSbIn := fun m ρ _ => Cert.DSbIn.Gen.frame m ρ

/-- So does the ideal kernel. -/
theorem frame_ideal : Cert.quiescent_DSbInIdeal := fun m ρ _ => frame m ρ

/-- And the reference, which has no counter. -/
theorem frame_reference : Cert.quiescent_DSbInRefIdeal := fun m ρ _ =>
  (θ_run Cert.DSbInRefIdeal.defs _ _).mono (fun r h => ⟨fun c => (h c).2, sem_eq_zero_of_no_sems (by decide) r.2⟩)
    (Cert.DSbInRefIdeal.Value.run (F := Ideal) m ρ)

/-- Kernel and reference agree over the extended reals. -/
theorem algebraic : Cert.algebraic_DSbInIdeal_DSbInRefIdeal := by
  intro m ρ m' ρ' _ hag
  refine ⟨_, Value.run_blocks (F := Ideal) m ρ, (θ_run Cert.DSbInRefIdeal.defs _ _).mono (fun _ h c => ⟨(h c).1.trans ?_, (h c).2⟩)
    (Cert.DSbInRefIdeal.Value.run (F := Ideal) m' ρ')⟩
  rw [(hag c).1, (hag c).2]
  exact (final m c).symm

end Cert.DSbInClaims

namespace Cert.DSsdOutClaims

open Idealize.ShloMosaic Idealize.ShloMosaic.TcCoe Idealize.SL.Sem
open Cert.DSsdOutIdeal Cert.DSsdOutIdeal.Gen

/-- The block that each window holds at a grid point. -/
theorem at_k : ∀ t : Fin cfg0.N, win0_0.index t = ![0, t.val / 2] ∧ win0_1.index t = ![0, t.val % 2] ∧ win0_2.index t = ![t.val / 2, 0, 0, t.val % 2] :=
  (by decide +kernel : ∀ t : Fin grid0.N, _)

/-- The gradient of the weights out of the state-space layer, in four shards of rows. -/
theorem final (m : (ℓ : Loc nD τ sig) → Buf (Elt Ideal) ℓ) (c : Dev nD) : (dats m 0 c).arrAt 2 (cfgs 0).N
    = Cert.DSsdOutRefIdeal.Read.val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, Cert.DSsdOutRefIdeal.Read.val_main_v6, Cert.DSsdOutRefIdeal.Read.val_main_v5, Cert.DSsdOutRefIdeal.Read.val_main_v4, Cert.DSsdOutRefIdeal.Read.val_main_v3, Cert.DSsdOutRefIdeal.Read.val_main_v1]
  refine Fin.sum_fin_congr fun k => (EReal.mul_comm _ _).trans ?_
  blk_point [iblk, V, at_k t]

/-- The kernel runs, keeps its arguments and leaves every counter at zero. -/
theorem frame_kernel : Cert.quiescent_DSsdOut := fun m ρ _ => Cert.DSsdOut.Gen.frame m ρ

/-- So does the ideal kernel. -/
theorem frame_ideal : Cert.quiescent_DSsdOutIdeal := fun m ρ _ => frame m ρ

/-- And the reference, which has no counter. -/
theorem frame_reference : Cert.quiescent_DSsdOutRefIdeal := fun m ρ _ =>
  (θ_run Cert.DSsdOutRefIdeal.defs _ _).mono (fun r h => ⟨fun c => (h c).2, sem_eq_zero_of_no_sems (by decide) r.2⟩)
    (Cert.DSsdOutRefIdeal.Value.run (F := Ideal) m ρ)

/-- Kernel and reference agree over the extended reals. -/
theorem algebraic : Cert.algebraic_DSsdOutIdeal_DSsdOutRefIdeal := by
  intro m ρ m' ρ' _ hag
  refine ⟨_, Value.run_blocks (F := Ideal) m ρ, (θ_run Cert.DSsdOutRefIdeal.defs _ _).mono (fun _ h c => ⟨(h c).1.trans ?_, (h c).2⟩)
    (Cert.DSsdOutRefIdeal.Value.run (F := Ideal) m' ρ')⟩
  rw [(hag c).1, (hag c).2]
  exact (final m c).symm

end Cert.DSsdOutClaims

namespace Cert.DSbOutClaims

open Idealize.ShloMosaic Idealize.ShloMosaic.TcCoe Idealize.SL.Sem
open Cert.DSbOutIdeal Cert.DSbOutIdeal.Gen

/-- The block that each window holds at a grid point. -/
theorem at_k : ∀ t : Fin cfg0.N, win0_0.index t = ![0, t.val / 2] ∧ win0_1.index t = ![0, t.val % 2] ∧ win0_2.index t = ![t.val / 2, 0, 0, t.val % 2] :=
  (by decide +kernel : ∀ t : Fin grid0.N, _)

/-- The gradient of the weights out of the attention, in four shards of rows. -/
theorem final (m : (ℓ : Loc nD τ sig) → Buf (Elt Ideal) ℓ) (c : Dev nD) : (dats m 0 c).arrAt 2 (cfgs 0).N
    = Cert.DSbOutRefIdeal.Read.val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, Cert.DSbOutRefIdeal.Read.val_main_v6, Cert.DSbOutRefIdeal.Read.val_main_v5, Cert.DSbOutRefIdeal.Read.val_main_v4, Cert.DSbOutRefIdeal.Read.val_main_v3, Cert.DSbOutRefIdeal.Read.val_main_v1]
  refine Fin.sum_fin_congr fun k => (EReal.mul_comm _ _).trans ?_
  blk_point [iblk, V, at_k t]

/-- The kernel runs, keeps its arguments and leaves every counter at zero. -/
theorem frame_kernel : Cert.quiescent_DSbOut := fun m ρ _ => Cert.DSbOut.Gen.frame m ρ

/-- So does the ideal kernel. -/
theorem frame_ideal : Cert.quiescent_DSbOutIdeal := fun m ρ _ => frame m ρ

/-- And the reference, which has no counter. -/
theorem frame_reference : Cert.quiescent_DSbOutRefIdeal := fun m ρ _ =>
  (θ_run Cert.DSbOutRefIdeal.defs _ _).mono (fun r h => ⟨fun c => (h c).2, sem_eq_zero_of_no_sems (by decide) r.2⟩)
    (Cert.DSbOutRefIdeal.Value.run (F := Ideal) m ρ)

/-- Kernel and reference agree over the extended reals. -/
theorem algebraic : Cert.algebraic_DSbOutIdeal_DSbOutRefIdeal := by
  intro m ρ m' ρ' _ hag
  refine ⟨_, Value.run_blocks (F := Ideal) m ρ, (θ_run Cert.DSbOutRefIdeal.defs _ _).mono (fun _ h c => ⟨(h c).1.trans ?_, (h c).2⟩)
    (Cert.DSbOutRefIdeal.Value.run (F := Ideal) m' ρ')⟩
  rw [(hag c).1, (hag c).2]
  exact (final m c).symm

end Cert.DSbOutClaims

namespace Cert.DPleGateClaims

open Idealize.ShloMosaic Idealize.ShloMosaic.TcCoe Idealize.SL.Sem
open Cert.DPleGateIdeal Cert.DPleGateIdeal.Gen

/-- The block that each window holds at a grid point. -/
theorem at_k : ∀ t : Fin cfg0.N, win0_0.index t = ![0, t.val / 2] ∧ win0_1.index t = ![0, t.val % 2] ∧ win0_2.index t = ![t.val / 2, 0, 0, t.val % 2] :=
  (by decide +kernel : ∀ t : Fin grid0.N, _)

/-- The gradient of the gate's weights, in four shards of rows. -/
theorem final (m : (ℓ : Loc nD τ sig) → Buf (Elt Ideal) ℓ) (c : Dev nD) : (dats m 0 c).arrAt 2 (cfgs 0).N
    = Cert.DPleGateRefIdeal.Read.val_main_v7 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, Cert.DPleGateRefIdeal.Read.val_main_v7, Cert.DPleGateRefIdeal.Read.val_main_v6, Cert.DPleGateRefIdeal.Read.val_main_v5, Cert.DPleGateRefIdeal.Read.val_main_v4, Cert.DPleGateRefIdeal.Read.val_main_v3, Cert.DPleGateRefIdeal.Read.val_main_v1]
  refine Fin.sum_fin_congr fun k => (EReal.mul_comm _ _).trans ?_
  blk_point [iblk, V, at_k t]

/-- The kernel runs, keeps its arguments and leaves every counter at zero. -/
theorem frame_kernel : Cert.quiescent_DPleGate := fun m ρ _ => Cert.DPleGate.Gen.frame m ρ

/-- So does the ideal kernel. -/
theorem frame_ideal : Cert.quiescent_DPleGateIdeal := fun m ρ _ => frame m ρ

/-- And the reference, which has no counter. -/
theorem frame_reference : Cert.quiescent_DPleGateRefIdeal := fun m ρ _ =>
  (θ_run Cert.DPleGateRefIdeal.defs _ _).mono (fun r h => ⟨fun c => (h c).2, sem_eq_zero_of_no_sems (by decide) r.2⟩)
    (Cert.DPleGateRefIdeal.Value.run (F := Ideal) m ρ)

/-- Kernel and reference agree over the extended reals. -/
theorem algebraic : Cert.algebraic_DPleGateIdeal_DPleGateRefIdeal := by
  intro m ρ m' ρ' _ hag
  refine ⟨_, Value.run_blocks (F := Ideal) m ρ, (θ_run Cert.DPleGateRefIdeal.defs _ _).mono (fun _ h c => ⟨(h c).1.trans ?_, (h c).2⟩)
    (Cert.DPleGateRefIdeal.Value.run (F := Ideal) m' ρ')⟩
  rw [(hag c).1, (hag c).2]
  exact (final m c).symm

end Cert.DPleGateClaims

namespace Cert.DPleProjClaims

open Idealize.ShloMosaic Idealize.ShloMosaic.TcCoe Idealize.SL.Sem
open Cert.DPleProjIdeal Cert.DPleProjIdeal.Gen

/-- The block that each window holds at a grid point. -/
theorem at_k : ∀ t : Fin cfg0.N, win0_0.index t = ![0, 0] ∧ win0_1.index t = ![0, t.val] ∧ win0_2.index t = ![t.val, 0, 0, 0] :=
  (by decide +kernel : ∀ t : Fin grid0.N, _)

/-- The gradient of the layer embedding's weights, in four shards of columns. -/
theorem final (m : (ℓ : Loc nD τ sig) → Buf (Elt Ideal) ℓ) (c : Dev nD) : (dats m 0 c).arrAt 2 (cfgs 0).N
    = Cert.DPleProjRefIdeal.Read.val_main_v8 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, Cert.DPleProjRefIdeal.Read.val_main_v8, Cert.DPleProjRefIdeal.Read.val_main_v7, Cert.DPleProjRefIdeal.Read.val_main_v6, Cert.DPleProjRefIdeal.Read.val_main_v5, Cert.DPleProjRefIdeal.Read.val_main_v4, Cert.DPleProjRefIdeal.Read.val_main_v3, Cert.DPleProjRefIdeal.Read.val_main_v2]
  refine Fin.sum_fin_congr fun k => (EReal.mul_comm _ _).trans ?_
  blk_point [iblk, V, at_k t]

/-- The kernel runs, keeps its arguments and leaves every counter at zero. -/
theorem frame_kernel : Cert.quiescent_DPleProj := fun m ρ _ => Cert.DPleProj.Gen.frame m ρ

/-- So does the ideal kernel. -/
theorem frame_ideal : Cert.quiescent_DPleProjIdeal := fun m ρ _ => frame m ρ

/-- And the reference, which has no counter. -/
theorem frame_reference : Cert.quiescent_DPleProjRefIdeal := fun m ρ _ =>
  (θ_run Cert.DPleProjRefIdeal.defs _ _).mono (fun r h => ⟨fun c => (h c).2, sem_eq_zero_of_no_sems (by decide) r.2⟩)
    (Cert.DPleProjRefIdeal.Value.run (F := Ideal) m ρ)

/-- Kernel and reference agree over the extended reals. -/
theorem algebraic : Cert.algebraic_DPleProjIdeal_DPleProjRefIdeal := by
  intro m ρ m' ρ' _ hag
  refine ⟨_, Value.run_blocks (F := Ideal) m ρ, (θ_run Cert.DPleProjRefIdeal.defs _ _).mono (fun _ h c => ⟨(h c).1.trans ?_, (h c).2⟩)
    (Cert.DPleProjRefIdeal.Value.run (F := Ideal) m' ρ')⟩
  rw [(hag c).1, (hag c).2]
  exact (final m c).symm

end Cert.DPleProjClaims

end
-- ==== Proof.InputGrads.lean ====
module

public import proofs.«01_k».proof.Defs
public import proofs.«01_k».proof.Proof.Gen.SsdOutBwd.Frame
public import proofs.«01_k».proof.Proof.Gen.SsdOutBwdIdeal.Value
public import proofs.«01_k».proof.Proof.Gen.SsdOutBwdRefIdeal.Run
public import proofs.«01_k».proof.Proof.Gen.SsdOutBwdRefIdeal.Read
public import proofs.«01_k».proof.Proof.Gen.SbOutBwd.Frame
public import proofs.«01_k».proof.Proof.Gen.SbOutBwdIdeal.Value
public import proofs.«01_k».proof.Proof.Gen.SbOutBwdRefIdeal.Run
public import proofs.«01_k».proof.Proof.Gen.SbOutBwdRefIdeal.Read
public import proofs.«01_k».proof.Proof.Gen.PleGateBwd.Frame
public import proofs.«01_k».proof.Proof.Gen.PleGateBwdIdeal.Value
public import proofs.«01_k».proof.Proof.Gen.PleGateBwdRefIdeal.Run
public import proofs.«01_k».proof.Proof.Gen.PleGateBwdRefIdeal.Read
public import Idealize.ShloMosaic.Lib.Pipeline.ValueKit
public import Idealize.ShloMosaic.Adequacy
public import Idealize.ShloMosaic.Init

@[expose] public section

set_option maxRecDepth 16384

noncomputable section

/-! The gradients of the products' inputs where one block holds the whole contraction. -/

namespace Cert.SsdOutBwdClaims

open Idealize.ShloMosaic Idealize.ShloMosaic.TcCoe Idealize.SL.Sem
open Cert.SsdOutBwdIdeal Cert.SsdOutBwdIdeal.Gen

/-- The block that each window holds at a grid point. -/
theorem at_k : ∀ t : Fin cfg0.N, win0_0.index t = ![t.val / 4, 0] ∧ win0_1.index t = ![t.val % 4, 1, 0, 0] ∧ win0_2.index t = ![t.val / 4, t.val % 4] :=
  (by decide +kernel : ∀ t : Fin grid0.N, _)

/-- The gradient of what the state-space layer gives its last product. -/
theorem final (m : (ℓ : Loc nD τ sig) → Buf (Elt Ideal) ℓ) (c : Dev nD) : (dats m 0 c).arrAt 2 (cfgs 0).N
    = Cert.SsdOutBwdRefIdeal.Read.val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, Cert.SsdOutBwdRefIdeal.Read.val_main_v4, Cert.SsdOutBwdRefIdeal.Read.val_main_v1, Cert.SsdOutBwdRefIdeal.Read.val_main_v0]
  blk_point [iblk, V, at_k t]

/-- The kernel runs, keeps its arguments and leaves every counter at zero. -/
theorem frame_kernel : Cert.quiescent_SsdOutBwd := fun m ρ _ => Cert.SsdOutBwd.Gen.frame m ρ

/-- So does the ideal kernel. -/
theorem frame_ideal : Cert.quiescent_SsdOutBwdIdeal := fun m ρ _ => frame m ρ

/-- And the reference, which has no counter. -/
theorem frame_reference : Cert.quiescent_SsdOutBwdRefIdeal := fun m ρ _ =>
  (θ_run Cert.SsdOutBwdRefIdeal.defs _ _).mono (fun r h => ⟨fun c => (h c).2, sem_eq_zero_of_no_sems (by decide) r.2⟩)
    (Cert.SsdOutBwdRefIdeal.Value.run (F := Ideal) m ρ)

/-- Kernel and reference agree over the extended reals. -/
theorem algebraic : Cert.algebraic_SsdOutBwdIdeal_SsdOutBwdRefIdeal := by
  intro m ρ m' ρ' _ hag
  refine ⟨_, Value.run_blocks (F := Ideal) m ρ, (θ_run Cert.SsdOutBwdRefIdeal.defs _ _).mono (fun _ h c => ⟨(h c).1.trans ?_, (h c).2⟩)
    (Cert.SsdOutBwdRefIdeal.Value.run (F := Ideal) m' ρ')⟩
  rw [(hag c).1, (hag c).2]
  exact (final m c).symm

end Cert.SsdOutBwdClaims

namespace Cert.SbOutBwdClaims

open Idealize.ShloMosaic Idealize.ShloMosaic.TcCoe Idealize.SL.Sem
open Cert.SbOutBwdIdeal Cert.SbOutBwdIdeal.Gen

/-- The block that each window holds at a grid point. -/
theorem at_k : ∀ t : Fin cfg0.N, win0_0.index t = ![t.val / 4, 0] ∧ win0_1.index t = ![t.val % 4, 1, 0, 0] ∧ win0_2.index t = ![t.val / 4, t.val % 4] :=
  (by decide +kernel : ∀ t : Fin grid0.N, _)

/-- The gradient of what the attention gives its last product. -/
theorem final (m : (ℓ : Loc nD τ sig) → Buf (Elt Ideal) ℓ) (c : Dev nD) : (dats m 0 c).arrAt 2 (cfgs 0).N
    = Cert.SbOutBwdRefIdeal.Read.val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, Cert.SbOutBwdRefIdeal.Read.val_main_v4, Cert.SbOutBwdRefIdeal.Read.val_main_v1, Cert.SbOutBwdRefIdeal.Read.val_main_v0]
  blk_point [iblk, V, at_k t]

/-- The kernel runs, keeps its arguments and leaves every counter at zero. -/
theorem frame_kernel : Cert.quiescent_SbOutBwd := fun m ρ _ => Cert.SbOutBwd.Gen.frame m ρ

/-- So does the ideal kernel. -/
theorem frame_ideal : Cert.quiescent_SbOutBwdIdeal := fun m ρ _ => frame m ρ

/-- And the reference, which has no counter. -/
theorem frame_reference : Cert.quiescent_SbOutBwdRefIdeal := fun m ρ _ =>
  (θ_run Cert.SbOutBwdRefIdeal.defs _ _).mono (fun r h => ⟨fun c => (h c).2, sem_eq_zero_of_no_sems (by decide) r.2⟩)
    (Cert.SbOutBwdRefIdeal.Value.run (F := Ideal) m ρ)

/-- Kernel and reference agree over the extended reals. -/
theorem algebraic : Cert.algebraic_SbOutBwdIdeal_SbOutBwdRefIdeal := by
  intro m ρ m' ρ' _ hag
  refine ⟨_, Value.run_blocks (F := Ideal) m ρ, (θ_run Cert.SbOutBwdRefIdeal.defs _ _).mono (fun _ h c => ⟨(h c).1.trans ?_, (h c).2⟩)
    (Cert.SbOutBwdRefIdeal.Value.run (F := Ideal) m' ρ')⟩
  rw [(hag c).1, (hag c).2]
  exact (final m c).symm

end Cert.SbOutBwdClaims

namespace Cert.PleGateBwdClaims

open Idealize.ShloMosaic Idealize.ShloMosaic.TcCoe Idealize.SL.Sem
open Cert.PleGateBwdIdeal Cert.PleGateBwdIdeal.Gen

/-- The block that each window holds at a grid point. -/
theorem at_k : ∀ t : Fin cfg0.N, win0_0.index t = ![t.val / 4, 0] ∧ win0_1.index t = ![t.val % 4, 3, 0, 0] ∧ win0_2.index t = ![t.val / 4, t.val % 4] :=
  (by decide +kernel : ∀ t : Fin grid0.N, _)

/-- The gradient of what the gate's product takes. -/
theorem final (m : (ℓ : Loc nD τ sig) → Buf (Elt Ideal) ℓ) (c : Dev nD) : (dats m 0 c).arrAt 2 (cfgs 0).N
    = Cert.PleGateBwdRefIdeal.Read.val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, Cert.PleGateBwdRefIdeal.Read.val_main_v5, Cert.PleGateBwdRefIdeal.Read.val_main_v4, Cert.PleGateBwdRefIdeal.Read.val_main_v1, Cert.PleGateBwdRefIdeal.Read.val_main_v0]
  blk_point [iblk, V, at_k t]

/-- The kernel runs, keeps its arguments and leaves every counter at zero. -/
theorem frame_kernel : Cert.quiescent_PleGateBwd := fun m ρ _ => Cert.PleGateBwd.Gen.frame m ρ

/-- So does the ideal kernel. -/
theorem frame_ideal : Cert.quiescent_PleGateBwdIdeal := fun m ρ _ => frame m ρ

/-- And the reference, which has no counter. -/
theorem frame_reference : Cert.quiescent_PleGateBwdRefIdeal := fun m ρ _ =>
  (θ_run Cert.PleGateBwdRefIdeal.defs _ _).mono (fun r h => ⟨fun c => (h c).2, sem_eq_zero_of_no_sems (by decide) r.2⟩)
    (Cert.PleGateBwdRefIdeal.Value.run (F := Ideal) m ρ)

/-- Kernel and reference agree over the extended reals. -/
theorem algebraic : Cert.algebraic_PleGateBwdIdeal_PleGateBwdRefIdeal := by
  intro m ρ m' ρ' _ hag
  refine ⟨_, Value.run_blocks (F := Ideal) m ρ, (θ_run Cert.PleGateBwdRefIdeal.defs _ _).mono (fun _ h c => ⟨(h c).1.trans ?_, (h c).2⟩)
    (Cert.PleGateBwdRefIdeal.Value.run (F := Ideal) m' ρ')⟩
  rw [(hag c).1, (hag c).2]
  exact (final m c).symm

end Cert.PleGateBwdClaims

end
-- ==== Proof.ForwardProducts.lean ====
module

public import proofs.«01_k».proof.Defs
public import proofs.«01_k».proof.Proof.Gen.SbIn.Frame
public import proofs.«01_k».proof.Proof.Gen.SbInIdeal.Value
public import proofs.«01_k».proof.Proof.Gen.SbInRefIdeal.Run
public import proofs.«01_k».proof.Proof.Gen.SbInRefIdeal.Read
public import proofs.«01_k».proof.Proof.Gen.PleProj.Frame
public import proofs.«01_k».proof.Proof.Gen.PleProjIdeal.Value
public import proofs.«01_k».proof.Proof.Gen.PleProjRefIdeal.Run
public import proofs.«01_k».proof.Proof.Gen.PleProjRefIdeal.Read
public import Idealize.ShloMosaic.Lib.Pipeline.ValueKit
public import Idealize.ShloMosaic.Adequacy
public import Idealize.ShloMosaic.Init

@[expose] public section

set_option maxRecDepth 16384

noncomputable section

/-! The products of the forward pass where one block holds the whole contraction. -/

namespace Cert.SbInClaims

open Idealize.ShloMosaic Idealize.ShloMosaic.TcCoe Idealize.SL.Sem
open Cert.SbInIdeal Cert.SbInIdeal.Gen

/-- The block that each window holds at a grid point. -/
theorem at_k : ∀ t : Fin cfg0.N, win0_0.index t = ![t.val / 8, 0] ∧ win0_1.index t = ![t.val % 8 / 2, 1, 0, t.val % 8 % 2] ∧ win0_2.index t = ![t.val / 8, t.val % 8] :=
  (by decide +kernel : ∀ t : Fin grid0.N, _)

/-- The product into the attention, with the weights in four shards of columns. -/
theorem final (m : (ℓ : Loc nD τ sig) → Buf (Elt Ideal) ℓ) (c : Dev nD) : (dats m 0 c).arrAt 2 (cfgs 0).N
    = Cert.SbInRefIdeal.Read.val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, Cert.SbInRefIdeal.Read.val_main_v3, Cert.SbInRefIdeal.Read.val_main_v2, Cert.SbInRefIdeal.Read.val_main_v1, Cert.SbInRefIdeal.Read.val_main_v0]
  blk_point [iblk, V, at_k t]

/-- The kernel runs, keeps its arguments and leaves every counter at zero. -/
theorem frame_kernel : Cert.quiescent_SbIn := fun m ρ _ => Cert.SbIn.Gen.frame m ρ

/-- So does the ideal kernel. -/
theorem frame_ideal : Cert.quiescent_SbInIdeal := fun m ρ _ => frame m ρ

/-- And the reference, which has no counter. -/
theorem frame_reference : Cert.quiescent_SbInRefIdeal := fun m ρ _ =>
  (θ_run Cert.SbInRefIdeal.defs _ _).mono (fun r h => ⟨fun c => (h c).2, sem_eq_zero_of_no_sems (by decide) r.2⟩)
    (Cert.SbInRefIdeal.Value.run (F := Ideal) m ρ)

/-- Kernel and reference agree over the extended reals. -/
theorem algebraic : Cert.algebraic_SbInIdeal_SbInRefIdeal := by
  intro m ρ m' ρ' _ hag
  refine ⟨_, Value.run_blocks (F := Ideal) m ρ, (θ_run Cert.SbInRefIdeal.defs _ _).mono (fun _ h c => ⟨(h c).1.trans ?_, (h c).2⟩)
    (Cert.SbInRefIdeal.Value.run (F := Ideal) m' ρ')⟩
  rw [(hag c).1, (hag c).2]
  exact (final m c).symm

end Cert.SbInClaims

namespace Cert.PleProjClaims

open Idealize.ShloMosaic Idealize.ShloMosaic.TcCoe Idealize.SL.Sem
open Cert.PleProjIdeal Cert.PleProjIdeal.Gen

/-- The block that each window holds at a grid point. -/
theorem at_k : ∀ t : Fin cfg0.N, win0_0.index t = ![t.val / 4, 0] ∧ win0_1.index t = ![t.val % 4, 3, 0, 0] ∧ win0_2.index t = ![t.val / 4, t.val % 4] :=
  (by decide +kernel : ∀ t : Fin grid0.N, _)

/-- The layer embedding's product, with the weights in four shards of columns. -/
theorem final (m : (ℓ : Loc nD τ sig) → Buf (Elt Ideal) ℓ) (c : Dev nD) : (dats m 0 c).arrAt 2 (cfgs 0).N
    = Cert.PleProjRefIdeal.Read.val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, Cert.PleProjRefIdeal.Read.val_main_v2, Cert.PleProjRefIdeal.Read.val_main_v1, Cert.PleProjRefIdeal.Read.val_main_v0]
  blk_point [iblk, V, at_k t]

/-- The kernel runs, keeps its arguments and leaves every counter at zero. -/
theorem frame_kernel : Cert.quiescent_PleProj := fun m ρ _ => Cert.PleProj.Gen.frame m ρ

/-- So does the ideal kernel. -/
theorem frame_ideal : Cert.quiescent_PleProjIdeal := fun m ρ _ => frame m ρ

/-- And the reference, which has no counter. -/
theorem frame_reference : Cert.quiescent_PleProjRefIdeal := fun m ρ _ =>
  (θ_run Cert.PleProjRefIdeal.defs _ _).mono (fun r h => ⟨fun c => (h c).2, sem_eq_zero_of_no_sems (by decide) r.2⟩)
    (Cert.PleProjRefIdeal.Value.run (F := Ideal) m ρ)

/-- Kernel and reference agree over the extended reals. -/
theorem algebraic : Cert.algebraic_PleProjIdeal_PleProjRefIdeal := by
  intro m ρ m' ρ' _ hag
  refine ⟨_, Value.run_blocks (F := Ideal) m ρ, (θ_run Cert.PleProjRefIdeal.defs _ _).mono (fun _ h c => ⟨(h c).1.trans ?_, (h c).2⟩)
    (Cert.PleProjRefIdeal.Value.run (F := Ideal) m' ρ')⟩
  rw [(hag c).1, (hag c).2]
  exact (final m c).symm

end Cert.PleProjClaims

end
-- ==== Proof.LongProducts.lean ====
module

public import proofs.«01_k».proof.Defs
public import proofs.«01_k».proof.Proof.Gen.SbInBwd.Frame
public import proofs.«01_k».proof.Proof.Gen.SbInBwdIdeal.Value
public import proofs.«01_k».proof.Proof.Gen.SbInBwdRefIdeal.Run
public import proofs.«01_k».proof.Proof.Gen.SbInBwdRefIdeal.Read
public import proofs.«01_k».proof.Proof.Gen.SsdOut.Frame
public import proofs.«01_k».proof.Proof.Gen.SsdOutIdeal.Value
public import proofs.«01_k».proof.Proof.Gen.SsdOutRefIdeal.Run
public import proofs.«01_k».proof.Proof.Gen.SsdOutRefIdeal.Read
public import proofs.«01_k».proof.Proof.Gen.SbOut.Frame
public import proofs.«01_k».proof.Proof.Gen.SbOutIdeal.Value
public import proofs.«01_k».proof.Proof.Gen.SbOutRefIdeal.Run
public import proofs.«01_k».proof.Proof.Gen.SbOutRefIdeal.Read
public import proofs.«01_k».proof.Proof.Gen.PleGate.Frame
public import proofs.«01_k».proof.Proof.Gen.PleGateIdeal.Value
public import proofs.«01_k».proof.Proof.Gen.PleGateRefIdeal.Run
public import proofs.«01_k».proof.Proof.Gen.PleGateRefIdeal.Read
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

/-! The products that go over the contraction in four blocks, with the sum so far in a scratch. -/

namespace Cert.SbInBwdClaims

open Idealize.ShloMosaic Idealize.ShloMosaic.TcCoe Idealize.SL.Sem
open Cert.SbInBwdIdeal Cert.SbInBwdIdeal.Gen

/-- The block that each window holds at a grid point. -/
theorem at_k : ∀ t : Fin cfg0.N, win0_0.index t = ![t.val / 8, t.val % 4] ∧ win0_1.index t = ![t.val % 4, 1, t.val % 8 / 4, 0] ∧ win0_2.index t = ![t.val / 8, t.val % 8 / 4] :=
  (by decide +kernel : ∀ t : Fin grid0.N, _)

/-- The scratch starts at zero. -/
theorem zero_at (i : S1024x1024.Idx) : k0_pay1 (F := Ideal) i = 0 := by
  pointwise [k0_pay1]

/-- A step adds its own product to the scratch. -/
theorem add_at (a : Vec Ideal S1024x1024 .f32) (x : Vec Ideal S1024x2048 .bf16) (w : Vec Ideal S1x1x1024x2048 .bf16) (i : S1024x1024.Idx) :
    k0_pay2 (F := Ideal) a x w i = a i + k0_pay2 (F := Ideal) (fun _ => (0 : EReal)) x w i := by
  pointwise [k0_pay2]

/-- At the end of a run the scratch is the sum of the run's four products. -/
theorem kept (m : (ℓ : Loc nD τ sig) → Buf (Elt Ideal) ℓ) (c : Dev nD) (t : Fin cfg0.N) (h : t.val % 4 = 4 - 1) (i : S1024x1024.Idx) :
    (outsAt0 m c t.val t.isLt).2 i = ∑ s : Fin 4, k0_pay2 (F := Ideal) (fun _ => (0 : EReal))
      (iblk m c 0 ⟨4 * (t.val / 4) + s.val, Pipeline.run_point_lt_of_flush t h s⟩)
      (iblk m c 1 ⟨4 * (t.val / 4) + s.val, Pipeline.run_point_lt_of_flush t h s⟩) i := by
  refine (Pipeline.eq_sum_fin_of_reset_step_apply_of_flush (fun n h => (outsAt0 m c n h).2) 4 (fun _ => (0 : EReal))
    (fun t => k0_pay2 (F := Ideal) (fun _ => (0 : EReal)) (iblk m c 0 t) (iblk m c 1 t))
    (fun t h j => ?_) (fun t h j => ?_) t h i).trans (zero_add _)
  · rw [outsAt0_A m c t h (by omega)]; dsimp only; frame_out; rw [add_at, zero_at]
  · by_cases h' : t.val % 4 = 3
    · rw [outsAt0_C m c t h h']; dsimp only; frame_out; rw [add_at, read_unread_whole]
    · rw [outsAt0_B m c t h h']; dsimp only; frame_out; rw [add_at, read_unread_whole]

/-- At the end of a run the block that is written back is the scratch. -/
theorem stored (m : (ℓ : Loc nD τ sig) → Buf (Elt Ideal) ℓ) (c : Dev nD) (t : Fin cfg0.N) (h : t.val % 4 = 3) (i : S1024x1024.Idx) :
    (outsAt0 m c t.val t.isLt).1 i = (outsAt0 m c t.val t.isLt).2 i := by
  rw [outsAt0_C m c t (by omega) h]; dsimp only; frame_out

/-- The gradient of what the attention's product takes. -/
theorem final (m : (ℓ : Loc nD τ sig) → Buf (Elt Ideal) ℓ) (c : Dev nD) : (dats m 0 c).arrAt 2 (cfgs 0).N
    = Cert.SbInBwdRefIdeal.Read.val_main_v5 (F := Ideal) (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, stored m c t h, kept m c t h]
  pointwise [k0_pay2, Cert.SbInBwdRefIdeal.Read.val_main_v5, Cert.SbInBwdRefIdeal.Read.val_main_v4, Cert.SbInBwdRefIdeal.Read.val_main_v1, Cert.SbInBwdRefIdeal.Read.val_main_v0]
  refine Fin.sum_mul_add_congr fun s k hl => ?_
  blk_point [iblk, V, at_k t, at_k ⟨_, Pipeline.run_point_lt_of_flush t h s⟩]

/-- The kernel runs, keeps its arguments and leaves every counter at zero. -/
theorem frame_kernel : Cert.quiescent_SbInBwd := fun m ρ _ => Cert.SbInBwd.Gen.frame m ρ

/-- So does the ideal kernel. -/
theorem frame_ideal : Cert.quiescent_SbInBwdIdeal := fun m ρ _ => frame m ρ

/-- And the reference, which has no counter. -/
theorem frame_reference : Cert.quiescent_SbInBwdRefIdeal := fun m ρ _ =>
  (θ_run Cert.SbInBwdRefIdeal.defs _ _).mono (fun r h => ⟨fun c => (h c).2, sem_eq_zero_of_no_sems (by decide) r.2⟩)
    (Cert.SbInBwdRefIdeal.Value.run (F := Ideal) m ρ)

/-- Kernel and reference agree over the extended reals. -/
theorem algebraic : Cert.algebraic_SbInBwdIdeal_SbInBwdRefIdeal := by
  intro m ρ m' ρ' _ hag
  refine ⟨_, Value.run_blocks (F := Ideal) m ρ, (θ_run Cert.SbInBwdRefIdeal.defs _ _).mono (fun _ h c => ⟨(h c).1.trans ?_, (h c).2⟩)
    (Cert.SbInBwdRefIdeal.Value.run (F := Ideal) m' ρ')⟩
  rw [(hag c).1, (hag c).2]
  exact (final m c).symm

end Cert.SbInBwdClaims

namespace Cert.SsdOutClaims

open Idealize.ShloMosaic Idealize.ShloMosaic.TcCoe Idealize.SL.Sem
open Cert.SsdOutIdeal Cert.SsdOutIdeal.Gen

/-- The block that each window holds at a grid point. -/
theorem at_k : ∀ t : Fin cfg0.N, win0_0.index t = ![t.val / 8, t.val % 4] ∧ win0_1.index t = ![t.val % 4, 1, 0, t.val % 8 / 4] ∧ win0_2.index t = ![t.val / 8, t.val % 8 / 4] ∧ win0_3.index t = ![t.val / 8, t.val % 8 / 4] :=
  (by decide +kernel : ∀ t : Fin grid0.N, _)

/-- The scratch starts at zero. -/
theorem zero_at (i : S1024x1024.Idx) : k0_pay1 (F := Ideal) i = 0 := by
  pointwise [k0_pay1]

/-- A step adds its own product to the scratch. -/
theorem add_at (a : Vec Ideal S1024x1024 .f32) (x : Vec Ideal S1024x1024 .bf16) (w : Vec Ideal S1x1x1024x1024 .bf16) (i : S1024x1024.Idx) :
    k0_pay2 (F := Ideal) a x w i = a i + k0_pay2 (F := Ideal) (fun _ => (0 : EReal)) x w i := by
  pointwise [k0_pay2]

/-- At the end of a run the scratch is the sum of the run's four products. -/
theorem kept (m : (ℓ : Loc nD τ sig) → Buf (Elt Ideal) ℓ) (c : Dev nD) (t : Fin cfg0.N) (h : t.val % 4 = 4 - 1) (i : S1024x1024.Idx) :
    (outsAt0 m c t.val t.isLt).2 i = ∑ s : Fin 4, k0_pay2 (F := Ideal) (fun _ => (0 : EReal))
      (iblk m c 0 ⟨4 * (t.val / 4) + s.val, Pipeline.run_point_lt_of_flush t h s⟩)
      (iblk m c 1 ⟨4 * (t.val / 4) + s.val, Pipeline.run_point_lt_of_flush t h s⟩) i := by
  refine (Pipeline.eq_sum_fin_of_reset_step_apply_of_flush (fun n h => (outsAt0 m c n h).2) 4 (fun _ => (0 : EReal))
    (fun t => k0_pay2 (F := Ideal) (fun _ => (0 : EReal)) (iblk m c 0 t) (iblk m c 1 t))
    (fun t h j => ?_) (fun t h j => ?_) t h i).trans (zero_add _)
  · rw [outsAt0_A m c t h (by omega)]; dsimp only; frame_out; rw [add_at, zero_at]
  · by_cases h' : t.val % 4 = 3
    · rw [outsAt0_C m c t h h']; dsimp only; frame_out; rw [add_at, read_unread_whole]
    · rw [outsAt0_B m c t h h']; dsimp only; frame_out; rw [add_at, read_unread_whole]

/-- At the end of a run the block that is written back is the scratch plus the residual's block. -/
theorem stored (m : (ℓ : Loc nD τ sig) → Buf (Elt Ideal) ℓ) (c : Dev nD) (t : Fin cfg0.N) (h : t.val % 4 = 3) (i : S1024x1024.Idx) :
    (outsAt0 m c t.val t.isLt).1 i = (outsAt0 m c t.val t.isLt).2 i + iblk m c 2 t i := by
  rw [outsAt0_C m c t (by omega) h]; dsimp only; frame_out; pointwise [k0_pay3]

/-- The product out of the state-space layer, added to the residual. -/
theorem final (m : (ℓ : Loc nD τ sig) → Buf (Elt Ideal) ℓ) (c : Dev nD) : (dats m 0 c).arrAt 3 (cfgs 0).N
    = Cert.SsdOutRefIdeal.Read.val_main_v4 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have h := (flush0_3 t).mp hf
  blk_simp
  rw [after0_3, stored m c t h, kept m c t h]
  pointwise [k0_pay2, Cert.SsdOutRefIdeal.Read.val_main_v4, Cert.SsdOutRefIdeal.Read.val_main_v3, Cert.SsdOutRefIdeal.Read.val_main_v2, Cert.SsdOutRefIdeal.Read.val_main_v1, Cert.SsdOutRefIdeal.Read.val_main_v0]
  refine (add_comm (G := EReal) _ _).trans (congrArg₂ (fun a b : EReal => a + b) ?_ (Fin.sum_mul_add_congr fun s k hl => ?_))
  · blk_point [iblk, V, at_k t]
  · blk_point [iblk, V, at_k t, at_k ⟨_, Pipeline.run_point_lt_of_flush t h s⟩]

/-- The kernel runs, keeps its arguments and leaves every counter at zero. -/
theorem frame_kernel : Cert.quiescent_SsdOut := fun m ρ _ => Cert.SsdOut.Gen.frame m ρ

/-- So does the ideal kernel. -/
theorem frame_ideal : Cert.quiescent_SsdOutIdeal := fun m ρ _ => frame m ρ

/-- And the reference, which has no counter. -/
theorem frame_reference : Cert.quiescent_SsdOutRefIdeal := fun m ρ _ =>
  (θ_run Cert.SsdOutRefIdeal.defs _ _).mono (fun r h => ⟨fun c => (h c).2, sem_eq_zero_of_no_sems (by decide) r.2⟩)
    (Cert.SsdOutRefIdeal.Value.run (F := Ideal) m ρ)

/-- Kernel and reference agree over the extended reals. -/
theorem algebraic : Cert.algebraic_SsdOutIdeal_SsdOutRefIdeal := by
  intro m ρ m' ρ' _ hag
  refine ⟨_, Value.run_blocks (F := Ideal) m ρ, (θ_run Cert.SsdOutRefIdeal.defs _ _).mono (fun _ h c => ⟨(h c).1.trans ?_, (h c).2⟩)
    (Cert.SsdOutRefIdeal.Value.run (F := Ideal) m' ρ')⟩
  rw [(hag c).1, (hag c).2.1, (hag c).2.2]
  exact (final m c).symm

end Cert.SsdOutClaims

namespace Cert.SbOutClaims

open Idealize.ShloMosaic Idealize.ShloMosaic.TcCoe Idealize.SL.Sem
open Cert.SbOutIdeal Cert.SbOutIdeal.Gen

/-- The block that each window holds at a grid point. -/
theorem at_k : ∀ t : Fin cfg0.N, win0_0.index t = ![t.val / 8, t.val % 4] ∧ win0_1.index t = ![t.val % 4, 1, 0, t.val % 8 / 4] ∧ win0_2.index t = ![t.val / 8, t.val % 8 / 4] ∧ win0_3.index t = ![t.val / 8, t.val % 8 / 4] :=
  (by decide +kernel : ∀ t : Fin grid0.N, _)

/-- The scratch starts at zero. -/
theorem zero_at (i : S1024x1024.Idx) : k0_pay1 (F := Ideal) i = 0 := by
  pointwise [k0_pay1]

/-- A step adds its own product to the scratch. -/
theorem add_at (a : Vec Ideal S1024x1024 .f32) (x : Vec Ideal S1024x512 .bf16) (w : Vec Ideal S1x1x512x1024 .bf16) (i : S1024x1024.Idx) :
    k0_pay2 (F := Ideal) a x w i = a i + k0_pay2 (F := Ideal) (fun _ => (0 : EReal)) x w i := by
  pointwise [k0_pay2]

/-- At the end of a run the scratch is the sum of the run's four products. -/
theorem kept (m : (ℓ : Loc nD τ sig) → Buf (Elt Ideal) ℓ) (c : Dev nD) (t : Fin cfg0.N) (h : t.val % 4 = 4 - 1) (i : S1024x1024.Idx) :
    (outsAt0 m c t.val t.isLt).2 i = ∑ s : Fin 4, k0_pay2 (F := Ideal) (fun _ => (0 : EReal))
      (iblk m c 0 ⟨4 * (t.val / 4) + s.val, Pipeline.run_point_lt_of_flush t h s⟩)
      (iblk m c 1 ⟨4 * (t.val / 4) + s.val, Pipeline.run_point_lt_of_flush t h s⟩) i := by
  refine (Pipeline.eq_sum_fin_of_reset_step_apply_of_flush (fun n h => (outsAt0 m c n h).2) 4 (fun _ => (0 : EReal))
    (fun t => k0_pay2 (F := Ideal) (fun _ => (0 : EReal)) (iblk m c 0 t) (iblk m c 1 t))
    (fun t h j => ?_) (fun t h j => ?_) t h i).trans (zero_add _)
  · rw [outsAt0_A m c t h (by omega)]; dsimp only; frame_out; rw [add_at, zero_at]
  · by_cases h' : t.val % 4 = 3
    · rw [outsAt0_C m c t h h']; dsimp only; frame_out; rw [add_at, read_unread_whole]
    · rw [outsAt0_B m c t h h']; dsimp only; frame_out; rw [add_at, read_unread_whole]

/-- At the end of a run the block that is written back is the scratch plus the residual's block. -/
theorem stored (m : (ℓ : Loc nD τ sig) → Buf (Elt Ideal) ℓ) (c : Dev nD) (t : Fin cfg0.N) (h : t.val % 4 = 3) (i : S1024x1024.Idx) :
    (outsAt0 m c t.val t.isLt).1 i = (outsAt0 m c t.val t.isLt).2 i + iblk m c 2 t i := by
  rw [outsAt0_C m c t (by omega) h]; dsimp only; frame_out; pointwise [k0_pay3]

/-- The product out of the attention, added to the residual. -/
theorem final (m : (ℓ : Loc nD τ sig) → Buf (Elt Ideal) ℓ) (c : Dev nD) : (dats m 0 c).arrAt 3 (cfgs 0).N
    = Cert.SbOutRefIdeal.Read.val_main_v4 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have h := (flush0_3 t).mp hf
  blk_simp
  rw [after0_3, stored m c t h, kept m c t h]
  pointwise [k0_pay2, Cert.SbOutRefIdeal.Read.val_main_v4, Cert.SbOutRefIdeal.Read.val_main_v3, Cert.SbOutRefIdeal.Read.val_main_v2, Cert.SbOutRefIdeal.Read.val_main_v1, Cert.SbOutRefIdeal.Read.val_main_v0]
  refine (add_comm (G := EReal) _ _).trans (congrArg₂ (fun a b : EReal => a + b) ?_ (Fin.sum_mul_add_congr fun s k hl => ?_))
  · blk_point [iblk, V, at_k t]
  · blk_point [iblk, V, at_k t, at_k ⟨_, Pipeline.run_point_lt_of_flush t h s⟩]

/-- The kernel runs, keeps its arguments and leaves every counter at zero. -/
theorem frame_kernel : Cert.quiescent_SbOut := fun m ρ _ => Cert.SbOut.Gen.frame m ρ

/-- So does the ideal kernel. -/
theorem frame_ideal : Cert.quiescent_SbOutIdeal := fun m ρ _ => frame m ρ

/-- And the reference, which has no counter. -/
theorem frame_reference : Cert.quiescent_SbOutRefIdeal := fun m ρ _ =>
  (θ_run Cert.SbOutRefIdeal.defs _ _).mono (fun r h => ⟨fun c => (h c).2, sem_eq_zero_of_no_sems (by decide) r.2⟩)
    (Cert.SbOutRefIdeal.Value.run (F := Ideal) m ρ)

/-- Kernel and reference agree over the extended reals. -/
theorem algebraic : Cert.algebraic_SbOutIdeal_SbOutRefIdeal := by
  intro m ρ m' ρ' _ hag
  refine ⟨_, Value.run_blocks (F := Ideal) m ρ, (θ_run Cert.SbOutRefIdeal.defs _ _).mono (fun _ h c => ⟨(h c).1.trans ?_, (h c).2⟩)
    (Cert.SbOutRefIdeal.Value.run (F := Ideal) m' ρ')⟩
  rw [(hag c).1, (hag c).2.1, (hag c).2.2]
  exact (final m c).symm

end Cert.SbOutClaims

namespace Cert.PleGateClaims

open Idealize.ShloMosaic Idealize.ShloMosaic.TcCoe Idealize.SL.Sem
open Cert.PleGateIdeal Cert.PleGateIdeal.Gen

/-- The block that each window holds at a grid point. -/
theorem at_k : ∀ t : Fin cfg0.N, win0_0.index t = ![t.val / 8, t.val % 4] ∧ win0_1.index t = ![t.val % 4, 3, 0, t.val % 8 / 4] ∧ win0_2.index t = ![t.val / 8, t.val % 8 / 4] :=
  (by decide +kernel : ∀ t : Fin grid0.N, _)

/-- The scratch starts at zero. -/
theorem zero_at (i : S1024x1024.Idx) : k0_pay1 (F := Ideal) i = 0 := by
  pointwise [k0_pay1]

/-- A step adds its own product to the scratch. -/
theorem add_at (a : Vec Ideal S1024x1024 .f32) (x : Vec Ideal S1024x512 .bf16) (w : Vec Ideal S1x1x512x1024 .bf16) (i : S1024x1024.Idx) :
    k0_pay2 (F := Ideal) a x w i = a i + k0_pay2 (F := Ideal) (fun _ => (0 : EReal)) x w i := by
  pointwise [k0_pay2]

/-- At the end of a run the scratch is the sum of the run's four products. -/
theorem kept (m : (ℓ : Loc nD τ sig) → Buf (Elt Ideal) ℓ) (c : Dev nD) (t : Fin cfg0.N) (h : t.val % 4 = 4 - 1) (i : S1024x1024.Idx) :
    (outsAt0 m c t.val t.isLt).2 i = ∑ s : Fin 4, k0_pay2 (F := Ideal) (fun _ => (0 : EReal))
      (iblk m c 0 ⟨4 * (t.val / 4) + s.val, Pipeline.run_point_lt_of_flush t h s⟩)
      (iblk m c 1 ⟨4 * (t.val / 4) + s.val, Pipeline.run_point_lt_of_flush t h s⟩) i := by
  refine (Pipeline.eq_sum_fin_of_reset_step_apply_of_flush (fun n h => (outsAt0 m c n h).2) 4 (fun _ => (0 : EReal))
    (fun t => k0_pay2 (F := Ideal) (fun _ => (0 : EReal)) (iblk m c 0 t) (iblk m c 1 t))
    (fun t h j => ?_) (fun t h j => ?_) t h i).trans (zero_add _)
  · rw [outsAt0_A m c t h (by omega)]; dsimp only; frame_out; rw [add_at, zero_at]
  · by_cases h' : t.val % 4 = 3
    · rw [outsAt0_C m c t h h']; dsimp only; frame_out; rw [add_at, read_unread_whole]
    · rw [outsAt0_B m c t h h']; dsimp only; frame_out; rw [add_at, read_unread_whole]

/-- At the end of a run the block that is written back is the scratch. -/
theorem stored (m : (ℓ : Loc nD τ sig) → Buf (Elt Ideal) ℓ) (c : Dev nD) (t : Fin cfg0.N) (h : t.val % 4 = 3) (i : S1024x1024.Idx) :
    (outsAt0 m c t.val t.isLt).1 i = (outsAt0 m c t.val t.isLt).2 i := by
  rw [outsAt0_C m c t (by omega) h]; dsimp only; frame_out

/-- The gate's product. -/
theorem final (m : (ℓ : Loc nD τ sig) → Buf (Elt Ideal) ℓ) (c : Dev nD) : (dats m 0 c).arrAt 2 (cfgs 0).N
    = Cert.PleGateRefIdeal.Read.val_main_v3 (F := Ideal) (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, stored m c t h, kept m c t h]
  pointwise [k0_pay2, Cert.PleGateRefIdeal.Read.val_main_v3, Cert.PleGateRefIdeal.Read.val_main_v2, Cert.PleGateRefIdeal.Read.val_main_v1, Cert.PleGateRefIdeal.Read.val_main_v0]
  refine Fin.sum_mul_add_congr fun s k hl => ?_
  blk_point [iblk, V, at_k t, at_k ⟨_, Pipeline.run_point_lt_of_flush t h s⟩]

/-- The kernel runs, keeps its arguments and leaves every counter at zero. -/
theorem frame_kernel : Cert.quiescent_PleGate := fun m ρ _ => Cert.PleGate.Gen.frame m ρ

/-- So does the ideal kernel. -/
theorem frame_ideal : Cert.quiescent_PleGateIdeal := fun m ρ _ => frame m ρ

/-- And the reference, which has no counter. -/
theorem frame_reference : Cert.quiescent_PleGateRefIdeal := fun m ρ _ =>
  (θ_run Cert.PleGateRefIdeal.defs _ _).mono (fun r h => ⟨fun c => (h c).2, sem_eq_zero_of_no_sems (by decide) r.2⟩)
    (Cert.PleGateRefIdeal.Value.run (F := Ideal) m ρ)

/-- Kernel and reference agree over the extended reals. -/
theorem algebraic : Cert.algebraic_PleGateIdeal_PleGateRefIdeal := by
  intro m ρ m' ρ' _ hag
  refine ⟨_, Value.run_blocks (F := Ideal) m ρ, (θ_run Cert.PleGateRefIdeal.defs _ _).mono (fun _ h c => ⟨(h c).1.trans ?_, (h c).2⟩)
    (Cert.PleGateRefIdeal.Value.run (F := Ideal) m' ρ')⟩
  rw [(hag c).1, (hag c).2]
  exact (final m c).symm

end Cert.PleGateClaims

end
-- ==== Proof.SsdInClaims.lean ====
module

public import proofs.«01_k».proof.Defs
public import proofs.«01_k».proof.Proof.Gen.SsdIn.Frame
public import proofs.«01_k».proof.Proof.Gen.SsdInIdeal.Value
public import proofs.«01_k».proof.Proof.Gen.SsdInRefIdeal.Run
public import proofs.«01_k».proof.Proof.Gen.SsdInRefIdeal.Read
public import Idealize.ShloMosaic.Lib.Pipeline.ValueKit
public import Idealize.ShloMosaic.Adequacy
public import Idealize.ShloMosaic.Init

@[expose] public section

set_option maxRecDepth 16384

noncomputable section

/-! The product into the state-space layer, whose weights are read in blocks that do not divide them. -/

namespace Cert.SsdInClaims

open Idealize.ShloMosaic Idealize.ShloMosaic.TcCoe Idealize.SL.Sem
open Cert.SsdInIdeal Cert.SsdInIdeal.Gen

/-- The block that each window holds at a grid point. -/
theorem at_k : ∀ t : Fin cfg0.N, win0_0.index t = ![t.val / 10, 0] ∧ win0_1.index t = ![1, t.val % 10, 0] ∧ win0_2.index t = ![t.val / 10, t.val % 10] :=
  (by decide +kernel : ∀ t : Fin grid0.N, _)

/-- The place in the weights of an entry of the block at a grid point. -/
abbrev place (t : Fin cfg0.N) (j : S1x1024x2048.Idx) : S2x2048x10304.Idx := fun a => match a with
  | ⟨0, _⟩ => ⟨1, by show 1 < 2; decide⟩
  | ⟨1, _⟩ => ⟨(j 2).val, (j 2).isLt⟩
  | ⟨2, _⟩ => ⟨t.val % 10 * 1024 + (j 1).val, by have h : (j 1).val < 1024 := (j 1).isLt; show t.val % 10 * 1024 + (j 1).val < 10304; omega⟩

/-- The weights' block at a grid point, entry by entry: the blocks do not divide the array, but none reaches its edge. -/
theorem weights_at (m : (ℓ : Loc nD τ sig) → Buf (Elt Ideal) ℓ) (c : Dev nD) (t : Fin cfg0.N) (j : S1x1024x2048.Idx) :
    X0_1 m c t j = m ((c : Thread nD τ).loc main_arg1) (place t j) := by
  unfold X0_1 Pipeline.Window.fill
  rw [dif_pos (moved0_1 t j)]
  blk_point [iblk, V, at_k t]

/-- The product into the state-space layer, with transposed weights. -/
theorem final (m : (ℓ : Loc nD τ sig) → Buf (Elt Ideal) ℓ) (c : Dev nD) : (dats m 0 c).arrAt 2 (cfgs 0).N
    = Cert.SsdInRefIdeal.Read.val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  rw [show X0_1 m c t = fun j => m ((c : Thread nD τ).loc main_arg1) (place t j) from funext (weights_at m c t)]
  pointwise [k0_pay1, Cert.SsdInRefIdeal.Read.val_main_v4, Cert.SsdInRefIdeal.Read.val_main_v3, Cert.SsdInRefIdeal.Read.val_main_v2, Cert.SsdInRefIdeal.Read.val_main_v1, Cert.SsdInRefIdeal.Read.val_main_v0]
  blk_point [iblk, V, at_k t]

/-- The kernel runs, keeps its arguments and leaves every counter at zero. -/
theorem frame_kernel : Cert.quiescent_SsdIn := fun m ρ _ => Cert.SsdIn.Gen.frame m ρ

/-- So does the ideal kernel. -/
theorem frame_ideal : Cert.quiescent_SsdInIdeal := fun m ρ _ => frame m ρ

/-- And the reference, which has no counter. -/
theorem frame_reference : Cert.quiescent_SsdInRefIdeal := fun m ρ _ =>
  (θ_run Cert.SsdInRefIdeal.defs _ _).mono (fun r h => ⟨fun c => (h c).2, sem_eq_zero_of_no_sems (by decide) r.2⟩)
    (Cert.SsdInRefIdeal.Value.run (F := Ideal) m ρ)

/-- Kernel and reference agree over the extended reals. -/
theorem algebraic : Cert.algebraic_SsdInIdeal_SsdInRefIdeal := by
  intro m ρ m' ρ' _ hag
  refine ⟨_, Value.run_blocks (F := Ideal) m ρ, (θ_run Cert.SsdInRefIdeal.defs _ _).mono (fun _ h c => ⟨(h c).1.trans ?_, (h c).2⟩)
    (Cert.SsdInRefIdeal.Value.run (F := Ideal) m' ρ')⟩
  rw [(hag c).1, (hag c).2]
  exact (final m c).symm

end Cert.SsdInClaims

end
-- ==== Proof.SsdInBwdClaims.lean ====
module

public import proofs.«01_k».proof.Defs
public import proofs.«01_k».proof.Proof.Gen.SsdInBwd.Frame
public import proofs.«01_k».proof.Proof.Gen.SsdInBwdIdeal.Value
public import proofs.«01_k».proof.Proof.Gen.SsdInBwdRefIdeal.Run
public import proofs.«01_k».proof.Proof.Gen.SsdInBwdRefIdeal.Read
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

/-! The gradient through the product into the state-space layer: five blocks of the contraction, and blocks of weights that do not divide them. -/

namespace Cert.SsdInBwdClaims

open Idealize.ShloMosaic Idealize.ShloMosaic.TcCoe Idealize.SL.Sem
open Cert.SsdInBwdIdeal Cert.SsdInBwdIdeal.Gen

/-- The block that each window holds at a grid point. -/
theorem at_k : ∀ t : Fin cfg0.N, win0_0.index t = ![t.val / 10, t.val % 5] ∧ win0_1.index t = ![1, t.val % 5, t.val % 10 / 5] ∧ win0_2.index t = ![t.val / 10, t.val % 10 / 5] :=
  (by decide +kernel : ∀ t : Fin grid0.N, _)

/-- The place in the weights of an entry of the block at a grid point. -/
abbrev place (t : Fin cfg0.N) (j : S1x2048x1024.Idx) : S2x2048x10304.Idx := fun a => match a with
  | ⟨0, _⟩ => ⟨1, by show 1 < 2; decide⟩
  | ⟨1, _⟩ => ⟨t.val % 10 / 5 * 1024 + (j 2).val, by have h : (j 2).val < 1024 := (j 2).isLt; show t.val % 10 / 5 * 1024 + (j 2).val < 2048; omega⟩
  | ⟨2, _⟩ => ⟨t.val % 5 * 2048 + (j 1).val, by have h : (j 1).val < 2048 := (j 1).isLt; show t.val % 5 * 2048 + (j 1).val < 10304; omega⟩

/-- The weights' block at a grid point, entry by entry: the blocks do not divide the array, but none reaches its edge. -/
theorem weights_at (m : (ℓ : Loc nD τ sig) → Buf (Elt Ideal) ℓ) (c : Dev nD) (t : Fin cfg0.N) (j : S1x2048x1024.Idx) :
    X0_1 m c t j = m ((c : Thread nD τ).loc main_arg1) (place t j) := by
  unfold X0_1 Pipeline.Window.fill
  rw [dif_pos (moved0_1 t j)]
  blk_point [iblk, V, at_k t]

/-- The scratch starts at zero. -/
theorem zero_at (i : S1024x1024.Idx) : k0_pay1 (F := Ideal) i = 0 := by
  pointwise [k0_pay1]

/-- A step adds its own product to the scratch. -/
theorem add_at (a : Vec Ideal S1024x1024 .f32) (x : Vec Ideal S1024x2048 .bf16) (w : Vec Ideal S1x2048x1024 .bf16) (i : S1024x1024.Idx) :
    k0_pay2 (F := Ideal) a x w i = a i + k0_pay2 (F := Ideal) (fun _ => (0 : EReal)) x w i := by
  pointwise [k0_pay2]

/-- At the end of a run the scratch is the sum of the run's five products. -/
theorem kept (m : (ℓ : Loc nD τ sig) → Buf (Elt Ideal) ℓ) (c : Dev nD) (t : Fin cfg0.N) (h : t.val % 5 = 5 - 1) (i : S1024x1024.Idx) :
    (outsAt0 m c t.val t.isLt).2 i = ∑ s : Fin 5, k0_pay2 (F := Ideal) (fun _ => (0 : EReal))
      (iblk m c 0 ⟨5 * (t.val / 5) + s.val, Pipeline.run_point_lt_of_flush t h s⟩)
      (fun j => m ((c : Thread nD τ).loc main_arg1) (place ⟨5 * (t.val / 5) + s.val, Pipeline.run_point_lt_of_flush t h s⟩ j)) i := by
  refine (Pipeline.eq_sum_fin_of_reset_step_apply_of_flush (fun n h => (outsAt0 m c n h).2) 5 (fun _ => (0 : EReal))
    (fun t => k0_pay2 (F := Ideal) (fun _ => (0 : EReal)) (iblk m c 0 t) (fun j => m ((c : Thread nD τ).loc main_arg1) (place t j)))
    (fun t h j => ?_) (fun t h j => ?_) t h i).trans (zero_add _)
  · have e : X0_1 m c t = fun j => m ((c : Thread nD τ).loc main_arg1) (place t j) := funext (weights_at m c t)
    rw [outsAt0_A m c t h (by omega)]; dsimp only; frame_out; rw [add_at, zero_at, e]
  · have e : X0_1 m c t = fun j => m ((c : Thread nD τ).loc main_arg1) (place t j) := funext (weights_at m c t)
    by_cases h' : t.val % 5 = 4
    · rw [outsAt0_C m c t h h']; dsimp only; frame_out; rw [add_at, read_unread_whole, e]
    · rw [outsAt0_B m c t h h']; dsimp only; frame_out; rw [add_at, read_unread_whole, e]

/-- At the end of a run the block that is written back is the scratch. -/
theorem stored (m : (ℓ : Loc nD τ sig) → Buf (Elt Ideal) ℓ) (c : Dev nD) (t : Fin cfg0.N) (h : t.val % 5 = 4) (i : S1024x1024.Idx) :
    (outsAt0 m c t.val t.isLt).1 i = (outsAt0 m c t.val t.isLt).2 i := by
  rw [outsAt0_C m c t (by omega) h]; dsimp only; frame_out

/-- The gradient of what the product into the state-space layer takes. -/
theorem final (m : (ℓ : Loc nD τ sig) → Buf (Elt Ideal) ℓ) (c : Dev nD) : (dats m 0 c).arrAt 2 (cfgs 0).N
    = Cert.SsdInBwdRefIdeal.Read.val_main_v6 (F := Ideal) (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, stored m c t h, kept m c t h]
  pointwise [k0_pay2, Cert.SsdInBwdRefIdeal.Read.val_main_v6, Cert.SsdInBwdRefIdeal.Read.val_main_v5, Cert.SsdInBwdRefIdeal.Read.val_main_v2, Cert.SsdInBwdRefIdeal.Read.val_main_v1, Cert.SsdInBwdRefIdeal.Read.val_main_v0]
  refine Fin.sum_mul_add_congr fun s k hl => ?_
  blk_point [iblk, V, at_k t, at_k ⟨_, Pipeline.run_point_lt_of_flush t h s⟩]

/-- The kernel runs, keeps its arguments and leaves every counter at zero. -/
theorem frame_kernel : Cert.quiescent_SsdInBwd := fun m ρ _ => Cert.SsdInBwd.Gen.frame m ρ

/-- So does the ideal kernel. -/
theorem frame_ideal : Cert.quiescent_SsdInBwdIdeal := fun m ρ _ => frame m ρ

/-- And the reference, which has no counter. -/
theorem frame_reference : Cert.quiescent_SsdInBwdRefIdeal := fun m ρ _ =>
  (θ_run Cert.SsdInBwdRefIdeal.defs _ _).mono (fun r h => ⟨fun c => (h c).2, sem_eq_zero_of_no_sems (by decide) r.2⟩)
    (Cert.SsdInBwdRefIdeal.Value.run (F := Ideal) m ρ)

/-- Kernel and reference agree over the extended reals. -/
theorem algebraic : Cert.algebraic_SsdInBwdIdeal_SsdInBwdRefIdeal := by
  intro m ρ m' ρ' _ hag
  refine ⟨_, Value.run_blocks (F := Ideal) m ρ, (θ_run Cert.SsdInBwdRefIdeal.defs _ _).mono (fun _ h c => ⟨(h c).1.trans ?_, (h c).2⟩)
    (Cert.SsdInBwdRefIdeal.Value.run (F := Ideal) m' ρ')⟩
  rw [(hag c).1, (hag c).2]
  exact (final m c).symm

end Cert.SsdInBwdClaims

end
-- ==== Proof.AdamClaims.lean ====
module

public import proofs.«01_k».proof.Defs
public import proofs.«01_k».proof.Proof.Gen.AdamSsdIn.Frame
public import proofs.«01_k».proof.Proof.Gen.AdamSsdInIdeal.Value
public import proofs.«01_k».proof.Proof.Gen.AdamSsdInRefIdeal.Run
public import proofs.«01_k».proof.Proof.Gen.AdamSsdOut.Frame
public import proofs.«01_k».proof.Proof.Gen.AdamSsdOutIdeal.Value
public import proofs.«01_k».proof.Proof.Gen.AdamSsdOutRefIdeal.Run
public import proofs.«01_k».proof.Proof.Gen.AdamSbIn.Frame
public import proofs.«01_k».proof.Proof.Gen.AdamSbInIdeal.Value
public import proofs.«01_k».proof.Proof.Gen.AdamSbInRefIdeal.Run
public import proofs.«01_k».proof.Proof.Gen.AdamSbOut.Frame
public import proofs.«01_k».proof.Proof.Gen.AdamSbOutIdeal.Value
public import proofs.«01_k».proof.Proof.Gen.AdamSbOutRefIdeal.Run
public import proofs.«01_k».proof.Proof.Gen.AdamPleGate.Frame
public import proofs.«01_k».proof.Proof.Gen.AdamPleGateIdeal.Value
public import proofs.«01_k».proof.Proof.Gen.AdamPleGateRefIdeal.Run
public import proofs.«01_k».proof.Proof.Gen.AdamPleProj.Frame
public import proofs.«01_k».proof.Proof.Gen.AdamPleProjIdeal.Value
public import proofs.«01_k».proof.Proof.Gen.AdamPleProjRefIdeal.Run
public import Idealize.ShloMosaic.Lib.Pipeline.ValueKit
public import Idealize.ShloMosaic.Adequacy
public import Idealize.ShloMosaic.Init

@[expose] public section

set_option maxRecDepth 16384

noncomputable section

/-! The optimiser: the step and the two new moments of a shard of the weights, elementwise. -/

namespace Cert.AdamSsdInClaims

/-! The weights into the state-space layer, transposed. -/

open Idealize.ShloMosaic Idealize.ShloMosaic.TcCoe Idealize.SL.Sem
open Cert.AdamSsdInIdeal Cert.AdamSsdInIdeal.Gen

/-- All seven windows hold the same block at a grid point. -/
theorem at_k : ∀ t : Fin cfg0.N, win0_0.index t = ![t.val / 23, t.val % 23, 0] ∧ win0_1.index t = ![t.val / 23, t.val % 23, 0] ∧ win0_2.index t = ![t.val / 23, t.val % 23, 0] ∧ win0_3.index t = ![t.val / 23, t.val % 23, 0] ∧ win0_4.index t = ![t.val / 23, t.val % 23, 0] ∧ win0_5.index t = ![t.val / 23, t.val % 23, 0] ∧ win0_6.index t = ![t.val / 23, t.val % 23, 0] :=
  (by decide +kernel : ∀ t : Fin grid0.N, _)

/-- The kernel runs, keeps its arguments and leaves every counter at zero. -/
theorem frame_kernel : Cert.quiescent_AdamSsdIn := fun m ρ _ => Cert.AdamSsdIn.Gen.frame m ρ

/-- So does the ideal kernel. -/
theorem frame_ideal : Cert.quiescent_AdamSsdInIdeal := fun m ρ _ => frame m ρ

/-- And the reference, which has no counter. -/
theorem frame_reference : Cert.quiescent_AdamSsdInRefIdeal := fun m ρ _ =>
  (θ_run Cert.AdamSsdInRefIdeal.defs _ _).mono (fun r h => ⟨fun c => (h c).2.2.2, sem_eq_zero_of_no_sems (by decide) r.2⟩)
    (Cert.AdamSsdInRefIdeal.Value.run (F := Ideal) m ρ)

set_option maxHeartbeats 1600000 in
/-- Kernel and reference agree over the extended reals in all three results: each block is the same expression of the same places. -/
theorem algebraic : Cert.algebraic_AdamSsdInIdeal_AdamSsdInRefIdeal := by
  intro m ρ m' ρ' _ hag
  refine ⟨_, _, _, Value.run_blocks (F := Ideal) m ρ, (θ_run Cert.AdamSsdInRefIdeal.defs _ _).mono
    (fun _ h c => ⟨(h c).1.trans ?_, (h c).2.1.trans ?_, (h c).2.2.1.trans ?_, (h c).2.2.2⟩)
    (Cert.AdamSsdInRefIdeal.Value.run (F := Ideal) m' ρ')⟩
  · rw [(hag c).1, (hag c).2.1, (hag c).2.2.1, (hag c).2.2.2]
    refine ((dats m 0 c).arrAt_eq_of_covers 4 _ (by decide +kernel) fun t _ y => ?_).symm
    blk_simp; rw [after0_4]; frame_out
    pointwise [k0_pay1, k0_pay2, k0_pay3, k0_pay4, k0_pay5, k0_pay6, k0_pay7]; blk_point [iblk, V, at_k t]
  · rw [(hag c).2.1, (hag c).2.2.1]
    refine ((dats m 0 c).arrAt_eq_of_covers 5 _ (by decide +kernel) fun t _ y => ?_).symm
    blk_simp; rw [after0_5]; frame_out
    pointwise [k0_pay1, k0_pay2, k0_pay3, k0_pay4, k0_pay5, k0_pay6, k0_pay7]; blk_point [iblk, V, at_k t]
  · rw [(hag c).2.1, (hag c).2.2.2]
    refine ((dats m 0 c).arrAt_eq_of_covers 6 _ (by decide +kernel) fun t _ y => ?_).symm
    blk_simp; rw [after0_6]; frame_out
    pointwise [k0_pay1, k0_pay2, k0_pay3, k0_pay4, k0_pay5, k0_pay6, k0_pay7]; blk_point [iblk, V, at_k t]

end Cert.AdamSsdInClaims

namespace Cert.AdamSsdOutClaims

/-! The weights out of the state-space layer. -/

open Idealize.ShloMosaic Idealize.ShloMosaic.TcCoe Idealize.SL.Sem
open Cert.AdamSsdOutIdeal Cert.AdamSsdOutIdeal.Gen

/-- All seven windows hold the same block at a grid point. -/
theorem at_k : ∀ t : Fin cfg0.N, win0_0.index t = ![t.val / 4, t.val % 4, 0] ∧ win0_1.index t = ![t.val / 4, t.val % 4, 0] ∧ win0_2.index t = ![t.val / 4, t.val % 4, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0] :=
  (by decide +kernel : ∀ t : Fin grid0.N, _)

/-- The kernel runs, keeps its arguments and leaves every counter at zero. -/
theorem frame_kernel : Cert.quiescent_AdamSsdOut := fun m ρ _ => Cert.AdamSsdOut.Gen.frame m ρ

/-- So does the ideal kernel. -/
theorem frame_ideal : Cert.quiescent_AdamSsdOutIdeal := fun m ρ _ => frame m ρ

/-- And the reference, which has no counter. -/
theorem frame_reference : Cert.quiescent_AdamSsdOutRefIdeal := fun m ρ _ =>
  (θ_run Cert.AdamSsdOutRefIdeal.defs _ _).mono (fun r h => ⟨fun c => (h c).2.2.2, sem_eq_zero_of_no_sems (by decide) r.2⟩)
    (Cert.AdamSsdOutRefIdeal.Value.run (F := Ideal) m ρ)

set_option maxHeartbeats 1600000 in
/-- Kernel and reference agree over the extended reals in all three results: each block is the same expression of the same places. -/
theorem algebraic : Cert.algebraic_AdamSsdOutIdeal_AdamSsdOutRefIdeal := by
  intro m ρ m' ρ' _ hag
  refine ⟨_, _, _, Value.run_blocks (F := Ideal) m ρ, (θ_run Cert.AdamSsdOutRefIdeal.defs _ _).mono
    (fun _ h c => ⟨(h c).1.trans ?_, (h c).2.1.trans ?_, (h c).2.2.1.trans ?_, (h c).2.2.2⟩)
    (Cert.AdamSsdOutRefIdeal.Value.run (F := Ideal) m' ρ')⟩
  · rw [(hag c).1, (hag c).2.1, (hag c).2.2.1, (hag c).2.2.2]
    refine ((dats m 0 c).arrAt_eq_of_covers 4 _ (by decide +kernel) fun t _ y => ?_).symm
    blk_simp; rw [after0_4]; frame_out
    pointwise [k0_pay1, k0_pay2, k0_pay3, k0_pay4, k0_pay5, k0_pay6, k0_pay7]; blk_point [iblk, V, at_k t]
  · rw [(hag c).2.1, (hag c).2.2.1]
    refine ((dats m 0 c).arrAt_eq_of_covers 5 _ (by decide +kernel) fun t _ y => ?_).symm
    blk_simp; rw [after0_5]; frame_out
    pointwise [k0_pay1, k0_pay2, k0_pay3, k0_pay4, k0_pay5, k0_pay6, k0_pay7]; blk_point [iblk, V, at_k t]
  · rw [(hag c).2.1, (hag c).2.2.2]
    refine ((dats m 0 c).arrAt_eq_of_covers 6 _ (by decide +kernel) fun t _ y => ?_).symm
    blk_simp; rw [after0_6]; frame_out
    pointwise [k0_pay1, k0_pay2, k0_pay3, k0_pay4, k0_pay5, k0_pay6, k0_pay7]; blk_point [iblk, V, at_k t]

end Cert.AdamSsdOutClaims

namespace Cert.AdamSbInClaims

/-! The weights into the attention. -/

open Idealize.ShloMosaic Idealize.ShloMosaic.TcCoe Idealize.SL.Sem
open Cert.AdamSbInIdeal Cert.AdamSbInIdeal.Gen

/-- All seven windows hold the same block at a grid point. -/
theorem at_k : ∀ t : Fin cfg0.N, win0_0.index t = ![t.val / 8, t.val % 8, 0] ∧ win0_1.index t = ![t.val / 8, t.val % 8, 0] ∧ win0_2.index t = ![t.val / 8, t.val % 8, 0] ∧ win0_3.index t = ![t.val / 8, t.val % 8, 0] ∧ win0_4.index t = ![t.val / 8, t.val % 8, 0] ∧ win0_5.index t = ![t.val / 8, t.val % 8, 0] ∧ win0_6.index t = ![t.val / 8, t.val % 8, 0] :=
  (by decide +kernel : ∀ t : Fin grid0.N, _)

/-- The kernel runs, keeps its arguments and leaves every counter at zero. -/
theorem frame_kernel : Cert.quiescent_AdamSbIn := fun m ρ _ => Cert.AdamSbIn.Gen.frame m ρ

/-- So does the ideal kernel. -/
theorem frame_ideal : Cert.quiescent_AdamSbInIdeal := fun m ρ _ => frame m ρ

/-- And the reference, which has no counter. -/
theorem frame_reference : Cert.quiescent_AdamSbInRefIdeal := fun m ρ _ =>
  (θ_run Cert.AdamSbInRefIdeal.defs _ _).mono (fun r h => ⟨fun c => (h c).2.2.2, sem_eq_zero_of_no_sems (by decide) r.2⟩)
    (Cert.AdamSbInRefIdeal.Value.run (F := Ideal) m ρ)

set_option maxHeartbeats 1600000 in
/-- Kernel and reference agree over the extended reals in all three results: each block is the same expression of the same places. -/
theorem algebraic : Cert.algebraic_AdamSbInIdeal_AdamSbInRefIdeal := by
  intro m ρ m' ρ' _ hag
  refine ⟨_, _, _, Value.run_blocks (F := Ideal) m ρ, (θ_run Cert.AdamSbInRefIdeal.defs _ _).mono
    (fun _ h c => ⟨(h c).1.trans ?_, (h c).2.1.trans ?_, (h c).2.2.1.trans ?_, (h c).2.2.2⟩)
    (Cert.AdamSbInRefIdeal.Value.run (F := Ideal) m' ρ')⟩
  · rw [(hag c).1, (hag c).2.1, (hag c).2.2.1, (hag c).2.2.2]
    refine ((dats m 0 c).arrAt_eq_of_covers 4 _ (by decide +kernel) fun t _ y => ?_).symm
    blk_simp; rw [after0_4]; frame_out
    pointwise [k0_pay1, k0_pay2, k0_pay3, k0_pay4, k0_pay5, k0_pay6, k0_pay7]; blk_point [iblk, V, at_k t]
  · rw [(hag c).2.1, (hag c).2.2.1]
    refine ((dats m 0 c).arrAt_eq_of_covers 5 _ (by decide +kernel) fun t _ y => ?_).symm
    blk_simp; rw [after0_5]; frame_out
    pointwise [k0_pay1, k0_pay2, k0_pay3, k0_pay4, k0_pay5, k0_pay6, k0_pay7]; blk_point [iblk, V, at_k t]
  · rw [(hag c).2.1, (hag c).2.2.2]
    refine ((dats m 0 c).arrAt_eq_of_covers 6 _ (by decide +kernel) fun t _ y => ?_).symm
    blk_simp; rw [after0_6]; frame_out
    pointwise [k0_pay1, k0_pay2, k0_pay3, k0_pay4, k0_pay5, k0_pay6, k0_pay7]; blk_point [iblk, V, at_k t]

end Cert.AdamSbInClaims

namespace Cert.AdamSbOutClaims

/-! The weights out of the attention. -/

open Idealize.ShloMosaic Idealize.ShloMosaic.TcCoe Idealize.SL.Sem
open Cert.AdamSbOutIdeal Cert.AdamSbOutIdeal.Gen

/-- All seven windows hold the same block at a grid point. -/
theorem at_k : ∀ t : Fin cfg0.N, win0_0.index t = ![t.val / 2, t.val % 2, 0] ∧ win0_1.index t = ![t.val / 2, t.val % 2, 0] ∧ win0_2.index t = ![t.val / 2, t.val % 2, 0] ∧ win0_3.index t = ![t.val / 2, t.val % 2, 0] ∧ win0_4.index t = ![t.val / 2, t.val % 2, 0] ∧ win0_5.index t = ![t.val / 2, t.val % 2, 0] ∧ win0_6.index t = ![t.val / 2, t.val % 2, 0] :=
  (by decide +kernel : ∀ t : Fin grid0.N, _)

/-- The kernel runs, keeps its arguments and leaves every counter at zero. -/
theorem frame_kernel : Cert.quiescent_AdamSbOut := fun m ρ _ => Cert.AdamSbOut.Gen.frame m ρ

/-- So does the ideal kernel. -/
theorem frame_ideal : Cert.quiescent_AdamSbOutIdeal := fun m ρ _ => frame m ρ

/-- And the reference, which has no counter. -/
theorem frame_reference : Cert.quiescent_AdamSbOutRefIdeal := fun m ρ _ =>
  (θ_run Cert.AdamSbOutRefIdeal.defs _ _).mono (fun r h => ⟨fun c => (h c).2.2.2, sem_eq_zero_of_no_sems (by decide) r.2⟩)
    (Cert.AdamSbOutRefIdeal.Value.run (F := Ideal) m ρ)

set_option maxHeartbeats 1600000 in
/-- Kernel and reference agree over the extended reals in all three results: each block is the same expression of the same places. -/
theorem algebraic : Cert.algebraic_AdamSbOutIdeal_AdamSbOutRefIdeal := by
  intro m ρ m' ρ' _ hag
  refine ⟨_, _, _, Value.run_blocks (F := Ideal) m ρ, (θ_run Cert.AdamSbOutRefIdeal.defs _ _).mono
    (fun _ h c => ⟨(h c).1.trans ?_, (h c).2.1.trans ?_, (h c).2.2.1.trans ?_, (h c).2.2.2⟩)
    (Cert.AdamSbOutRefIdeal.Value.run (F := Ideal) m' ρ')⟩
  · rw [(hag c).1, (hag c).2.1, (hag c).2.2.1, (hag c).2.2.2]
    refine ((dats m 0 c).arrAt_eq_of_covers 4 _ (by decide +kernel) fun t _ y => ?_).symm
    blk_simp; rw [after0_4]; frame_out
    pointwise [k0_pay1, k0_pay2, k0_pay3, k0_pay4, k0_pay5, k0_pay6, k0_pay7]; blk_point [iblk, V, at_k t]
  · rw [(hag c).2.1, (hag c).2.2.1]
    refine ((dats m 0 c).arrAt_eq_of_covers 5 _ (by decide +kernel) fun t _ y => ?_).symm
    blk_simp; rw [after0_5]; frame_out
    pointwise [k0_pay1, k0_pay2, k0_pay3, k0_pay4, k0_pay5, k0_pay6, k0_pay7]; blk_point [iblk, V, at_k t]
  · rw [(hag c).2.1, (hag c).2.2.2]
    refine ((dats m 0 c).arrAt_eq_of_covers 6 _ (by decide +kernel) fun t _ y => ?_).symm
    blk_simp; rw [after0_6]; frame_out
    pointwise [k0_pay1, k0_pay2, k0_pay3, k0_pay4, k0_pay5, k0_pay6, k0_pay7]; blk_point [iblk, V, at_k t]

end Cert.AdamSbOutClaims

namespace Cert.AdamPleGateClaims

/-! The weights of the layer embedding's gate. -/

open Idealize.ShloMosaic Idealize.ShloMosaic.TcCoe Idealize.SL.Sem
open Cert.AdamPleGateIdeal Cert.AdamPleGateIdeal.Gen

/-- All seven windows hold the same block at a grid point. -/
theorem at_k : ∀ t : Fin cfg0.N, win0_0.index t = ![t.val / 2, t.val % 2, 0] ∧ win0_1.index t = ![t.val / 2, t.val % 2, 0] ∧ win0_2.index t = ![t.val / 2, t.val % 2, 0] ∧ win0_3.index t = ![t.val / 2, t.val % 2, 0] ∧ win0_4.index t = ![t.val / 2, t.val % 2, 0] ∧ win0_5.index t = ![t.val / 2, t.val % 2, 0] ∧ win0_6.index t = ![t.val / 2, t.val % 2, 0] :=
  (by decide +kernel : ∀ t : Fin grid0.N, _)

/-- The kernel runs, keeps its arguments and leaves every counter at zero. -/
theorem frame_kernel : Cert.quiescent_AdamPleGate := fun m ρ _ => Cert.AdamPleGate.Gen.frame m ρ

/-- So does the ideal kernel. -/
theorem frame_ideal : Cert.quiescent_AdamPleGateIdeal := fun m ρ _ => frame m ρ

/-- And the reference, which has no counter. -/
theorem frame_reference : Cert.quiescent_AdamPleGateRefIdeal := fun m ρ _ =>
  (θ_run Cert.AdamPleGateRefIdeal.defs _ _).mono (fun r h => ⟨fun c => (h c).2.2.2, sem_eq_zero_of_no_sems (by decide) r.2⟩)
    (Cert.AdamPleGateRefIdeal.Value.run (F := Ideal) m ρ)

set_option maxHeartbeats 1600000 in
/-- Kernel and reference agree over the extended reals in all three results: each block is the same expression of the same places. -/
theorem algebraic : Cert.algebraic_AdamPleGateIdeal_AdamPleGateRefIdeal := by
  intro m ρ m' ρ' _ hag
  refine ⟨_, _, _, Value.run_blocks (F := Ideal) m ρ, (θ_run Cert.AdamPleGateRefIdeal.defs _ _).mono
    (fun _ h c => ⟨(h c).1.trans ?_, (h c).2.1.trans ?_, (h c).2.2.1.trans ?_, (h c).2.2.2⟩)
    (Cert.AdamPleGateRefIdeal.Value.run (F := Ideal) m' ρ')⟩
  · rw [(hag c).1, (hag c).2.1, (hag c).2.2.1, (hag c).2.2.2]
    refine ((dats m 0 c).arrAt_eq_of_covers 4 _ (by decide +kernel) fun t _ y => ?_).symm
    blk_simp; rw [after0_4]; frame_out
    pointwise [k0_pay1, k0_pay2, k0_pay3, k0_pay4, k0_pay5, k0_pay6, k0_pay7]; blk_point [iblk, V, at_k t]
  · rw [(hag c).2.1, (hag c).2.2.1]
    refine ((dats m 0 c).arrAt_eq_of_covers 5 _ (by decide +kernel) fun t _ y => ?_).symm
    blk_simp; rw [after0_5]; frame_out
    pointwise [k0_pay1, k0_pay2, k0_pay3, k0_pay4, k0_pay5, k0_pay6, k0_pay7]; blk_point [iblk, V, at_k t]
  · rw [(hag c).2.1, (hag c).2.2.2]
    refine ((dats m 0 c).arrAt_eq_of_covers 6 _ (by decide +kernel) fun t _ y => ?_).symm
    blk_simp; rw [after0_6]; frame_out
    pointwise [k0_pay1, k0_pay2, k0_pay3, k0_pay4, k0_pay5, k0_pay6, k0_pay7]; blk_point [iblk, V, at_k t]

end Cert.AdamPleGateClaims

namespace Cert.AdamPleProjClaims

/-! The weights of the layer embedding. -/

open Idealize.ShloMosaic Idealize.ShloMosaic.TcCoe Idealize.SL.Sem
open Cert.AdamPleProjIdeal Cert.AdamPleProjIdeal.Gen

/-- All seven windows hold the same block at a grid point. -/
theorem at_k : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

/-- The kernel runs, keeps its arguments and leaves every counter at zero. -/
theorem frame_kernel : Cert.quiescent_AdamPleProj := fun m ρ _ => Cert.AdamPleProj.Gen.frame m ρ

/-- So does the ideal kernel. -/
theorem frame_ideal : Cert.quiescent_AdamPleProjIdeal := fun m ρ _ => frame m ρ

/-- And the reference, which has no counter. -/
theorem frame_reference : Cert.quiescent_AdamPleProjRefIdeal := fun m ρ _ =>
  (θ_run Cert.AdamPleProjRefIdeal.defs _ _).mono (fun r h => ⟨fun c => (h c).2.2.2, sem_eq_zero_of_no_sems (by decide) r.2⟩)
    (Cert.AdamPleProjRefIdeal.Value.run (F := Ideal) m ρ)

set_option maxHeartbeats 1600000 in
/-- Kernel and reference agree over the extended reals in all three results: each block is the same expression of the same places. -/
theorem algebraic : Cert.algebraic_AdamPleProjIdeal_AdamPleProjRefIdeal := by
  intro m ρ m' ρ' _ hag
  refine ⟨_, _, _, Value.run_blocks (F := Ideal) m ρ, (θ_run Cert.AdamPleProjRefIdeal.defs _ _).mono
    (fun _ h c => ⟨(h c).1.trans ?_, (h c).2.1.trans ?_, (h c).2.2.1.trans ?_, (h c).2.2.2⟩)
    (Cert.AdamPleProjRefIdeal.Value.run (F := Ideal) m' ρ')⟩
  · rw [(hag c).1, (hag c).2.1, (hag c).2.2.1, (hag c).2.2.2]
    refine ((dats m 0 c).arrAt_eq_of_covers 4 _ (by decide +kernel) fun t _ y => ?_).symm
    blk_simp; rw [after0_4]; frame_out
    pointwise [k0_pay1, k0_pay2, k0_pay3, k0_pay4, k0_pay5, k0_pay6, k0_pay7]; blk_point [iblk, V, at_k t]
  · rw [(hag c).2.1, (hag c).2.2.1]
    refine ((dats m 0 c).arrAt_eq_of_covers 5 _ (by decide +kernel) fun t _ y => ?_).symm
    blk_simp; rw [after0_5]; frame_out
    pointwise [k0_pay1, k0_pay2, k0_pay3, k0_pay4, k0_pay5, k0_pay6, k0_pay7]; blk_point [iblk, V, at_k t]
  · rw [(hag c).2.1, (hag c).2.2.2]
    refine ((dats m 0 c).arrAt_eq_of_covers 6 _ (by decide +kernel) fun t _ y => ?_).symm
    blk_simp; rw [after0_6]; frame_out
    pointwise [k0_pay1, k0_pay2, k0_pay3, k0_pay4, k0_pay5, k0_pay6, k0_pay7]; blk_point [iblk, V, at_k t]

end Cert.AdamPleProjClaims

end
-- ==== Proof.AdamSmallClaims.lean ====
module

public import proofs.«01_k».proof.Defs
public import proofs.«01_k».proof.Proof.Gen.AdamSmall.Frame
public import proofs.«01_k».proof.Proof.Gen.AdamSmallIdeal.Value
public import proofs.«01_k».proof.Proof.Gen.AdamSmallRefIdeal.Run
public import Idealize.ShloMosaic.Lib.Pipeline.ValueKit
public import Idealize.ShloMosaic.Adequacy
public import Idealize.ShloMosaic.Init

@[expose] public section

set_option maxRecDepth 16384

noncomputable section

namespace Cert.AdamSmallClaims

/-! The small weights, packed into one array, which one block holds. -/

open Idealize.ShloMosaic Idealize.ShloMosaic.TcCoe Idealize.SL.Sem
open Cert.AdamSmallIdeal Cert.AdamSmallIdeal.Gen

/-- The kernel runs, keeps its arguments and leaves every counter at zero. -/
theorem frame_kernel : Cert.quiescent_AdamSmall := fun m ρ _ => Cert.AdamSmall.Gen.frame m ρ

/-- So does the ideal kernel. -/
theorem frame_ideal : Cert.quiescent_AdamSmallIdeal := fun m ρ _ => frame m ρ

/-- And the reference, which has no counter. -/
theorem frame_reference : Cert.quiescent_AdamSmallRefIdeal := fun m ρ _ =>
  (θ_run Cert.AdamSmallRefIdeal.defs _ _).mono (fun r h => ⟨fun c => (h c).2.2.2, sem_eq_zero_of_no_sems (by decide) r.2⟩)
    (Cert.AdamSmallRefIdeal.Value.run (F := Ideal) m ρ)

/-- Kernel and reference agree over the extended reals in all three results: each is the same expression of the arguments. -/
theorem algebraic : Cert.algebraic_AdamSmallIdeal_AdamSmallRefIdeal := by
  intro m ρ m' ρ' _ hag
  refine ⟨_, _, _, Value.run (F := Ideal) m ρ, (θ_run Cert.AdamSmallRefIdeal.defs _ _).mono
    (fun _ h c => ⟨(h c).1.trans ?_, (h c).2.1.trans ?_, (h c).2.2.1.trans ?_, (h c).2.2.2⟩)
    (Cert.AdamSmallRefIdeal.Value.run (F := Ideal) m' ρ')⟩
  · rw [(hag c).1, (hag c).2.1, (hag c).2.2.1, (hag c).2.2.2]; funext i; pointwise [Value.G4, Value.G5, Value.G6, k0_pay1, k0_pay2, k0_pay3, k0_pay4, k0_pay5, k0_pay6, k0_pay7]
  · rw [(hag c).2.1, (hag c).2.2.1]; funext i; pointwise [Value.G4, Value.G5, Value.G6, k0_pay1, k0_pay2, k0_pay3, k0_pay4, k0_pay5, k0_pay6, k0_pay7]
  · rw [(hag c).2.1, (hag c).2.2.2]; funext i; pointwise [Value.G4, Value.G5, Value.G6, k0_pay1, k0_pay2, k0_pay3, k0_pay4, k0_pay5, k0_pay6, k0_pay7]

end Cert.AdamSmallClaims

end
-- ==== Proof.RmsBwdClaims.lean ====
module

public import proofs.«01_k».proof.Defs
public import proofs.«01_k».proof.Proof.Gen.RmsBwd.Frame
public import proofs.«01_k».proof.Proof.Gen.RmsBwdIdeal.Value
public import proofs.«01_k».proof.Proof.Gen.RmsBwdRefIdeal.Run
public import proofs.«01_k».proof.Proof.Gen.RmsBwdRefIdeal.Read
public import Idealize.ShloMosaic.Lib.Pipeline.ReadBack
public import Idealize.ShloMosaic.Lib.Pipeline.ValueKit
public import Idealize.ShloMosaic.Adequacy
public import Idealize.ShloMosaic.Init

@[expose] public section

set_option maxRecDepth 16384

noncomputable section

/-! The gradient of the norm, and of the residual beside it. -/

namespace Cert.RmsBwdClaims

open Idealize.ShloMosaic Idealize.ShloMosaic.TcCoe Idealize.SL.Sem
open Cert.RmsBwdIdeal Cert.RmsBwdIdeal.Gen

/-- The block that each window holds at a grid point. -/
theorem at_k : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![0, 0] :=
  (by decide +kernel : ∀ t : Fin grid0.N, _)

/-- The block of the input's gradient at a grid point. -/
theorem stored (m : (ℓ : Loc nD τ sig) → Buf (Elt Ideal) ℓ) (c : Dev nD) (t : Fin cfg0.N) (i : S512x2048.Idx) :
    (outsAt0 m c t.val t.isLt).1 i = k0_pay6 (F := Ideal) (iblk m c 0 t) (iblk m c 1 t) (iblk m c 2 t) (iblk m c 3 t) i := by
  by_cases h : t.val % 4 = 0
  · rw [outsAt0_A m c t h]; dsimp only; frame_out
  · rw [outsAt0_B m c t h]; dsimp only; frame_out

/-- The last of four terms, brought to the front. -/
theorem front (p q r d : EReal) : p + q + r + d = d + p + q + r := by
  rw [add_comm (p + q + r) d, ← add_assoc, ← add_assoc]

/-- The gradient of what the norm takes, with the residual's gradient added. -/
theorem final4 (m : (ℓ : Loc nD τ sig) → Buf (Elt Ideal) ℓ) (c : Dev nD) : (dats m 0 c).arrAt 4 (cfgs 0).N
    = Cert.RmsBwdRefIdeal.Read.val_main_v38 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, stored]
  pointwise [k0_pay6, k0_pay4, k0_pay3, Cert.RmsBwdRefIdeal.Read.val_main_v38, Cert.RmsBwdRefIdeal.Read.val_main_v36, Cert.RmsBwdRefIdeal.Read.val_main_v29, Cert.RmsBwdRefIdeal.Read.val_main_v28, Cert.RmsBwdRefIdeal.Read.val_main_v22, Cert.RmsBwdRefIdeal.Read.val_main_v21, Cert.RmsBwdRefIdeal.Read.val_main_v15, Cert.RmsBwdRefIdeal.Read.val_main_v1, Cert.RmsBwdRefIdeal.Read.val_main_v0, Cert.RmsBwdRefIdeal.Read.val_main_v27, Cert.RmsBwdRefIdeal.Read.val_main_v9, Cert.RmsBwdRefIdeal.Read.val_main_v8, Cert.RmsBwdRefIdeal.Read.val_main_v6, Cert.RmsBwdRefIdeal.Read.val_main_v4, Cert.RmsBwdRefIdeal.Read.val_main_v3, Cert.RmsBwdRefIdeal.Read.val_main_v2, Cert.RmsBwdRefIdeal.Read.val_main_cst, Cert.RmsBwdRefIdeal.Read.val_main_v5, Cert.RmsBwdRefIdeal.Read.val_main_cst_0, Cert.RmsBwdRefIdeal.Read.val_main_v7, Cert.RmsBwdRefIdeal.Read.val_main_cst_1, Cert.RmsBwdRefIdeal.Read.val_main_v35, Cert.RmsBwdRefIdeal.Read.val_main_v34, Cert.RmsBwdRefIdeal.Read.val_main_v33, Cert.RmsBwdRefIdeal.Read.val_main_v32, Cert.RmsBwdRefIdeal.Read.val_main_v30, Cert.RmsBwdRefIdeal.Read.val_main_v26, Cert.RmsBwdRefIdeal.Read.val_main_v25, Cert.RmsBwdRefIdeal.Read.val_main_v24, Cert.RmsBwdRefIdeal.Read.val_main_cst_5, Cert.RmsBwdRefIdeal.Read.val_main_v12, Cert.RmsBwdRefIdeal.Read.val_main_v11, Cert.RmsBwdRefIdeal.Read.val_main_cst_2, Cert.RmsBwdRefIdeal.Read.val_main_v10, Cert.RmsBwdRefIdeal.Read.val_main_v31, Cert.RmsBwdRefIdeal.Read.val_main_cst_6, Cert.RmsBwdRefIdeal.Read.val_main_cst_7, Cert.RmsBwdRefIdeal.Read.val_main_v37]
  refine (front _ _ _ _).trans ?_
  blk_point [iblk, V, at_k t]

/-- The weights' gradient starts at zero. -/
theorem zero_at (i : S1x2048.Idx) : k0_pay1 (F := Ideal) i = 0 := by
  pointwise [k0_pay1]

/-- A step adds its own rows to the weights' gradient. -/
theorem add_at (v a : Vec Ideal S1x2048 .f32) (i : S1x2048.Idx) : k0_pay2 (F := Ideal) v a i = a i + v i := by
  pointwise [k0_pay2]

/-- At the end the block is the sum of the four blocks of rows. -/
theorem kept (m : (ℓ : Loc nD τ sig) → Buf (Elt Ideal) ℓ) (c : Dev nD) (t : Fin cfg0.N) (h : t.val % 4 = 4 - 1) (i : S1x2048.Idx) :
    (outsAt0 m c t.val t.isLt).2 i = ∑ s : Fin 4, k0_pay5 (F := Ideal)
      (iblk m c 0 ⟨4 * (t.val / 4) + s.val, Pipeline.run_point_lt_of_flush t h s⟩)
      (iblk m c 1 ⟨4 * (t.val / 4) + s.val, Pipeline.run_point_lt_of_flush t h s⟩) i := by
  refine (Pipeline.eq_sum_fin_of_reset_step_apply_of_flush (fun n h => (outsAt0 m c n h).2) 4 (fun _ => (0 : EReal))
    (fun t => k0_pay5 (F := Ideal) (iblk m c 0 t) (iblk m c 1 t))
    (fun t h j => ?_) (fun t h j => ?_) t h i).trans (zero_add _)
  · rw [outsAt0_A m c t h]; dsimp only; frame_out; rw [add_at, zero_at]
  · rw [outsAt0_B m c t h]; dsimp only; frame_out; rw [add_at]

/-- The gradient of the norm's weights. -/
theorem final5 (m : (ℓ : Loc nD τ sig) → Buf (Elt Ideal) ℓ) (c : Dev nD) : (dats m 0 c).arrAt 5 (cfgs 0).N
    = Cert.RmsBwdRefIdeal.Read.val_main_v39 (F := Ideal) (m ((c : Thread nD τ).loc main_arg0)) (m ((c : Thread nD τ).loc main_arg2)) := by
  refine (dats m 0 c).arrAt_eq_of_covers 5 _ (by decide +kernel) fun t hf y => ?_
  have h := (flush0_5 t).mp hf
  blk_simp
  rw [after0_5, kept m c t (by omega)]
  pointwise [k0_pay5, k0_pay4, k0_pay3, Cert.RmsBwdRefIdeal.Read.val_main_v39, Cert.RmsBwdRefIdeal.Read.val_main_v23, Cert.RmsBwdRefIdeal.Read.val_main_v20, Cert.RmsBwdRefIdeal.Read.val_main_v19, Cert.RmsBwdRefIdeal.Read.val_main_v18, Cert.RmsBwdRefIdeal.Read.val_main_v14, Cert.RmsBwdRefIdeal.Read.val_main_v13, Cert.RmsBwdRefIdeal.Read.val_main_v9, Cert.RmsBwdRefIdeal.Read.val_main_v8, Cert.RmsBwdRefIdeal.Read.val_main_v6, Cert.RmsBwdRefIdeal.Read.val_main_v4, Cert.RmsBwdRefIdeal.Read.val_main_v3, Cert.RmsBwdRefIdeal.Read.val_main_v2, Cert.RmsBwdRefIdeal.Read.val_main_cst, Cert.RmsBwdRefIdeal.Read.val_main_v5, Cert.RmsBwdRefIdeal.Read.val_main_cst_0, Cert.RmsBwdRefIdeal.Read.val_main_v7, Cert.RmsBwdRefIdeal.Read.val_main_cst_1, Cert.RmsBwdRefIdeal.Read.val_main_cst_3, Cert.RmsBwdRefIdeal.Read.val_main_cst_4]
  refine Eq.trans ?_ (Fin.sum_univ_one (M := EReal) _).symm
  refine Fin.sum_mul_add_congr fun s k hl => ?_
  blk_point [iblk, V, at_k t, at_k ⟨_, Pipeline.run_point_lt_of_flush t h s⟩]

/-- The kernel runs, keeps its arguments and leaves every counter at zero. -/
theorem frame_kernel : Cert.quiescent_RmsBwd := fun m ρ _ => Cert.RmsBwd.Gen.frame m ρ

/-- So does the ideal kernel. -/
theorem frame_ideal : Cert.quiescent_RmsBwdIdeal := fun m ρ _ => frame m ρ

/-- And the reference, which has no counter. -/
theorem frame_reference : Cert.quiescent_RmsBwdRefIdeal := fun m ρ _ =>
  (θ_run Cert.RmsBwdRefIdeal.defs _ _).mono (fun r h => ⟨fun c => (h c).2.2, sem_eq_zero_of_no_sems (by decide) r.2⟩)
    (Cert.RmsBwdRefIdeal.Value.run (F := Ideal) m ρ)

/-- Kernel and reference agree over the extended reals in both results. -/
theorem algebraic : Cert.algebraic_RmsBwdIdeal_RmsBwdRefIdeal := by
  intro m ρ m' ρ' _ hag
  refine ⟨_, _, Value.run_blocks (F := Ideal) m ρ, (θ_run Cert.RmsBwdRefIdeal.defs _ _).mono
    (fun _ h c => ⟨(h c).1.trans ?_, (h c).2.1.trans ?_, (h c).2.2⟩)
    (Cert.RmsBwdRefIdeal.Value.run (F := Ideal) m' ρ')⟩
  · unfold Cert.RmsBwdRefIdeal.Value.res_main_v38
    rw [(hag c).1, (hag c).2.1, (hag c).2.2.1, (hag c).2.2.2]; exact (final4 m c).symm
  · rw [(hag c).1, (hag c).2.2.1]; exact (final5 m c).symm

end Cert.RmsBwdClaims

end
-- ==== Proof.RowClaims.lean ====
module

public import proofs.«01_k».proof.Defs
public import proofs.«01_k».proof.Proof.Gen.RmsFwd.Frame
public import proofs.«01_k».proof.Proof.Gen.RmsFwdIdeal.Value
public import proofs.«01_k».proof.Proof.Gen.RmsFwdRefIdeal.Run
public import proofs.«01_k».proof.Proof.Gen.RmsFwdRefIdeal.Read
public import proofs.«01_k».proof.Proof.Gen.PleFwd.Frame
public import proofs.«01_k».proof.Proof.Gen.PleFwdIdeal.Value
public import proofs.«01_k».proof.Proof.Gen.PleFwdRefIdeal.Run
public import proofs.«01_k».proof.Proof.Gen.PleFwdRefIdeal.Read
public import Idealize.ShloMosaic.Lib.Pipeline.ValueKit
public import Idealize.ShloMosaic.Adequacy
public import Idealize.ShloMosaic.Init

@[expose] public section

set_option maxRecDepth 16384

noncomputable section

/-! The forward calls that go row by row: the norm, and the layer embedding behind its gate. -/

namespace Cert.RmsFwdClaims

open Idealize.ShloMosaic Idealize.ShloMosaic.TcCoe Idealize.SL.Sem
open Cert.RmsFwdIdeal Cert.RmsFwdIdeal.Gen

/-- The block that each window holds at a grid point. -/
theorem at_k : ∀ t : Fin cfg0.N, win0_0.index t = ![t.val, 0] ∧ win0_1.index t = ![0, 0] ∧ win0_2.index t = ![t.val, 0] :=
  (by decide +kernel : ∀ t : Fin grid0.N, _)

/-- The rows, each divided by its root mean square and weighted. -/
theorem final (m : (ℓ : Loc nD τ sig) → Buf (Elt Ideal) ℓ) (c : Dev nD) : (dats m 0 c).arrAt 2 (cfgs 0).N
    = Cert.RmsFwdRefIdeal.Read.val_main_v15 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, Cert.RmsFwdRefIdeal.Read.val_main_v0, Cert.RmsFwdRefIdeal.Read.val_main_v1, Cert.RmsFwdRefIdeal.Read.val_main_v2, Cert.RmsFwdRefIdeal.Read.val_main_cst, Cert.RmsFwdRefIdeal.Read.val_main_v3, Cert.RmsFwdRefIdeal.Read.val_main_v4, Cert.RmsFwdRefIdeal.Read.val_main_cst_0, Cert.RmsFwdRefIdeal.Read.val_main_v5, Cert.RmsFwdRefIdeal.Read.val_main_v6, Cert.RmsFwdRefIdeal.Read.val_main_cst_1, Cert.RmsFwdRefIdeal.Read.val_main_v7, Cert.RmsFwdRefIdeal.Read.val_main_v8, Cert.RmsFwdRefIdeal.Read.val_main_v9, Cert.RmsFwdRefIdeal.Read.val_main_v10, Cert.RmsFwdRefIdeal.Read.val_main_v11, Cert.RmsFwdRefIdeal.Read.val_main_v12, Cert.RmsFwdRefIdeal.Read.val_main_v13, Cert.RmsFwdRefIdeal.Read.val_main_v14, Cert.RmsFwdRefIdeal.Read.val_main_v15]
  blk_point [iblk, V, at_k t]

/-- The kernel runs, keeps its arguments and leaves every counter at zero. -/
theorem frame_kernel : Cert.quiescent_RmsFwd := fun m ρ _ => Cert.RmsFwd.Gen.frame m ρ

/-- So does the ideal kernel. -/
theorem frame_ideal : Cert.quiescent_RmsFwdIdeal := fun m ρ _ => frame m ρ

/-- And the reference, which has no counter. -/
theorem frame_reference : Cert.quiescent_RmsFwdRefIdeal := fun m ρ _ =>
  (θ_run Cert.RmsFwdRefIdeal.defs _ _).mono (fun r h => ⟨fun c => (h c).2, sem_eq_zero_of_no_sems (by decide) r.2⟩)
    (Cert.RmsFwdRefIdeal.Value.run (F := Ideal) m ρ)

/-- Kernel and reference agree over the extended reals. -/
theorem algebraic : Cert.algebraic_RmsFwdIdeal_RmsFwdRefIdeal := by
  intro m ρ m' ρ' _ hag
  refine ⟨_, Value.run_blocks (F := Ideal) m ρ, (θ_run Cert.RmsFwdRefIdeal.defs _ _).mono (fun _ h c => ⟨(h c).1.trans ?_, (h c).2⟩)
    (Cert.RmsFwdRefIdeal.Value.run (F := Ideal) m' ρ')⟩
  rw [(hag c).1, (hag c).2]; exact (final m c).symm

end Cert.RmsFwdClaims

namespace Cert.PleFwdClaims

open Idealize.ShloMosaic Idealize.ShloMosaic.TcCoe Idealize.SL.Sem
open Cert.PleFwdIdeal Cert.PleFwdIdeal.Gen

/-- The block that each window holds at a grid point. -/
theorem at_k : ∀ t : Fin cfg0.N, win0_0.index t = ![t.val, 0] ∧ win0_1.index t = ![t.val, 0] ∧ win0_2.index t = ![t.val, 0] ∧ win0_3.index t = ![t.val, 0] :=
  (by decide +kernel : ∀ t : Fin grid0.N, _)

/-- The embedding times its gate, added to the rows. -/
theorem final (m : (ℓ : Loc nD τ sig) → Buf (Elt Ideal) ℓ) (c : Dev nD) : (dats m 0 c).arrAt 3 (cfgs 0).N
    = Cert.PleFwdRefIdeal.Read.val_main_v7 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay1, Cert.PleFwdRefIdeal.Read.val_main_v0, Cert.PleFwdRefIdeal.Read.val_main_v1, Cert.PleFwdRefIdeal.Read.val_main_cst, Cert.PleFwdRefIdeal.Read.val_main_v2, Cert.PleFwdRefIdeal.Read.val_main_v3, Cert.PleFwdRefIdeal.Read.val_main_cst_0, Cert.PleFwdRefIdeal.Read.val_main_v4, Cert.PleFwdRefIdeal.Read.val_main_v5, Cert.PleFwdRefIdeal.Read.val_main_v6, Cert.PleFwdRefIdeal.Read.val_main_v7]
  rw [zero_sub]
  blk_point [iblk, V, at_k t]

/-- The kernel runs, keeps its arguments and leaves every counter at zero. -/
theorem frame_kernel : Cert.quiescent_PleFwd := fun m ρ _ => Cert.PleFwd.Gen.frame m ρ

/-- So does the ideal kernel. -/
theorem frame_ideal : Cert.quiescent_PleFwdIdeal := fun m ρ _ => frame m ρ

/-- And the reference, which has no counter. -/
theorem frame_reference : Cert.quiescent_PleFwdRefIdeal := fun m ρ _ =>
  (θ_run Cert.PleFwdRefIdeal.defs _ _).mono (fun r h => ⟨fun c => (h c).2, sem_eq_zero_of_no_sems (by decide) r.2⟩)
    (Cert.PleFwdRefIdeal.Value.run (F := Ideal) m ρ)

/-- Kernel and reference agree over the extended reals. -/
theorem algebraic : Cert.algebraic_PleFwdIdeal_PleFwdRefIdeal := by
  intro m ρ m' ρ' _ hag
  refine ⟨_, Value.run_blocks (F := Ideal) m ρ, (θ_run Cert.PleFwdRefIdeal.defs _ _).mono (fun _ h c => ⟨(h c).1.trans ?_, (h c).2⟩)
    (Cert.PleFwdRefIdeal.Value.run (F := Ideal) m' ρ')⟩
  rw [(hag c).1, (hag c).2.1, (hag c).2.2]; exact (final m c).symm

end Cert.PleFwdClaims

end
-- ==== Proof.QkFwdClaims.lean ====
module

public import proofs.«01_k».proof.Defs
public import proofs.«01_k».proof.Proof.Gen.QkFwd.Frame
public import proofs.«01_k».proof.Proof.Gen.QkFwdIdeal.Value
public import proofs.«01_k».proof.Proof.Gen.QkFwdRefIdeal.Run
public import proofs.«01_k».proof.Proof.Gen.QkFwdRefIdeal.Read
public import Idealize.ShloMosaic.Lib.Pipeline.ValueKit
public import Idealize.ShloMosaic.Adequacy
public import Idealize.ShloMosaic.Init

@[expose] public section

set_option maxRecDepth 16384

noncomputable section
namespace Cert.QkFwdClaims

open Idealize.ShloMosaic Idealize.ShloMosaic.TcCoe Idealize.SL.Sem
open Cert.QkFwdIdeal Cert.QkFwdIdeal.Gen

/-- The block that each window holds at a grid point. -/
theorem at_k : ∀ t : Fin cfg0.N, win0_0.index t = ![t.val / 4, t.val % 4] ∧ win0_1.index t = ![t.val / 4, 4 + t.val % 4] ∧ win0_2.index t = ![t.val / 4, 8 + t.val % 4] ∧ win0_3.index t = ![0, 0] ∧ win0_4.index t = ![0, 0] ∧ win0_5.index t = ![t.val / 4, t.val % 4] ∧ win0_6.index t = ![t.val / 4, t.val % 4] ∧ win0_7.index t = ![t.val / 4, t.val % 4] :=
  (by decide +kernel : ∀ t : Fin grid0.N, _)

/-- A number divided by a root mean square and weighted depends on the number, the summands and the weight. -/
theorem scaled {a a' b b' d e : EReal} {f f' : Fin 128 → EReal} (ha : a = a') (hf : ∀ k, f k = f' k) (hb : b = b') :
    a * Ideal.rsqrt (Ideal.div (∑ k, f k * f k) d + e) * b = a' * Ideal.rsqrt (Ideal.div (∑ k, f' k * f' k) d + e) * b' := by
  rw [ha, hb, funext hf]

set_option maxHeartbeats 1600000 in
/-- The queries, each head of each row divided by its root mean square and weighted. -/
theorem final5 (m : (ℓ : Loc nD τ sig) → Buf (Elt Ideal) ℓ) (c : Dev nD) : (dats m 0 c).arrAt 5 (cfgs 0).N
    = Cert.QkFwdRefIdeal.Read.val_main_v37 (F := Ideal) (m ((c : Thread nD τ).loc main_arg0)) (m ((c : Thread nD τ).loc main_arg1)) := by
  refine (dats m 0 c).arrAt_eq_of_covers 5 _ (by decide +kernel) fun t _ y => ?_
  blk_simp
  rw [after0_5]; frame_out
  refine View.canon_eq_of_allAt _ y _ (cover0_5 _ _ _ _ y) ?_
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))
  all_goals
    have h0 := hx 0
    have h1 := hx 1
    simp only [Matrix.cons_val_zero, Matrix.cons_val_one, Nat.zero_add] at h0 h1
    pointwise [k0_pay1, k0_pay4, k0_pay6, k0_pay8, k0_pay9, k0_pay10, k0_pay12, k0_pay13, k0_pay14, Cert.QkFwdRefIdeal.Read.val_main_v37, Cert.QkFwdRefIdeal.Read.val_main_v21, Cert.QkFwdRefIdeal.Read.val_main_v20, Cert.QkFwdRefIdeal.Read.val_main_v17, Cert.QkFwdRefIdeal.Read.val_main_v7, Cert.QkFwdRefIdeal.Read.val_main_v0, Cert.QkFwdRefIdeal.Read.val_main_v16, Cert.QkFwdRefIdeal.Read.val_main_v15, Cert.QkFwdRefIdeal.Read.val_main_v14, Cert.QkFwdRefIdeal.Read.val_main_v12, Cert.QkFwdRefIdeal.Read.val_main_v10, Cert.QkFwdRefIdeal.Read.val_main_v9, Cert.QkFwdRefIdeal.Read.val_main_v8, Cert.QkFwdRefIdeal.Read.val_main_cst, Cert.QkFwdRefIdeal.Read.val_main_v11, Cert.QkFwdRefIdeal.Read.val_main_cst_0, Cert.QkFwdRefIdeal.Read.val_main_v13, Cert.QkFwdRefIdeal.Read.val_main_cst_1, Cert.QkFwdRefIdeal.Read.val_main_v19, Cert.QkFwdRefIdeal.Read.val_main_v18, Cert.QkFwdRefIdeal.Read.val_main_v4, Cert.QkFwdRefIdeal.Read.val_main_v3]
    refine scaled (by blk_point [iblk, V, at_k t]) (fun k => ?_) (by blk_point [iblk, V, at_k t])
    blk_point [iblk, V, at_k t]

set_option maxHeartbeats 1600000 in
/-- The keys, likewise. -/
theorem final6 (m : (ℓ : Loc nD τ sig) → Buf (Elt Ideal) ℓ) (c : Dev nD) : (dats m 0 c).arrAt 6 (cfgs 0).N
    = Cert.QkFwdRefIdeal.Read.val_main_v38 (F := Ideal) (m ((c : Thread nD τ).loc main_arg0)) (m ((c : Thread nD τ).loc main_arg2)) := by
  refine (dats m 0 c).arrAt_eq_of_covers 6 _ (by decide +kernel) fun t _ y => ?_
  blk_simp
  rw [after0_6]; frame_out
  refine View.canon_eq_of_allAt _ y _ (cover0_6 _ _ _ _ y) ?_
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))
  all_goals
    have h0 := hx 0
    have h1 := hx 1
    simp only [Matrix.cons_val_zero, Matrix.cons_val_one, Nat.zero_add] at h0 h1
    pointwise [k0_pay2, k0_pay5, k0_pay7, k0_pay11, Cert.QkFwdRefIdeal.Read.val_main_v38, Cert.QkFwdRefIdeal.Read.val_main_v36, Cert.QkFwdRefIdeal.Read.val_main_v35, Cert.QkFwdRefIdeal.Read.val_main_v32, Cert.QkFwdRefIdeal.Read.val_main_v22, Cert.QkFwdRefIdeal.Read.val_main_v1, Cert.QkFwdRefIdeal.Read.val_main_v31, Cert.QkFwdRefIdeal.Read.val_main_v30, Cert.QkFwdRefIdeal.Read.val_main_v29, Cert.QkFwdRefIdeal.Read.val_main_v27, Cert.QkFwdRefIdeal.Read.val_main_v25, Cert.QkFwdRefIdeal.Read.val_main_v24, Cert.QkFwdRefIdeal.Read.val_main_v23, Cert.QkFwdRefIdeal.Read.val_main_cst_2, Cert.QkFwdRefIdeal.Read.val_main_v26, Cert.QkFwdRefIdeal.Read.val_main_cst_3, Cert.QkFwdRefIdeal.Read.val_main_v28, Cert.QkFwdRefIdeal.Read.val_main_cst_4, Cert.QkFwdRefIdeal.Read.val_main_v34, Cert.QkFwdRefIdeal.Read.val_main_v33, Cert.QkFwdRefIdeal.Read.val_main_v6, Cert.QkFwdRefIdeal.Read.val_main_v5]
    refine scaled (by blk_point [iblk, V, at_k t]) (fun k => ?_) (by blk_point [iblk, V, at_k t])
    blk_point [iblk, V, at_k t]

/-- The values, unchanged. -/
theorem final7 (m : (ℓ : Loc nD τ sig) → Buf (Elt Ideal) ℓ) (c : Dev nD) : (dats m 0 c).arrAt 7 (cfgs 0).N
    = Cert.QkFwdRefIdeal.Read.val_main_v39 (F := Ideal) (m ((c : Thread nD τ).loc main_arg0)) := by
  refine (dats m 0 c).arrAt_eq_of_covers 7 _ (by decide +kernel) fun t _ y => ?_
  blk_simp
  rw [after0_7]; frame_out
  pointwise [k0_pay3, Cert.QkFwdRefIdeal.Read.val_main_v39, Cert.QkFwdRefIdeal.Read.val_main_v2]
  blk_point [iblk, V, at_k t]

/-- The kernel runs, keeps its arguments and leaves every counter at zero. -/
theorem frame_kernel : Cert.quiescent_QkFwd := fun m ρ _ => Cert.QkFwd.Gen.frame m ρ

/-- So does the ideal kernel. -/
theorem frame_ideal : Cert.quiescent_QkFwdIdeal := fun m ρ _ => frame m ρ

/-- And the reference, which has no counter. -/
theorem frame_reference : Cert.quiescent_QkFwdRefIdeal := fun m ρ _ =>
  (θ_run Cert.QkFwdRefIdeal.defs _ _).mono (fun r h => ⟨fun c => (h c).2.2.2, sem_eq_zero_of_no_sems (by decide) r.2⟩)
    (Cert.QkFwdRefIdeal.Value.run (F := Ideal) m ρ)

/-- Kernel and reference agree over the extended reals in all three results. -/
theorem algebraic : Cert.algebraic_QkFwdIdeal_QkFwdRefIdeal := by
  intro m ρ m' ρ' _ hag
  refine ⟨_, _, _, Value.run_blocks (F := Ideal) m ρ, (θ_run Cert.QkFwdRefIdeal.defs _ _).mono
    (fun _ h c => ⟨(h c).1.trans ?_, (h c).2.1.trans ?_, (h c).2.2.1.trans ?_, (h c).2.2.2⟩)
    (Cert.QkFwdRefIdeal.Value.run (F := Ideal) m' ρ')⟩
  · rw [(hag c).1, (hag c).2.1]; exact (final5 m c).symm
  · rw [(hag c).1, (hag c).2.2]; exact (final6 m c).symm
  · rw [(hag c).1]; exact (final7 m c).symm

end Cert.QkFwdClaims

end
-- ==== Proof.lean ====
module

public import proofs.«01_k».proof.Defs
public import proofs.«01_k».proof.Proof.SbEnd
public import proofs.«01_k».proof.Proof.PleClaims
public import proofs.«01_k».proof.Proof.DSsdInClaims
public import proofs.«01_k».proof.Proof.WeightGrads
public import proofs.«01_k».proof.Proof.InputGrads
public import proofs.«01_k».proof.Proof.ForwardProducts
public import proofs.«01_k».proof.Proof.LongProducts
public import proofs.«01_k».proof.Proof.SsdInClaims
public import proofs.«01_k».proof.Proof.SsdInBwdClaims
public import proofs.«01_k».proof.Proof.AdamClaims
public import proofs.«01_k».proof.Proof.AdamSmallClaims
public import proofs.«01_k».proof.Proof.RmsBwdClaims
public import proofs.«01_k».proof.Proof.RowClaims
public import proofs.«01_k».proof.Proof.QkFwdClaims

@[expose] public section

noncomputable section

namespace Cert.Proof

/-- The certificate: the facts of the programs, the frames of each call, then its two agreements, in the order of the claims. -/
theorem claim : Cert.Claim := ⟨
  Cert.SbKernel.Gen.facts, Cert.SbKernelIdeal.Gen.facts, Cert.SbReferenceIdeal.Gen.facts, Cert.PleKernel.Gen.facts,
  Cert.PleKernelIdeal.Gen.facts, Cert.PleReferenceIdeal.Gen.facts, Cert.DSsdIn.Gen.facts, Cert.DSsdInIdeal.Gen.facts,
  Cert.DSsdInRefIdeal.Gen.facts, Cert.SsdInBwd.Gen.facts, Cert.SsdInBwdIdeal.Gen.facts, Cert.SsdInBwdRefIdeal.Gen.facts,
  Cert.DSbIn.Gen.facts, Cert.DSbInIdeal.Gen.facts, Cert.DSbInRefIdeal.Gen.facts, Cert.SbInBwd.Gen.facts,
  Cert.SbInBwdIdeal.Gen.facts, Cert.SbInBwdRefIdeal.Gen.facts, Cert.SsdIn.Gen.facts, Cert.SsdInIdeal.Gen.facts,
  Cert.SsdInRefIdeal.Gen.facts, Cert.SbIn.Gen.facts, Cert.SbInIdeal.Gen.facts, Cert.SbInRefIdeal.Gen.facts,
  Cert.DSsdOut.Gen.facts, Cert.DSsdOutIdeal.Gen.facts, Cert.DSsdOutRefIdeal.Gen.facts, Cert.SsdOutBwd.Gen.facts,
  Cert.SsdOutBwdIdeal.Gen.facts, Cert.SsdOutBwdRefIdeal.Gen.facts, Cert.DPleGate.Gen.facts, Cert.DPleGateIdeal.Gen.facts,
  Cert.DPleGateRefIdeal.Gen.facts, Cert.PleGateBwd.Gen.facts, Cert.PleGateBwdIdeal.Gen.facts, Cert.PleGateBwdRefIdeal.Gen.facts,
  Cert.DSbOut.Gen.facts, Cert.DSbOutIdeal.Gen.facts, Cert.DSbOutRefIdeal.Gen.facts, Cert.SbOutBwd.Gen.facts,
  Cert.SbOutBwdIdeal.Gen.facts, Cert.SbOutBwdRefIdeal.Gen.facts, Cert.DPleProj.Gen.facts, Cert.DPleProjIdeal.Gen.facts,
  Cert.DPleProjRefIdeal.Gen.facts, Cert.SsdOut.Gen.facts, Cert.SsdOutIdeal.Gen.facts, Cert.SsdOutRefIdeal.Gen.facts,
  Cert.SbOut.Gen.facts, Cert.SbOutIdeal.Gen.facts, Cert.SbOutRefIdeal.Gen.facts, Cert.PleGate.Gen.facts,
  Cert.PleGateIdeal.Gen.facts, Cert.PleGateRefIdeal.Gen.facts, Cert.PleProj.Gen.facts, Cert.PleProjIdeal.Gen.facts,
  Cert.PleProjRefIdeal.Gen.facts, Cert.AdamSsdIn.Gen.facts, Cert.AdamSsdInIdeal.Gen.facts, Cert.AdamSsdInRefIdeal.Gen.facts,
  Cert.AdamSsdOut.Gen.facts, Cert.AdamSsdOutIdeal.Gen.facts, Cert.AdamSsdOutRefIdeal.Gen.facts, Cert.AdamSbIn.Gen.facts,
  Cert.AdamSbInIdeal.Gen.facts, Cert.AdamSbInRefIdeal.Gen.facts, Cert.AdamSbOut.Gen.facts, Cert.AdamSbOutIdeal.Gen.facts,
  Cert.AdamSbOutRefIdeal.Gen.facts, Cert.AdamPleGate.Gen.facts, Cert.AdamPleGateIdeal.Gen.facts,
  Cert.AdamPleGateRefIdeal.Gen.facts, Cert.AdamPleProj.Gen.facts, Cert.AdamPleProjIdeal.Gen.facts,
  Cert.AdamPleProjRefIdeal.Gen.facts, Cert.AdamSmall.Gen.facts, Cert.AdamSmallIdeal.Gen.facts, Cert.AdamSmallRefIdeal.Gen.facts,
  Cert.RmsBwd.Gen.facts, Cert.RmsBwdIdeal.Gen.facts, Cert.RmsBwdRefIdeal.Gen.facts, Cert.RmsFwd.Gen.facts,
  Cert.RmsFwdIdeal.Gen.facts, Cert.RmsFwdRefIdeal.Gen.facts, Cert.PleFwd.Gen.facts, Cert.PleFwdIdeal.Gen.facts,
  Cert.PleFwdRefIdeal.Gen.facts, Cert.QkFwd.Gen.facts, Cert.QkFwdIdeal.Gen.facts, Cert.QkFwdRefIdeal.Gen.facts,
  Cert.SbClaims.preFacts, Cert.SbClaims.frame_kernel, Cert.SbClaims.frame_ideal, Cert.SbClaims.frame_ideal_pre,
  Cert.SbClaims.frame_reference, Cert.SbClaims.frame_reference_pre, Cert.PleClaims.frame_kernel, Cert.PleClaims.frame_ideal,
  Cert.PleClaims.frame_reference, Cert.DSsdInClaims.frame_kernel, Cert.DSsdInClaims.frame_ideal,
  Cert.DSsdInClaims.frame_reference, Cert.SsdInBwdClaims.frame_kernel, Cert.SsdInBwdClaims.frame_ideal,
  Cert.SsdInBwdClaims.frame_reference, Cert.DSbInClaims.frame_kernel, Cert.DSbInClaims.frame_ideal,
  Cert.DSbInClaims.frame_reference, Cert.SbInBwdClaims.frame_kernel, Cert.SbInBwdClaims.frame_ideal,
  Cert.SbInBwdClaims.frame_reference, Cert.SsdInClaims.frame_kernel, Cert.SsdInClaims.frame_ideal,
  Cert.SsdInClaims.frame_reference, Cert.SbInClaims.frame_kernel, Cert.SbInClaims.frame_ideal, Cert.SbInClaims.frame_reference,
  Cert.DSsdOutClaims.frame_kernel, Cert.DSsdOutClaims.frame_ideal, Cert.DSsdOutClaims.frame_reference,
  Cert.SsdOutBwdClaims.frame_kernel, Cert.SsdOutBwdClaims.frame_ideal, Cert.SsdOutBwdClaims.frame_reference,
  Cert.DPleGateClaims.frame_kernel, Cert.DPleGateClaims.frame_ideal, Cert.DPleGateClaims.frame_reference,
  Cert.PleGateBwdClaims.frame_kernel, Cert.PleGateBwdClaims.frame_ideal, Cert.PleGateBwdClaims.frame_reference,
  Cert.DSbOutClaims.frame_kernel, Cert.DSbOutClaims.frame_ideal, Cert.DSbOutClaims.frame_reference,
  Cert.SbOutBwdClaims.frame_kernel, Cert.SbOutBwdClaims.frame_ideal, Cert.SbOutBwdClaims.frame_reference,
  Cert.DPleProjClaims.frame_kernel, Cert.DPleProjClaims.frame_ideal, Cert.DPleProjClaims.frame_reference,
  Cert.SsdOutClaims.frame_kernel, Cert.SsdOutClaims.frame_ideal, Cert.SsdOutClaims.frame_reference,
  Cert.SbOutClaims.frame_kernel, Cert.SbOutClaims.frame_ideal, Cert.SbOutClaims.frame_reference,
  Cert.PleGateClaims.frame_kernel, Cert.PleGateClaims.frame_ideal, Cert.PleGateClaims.frame_reference,
  Cert.PleProjClaims.frame_kernel, Cert.PleProjClaims.frame_ideal, Cert.PleProjClaims.frame_reference,
  Cert.AdamSsdInClaims.frame_kernel, Cert.AdamSsdInClaims.frame_ideal, Cert.AdamSsdInClaims.frame_reference,
  Cert.AdamSsdOutClaims.frame_kernel, Cert.AdamSsdOutClaims.frame_ideal, Cert.AdamSsdOutClaims.frame_reference,
  Cert.AdamSbInClaims.frame_kernel, Cert.AdamSbInClaims.frame_ideal, Cert.AdamSbInClaims.frame_reference,
  Cert.AdamSbOutClaims.frame_kernel, Cert.AdamSbOutClaims.frame_ideal, Cert.AdamSbOutClaims.frame_reference,
  Cert.AdamPleGateClaims.frame_kernel, Cert.AdamPleGateClaims.frame_ideal, Cert.AdamPleGateClaims.frame_reference,
  Cert.AdamPleProjClaims.frame_kernel, Cert.AdamPleProjClaims.frame_ideal, Cert.AdamPleProjClaims.frame_reference,
  Cert.AdamSmallClaims.frame_kernel, Cert.AdamSmallClaims.frame_ideal, Cert.AdamSmallClaims.frame_reference,
  Cert.RmsBwdClaims.frame_kernel, Cert.RmsBwdClaims.frame_ideal, Cert.RmsBwdClaims.frame_reference,
  Cert.RmsFwdClaims.frame_kernel, Cert.RmsFwdClaims.frame_ideal, Cert.RmsFwdClaims.frame_reference,
  Cert.PleFwdClaims.frame_kernel, Cert.PleFwdClaims.frame_ideal, Cert.PleFwdClaims.frame_reference,
  Cert.QkFwdClaims.frame_kernel, Cert.QkFwdClaims.frame_ideal, Cert.QkFwdClaims.frame_reference, trivial,
  Cert.SbClaims.algebraic, trivial, Cert.PleClaims.algebraic, trivial, Cert.DSsdInClaims.algebraic, trivial,
  Cert.SsdInBwdClaims.algebraic, trivial, Cert.DSbInClaims.algebraic, trivial, Cert.SbInBwdClaims.algebraic, trivial,
  Cert.SsdInClaims.algebraic, trivial, Cert.SbInClaims.algebraic, trivial, Cert.DSsdOutClaims.algebraic, trivial,
  Cert.SsdOutBwdClaims.algebraic, trivial, Cert.DPleGateClaims.algebraic, trivial, Cert.PleGateBwdClaims.algebraic, trivial,
  Cert.DSbOutClaims.algebraic, trivial, Cert.SbOutBwdClaims.algebraic, trivial, Cert.DPleProjClaims.algebraic, trivial,
  Cert.SsdOutClaims.algebraic, trivial, Cert.SbOutClaims.algebraic, trivial, Cert.PleGateClaims.algebraic, trivial,
  Cert.PleProjClaims.algebraic, trivial, Cert.AdamSsdInClaims.algebraic, trivial, Cert.AdamSsdOutClaims.algebraic, trivial,
  Cert.AdamSbInClaims.algebraic, trivial, Cert.AdamSbOutClaims.algebraic, trivial, Cert.AdamPleGateClaims.algebraic, trivial,
  Cert.AdamPleProjClaims.algebraic, trivial, Cert.AdamSmallClaims.algebraic, trivial, Cert.RmsBwdClaims.algebraic, trivial,
  Cert.RmsFwdClaims.algebraic, trivial, Cert.PleFwdClaims.algebraic, trivial, Cert.QkFwdClaims.algebraic⟩

end Cert.Proof

end
